-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_RefIdeal (m : (ℓ : Loc Cert.RefIdeal.nD Cert.RefIdeal.τ Cert.RefIdeal.sig) → Buf (Elt Ideal) ℓ) : Prop :=
  True

def Pre_RefIdeal_finite [hPre_finite : Cert.Pre_finite.Facts] (m : (ℓ : Loc Cert.RefIdeal.nD Cert.RefIdeal.τ Cert.RefIdeal.sig) → Buf (Elt Ideal) ℓ) : Prop :=
  ∀ c : Dev Cert.RefIdeal.nD,
    (Cert.Pre_finite.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3))).1 = (fun _ => 1#1)
    ∧ (Cert.Pre_finite.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3))).2.1 = (fun _ => 1#1)
    ∧ (Cert.Pre_finite.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3))).2.2.1 = (fun _ => 1#1)
    ∧ (Cert.Pre_finite.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3))).2.2.2 = (fun _ => 1#1)

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DU2 (m : (ℓ : Loc Cert.DU2.nD Cert.DU2.τ Cert.DU2.sig) → Buf (Elt Bits) ℓ) : Prop :=
  True

def Pre_DU2Ideal (m : (ℓ : Loc Cert.DU2Ideal.nD Cert.DU2Ideal.τ Cert.DU2Ideal.sig) → Buf (Elt Ideal) ℓ) : Prop :=
  True

def Pre_DU2RefIdeal (m : (ℓ : Loc Cert.DU2RefIdeal.nD Cert.DU2RefIdeal.τ Cert.DU2RefIdeal.sig) → Buf (Elt Ideal) ℓ) : Prop :=
  True

def Pre_DwGateUp (m : (ℓ : Loc Cert.DwGateUp.nD Cert.DwGateUp.τ Cert.DwGateUp.sig) → Buf (Elt Bits) ℓ) : Prop :=
  True

def Pre_DwGateUpIdeal (m : (ℓ : Loc Cert.DwGateUpIdeal.nD Cert.DwGateUpIdeal.τ Cert.DwGateUpIdeal.sig) → Buf (Elt Ideal) ℓ) : Prop :=
  True

def Pre_DwGateUpRefIdeal (m : (ℓ : Loc Cert.DwGateUpRefIdeal.nD Cert.DwGateUpRefIdeal.τ Cert.DwGateUpRefIdeal.sig) → Buf (Elt Ideal) ℓ) : Prop :=
  True

def Pre_DU1 (m : (ℓ : Loc Cert.DU1.nD Cert.DU1.τ Cert.DU1.sig) → Buf (Elt Bits) ℓ) : Prop :=
  True

def Pre_DU1Ideal (m : (ℓ : Loc Cert.DU1Ideal.nD Cert.DU1Ideal.τ Cert.DU1Ideal.sig) → Buf (Elt Ideal) ℓ) : Prop :=
  True

def Pre_DU1RefIdeal (m : (ℓ : Loc Cert.DU1RefIdeal.nD Cert.DU1RefIdeal.τ Cert.DU1RefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedRefIdeal (m : (ℓ : Loc Cert.DMergedRefIdeal.nD Cert.DMergedRefIdeal.τ Cert.DMergedRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DAttn (m : (ℓ : Loc Cert.DAttn.nD Cert.DAttn.τ Cert.DAttn.sig) → Buf (Elt Bits) ℓ) : Prop :=
  True

def Pre_DAttnIdeal (m : (ℓ : Loc Cert.DAttnIdeal.nD Cert.DAttnIdeal.τ Cert.DAttnIdeal.sig) → Buf (Elt Ideal) ℓ) : Prop :=
  True

def Pre_DAttnRefIdeal (m : (ℓ : Loc Cert.DAttnRefIdeal.nD Cert.DAttnRefIdeal.τ Cert.DAttnRefIdeal.sig) → Buf (Elt Ideal) ℓ) : Prop :=
  True

def Pre_DwAttnO (m : (ℓ : Loc Cert.DwAttnO.nD Cert.DwAttnO.τ Cert.DwAttnO.sig) → Buf (Elt Bits) ℓ) : Prop :=
  True

def Pre_DwAttnOIdeal (m : (ℓ : Loc Cert.DwAttnOIdeal.nD Cert.DwAttnOIdeal.τ Cert.DwAttnOIdeal.sig) → Buf (Elt Ideal) ℓ) : Prop :=
  True

def Pre_DwAttnORefIdeal (m : (ℓ : Loc Cert.DwAttnORefIdeal.nD Cert.DwAttnORefIdeal.τ Cert.DwAttnORefIdeal.sig) → Buf (Elt Ideal) ℓ) : Prop :=
  True

def Pre_DConv (m : (ℓ : Loc Cert.DConv.nD Cert.DConv.τ Cert.DConv.sig) → Buf (Elt Bits) ℓ) : Prop :=
  True

def Pre_DConvIdeal (m : (ℓ : Loc Cert.DConvIdeal.nD Cert.DConvIdeal.τ Cert.DConvIdeal.sig) → Buf (Elt Ideal) ℓ) : Prop :=
  True

def Pre_DConvRefIdeal (m : (ℓ : Loc Cert.DConvRefIdeal.nD Cert.DConvRefIdeal.τ Cert.DConvRefIdeal.sig) → Buf (Elt Ideal) ℓ) : Prop :=
  True

def Pre_DwConvO (m : (ℓ : Loc Cert.DwConvO.nD Cert.DwConvO.τ Cert.DwConvO.sig) → Buf (Elt Bits) ℓ) : Prop :=
  True

def Pre_DwConvOIdeal (m : (ℓ : Loc Cert.DwConvOIdeal.nD Cert.DwConvOIdeal.τ Cert.DwConvOIdeal.sig) → Buf (Elt Ideal) ℓ) : Prop :=
  True

def Pre_DwConvORefIdeal (m : (ℓ : Loc Cert.DwConvORefIdeal.nD Cert.DwConvORefIdeal.τ Cert.DwConvORefIdeal.sig) → Buf (Elt Ideal) ℓ) : Prop :=
  True

def Pre_GateB (m : (ℓ : Loc Cert.GateB.nD Cert.GateB.τ Cert.GateB.sig) → Buf (Elt Bits) ℓ) : Prop :=
  True

def Pre_GateBIdeal (m : (ℓ : Loc Cert.GateBIdeal.nD Cert.GateBIdeal.τ Cert.GateBIdeal.sig) → Buf (Elt Ideal) ℓ) : Prop :=
  True

def Pre_GateBRefIdeal (m : (ℓ : Loc Cert.GateBRefIdeal.nD Cert.GateBRefIdeal.τ Cert.GateBRefIdeal.sig) → Buf (Elt Ideal) ℓ) : Prop :=
  True

def Pre_GluB (m : (ℓ : Loc Cert.GluB.nD Cert.GluB.τ Cert.GluB.sig) → Buf (Elt Bits) ℓ) : Prop :=
  True

def Pre_GluBIdeal (m : (ℓ : Loc Cert.GluBIdeal.nD Cert.GluBIdeal.τ Cert.GluBIdeal.sig) → Buf (Elt Ideal) ℓ) : Prop :=
  True

def Pre_GluBRefIdeal (m : (ℓ : Loc Cert.GluBRefIdeal.nD Cert.GluBRefIdeal.τ Cert.GluBRefIdeal.sig) → Buf (Elt Ideal) ℓ) : Prop :=
  True

def Pre_SwigluB (m : (ℓ : Loc Cert.SwigluB.nD Cert.SwigluB.τ Cert.SwigluB.sig) → Buf (Elt Bits) ℓ) : Prop :=
  True

def Pre_SwigluBIdeal (m : (ℓ : Loc Cert.SwigluBIdeal.nD Cert.SwigluBIdeal.τ Cert.SwigluBIdeal.sig) → Buf (Elt Ideal) ℓ) : Prop :=
  True

def Pre_SwigluBIdeal_finite_swiglu [hPre_finite_swiglu : Cert.Pre_finite_swiglu.Facts] (m : (ℓ : Loc Cert.SwigluBIdeal.nD Cert.SwigluBIdeal.τ Cert.SwigluBIdeal.sig) → Buf (Elt Ideal) ℓ) : Prop :=
  ∀ c : Dev Cert.SwigluBIdeal.nD,
    (Cert.Pre_finite_swiglu.fn (F := Ideal) (m ((c.tc : Thread Cert.SwigluBIdeal.nD Cert.SwigluBIdeal.τ).loc Cert.SwigluBIdeal.main_arg0)) (m ((c.tc : Thread Cert.SwigluBIdeal.nD Cert.SwigluBIdeal.τ).loc Cert.SwigluBIdeal.main_arg1))).1 = (fun _ => 1#1)
    ∧ (Cert.Pre_finite_swiglu.fn (F := Ideal) (m ((c.tc : Thread Cert.SwigluBIdeal.nD Cert.SwigluBIdeal.τ).loc Cert.SwigluBIdeal.main_arg0)) (m ((c.tc : Thread Cert.SwigluBIdeal.nD Cert.SwigluBIdeal.τ).loc Cert.SwigluBIdeal.main_arg1))).2 = (fun _ => 1#1)

def Pre_SwigluBRefIdeal (m : (ℓ : Loc Cert.SwigluBRefIdeal.nD Cert.SwigluBRefIdeal.τ Cert.SwigluBRefIdeal.sig) → Buf (Elt Ideal) ℓ) : Prop :=
  True

def Pre_SwigluBRefIdeal_finite_swiglu [hPre_finite_swiglu : Cert.Pre_finite_swiglu.Facts] (m : (ℓ : Loc Cert.SwigluBRefIdeal.nD Cert.SwigluBRefIdeal.τ Cert.SwigluBRefIdeal.sig) → Buf (Elt Ideal) ℓ) : Prop :=
  ∀ c : Dev Cert.SwigluBRefIdeal.nD,
    (Cert.Pre_finite_swiglu.fn (F := Ideal) (m ((c.tc : Thread Cert.SwigluBRefIdeal.nD Cert.SwigluBRefIdeal.τ).loc Cert.SwigluBRefIdeal.main_arg0)) (m ((c.tc : Thread Cert.SwigluBRefIdeal.nD Cert.SwigluBRefIdeal.τ).loc Cert.SwigluBRefIdeal.main_arg1))).1 = (fun _ => 1#1)
    ∧ (Cert.Pre_finite_swiglu.fn (F := Ideal) (m ((c.tc : Thread Cert.SwigluBRefIdeal.nD Cert.SwigluBRefIdeal.τ).loc Cert.SwigluBRefIdeal.main_arg0)) (m ((c.tc : Thread Cert.SwigluBRefIdeal.nD Cert.SwigluBRefIdeal.τ).loc Cert.SwigluBRefIdeal.main_arg1))).2 = (fun _ => 1#1)

def Pre_SwigluF (m : (ℓ : Loc Cert.SwigluF.nD Cert.SwigluF.τ Cert.SwigluF.sig) → Buf (Elt Bits) ℓ) : Prop :=
  True

def Pre_SwigluFIdeal (m : (ℓ : Loc Cert.SwigluFIdeal.nD Cert.SwigluFIdeal.τ Cert.SwigluFIdeal.sig) → Buf (Elt Ideal) ℓ) : Prop :=
  True

def Pre_SwigluFRefIdeal (m : (ℓ : Loc Cert.SwigluFRefIdeal.nD Cert.SwigluFRefIdeal.τ Cert.SwigluFRefIdeal.sig) → Buf (Elt Ideal) ℓ) : Prop :=
  True

def Pre_GateF (m : (ℓ : Loc Cert.GateF.nD Cert.GateF.τ Cert.GateF.sig) → Buf (Elt Bits) ℓ) : Prop :=
  True

def Pre_GateFIdeal (m : (ℓ : Loc Cert.GateFIdeal.nD Cert.GateFIdeal.τ Cert.GateFIdeal.sig) → Buf (Elt Ideal) ℓ) : Prop :=
  True

def Pre_GateFRefIdeal (m : (ℓ : Loc Cert.GateFRefIdeal.nD Cert.GateFRefIdeal.τ Cert.GateFRefIdeal.sig) → Buf (Elt Ideal) ℓ) : Prop :=
  True

def Pre_RmsB (m : (ℓ : Loc Cert.RmsB.nD Cert.RmsB.τ Cert.RmsB.sig) → Buf (Elt Bits) ℓ) : Prop :=
  True

def Pre_RmsBIdeal (m : (ℓ : Loc Cert.RmsBIdeal.nD Cert.RmsBIdeal.τ Cert.RmsBIdeal.sig) → Buf (Elt Ideal) ℓ) : Prop :=
  True

def Pre_RmsBIdeal_finite_rms [hPre_finite_rms : Cert.Pre_finite_rms.Facts] (m : (ℓ : Loc Cert.RmsBIdeal.nD Cert.RmsBIdeal.τ Cert.RmsBIdeal.sig) → Buf (Elt Ideal) ℓ) : Prop :=
  ∀ c : Dev Cert.RmsBIdeal.nD,
    (Cert.Pre_finite_rms.fn (F := Ideal) (m ((c.tc : Thread Cert.RmsBIdeal.nD Cert.RmsBIdeal.τ).loc Cert.RmsBIdeal.main_arg0)) (m ((c.tc : Thread Cert.RmsBIdeal.nD Cert.RmsBIdeal.τ).loc Cert.RmsBIdeal.main_arg1)) (m ((c.tc : Thread Cert.RmsBIdeal.nD Cert.RmsBIdeal.τ).loc Cert.RmsBIdeal.main_arg2)) (m ((c.tc : Thread Cert.RmsBIdeal.nD Cert.RmsBIdeal.τ).loc Cert.RmsBIdeal.main_arg3))).1 = (fun _ => 1#1)
    ∧ (Cert.Pre_finite_rms.fn (F := Ideal) (m ((c.tc : Thread Cert.RmsBIdeal.nD Cert.RmsBIdeal.τ).loc Cert.RmsBIdeal.main_arg0)) (m ((c.tc : Thread Cert.RmsBIdeal.nD Cert.RmsBIdeal.τ).loc Cert.RmsBIdeal.main_arg1)) (m ((c.tc : Thread Cert.RmsBIdeal.nD Cert.RmsBIdeal.τ).loc Cert.RmsBIdeal.main_arg2)) (m ((c.tc : Thread Cert.RmsBIdeal.nD Cert.RmsBIdeal.τ).loc Cert.RmsBIdeal.main_arg3))).2.1 = (fun _ => 1#1)
    ∧ (Cert.Pre_finite_rms.fn (F := Ideal) (m ((c.tc : Thread Cert.RmsBIdeal.nD Cert.RmsBIdeal.τ).loc Cert.RmsBIdeal.main_arg0)) (m ((c.tc : Thread Cert.RmsBIdeal.nD Cert.RmsBIdeal.τ).loc Cert.RmsBIdeal.main_arg1)) (m ((c.tc : Thread Cert.RmsBIdeal.nD Cert.RmsBIdeal.τ).loc Cert.RmsBIdeal.main_arg2)) (m ((c.tc : Thread Cert.RmsBIdeal.nD Cert.RmsBIdeal.τ).loc Cert.RmsBIdeal.main_arg3))).2.2 = (fun _ => 1#1)

def Pre_RmsBRefIdeal (m : (ℓ : Loc Cert.RmsBRefIdeal.nD Cert.RmsBRefIdeal.τ Cert.RmsBRefIdeal.sig) → Buf (Elt Ideal) ℓ) : Prop :=
  True

def Pre_RmsBRefIdeal_finite_rms [hPre_finite_rms : Cert.Pre_finite_rms.Facts] (m : (ℓ : Loc Cert.RmsBRefIdeal.nD Cert.RmsBRefIdeal.τ Cert.RmsBRefIdeal.sig) → Buf (Elt Ideal) ℓ) : Prop :=
  ∀ c : Dev Cert.RmsBRefIdeal.nD,
    (Cert.Pre_finite_rms.fn (F := Ideal) (m ((c.tc : Thread Cert.RmsBRefIdeal.nD Cert.RmsBRefIdeal.τ).loc Cert.RmsBRefIdeal.main_arg0)) (m ((c.tc : Thread Cert.RmsBRefIdeal.nD Cert.RmsBRefIdeal.τ).loc Cert.RmsBRefIdeal.main_arg1)) (m ((c.tc : Thread Cert.RmsBRefIdeal.nD Cert.RmsBRefIdeal.τ).loc Cert.RmsBRefIdeal.main_arg2)) (m ((c.tc : Thread Cert.RmsBRefIdeal.nD Cert.RmsBRefIdeal.τ).loc Cert.RmsBRefIdeal.main_arg3))).1 = (fun _ => 1#1)
    ∧ (Cert.Pre_finite_rms.fn (F := Ideal) (m ((c.tc : Thread Cert.RmsBRefIdeal.nD Cert.RmsBRefIdeal.τ).loc Cert.RmsBRefIdeal.main_arg0)) (m ((c.tc : Thread Cert.RmsBRefIdeal.nD Cert.RmsBRefIdeal.τ).loc Cert.RmsBRefIdeal.main_arg1)) (m ((c.tc : Thread Cert.RmsBRefIdeal.nD Cert.RmsBRefIdeal.τ).loc Cert.RmsBRefIdeal.main_arg2)) (m ((c.tc : Thread Cert.RmsBRefIdeal.nD Cert.RmsBRefIdeal.τ).loc Cert.RmsBRefIdeal.main_arg3))).2.1 = (fun _ => 1#1)
    ∧ (Cert.Pre_finite_rms.fn (F := Ideal) (m ((c.tc : Thread Cert.RmsBRefIdeal.nD Cert.RmsBRefIdeal.τ).loc Cert.RmsBRefIdeal.main_arg0)) (m ((c.tc : Thread Cert.RmsBRefIdeal.nD Cert.RmsBRefIdeal.τ).loc Cert.RmsBRefIdeal.main_arg1)) (m ((c.tc : Thread Cert.RmsBRefIdeal.nD Cert.RmsBRefIdeal.τ).loc Cert.RmsBRefIdeal.main_arg2)) (m ((c.tc : Thread Cert.RmsBRefIdeal.nD Cert.RmsBRefIdeal.τ).loc Cert.RmsBRefIdeal.main_arg3))).2.2 = (fun _ => 1#1)

def Pre_RmsF (m : (ℓ : Loc Cert.RmsF.nD Cert.RmsF.τ Cert.RmsF.sig) → Buf (Elt Bits) ℓ) : Prop :=
  True

def Pre_RmsFIdeal (m : (ℓ : Loc Cert.RmsFIdeal.nD Cert.RmsFIdeal.τ Cert.RmsFIdeal.sig) → Buf (Elt Ideal) ℓ) : Prop :=
  True

def Pre_RmsFRefIdeal (m : (ℓ : Loc Cert.RmsFRefIdeal.nD Cert.RmsFRefIdeal.τ Cert.RmsFRefIdeal.sig) → Buf (Elt Ideal) ℓ) : Prop :=
  True

def Pre_LnB (m : (ℓ : Loc Cert.LnB.nD Cert.LnB.τ Cert.LnB.sig) → Buf (Elt Bits) ℓ) : Prop :=
  True

def Pre_LnBIdeal (m : (ℓ : Loc Cert.LnBIdeal.nD Cert.LnBIdeal.τ Cert.LnBIdeal.sig) → Buf (Elt Ideal) ℓ) : Prop :=
  True

def Pre_LnBIdeal_finite_ln [hPre_finite_ln : Cert.Pre_finite_ln.Facts] (m : (ℓ : Loc Cert.LnBIdeal.nD Cert.LnBIdeal.τ Cert.LnBIdeal.sig) → Buf (Elt Ideal) ℓ) : Prop :=
  ∀ c : Dev Cert.LnBIdeal.nD,
    (Cert.Pre_finite_ln.fn (F := Ideal) (m ((c.tc : Thread Cert.LnBIdeal.nD Cert.LnBIdeal.τ).loc Cert.LnBIdeal.main_arg0)) (m ((c.tc : Thread Cert.LnBIdeal.nD Cert.LnBIdeal.τ).loc Cert.LnBIdeal.main_arg1)) (m ((c.tc : Thread Cert.LnBIdeal.nD Cert.LnBIdeal.τ).loc Cert.LnBIdeal.main_arg2)) (m ((c.tc : Thread Cert.LnBIdeal.nD Cert.LnBIdeal.τ).loc Cert.LnBIdeal.main_arg3))).1 = (fun _ => 1#1)
    ∧ (Cert.Pre_finite_ln.fn (F := Ideal) (m ((c.tc : Thread Cert.LnBIdeal.nD Cert.LnBIdeal.τ).loc Cert.LnBIdeal.main_arg0)) (m ((c.tc : Thread Cert.LnBIdeal.nD Cert.LnBIdeal.τ).loc Cert.LnBIdeal.main_arg1)) (m ((c.tc : Thread Cert.LnBIdeal.nD Cert.LnBIdeal.τ).loc Cert.LnBIdeal.main_arg2)) (m ((c.tc : Thread Cert.LnBIdeal.nD Cert.LnBIdeal.τ).loc Cert.LnBIdeal.main_arg3))).2.1 = (fun _ => 1#1)
    ∧ (Cert.Pre_finite_ln.fn (F := Ideal) (m ((c.tc : Thread Cert.LnBIdeal.nD Cert.LnBIdeal.τ).loc Cert.LnBIdeal.main_arg0)) (m ((c.tc : Thread Cert.LnBIdeal.nD Cert.LnBIdeal.τ).loc Cert.LnBIdeal.main_arg1)) (m ((c.tc : Thread Cert.LnBIdeal.nD Cert.LnBIdeal.τ).loc Cert.LnBIdeal.main_arg2)) (m ((c.tc : Thread Cert.LnBIdeal.nD Cert.LnBIdeal.τ).loc Cert.LnBIdeal.main_arg3))).2.2.1 = (fun _ => 1#1)
    ∧ (Cert.Pre_finite_ln.fn (F := Ideal) (m ((c.tc : Thread Cert.LnBIdeal.nD Cert.LnBIdeal.τ).loc Cert.LnBIdeal.main_arg0)) (m ((c.tc : Thread Cert.LnBIdeal.nD Cert.LnBIdeal.τ).loc Cert.LnBIdeal.main_arg1)) (m ((c.tc : Thread Cert.LnBIdeal.nD Cert.LnBIdeal.τ).loc Cert.LnBIdeal.main_arg2)) (m ((c.tc : Thread Cert.LnBIdeal.nD Cert.LnBIdeal.τ).loc Cert.LnBIdeal.main_arg3))).2.2.2 = (fun _ => 1#1)

def Pre_LnBRefIdeal (m : (ℓ : Loc Cert.LnBRefIdeal.nD Cert.LnBRefIdeal.τ Cert.LnBRefIdeal.sig) → Buf (Elt Ideal) ℓ) : Prop :=
  True

def Pre_LnBRefIdeal_finite_ln [hPre_finite_ln : Cert.Pre_finite_ln.Facts] (m : (ℓ : Loc Cert.LnBRefIdeal.nD Cert.LnBRefIdeal.τ Cert.LnBRefIdeal.sig) → Buf (Elt Ideal) ℓ) : Prop :=
  ∀ c : Dev Cert.LnBRefIdeal.nD,
    (Cert.Pre_finite_ln.fn (F := Ideal) (m ((c.tc : Thread Cert.LnBRefIdeal.nD Cert.LnBRefIdeal.τ).loc Cert.LnBRefIdeal.main_arg0)) (m ((c.tc : Thread Cert.LnBRefIdeal.nD Cert.LnBRefIdeal.τ).loc Cert.LnBRefIdeal.main_arg1)) (m ((c.tc : Thread Cert.LnBRefIdeal.nD Cert.LnBRefIdeal.τ).loc Cert.LnBRefIdeal.main_arg2)) (m ((c.tc : Thread Cert.LnBRefIdeal.nD Cert.LnBRefIdeal.τ).loc Cert.LnBRefIdeal.main_arg3))).1 = (fun _ => 1#1)
    ∧ (Cert.Pre_finite_ln.fn (F := Ideal) (m ((c.tc : Thread Cert.LnBRefIdeal.nD Cert.LnBRefIdeal.τ).loc Cert.LnBRefIdeal.main_arg0)) (m ((c.tc : Thread Cert.LnBRefIdeal.nD Cert.LnBRefIdeal.τ).loc Cert.LnBRefIdeal.main_arg1)) (m ((c.tc : Thread Cert.LnBRefIdeal.nD Cert.LnBRefIdeal.τ).loc Cert.LnBRefIdeal.main_arg2)) (m ((c.tc : Thread Cert.LnBRefIdeal.nD Cert.LnBRefIdeal.τ).loc Cert.LnBRefIdeal.main_arg3))).2.1 = (fun _ => 1#1)
    ∧ (Cert.Pre_finite_ln.fn (F := Ideal) (m ((c.tc : Thread Cert.LnBRefIdeal.nD Cert.LnBRefIdeal.τ).loc Cert.LnBRefIdeal.main_arg0)) (m ((c.tc : Thread Cert.LnBRefIdeal.nD Cert.LnBRefIdeal.τ).loc Cert.LnBRefIdeal.main_arg1)) (m ((c.tc : Thread Cert.LnBRefIdeal.nD Cert.LnBRefIdeal.τ).loc Cert.LnBRefIdeal.main_arg2)) (m ((c.tc : Thread Cert.LnBRefIdeal.nD Cert.LnBRefIdeal.τ).loc Cert.LnBRefIdeal.main_arg3))).2.2.1 = (fun _ => 1#1)
    ∧ (Cert.Pre_finite_ln.fn (F := Ideal) (m ((c.tc : Thread Cert.LnBRefIdeal.nD Cert.LnBRefIdeal.τ).loc Cert.LnBRefIdeal.main_arg0)) (m ((c.tc : Thread Cert.LnBRefIdeal.nD Cert.LnBRefIdeal.τ).loc Cert.LnBRefIdeal.main_arg1)) (m ((c.tc : Thread Cert.LnBRefIdeal.nD Cert.LnBRefIdeal.τ).loc Cert.LnBRefIdeal.main_arg2)) (m ((c.tc : Thread Cert.LnBRefIdeal.nD Cert.LnBRefIdeal.τ).loc Cert.LnBRefIdeal.main_arg3))).2.2.2 = (fun _ => 1#1)

def Pre_LnF (m : (ℓ : Loc Cert.LnF.nD Cert.LnF.τ Cert.LnF.sig) → Buf (Elt Bits) ℓ) : Prop :=
  True

def Pre_LnFIdeal (m : (ℓ : Loc Cert.LnFIdeal.nD Cert.LnFIdeal.τ Cert.LnFIdeal.sig) → Buf (Elt Ideal) ℓ) : Prop :=
  True

def Pre_LnFRefIdeal (m : (ℓ : Loc Cert.LnFRefIdeal.nD Cert.LnFRefIdeal.τ Cert.LnFRefIdeal.sig) → Buf (Elt Ideal) ℓ) : Prop :=
  True

def Pre_ConvB (m : (ℓ : Loc Cert.ConvB.nD Cert.ConvB.τ Cert.ConvB.sig) → Buf (Elt Bits) ℓ) : Prop :=
  True

def Pre_ConvBIdeal (m : (ℓ : Loc Cert.ConvBIdeal.nD Cert.ConvBIdeal.τ Cert.ConvBIdeal.sig) → Buf (Elt Ideal) ℓ) : Prop :=
  True

def Pre_ConvBRefIdeal (m : (ℓ : Loc Cert.ConvBRefIdeal.nD Cert.ConvBRefIdeal.τ Cert.ConvBRefIdeal.sig) → Buf (Elt Ideal) ℓ) : Prop :=
  True

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_ConvFRefIdeal (m : (ℓ : Loc Cert.ConvFRefIdeal.nD Cert.ConvFRefIdeal.τ Cert.ConvFRefIdeal.sig) → Buf (Elt Ideal) ℓ) : Prop :=
  True

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFIdeal_finite_attn [hPre_finite_attn : Cert.Pre_finite_attn.Facts] (m : (ℓ : Loc Cert.AttnFIdeal.nD Cert.AttnFIdeal.τ Cert.AttnFIdeal.sig) → Buf (Elt Ideal) ℓ) : Prop :=
  ∀ c : Dev Cert.AttnFIdeal.nD,
    (Cert.Pre_finite_attn.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2))).1 = (fun _ => 1#1)
    ∧ (Cert.Pre_finite_attn.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2))).2.1 = (fun _ => 1#1)
    ∧ (Cert.Pre_finite_attn.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2))).2.2 = (fun _ => 1#1)

def Pre_AttnFRefIdeal (m : (ℓ : Loc Cert.AttnFRefIdeal.nD Cert.AttnFRefIdeal.τ Cert.AttnFRefIdeal.sig) → Buf (Elt Ideal) ℓ) : Prop :=
  True

def Pre_AttnFRefIdeal_finite_attn [hPre_finite_attn : Cert.Pre_finite_attn.Facts] (m : (ℓ : Loc Cert.AttnFRefIdeal.nD Cert.AttnFRefIdeal.τ Cert.AttnFRefIdeal.sig) → Buf (Elt Ideal) ℓ) : Prop :=
  ∀ c : Dev Cert.AttnFRefIdeal.nD,
    (Cert.Pre_finite_attn.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2))).1 = (fun _ => 1#1)
    ∧ (Cert.Pre_finite_attn.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2))).2.1 = (fun _ => 1#1)
    ∧ (Cert.Pre_finite_attn.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2))).2.2 = (fun _ => 1#1)

def Pre_AttnO (m : (ℓ : Loc Cert.AttnO.nD Cert.AttnO.τ Cert.AttnO.sig) → Buf (Elt Bits) ℓ) : Prop :=
  True

def Pre_AttnOIdeal (m : (ℓ : Loc Cert.AttnOIdeal.nD Cert.AttnOIdeal.τ Cert.AttnOIdeal.sig) → Buf (Elt Ideal) ℓ) : Prop :=
  True

def Pre_AttnORefIdeal (m : (ℓ : Loc Cert.AttnORefIdeal.nD Cert.AttnORefIdeal.τ Cert.AttnORefIdeal.sig) → Buf (Elt Ideal) ℓ) : Prop :=
  True

def Pre_ConvO (m : (ℓ : Loc Cert.ConvO.nD Cert.ConvO.τ Cert.ConvO.sig) → Buf (Elt Bits) ℓ) : Prop :=
  True

def Pre_ConvOIdeal (m : (ℓ : Loc Cert.ConvOIdeal.nD Cert.ConvOIdeal.τ Cert.ConvOIdeal.sig) → Buf (Elt Ideal) ℓ) : Prop :=
  True

def Pre_ConvORefIdeal (m : (ℓ : Loc Cert.ConvORefIdeal.nD Cert.ConvORefIdeal.τ Cert.ConvORefIdeal.sig) → Buf (Elt Ideal) ℓ) : Prop :=
  True

def Pre_ColIn (m : (ℓ : Loc Cert.ColIn.nD Cert.ColIn.τ Cert.ColIn.sig) → Buf (Elt Bits) ℓ) : Prop :=
  True

def Pre_ColInIdeal (m : (ℓ : Loc Cert.ColInIdeal.nD Cert.ColInIdeal.τ Cert.ColInIdeal.sig) → Buf (Elt Ideal) ℓ) : Prop :=
  True

def Pre_ColInRefIdeal (m : (ℓ : Loc Cert.ColInRefIdeal.nD Cert.ColInRefIdeal.τ Cert.ColInRefIdeal.sig) → Buf (Elt Ideal) ℓ) : Prop :=
  True

def Pre_ColO (m : (ℓ : Loc Cert.ColO.nD Cert.ColO.τ Cert.ColO.sig) → Buf (Elt Bits) ℓ) : Prop :=
  True

def Pre_ColOIdeal (m : (ℓ : Loc Cert.ColOIdeal.nD Cert.ColOIdeal.τ Cert.ColOIdeal.sig) → Buf (Elt Ideal) ℓ) : Prop :=
  True

def Pre_ColORefIdeal (m : (ℓ : Loc Cert.ColORefIdeal.nD Cert.ColORefIdeal.τ Cert.ColORefIdeal.sig) → Buf (Elt Ideal) ℓ) : Prop :=
  True

def Pre_RopeF (m : (ℓ : Loc Cert.RopeF.nD Cert.RopeF.τ Cert.RopeF.sig) → Buf (Elt Bits) ℓ) : Prop :=
  True

def Pre_RopeFIdeal (m : (ℓ : Loc Cert.RopeFIdeal.nD Cert.RopeFIdeal.τ Cert.RopeFIdeal.sig) → Buf (Elt Ideal) ℓ) : Prop :=
  True

def Pre_RopeFRefIdeal (m : (ℓ : Loc Cert.RopeFRefIdeal.nD Cert.RopeFRefIdeal.τ Cert.RopeFRefIdeal.sig) → Buf (Elt Ideal) ℓ) : Prop :=
  True

def Pre_RopeB (m : (ℓ : Loc Cert.RopeB.nD Cert.RopeB.τ Cert.RopeB.sig) → Buf (Elt Bits) ℓ) : Prop :=
  True

def Pre_RopeBIdeal (m : (ℓ : Loc Cert.RopeBIdeal.nD Cert.RopeBIdeal.τ Cert.RopeBIdeal.sig) → Buf (Elt Ideal) ℓ) : Prop :=
  True

def Pre_RopeBRefIdeal (m : (ℓ : Loc Cert.RopeBRefIdeal.nD Cert.RopeBRefIdeal.τ Cert.RopeBRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamO (m : (ℓ : Loc Cert.AdamO.nD Cert.AdamO.τ Cert.AdamO.sig) → Buf (Elt Bits) ℓ) : Prop :=
  True

def Pre_AdamOIdeal (m : (ℓ : Loc Cert.AdamOIdeal.nD Cert.AdamOIdeal.τ Cert.AdamOIdeal.sig) → Buf (Elt Ideal) ℓ) : Prop :=
  True

def Pre_AdamORefIdeal (m : (ℓ : Loc Cert.AdamORefIdeal.nD Cert.AdamORefIdeal.τ Cert.AdamORefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGU (m : (ℓ : Loc Cert.AdamGU.nD Cert.AdamGU.τ Cert.AdamGU.sig) → Buf (Elt Bits) ℓ) : Prop :=
  True

def Pre_AdamGUIdeal (m : (ℓ : Loc Cert.AdamGUIdeal.nD Cert.AdamGUIdeal.τ Cert.AdamGUIdeal.sig) → Buf (Elt Ideal) ℓ) : Prop :=
  True

def Pre_AdamGURefIdeal (m : (ℓ : Loc Cert.AdamGURefIdeal.nD Cert.AdamGURefIdeal.τ Cert.AdamGURefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3))
      ∧ r.2.sem = fun _ => 0)

def quiescent_RefIdeal_pre_finite [hRefIdeal : Cert.RefIdeal.Facts] [hPre_finite : Cert.Pre_finite.Facts] : Prop :=
  ∀ (m : (ℓ : Loc Cert.RefIdeal.nD Cert.RefIdeal.τ Cert.RefIdeal.sig) → Buf (Elt Ideal) ℓ) (g : Dev Cert.RefIdeal.nD → PrngReg), Pre_RefIdeal_finite m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DU2 [hDU2 : Cert.DU2.Facts] : Prop :=
  ∀ (m : (ℓ : Loc Cert.DU2.nD Cert.DU2.τ Cert.DU2.sig) → Buf (Elt Bits) ℓ) (g : Dev Cert.DU2.nD → PrngReg), Pre_DU2 m →
    θ_run (Cert.DU2.defs (F := Bits)) (onTc (τ := Cert.DU2.τ) (Cert.DU2.main (F := Bits))) ⟨m, fun _ => 0, g⟩ (fun r => (∀ c : Dev Cert.DU2.nD,
      r.2.mem ((c.tc : Thread Cert.DU2.nD Cert.DU2.τ).loc Cert.DU2.main_arg0) = m ((c.tc : Thread Cert.DU2.nD Cert.DU2.τ).loc Cert.DU2.main_arg0)
      ∧ r.2.mem ((c.tc : Thread Cert.DU2.nD Cert.DU2.τ).loc Cert.DU2.main_arg1) = m ((c.tc : Thread Cert.DU2.nD Cert.DU2.τ).loc Cert.DU2.main_arg1))
      ∧ r.2.sem = fun _ => 0)

def quiescent_DU2Ideal [hDU2Ideal : Cert.DU2Ideal.Facts] : Prop :=
  ∀ (m : (ℓ : Loc Cert.DU2Ideal.nD Cert.DU2Ideal.τ Cert.DU2Ideal.sig) → Buf (Elt Ideal) ℓ) (g : Dev Cert.DU2Ideal.nD → PrngReg), Pre_DU2Ideal m →
    θ_run (Cert.DU2Ideal.defs (F := Ideal)) (onTc (τ := Cert.DU2Ideal.τ) (Cert.DU2Ideal.main (F := Ideal))) ⟨m, fun _ => 0, g⟩ (fun r => (∀ c : Dev Cert.DU2Ideal.nD,
      r.2.mem ((c.tc : Thread Cert.DU2Ideal.nD Cert.DU2Ideal.τ).loc Cert.DU2Ideal.main_arg0) = m ((c.tc : Thread Cert.DU2Ideal.nD Cert.DU2Ideal.τ).loc Cert.DU2Ideal.main_arg0)
      ∧ r.2.mem ((c.tc : Thread Cert.DU2Ideal.nD Cert.DU2Ideal.τ).loc Cert.DU2Ideal.main_arg1) = m ((c.tc : Thread Cert.DU2Ideal.nD Cert.DU2Ideal.τ).loc Cert.DU2Ideal.main_arg1))
      ∧ r.2.sem = fun _ => 0)

def quiescent_DU2RefIdeal [hDU2RefIdeal : Cert.DU2RefIdeal.Facts] : Prop :=
  ∀ (m : (ℓ : Loc Cert.DU2RefIdeal.nD Cert.DU2RefIdeal.τ Cert.DU2RefIdeal.sig) → Buf (Elt Ideal) ℓ) (g : Dev Cert.DU2RefIdeal.nD → PrngReg), Pre_DU2RefIdeal m →
    θ_run (Cert.DU2RefIdeal.defs (F := Ideal)) (onTc (τ := Cert.DU2RefIdeal.τ) (Cert.DU2RefIdeal.main (F := Ideal))) ⟨m, fun _ => 0, g⟩ (fun r => (∀ c : Dev Cert.DU2RefIdeal.nD,
      r.2.mem ((c.tc : Thread Cert.DU2RefIdeal.nD Cert.DU2RefIdeal.τ).loc Cert.DU2RefIdeal.main_arg0) = m ((c.tc : Thread Cert.DU2RefIdeal.nD Cert.DU2RefIdeal.τ).loc Cert.DU2RefIdeal.main_arg0)
      ∧ r.2.mem ((c.tc : Thread Cert.DU2RefIdeal.nD Cert.DU2RefIdeal.τ).loc Cert.DU2RefIdeal.main_arg1) = m ((c.tc : Thread Cert.DU2RefIdeal.nD Cert.DU2RefIdeal.τ).loc Cert.DU2RefIdeal.main_arg1))
      ∧ r.2.sem = fun _ => 0)

def quiescent_DwGateUp [hDwGateUp : Cert.DwGateUp.Facts] : Prop :=
  ∀ (m : (ℓ : Loc Cert.DwGateUp.nD Cert.DwGateUp.τ Cert.DwGateUp.sig) → Buf (Elt Bits) ℓ) (g : Dev Cert.DwGateUp.nD → PrngReg), Pre_DwGateUp m →
    θ_run (Cert.DwGateUp.defs (F := Bits)) (onTc (τ := Cert.DwGateUp.τ) (Cert.DwGateUp.main (F := Bits))) ⟨m, fun _ => 0, g⟩ (fun r => (∀ c : Dev Cert.DwGateUp.nD,
      r.2.mem ((c.tc : Thread Cert.DwGateUp.nD Cert.DwGateUp.τ).loc Cert.DwGateUp.main_arg0) = m ((c.tc : Thread Cert.DwGateUp.nD Cert.DwGateUp.τ).loc Cert.DwGateUp.main_arg0)
      ∧ r.2.mem ((c.tc : Thread Cert.DwGateUp.nD Cert.DwGateUp.τ).loc Cert.DwGateUp.main_arg1) = m ((c.tc : Thread Cert.DwGateUp.nD Cert.DwGateUp.τ).loc Cert.DwGateUp.main_arg1))
      ∧ r.2.sem = fun _ => 0)

def quiescent_DwGateUpIdeal [hDwGateUpIdeal : Cert.DwGateUpIdeal.Facts] : Prop :=
  ∀ (m : (ℓ : Loc Cert.DwGateUpIdeal.nD Cert.DwGateUpIdeal.τ Cert.DwGateUpIdeal.sig) → Buf (Elt Ideal) ℓ) (g : Dev Cert.DwGateUpIdeal.nD → PrngReg), Pre_DwGateUpIdeal m →
    θ_run (Cert.DwGateUpIdeal.defs (F := Ideal)) (onTc (τ := Cert.DwGateUpIdeal.τ) (Cert.DwGateUpIdeal.main (F := Ideal))) ⟨m, fun _ => 0, g⟩ (fun r => (∀ c : Dev Cert.DwGateUpIdeal.nD,
      r.2.mem ((c.tc : Thread Cert.DwGateUpIdeal.nD Cert.DwGateUpIdeal.τ).loc Cert.DwGateUpIdeal.main_arg0) = m ((c.tc : Thread Cert.DwGateUpIdeal.nD Cert.DwGateUpIdeal.τ).loc Cert.DwGateUpIdeal.main_arg0)
      ∧ r.2.mem ((c.tc : Thread Cert.DwGateUpIdeal.nD Cert.DwGateUpIdeal.τ).loc Cert.DwGateUpIdeal.main_arg1) = m ((c.tc : Thread Cert.DwGateUpIdeal.nD Cert.DwGateUpIdeal.τ).loc Cert.DwGateUpIdeal.main_arg1))
      ∧ r.2.sem = fun _ => 0)

def quiescent_DwGateUpRefIdeal [hDwGateUpRefIdeal : Cert.DwGateUpRefIdeal.Facts] : Prop :=
  ∀ (m : (ℓ : Loc Cert.DwGateUpRefIdeal.nD Cert.DwGateUpRefIdeal.τ Cert.DwGateUpRefIdeal.sig) → Buf (Elt Ideal) ℓ) (g : Dev Cert.DwGateUpRefIdeal.nD → PrngReg), Pre_DwGateUpRefIdeal m →
    θ_run (Cert.DwGateUpRefIdeal.defs (F := Ideal)) (onTc (τ := Cert.DwGateUpRefIdeal.τ) (Cert.DwGateUpRefIdeal.main (F := Ideal))) ⟨m, fun _ => 0, g⟩ (fun r => (∀ c : Dev Cert.DwGateUpRefIdeal.nD,
      r.2.mem ((c.tc : Thread Cert.DwGateUpRefIdeal.nD Cert.DwGateUpRefIdeal.τ).loc Cert.DwGateUpRefIdeal.main_arg0) = m ((c.tc : Thread Cert.DwGateUpRefIdeal.nD Cert.DwGateUpRefIdeal.τ).loc Cert.DwGateUpRefIdeal.main_arg0)
      ∧ r.2.mem ((c.tc : Thread Cert.DwGateUpRefIdeal.nD Cert.DwGateUpRefIdeal.τ).loc Cert.DwGateUpRefIdeal.main_arg1) = m ((c.tc : Thread Cert.DwGateUpRefIdeal.nD Cert.DwGateUpRefIdeal.τ).loc Cert.DwGateUpRefIdeal.main_arg1))
      ∧ r.2.sem = fun _ => 0)

def quiescent_DU1 [hDU1 : Cert.DU1.Facts] : Prop :=
  ∀ (m : (ℓ : Loc Cert.DU1.nD Cert.DU1.τ Cert.DU1.sig) → Buf (Elt Bits) ℓ) (g : Dev Cert.DU1.nD → PrngReg), Pre_DU1 m →
    θ_run (Cert.DU1.defs (F := Bits)) (onTc (τ := Cert.DU1.τ) (Cert.DU1.main (F := Bits))) ⟨m, fun _ => 0, g⟩ (fun r => (∀ c : Dev Cert.DU1.nD,
      r.2.mem ((c.tc : Thread Cert.DU1.nD Cert.DU1.τ).loc Cert.DU1.main_arg0) = m ((c.tc : Thread Cert.DU1.nD Cert.DU1.τ).loc Cert.DU1.main_arg0)
      ∧ r.2.mem ((c.tc : Thread Cert.DU1.nD Cert.DU1.τ).loc Cert.DU1.main_arg1) = m ((c.tc : Thread Cert.DU1.nD Cert.DU1.τ).loc Cert.DU1.main_arg1))
      ∧ r.2.sem = fun _ => 0)

def quiescent_DU1Ideal [hDU1Ideal : Cert.DU1Ideal.Facts] : Prop :=
  ∀ (m : (ℓ : Loc Cert.DU1Ideal.nD Cert.DU1Ideal.τ Cert.DU1Ideal.sig) → Buf (Elt Ideal) ℓ) (g : Dev Cert.DU1Ideal.nD → PrngReg), Pre_DU1Ideal m →
    θ_run (Cert.DU1Ideal.defs (F := Ideal)) (onTc (τ := Cert.DU1Ideal.τ) (Cert.DU1Ideal.main (F := Ideal))) ⟨m, fun _ => 0, g⟩ (fun r => (∀ c : Dev Cert.DU1Ideal.nD,
      r.2.mem ((c.tc : Thread Cert.DU1Ideal.nD Cert.DU1Ideal.τ).loc Cert.DU1Ideal.main_arg0) = m ((c.tc : Thread Cert.DU1Ideal.nD Cert.DU1Ideal.τ).loc Cert.DU1Ideal.main_arg0)
      ∧ r.2.mem ((c.tc : Thread Cert.DU1Ideal.nD Cert.DU1Ideal.τ).loc Cert.DU1Ideal.main_arg1) = m ((c.tc : Thread Cert.DU1Ideal.nD Cert.DU1Ideal.τ).loc Cert.DU1Ideal.main_arg1))
      ∧ r.2.sem = fun _ => 0)

def quiescent_DU1RefIdeal [hDU1RefIdeal : Cert.DU1RefIdeal.Facts] : Prop :=
  ∀ (m : (ℓ : Loc Cert.DU1RefIdeal.nD Cert.DU1RefIdeal.τ Cert.DU1RefIdeal.sig) → Buf (Elt Ideal) ℓ) (g : Dev Cert.DU1RefIdeal.nD → PrngReg), Pre_DU1RefIdeal m →
    θ_run (Cert.DU1RefIdeal.defs (F := Ideal)) (onTc (τ := Cert.DU1RefIdeal.τ) (Cert.DU1RefIdeal.main (F := Ideal))) ⟨m, fun _ => 0, g⟩ (fun r => (∀ c : Dev Cert.DU1RefIdeal.nD,
      r.2.mem ((c.tc : Thread Cert.DU1RefIdeal.nD Cert.DU1RefIdeal.τ).loc Cert.DU1RefIdeal.main_arg0) = m ((c.tc : Thread Cert.DU1RefIdeal.nD Cert.DU1RefIdeal.τ).loc Cert.DU1RefIdeal.main_arg0)
      ∧ r.2.mem ((c.tc : Thread Cert.DU1RefIdeal.nD Cert.DU1RefIdeal.τ).loc Cert.DU1RefIdeal.main_arg1) = m ((c.tc : Thread Cert.DU1RefIdeal.nD Cert.DU1RefIdeal.τ).loc Cert.DU1RefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_DMergedRefIdeal [hDMergedRefIdeal : Cert.DMergedRefIdeal.Facts] : Prop :=
  ∀ (m : (ℓ : Loc Cert.DMergedRefIdeal.nD Cert.DMergedRefIdeal.τ Cert.DMergedRefIdeal.sig) → Buf (Elt Ideal) ℓ) (g : Dev Cert.DMergedRefIdeal.nD → PrngReg), Pre_DMergedRefIdeal m →
    θ_run (Cert.DMergedRefIdeal.defs (F := Ideal)) (onTc (τ := Cert.DMergedRefIdeal.τ) (Cert.DMergedRefIdeal.main (F := Ideal))) ⟨m, fun _ => 0, g⟩ (fun r => (∀ c : Dev Cert.DMergedRefIdeal.nD,
      r.2.mem ((c.tc : Thread Cert.DMergedRefIdeal.nD Cert.DMergedRefIdeal.τ).loc Cert.DMergedRefIdeal.main_arg0) = m ((c.tc : Thread Cert.DMergedRefIdeal.nD Cert.DMergedRefIdeal.τ).loc Cert.DMergedRefIdeal.main_arg0)
      ∧ r.2.mem ((c.tc : Thread Cert.DMergedRefIdeal.nD Cert.DMergedRefIdeal.τ).loc Cert.DMergedRefIdeal.main_arg1) = m ((c.tc : Thread Cert.DMergedRefIdeal.nD Cert.DMergedRefIdeal.τ).loc Cert.DMergedRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DAttn [hDAttn : Cert.DAttn.Facts] : Prop :=
  ∀ (m : (ℓ : Loc Cert.DAttn.nD Cert.DAttn.τ Cert.DAttn.sig) → Buf (Elt Bits) ℓ) (g : Dev Cert.DAttn.nD → PrngReg), Pre_DAttn m →
    θ_run (Cert.DAttn.defs (F := Bits)) (onTc (τ := Cert.DAttn.τ) (Cert.DAttn.main (F := Bits))) ⟨m, fun _ => 0, g⟩ (fun r => (∀ c : Dev Cert.DAttn.nD,
      r.2.mem ((c.tc : Thread Cert.DAttn.nD Cert.DAttn.τ).loc Cert.DAttn.main_arg0) = m ((c.tc : Thread Cert.DAttn.nD Cert.DAttn.τ).loc Cert.DAttn.main_arg0)
      ∧ r.2.mem ((c.tc : Thread Cert.DAttn.nD Cert.DAttn.τ).loc Cert.DAttn.main_arg1) = m ((c.tc : Thread Cert.DAttn.nD Cert.DAttn.τ).loc Cert.DAttn.main_arg1))
      ∧ r.2.sem = fun _ => 0)

def quiescent_DAttnIdeal [hDAttnIdeal : Cert.DAttnIdeal.Facts] : Prop :=
  ∀ (m : (ℓ : Loc Cert.DAttnIdeal.nD Cert.DAttnIdeal.τ Cert.DAttnIdeal.sig) → Buf (Elt Ideal) ℓ) (g : Dev Cert.DAttnIdeal.nD → PrngReg), Pre_DAttnIdeal m →
    θ_run (Cert.DAttnIdeal.defs (F := Ideal)) (onTc (τ := Cert.DAttnIdeal.τ) (Cert.DAttnIdeal.main (F := Ideal))) ⟨m, fun _ => 0, g⟩ (fun r => (∀ c : Dev Cert.DAttnIdeal.nD,
      r.2.mem ((c.tc : Thread Cert.DAttnIdeal.nD Cert.DAttnIdeal.τ).loc Cert.DAttnIdeal.main_arg0) = m ((c.tc : Thread Cert.DAttnIdeal.nD Cert.DAttnIdeal.τ).loc Cert.DAttnIdeal.main_arg0)
      ∧ r.2.mem ((c.tc : Thread Cert.DAttnIdeal.nD Cert.DAttnIdeal.τ).loc Cert.DAttnIdeal.main_arg1) = m ((c.tc : Thread Cert.DAttnIdeal.nD Cert.DAttnIdeal.τ).loc Cert.DAttnIdeal.main_arg1))
      ∧ r.2.sem = fun _ => 0)

def quiescent_DAttnRefIdeal [hDAttnRefIdeal : Cert.DAttnRefIdeal.Facts] : Prop :=
  ∀ (m : (ℓ : Loc Cert.DAttnRefIdeal.nD Cert.DAttnRefIdeal.τ Cert.DAttnRefIdeal.sig) → Buf (Elt Ideal) ℓ) (g : Dev Cert.DAttnRefIdeal.nD → PrngReg), Pre_DAttnRefIdeal m →
    θ_run (Cert.DAttnRefIdeal.defs (F := Ideal)) (onTc (τ := Cert.DAttnRefIdeal.τ) (Cert.DAttnRefIdeal.main (F := Ideal))) ⟨m, fun _ => 0, g⟩ (fun r => (∀ c : Dev Cert.DAttnRefIdeal.nD,
      r.2.mem ((c.tc : Thread Cert.DAttnRefIdeal.nD Cert.DAttnRefIdeal.τ).loc Cert.DAttnRefIdeal.main_arg0) = m ((c.tc : Thread Cert.DAttnRefIdeal.nD Cert.DAttnRefIdeal.τ).loc Cert.DAttnRefIdeal.main_arg0)
      ∧ r.2.mem ((c.tc : Thread Cert.DAttnRefIdeal.nD Cert.DAttnRefIdeal.τ).loc Cert.DAttnRefIdeal.main_arg1) = m ((c.tc : Thread Cert.DAttnRefIdeal.nD Cert.DAttnRefIdeal.τ).loc Cert.DAttnRefIdeal.main_arg1))
      ∧ r.2.sem = fun _ => 0)

def quiescent_DwAttnO [hDwAttnO : Cert.DwAttnO.Facts] : Prop :=
  ∀ (m : (ℓ : Loc Cert.DwAttnO.nD Cert.DwAttnO.τ Cert.DwAttnO.sig) → Buf (Elt Bits) ℓ) (g : Dev Cert.DwAttnO.nD → PrngReg), Pre_DwAttnO m →
    θ_run (Cert.DwAttnO.defs (F := Bits)) (onTc (τ := Cert.DwAttnO.τ) (Cert.DwAttnO.main (F := Bits))) ⟨m, fun _ => 0, g⟩ (fun r => (∀ c : Dev Cert.DwAttnO.nD,
      r.2.mem ((c.tc : Thread Cert.DwAttnO.nD Cert.DwAttnO.τ).loc Cert.DwAttnO.main_arg0) = m ((c.tc : Thread Cert.DwAttnO.nD Cert.DwAttnO.τ).loc Cert.DwAttnO.main_arg0)
      ∧ r.2.mem ((c.tc : Thread Cert.DwAttnO.nD Cert.DwAttnO.τ).loc Cert.DwAttnO.main_arg1) = m ((c.tc : Thread Cert.DwAttnO.nD Cert.DwAttnO.τ).loc Cert.DwAttnO.main_arg1))
      ∧ r.2.sem = fun _ => 0)

def quiescent_DwAttnOIdeal [hDwAttnOIdeal : Cert.DwAttnOIdeal.Facts] : Prop :=
  ∀ (m : (ℓ : Loc Cert.DwAttnOIdeal.nD Cert.DwAttnOIdeal.τ Cert.DwAttnOIdeal.sig) → Buf (Elt Ideal) ℓ) (g : Dev Cert.DwAttnOIdeal.nD → PrngReg), Pre_DwAttnOIdeal m →
    θ_run (Cert.DwAttnOIdeal.defs (F := Ideal)) (onTc (τ := Cert.DwAttnOIdeal.τ) (Cert.DwAttnOIdeal.main (F := Ideal))) ⟨m, fun _ => 0, g⟩ (fun r => (∀ c : Dev Cert.DwAttnOIdeal.nD,
      r.2.mem ((c.tc : Thread Cert.DwAttnOIdeal.nD Cert.DwAttnOIdeal.τ).loc Cert.DwAttnOIdeal.main_arg0) = m ((c.tc : Thread Cert.DwAttnOIdeal.nD Cert.DwAttnOIdeal.τ).loc Cert.DwAttnOIdeal.main_arg0)
      ∧ r.2.mem ((c.tc : Thread Cert.DwAttnOIdeal.nD Cert.DwAttnOIdeal.τ).loc Cert.DwAttnOIdeal.main_arg1) = m ((c.tc : Thread Cert.DwAttnOIdeal.nD Cert.DwAttnOIdeal.τ).loc Cert.DwAttnOIdeal.main_arg1))
      ∧ r.2.sem = fun _ => 0)

def quiescent_DwAttnORefIdeal [hDwAttnORefIdeal : Cert.DwAttnORefIdeal.Facts] : Prop :=
  ∀ (m : (ℓ : Loc Cert.DwAttnORefIdeal.nD Cert.DwAttnORefIdeal.τ Cert.DwAttnORefIdeal.sig) → Buf (Elt Ideal) ℓ) (g : Dev Cert.DwAttnORefIdeal.nD → PrngReg), Pre_DwAttnORefIdeal m →
    θ_run (Cert.DwAttnORefIdeal.defs (F := Ideal)) (onTc (τ := Cert.DwAttnORefIdeal.τ) (Cert.DwAttnORefIdeal.main (F := Ideal))) ⟨m, fun _ => 0, g⟩ (fun r => (∀ c : Dev Cert.DwAttnORefIdeal.nD,
      r.2.mem ((c.tc : Thread Cert.DwAttnORefIdeal.nD Cert.DwAttnORefIdeal.τ).loc Cert.DwAttnORefIdeal.main_arg0) = m ((c.tc : Thread Cert.DwAttnORefIdeal.nD Cert.DwAttnORefIdeal.τ).loc Cert.DwAttnORefIdeal.main_arg0)
      ∧ r.2.mem ((c.tc : Thread Cert.DwAttnORefIdeal.nD Cert.DwAttnORefIdeal.τ).loc Cert.DwAttnORefIdeal.main_arg1) = m ((c.tc : Thread Cert.DwAttnORefIdeal.nD Cert.DwAttnORefIdeal.τ).loc Cert.DwAttnORefIdeal.main_arg1))
      ∧ r.2.sem = fun _ => 0)

def quiescent_DConv [hDConv : Cert.DConv.Facts] : Prop :=
  ∀ (m : (ℓ : Loc Cert.DConv.nD Cert.DConv.τ Cert.DConv.sig) → Buf (Elt Bits) ℓ) (g : Dev Cert.DConv.nD → PrngReg), Pre_DConv m →
    θ_run (Cert.DConv.defs (F := Bits)) (onTc (τ := Cert.DConv.τ) (Cert.DConv.main (F := Bits))) ⟨m, fun _ => 0, g⟩ (fun r => (∀ c : Dev Cert.DConv.nD,
      r.2.mem ((c.tc : Thread Cert.DConv.nD Cert.DConv.τ).loc Cert.DConv.main_arg0) = m ((c.tc : Thread Cert.DConv.nD Cert.DConv.τ).loc Cert.DConv.main_arg0)
      ∧ r.2.mem ((c.tc : Thread Cert.DConv.nD Cert.DConv.τ).loc Cert.DConv.main_arg1) = m ((c.tc : Thread Cert.DConv.nD Cert.DConv.τ).loc Cert.DConv.main_arg1))
      ∧ r.2.sem = fun _ => 0)

def quiescent_DConvIdeal [hDConvIdeal : Cert.DConvIdeal.Facts] : Prop :=
  ∀ (m : (ℓ : Loc Cert.DConvIdeal.nD Cert.DConvIdeal.τ Cert.DConvIdeal.sig) → Buf (Elt Ideal) ℓ) (g : Dev Cert.DConvIdeal.nD → PrngReg), Pre_DConvIdeal m →
    θ_run (Cert.DConvIdeal.defs (F := Ideal)) (onTc (τ := Cert.DConvIdeal.τ) (Cert.DConvIdeal.main (F := Ideal))) ⟨m, fun _ => 0, g⟩ (fun r => (∀ c : Dev Cert.DConvIdeal.nD,
      r.2.mem ((c.tc : Thread Cert.DConvIdeal.nD Cert.DConvIdeal.τ).loc Cert.DConvIdeal.main_arg0) = m ((c.tc : Thread Cert.DConvIdeal.nD Cert.DConvIdeal.τ).loc Cert.DConvIdeal.main_arg0)
      ∧ r.2.mem ((c.tc : Thread Cert.DConvIdeal.nD Cert.DConvIdeal.τ).loc Cert.DConvIdeal.main_arg1) = m ((c.tc : Thread Cert.DConvIdeal.nD Cert.DConvIdeal.τ).loc Cert.DConvIdeal.main_arg1))
      ∧ r.2.sem = fun _ => 0)

def quiescent_DConvRefIdeal [hDConvRefIdeal : Cert.DConvRefIdeal.Facts] : Prop :=
  ∀ (m : (ℓ : Loc Cert.DConvRefIdeal.nD Cert.DConvRefIdeal.τ Cert.DConvRefIdeal.sig) → Buf (Elt Ideal) ℓ) (g : Dev Cert.DConvRefIdeal.nD → PrngReg), Pre_DConvRefIdeal m →
    θ_run (Cert.DConvRefIdeal.defs (F := Ideal)) (onTc (τ := Cert.DConvRefIdeal.τ) (Cert.DConvRefIdeal.main (F := Ideal))) ⟨m, fun _ => 0, g⟩ (fun r => (∀ c : Dev Cert.DConvRefIdeal.nD,
      r.2.mem ((c.tc : Thread Cert.DConvRefIdeal.nD Cert.DConvRefIdeal.τ).loc Cert.DConvRefIdeal.main_arg0) = m ((c.tc : Thread Cert.DConvRefIdeal.nD Cert.DConvRefIdeal.τ).loc Cert.DConvRefIdeal.main_arg0)
      ∧ r.2.mem ((c.tc : Thread Cert.DConvRefIdeal.nD Cert.DConvRefIdeal.τ).loc Cert.DConvRefIdeal.main_arg1) = m ((c.tc : Thread Cert.DConvRefIdeal.nD Cert.DConvRefIdeal.τ).loc Cert.DConvRefIdeal.main_arg1))
      ∧ r.2.sem = fun _ => 0)

def quiescent_DwConvO [hDwConvO : Cert.DwConvO.Facts] : Prop :=
  ∀ (m : (ℓ : Loc Cert.DwConvO.nD Cert.DwConvO.τ Cert.DwConvO.sig) → Buf (Elt Bits) ℓ) (g : Dev Cert.DwConvO.nD → PrngReg), Pre_DwConvO m →
    θ_run (Cert.DwConvO.defs (F := Bits)) (onTc (τ := Cert.DwConvO.τ) (Cert.DwConvO.main (F := Bits))) ⟨m, fun _ => 0, g⟩ (fun r => (∀ c : Dev Cert.DwConvO.nD,
      r.2.mem ((c.tc : Thread Cert.DwConvO.nD Cert.DwConvO.τ).loc Cert.DwConvO.main_arg0) = m ((c.tc : Thread Cert.DwConvO.nD Cert.DwConvO.τ).loc Cert.DwConvO.main_arg0)
      ∧ r.2.mem ((c.tc : Thread Cert.DwConvO.nD Cert.DwConvO.τ).loc Cert.DwConvO.main_arg1) = m ((c.tc : Thread Cert.DwConvO.nD Cert.DwConvO.τ).loc Cert.DwConvO.main_arg1))
      ∧ r.2.sem = fun _ => 0)

def quiescent_DwConvOIdeal [hDwConvOIdeal : Cert.DwConvOIdeal.Facts] : Prop :=
  ∀ (m : (ℓ : Loc Cert.DwConvOIdeal.nD Cert.DwConvOIdeal.τ Cert.DwConvOIdeal.sig) → Buf (Elt Ideal) ℓ) (g : Dev Cert.DwConvOIdeal.nD → PrngReg), Pre_DwConvOIdeal m →
    θ_run (Cert.DwConvOIdeal.defs (F := Ideal)) (onTc (τ := Cert.DwConvOIdeal.τ) (Cert.DwConvOIdeal.main (F := Ideal))) ⟨m, fun _ => 0, g⟩ (fun r => (∀ c : Dev Cert.DwConvOIdeal.nD,
      r.2.mem ((c.tc : Thread Cert.DwConvOIdeal.nD Cert.DwConvOIdeal.τ).loc Cert.DwConvOIdeal.main_arg0) = m ((c.tc : Thread Cert.DwConvOIdeal.nD Cert.DwConvOIdeal.τ).loc Cert.DwConvOIdeal.main_arg0)
      ∧ r.2.mem ((c.tc : Thread Cert.DwConvOIdeal.nD Cert.DwConvOIdeal.τ).loc Cert.DwConvOIdeal.main_arg1) = m ((c.tc : Thread Cert.DwConvOIdeal.nD Cert.DwConvOIdeal.τ).loc Cert.DwConvOIdeal.main_arg1))
      ∧ r.2.sem = fun _ => 0)

def quiescent_DwConvORefIdeal [hDwConvORefIdeal : Cert.DwConvORefIdeal.Facts] : Prop :=
  ∀ (m : (ℓ : Loc Cert.DwConvORefIdeal.nD Cert.DwConvORefIdeal.τ Cert.DwConvORefIdeal.sig) → Buf (Elt Ideal) ℓ) (g : Dev Cert.DwConvORefIdeal.nD → PrngReg), Pre_DwConvORefIdeal m →
    θ_run (Cert.DwConvORefIdeal.defs (F := Ideal)) (onTc (τ := Cert.DwConvORefIdeal.τ) (Cert.DwConvORefIdeal.main (F := Ideal))) ⟨m, fun _ => 0, g⟩ (fun r => (∀ c : Dev Cert.DwConvORefIdeal.nD,
      r.2.mem ((c.tc : Thread Cert.DwConvORefIdeal.nD Cert.DwConvORefIdeal.τ).loc Cert.DwConvORefIdeal.main_arg0) = m ((c.tc : Thread Cert.DwConvORefIdeal.nD Cert.DwConvORefIdeal.τ).loc Cert.DwConvORefIdeal.main_arg0)
      ∧ r.2.mem ((c.tc : Thread Cert.DwConvORefIdeal.nD Cert.DwConvORefIdeal.τ).loc Cert.DwConvORefIdeal.main_arg1) = m ((c.tc : Thread Cert.DwConvORefIdeal.nD Cert.DwConvORefIdeal.τ).loc Cert.DwConvORefIdeal.main_arg1))
      ∧ r.2.sem = fun _ => 0)

def quiescent_GateB [hGateB : Cert.GateB.Facts] : Prop :=
  ∀ (m : (ℓ : Loc Cert.GateB.nD Cert.GateB.τ Cert.GateB.sig) → Buf (Elt Bits) ℓ) (g : Dev Cert.GateB.nD → PrngReg), Pre_GateB m →
    θ_run (Cert.GateB.defs (F := Bits)) (onTc (τ := Cert.GateB.τ) (Cert.GateB.main (F := Bits))) ⟨m, fun _ => 0, g⟩ (fun r => (∀ c : Dev Cert.GateB.nD,
      r.2.mem ((c.tc : Thread Cert.GateB.nD Cert.GateB.τ).loc Cert.GateB.main_arg0) = m ((c.tc : Thread Cert.GateB.nD Cert.GateB.τ).loc Cert.GateB.main_arg0)
      ∧ r.2.mem ((c.tc : Thread Cert.GateB.nD Cert.GateB.τ).loc Cert.GateB.main_arg1) = m ((c.tc : Thread Cert.GateB.nD Cert.GateB.τ).loc Cert.GateB.main_arg1)
      ∧ r.2.mem ((c.tc : Thread Cert.GateB.nD Cert.GateB.τ).loc Cert.GateB.main_arg2) = m ((c.tc : Thread Cert.GateB.nD Cert.GateB.τ).loc Cert.GateB.main_arg2)
      ∧ r.2.mem ((c.tc : Thread Cert.GateB.nD Cert.GateB.τ).loc Cert.GateB.main_arg3) = m ((c.tc : Thread Cert.GateB.nD Cert.GateB.τ).loc Cert.GateB.main_arg3))
      ∧ r.2.sem = fun _ => 0)

def quiescent_GateBIdeal [hGateBIdeal : Cert.GateBIdeal.Facts] : Prop :=
  ∀ (m : (ℓ : Loc Cert.GateBIdeal.nD Cert.GateBIdeal.τ Cert.GateBIdeal.sig) → Buf (Elt Ideal) ℓ) (g : Dev Cert.GateBIdeal.nD → PrngReg), Pre_GateBIdeal m →
    θ_run (Cert.GateBIdeal.defs (F := Ideal)) (onTc (τ := Cert.GateBIdeal.τ) (Cert.GateBIdeal.main (F := Ideal))) ⟨m, fun _ => 0, g⟩ (fun r => (∀ c : Dev Cert.GateBIdeal.nD,
      r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
      ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
      ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2)
      ∧ r.2.mem ((c.tc : Thread Cert.GateBIdeal.nD Cert.GateBIdeal.τ).loc Cert.GateBIdeal.main_arg3) = m ((c.tc : Thread Cert.GateBIdeal.nD Cert.GateBIdeal.τ).loc Cert.GateBIdeal.main_arg3))
      ∧ r.2.sem = fun _ => 0)

def quiescent_GateBRefIdeal [hGateBRefIdeal : Cert.GateBRefIdeal.Facts] : Prop :=
  ∀ (m : (ℓ : Loc Cert.GateBRefIdeal.nD Cert.GateBRefIdeal.τ Cert.GateBRefIdeal.sig) → Buf (Elt Ideal) ℓ) (g : Dev Cert.GateBRefIdeal.nD → PrngReg), Pre_GateBRefIdeal m →
    θ_run (Cert.GateBRefIdeal.defs (F := Ideal)) (onTc (τ := Cert.GateBRefIdeal.τ) (Cert.GateBRefIdeal.main (F := Ideal))) ⟨m, fun _ => 0, g⟩ (fun r => (∀ c : Dev Cert.GateBRefIdeal.nD,
      r.2.mem ((c.tc : Thread Cert.GateBRefIdeal.nD Cert.GateBRefIdeal.τ).loc Cert.GateBRefIdeal.main_arg0) = m ((c.tc : Thread Cert.GateBRefIdeal.nD Cert.GateBRefIdeal.τ).loc Cert.GateBRefIdeal.main_arg0)
      ∧ r.2.mem ((c.tc : Thread Cert.GateBRefIdeal.nD Cert.GateBRefIdeal.τ).loc Cert.GateBRefIdeal.main_arg1) = m ((c.tc : Thread Cert.GateBRefIdeal.nD Cert.GateBRefIdeal.τ).loc Cert.GateBRefIdeal.main_arg1)
      ∧ r.2.mem ((c.tc : Thread Cert.GateBRefIdeal.nD Cert.GateBRefIdeal.τ).loc Cert.GateBRefIdeal.main_arg2) = m ((c.tc : Thread Cert.GateBRefIdeal.nD Cert.GateBRefIdeal.τ).loc Cert.GateBRefIdeal.main_arg2)
      ∧ r.2.mem ((c.tc : Thread Cert.GateBRefIdeal.nD Cert.GateBRefIdeal.τ).loc Cert.GateBRefIdeal.main_arg3) = m ((c.tc : Thread Cert.GateBRefIdeal.nD Cert.GateBRefIdeal.τ).loc Cert.GateBRefIdeal.main_arg3))
      ∧ r.2.sem = fun _ => 0)

def quiescent_GluB [hGluB : Cert.GluB.Facts] : Prop :=
  ∀ (m : (ℓ : Loc Cert.GluB.nD Cert.GluB.τ Cert.GluB.sig) → Buf (Elt Bits) ℓ) (g : Dev Cert.GluB.nD → PrngReg), Pre_GluB m →
    θ_run (Cert.GluB.defs (F := Bits)) (onTc (τ := Cert.GluB.τ) (Cert.GluB.main (F := Bits))) ⟨m, fun _ => 0, g⟩ (fun r => (∀ c : Dev Cert.GluB.nD,
      r.2.mem ((c.tc : Thread Cert.GluB.nD Cert.GluB.τ).loc Cert.GluB.main_arg0) = m ((c.tc : Thread Cert.GluB.nD Cert.GluB.τ).loc Cert.GluB.main_arg0)
      ∧ r.2.mem ((c.tc : Thread Cert.GluB.nD Cert.GluB.τ).loc Cert.GluB.main_arg1) = m ((c.tc : Thread Cert.GluB.nD Cert.GluB.τ).loc Cert.GluB.main_arg1)
      ∧ r.2.mem ((c.tc : Thread Cert.GluB.nD Cert.GluB.τ).loc Cert.GluB.main_arg2) = m ((c.tc : Thread Cert.GluB.nD Cert.GluB.τ).loc Cert.GluB.main_arg2))
      ∧ r.2.sem = fun _ => 0)

def quiescent_GluBIdeal [hGluBIdeal : Cert.GluBIdeal.Facts] : Prop :=
  ∀ (m : (ℓ : Loc Cert.GluBIdeal.nD Cert.GluBIdeal.τ Cert.GluBIdeal.sig) → Buf (Elt Ideal) ℓ) (g : Dev Cert.GluBIdeal.nD → PrngReg), Pre_GluBIdeal m →
    θ_run (Cert.GluBIdeal.defs (F := Ideal)) (onTc (τ := Cert.GluBIdeal.τ) (Cert.GluBIdeal.main (F := Ideal))) ⟨m, fun _ => 0, g⟩ (fun r => (∀ c : Dev Cert.GluBIdeal.nD,
      r.2.mem ((c.tc : Thread Cert.GluBIdeal.nD Cert.GluBIdeal.τ).loc Cert.GluBIdeal.main_arg0) = m ((c.tc : Thread Cert.GluBIdeal.nD Cert.GluBIdeal.τ).loc Cert.GluBIdeal.main_arg0)
      ∧ r.2.mem ((c.tc : Thread Cert.GluBIdeal.nD Cert.GluBIdeal.τ).loc Cert.GluBIdeal.main_arg1) = m ((c.tc : Thread Cert.GluBIdeal.nD Cert.GluBIdeal.τ).loc Cert.GluBIdeal.main_arg1)
      ∧ r.2.mem ((c.tc : Thread Cert.GluBIdeal.nD Cert.GluBIdeal.τ).loc Cert.GluBIdeal.main_arg2) = m ((c.tc : Thread Cert.GluBIdeal.nD Cert.GluBIdeal.τ).loc Cert.GluBIdeal.main_arg2))
      ∧ r.2.sem = fun _ => 0)

def quiescent_GluBRefIdeal [hGluBRefIdeal : Cert.GluBRefIdeal.Facts] : Prop :=
  ∀ (m : (ℓ : Loc Cert.GluBRefIdeal.nD Cert.GluBRefIdeal.τ Cert.GluBRefIdeal.sig) → Buf (Elt Ideal) ℓ) (g : Dev Cert.GluBRefIdeal.nD → PrngReg), Pre_GluBRefIdeal m →
    θ_run (Cert.GluBRefIdeal.defs (F := Ideal)) (onTc (τ := Cert.GluBRefIdeal.τ) (Cert.GluBRefIdeal.main (F := Ideal))) ⟨m, fun _ => 0, g⟩ (fun r => (∀ c : Dev Cert.GluBRefIdeal.nD,
      r.2.mem ((c.tc : Thread Cert.GluBRefIdeal.nD Cert.GluBRefIdeal.τ).loc Cert.GluBRefIdeal.main_arg0) = m ((c.tc : Thread Cert.GluBRefIdeal.nD Cert.GluBRefIdeal.τ).loc Cert.GluBRefIdeal.main_arg0)
      ∧ r.2.mem ((c.tc : Thread Cert.GluBRefIdeal.nD Cert.GluBRefIdeal.τ).loc Cert.GluBRefIdeal.main_arg1) = m ((c.tc : Thread Cert.GluBRefIdeal.nD Cert.GluBRefIdeal.τ).loc Cert.GluBRefIdeal.main_arg1)
      ∧ r.2.mem ((c.tc : Thread Cert.GluBRefIdeal.nD Cert.GluBRefIdeal.τ).loc Cert.GluBRefIdeal.main_arg2) = m ((c.tc : Thread Cert.GluBRefIdeal.nD Cert.GluBRefIdeal.τ).loc Cert.GluBRefIdeal.main_arg2))
      ∧ r.2.sem = fun _ => 0)

def quiescent_SwigluB [hSwigluB : Cert.SwigluB.Facts] : Prop :=
  ∀ (m : (ℓ : Loc Cert.SwigluB.nD Cert.SwigluB.τ Cert.SwigluB.sig) → Buf (Elt Bits) ℓ) (g : Dev Cert.SwigluB.nD → PrngReg), Pre_SwigluB m →
    θ_run (Cert.SwigluB.defs (F := Bits)) (onTc (τ := Cert.SwigluB.τ) (Cert.SwigluB.main (F := Bits))) ⟨m, fun _ => 0, g⟩ (fun r => (∀ c : Dev Cert.SwigluB.nD,
      r.2.mem ((c.tc : Thread Cert.SwigluB.nD Cert.SwigluB.τ).loc Cert.SwigluB.main_arg0) = m ((c.tc : Thread Cert.SwigluB.nD Cert.SwigluB.τ).loc Cert.SwigluB.main_arg0)
      ∧ r.2.mem ((c.tc : Thread Cert.SwigluB.nD Cert.SwigluB.τ).loc Cert.SwigluB.main_arg1) = m ((c.tc : Thread Cert.SwigluB.nD Cert.SwigluB.τ).loc Cert.SwigluB.main_arg1))
      ∧ r.2.sem = fun _ => 0)

def quiescent_SwigluBIdeal [hSwigluBIdeal : Cert.SwigluBIdeal.Facts] : Prop :=
  ∀ (m : (ℓ : Loc Cert.SwigluBIdeal.nD Cert.SwigluBIdeal.τ Cert.SwigluBIdeal.sig) → Buf (Elt Ideal) ℓ) (g : Dev Cert.SwigluBIdeal.nD → PrngReg), Pre_SwigluBIdeal m →
    θ_run (Cert.SwigluBIdeal.defs (F := Ideal)) (onTc (τ := Cert.SwigluBIdeal.τ) (Cert.SwigluBIdeal.main (F := Ideal))) ⟨m, fun _ => 0, g⟩ (fun r => (∀ c : Dev Cert.SwigluBIdeal.nD,
      r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
      ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1))
      ∧ r.2.sem = fun _ => 0)

def quiescent_SwigluBIdeal_pre_finite_swiglu [hSwigluBIdeal : Cert.SwigluBIdeal.Facts] [hPre_finite_swiglu : Cert.Pre_finite_swiglu.Facts] : Prop :=
  ∀ (m : (ℓ : Loc Cert.SwigluBIdeal.nD Cert.SwigluBIdeal.τ Cert.SwigluBIdeal.sig) → Buf (Elt Ideal) ℓ) (g : Dev Cert.SwigluBIdeal.nD → PrngReg), Pre_SwigluBIdeal_finite_swiglu m →
    θ_run (Cert.SwigluBIdeal.defs (F := Ideal)) (onTc (τ := Cert.SwigluBIdeal.τ) (Cert.SwigluBIdeal.main (F := Ideal))) ⟨m, fun _ => 0, g⟩ (fun r => (∀ c : Dev Cert.SwigluBIdeal.nD,
      r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
      ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1))
      ∧ r.2.sem = fun _ => 0)

def quiescent_SwigluBRefIdeal [hSwigluBRefIdeal : Cert.SwigluBRefIdeal.Facts] : Prop :=
  ∀ (m : (ℓ : Loc Cert.SwigluBRefIdeal.nD Cert.SwigluBRefIdeal.τ Cert.SwigluBRefIdeal.sig) → Buf (Elt Ideal) ℓ) (g : Dev Cert.SwigluBRefIdeal.nD → PrngReg), Pre_SwigluBRefIdeal m →
    θ_run (Cert.SwigluBRefIdeal.defs (F := Ideal)) (onTc (τ := Cert.SwigluBRefIdeal.τ) (Cert.SwigluBRefIdeal.main (F := Ideal))) ⟨m, fun _ => 0, g⟩ (fun r => (∀ c : Dev Cert.SwigluBRefIdeal.nD,
      r.2.mem ((c.tc : Thread Cert.SwigluBRefIdeal.nD Cert.SwigluBRefIdeal.τ).loc Cert.SwigluBRefIdeal.main_arg0) = m ((c.tc : Thread Cert.SwigluBRefIdeal.nD Cert.SwigluBRefIdeal.τ).loc Cert.SwigluBRefIdeal.main_arg0)
      ∧ r.2.mem ((c.tc : Thread Cert.SwigluBRefIdeal.nD Cert.SwigluBRefIdeal.τ).loc Cert.SwigluBRefIdeal.main_arg1) = m ((c.tc : Thread Cert.SwigluBRefIdeal.nD Cert.SwigluBRefIdeal.τ).loc Cert.SwigluBRefIdeal.main_arg1))
      ∧ r.2.sem = fun _ => 0)

def quiescent_SwigluBRefIdeal_pre_finite_swiglu [hSwigluBRefIdeal : Cert.SwigluBRefIdeal.Facts] [hPre_finite_swiglu : Cert.Pre_finite_swiglu.Facts] : Prop :=
  ∀ (m : (ℓ : Loc Cert.SwigluBRefIdeal.nD Cert.SwigluBRefIdeal.τ Cert.SwigluBRefIdeal.sig) → Buf (Elt Ideal) ℓ) (g : Dev Cert.SwigluBRefIdeal.nD → PrngReg), Pre_SwigluBRefIdeal_finite_swiglu m →
    θ_run (Cert.SwigluBRefIdeal.defs (F := Ideal)) (onTc (τ := Cert.SwigluBRefIdeal.τ) (Cert.SwigluBRefIdeal.main (F := Ideal))) ⟨m, fun _ => 0, g⟩ (fun r => (∀ c : Dev Cert.SwigluBRefIdeal.nD,
      r.2.mem ((c.tc : Thread Cert.SwigluBRefIdeal.nD Cert.SwigluBRefIdeal.τ).loc Cert.SwigluBRefIdeal.main_arg0) = m ((c.tc : Thread Cert.SwigluBRefIdeal.nD Cert.SwigluBRefIdeal.τ).loc Cert.SwigluBRefIdeal.main_arg0)
      ∧ r.2.mem ((c.tc : Thread Cert.SwigluBRefIdeal.nD Cert.SwigluBRefIdeal.τ).loc Cert.SwigluBRefIdeal.main_arg1) = m ((c.tc : Thread Cert.SwigluBRefIdeal.nD Cert.SwigluBRefIdeal.τ).loc Cert.SwigluBRefIdeal.main_arg1))
      ∧ r.2.sem = fun _ => 0)

def quiescent_SwigluF [hSwigluF : Cert.SwigluF.Facts] : Prop :=
  ∀ (m : (ℓ : Loc Cert.SwigluF.nD Cert.SwigluF.τ Cert.SwigluF.sig) → Buf (Elt Bits) ℓ) (g : Dev Cert.SwigluF.nD → PrngReg), Pre_SwigluF m →
    θ_run (Cert.SwigluF.defs (F := Bits)) (onTc (τ := Cert.SwigluF.τ) (Cert.SwigluF.main (F := Bits))) ⟨m, fun _ => 0, g⟩ (fun r => (∀ c : Dev Cert.SwigluF.nD,
      r.2.mem ((c.tc : Thread Cert.SwigluF.nD Cert.SwigluF.τ).loc Cert.SwigluF.main_arg0) = m ((c.tc : Thread Cert.SwigluF.nD Cert.SwigluF.τ).loc Cert.SwigluF.main_arg0))
      ∧ r.2.sem = fun _ => 0)

def quiescent_SwigluFIdeal [hSwigluFIdeal : Cert.SwigluFIdeal.Facts] : Prop :=
  ∀ (m : (ℓ : Loc Cert.SwigluFIdeal.nD Cert.SwigluFIdeal.τ Cert.SwigluFIdeal.sig) → Buf (Elt Ideal) ℓ) (g : Dev Cert.SwigluFIdeal.nD → PrngReg), Pre_SwigluFIdeal m →
    θ_run (Cert.SwigluFIdeal.defs (F := Ideal)) (onTc (τ := Cert.SwigluFIdeal.τ) (Cert.SwigluFIdeal.main (F := Ideal))) ⟨m, fun _ => 0, g⟩ (fun r => (∀ c : Dev Cert.SwigluFIdeal.nD,
      r.2.mem ((c.tc : Thread Cert.SwigluFIdeal.nD Cert.SwigluFIdeal.τ).loc Cert.SwigluFIdeal.main_arg0) = m ((c.tc : Thread Cert.SwigluFIdeal.nD Cert.SwigluFIdeal.τ).loc Cert.SwigluFIdeal.main_arg0))
      ∧ r.2.sem = fun _ => 0)

def quiescent_SwigluFRefIdeal [hSwigluFRefIdeal : Cert.SwigluFRefIdeal.Facts] : Prop :=
  ∀ (m : (ℓ : Loc Cert.SwigluFRefIdeal.nD Cert.SwigluFRefIdeal.τ Cert.SwigluFRefIdeal.sig) → Buf (Elt Ideal) ℓ) (g : Dev Cert.SwigluFRefIdeal.nD → PrngReg), Pre_SwigluFRefIdeal m →
    θ_run (Cert.SwigluFRefIdeal.defs (F := Ideal)) (onTc (τ := Cert.SwigluFRefIdeal.τ) (Cert.SwigluFRefIdeal.main (F := Ideal))) ⟨m, fun _ => 0, g⟩ (fun r => (∀ c : Dev Cert.SwigluFRefIdeal.nD,
      r.2.mem ((c.tc : Thread Cert.SwigluFRefIdeal.nD Cert.SwigluFRefIdeal.τ).loc Cert.SwigluFRefIdeal.main_arg0) = m ((c.tc : Thread Cert.SwigluFRefIdeal.nD Cert.SwigluFRefIdeal.τ).loc Cert.SwigluFRefIdeal.main_arg0))
      ∧ r.2.sem = fun _ => 0)

def quiescent_GateF [hGateF : Cert.GateF.Facts] : Prop :=
  ∀ (m : (ℓ : Loc Cert.GateF.nD Cert.GateF.τ Cert.GateF.sig) → Buf (Elt Bits) ℓ) (g : Dev Cert.GateF.nD → PrngReg), Pre_GateF m →
    θ_run (Cert.GateF.defs (F := Bits)) (onTc (τ := Cert.GateF.τ) (Cert.GateF.main (F := Bits))) ⟨m, fun _ => 0, g⟩ (fun r => (∀ c : Dev Cert.GateF.nD,
      r.2.mem ((c.tc : Thread Cert.GateF.nD Cert.GateF.τ).loc Cert.GateF.main_arg0) = m ((c.tc : Thread Cert.GateF.nD Cert.GateF.τ).loc Cert.GateF.main_arg0)
      ∧ r.2.mem ((c.tc : Thread Cert.GateF.nD Cert.GateF.τ).loc Cert.GateF.main_arg1) = m ((c.tc : Thread Cert.GateF.nD Cert.GateF.τ).loc Cert.GateF.main_arg1))
      ∧ r.2.sem = fun _ => 0)

def quiescent_GateFIdeal [hGateFIdeal : Cert.GateFIdeal.Facts] : Prop :=
  ∀ (m : (ℓ : Loc Cert.GateFIdeal.nD Cert.GateFIdeal.τ Cert.GateFIdeal.sig) → Buf (Elt Ideal) ℓ) (g : Dev Cert.GateFIdeal.nD → PrngReg), Pre_GateFIdeal m →
    θ_run (Cert.GateFIdeal.defs (F := Ideal)) (onTc (τ := Cert.GateFIdeal.τ) (Cert.GateFIdeal.main (F := Ideal))) ⟨m, fun _ => 0, g⟩ (fun r => (∀ c : Dev Cert.GateFIdeal.nD,
      r.2.mem ((c.tc : Thread Cert.GateFIdeal.nD Cert.GateFIdeal.τ).loc Cert.GateFIdeal.main_arg0) = m ((c.tc : Thread Cert.GateFIdeal.nD Cert.GateFIdeal.τ).loc Cert.GateFIdeal.main_arg0)
      ∧ r.2.mem ((c.tc : Thread Cert.GateFIdeal.nD Cert.GateFIdeal.τ).loc Cert.GateFIdeal.main_arg1) = m ((c.tc : Thread Cert.GateFIdeal.nD Cert.GateFIdeal.τ).loc Cert.GateFIdeal.main_arg1))
      ∧ r.2.sem = fun _ => 0)

def quiescent_GateFRefIdeal [hGateFRefIdeal : Cert.GateFRefIdeal.Facts] : Prop :=
  ∀ (m : (ℓ : Loc Cert.GateFRefIdeal.nD Cert.GateFRefIdeal.τ Cert.GateFRefIdeal.sig) → Buf (Elt Ideal) ℓ) (g : Dev Cert.GateFRefIdeal.nD → PrngReg), Pre_GateFRefIdeal m →
    θ_run (Cert.GateFRefIdeal.defs (F := Ideal)) (onTc (τ := Cert.GateFRefIdeal.τ) (Cert.GateFRefIdeal.main (F := Ideal))) ⟨m, fun _ => 0, g⟩ (fun r => (∀ c : Dev Cert.GateFRefIdeal.nD,
      r.2.mem ((c.tc : Thread Cert.GateFRefIdeal.nD Cert.GateFRefIdeal.τ).loc Cert.GateFRefIdeal.main_arg0) = m ((c.tc : Thread Cert.GateFRefIdeal.nD Cert.GateFRefIdeal.τ).loc Cert.GateFRefIdeal.main_arg0)
      ∧ r.2.mem ((c.tc : Thread Cert.GateFRefIdeal.nD Cert.GateFRefIdeal.τ).loc Cert.GateFRefIdeal.main_arg1) = m ((c.tc : Thread Cert.GateFRefIdeal.nD Cert.GateFRefIdeal.τ).loc Cert.GateFRefIdeal.main_arg1))
      ∧ r.2.sem = fun _ => 0)

def quiescent_RmsB [hRmsB : Cert.RmsB.Facts] : Prop :=
  ∀ (m : (ℓ : Loc Cert.RmsB.nD Cert.RmsB.τ Cert.RmsB.sig) → Buf (Elt Bits) ℓ) (g : Dev Cert.RmsB.nD → PrngReg), Pre_RmsB m →
    θ_run (Cert.RmsB.defs (F := Bits)) (onTc (τ := Cert.RmsB.τ) (Cert.RmsB.main (F := Bits))) ⟨m, fun _ => 0, g⟩ (fun r => (∀ c : Dev Cert.RmsB.nD,
      r.2.mem ((c.tc : Thread Cert.RmsB.nD Cert.RmsB.τ).loc Cert.RmsB.main_arg0) = m ((c.tc : Thread Cert.RmsB.nD Cert.RmsB.τ).loc Cert.RmsB.main_arg0)
      ∧ r.2.mem ((c.tc : Thread Cert.RmsB.nD Cert.RmsB.τ).loc Cert.RmsB.main_arg1) = m ((c.tc : Thread Cert.RmsB.nD Cert.RmsB.τ).loc Cert.RmsB.main_arg1)
      ∧ r.2.mem ((c.tc : Thread Cert.RmsB.nD Cert.RmsB.τ).loc Cert.RmsB.main_arg2) = m ((c.tc : Thread Cert.RmsB.nD Cert.RmsB.τ).loc Cert.RmsB.main_arg2)
      ∧ r.2.mem ((c.tc : Thread Cert.RmsB.nD Cert.RmsB.τ).loc Cert.RmsB.main_arg3) = m ((c.tc : Thread Cert.RmsB.nD Cert.RmsB.τ).loc Cert.RmsB.main_arg3))
      ∧ r.2.sem = fun _ => 0)

def quiescent_RmsBIdeal [hRmsBIdeal : Cert.RmsBIdeal.Facts] : Prop :=
  ∀ (m : (ℓ : Loc Cert.RmsBIdeal.nD Cert.RmsBIdeal.τ Cert.RmsBIdeal.sig) → Buf (Elt Ideal) ℓ) (g : Dev Cert.RmsBIdeal.nD → PrngReg), Pre_RmsBIdeal m →
    θ_run (Cert.RmsBIdeal.defs (F := Ideal)) (onTc (τ := Cert.RmsBIdeal.τ) (Cert.RmsBIdeal.main (F := Ideal))) ⟨m, fun _ => 0, g⟩ (fun r => (∀ c : Dev Cert.RmsBIdeal.nD,
      r.2.mem ((c.tc : Thread Cert.RmsBIdeal.nD Cert.RmsBIdeal.τ).loc Cert.RmsBIdeal.main_arg0) = m ((c.tc : Thread Cert.RmsBIdeal.nD Cert.RmsBIdeal.τ).loc Cert.RmsBIdeal.main_arg0)
      ∧ r.2.mem ((c.tc : Thread Cert.RmsBIdeal.nD Cert.RmsBIdeal.τ).loc Cert.RmsBIdeal.main_arg1) = m ((c.tc : Thread Cert.RmsBIdeal.nD Cert.RmsBIdeal.τ).loc Cert.RmsBIdeal.main_arg1)
      ∧ r.2.mem ((c.tc : Thread Cert.RmsBIdeal.nD Cert.RmsBIdeal.τ).loc Cert.RmsBIdeal.main_arg2) = m ((c.tc : Thread Cert.RmsBIdeal.nD Cert.RmsBIdeal.τ).loc Cert.RmsBIdeal.main_arg2)
      ∧ r.2.mem ((c.tc : Thread Cert.RmsBIdeal.nD Cert.RmsBIdeal.τ).loc Cert.RmsBIdeal.main_arg3) = m ((c.tc : Thread Cert.RmsBIdeal.nD Cert.RmsBIdeal.τ).loc Cert.RmsBIdeal.main_arg3))
      ∧ r.2.sem = fun _ => 0)

def quiescent_RmsBIdeal_pre_finite_rms [hRmsBIdeal : Cert.RmsBIdeal.Facts] [hPre_finite_rms : Cert.Pre_finite_rms.Facts] : Prop :=
  ∀ (m : (ℓ : Loc Cert.RmsBIdeal.nD Cert.RmsBIdeal.τ Cert.RmsBIdeal.sig) → Buf (Elt Ideal) ℓ) (g : Dev Cert.RmsBIdeal.nD → PrngReg), Pre_RmsBIdeal_finite_rms m →
    θ_run (Cert.RmsBIdeal.defs (F := Ideal)) (onTc (τ := Cert.RmsBIdeal.τ) (Cert.RmsBIdeal.main (F := Ideal))) ⟨m, fun _ => 0, g⟩ (fun r => (∀ c : Dev Cert.RmsBIdeal.nD,
      r.2.mem ((c.tc : Thread Cert.RmsBIdeal.nD Cert.RmsBIdeal.τ).loc Cert.RmsBIdeal.main_arg0) = m ((c.tc : Thread Cert.RmsBIdeal.nD Cert.RmsBIdeal.τ).loc Cert.RmsBIdeal.main_arg0)
      ∧ r.2.mem ((c.tc : Thread Cert.RmsBIdeal.nD Cert.RmsBIdeal.τ).loc Cert.RmsBIdeal.main_arg1) = m ((c.tc : Thread Cert.RmsBIdeal.nD Cert.RmsBIdeal.τ).loc Cert.RmsBIdeal.main_arg1)
      ∧ r.2.mem ((c.tc : Thread Cert.RmsBIdeal.nD Cert.RmsBIdeal.τ).loc Cert.RmsBIdeal.main_arg2) = m ((c.tc : Thread Cert.RmsBIdeal.nD Cert.RmsBIdeal.τ).loc Cert.RmsBIdeal.main_arg2)
      ∧ r.2.mem ((c.tc : Thread Cert.RmsBIdeal.nD Cert.RmsBIdeal.τ).loc Cert.RmsBIdeal.main_arg3) = m ((c.tc : Thread Cert.RmsBIdeal.nD Cert.RmsBIdeal.τ).loc Cert.RmsBIdeal.main_arg3))
      ∧ r.2.sem = fun _ => 0)

def quiescent_RmsBRefIdeal [hRmsBRefIdeal : Cert.RmsBRefIdeal.Facts] : Prop :=
  ∀ (m : (ℓ : Loc Cert.RmsBRefIdeal.nD Cert.RmsBRefIdeal.τ Cert.RmsBRefIdeal.sig) → Buf (Elt Ideal) ℓ) (g : Dev Cert.RmsBRefIdeal.nD → PrngReg), Pre_RmsBRefIdeal m →
    θ_run (Cert.RmsBRefIdeal.defs (F := Ideal)) (onTc (τ := Cert.RmsBRefIdeal.τ) (Cert.RmsBRefIdeal.main (F := Ideal))) ⟨m, fun _ => 0, g⟩ (fun r => (∀ c : Dev Cert.RmsBRefIdeal.nD,
      r.2.mem ((c.tc : Thread Cert.RmsBRefIdeal.nD Cert.RmsBRefIdeal.τ).loc Cert.RmsBRefIdeal.main_arg0) = m ((c.tc : Thread Cert.RmsBRefIdeal.nD Cert.RmsBRefIdeal.τ).loc Cert.RmsBRefIdeal.main_arg0)
      ∧ r.2.mem ((c.tc : Thread Cert.RmsBRefIdeal.nD Cert.RmsBRefIdeal.τ).loc Cert.RmsBRefIdeal.main_arg1) = m ((c.tc : Thread Cert.RmsBRefIdeal.nD Cert.RmsBRefIdeal.τ).loc Cert.RmsBRefIdeal.main_arg1)
      ∧ r.2.mem ((c.tc : Thread Cert.RmsBRefIdeal.nD Cert.RmsBRefIdeal.τ).loc Cert.RmsBRefIdeal.main_arg2) = m ((c.tc : Thread Cert.RmsBRefIdeal.nD Cert.RmsBRefIdeal.τ).loc Cert.RmsBRefIdeal.main_arg2)
      ∧ r.2.mem ((c.tc : Thread Cert.RmsBRefIdeal.nD Cert.RmsBRefIdeal.τ).loc Cert.RmsBRefIdeal.main_arg3) = m ((c.tc : Thread Cert.RmsBRefIdeal.nD Cert.RmsBRefIdeal.τ).loc Cert.RmsBRefIdeal.main_arg3))
      ∧ r.2.sem = fun _ => 0)

def quiescent_RmsBRefIdeal_pre_finite_rms [hRmsBRefIdeal : Cert.RmsBRefIdeal.Facts] [hPre_finite_rms : Cert.Pre_finite_rms.Facts] : Prop :=
  ∀ (m : (ℓ : Loc Cert.RmsBRefIdeal.nD Cert.RmsBRefIdeal.τ Cert.RmsBRefIdeal.sig) → Buf (Elt Ideal) ℓ) (g : Dev Cert.RmsBRefIdeal.nD → PrngReg), Pre_RmsBRefIdeal_finite_rms m →
    θ_run (Cert.RmsBRefIdeal.defs (F := Ideal)) (onTc (τ := Cert.RmsBRefIdeal.τ) (Cert.RmsBRefIdeal.main (F := Ideal))) ⟨m, fun _ => 0, g⟩ (fun r => (∀ c : Dev Cert.RmsBRefIdeal.nD,
      r.2.mem ((c.tc : Thread Cert.RmsBRefIdeal.nD Cert.RmsBRefIdeal.τ).loc Cert.RmsBRefIdeal.main_arg0) = m ((c.tc : Thread Cert.RmsBRefIdeal.nD Cert.RmsBRefIdeal.τ).loc Cert.RmsBRefIdeal.main_arg0)
      ∧ r.2.mem ((c.tc : Thread Cert.RmsBRefIdeal.nD Cert.RmsBRefIdeal.τ).loc Cert.RmsBRefIdeal.main_arg1) = m ((c.tc : Thread Cert.RmsBRefIdeal.nD Cert.RmsBRefIdeal.τ).loc Cert.RmsBRefIdeal.main_arg1)
      ∧ r.2.mem ((c.tc : Thread Cert.RmsBRefIdeal.nD Cert.RmsBRefIdeal.τ).loc Cert.RmsBRefIdeal.main_arg2) = m ((c.tc : Thread Cert.RmsBRefIdeal.nD Cert.RmsBRefIdeal.τ).loc Cert.RmsBRefIdeal.main_arg2)
      ∧ r.2.mem ((c.tc : Thread Cert.RmsBRefIdeal.nD Cert.RmsBRefIdeal.τ).loc Cert.RmsBRefIdeal.main_arg3) = m ((c.tc : Thread Cert.RmsBRefIdeal.nD Cert.RmsBRefIdeal.τ).loc Cert.RmsBRefIdeal.main_arg3))
      ∧ r.2.sem = fun _ => 0)

def quiescent_RmsF [hRmsF : Cert.RmsF.Facts] : Prop :=
  ∀ (m : (ℓ : Loc Cert.RmsF.nD Cert.RmsF.τ Cert.RmsF.sig) → Buf (Elt Bits) ℓ) (g : Dev Cert.RmsF.nD → PrngReg), Pre_RmsF m →
    θ_run (Cert.RmsF.defs (F := Bits)) (onTc (τ := Cert.RmsF.τ) (Cert.RmsF.main (F := Bits))) ⟨m, fun _ => 0, g⟩ (fun r => (∀ c : Dev Cert.RmsF.nD,
      r.2.mem ((c.tc : Thread Cert.RmsF.nD Cert.RmsF.τ).loc Cert.RmsF.main_arg0) = m ((c.tc : Thread Cert.RmsF.nD Cert.RmsF.τ).loc Cert.RmsF.main_arg0)
      ∧ r.2.mem ((c.tc : Thread Cert.RmsF.nD Cert.RmsF.τ).loc Cert.RmsF.main_arg1) = m ((c.tc : Thread Cert.RmsF.nD Cert.RmsF.τ).loc Cert.RmsF.main_arg1))
      ∧ r.2.sem = fun _ => 0)

def quiescent_RmsFIdeal [hRmsFIdeal : Cert.RmsFIdeal.Facts] : Prop :=
  ∀ (m : (ℓ : Loc Cert.RmsFIdeal.nD Cert.RmsFIdeal.τ Cert.RmsFIdeal.sig) → Buf (Elt Ideal) ℓ) (g : Dev Cert.RmsFIdeal.nD → PrngReg), Pre_RmsFIdeal m →
    θ_run (Cert.RmsFIdeal.defs (F := Ideal)) (onTc (τ := Cert.RmsFIdeal.τ) (Cert.RmsFIdeal.main (F := Ideal))) ⟨m, fun _ => 0, g⟩ (fun r => (∀ c : Dev Cert.RmsFIdeal.nD,
      r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
      ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ r.2.sem = fun _ => 0)

def quiescent_RmsFRefIdeal [hRmsFRefIdeal : Cert.RmsFRefIdeal.Facts] : Prop :=
  ∀ (m : (ℓ : Loc Cert.RmsFRefIdeal.nD Cert.RmsFRefIdeal.τ Cert.RmsFRefIdeal.sig) → Buf (Elt Ideal) ℓ) (g : Dev Cert.RmsFRefIdeal.nD → PrngReg), Pre_RmsFRefIdeal m →
    θ_run (Cert.RmsFRefIdeal.defs (F := Ideal)) (onTc (τ := Cert.RmsFRefIdeal.τ) (Cert.RmsFRefIdeal.main (F := Ideal))) ⟨m, fun _ => 0, g⟩ (fun r => (∀ c : Dev Cert.RmsFRefIdeal.nD,
      r.2.mem ((c.tc : Thread Cert.RmsFRefIdeal.nD Cert.RmsFRefIdeal.τ).loc Cert.RmsFRefIdeal.main_arg0) = m ((c.tc : Thread Cert.RmsFRefIdeal.nD Cert.RmsFRefIdeal.τ).loc Cert.RmsFRefIdeal.main_arg0)
      ∧ r.2.mem ((c.tc : Thread Cert.RmsFRefIdeal.nD Cert.RmsFRefIdeal.τ).loc Cert.RmsFRefIdeal.main_arg1) = m ((c.tc : Thread Cert.RmsFRefIdeal.nD Cert.RmsFRefIdeal.τ).loc Cert.RmsFRefIdeal.main_arg1))
      ∧ r.2.sem = fun _ => 0)

def quiescent_LnB [hLnB : Cert.LnB.Facts] : Prop :=
  ∀ (m : (ℓ : Loc Cert.LnB.nD Cert.LnB.τ Cert.LnB.sig) → Buf (Elt Bits) ℓ) (g : Dev Cert.LnB.nD → PrngReg), Pre_LnB m →
    θ_run (Cert.LnB.defs (F := Bits)) (onTc (τ := Cert.LnB.τ) (Cert.LnB.main (F := Bits))) ⟨m, fun _ => 0, g⟩ (fun r => (∀ c : Dev Cert.LnB.nD,
      r.2.mem ((c.tc : Thread Cert.LnB.nD Cert.LnB.τ).loc Cert.LnB.main_arg0) = m ((c.tc : Thread Cert.LnB.nD Cert.LnB.τ).loc Cert.LnB.main_arg0)
      ∧ r.2.mem ((c.tc : Thread Cert.LnB.nD Cert.LnB.τ).loc Cert.LnB.main_arg1) = m ((c.tc : Thread Cert.LnB.nD Cert.LnB.τ).loc Cert.LnB.main_arg1)
      ∧ r.2.mem ((c.tc : Thread Cert.LnB.nD Cert.LnB.τ).loc Cert.LnB.main_arg2) = m ((c.tc : Thread Cert.LnB.nD Cert.LnB.τ).loc Cert.LnB.main_arg2)
      ∧ r.2.mem ((c.tc : Thread Cert.LnB.nD Cert.LnB.τ).loc Cert.LnB.main_arg3) = m ((c.tc : Thread Cert.LnB.nD Cert.LnB.τ).loc Cert.LnB.main_arg3))
      ∧ r.2.sem = fun _ => 0)

def quiescent_LnBIdeal [hLnBIdeal : Cert.LnBIdeal.Facts] : Prop :=
  ∀ (m : (ℓ : Loc Cert.LnBIdeal.nD Cert.LnBIdeal.τ Cert.LnBIdeal.sig) → Buf (Elt Ideal) ℓ) (g : Dev Cert.LnBIdeal.nD → PrngReg), Pre_LnBIdeal m →
    θ_run (Cert.LnBIdeal.defs (F := Ideal)) (onTc (τ := Cert.LnBIdeal.τ) (Cert.LnBIdeal.main (F := Ideal))) ⟨m, fun _ => 0, g⟩ (fun r => (∀ c : Dev Cert.LnBIdeal.nD,
      r.2.mem ((c.tc : Thread Cert.LnBIdeal.nD Cert.LnBIdeal.τ).loc Cert.LnBIdeal.main_arg0) = m ((c.tc : Thread Cert.LnBIdeal.nD Cert.LnBIdeal.τ).loc Cert.LnBIdeal.main_arg0)
      ∧ r.2.mem ((c.tc : Thread Cert.LnBIdeal.nD Cert.LnBIdeal.τ).loc Cert.LnBIdeal.main_arg1) = m ((c.tc : Thread Cert.LnBIdeal.nD Cert.LnBIdeal.τ).loc Cert.LnBIdeal.main_arg1)
      ∧ r.2.mem ((c.tc : Thread Cert.LnBIdeal.nD Cert.LnBIdeal.τ).loc Cert.LnBIdeal.main_arg2) = m ((c.tc : Thread Cert.LnBIdeal.nD Cert.LnBIdeal.τ).loc Cert.LnBIdeal.main_arg2)
      ∧ r.2.mem ((c.tc : Thread Cert.LnBIdeal.nD Cert.LnBIdeal.τ).loc Cert.LnBIdeal.main_arg3) = m ((c.tc : Thread Cert.LnBIdeal.nD Cert.LnBIdeal.τ).loc Cert.LnBIdeal.main_arg3))
      ∧ r.2.sem = fun _ => 0)

def quiescent_LnBIdeal_pre_finite_ln [hLnBIdeal : Cert.LnBIdeal.Facts] [hPre_finite_ln : Cert.Pre_finite_ln.Facts] : Prop :=
  ∀ (m : (ℓ : Loc Cert.LnBIdeal.nD Cert.LnBIdeal.τ Cert.LnBIdeal.sig) → Buf (Elt Ideal) ℓ) (g : Dev Cert.LnBIdeal.nD → PrngReg), Pre_LnBIdeal_finite_ln m →
    θ_run (Cert.LnBIdeal.defs (F := Ideal)) (onTc (τ := Cert.LnBIdeal.τ) (Cert.LnBIdeal.main (F := Ideal))) ⟨m, fun _ => 0, g⟩ (fun r => (∀ c : Dev Cert.LnBIdeal.nD,
      r.2.mem ((c.tc : Thread Cert.LnBIdeal.nD Cert.LnBIdeal.τ).loc Cert.LnBIdeal.main_arg0) = m ((c.tc : Thread Cert.LnBIdeal.nD Cert.LnBIdeal.τ).loc Cert.LnBIdeal.main_arg0)
      ∧ r.2.mem ((c.tc : Thread Cert.LnBIdeal.nD Cert.LnBIdeal.τ).loc Cert.LnBIdeal.main_arg1) = m ((c.tc : Thread Cert.LnBIdeal.nD Cert.LnBIdeal.τ).loc Cert.LnBIdeal.main_arg1)
      ∧ r.2.mem ((c.tc : Thread Cert.LnBIdeal.nD Cert.LnBIdeal.τ).loc Cert.LnBIdeal.main_arg2) = m ((c.tc : Thread Cert.LnBIdeal.nD Cert.LnBIdeal.τ).loc Cert.LnBIdeal.main_arg2)
      ∧ r.2.mem ((c.tc : Thread Cert.LnBIdeal.nD Cert.LnBIdeal.τ).loc Cert.LnBIdeal.main_arg3) = m ((c.tc : Thread Cert.LnBIdeal.nD Cert.LnBIdeal.τ).loc Cert.LnBIdeal.main_arg3))
      ∧ r.2.sem = fun _ => 0)

def quiescent_LnBRefIdeal [hLnBRefIdeal : Cert.LnBRefIdeal.Facts] : Prop :=
  ∀ (m : (ℓ : Loc Cert.LnBRefIdeal.nD Cert.LnBRefIdeal.τ Cert.LnBRefIdeal.sig) → Buf (Elt Ideal) ℓ) (g : Dev Cert.LnBRefIdeal.nD → PrngReg), Pre_LnBRefIdeal m →
    θ_run (Cert.LnBRefIdeal.defs (F := Ideal)) (onTc (τ := Cert.LnBRefIdeal.τ) (Cert.LnBRefIdeal.main (F := Ideal))) ⟨m, fun _ => 0, g⟩ (fun r => (∀ c : Dev Cert.LnBRefIdeal.nD,
      r.2.mem ((c.tc : Thread Cert.LnBRefIdeal.nD Cert.LnBRefIdeal.τ).loc Cert.LnBRefIdeal.main_arg0) = m ((c.tc : Thread Cert.LnBRefIdeal.nD Cert.LnBRefIdeal.τ).loc Cert.LnBRefIdeal.main_arg0)
      ∧ r.2.mem ((c.tc : Thread Cert.LnBRefIdeal.nD Cert.LnBRefIdeal.τ).loc Cert.LnBRefIdeal.main_arg1) = m ((c.tc : Thread Cert.LnBRefIdeal.nD Cert.LnBRefIdeal.τ).loc Cert.LnBRefIdeal.main_arg1)
      ∧ r.2.mem ((c.tc : Thread Cert.LnBRefIdeal.nD Cert.LnBRefIdeal.τ).loc Cert.LnBRefIdeal.main_arg2) = m ((c.tc : Thread Cert.LnBRefIdeal.nD Cert.LnBRefIdeal.τ).loc Cert.LnBRefIdeal.main_arg2)
      ∧ r.2.mem ((c.tc : Thread Cert.LnBRefIdeal.nD Cert.LnBRefIdeal.τ).loc Cert.LnBRefIdeal.main_arg3) = m ((c.tc : Thread Cert.LnBRefIdeal.nD Cert.LnBRefIdeal.τ).loc Cert.LnBRefIdeal.main_arg3))
      ∧ r.2.sem = fun _ => 0)

def quiescent_LnBRefIdeal_pre_finite_ln [hLnBRefIdeal : Cert.LnBRefIdeal.Facts] [hPre_finite_ln : Cert.Pre_finite_ln.Facts] : Prop :=
  ∀ (m : (ℓ : Loc Cert.LnBRefIdeal.nD Cert.LnBRefIdeal.τ Cert.LnBRefIdeal.sig) → Buf (Elt Ideal) ℓ) (g : Dev Cert.LnBRefIdeal.nD → PrngReg), Pre_LnBRefIdeal_finite_ln m →
    θ_run (Cert.LnBRefIdeal.defs (F := Ideal)) (onTc (τ := Cert.LnBRefIdeal.τ) (Cert.LnBRefIdeal.main (F := Ideal))) ⟨m, fun _ => 0, g⟩ (fun r => (∀ c : Dev Cert.LnBRefIdeal.nD,
      r.2.mem ((c.tc : Thread Cert.LnBRefIdeal.nD Cert.LnBRefIdeal.τ).loc Cert.LnBRefIdeal.main_arg0) = m ((c.tc : Thread Cert.LnBRefIdeal.nD Cert.LnBRefIdeal.τ).loc Cert.LnBRefIdeal.main_arg0)
      ∧ r.2.mem ((c.tc : Thread Cert.LnBRefIdeal.nD Cert.LnBRefIdeal.τ).loc Cert.LnBRefIdeal.main_arg1) = m ((c.tc : Thread Cert.LnBRefIdeal.nD Cert.LnBRefIdeal.τ).loc Cert.LnBRefIdeal.main_arg1)
      ∧ r.2.mem ((c.tc : Thread Cert.LnBRefIdeal.nD Cert.LnBRefIdeal.τ).loc Cert.LnBRefIdeal.main_arg2) = m ((c.tc : Thread Cert.LnBRefIdeal.nD Cert.LnBRefIdeal.τ).loc Cert.LnBRefIdeal.main_arg2)
      ∧ r.2.mem ((c.tc : Thread Cert.LnBRefIdeal.nD Cert.LnBRefIdeal.τ).loc Cert.LnBRefIdeal.main_arg3) = m ((c.tc : Thread Cert.LnBRefIdeal.nD Cert.LnBRefIdeal.τ).loc Cert.LnBRefIdeal.main_arg3))
      ∧ r.2.sem = fun _ => 0)

def quiescent_LnF [hLnF : Cert.LnF.Facts] : Prop :=
  ∀ (m : (ℓ : Loc Cert.LnF.nD Cert.LnF.τ Cert.LnF.sig) → Buf (Elt Bits) ℓ) (g : Dev Cert.LnF.nD → PrngReg), Pre_LnF m →
    θ_run (Cert.LnF.defs (F := Bits)) (onTc (τ := Cert.LnF.τ) (Cert.LnF.main (F := Bits))) ⟨m, fun _ => 0, g⟩ (fun r => (∀ c : Dev Cert.LnF.nD,
      r.2.mem ((c.tc : Thread Cert.LnF.nD Cert.LnF.τ).loc Cert.LnF.main_arg0) = m ((c.tc : Thread Cert.LnF.nD Cert.LnF.τ).loc Cert.LnF.main_arg0)
      ∧ r.2.mem ((c.tc : Thread Cert.LnF.nD Cert.LnF.τ).loc Cert.LnF.main_arg1) = m ((c.tc : Thread Cert.LnF.nD Cert.LnF.τ).loc Cert.LnF.main_arg1)
      ∧ r.2.mem ((c.tc : Thread Cert.LnF.nD Cert.LnF.τ).loc Cert.LnF.main_arg2) = m ((c.tc : Thread Cert.LnF.nD Cert.LnF.τ).loc Cert.LnF.main_arg2))
      ∧ r.2.sem = fun _ => 0)

def quiescent_LnFIdeal [hLnFIdeal : Cert.LnFIdeal.Facts] : Prop :=
  ∀ (m : (ℓ : Loc Cert.LnFIdeal.nD Cert.LnFIdeal.τ Cert.LnFIdeal.sig) → Buf (Elt Ideal) ℓ) (g : Dev Cert.LnFIdeal.nD → PrngReg), Pre_LnFIdeal m →
    θ_run (Cert.LnFIdeal.defs (F := Ideal)) (onTc (τ := Cert.LnFIdeal.τ) (Cert.LnFIdeal.main (F := Ideal))) ⟨m, fun _ => 0, g⟩ (fun r => (∀ c : Dev Cert.LnFIdeal.nD,
      r.2.mem ((c.tc : Thread Cert.LnFIdeal.nD Cert.LnFIdeal.τ).loc Cert.LnFIdeal.main_arg0) = m ((c.tc : Thread Cert.LnFIdeal.nD Cert.LnFIdeal.τ).loc Cert.LnFIdeal.main_arg0)
      ∧ r.2.mem ((c.tc : Thread Cert.LnFIdeal.nD Cert.LnFIdeal.τ).loc Cert.LnFIdeal.main_arg1) = m ((c.tc : Thread Cert.LnFIdeal.nD Cert.LnFIdeal.τ).loc Cert.LnFIdeal.main_arg1)
      ∧ r.2.mem ((c.tc : Thread Cert.LnFIdeal.nD Cert.LnFIdeal.τ).loc Cert.LnFIdeal.main_arg2) = m ((c.tc : Thread Cert.LnFIdeal.nD Cert.LnFIdeal.τ).loc Cert.LnFIdeal.main_arg2))
      ∧ r.2.sem = fun _ => 0)

def quiescent_LnFRefIdeal [hLnFRefIdeal : Cert.LnFRefIdeal.Facts] : Prop :=
  ∀ (m : (ℓ : Loc Cert.LnFRefIdeal.nD Cert.LnFRefIdeal.τ Cert.LnFRefIdeal.sig) → Buf (Elt Ideal) ℓ) (g : Dev Cert.LnFRefIdeal.nD → PrngReg), Pre_LnFRefIdeal m →
    θ_run (Cert.LnFRefIdeal.defs (F := Ideal)) (onTc (τ := Cert.LnFRefIdeal.τ) (Cert.LnFRefIdeal.main (F := Ideal))) ⟨m, fun _ => 0, g⟩ (fun r => (∀ c : Dev Cert.LnFRefIdeal.nD,
      r.2.mem ((c.tc : Thread Cert.LnFRefIdeal.nD Cert.LnFRefIdeal.τ).loc Cert.LnFRefIdeal.main_arg0) = m ((c.tc : Thread Cert.LnFRefIdeal.nD Cert.LnFRefIdeal.τ).loc Cert.LnFRefIdeal.main_arg0)
      ∧ r.2.mem ((c.tc : Thread Cert.LnFRefIdeal.nD Cert.LnFRefIdeal.τ).loc Cert.LnFRefIdeal.main_arg1) = m ((c.tc : Thread Cert.LnFRefIdeal.nD Cert.LnFRefIdeal.τ).loc Cert.LnFRefIdeal.main_arg1)
      ∧ r.2.mem ((c.tc : Thread Cert.LnFRefIdeal.nD Cert.LnFRefIdeal.τ).loc Cert.LnFRefIdeal.main_arg2) = m ((c.tc : Thread Cert.LnFRefIdeal.nD Cert.LnFRefIdeal.τ).loc Cert.LnFRefIdeal.main_arg2))
      ∧ r.2.sem = fun _ => 0)

def quiescent_ConvB [hConvB : Cert.ConvB.Facts] : Prop :=
  ∀ (m : (ℓ : Loc Cert.ConvB.nD Cert.ConvB.τ Cert.ConvB.sig) → Buf (Elt Bits) ℓ) (g : Dev Cert.ConvB.nD → PrngReg), Pre_ConvB m →
    θ_run (Cert.ConvB.defs (F := Bits)) (onTc (τ := Cert.ConvB.τ) (Cert.ConvB.main (F := Bits))) ⟨m, fun _ => 0, g⟩ (fun r => (∀ c : Dev Cert.ConvB.nD,
      r.2.mem ((c.tc : Thread Cert.ConvB.nD Cert.ConvB.τ).loc Cert.ConvB.main_arg0) = m ((c.tc : Thread Cert.ConvB.nD Cert.ConvB.τ).loc Cert.ConvB.main_arg0)
      ∧ r.2.mem ((c.tc : Thread Cert.ConvB.nD Cert.ConvB.τ).loc Cert.ConvB.main_arg1) = m ((c.tc : Thread Cert.ConvB.nD Cert.ConvB.τ).loc Cert.ConvB.main_arg1)
      ∧ r.2.mem ((c.tc : Thread Cert.ConvB.nD Cert.ConvB.τ).loc Cert.ConvB.main_arg2) = m ((c.tc : Thread Cert.ConvB.nD Cert.ConvB.τ).loc Cert.ConvB.main_arg2)
      ∧ r.2.mem ((c.tc : Thread Cert.ConvB.nD Cert.ConvB.τ).loc Cert.ConvB.main_arg3) = m ((c.tc : Thread Cert.ConvB.nD Cert.ConvB.τ).loc Cert.ConvB.main_arg3))
      ∧ r.2.sem = fun _ => 0)

def quiescent_ConvBIdeal [hConvBIdeal : Cert.ConvBIdeal.Facts] : Prop :=
  ∀ (m : (ℓ : Loc Cert.ConvBIdeal.nD Cert.ConvBIdeal.τ Cert.ConvBIdeal.sig) → Buf (Elt Ideal) ℓ) (g : Dev Cert.ConvBIdeal.nD → PrngReg), Pre_ConvBIdeal m →
    θ_run (Cert.ConvBIdeal.defs (F := Ideal)) (onTc (τ := Cert.ConvBIdeal.τ) (Cert.ConvBIdeal.main (F := Ideal))) ⟨m, fun _ => 0, g⟩ (fun r => (∀ c : Dev Cert.ConvBIdeal.nD,
      r.2.mem ((c.tc : Thread Cert.ConvBIdeal.nD Cert.ConvBIdeal.τ).loc Cert.ConvBIdeal.main_arg0) = m ((c.tc : Thread Cert.ConvBIdeal.nD Cert.ConvBIdeal.τ).loc Cert.ConvBIdeal.main_arg0)
      ∧ r.2.mem ((c.tc : Thread Cert.ConvBIdeal.nD Cert.ConvBIdeal.τ).loc Cert.ConvBIdeal.main_arg1) = m ((c.tc : Thread Cert.ConvBIdeal.nD Cert.ConvBIdeal.τ).loc Cert.ConvBIdeal.main_arg1)
      ∧ r.2.mem ((c.tc : Thread Cert.ConvBIdeal.nD Cert.ConvBIdeal.τ).loc Cert.ConvBIdeal.main_arg2) = m ((c.tc : Thread Cert.ConvBIdeal.nD Cert.ConvBIdeal.τ).loc Cert.ConvBIdeal.main_arg2)
      ∧ r.2.mem ((c.tc : Thread Cert.ConvBIdeal.nD Cert.ConvBIdeal.τ).loc Cert.ConvBIdeal.main_arg3) = m ((c.tc : Thread Cert.ConvBIdeal.nD Cert.ConvBIdeal.τ).loc Cert.ConvBIdeal.main_arg3))
      ∧ r.2.sem = fun _ => 0)

def quiescent_ConvBRefIdeal [hConvBRefIdeal : Cert.ConvBRefIdeal.Facts] : Prop :=
  ∀ (m : (ℓ : Loc Cert.ConvBRefIdeal.nD Cert.ConvBRefIdeal.τ Cert.ConvBRefIdeal.sig) → Buf (Elt Ideal) ℓ) (g : Dev Cert.ConvBRefIdeal.nD → PrngReg), Pre_ConvBRefIdeal m →
    θ_run (Cert.ConvBRefIdeal.defs (F := Ideal)) (onTc (τ := Cert.ConvBRefIdeal.τ) (Cert.ConvBRefIdeal.main (F := Ideal))) ⟨m, fun _ => 0, g⟩ (fun r => (∀ c : Dev Cert.ConvBRefIdeal.nD,
      r.2.mem ((c.tc : Thread Cert.ConvBRefIdeal.nD Cert.ConvBRefIdeal.τ).loc Cert.ConvBRefIdeal.main_arg0) = m ((c.tc : Thread Cert.ConvBRefIdeal.nD Cert.ConvBRefIdeal.τ).loc Cert.ConvBRefIdeal.main_arg0)
      ∧ r.2.mem ((c.tc : Thread Cert.ConvBRefIdeal.nD Cert.ConvBRefIdeal.τ).loc Cert.ConvBRefIdeal.main_arg1) = m ((c.tc : Thread Cert.ConvBRefIdeal.nD Cert.ConvBRefIdeal.τ).loc Cert.ConvBRefIdeal.main_arg1)
      ∧ r.2.mem ((c.tc : Thread Cert.ConvBRefIdeal.nD Cert.ConvBRefIdeal.τ).loc Cert.ConvBRefIdeal.main_arg2) = m ((c.tc : Thread Cert.ConvBRefIdeal.nD Cert.ConvBRefIdeal.τ).loc Cert.ConvBRefIdeal.main_arg2)
      ∧ r.2.mem ((c.tc : Thread Cert.ConvBRefIdeal.nD Cert.ConvBRefIdeal.τ).loc Cert.ConvBRefIdeal.main_arg3) = m ((c.tc : Thread Cert.ConvBRefIdeal.nD Cert.ConvBRefIdeal.τ).loc Cert.ConvBRefIdeal.main_arg3))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1)
      ∧ r.2.mem ((c.tc : Thread Cert.ConvF.nD Cert.ConvF.τ).loc Cert.ConvF.main_arg2) = m ((c.tc : Thread Cert.ConvF.nD Cert.ConvF.τ).loc Cert.ConvF.main_arg2))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
      ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2))
      ∧ r.2.sem = fun _ => 0)

def quiescent_ConvFRefIdeal [hConvFRefIdeal : Cert.ConvFRefIdeal.Facts] : Prop :=
  ∀ (m : (ℓ : Loc Cert.ConvFRefIdeal.nD Cert.ConvFRefIdeal.τ Cert.ConvFRefIdeal.sig) → Buf (Elt Ideal) ℓ) (g : Dev Cert.ConvFRefIdeal.nD → PrngReg), Pre_ConvFRefIdeal m →
    θ_run (Cert.ConvFRefIdeal.defs (F := Ideal)) (onTc (τ := Cert.ConvFRefIdeal.τ) (Cert.ConvFRefIdeal.main (F := Ideal))) ⟨m, fun _ => 0, g⟩ (fun r => (∀ c : Dev Cert.ConvFRefIdeal.nD,
      r.2.mem ((c.tc : Thread Cert.ConvFRefIdeal.nD Cert.ConvFRefIdeal.τ).loc Cert.ConvFRefIdeal.main_arg0) = m ((c.tc : Thread Cert.ConvFRefIdeal.nD Cert.ConvFRefIdeal.τ).loc Cert.ConvFRefIdeal.main_arg0)
      ∧ r.2.mem ((c.tc : Thread Cert.ConvFRefIdeal.nD Cert.ConvFRefIdeal.τ).loc Cert.ConvFRefIdeal.main_arg1) = m ((c.tc : Thread Cert.ConvFRefIdeal.nD Cert.ConvFRefIdeal.τ).loc Cert.ConvFRefIdeal.main_arg1)
      ∧ r.2.mem ((c.tc : Thread Cert.ConvFRefIdeal.nD Cert.ConvFRefIdeal.τ).loc Cert.ConvFRefIdeal.main_arg2) = m ((c.tc : Thread Cert.ConvFRefIdeal.nD Cert.ConvFRefIdeal.τ).loc Cert.ConvFRefIdeal.main_arg2))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1)
      ∧ r.2.mem ((c.tc : Thread Cert.AttnF.nD Cert.AttnF.τ).loc Cert.AttnF.main_arg2) = m ((c.tc : Thread Cert.AttnF.nD Cert.AttnF.τ).loc Cert.AttnF.main_arg2))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFIdeal_pre_finite_attn [hAttnFIdeal : Cert.AttnFIdeal.Facts] [hPre_finite_attn : Cert.Pre_finite_attn.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal_finite_attn m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def quiescent_AttnFRefIdeal_pre_finite_attn [hAttnFRefIdeal : Cert.AttnFRefIdeal.Facts] [hPre_finite_attn : Cert.Pre_finite_attn.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal_finite_attn m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def quiescent_AttnO [hAttnO : Cert.AttnO.Facts] : Prop :=
  ∀ (m : (ℓ : Loc Cert.AttnO.nD Cert.AttnO.τ Cert.AttnO.sig) → Buf (Elt Bits) ℓ) (g : Dev Cert.AttnO.nD → PrngReg), Pre_AttnO m →
    θ_run (Cert.AttnO.defs (F := Bits)) (onTc (τ := Cert.AttnO.τ) (Cert.AttnO.main (F := Bits))) ⟨m, fun _ => 0, g⟩ (fun r => (∀ c : Dev Cert.AttnO.nD,
      r.2.mem ((c.tc : Thread Cert.AttnO.nD Cert.AttnO.τ).loc Cert.AttnO.main_arg0) = m ((c.tc : Thread Cert.AttnO.nD Cert.AttnO.τ).loc Cert.AttnO.main_arg0)
      ∧ r.2.mem ((c.tc : Thread Cert.AttnO.nD Cert.AttnO.τ).loc Cert.AttnO.main_arg1) = m ((c.tc : Thread Cert.AttnO.nD Cert.AttnO.τ).loc Cert.AttnO.main_arg1)
      ∧ r.2.mem ((c.tc : Thread Cert.AttnO.nD Cert.AttnO.τ).loc Cert.AttnO.main_arg2) = m ((c.tc : Thread Cert.AttnO.nD Cert.AttnO.τ).loc Cert.AttnO.main_arg2))
      ∧ r.2.sem = fun _ => 0)

def quiescent_AttnOIdeal [hAttnOIdeal : Cert.AttnOIdeal.Facts] : Prop :=
  ∀ (m : (ℓ : Loc Cert.AttnOIdeal.nD Cert.AttnOIdeal.τ Cert.AttnOIdeal.sig) → Buf (Elt Ideal) ℓ) (g : Dev Cert.AttnOIdeal.nD → PrngReg), Pre_AttnOIdeal m →
    θ_run (Cert.AttnOIdeal.defs (F := Ideal)) (onTc (τ := Cert.AttnOIdeal.τ) (Cert.AttnOIdeal.main (F := Ideal))) ⟨m, fun _ => 0, g⟩ (fun r => (∀ c : Dev Cert.AttnOIdeal.nD,
      r.2.mem ((c.tc : Thread Cert.AttnOIdeal.nD Cert.AttnOIdeal.τ).loc Cert.AttnOIdeal.main_arg0) = m ((c.tc : Thread Cert.AttnOIdeal.nD Cert.AttnOIdeal.τ).loc Cert.AttnOIdeal.main_arg0)
      ∧ r.2.mem ((c.tc : Thread Cert.AttnOIdeal.nD Cert.AttnOIdeal.τ).loc Cert.AttnOIdeal.main_arg1) = m ((c.tc : Thread Cert.AttnOIdeal.nD Cert.AttnOIdeal.τ).loc Cert.AttnOIdeal.main_arg1)
      ∧ r.2.mem ((c.tc : Thread Cert.AttnOIdeal.nD Cert.AttnOIdeal.τ).loc Cert.AttnOIdeal.main_arg2) = m ((c.tc : Thread Cert.AttnOIdeal.nD Cert.AttnOIdeal.τ).loc Cert.AttnOIdeal.main_arg2))
      ∧ r.2.sem = fun _ => 0)

def quiescent_AttnORefIdeal [hAttnORefIdeal : Cert.AttnORefIdeal.Facts] : Prop :=
  ∀ (m : (ℓ : Loc Cert.AttnORefIdeal.nD Cert.AttnORefIdeal.τ Cert.AttnORefIdeal.sig) → Buf (Elt Ideal) ℓ) (g : Dev Cert.AttnORefIdeal.nD → PrngReg), Pre_AttnORefIdeal m →
    θ_run (Cert.AttnORefIdeal.defs (F := Ideal)) (onTc (τ := Cert.AttnORefIdeal.τ) (Cert.AttnORefIdeal.main (F := Ideal))) ⟨m, fun _ => 0, g⟩ (fun r => (∀ c : Dev Cert.AttnORefIdeal.nD,
      r.2.mem ((c.tc : Thread Cert.AttnORefIdeal.nD Cert.AttnORefIdeal.τ).loc Cert.AttnORefIdeal.main_arg0) = m ((c.tc : Thread Cert.AttnORefIdeal.nD Cert.AttnORefIdeal.τ).loc Cert.AttnORefIdeal.main_arg0)
      ∧ r.2.mem ((c.tc : Thread Cert.AttnORefIdeal.nD Cert.AttnORefIdeal.τ).loc Cert.AttnORefIdeal.main_arg1) = m ((c.tc : Thread Cert.AttnORefIdeal.nD Cert.AttnORefIdeal.τ).loc Cert.AttnORefIdeal.main_arg1)
      ∧ r.2.mem ((c.tc : Thread Cert.AttnORefIdeal.nD Cert.AttnORefIdeal.τ).loc Cert.AttnORefIdeal.main_arg2) = m ((c.tc : Thread Cert.AttnORefIdeal.nD Cert.AttnORefIdeal.τ).loc Cert.AttnORefIdeal.main_arg2))
      ∧ r.2.sem = fun _ => 0)

def quiescent_ConvO [hConvO : Cert.ConvO.Facts] : Prop :=
  ∀ (m : (ℓ : Loc Cert.ConvO.nD Cert.ConvO.τ Cert.ConvO.sig) → Buf (Elt Bits) ℓ) (g : Dev Cert.ConvO.nD → PrngReg), Pre_ConvO m →
    θ_run (Cert.ConvO.defs (F := Bits)) (onTc (τ := Cert.ConvO.τ) (Cert.ConvO.main (F := Bits))) ⟨m, fun _ => 0, g⟩ (fun r => (∀ c : Dev Cert.ConvO.nD,
      r.2.mem ((c.tc : Thread Cert.ConvO.nD Cert.ConvO.τ).loc Cert.ConvO.main_arg0) = m ((c.tc : Thread Cert.ConvO.nD Cert.ConvO.τ).loc Cert.ConvO.main_arg0)
      ∧ r.2.mem ((c.tc : Thread Cert.ConvO.nD Cert.ConvO.τ).loc Cert.ConvO.main_arg1) = m ((c.tc : Thread Cert.ConvO.nD Cert.ConvO.τ).loc Cert.ConvO.main_arg1)
      ∧ r.2.mem ((c.tc : Thread Cert.ConvO.nD Cert.ConvO.τ).loc Cert.ConvO.main_arg2) = m ((c.tc : Thread Cert.ConvO.nD Cert.ConvO.τ).loc Cert.ConvO.main_arg2)
      ∧ r.2.mem ((c.tc : Thread Cert.ConvO.nD Cert.ConvO.τ).loc Cert.ConvO.main_arg3) = m ((c.tc : Thread Cert.ConvO.nD Cert.ConvO.τ).loc Cert.ConvO.main_arg3))
      ∧ r.2.sem = fun _ => 0)

def quiescent_ConvOIdeal [hConvOIdeal : Cert.ConvOIdeal.Facts] : Prop :=
  ∀ (m : (ℓ : Loc Cert.ConvOIdeal.nD Cert.ConvOIdeal.τ Cert.ConvOIdeal.sig) → Buf (Elt Ideal) ℓ) (g : Dev Cert.ConvOIdeal.nD → PrngReg), Pre_ConvOIdeal m →
    θ_run (Cert.ConvOIdeal.defs (F := Ideal)) (onTc (τ := Cert.ConvOIdeal.τ) (Cert.ConvOIdeal.main (F := Ideal))) ⟨m, fun _ => 0, g⟩ (fun r => (∀ c : Dev Cert.ConvOIdeal.nD,
      r.2.mem ((c.tc : Thread Cert.ConvOIdeal.nD Cert.ConvOIdeal.τ).loc Cert.ConvOIdeal.main_arg0) = m ((c.tc : Thread Cert.ConvOIdeal.nD Cert.ConvOIdeal.τ).loc Cert.ConvOIdeal.main_arg0)
      ∧ r.2.mem ((c.tc : Thread Cert.ConvOIdeal.nD Cert.ConvOIdeal.τ).loc Cert.ConvOIdeal.main_arg1) = m ((c.tc : Thread Cert.ConvOIdeal.nD Cert.ConvOIdeal.τ).loc Cert.ConvOIdeal.main_arg1)
      ∧ r.2.mem ((c.tc : Thread Cert.ConvOIdeal.nD Cert.ConvOIdeal.τ).loc Cert.ConvOIdeal.main_arg2) = m ((c.tc : Thread Cert.ConvOIdeal.nD Cert.ConvOIdeal.τ).loc Cert.ConvOIdeal.main_arg2)
      ∧ r.2.mem ((c.tc : Thread Cert.ConvOIdeal.nD Cert.ConvOIdeal.τ).loc Cert.ConvOIdeal.main_arg3) = m ((c.tc : Thread Cert.ConvOIdeal.nD Cert.ConvOIdeal.τ).loc Cert.ConvOIdeal.main_arg3))
      ∧ r.2.sem = fun _ => 0)

def quiescent_ConvORefIdeal [hConvORefIdeal : Cert.ConvORefIdeal.Facts] : Prop :=
  ∀ (m : (ℓ : Loc Cert.ConvORefIdeal.nD Cert.ConvORefIdeal.τ Cert.ConvORefIdeal.sig) → Buf (Elt Ideal) ℓ) (g : Dev Cert.ConvORefIdeal.nD → PrngReg), Pre_ConvORefIdeal m →
    θ_run (Cert.ConvORefIdeal.defs (F := Ideal)) (onTc (τ := Cert.ConvORefIdeal.τ) (Cert.ConvORefIdeal.main (F := Ideal))) ⟨m, fun _ => 0, g⟩ (fun r => (∀ c : Dev Cert.ConvORefIdeal.nD,
      r.2.mem ((c.tc : Thread Cert.ConvORefIdeal.nD Cert.ConvORefIdeal.τ).loc Cert.ConvORefIdeal.main_arg0) = m ((c.tc : Thread Cert.ConvORefIdeal.nD Cert.ConvORefIdeal.τ).loc Cert.ConvORefIdeal.main_arg0)
      ∧ r.2.mem ((c.tc : Thread Cert.ConvORefIdeal.nD Cert.ConvORefIdeal.τ).loc Cert.ConvORefIdeal.main_arg1) = m ((c.tc : Thread Cert.ConvORefIdeal.nD Cert.ConvORefIdeal.τ).loc Cert.ConvORefIdeal.main_arg1)
      ∧ r.2.mem ((c.tc : Thread Cert.ConvORefIdeal.nD Cert.ConvORefIdeal.τ).loc Cert.ConvORefIdeal.main_arg2) = m ((c.tc : Thread Cert.ConvORefIdeal.nD Cert.ConvORefIdeal.τ).loc Cert.ConvORefIdeal.main_arg2)
      ∧ r.2.mem ((c.tc : Thread Cert.ConvORefIdeal.nD Cert.ConvORefIdeal.τ).loc Cert.ConvORefIdeal.main_arg3) = m ((c.tc : Thread Cert.ConvORefIdeal.nD Cert.ConvORefIdeal.τ).loc Cert.ConvORefIdeal.main_arg3))
      ∧ r.2.sem = fun _ => 0)

def quiescent_ColIn [hColIn : Cert.ColIn.Facts] : Prop :=
  ∀ (m : (ℓ : Loc Cert.ColIn.nD Cert.ColIn.τ Cert.ColIn.sig) → Buf (Elt Bits) ℓ) (g : Dev Cert.ColIn.nD → PrngReg), Pre_ColIn m →
    θ_run (Cert.ColIn.defs (F := Bits)) (onTc (τ := Cert.ColIn.τ) (Cert.ColIn.main (F := Bits))) ⟨m, fun _ => 0, g⟩ (fun r => (∀ c : Dev Cert.ColIn.nD,
      r.2.mem ((c.tc : Thread Cert.ColIn.nD Cert.ColIn.τ).loc Cert.ColIn.main_arg0) = m ((c.tc : Thread Cert.ColIn.nD Cert.ColIn.τ).loc Cert.ColIn.main_arg0))
      ∧ r.2.sem = fun _ => 0)

def quiescent_ColInIdeal [hColInIdeal : Cert.ColInIdeal.Facts] : Prop :=
  ∀ (m : (ℓ : Loc Cert.ColInIdeal.nD Cert.ColInIdeal.τ Cert.ColInIdeal.sig) → Buf (Elt Ideal) ℓ) (g : Dev Cert.ColInIdeal.nD → PrngReg), Pre_ColInIdeal m →
    θ_run (Cert.ColInIdeal.defs (F := Ideal)) (onTc (τ := Cert.ColInIdeal.τ) (Cert.ColInIdeal.main (F := Ideal))) ⟨m, fun _ => 0, g⟩ (fun r => (∀ c : Dev Cert.ColInIdeal.nD,
      r.2.mem ((c.tc : Thread Cert.ColInIdeal.nD Cert.ColInIdeal.τ).loc Cert.ColInIdeal.main_arg0) = m ((c.tc : Thread Cert.ColInIdeal.nD Cert.ColInIdeal.τ).loc Cert.ColInIdeal.main_arg0))
      ∧ r.2.sem = fun _ => 0)

def quiescent_ColInRefIdeal [hColInRefIdeal : Cert.ColInRefIdeal.Facts] : Prop :=
  ∀ (m : (ℓ : Loc Cert.ColInRefIdeal.nD Cert.ColInRefIdeal.τ Cert.ColInRefIdeal.sig) → Buf (Elt Ideal) ℓ) (g : Dev Cert.ColInRefIdeal.nD → PrngReg), Pre_ColInRefIdeal m →
    θ_run (Cert.ColInRefIdeal.defs (F := Ideal)) (onTc (τ := Cert.ColInRefIdeal.τ) (Cert.ColInRefIdeal.main (F := Ideal))) ⟨m, fun _ => 0, g⟩ (fun r => (∀ c : Dev Cert.ColInRefIdeal.nD,
      r.2.mem ((c.tc : Thread Cert.ColInRefIdeal.nD Cert.ColInRefIdeal.τ).loc Cert.ColInRefIdeal.main_arg0) = m ((c.tc : Thread Cert.ColInRefIdeal.nD Cert.ColInRefIdeal.τ).loc Cert.ColInRefIdeal.main_arg0))
      ∧ r.2.sem = fun _ => 0)

def quiescent_ColO [hColO : Cert.ColO.Facts] : Prop :=
  ∀ (m : (ℓ : Loc Cert.ColO.nD Cert.ColO.τ Cert.ColO.sig) → Buf (Elt Bits) ℓ) (g : Dev Cert.ColO.nD → PrngReg), Pre_ColO m →
    θ_run (Cert.ColO.defs (F := Bits)) (onTc (τ := Cert.ColO.τ) (Cert.ColO.main (F := Bits))) ⟨m, fun _ => 0, g⟩ (fun r => (∀ c : Dev Cert.ColO.nD,
      r.2.mem ((c.tc : Thread Cert.ColO.nD Cert.ColO.τ).loc Cert.ColO.main_arg0) = m ((c.tc : Thread Cert.ColO.nD Cert.ColO.τ).loc Cert.ColO.main_arg0))
      ∧ r.2.sem = fun _ => 0)

def quiescent_ColOIdeal [hColOIdeal : Cert.ColOIdeal.Facts] : Prop :=
  ∀ (m : (ℓ : Loc Cert.ColOIdeal.nD Cert.ColOIdeal.τ Cert.ColOIdeal.sig) → Buf (Elt Ideal) ℓ) (g : Dev Cert.ColOIdeal.nD → PrngReg), Pre_ColOIdeal m →
    θ_run (Cert.ColOIdeal.defs (F := Ideal)) (onTc (τ := Cert.ColOIdeal.τ) (Cert.ColOIdeal.main (F := Ideal))) ⟨m, fun _ => 0, g⟩ (fun r => (∀ c : Dev Cert.ColOIdeal.nD,
      r.2.mem ((c.tc : Thread Cert.ColOIdeal.nD Cert.ColOIdeal.τ).loc Cert.ColOIdeal.main_arg0) = m ((c.tc : Thread Cert.ColOIdeal.nD Cert.ColOIdeal.τ).loc Cert.ColOIdeal.main_arg0))
      ∧ r.2.sem = fun _ => 0)

def quiescent_ColORefIdeal [hColORefIdeal : Cert.ColORefIdeal.Facts] : Prop :=
  ∀ (m : (ℓ : Loc Cert.ColORefIdeal.nD Cert.ColORefIdeal.τ Cert.ColORefIdeal.sig) → Buf (Elt Ideal) ℓ) (g : Dev Cert.ColORefIdeal.nD → PrngReg), Pre_ColORefIdeal m →
    θ_run (Cert.ColORefIdeal.defs (F := Ideal)) (onTc (τ := Cert.ColORefIdeal.τ) (Cert.ColORefIdeal.main (F := Ideal))) ⟨m, fun _ => 0, g⟩ (fun r => (∀ c : Dev Cert.ColORefIdeal.nD,
      r.2.mem ((c.tc : Thread Cert.ColORefIdeal.nD Cert.ColORefIdeal.τ).loc Cert.ColORefIdeal.main_arg0) = m ((c.tc : Thread Cert.ColORefIdeal.nD Cert.ColORefIdeal.τ).loc Cert.ColORefIdeal.main_arg0))
      ∧ r.2.sem = fun _ => 0)

def quiescent_RopeF [hRopeF : Cert.RopeF.Facts] : Prop :=
  ∀ (m : (ℓ : Loc Cert.RopeF.nD Cert.RopeF.τ Cert.RopeF.sig) → Buf (Elt Bits) ℓ) (g : Dev Cert.RopeF.nD → PrngReg), Pre_RopeF m →
    θ_run (Cert.RopeF.defs (F := Bits)) (onTc (τ := Cert.RopeF.τ) (Cert.RopeF.main (F := Bits))) ⟨m, fun _ => 0, g⟩ (fun r => (∀ c : Dev Cert.RopeF.nD,
      r.2.mem ((c.tc : Thread Cert.RopeF.nD Cert.RopeF.τ).loc Cert.RopeF.main_arg0) = m ((c.tc : Thread Cert.RopeF.nD Cert.RopeF.τ).loc Cert.RopeF.main_arg0))
      ∧ r.2.sem = fun _ => 0)

def quiescent_RopeFIdeal [hRopeFIdeal : Cert.RopeFIdeal.Facts] : Prop :=
  ∀ (m : (ℓ : Loc Cert.RopeFIdeal.nD Cert.RopeFIdeal.τ Cert.RopeFIdeal.sig) → Buf (Elt Ideal) ℓ) (g : Dev Cert.RopeFIdeal.nD → PrngReg), Pre_RopeFIdeal m →
    θ_run (Cert.RopeFIdeal.defs (F := Ideal)) (onTc (τ := Cert.RopeFIdeal.τ) (Cert.RopeFIdeal.main (F := Ideal))) ⟨m, fun _ => 0, g⟩ (fun r => (∀ c : Dev Cert.RopeFIdeal.nD,
      r.2.mem ((c.tc : Thread Cert.RopeFIdeal.nD Cert.RopeFIdeal.τ).loc Cert.RopeFIdeal.main_arg0) = m ((c.tc : Thread Cert.RopeFIdeal.nD Cert.RopeFIdeal.τ).loc Cert.RopeFIdeal.main_arg0))
      ∧ r.2.sem = fun _ => 0)

def quiescent_RopeFRefIdeal [hRopeFRefIdeal : Cert.RopeFRefIdeal.Facts] : Prop :=
  ∀ (m : (ℓ : Loc Cert.RopeFRefIdeal.nD Cert.RopeFRefIdeal.τ Cert.RopeFRefIdeal.sig) → Buf (Elt Ideal) ℓ) (g : Dev Cert.RopeFRefIdeal.nD → PrngReg), Pre_RopeFRefIdeal m →
    θ_run (Cert.RopeFRefIdeal.defs (F := Ideal)) (onTc (τ := Cert.RopeFRefIdeal.τ) (Cert.RopeFRefIdeal.main (F := Ideal))) ⟨m, fun _ => 0, g⟩ (fun r => (∀ c : Dev Cert.RopeFRefIdeal.nD,
      r.2.mem ((c.tc : Thread Cert.RopeFRefIdeal.nD Cert.RopeFRefIdeal.τ).loc Cert.RopeFRefIdeal.main_arg0) = m ((c.tc : Thread Cert.RopeFRefIdeal.nD Cert.RopeFRefIdeal.τ).loc Cert.RopeFRefIdeal.main_arg0))
      ∧ r.2.sem = fun _ => 0)

def quiescent_RopeB [hRopeB : Cert.RopeB.Facts] : Prop :=
  ∀ (m : (ℓ : Loc Cert.RopeB.nD Cert.RopeB.τ Cert.RopeB.sig) → Buf (Elt Bits) ℓ) (g : Dev Cert.RopeB.nD → PrngReg), Pre_RopeB m →
    θ_run (Cert.RopeB.defs (F := Bits)) (onTc (τ := Cert.RopeB.τ) (Cert.RopeB.main (F := Bits))) ⟨m, fun _ => 0, g⟩ (fun r => (∀ c : Dev Cert.RopeB.nD,
      r.2.mem ((c.tc : Thread Cert.RopeB.nD Cert.RopeB.τ).loc Cert.RopeB.main_arg0) = m ((c.tc : Thread Cert.RopeB.nD Cert.RopeB.τ).loc Cert.RopeB.main_arg0)
      ∧ r.2.mem ((c.tc : Thread Cert.RopeB.nD Cert.RopeB.τ).loc Cert.RopeB.main_arg1) = m ((c.tc : Thread Cert.RopeB.nD Cert.RopeB.τ).loc Cert.RopeB.main_arg1)
      ∧ r.2.mem ((c.tc : Thread Cert.RopeB.nD Cert.RopeB.τ).loc Cert.RopeB.main_arg2) = m ((c.tc : Thread Cert.RopeB.nD Cert.RopeB.τ).loc Cert.RopeB.main_arg2)
      ∧ r.2.mem ((c.tc : Thread Cert.RopeB.nD Cert.RopeB.τ).loc Cert.RopeB.main_arg3) = m ((c.tc : Thread Cert.RopeB.nD Cert.RopeB.τ).loc Cert.RopeB.main_arg3)
      ∧ r.2.mem ((c.tc : Thread Cert.RopeB.nD Cert.RopeB.τ).loc Cert.RopeB.main_arg4) = m ((c.tc : Thread Cert.RopeB.nD Cert.RopeB.τ).loc Cert.RopeB.main_arg4)
      ∧ r.2.mem ((c.tc : Thread Cert.RopeB.nD Cert.RopeB.τ).loc Cert.RopeB.main_arg5) = m ((c.tc : Thread Cert.RopeB.nD Cert.RopeB.τ).loc Cert.RopeB.main_arg5))
      ∧ r.2.sem = fun _ => 0)

def quiescent_RopeBIdeal [hRopeBIdeal : Cert.RopeBIdeal.Facts] : Prop :=
  ∀ (m : (ℓ : Loc Cert.RopeBIdeal.nD Cert.RopeBIdeal.τ Cert.RopeBIdeal.sig) → Buf (Elt Ideal) ℓ) (g : Dev Cert.RopeBIdeal.nD → PrngReg), Pre_RopeBIdeal m →
    θ_run (Cert.RopeBIdeal.defs (F := Ideal)) (onTc (τ := Cert.RopeBIdeal.τ) (Cert.RopeBIdeal.main (F := Ideal))) ⟨m, fun _ => 0, g⟩ (fun r => (∀ c : Dev Cert.RopeBIdeal.nD,
      r.2.mem ((c.tc : Thread Cert.RopeBIdeal.nD Cert.RopeBIdeal.τ).loc Cert.RopeBIdeal.main_arg0) = m ((c.tc : Thread Cert.RopeBIdeal.nD Cert.RopeBIdeal.τ).loc Cert.RopeBIdeal.main_arg0)
      ∧ r.2.mem ((c.tc : Thread Cert.RopeBIdeal.nD Cert.RopeBIdeal.τ).loc Cert.RopeBIdeal.main_arg1) = m ((c.tc : Thread Cert.RopeBIdeal.nD Cert.RopeBIdeal.τ).loc Cert.RopeBIdeal.main_arg1)
      ∧ r.2.mem ((c.tc : Thread Cert.RopeBIdeal.nD Cert.RopeBIdeal.τ).loc Cert.RopeBIdeal.main_arg2) = m ((c.tc : Thread Cert.RopeBIdeal.nD Cert.RopeBIdeal.τ).loc Cert.RopeBIdeal.main_arg2)
      ∧ r.2.mem ((c.tc : Thread Cert.RopeBIdeal.nD Cert.RopeBIdeal.τ).loc Cert.RopeBIdeal.main_arg3) = m ((c.tc : Thread Cert.RopeBIdeal.nD Cert.RopeBIdeal.τ).loc Cert.RopeBIdeal.main_arg3)
      ∧ r.2.mem ((c.tc : Thread Cert.RopeBIdeal.nD Cert.RopeBIdeal.τ).loc Cert.RopeBIdeal.main_arg4) = m ((c.tc : Thread Cert.RopeBIdeal.nD Cert.RopeBIdeal.τ).loc Cert.RopeBIdeal.main_arg4)
      ∧ r.2.mem ((c.tc : Thread Cert.RopeBIdeal.nD Cert.RopeBIdeal.τ).loc Cert.RopeBIdeal.main_arg5) = m ((c.tc : Thread Cert.RopeBIdeal.nD Cert.RopeBIdeal.τ).loc Cert.RopeBIdeal.main_arg5))
      ∧ r.2.sem = fun _ => 0)

def quiescent_RopeBRefIdeal [hRopeBRefIdeal : Cert.RopeBRefIdeal.Facts] : Prop :=
  ∀ (m : (ℓ : Loc Cert.RopeBRefIdeal.nD Cert.RopeBRefIdeal.τ Cert.RopeBRefIdeal.sig) → Buf (Elt Ideal) ℓ) (g : Dev Cert.RopeBRefIdeal.nD → PrngReg), Pre_RopeBRefIdeal m →
    θ_run (Cert.RopeBRefIdeal.defs (F := Ideal)) (onTc (τ := Cert.RopeBRefIdeal.τ) (Cert.RopeBRefIdeal.main (F := Ideal))) ⟨m, fun _ => 0, g⟩ (fun r => (∀ c : Dev Cert.RopeBRefIdeal.nD,
      r.2.mem ((c.tc : Thread Cert.RopeBRefIdeal.nD Cert.RopeBRefIdeal.τ).loc Cert.RopeBRefIdeal.main_arg0) = m ((c.tc : Thread Cert.RopeBRefIdeal.nD Cert.RopeBRefIdeal.τ).loc Cert.RopeBRefIdeal.main_arg0)
      ∧ r.2.mem ((c.tc : Thread Cert.RopeBRefIdeal.nD Cert.RopeBRefIdeal.τ).loc Cert.RopeBRefIdeal.main_arg1) = m ((c.tc : Thread Cert.RopeBRefIdeal.nD Cert.RopeBRefIdeal.τ).loc Cert.RopeBRefIdeal.main_arg1)
      ∧ r.2.mem ((c.tc : Thread Cert.RopeBRefIdeal.nD Cert.RopeBRefIdeal.τ).loc Cert.RopeBRefIdeal.main_arg2) = m ((c.tc : Thread Cert.RopeBRefIdeal.nD Cert.RopeBRefIdeal.τ).loc Cert.RopeBRefIdeal.main_arg2)
      ∧ r.2.mem ((c.tc : Thread Cert.RopeBRefIdeal.nD Cert.RopeBRefIdeal.τ).loc Cert.RopeBRefIdeal.main_arg3) = m ((c.tc : Thread Cert.RopeBRefIdeal.nD Cert.RopeBRefIdeal.τ).loc Cert.RopeBRefIdeal.main_arg3)
      ∧ r.2.mem ((c.tc : Thread Cert.RopeBRefIdeal.nD Cert.RopeBRefIdeal.τ).loc Cert.RopeBRefIdeal.main_arg4) = m ((c.tc : Thread Cert.RopeBRefIdeal.nD Cert.RopeBRefIdeal.τ).loc Cert.RopeBRefIdeal.main_arg4)
      ∧ r.2.mem ((c.tc : Thread Cert.RopeBRefIdeal.nD Cert.RopeBRefIdeal.τ).loc Cert.RopeBRefIdeal.main_arg5) = m ((c.tc : Thread Cert.RopeBRefIdeal.nD Cert.RopeBRefIdeal.τ).loc Cert.RopeBRefIdeal.main_arg5))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamO [hAdamO : Cert.AdamO.Facts] : Prop :=
  ∀ (m : (ℓ : Loc Cert.AdamO.nD Cert.AdamO.τ Cert.AdamO.sig) → Buf (Elt Bits) ℓ) (g : Dev Cert.AdamO.nD → PrngReg), Pre_AdamO m →
    θ_run (Cert.AdamO.defs (F := Bits)) (onTc (τ := Cert.AdamO.τ) (Cert.AdamO.main (F := Bits))) ⟨m, fun _ => 0, g⟩ (fun r => (∀ c : Dev Cert.AdamO.nD,
      r.2.mem ((c.tc : Thread Cert.AdamO.nD Cert.AdamO.τ).loc Cert.AdamO.main_arg0) = m ((c.tc : Thread Cert.AdamO.nD Cert.AdamO.τ).loc Cert.AdamO.main_arg0)
      ∧ r.2.mem ((c.tc : Thread Cert.AdamO.nD Cert.AdamO.τ).loc Cert.AdamO.main_arg1) = m ((c.tc : Thread Cert.AdamO.nD Cert.AdamO.τ).loc Cert.AdamO.main_arg1)
      ∧ r.2.mem ((c.tc : Thread Cert.AdamO.nD Cert.AdamO.τ).loc Cert.AdamO.main_arg2) = m ((c.tc : Thread Cert.AdamO.nD Cert.AdamO.τ).loc Cert.AdamO.main_arg2)
      ∧ r.2.mem ((c.tc : Thread Cert.AdamO.nD Cert.AdamO.τ).loc Cert.AdamO.main_arg3) = m ((c.tc : Thread Cert.AdamO.nD Cert.AdamO.τ).loc Cert.AdamO.main_arg3))
      ∧ r.2.sem = fun _ => 0)

def quiescent_AdamOIdeal [hAdamOIdeal : Cert.AdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg), Pre_AdamOIdeal m →
    θ_run (Cert.AdamOIdeal.defs (F := Ideal)) (onTc (τ := Cert.AdamOIdeal.τ) (Cert.AdamOIdeal.main (F := Ideal))) ⟨m, fun _ => 0, g⟩ (fun r => (∀ c : Dev Cert.AdamOIdeal.nD,
      r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
      ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
      ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
      ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ r.2.sem = fun _ => 0)

def quiescent_AdamORefIdeal [hAdamORefIdeal : Cert.AdamORefIdeal.Facts] : Prop :=
  ∀ (m : (ℓ : Loc Cert.AdamORefIdeal.nD Cert.AdamORefIdeal.τ Cert.AdamORefIdeal.sig) → Buf (Elt Ideal) ℓ) (g : Dev Cert.AdamORefIdeal.nD → PrngReg), Pre_AdamORefIdeal m →
    θ_run (Cert.AdamORefIdeal.defs (F := Ideal)) (onTc (τ := Cert.AdamORefIdeal.τ) (Cert.AdamORefIdeal.main (F := Ideal))) ⟨m, fun _ => 0, g⟩ (fun r => (∀ c : Dev Cert.AdamORefIdeal.nD,
      r.2.mem ((c.tc : Thread Cert.AdamORefIdeal.nD Cert.AdamORefIdeal.τ).loc Cert.AdamORefIdeal.main_arg0) = m ((c.tc : Thread Cert.AdamORefIdeal.nD Cert.AdamORefIdeal.τ).loc Cert.AdamORefIdeal.main_arg0)
      ∧ r.2.mem ((c.tc : Thread Cert.AdamORefIdeal.nD Cert.AdamORefIdeal.τ).loc Cert.AdamORefIdeal.main_arg1) = m ((c.tc : Thread Cert.AdamORefIdeal.nD Cert.AdamORefIdeal.τ).loc Cert.AdamORefIdeal.main_arg1)
      ∧ r.2.mem ((c.tc : Thread Cert.AdamORefIdeal.nD Cert.AdamORefIdeal.τ).loc Cert.AdamORefIdeal.main_arg2) = m ((c.tc : Thread Cert.AdamORefIdeal.nD Cert.AdamORefIdeal.τ).loc Cert.AdamORefIdeal.main_arg2)
      ∧ r.2.mem ((c.tc : Thread Cert.AdamORefIdeal.nD Cert.AdamORefIdeal.τ).loc Cert.AdamORefIdeal.main_arg3) = m ((c.tc : Thread Cert.AdamORefIdeal.nD Cert.AdamORefIdeal.τ).loc Cert.AdamORefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGU [hAdamGU : Cert.AdamGU.Facts] : Prop :=
  ∀ (m : (ℓ : Loc Cert.AdamGU.nD Cert.AdamGU.τ Cert.AdamGU.sig) → Buf (Elt Bits) ℓ) (g : Dev Cert.AdamGU.nD → PrngReg), Pre_AdamGU m →
    θ_run (Cert.AdamGU.defs (F := Bits)) (onTc (τ := Cert.AdamGU.τ) (Cert.AdamGU.main (F := Bits))) ⟨m, fun _ => 0, g⟩ (fun r => (∀ c : Dev Cert.AdamGU.nD,
      r.2.mem ((c.tc : Thread Cert.AdamGU.nD Cert.AdamGU.τ).loc Cert.AdamGU.main_arg0) = m ((c.tc : Thread Cert.AdamGU.nD Cert.AdamGU.τ).loc Cert.AdamGU.main_arg0)
      ∧ r.2.mem ((c.tc : Thread Cert.AdamGU.nD Cert.AdamGU.τ).loc Cert.AdamGU.main_arg1) = m ((c.tc : Thread Cert.AdamGU.nD Cert.AdamGU.τ).loc Cert.AdamGU.main_arg1)
      ∧ r.2.mem ((c.tc : Thread Cert.AdamGU.nD Cert.AdamGU.τ).loc Cert.AdamGU.main_arg2) = m ((c.tc : Thread Cert.AdamGU.nD Cert.AdamGU.τ).loc Cert.AdamGU.main_arg2)
      ∧ r.2.mem ((c.tc : Thread Cert.AdamGU.nD Cert.AdamGU.τ).loc Cert.AdamGU.main_arg3) = m ((c.tc : Thread Cert.AdamGU.nD Cert.AdamGU.τ).loc Cert.AdamGU.main_arg3))
      ∧ r.2.sem = fun _ => 0)

def quiescent_AdamGUIdeal [hAdamGUIdeal : Cert.AdamGUIdeal.Facts] : Prop :=
  ∀ (m : (ℓ : Loc Cert.AdamGUIdeal.nD Cert.AdamGUIdeal.τ Cert.AdamGUIdeal.sig) → Buf (Elt Ideal) ℓ) (g : Dev Cert.AdamGUIdeal.nD → PrngReg), Pre_AdamGUIdeal m →
    θ_run (Cert.AdamGUIdeal.defs (F := Ideal)) (onTc (τ := Cert.AdamGUIdeal.τ) (Cert.AdamGUIdeal.main (F := Ideal))) ⟨m, fun _ => 0, g⟩ (fun r => (∀ c : Dev Cert.AdamGUIdeal.nD,
      r.2.mem ((c.tc : Thread Cert.AdamGUIdeal.nD Cert.AdamGUIdeal.τ).loc Cert.AdamGUIdeal.main_arg0) = m ((c.tc : Thread Cert.AdamGUIdeal.nD Cert.AdamGUIdeal.τ).loc Cert.AdamGUIdeal.main_arg0)
      ∧ r.2.mem ((c.tc : Thread Cert.AdamGUIdeal.nD Cert.AdamGUIdeal.τ).loc Cert.AdamGUIdeal.main_arg1) = m ((c.tc : Thread Cert.AdamGUIdeal.nD Cert.AdamGUIdeal.τ).loc Cert.AdamGUIdeal.main_arg1)
      ∧ r.2.mem ((c.tc : Thread Cert.AdamGUIdeal.nD Cert.AdamGUIdeal.τ).loc Cert.AdamGUIdeal.main_arg2) = m ((c.tc : Thread Cert.AdamGUIdeal.nD Cert.AdamGUIdeal.τ).loc Cert.AdamGUIdeal.main_arg2)
      ∧ r.2.mem ((c.tc : Thread Cert.AdamGUIdeal.nD Cert.AdamGUIdeal.τ).loc Cert.AdamGUIdeal.main_arg3) = m ((c.tc : Thread Cert.AdamGUIdeal.nD Cert.AdamGUIdeal.τ).loc Cert.AdamGUIdeal.main_arg3))
      ∧ r.2.sem = fun _ => 0)

def quiescent_AdamGURefIdeal [hAdamGURefIdeal : Cert.AdamGURefIdeal.Facts] : Prop :=
  ∀ (m : (ℓ : Loc Cert.AdamGURefIdeal.nD Cert.AdamGURefIdeal.τ Cert.AdamGURefIdeal.sig) → Buf (Elt Ideal) ℓ) (g : Dev Cert.AdamGURefIdeal.nD → PrngReg), Pre_AdamGURefIdeal m →
    θ_run (Cert.AdamGURefIdeal.defs (F := Ideal)) (onTc (τ := Cert.AdamGURefIdeal.τ) (Cert.AdamGURefIdeal.main (F := Ideal))) ⟨m, fun _ => 0, g⟩ (fun r => (∀ c : Dev Cert.AdamGURefIdeal.nD,
      r.2.mem ((c.tc : Thread Cert.AdamGURefIdeal.nD Cert.AdamGURefIdeal.τ).loc Cert.AdamGURefIdeal.main_arg0) = m ((c.tc : Thread Cert.AdamGURefIdeal.nD Cert.AdamGURefIdeal.τ).loc Cert.AdamGURefIdeal.main_arg0)
      ∧ r.2.mem ((c.tc : Thread Cert.AdamGURefIdeal.nD Cert.AdamGURefIdeal.τ).loc Cert.AdamGURefIdeal.main_arg1) = m ((c.tc : Thread Cert.AdamGURefIdeal.nD Cert.AdamGURefIdeal.τ).loc Cert.AdamGURefIdeal.main_arg1)
      ∧ r.2.mem ((c.tc : Thread Cert.AdamGURefIdeal.nD Cert.AdamGURefIdeal.τ).loc Cert.AdamGURefIdeal.main_arg2) = m ((c.tc : Thread Cert.AdamGURefIdeal.nD Cert.AdamGURefIdeal.τ).loc Cert.AdamGURefIdeal.main_arg2)
      ∧ r.2.mem ((c.tc : Thread Cert.AdamGURefIdeal.nD Cert.AdamGURefIdeal.τ).loc Cert.AdamGURefIdeal.main_arg3) = m ((c.tc : Thread Cert.AdamGURefIdeal.nD Cert.AdamGURefIdeal.τ).loc Cert.AdamGURefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Attn_AttnIdeal : Prop :=
  IdealRules.named_const.Statement Cert.AttnIdeal.κ "mask" .f32 0xF149F2CA#32 ⊥

def algebraic_AttnIdeal_RefIdeal_pre_finite [hAttnIdeal : Cert.AttnIdeal.Facts] [hRefIdeal : Cert.RefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.RefIdeal.nD Cert.RefIdeal.τ Cert.RefIdeal.sig) → Buf (Elt Ideal) ℓ) (g' : Dev Cert.RefIdeal.nD → PrngReg), Pre_AttnIdeal_finite m →
    (∀ c : Dev Cert.AttnIdeal.nD,
      m' ((c.tc : Thread Cert.RefIdeal.nD Cert.RefIdeal.τ).loc Cert.RefIdeal.main_arg0) = m ((c.tc : Thread Cert.AttnIdeal.nD Cert.AttnIdeal.τ).loc Cert.AttnIdeal.main_arg0)
      ∧ m' ((c.tc : Thread Cert.RefIdeal.nD Cert.RefIdeal.τ).loc Cert.RefIdeal.main_arg1) = m ((c.tc : Thread Cert.AttnIdeal.nD Cert.AttnIdeal.τ).loc Cert.AttnIdeal.main_arg1)
      ∧ m' ((c.tc : Thread Cert.RefIdeal.nD Cert.RefIdeal.τ).loc Cert.RefIdeal.main_arg2) = m ((c.tc : Thread Cert.AttnIdeal.nD Cert.AttnIdeal.τ).loc Cert.AttnIdeal.main_arg2)
      ∧ m' ((c.tc : Thread Cert.RefIdeal.nD Cert.RefIdeal.τ).loc Cert.RefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v4)) (v2 : (c : Dev Cert.AttnIdeal.nD) → Buf (Elt Ideal) ((c.tc : Thread Cert.AttnIdeal.nD Cert.AttnIdeal.τ).loc Cert.AttnIdeal.main_v8)) (v3 : (c : Dev Cert.AttnIdeal.nD) → Buf (Elt Ideal) ((c.tc : Thread Cert.AttnIdeal.nD Cert.AttnIdeal.τ).loc Cert.AttnIdeal.main_v9)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v4) = v1 c
          ∧ r.2.mem ((c.tc : Thread Cert.AttnIdeal.nD Cert.AttnIdeal.τ).loc Cert.AttnIdeal.main_v8) = v2 c
          ∧ r.2.mem ((c.tc : Thread Cert.AttnIdeal.nD Cert.AttnIdeal.τ).loc Cert.AttnIdeal.main_v9) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v99) = v0 c
          ∧ r.2.mem ((c.tc : Thread Cert.RefIdeal.nD Cert.RefIdeal.τ).loc Cert.RefIdeal.main_v98) = v1 c
          ∧ r.2.mem ((c.tc : Thread Cert.RefIdeal.nD Cert.RefIdeal.τ).loc Cert.RefIdeal.main_v97) = v2 c
          ∧ r.2.mem ((c.tc : Thread Cert.RefIdeal.nD Cert.RefIdeal.τ).loc Cert.RefIdeal.main_v90) = v3 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v5) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DU2_DU2Ideal : Prop :=
  True

def algebraic_DU2Ideal_DU2RefIdeal [hDU2Ideal : Cert.DU2Ideal.Facts] [hDU2RefIdeal : Cert.DU2RefIdeal.Facts] : Prop :=
  ∀ (m : (ℓ : Loc Cert.DU2Ideal.nD Cert.DU2Ideal.τ Cert.DU2Ideal.sig) → Buf (Elt Ideal) ℓ) (g : Dev Cert.DU2Ideal.nD → PrngReg)
    (m' : (ℓ : Loc Cert.DU2RefIdeal.nD Cert.DU2RefIdeal.τ Cert.DU2RefIdeal.sig) → Buf (Elt Ideal) ℓ) (g' : Dev Cert.DU2RefIdeal.nD → PrngReg), Pre_DU2Ideal m →
    (∀ c : Dev Cert.DU2Ideal.nD,
      m' ((c.tc : Thread Cert.DU2RefIdeal.nD Cert.DU2RefIdeal.τ).loc Cert.DU2RefIdeal.main_arg0) = m ((c.tc : Thread Cert.DU2Ideal.nD Cert.DU2Ideal.τ).loc Cert.DU2Ideal.main_arg0)
      ∧ m' ((c.tc : Thread Cert.DU2RefIdeal.nD Cert.DU2RefIdeal.τ).loc Cert.DU2RefIdeal.main_arg1) = m ((c.tc : Thread Cert.DU2Ideal.nD Cert.DU2Ideal.τ).loc Cert.DU2Ideal.main_arg1)) →
    ∃ (v0 : (c : Dev Cert.DU2Ideal.nD) → Buf (Elt Ideal) ((c.tc : Thread Cert.DU2Ideal.nD Cert.DU2Ideal.τ).loc Cert.DU2Ideal.main_v0)),
      θ_run (Cert.DU2Ideal.defs (F := Ideal)) (onTc (τ := Cert.DU2Ideal.τ) (Cert.DU2Ideal.main (F := Ideal))) ⟨m, fun _ => 0, g⟩ (fun r => ∀ c : Dev Cert.DU2Ideal.nD,
          r.2.mem ((c.tc : Thread Cert.DU2Ideal.nD Cert.DU2Ideal.τ).loc Cert.DU2Ideal.main_v0) = v0 c
          ∧ r.2.mem ((c.tc : Thread Cert.DU2Ideal.nD Cert.DU2Ideal.τ).loc Cert.DU2Ideal.main_arg0) = m ((c.tc : Thread Cert.DU2Ideal.nD Cert.DU2Ideal.τ).loc Cert.DU2Ideal.main_arg0)
          ∧ r.2.mem ((c.tc : Thread Cert.DU2Ideal.nD Cert.DU2Ideal.τ).loc Cert.DU2Ideal.main_arg1) = m ((c.tc : Thread Cert.DU2Ideal.nD Cert.DU2Ideal.τ).loc Cert.DU2Ideal.main_arg1))
      ∧ θ_run (Cert.DU2RefIdeal.defs (F := Ideal)) (onTc (τ := Cert.DU2RefIdeal.τ) (Cert.DU2RefIdeal.main (F := Ideal))) ⟨m', fun _ => 0, g'⟩ (fun r => ∀ c : Dev Cert.DU2RefIdeal.nD,
          r.2.mem ((c.tc : Thread Cert.DU2RefIdeal.nD Cert.DU2RefIdeal.τ).loc Cert.DU2RefIdeal.main_v4) = v0 c
          ∧ r.2.mem ((c.tc : Thread Cert.DU2RefIdeal.nD Cert.DU2RefIdeal.τ).loc Cert.DU2RefIdeal.main_arg0) = m' ((c.tc : Thread Cert.DU2RefIdeal.nD Cert.DU2RefIdeal.τ).loc Cert.DU2RefIdeal.main_arg0)
          ∧ r.2.mem ((c.tc : Thread Cert.DU2RefIdeal.nD Cert.DU2RefIdeal.τ).loc Cert.DU2RefIdeal.main_arg1) = m' ((c.tc : Thread Cert.DU2RefIdeal.nD Cert.DU2RefIdeal.τ).loc Cert.DU2RefIdeal.main_arg1))

def preserves_DwGateUp_DwGateUpIdeal : Prop :=
  True

def algebraic_DwGateUpIdeal_DwGateUpRefIdeal [hDwGateUpIdeal : Cert.DwGateUpIdeal.Facts] [hDwGateUpRefIdeal : Cert.DwGateUpRefIdeal.Facts] : Prop :=
  ∀ (m : (ℓ : Loc Cert.DwGateUpIdeal.nD Cert.DwGateUpIdeal.τ Cert.DwGateUpIdeal.sig) → Buf (Elt Ideal) ℓ) (g : Dev Cert.DwGateUpIdeal.nD → PrngReg)
    (m' : (ℓ : Loc Cert.DwGateUpRefIdeal.nD Cert.DwGateUpRefIdeal.τ Cert.DwGateUpRefIdeal.sig) → Buf (Elt Ideal) ℓ) (g' : Dev Cert.DwGateUpRefIdeal.nD → PrngReg), Pre_DwGateUpIdeal m →
    (∀ c : Dev Cert.DwGateUpIdeal.nD,
      m' ((c.tc : Thread Cert.DwGateUpRefIdeal.nD Cert.DwGateUpRefIdeal.τ).loc Cert.DwGateUpRefIdeal.main_arg0) = m ((c.tc : Thread Cert.DwGateUpIdeal.nD Cert.DwGateUpIdeal.τ).loc Cert.DwGateUpIdeal.main_arg0)
      ∧ m' ((c.tc : Thread Cert.DwGateUpRefIdeal.nD Cert.DwGateUpRefIdeal.τ).loc Cert.DwGateUpRefIdeal.main_arg1) = m ((c.tc : Thread Cert.DwGateUpIdeal.nD Cert.DwGateUpIdeal.τ).loc Cert.DwGateUpIdeal.main_arg1)) →
    ∃ (v0 : (c : Dev Cert.DwGateUpIdeal.nD) → Buf (Elt Ideal) ((c.tc : Thread Cert.DwGateUpIdeal.nD Cert.DwGateUpIdeal.τ).loc Cert.DwGateUpIdeal.main_v0)),
      θ_run (Cert.DwGateUpIdeal.defs (F := Ideal)) (onTc (τ := Cert.DwGateUpIdeal.τ) (Cert.DwGateUpIdeal.main (F := Ideal))) ⟨m, fun _ => 0, g⟩ (fun r => ∀ c : Dev Cert.DwGateUpIdeal.nD,
          r.2.mem ((c.tc : Thread Cert.DwGateUpIdeal.nD Cert.DwGateUpIdeal.τ).loc Cert.DwGateUpIdeal.main_v0) = v0 c
          ∧ r.2.mem ((c.tc : Thread Cert.DwGateUpIdeal.nD Cert.DwGateUpIdeal.τ).loc Cert.DwGateUpIdeal.main_arg0) = m ((c.tc : Thread Cert.DwGateUpIdeal.nD Cert.DwGateUpIdeal.τ).loc Cert.DwGateUpIdeal.main_arg0)
          ∧ r.2.mem ((c.tc : Thread Cert.DwGateUpIdeal.nD Cert.DwGateUpIdeal.τ).loc Cert.DwGateUpIdeal.main_arg1) = m ((c.tc : Thread Cert.DwGateUpIdeal.nD Cert.DwGateUpIdeal.τ).loc Cert.DwGateUpIdeal.main_arg1))
      ∧ θ_run (Cert.DwGateUpRefIdeal.defs (F := Ideal)) (onTc (τ := Cert.DwGateUpRefIdeal.τ) (Cert.DwGateUpRefIdeal.main (F := Ideal))) ⟨m', fun _ => 0, g'⟩ (fun r => ∀ c : Dev Cert.DwGateUpRefIdeal.nD,
          r.2.mem ((c.tc : Thread Cert.DwGateUpRefIdeal.nD Cert.DwGateUpRefIdeal.τ).loc Cert.DwGateUpRefIdeal.main_v6) = v0 c
          ∧ r.2.mem ((c.tc : Thread Cert.DwGateUpRefIdeal.nD Cert.DwGateUpRefIdeal.τ).loc Cert.DwGateUpRefIdeal.main_arg0) = m' ((c.tc : Thread Cert.DwGateUpRefIdeal.nD Cert.DwGateUpRefIdeal.τ).loc Cert.DwGateUpRefIdeal.main_arg0)
          ∧ r.2.mem ((c.tc : Thread Cert.DwGateUpRefIdeal.nD Cert.DwGateUpRefIdeal.τ).loc Cert.DwGateUpRefIdeal.main_arg1) = m' ((c.tc : Thread Cert.DwGateUpRefIdeal.nD Cert.DwGateUpRefIdeal.τ).loc Cert.DwGateUpRefIdeal.main_arg1))

def preserves_DU1_DU1Ideal : Prop :=
  True

def algebraic_DU1Ideal_DU1RefIdeal [hDU1Ideal : Cert.DU1Ideal.Facts] [hDU1RefIdeal : Cert.DU1RefIdeal.Facts] : Prop :=
  ∀ (m : (ℓ : Loc Cert.DU1Ideal.nD Cert.DU1Ideal.τ Cert.DU1Ideal.sig) → Buf (Elt Ideal) ℓ) (g : Dev Cert.DU1Ideal.nD → PrngReg)
    (m' : (ℓ : Loc Cert.DU1RefIdeal.nD Cert.DU1RefIdeal.τ Cert.DU1RefIdeal.sig) → Buf (Elt Ideal) ℓ) (g' : Dev Cert.DU1RefIdeal.nD → PrngReg), Pre_DU1Ideal m →
    (∀ c : Dev Cert.DU1Ideal.nD,
      m' ((c.tc : Thread Cert.DU1RefIdeal.nD Cert.DU1RefIdeal.τ).loc Cert.DU1RefIdeal.main_arg0) = m ((c.tc : Thread Cert.DU1Ideal.nD Cert.DU1Ideal.τ).loc Cert.DU1Ideal.main_arg0)
      ∧ m' ((c.tc : Thread Cert.DU1RefIdeal.nD Cert.DU1RefIdeal.τ).loc Cert.DU1RefIdeal.main_arg1) = m ((c.tc : Thread Cert.DU1Ideal.nD Cert.DU1Ideal.τ).loc Cert.DU1Ideal.main_arg1)) →
    ∃ (v0 : (c : Dev Cert.DU1Ideal.nD) → Buf (Elt Ideal) ((c.tc : Thread Cert.DU1Ideal.nD Cert.DU1Ideal.τ).loc Cert.DU1Ideal.main_v0)),
      θ_run (Cert.DU1Ideal.defs (F := Ideal)) (onTc (τ := Cert.DU1Ideal.τ) (Cert.DU1Ideal.main (F := Ideal))) ⟨m, fun _ => 0, g⟩ (fun r => ∀ c : Dev Cert.DU1Ideal.nD,
          r.2.mem ((c.tc : Thread Cert.DU1Ideal.nD Cert.DU1Ideal.τ).loc Cert.DU1Ideal.main_v0) = v0 c
          ∧ r.2.mem ((c.tc : Thread Cert.DU1Ideal.nD Cert.DU1Ideal.τ).loc Cert.DU1Ideal.main_arg0) = m ((c.tc : Thread Cert.DU1Ideal.nD Cert.DU1Ideal.τ).loc Cert.DU1Ideal.main_arg0)
          ∧ r.2.mem ((c.tc : Thread Cert.DU1Ideal.nD Cert.DU1Ideal.τ).loc Cert.DU1Ideal.main_arg1) = m ((c.tc : Thread Cert.DU1Ideal.nD Cert.DU1Ideal.τ).loc Cert.DU1Ideal.main_arg1))
      ∧ θ_run (Cert.DU1RefIdeal.defs (F := Ideal)) (onTc (τ := Cert.DU1RefIdeal.τ) (Cert.DU1RefIdeal.main (F := Ideal))) ⟨m', fun _ => 0, g'⟩ (fun r => ∀ c : Dev Cert.DU1RefIdeal.nD,
          r.2.mem ((c.tc : Thread Cert.DU1RefIdeal.nD Cert.DU1RefIdeal.τ).loc Cert.DU1RefIdeal.main_v4) = v0 c
          ∧ r.2.mem ((c.tc : Thread Cert.DU1RefIdeal.nD Cert.DU1RefIdeal.τ).loc Cert.DU1RefIdeal.main_arg0) = m' ((c.tc : Thread Cert.DU1RefIdeal.nD Cert.DU1RefIdeal.τ).loc Cert.DU1RefIdeal.main_arg0)
          ∧ r.2.mem ((c.tc : Thread Cert.DU1RefIdeal.nD Cert.DU1RefIdeal.τ).loc Cert.DU1RefIdeal.main_arg1) = m' ((c.tc : Thread Cert.DU1RefIdeal.nD Cert.DU1RefIdeal.τ).loc Cert.DU1RefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v5) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v3) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_DMerged_DMergedIdeal : Prop :=
  True

def algebraic_DMergedIdeal_DMergedRefIdeal [hDMergedIdeal : Cert.DMergedIdeal.Facts] [hDMergedRefIdeal : Cert.DMergedRefIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedRefIdeal.nD Cert.DMergedRefIdeal.τ Cert.DMergedRefIdeal.sig) → Buf (Elt Ideal) ℓ) (g' : Dev Cert.DMergedRefIdeal.nD → PrngReg), Pre_DMergedIdeal m →
    (∀ c : Dev Cert.DMergedIdeal.nD,
      m' ((c.tc : Thread Cert.DMergedRefIdeal.nD Cert.DMergedRefIdeal.τ).loc Cert.DMergedRefIdeal.main_arg0) = m ((c.tc : Thread Cert.DMergedIdeal.nD Cert.DMergedIdeal.τ).loc Cert.DMergedIdeal.main_arg0)
      ∧ m' ((c.tc : Thread Cert.DMergedRefIdeal.nD Cert.DMergedRefIdeal.τ).loc Cert.DMergedRefIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v0)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v0) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.DMergedRefIdeal.defs (F := Ideal)) (onTc (τ := Cert.DMergedRefIdeal.τ) (Cert.DMergedRefIdeal.main (F := Ideal))) ⟨m', fun _ => 0, g'⟩ (fun r => ∀ c : Dev Cert.DMergedRefIdeal.nD,
          r.2.mem ((c.tc : Thread Cert.DMergedRefIdeal.nD Cert.DMergedRefIdeal.τ).loc Cert.DMergedRefIdeal.main_v5) = v0 c
          ∧ r.2.mem ((c.tc : Thread Cert.DMergedRefIdeal.nD Cert.DMergedRefIdeal.τ).loc Cert.DMergedRefIdeal.main_arg0) = m' ((c.tc : Thread Cert.DMergedRefIdeal.nD Cert.DMergedRefIdeal.τ).loc Cert.DMergedRefIdeal.main_arg0)
          ∧ r.2.mem ((c.tc : Thread Cert.DMergedRefIdeal.nD Cert.DMergedRefIdeal.τ).loc Cert.DMergedRefIdeal.main_arg1) = m' ((c.tc : Thread Cert.DMergedRefIdeal.nD Cert.DMergedRefIdeal.τ).loc Cert.DMergedRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DAttn_DAttnIdeal : Prop :=
  True

def algebraic_DAttnIdeal_DAttnRefIdeal [hDAttnIdeal : Cert.DAttnIdeal.Facts] [hDAttnRefIdeal : Cert.DAttnRefIdeal.Facts] : Prop :=
  ∀ (m : (ℓ : Loc Cert.DAttnIdeal.nD Cert.DAttnIdeal.τ Cert.DAttnIdeal.sig) → Buf (Elt Ideal) ℓ) (g : Dev Cert.DAttnIdeal.nD → PrngReg)
    (m' : (ℓ : Loc Cert.DAttnRefIdeal.nD Cert.DAttnRefIdeal.τ Cert.DAttnRefIdeal.sig) → Buf (Elt Ideal) ℓ) (g' : Dev Cert.DAttnRefIdeal.nD → PrngReg), Pre_DAttnIdeal m →
    (∀ c : Dev Cert.DAttnIdeal.nD,
      m' ((c.tc : Thread Cert.DAttnRefIdeal.nD Cert.DAttnRefIdeal.τ).loc Cert.DAttnRefIdeal.main_arg0) = m ((c.tc : Thread Cert.DAttnIdeal.nD Cert.DAttnIdeal.τ).loc Cert.DAttnIdeal.main_arg0)
      ∧ m' ((c.tc : Thread Cert.DAttnRefIdeal.nD Cert.DAttnRefIdeal.τ).loc Cert.DAttnRefIdeal.main_arg1) = m ((c.tc : Thread Cert.DAttnIdeal.nD Cert.DAttnIdeal.τ).loc Cert.DAttnIdeal.main_arg1)) →
    ∃ (v0 : (c : Dev Cert.DAttnIdeal.nD) → Buf (Elt Ideal) ((c.tc : Thread Cert.DAttnIdeal.nD Cert.DAttnIdeal.τ).loc Cert.DAttnIdeal.main_v0)),
      θ_run (Cert.DAttnIdeal.defs (F := Ideal)) (onTc (τ := Cert.DAttnIdeal.τ) (Cert.DAttnIdeal.main (F := Ideal))) ⟨m, fun _ => 0, g⟩ (fun r => ∀ c : Dev Cert.DAttnIdeal.nD,
          r.2.mem ((c.tc : Thread Cert.DAttnIdeal.nD Cert.DAttnIdeal.τ).loc Cert.DAttnIdeal.main_v0) = v0 c
          ∧ r.2.mem ((c.tc : Thread Cert.DAttnIdeal.nD Cert.DAttnIdeal.τ).loc Cert.DAttnIdeal.main_arg0) = m ((c.tc : Thread Cert.DAttnIdeal.nD Cert.DAttnIdeal.τ).loc Cert.DAttnIdeal.main_arg0)
          ∧ r.2.mem ((c.tc : Thread Cert.DAttnIdeal.nD Cert.DAttnIdeal.τ).loc Cert.DAttnIdeal.main_arg1) = m ((c.tc : Thread Cert.DAttnIdeal.nD Cert.DAttnIdeal.τ).loc Cert.DAttnIdeal.main_arg1))
      ∧ θ_run (Cert.DAttnRefIdeal.defs (F := Ideal)) (onTc (τ := Cert.DAttnRefIdeal.τ) (Cert.DAttnRefIdeal.main (F := Ideal))) ⟨m', fun _ => 0, g'⟩ (fun r => ∀ c : Dev Cert.DAttnRefIdeal.nD,
          r.2.mem ((c.tc : Thread Cert.DAttnRefIdeal.nD Cert.DAttnRefIdeal.τ).loc Cert.DAttnRefIdeal.main_v6) = v0 c
          ∧ r.2.mem ((c.tc : Thread Cert.DAttnRefIdeal.nD Cert.DAttnRefIdeal.τ).loc Cert.DAttnRefIdeal.main_arg0) = m' ((c.tc : Thread Cert.DAttnRefIdeal.nD Cert.DAttnRefIdeal.τ).loc Cert.DAttnRefIdeal.main_arg0)
          ∧ r.2.mem ((c.tc : Thread Cert.DAttnRefIdeal.nD Cert.DAttnRefIdeal.τ).loc Cert.DAttnRefIdeal.main_arg1) = m' ((c.tc : Thread Cert.DAttnRefIdeal.nD Cert.DAttnRefIdeal.τ).loc Cert.DAttnRefIdeal.main_arg1))

def preserves_DwAttnO_DwAttnOIdeal : Prop :=
  True

def algebraic_DwAttnOIdeal_DwAttnORefIdeal [hDwAttnOIdeal : Cert.DwAttnOIdeal.Facts] [hDwAttnORefIdeal : Cert.DwAttnORefIdeal.Facts] : Prop :=
  ∀ (m : (ℓ : Loc Cert.DwAttnOIdeal.nD Cert.DwAttnOIdeal.τ Cert.DwAttnOIdeal.sig) → Buf (Elt Ideal) ℓ) (g : Dev Cert.DwAttnOIdeal.nD → PrngReg)
    (m' : (ℓ : Loc Cert.DwAttnORefIdeal.nD Cert.DwAttnORefIdeal.τ Cert.DwAttnORefIdeal.sig) → Buf (Elt Ideal) ℓ) (g' : Dev Cert.DwAttnORefIdeal.nD → PrngReg), Pre_DwAttnOIdeal m →
    (∀ c : Dev Cert.DwAttnOIdeal.nD,
      m' ((c.tc : Thread Cert.DwAttnORefIdeal.nD Cert.DwAttnORefIdeal.τ).loc Cert.DwAttnORefIdeal.main_arg0) = m ((c.tc : Thread Cert.DwAttnOIdeal.nD Cert.DwAttnOIdeal.τ).loc Cert.DwAttnOIdeal.main_arg0)
      ∧ m' ((c.tc : Thread Cert.DwAttnORefIdeal.nD Cert.DwAttnORefIdeal.τ).loc Cert.DwAttnORefIdeal.main_arg1) = m ((c.tc : Thread Cert.DwAttnOIdeal.nD Cert.DwAttnOIdeal.τ).loc Cert.DwAttnOIdeal.main_arg1)) →
    ∃ (v0 : (c : Dev Cert.DwAttnOIdeal.nD) → Buf (Elt Ideal) ((c.tc : Thread Cert.DwAttnOIdeal.nD Cert.DwAttnOIdeal.τ).loc Cert.DwAttnOIdeal.main_v0)),
      θ_run (Cert.DwAttnOIdeal.defs (F := Ideal)) (onTc (τ := Cert.DwAttnOIdeal.τ) (Cert.DwAttnOIdeal.main (F := Ideal))) ⟨m, fun _ => 0, g⟩ (fun r => ∀ c : Dev Cert.DwAttnOIdeal.nD,
          r.2.mem ((c.tc : Thread Cert.DwAttnOIdeal.nD Cert.DwAttnOIdeal.τ).loc Cert.DwAttnOIdeal.main_v0) = v0 c
          ∧ r.2.mem ((c.tc : Thread Cert.DwAttnOIdeal.nD Cert.DwAttnOIdeal.τ).loc Cert.DwAttnOIdeal.main_arg0) = m ((c.tc : Thread Cert.DwAttnOIdeal.nD Cert.DwAttnOIdeal.τ).loc Cert.DwAttnOIdeal.main_arg0)
          ∧ r.2.mem ((c.tc : Thread Cert.DwAttnOIdeal.nD Cert.DwAttnOIdeal.τ).loc Cert.DwAttnOIdeal.main_arg1) = m ((c.tc : Thread Cert.DwAttnOIdeal.nD Cert.DwAttnOIdeal.τ).loc Cert.DwAttnOIdeal.main_arg1))
      ∧ θ_run (Cert.DwAttnORefIdeal.defs (F := Ideal)) (onTc (τ := Cert.DwAttnORefIdeal.τ) (Cert.DwAttnORefIdeal.main (F := Ideal))) ⟨m', fun _ => 0, g'⟩ (fun r => ∀ c : Dev Cert.DwAttnORefIdeal.nD,
          r.2.mem ((c.tc : Thread Cert.DwAttnORefIdeal.nD Cert.DwAttnORefIdeal.τ).loc Cert.DwAttnORefIdeal.main_v7) = v0 c
          ∧ r.2.mem ((c.tc : Thread Cert.DwAttnORefIdeal.nD Cert.DwAttnORefIdeal.τ).loc Cert.DwAttnORefIdeal.main_arg0) = m' ((c.tc : Thread Cert.DwAttnORefIdeal.nD Cert.DwAttnORefIdeal.τ).loc Cert.DwAttnORefIdeal.main_arg0)
          ∧ r.2.mem ((c.tc : Thread Cert.DwAttnORefIdeal.nD Cert.DwAttnORefIdeal.τ).loc Cert.DwAttnORefIdeal.main_arg1) = m' ((c.tc : Thread Cert.DwAttnORefIdeal.nD Cert.DwAttnORefIdeal.τ).loc Cert.DwAttnORefIdeal.main_arg1))

def preserves_DConv_DConvIdeal : Prop :=
  True

def algebraic_DConvIdeal_DConvRefIdeal [hDConvIdeal : Cert.DConvIdeal.Facts] [hDConvRefIdeal : Cert.DConvRefIdeal.Facts] : Prop :=
  ∀ (m : (ℓ : Loc Cert.DConvIdeal.nD Cert.DConvIdeal.τ Cert.DConvIdeal.sig) → Buf (Elt Ideal) ℓ) (g : Dev Cert.DConvIdeal.nD → PrngReg)
    (m' : (ℓ : Loc Cert.DConvRefIdeal.nD Cert.DConvRefIdeal.τ Cert.DConvRefIdeal.sig) → Buf (Elt Ideal) ℓ) (g' : Dev Cert.DConvRefIdeal.nD → PrngReg), Pre_DConvIdeal m →
    (∀ c : Dev Cert.DConvIdeal.nD,
      m' ((c.tc : Thread Cert.DConvRefIdeal.nD Cert.DConvRefIdeal.τ).loc Cert.DConvRefIdeal.main_arg0) = m ((c.tc : Thread Cert.DConvIdeal.nD Cert.DConvIdeal.τ).loc Cert.DConvIdeal.main_arg0)
      ∧ m' ((c.tc : Thread Cert.DConvRefIdeal.nD Cert.DConvRefIdeal.τ).loc Cert.DConvRefIdeal.main_arg1) = m ((c.tc : Thread Cert.DConvIdeal.nD Cert.DConvIdeal.τ).loc Cert.DConvIdeal.main_arg1)) →
    ∃ (v0 : (c : Dev Cert.DConvIdeal.nD) → Buf (Elt Ideal) ((c.tc : Thread Cert.DConvIdeal.nD Cert.DConvIdeal.τ).loc Cert.DConvIdeal.main_v0)),
      θ_run (Cert.DConvIdeal.defs (F := Ideal)) (onTc (τ := Cert.DConvIdeal.τ) (Cert.DConvIdeal.main (F := Ideal))) ⟨m, fun _ => 0, g⟩ (fun r => ∀ c : Dev Cert.DConvIdeal.nD,
          r.2.mem ((c.tc : Thread Cert.DConvIdeal.nD Cert.DConvIdeal.τ).loc Cert.DConvIdeal.main_v0) = v0 c
          ∧ r.2.mem ((c.tc : Thread Cert.DConvIdeal.nD Cert.DConvIdeal.τ).loc Cert.DConvIdeal.main_arg0) = m ((c.tc : Thread Cert.DConvIdeal.nD Cert.DConvIdeal.τ).loc Cert.DConvIdeal.main_arg0)
          ∧ r.2.mem ((c.tc : Thread Cert.DConvIdeal.nD Cert.DConvIdeal.τ).loc Cert.DConvIdeal.main_arg1) = m ((c.tc : Thread Cert.DConvIdeal.nD Cert.DConvIdeal.τ).loc Cert.DConvIdeal.main_arg1))
      ∧ θ_run (Cert.DConvRefIdeal.defs (F := Ideal)) (onTc (τ := Cert.DConvRefIdeal.τ) (Cert.DConvRefIdeal.main (F := Ideal))) ⟨m', fun _ => 0, g'⟩ (fun r => ∀ c : Dev Cert.DConvRefIdeal.nD,
          r.2.mem ((c.tc : Thread Cert.DConvRefIdeal.nD Cert.DConvRefIdeal.τ).loc Cert.DConvRefIdeal.main_v6) = v0 c
          ∧ r.2.mem ((c.tc : Thread Cert.DConvRefIdeal.nD Cert.DConvRefIdeal.τ).loc Cert.DConvRefIdeal.main_arg0) = m' ((c.tc : Thread Cert.DConvRefIdeal.nD Cert.DConvRefIdeal.τ).loc Cert.DConvRefIdeal.main_arg0)
          ∧ r.2.mem ((c.tc : Thread Cert.DConvRefIdeal.nD Cert.DConvRefIdeal.τ).loc Cert.DConvRefIdeal.main_arg1) = m' ((c.tc : Thread Cert.DConvRefIdeal.nD Cert.DConvRefIdeal.τ).loc Cert.DConvRefIdeal.main_arg1))

def preserves_DwConvO_DwConvOIdeal : Prop :=
  True

def algebraic_DwConvOIdeal_DwConvORefIdeal [hDwConvOIdeal : Cert.DwConvOIdeal.Facts] [hDwConvORefIdeal : Cert.DwConvORefIdeal.Facts] : Prop :=
  ∀ (m : (ℓ : Loc Cert.DwConvOIdeal.nD Cert.DwConvOIdeal.τ Cert.DwConvOIdeal.sig) → Buf (Elt Ideal) ℓ) (g : Dev Cert.DwConvOIdeal.nD → PrngReg)
    (m' : (ℓ : Loc Cert.DwConvORefIdeal.nD Cert.DwConvORefIdeal.τ Cert.DwConvORefIdeal.sig) → Buf (Elt Ideal) ℓ) (g' : Dev Cert.DwConvORefIdeal.nD → PrngReg), Pre_DwConvOIdeal m →
    (∀ c : Dev Cert.DwConvOIdeal.nD,
      m' ((c.tc : Thread Cert.DwConvORefIdeal.nD Cert.DwConvORefIdeal.τ).loc Cert.DwConvORefIdeal.main_arg0) = m ((c.tc : Thread Cert.DwConvOIdeal.nD Cert.DwConvOIdeal.τ).loc Cert.DwConvOIdeal.main_arg0)
      ∧ m' ((c.tc : Thread Cert.DwConvORefIdeal.nD Cert.DwConvORefIdeal.τ).loc Cert.DwConvORefIdeal.main_arg1) = m ((c.tc : Thread Cert.DwConvOIdeal.nD Cert.DwConvOIdeal.τ).loc Cert.DwConvOIdeal.main_arg1)) →
    ∃ (v0 : (c : Dev Cert.DwConvOIdeal.nD) → Buf (Elt Ideal) ((c.tc : Thread Cert.DwConvOIdeal.nD Cert.DwConvOIdeal.τ).loc Cert.DwConvOIdeal.main_v0)),
      θ_run (Cert.DwConvOIdeal.defs (F := Ideal)) (onTc (τ := Cert.DwConvOIdeal.τ) (Cert.DwConvOIdeal.main (F := Ideal))) ⟨m, fun _ => 0, g⟩ (fun r => ∀ c : Dev Cert.DwConvOIdeal.nD,
          r.2.mem ((c.tc : Thread Cert.DwConvOIdeal.nD Cert.DwConvOIdeal.τ).loc Cert.DwConvOIdeal.main_v0) = v0 c
          ∧ r.2.mem ((c.tc : Thread Cert.DwConvOIdeal.nD Cert.DwConvOIdeal.τ).loc Cert.DwConvOIdeal.main_arg0) = m ((c.tc : Thread Cert.DwConvOIdeal.nD Cert.DwConvOIdeal.τ).loc Cert.DwConvOIdeal.main_arg0)
          ∧ r.2.mem ((c.tc : Thread Cert.DwConvOIdeal.nD Cert.DwConvOIdeal.τ).loc Cert.DwConvOIdeal.main_arg1) = m ((c.tc : Thread Cert.DwConvOIdeal.nD Cert.DwConvOIdeal.τ).loc Cert.DwConvOIdeal.main_arg1))
      ∧ θ_run (Cert.DwConvORefIdeal.defs (F := Ideal)) (onTc (τ := Cert.DwConvORefIdeal.τ) (Cert.DwConvORefIdeal.main (F := Ideal))) ⟨m', fun _ => 0, g'⟩ (fun r => ∀ c : Dev Cert.DwConvORefIdeal.nD,
          r.2.mem ((c.tc : Thread Cert.DwConvORefIdeal.nD Cert.DwConvORefIdeal.τ).loc Cert.DwConvORefIdeal.main_v7) = v0 c
          ∧ r.2.mem ((c.tc : Thread Cert.DwConvORefIdeal.nD Cert.DwConvORefIdeal.τ).loc Cert.DwConvORefIdeal.main_arg0) = m' ((c.tc : Thread Cert.DwConvORefIdeal.nD Cert.DwConvORefIdeal.τ).loc Cert.DwConvORefIdeal.main_arg0)
          ∧ r.2.mem ((c.tc : Thread Cert.DwConvORefIdeal.nD Cert.DwConvORefIdeal.τ).loc Cert.DwConvORefIdeal.main_arg1) = m' ((c.tc : Thread Cert.DwConvORefIdeal.nD Cert.DwConvORefIdeal.τ).loc Cert.DwConvORefIdeal.main_arg1))

def preserves_GateB_GateBIdeal : Prop :=
  True

def algebraic_GateBIdeal_GateBRefIdeal [hGateBIdeal : Cert.GateBIdeal.Facts] [hGateBRefIdeal : Cert.GateBRefIdeal.Facts] : Prop :=
  ∀ (m : (ℓ : Loc Cert.GateBIdeal.nD Cert.GateBIdeal.τ Cert.GateBIdeal.sig) → Buf (Elt Ideal) ℓ) (g : Dev Cert.GateBIdeal.nD → PrngReg)
    (m' : (ℓ : Loc Cert.GateBRefIdeal.nD Cert.GateBRefIdeal.τ Cert.GateBRefIdeal.sig) → Buf (Elt Ideal) ℓ) (g' : Dev Cert.GateBRefIdeal.nD → PrngReg), Pre_GateBIdeal m →
    (∀ c : Dev Cert.GateBIdeal.nD,
      m' ((c.tc : Thread Cert.GateBRefIdeal.nD Cert.GateBRefIdeal.τ).loc Cert.GateBRefIdeal.main_arg0) = m ((c.tc : Thread Cert.GateBIdeal.nD Cert.GateBIdeal.τ).loc Cert.GateBIdeal.main_arg0)
      ∧ m' ((c.tc : Thread Cert.GateBRefIdeal.nD Cert.GateBRefIdeal.τ).loc Cert.GateBRefIdeal.main_arg1) = m ((c.tc : Thread Cert.GateBIdeal.nD Cert.GateBIdeal.τ).loc Cert.GateBIdeal.main_arg1)
      ∧ m' ((c.tc : Thread Cert.GateBRefIdeal.nD Cert.GateBRefIdeal.τ).loc Cert.GateBRefIdeal.main_arg2) = m ((c.tc : Thread Cert.GateBIdeal.nD Cert.GateBIdeal.τ).loc Cert.GateBIdeal.main_arg2)
      ∧ m' ((c.tc : Thread Cert.GateBRefIdeal.nD Cert.GateBRefIdeal.τ).loc Cert.GateBRefIdeal.main_arg3) = m ((c.tc : Thread Cert.GateBIdeal.nD Cert.GateBIdeal.τ).loc Cert.GateBIdeal.main_arg3)) →
    ∃ (v0 : (c : Dev Cert.GateBIdeal.nD) → Buf (Elt Ideal) ((c.tc : Thread Cert.GateBIdeal.nD Cert.GateBIdeal.τ).loc Cert.GateBIdeal.main_v0_0)) (v1 : (c : Dev Cert.GateBIdeal.nD) → Buf (Elt Ideal) ((c.tc : Thread Cert.GateBIdeal.nD Cert.GateBIdeal.τ).loc Cert.GateBIdeal.main_v0_1)),
      θ_run (Cert.GateBIdeal.defs (F := Ideal)) (onTc (τ := Cert.GateBIdeal.τ) (Cert.GateBIdeal.main (F := Ideal))) ⟨m, fun _ => 0, g⟩ (fun r => ∀ c : Dev Cert.GateBIdeal.nD,
          r.2.mem ((c.tc : Thread Cert.GateBIdeal.nD Cert.GateBIdeal.τ).loc Cert.GateBIdeal.main_v0_0) = v0 c
          ∧ r.2.mem ((c.tc : Thread Cert.GateBIdeal.nD Cert.GateBIdeal.τ).loc Cert.GateBIdeal.main_v0_1) = v1 c
          ∧ r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
          ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
          ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2)
          ∧ r.2.mem ((c.tc : Thread Cert.GateBIdeal.nD Cert.GateBIdeal.τ).loc Cert.GateBIdeal.main_arg3) = m ((c.tc : Thread Cert.GateBIdeal.nD Cert.GateBIdeal.τ).loc Cert.GateBIdeal.main_arg3))
      ∧ θ_run (Cert.GateBRefIdeal.defs (F := Ideal)) (onTc (τ := Cert.GateBRefIdeal.τ) (Cert.GateBRefIdeal.main (F := Ideal))) ⟨m', fun _ => 0, g'⟩ (fun r => ∀ c : Dev Cert.GateBRefIdeal.nD,
          r.2.mem ((c.tc : Thread Cert.GateBRefIdeal.nD Cert.GateBRefIdeal.τ).loc Cert.GateBRefIdeal.main_v43) = v0 c
          ∧ r.2.mem ((c.tc : Thread Cert.GateBRefIdeal.nD Cert.GateBRefIdeal.τ).loc Cert.GateBRefIdeal.main_v44) = v1 c
          ∧ r.2.mem ((c.tc : Thread Cert.GateBRefIdeal.nD Cert.GateBRefIdeal.τ).loc Cert.GateBRefIdeal.main_arg0) = m' ((c.tc : Thread Cert.GateBRefIdeal.nD Cert.GateBRefIdeal.τ).loc Cert.GateBRefIdeal.main_arg0)
          ∧ r.2.mem ((c.tc : Thread Cert.GateBRefIdeal.nD Cert.GateBRefIdeal.τ).loc Cert.GateBRefIdeal.main_arg1) = m' ((c.tc : Thread Cert.GateBRefIdeal.nD Cert.GateBRefIdeal.τ).loc Cert.GateBRefIdeal.main_arg1)
          ∧ r.2.mem ((c.tc : Thread Cert.GateBRefIdeal.nD Cert.GateBRefIdeal.τ).loc Cert.GateBRefIdeal.main_arg2) = m' ((c.tc : Thread Cert.GateBRefIdeal.nD Cert.GateBRefIdeal.τ).loc Cert.GateBRefIdeal.main_arg2)
          ∧ r.2.mem ((c.tc : Thread Cert.GateBRefIdeal.nD Cert.GateBRefIdeal.τ).loc Cert.GateBRefIdeal.main_arg3) = m' ((c.tc : Thread Cert.GateBRefIdeal.nD Cert.GateBRefIdeal.τ).loc Cert.GateBRefIdeal.main_arg3))

def preserves_GluB_GluBIdeal : Prop :=
  True

def algebraic_GluBIdeal_GluBRefIdeal [hGluBIdeal : Cert.GluBIdeal.Facts] [hGluBRefIdeal : Cert.GluBRefIdeal.Facts] : Prop :=
  ∀ (m : (ℓ : Loc Cert.GluBIdeal.nD Cert.GluBIdeal.τ Cert.GluBIdeal.sig) → Buf (Elt Ideal) ℓ) (g : Dev Cert.GluBIdeal.nD → PrngReg)
    (m' : (ℓ : Loc Cert.GluBRefIdeal.nD Cert.GluBRefIdeal.τ Cert.GluBRefIdeal.sig) → Buf (Elt Ideal) ℓ) (g' : Dev Cert.GluBRefIdeal.nD → PrngReg), Pre_GluBIdeal m →
    (∀ c : Dev Cert.GluBIdeal.nD,
      m' ((c.tc : Thread Cert.GluBRefIdeal.nD Cert.GluBRefIdeal.τ).loc Cert.GluBRefIdeal.main_arg0) = m ((c.tc : Thread Cert.GluBIdeal.nD Cert.GluBIdeal.τ).loc Cert.GluBIdeal.main_arg0)
      ∧ m' ((c.tc : Thread Cert.GluBRefIdeal.nD Cert.GluBRefIdeal.τ).loc Cert.GluBRefIdeal.main_arg1) = m ((c.tc : Thread Cert.GluBIdeal.nD Cert.GluBIdeal.τ).loc Cert.GluBIdeal.main_arg1)
      ∧ m' ((c.tc : Thread Cert.GluBRefIdeal.nD Cert.GluBRefIdeal.τ).loc Cert.GluBRefIdeal.main_arg2) = m ((c.tc : Thread Cert.GluBIdeal.nD Cert.GluBIdeal.τ).loc Cert.GluBIdeal.main_arg2)) →
    ∃ (v0 : (c : Dev Cert.GluBIdeal.nD) → Buf (Elt Ideal) ((c.tc : Thread Cert.GluBIdeal.nD Cert.GluBIdeal.τ).loc Cert.GluBIdeal.main_v0)),
      θ_run (Cert.GluBIdeal.defs (F := Ideal)) (onTc (τ := Cert.GluBIdeal.τ) (Cert.GluBIdeal.main (F := Ideal))) ⟨m, fun _ => 0, g⟩ (fun r => ∀ c : Dev Cert.GluBIdeal.nD,
          r.2.mem ((c.tc : Thread Cert.GluBIdeal.nD Cert.GluBIdeal.τ).loc Cert.GluBIdeal.main_v0) = v0 c
          ∧ r.2.mem ((c.tc : Thread Cert.GluBIdeal.nD Cert.GluBIdeal.τ).loc Cert.GluBIdeal.main_arg0) = m ((c.tc : Thread Cert.GluBIdeal.nD Cert.GluBIdeal.τ).loc Cert.GluBIdeal.main_arg0)
          ∧ r.2.mem ((c.tc : Thread Cert.GluBIdeal.nD Cert.GluBIdeal.τ).loc Cert.GluBIdeal.main_arg1) = m ((c.tc : Thread Cert.GluBIdeal.nD Cert.GluBIdeal.τ).loc Cert.GluBIdeal.main_arg1)
          ∧ r.2.mem ((c.tc : Thread Cert.GluBIdeal.nD Cert.GluBIdeal.τ).loc Cert.GluBIdeal.main_arg2) = m ((c.tc : Thread Cert.GluBIdeal.nD Cert.GluBIdeal.τ).loc Cert.GluBIdeal.main_arg2))
      ∧ θ_run (Cert.GluBRefIdeal.defs (F := Ideal)) (onTc (τ := Cert.GluBRefIdeal.τ) (Cert.GluBRefIdeal.main (F := Ideal))) ⟨m', fun _ => 0, g'⟩ (fun r => ∀ c : Dev Cert.GluBRefIdeal.nD,
          r.2.mem ((c.tc : Thread Cert.GluBRefIdeal.nD Cert.GluBRefIdeal.τ).loc Cert.GluBRefIdeal.main_v23) = v0 c
          ∧ r.2.mem ((c.tc : Thread Cert.GluBRefIdeal.nD Cert.GluBRefIdeal.τ).loc Cert.GluBRefIdeal.main_arg0) = m' ((c.tc : Thread Cert.GluBRefIdeal.nD Cert.GluBRefIdeal.τ).loc Cert.GluBRefIdeal.main_arg0)
          ∧ r.2.mem ((c.tc : Thread Cert.GluBRefIdeal.nD Cert.GluBRefIdeal.τ).loc Cert.GluBRefIdeal.main_arg1) = m' ((c.tc : Thread Cert.GluBRefIdeal.nD Cert.GluBRefIdeal.τ).loc Cert.GluBRefIdeal.main_arg1)
          ∧ r.2.mem ((c.tc : Thread Cert.GluBRefIdeal.nD Cert.GluBRefIdeal.τ).loc Cert.GluBRefIdeal.main_arg2) = m' ((c.tc : Thread Cert.GluBRefIdeal.nD Cert.GluBRefIdeal.τ).loc Cert.GluBRefIdeal.main_arg2))

def preserves_SwigluB_SwigluBIdeal : Prop :=
  True

def algebraic_SwigluBIdeal_SwigluBRefIdeal_pre_finite_swiglu [hSwigluBIdeal : Cert.SwigluBIdeal.Facts] [hSwigluBRefIdeal : Cert.SwigluBRefIdeal.Facts] [hPre_finite_swiglu : Cert.Pre_finite_swiglu.Facts] : Prop :=
  ∀ (m : (ℓ : Loc Cert.SwigluBIdeal.nD Cert.SwigluBIdeal.τ Cert.SwigluBIdeal.sig) → Buf (Elt Ideal) ℓ) (g : Dev Cert.SwigluBIdeal.nD → PrngReg)
    (m' : (ℓ : Loc Cert.SwigluBRefIdeal.nD Cert.SwigluBRefIdeal.τ Cert.SwigluBRefIdeal.sig) → Buf (Elt Ideal) ℓ) (g' : Dev Cert.SwigluBRefIdeal.nD → PrngReg), Pre_SwigluBIdeal_finite_swiglu m →
    (∀ c : Dev Cert.SwigluBIdeal.nD,
      m' ((c.tc : Thread Cert.SwigluBRefIdeal.nD Cert.SwigluBRefIdeal.τ).loc Cert.SwigluBRefIdeal.main_arg0) = m ((c.tc : Thread Cert.SwigluBIdeal.nD Cert.SwigluBIdeal.τ).loc Cert.SwigluBIdeal.main_arg0)
      ∧ m' ((c.tc : Thread Cert.SwigluBRefIdeal.nD Cert.SwigluBRefIdeal.τ).loc Cert.SwigluBRefIdeal.main_arg1) = m ((c.tc : Thread Cert.SwigluBIdeal.nD Cert.SwigluBIdeal.τ).loc Cert.SwigluBIdeal.main_arg1)) →
    ∃ (v0 : (c : Dev Cert.SwigluBIdeal.nD) → Buf (Elt Ideal) ((c.tc : Thread Cert.SwigluBIdeal.nD Cert.SwigluBIdeal.τ).loc Cert.SwigluBIdeal.main_v0)),
      θ_run (Cert.SwigluBIdeal.defs (F := Ideal)) (onTc (τ := Cert.SwigluBIdeal.τ) (Cert.SwigluBIdeal.main (F := Ideal))) ⟨m, fun _ => 0, g⟩ (fun r => ∀ c : Dev Cert.SwigluBIdeal.nD,
          r.2.mem ((c.tc : Thread Cert.SwigluBIdeal.nD Cert.SwigluBIdeal.τ).loc Cert.SwigluBIdeal.main_v0) = v0 c
          ∧ r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
          ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1))
      ∧ θ_run (Cert.SwigluBRefIdeal.defs (F := Ideal)) (onTc (τ := Cert.SwigluBRefIdeal.τ) (Cert.SwigluBRefIdeal.main (F := Ideal))) ⟨m', fun _ => 0, g'⟩ (fun r => ∀ c : Dev Cert.SwigluBRefIdeal.nD,
          r.2.mem ((c.tc : Thread Cert.SwigluBRefIdeal.nD Cert.SwigluBRefIdeal.τ).loc Cert.SwigluBRefIdeal.main_v12) = v0 c
          ∧ r.2.mem ((c.tc : Thread Cert.SwigluBRefIdeal.nD Cert.SwigluBRefIdeal.τ).loc Cert.SwigluBRefIdeal.main_arg0) = m' ((c.tc : Thread Cert.SwigluBRefIdeal.nD Cert.SwigluBRefIdeal.τ).loc Cert.SwigluBRefIdeal.main_arg0)
          ∧ r.2.mem ((c.tc : Thread Cert.SwigluBRefIdeal.nD Cert.SwigluBRefIdeal.τ).loc Cert.SwigluBRefIdeal.main_arg1) = m' ((c.tc : Thread Cert.SwigluBRefIdeal.nD Cert.SwigluBRefIdeal.τ).loc Cert.SwigluBRefIdeal.main_arg1))

def preserves_SwigluF_SwigluFIdeal : Prop :=
  True

def algebraic_SwigluFIdeal_SwigluFRefIdeal [hSwigluFIdeal : Cert.SwigluFIdeal.Facts] [hSwigluFRefIdeal : Cert.SwigluFRefIdeal.Facts] : Prop :=
  ∀ (m : (ℓ : Loc Cert.SwigluFIdeal.nD Cert.SwigluFIdeal.τ Cert.SwigluFIdeal.sig) → Buf (Elt Ideal) ℓ) (g : Dev Cert.SwigluFIdeal.nD → PrngReg)
    (m' : (ℓ : Loc Cert.SwigluFRefIdeal.nD Cert.SwigluFRefIdeal.τ Cert.SwigluFRefIdeal.sig) → Buf (Elt Ideal) ℓ) (g' : Dev Cert.SwigluFRefIdeal.nD → PrngReg), Pre_SwigluFIdeal m →
    (∀ c : Dev Cert.SwigluFIdeal.nD,
      m' ((c.tc : Thread Cert.SwigluFRefIdeal.nD Cert.SwigluFRefIdeal.τ).loc Cert.SwigluFRefIdeal.main_arg0) = m ((c.tc : Thread Cert.SwigluFIdeal.nD Cert.SwigluFIdeal.τ).loc Cert.SwigluFIdeal.main_arg0)) →
    ∃ (v0 : (c : Dev Cert.SwigluFIdeal.nD) → Buf (Elt Ideal) ((c.tc : Thread Cert.SwigluFIdeal.nD Cert.SwigluFIdeal.τ).loc Cert.SwigluFIdeal.main_v0)),
      θ_run (Cert.SwigluFIdeal.defs (F := Ideal)) (onTc (τ := Cert.SwigluFIdeal.τ) (Cert.SwigluFIdeal.main (F := Ideal))) ⟨m, fun _ => 0, g⟩ (fun r => ∀ c : Dev Cert.SwigluFIdeal.nD,
          r.2.mem ((c.tc : Thread Cert.SwigluFIdeal.nD Cert.SwigluFIdeal.τ).loc Cert.SwigluFIdeal.main_v0) = v0 c
          ∧ r.2.mem ((c.tc : Thread Cert.SwigluFIdeal.nD Cert.SwigluFIdeal.τ).loc Cert.SwigluFIdeal.main_arg0) = m ((c.tc : Thread Cert.SwigluFIdeal.nD Cert.SwigluFIdeal.τ).loc Cert.SwigluFIdeal.main_arg0))
      ∧ θ_run (Cert.SwigluFRefIdeal.defs (F := Ideal)) (onTc (τ := Cert.SwigluFRefIdeal.τ) (Cert.SwigluFRefIdeal.main (F := Ideal))) ⟨m', fun _ => 0, g'⟩ (fun r => ∀ c : Dev Cert.SwigluFRefIdeal.nD,
          r.2.mem ((c.tc : Thread Cert.SwigluFRefIdeal.nD Cert.SwigluFRefIdeal.τ).loc Cert.SwigluFRefIdeal.main_v6) = v0 c
          ∧ r.2.mem ((c.tc : Thread Cert.SwigluFRefIdeal.nD Cert.SwigluFRefIdeal.τ).loc Cert.SwigluFRefIdeal.main_arg0) = m' ((c.tc : Thread Cert.SwigluFRefIdeal.nD Cert.SwigluFRefIdeal.τ).loc Cert.SwigluFRefIdeal.main_arg0))

def preserves_GateF_GateFIdeal : Prop :=
  True

def algebraic_GateFIdeal_GateFRefIdeal [hGateFIdeal : Cert.GateFIdeal.Facts] [hGateFRefIdeal : Cert.GateFRefIdeal.Facts] : Prop :=
  ∀ (m : (ℓ : Loc Cert.GateFIdeal.nD Cert.GateFIdeal.τ Cert.GateFIdeal.sig) → Buf (Elt Ideal) ℓ) (g : Dev Cert.GateFIdeal.nD → PrngReg)
    (m' : (ℓ : Loc Cert.GateFRefIdeal.nD Cert.GateFRefIdeal.τ Cert.GateFRefIdeal.sig) → Buf (Elt Ideal) ℓ) (g' : Dev Cert.GateFRefIdeal.nD → PrngReg), Pre_GateFIdeal m →
    (∀ c : Dev Cert.GateFIdeal.nD,
      m' ((c.tc : Thread Cert.GateFRefIdeal.nD Cert.GateFRefIdeal.τ).loc Cert.GateFRefIdeal.main_arg0) = m ((c.tc : Thread Cert.GateFIdeal.nD Cert.GateFIdeal.τ).loc Cert.GateFIdeal.main_arg0)
      ∧ m' ((c.tc : Thread Cert.GateFRefIdeal.nD Cert.GateFRefIdeal.τ).loc Cert.GateFRefIdeal.main_arg1) = m ((c.tc : Thread Cert.GateFIdeal.nD Cert.GateFIdeal.τ).loc Cert.GateFIdeal.main_arg1)) →
    ∃ (v0 : (c : Dev Cert.GateFIdeal.nD) → Buf (Elt Ideal) ((c.tc : Thread Cert.GateFIdeal.nD Cert.GateFIdeal.τ).loc Cert.GateFIdeal.main_v0)),
      θ_run (Cert.GateFIdeal.defs (F := Ideal)) (onTc (τ := Cert.GateFIdeal.τ) (Cert.GateFIdeal.main (F := Ideal))) ⟨m, fun _ => 0, g⟩ (fun r => ∀ c : Dev Cert.GateFIdeal.nD,
          r.2.mem ((c.tc : Thread Cert.GateFIdeal.nD Cert.GateFIdeal.τ).loc Cert.GateFIdeal.main_v0) = v0 c
          ∧ r.2.mem ((c.tc : Thread Cert.GateFIdeal.nD Cert.GateFIdeal.τ).loc Cert.GateFIdeal.main_arg0) = m ((c.tc : Thread Cert.GateFIdeal.nD Cert.GateFIdeal.τ).loc Cert.GateFIdeal.main_arg0)
          ∧ r.2.mem ((c.tc : Thread Cert.GateFIdeal.nD Cert.GateFIdeal.τ).loc Cert.GateFIdeal.main_arg1) = m ((c.tc : Thread Cert.GateFIdeal.nD Cert.GateFIdeal.τ).loc Cert.GateFIdeal.main_arg1))
      ∧ θ_run (Cert.GateFRefIdeal.defs (F := Ideal)) (onTc (τ := Cert.GateFRefIdeal.τ) (Cert.GateFRefIdeal.main (F := Ideal))) ⟨m', fun _ => 0, g'⟩ (fun r => ∀ c : Dev Cert.GateFRefIdeal.nD,
          r.2.mem ((c.tc : Thread Cert.GateFRefIdeal.nD Cert.GateFRefIdeal.τ).loc Cert.GateFRefIdeal.main_v22) = v0 c
          ∧ r.2.mem ((c.tc : Thread Cert.GateFRefIdeal.nD Cert.GateFRefIdeal.τ).loc Cert.GateFRefIdeal.main_arg0) = m' ((c.tc : Thread Cert.GateFRefIdeal.nD Cert.GateFRefIdeal.τ).loc Cert.GateFRefIdeal.main_arg0)
          ∧ r.2.mem ((c.tc : Thread Cert.GateFRefIdeal.nD Cert.GateFRefIdeal.τ).loc Cert.GateFRefIdeal.main_arg1) = m' ((c.tc : Thread Cert.GateFRefIdeal.nD Cert.GateFRefIdeal.τ).loc Cert.GateFRefIdeal.main_arg1))

def preserves_RmsB_RmsBIdeal : Prop :=
  True

def algebraic_RmsBIdeal_RmsBRefIdeal_pre_finite_rms [hRmsBIdeal : Cert.RmsBIdeal.Facts] [hRmsBRefIdeal : Cert.RmsBRefIdeal.Facts] [hPre_finite_rms : Cert.Pre_finite_rms.Facts] : Prop :=
  ∀ (m : (ℓ : Loc Cert.RmsBIdeal.nD Cert.RmsBIdeal.τ Cert.RmsBIdeal.sig) → Buf (Elt Ideal) ℓ) (g : Dev Cert.RmsBIdeal.nD → PrngReg)
    (m' : (ℓ : Loc Cert.RmsBRefIdeal.nD Cert.RmsBRefIdeal.τ Cert.RmsBRefIdeal.sig) → Buf (Elt Ideal) ℓ) (g' : Dev Cert.RmsBRefIdeal.nD → PrngReg), Pre_RmsBIdeal_finite_rms m →
    (∀ c : Dev Cert.RmsBIdeal.nD,
      m' ((c.tc : Thread Cert.RmsBRefIdeal.nD Cert.RmsBRefIdeal.τ).loc Cert.RmsBRefIdeal.main_arg0) = m ((c.tc : Thread Cert.RmsBIdeal.nD Cert.RmsBIdeal.τ).loc Cert.RmsBIdeal.main_arg0)
      ∧ m' ((c.tc : Thread Cert.RmsBRefIdeal.nD Cert.RmsBRefIdeal.τ).loc Cert.RmsBRefIdeal.main_arg1) = m ((c.tc : Thread Cert.RmsBIdeal.nD Cert.RmsBIdeal.τ).loc Cert.RmsBIdeal.main_arg1)
      ∧ m' ((c.tc : Thread Cert.RmsBRefIdeal.nD Cert.RmsBRefIdeal.τ).loc Cert.RmsBRefIdeal.main_arg2) = m ((c.tc : Thread Cert.RmsBIdeal.nD Cert.RmsBIdeal.τ).loc Cert.RmsBIdeal.main_arg2)
      ∧ m' ((c.tc : Thread Cert.RmsBRefIdeal.nD Cert.RmsBRefIdeal.τ).loc Cert.RmsBRefIdeal.main_arg3) = m ((c.tc : Thread Cert.RmsBIdeal.nD Cert.RmsBIdeal.τ).loc Cert.RmsBIdeal.main_arg3)) →
    ∃ (v0 : (c : Dev Cert.RmsBIdeal.nD) → Buf (Elt Ideal) ((c.tc : Thread Cert.RmsBIdeal.nD Cert.RmsBIdeal.τ).loc Cert.RmsBIdeal.main_v0_0)) (v1 : (c : Dev Cert.RmsBIdeal.nD) → Buf (Elt Ideal) ((c.tc : Thread Cert.RmsBIdeal.nD Cert.RmsBIdeal.τ).loc Cert.RmsBIdeal.main_v0_1)) (v2 : (c : Dev Cert.RmsBIdeal.nD) → Buf (Elt Ideal) ((c.tc : Thread Cert.RmsBIdeal.nD Cert.RmsBIdeal.τ).loc Cert.RmsBIdeal.main_v0_2)),
      θ_run (Cert.RmsBIdeal.defs (F := Ideal)) (onTc (τ := Cert.RmsBIdeal.τ) (Cert.RmsBIdeal.main (F := Ideal))) ⟨m, fun _ => 0, g⟩ (fun r => ∀ c : Dev Cert.RmsBIdeal.nD,
          r.2.mem ((c.tc : Thread Cert.RmsBIdeal.nD Cert.RmsBIdeal.τ).loc Cert.RmsBIdeal.main_v0_0) = v0 c
          ∧ r.2.mem ((c.tc : Thread Cert.RmsBIdeal.nD Cert.RmsBIdeal.τ).loc Cert.RmsBIdeal.main_v0_1) = v1 c
          ∧ r.2.mem ((c.tc : Thread Cert.RmsBIdeal.nD Cert.RmsBIdeal.τ).loc Cert.RmsBIdeal.main_v0_2) = v2 c
          ∧ r.2.mem ((c.tc : Thread Cert.RmsBIdeal.nD Cert.RmsBIdeal.τ).loc Cert.RmsBIdeal.main_arg0) = m ((c.tc : Thread Cert.RmsBIdeal.nD Cert.RmsBIdeal.τ).loc Cert.RmsBIdeal.main_arg0)
          ∧ r.2.mem ((c.tc : Thread Cert.RmsBIdeal.nD Cert.RmsBIdeal.τ).loc Cert.RmsBIdeal.main_arg1) = m ((c.tc : Thread Cert.RmsBIdeal.nD Cert.RmsBIdeal.τ).loc Cert.RmsBIdeal.main_arg1)
          ∧ r.2.mem ((c.tc : Thread Cert.RmsBIdeal.nD Cert.RmsBIdeal.τ).loc Cert.RmsBIdeal.main_arg2) = m ((c.tc : Thread Cert.RmsBIdeal.nD Cert.RmsBIdeal.τ).loc Cert.RmsBIdeal.main_arg2)
          ∧ r.2.mem ((c.tc : Thread Cert.RmsBIdeal.nD Cert.RmsBIdeal.τ).loc Cert.RmsBIdeal.main_arg3) = m ((c.tc : Thread Cert.RmsBIdeal.nD Cert.RmsBIdeal.τ).loc Cert.RmsBIdeal.main_arg3))
      ∧ θ_run (Cert.RmsBRefIdeal.defs (F := Ideal)) (onTc (τ := Cert.RmsBRefIdeal.τ) (Cert.RmsBRefIdeal.main (F := Ideal))) ⟨m', fun _ => 0, g'⟩ (fun r => ∀ c : Dev Cert.RmsBRefIdeal.nD,
          r.2.mem ((c.tc : Thread Cert.RmsBRefIdeal.nD Cert.RmsBRefIdeal.τ).loc Cert.RmsBRefIdeal.main_v34) = v0 c
          ∧ r.2.mem ((c.tc : Thread Cert.RmsBRefIdeal.nD Cert.RmsBRefIdeal.τ).loc Cert.RmsBRefIdeal.main_v36) = v1 c
          ∧ r.2.mem ((c.tc : Thread Cert.RmsBRefIdeal.nD Cert.RmsBRefIdeal.τ).loc Cert.RmsBRefIdeal.main_v17) = v2 c
          ∧ r.2.mem ((c.tc : Thread Cert.RmsBRefIdeal.nD Cert.RmsBRefIdeal.τ).loc Cert.RmsBRefIdeal.main_arg0) = m' ((c.tc : Thread Cert.RmsBRefIdeal.nD Cert.RmsBRefIdeal.τ).loc Cert.RmsBRefIdeal.main_arg0)
          ∧ r.2.mem ((c.tc : Thread Cert.RmsBRefIdeal.nD Cert.RmsBRefIdeal.τ).loc Cert.RmsBRefIdeal.main_arg1) = m' ((c.tc : Thread Cert.RmsBRefIdeal.nD Cert.RmsBRefIdeal.τ).loc Cert.RmsBRefIdeal.main_arg1)
          ∧ r.2.mem ((c.tc : Thread Cert.RmsBRefIdeal.nD Cert.RmsBRefIdeal.τ).loc Cert.RmsBRefIdeal.main_arg2) = m' ((c.tc : Thread Cert.RmsBRefIdeal.nD Cert.RmsBRefIdeal.τ).loc Cert.RmsBRefIdeal.main_arg2)
          ∧ r.2.mem ((c.tc : Thread Cert.RmsBRefIdeal.nD Cert.RmsBRefIdeal.τ).loc Cert.RmsBRefIdeal.main_arg3) = m' ((c.tc : Thread Cert.RmsBRefIdeal.nD Cert.RmsBRefIdeal.τ).loc Cert.RmsBRefIdeal.main_arg3))

def preserves_RmsF_RmsFIdeal : Prop :=
  True

def algebraic_RmsFIdeal_RmsFRefIdeal [hRmsFIdeal : Cert.RmsFIdeal.Facts] [hRmsFRefIdeal : Cert.RmsFRefIdeal.Facts] : Prop :=
  ∀ (m : (ℓ : Loc Cert.RmsFIdeal.nD Cert.RmsFIdeal.τ Cert.RmsFIdeal.sig) → Buf (Elt Ideal) ℓ) (g : Dev Cert.RmsFIdeal.nD → PrngReg)
    (m' : (ℓ : Loc Cert.RmsFRefIdeal.nD Cert.RmsFRefIdeal.τ Cert.RmsFRefIdeal.sig) → Buf (Elt Ideal) ℓ) (g' : Dev Cert.RmsFRefIdeal.nD → PrngReg), Pre_RmsFIdeal m →
    (∀ c : Dev Cert.RmsFIdeal.nD,
      m' ((c.tc : Thread Cert.RmsFRefIdeal.nD Cert.RmsFRefIdeal.τ).loc Cert.RmsFRefIdeal.main_arg0) = m ((c.tc : Thread Cert.RmsFIdeal.nD Cert.RmsFIdeal.τ).loc Cert.RmsFIdeal.main_arg0)
      ∧ m' ((c.tc : Thread Cert.RmsFRefIdeal.nD Cert.RmsFRefIdeal.τ).loc Cert.RmsFRefIdeal.main_arg1) = m ((c.tc : Thread Cert.RmsFIdeal.nD Cert.RmsFIdeal.τ).loc Cert.RmsFIdeal.main_arg1)) →
    ∃ (v0 : (c : Dev Cert.RmsFIdeal.nD) → Buf (Elt Ideal) ((c.tc : Thread Cert.RmsFIdeal.nD Cert.RmsFIdeal.τ).loc Cert.RmsFIdeal.main_v0)),
      θ_run (Cert.RmsFIdeal.defs (F := Ideal)) (onTc (τ := Cert.RmsFIdeal.τ) (Cert.RmsFIdeal.main (F := Ideal))) ⟨m, fun _ => 0, g⟩ (fun r => ∀ c : Dev Cert.RmsFIdeal.nD,
          r.2.mem ((c.tc : Thread Cert.RmsFIdeal.nD Cert.RmsFIdeal.τ).loc Cert.RmsFIdeal.main_v0) = v0 c
          ∧ r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
          ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ θ_run (Cert.RmsFRefIdeal.defs (F := Ideal)) (onTc (τ := Cert.RmsFRefIdeal.τ) (Cert.RmsFRefIdeal.main (F := Ideal))) ⟨m', fun _ => 0, g'⟩ (fun r => ∀ c : Dev Cert.RmsFRefIdeal.nD,
          r.2.mem ((c.tc : Thread Cert.RmsFRefIdeal.nD Cert.RmsFRefIdeal.τ).loc Cert.RmsFRefIdeal.main_v12) = v0 c
          ∧ r.2.mem ((c.tc : Thread Cert.RmsFRefIdeal.nD Cert.RmsFRefIdeal.τ).loc Cert.RmsFRefIdeal.main_arg0) = m' ((c.tc : Thread Cert.RmsFRefIdeal.nD Cert.RmsFRefIdeal.τ).loc Cert.RmsFRefIdeal.main_arg0)
          ∧ r.2.mem ((c.tc : Thread Cert.RmsFRefIdeal.nD Cert.RmsFRefIdeal.τ).loc Cert.RmsFRefIdeal.main_arg1) = m' ((c.tc : Thread Cert.RmsFRefIdeal.nD Cert.RmsFRefIdeal.τ).loc Cert.RmsFRefIdeal.main_arg1))

def preserves_LnB_LnBIdeal : Prop :=
  True

def algebraic_LnBIdeal_LnBRefIdeal_pre_finite_ln [hLnBIdeal : Cert.LnBIdeal.Facts] [hLnBRefIdeal : Cert.LnBRefIdeal.Facts] [hPre_finite_ln : Cert.Pre_finite_ln.Facts] : Prop :=
  ∀ (m : (ℓ : Loc Cert.LnBIdeal.nD Cert.LnBIdeal.τ Cert.LnBIdeal.sig) → Buf (Elt Ideal) ℓ) (g : Dev Cert.LnBIdeal.nD → PrngReg)
    (m' : (ℓ : Loc Cert.LnBRefIdeal.nD Cert.LnBRefIdeal.τ Cert.LnBRefIdeal.sig) → Buf (Elt Ideal) ℓ) (g' : Dev Cert.LnBRefIdeal.nD → PrngReg), Pre_LnBIdeal_finite_ln m →
    (∀ c : Dev Cert.LnBIdeal.nD,
      m' ((c.tc : Thread Cert.LnBRefIdeal.nD Cert.LnBRefIdeal.τ).loc Cert.LnBRefIdeal.main_arg0) = m ((c.tc : Thread Cert.LnBIdeal.nD Cert.LnBIdeal.τ).loc Cert.LnBIdeal.main_arg0)
      ∧ m' ((c.tc : Thread Cert.LnBRefIdeal.nD Cert.LnBRefIdeal.τ).loc Cert.LnBRefIdeal.main_arg1) = m ((c.tc : Thread Cert.LnBIdeal.nD Cert.LnBIdeal.τ).loc Cert.LnBIdeal.main_arg1)
      ∧ m' ((c.tc : Thread Cert.LnBRefIdeal.nD Cert.LnBRefIdeal.τ).loc Cert.LnBRefIdeal.main_arg2) = m ((c.tc : Thread Cert.LnBIdeal.nD Cert.LnBIdeal.τ).loc Cert.LnBIdeal.main_arg2)
      ∧ m' ((c.tc : Thread Cert.LnBRefIdeal.nD Cert.LnBRefIdeal.τ).loc Cert.LnBRefIdeal.main_arg3) = m ((c.tc : Thread Cert.LnBIdeal.nD Cert.LnBIdeal.τ).loc Cert.LnBIdeal.main_arg3)) →
    ∃ (v0 : (c : Dev Cert.LnBIdeal.nD) → Buf (Elt Ideal) ((c.tc : Thread Cert.LnBIdeal.nD Cert.LnBIdeal.τ).loc Cert.LnBIdeal.main_v0_0)) (v1 : (c : Dev Cert.LnBIdeal.nD) → Buf (Elt Ideal) ((c.tc : Thread Cert.LnBIdeal.nD Cert.LnBIdeal.τ).loc Cert.LnBIdeal.main_v0_1)) (v2 : (c : Dev Cert.LnBIdeal.nD) → Buf (Elt Ideal) ((c.tc : Thread Cert.LnBIdeal.nD Cert.LnBIdeal.τ).loc Cert.LnBIdeal.main_v0_2)),
      θ_run (Cert.LnBIdeal.defs (F := Ideal)) (onTc (τ := Cert.LnBIdeal.τ) (Cert.LnBIdeal.main (F := Ideal))) ⟨m, fun _ => 0, g⟩ (fun r => ∀ c : Dev Cert.LnBIdeal.nD,
          r.2.mem ((c.tc : Thread Cert.LnBIdeal.nD Cert.LnBIdeal.τ).loc Cert.LnBIdeal.main_v0_0) = v0 c
          ∧ r.2.mem ((c.tc : Thread Cert.LnBIdeal.nD Cert.LnBIdeal.τ).loc Cert.LnBIdeal.main_v0_1) = v1 c
          ∧ r.2.mem ((c.tc : Thread Cert.LnBIdeal.nD Cert.LnBIdeal.τ).loc Cert.LnBIdeal.main_v0_2) = v2 c
          ∧ r.2.mem ((c.tc : Thread Cert.LnBIdeal.nD Cert.LnBIdeal.τ).loc Cert.LnBIdeal.main_arg0) = m ((c.tc : Thread Cert.LnBIdeal.nD Cert.LnBIdeal.τ).loc Cert.LnBIdeal.main_arg0)
          ∧ r.2.mem ((c.tc : Thread Cert.LnBIdeal.nD Cert.LnBIdeal.τ).loc Cert.LnBIdeal.main_arg1) = m ((c.tc : Thread Cert.LnBIdeal.nD Cert.LnBIdeal.τ).loc Cert.LnBIdeal.main_arg1)
          ∧ r.2.mem ((c.tc : Thread Cert.LnBIdeal.nD Cert.LnBIdeal.τ).loc Cert.LnBIdeal.main_arg2) = m ((c.tc : Thread Cert.LnBIdeal.nD Cert.LnBIdeal.τ).loc Cert.LnBIdeal.main_arg2)
          ∧ r.2.mem ((c.tc : Thread Cert.LnBIdeal.nD Cert.LnBIdeal.τ).loc Cert.LnBIdeal.main_arg3) = m ((c.tc : Thread Cert.LnBIdeal.nD Cert.LnBIdeal.τ).loc Cert.LnBIdeal.main_arg3))
      ∧ θ_run (Cert.LnBRefIdeal.defs (F := Ideal)) (onTc (τ := Cert.LnBRefIdeal.τ) (Cert.LnBRefIdeal.main (F := Ideal))) ⟨m', fun _ => 0, g'⟩ (fun r => ∀ c : Dev Cert.LnBRefIdeal.nD,
          r.2.mem ((c.tc : Thread Cert.LnBRefIdeal.nD Cert.LnBRefIdeal.τ).loc Cert.LnBRefIdeal.main_v66) = v0 c
          ∧ r.2.mem ((c.tc : Thread Cert.LnBRefIdeal.nD Cert.LnBRefIdeal.τ).loc Cert.LnBRefIdeal.main_v42) = v1 c
          ∧ r.2.mem ((c.tc : Thread Cert.LnBRefIdeal.nD Cert.LnBRefIdeal.τ).loc Cert.LnBRefIdeal.main_v39) = v2 c
          ∧ r.2.mem ((c.tc : Thread Cert.LnBRefIdeal.nD Cert.LnBRefIdeal.τ).loc Cert.LnBRefIdeal.main_arg0) = m' ((c.tc : Thread Cert.LnBRefIdeal.nD Cert.LnBRefIdeal.τ).loc Cert.LnBRefIdeal.main_arg0)
          ∧ r.2.mem ((c.tc : Thread Cert.LnBRefIdeal.nD Cert.LnBRefIdeal.τ).loc Cert.LnBRefIdeal.main_arg1) = m' ((c.tc : Thread Cert.LnBRefIdeal.nD Cert.LnBRefIdeal.τ).loc Cert.LnBRefIdeal.main_arg1)
          ∧ r.2.mem ((c.tc : Thread Cert.LnBRefIdeal.nD Cert.LnBRefIdeal.τ).loc Cert.LnBRefIdeal.main_arg2) = m' ((c.tc : Thread Cert.LnBRefIdeal.nD Cert.LnBRefIdeal.τ).loc Cert.LnBRefIdeal.main_arg2)
          ∧ r.2.mem ((c.tc : Thread Cert.LnBRefIdeal.nD Cert.LnBRefIdeal.τ).loc Cert.LnBRefIdeal.main_arg3) = m' ((c.tc : Thread Cert.LnBRefIdeal.nD Cert.LnBRefIdeal.τ).loc Cert.LnBRefIdeal.main_arg3))

def preserves_LnF_LnFIdeal : Prop :=
  True

def algebraic_LnFIdeal_LnFRefIdeal [hLnFIdeal : Cert.LnFIdeal.Facts] [hLnFRefIdeal : Cert.LnFRefIdeal.Facts] : Prop :=
  ∀ (m : (ℓ : Loc Cert.LnFIdeal.nD Cert.LnFIdeal.τ Cert.LnFIdeal.sig) → Buf (Elt Ideal) ℓ) (g : Dev Cert.LnFIdeal.nD → PrngReg)
    (m' : (ℓ : Loc Cert.LnFRefIdeal.nD Cert.LnFRefIdeal.τ Cert.LnFRefIdeal.sig) → Buf (Elt Ideal) ℓ) (g' : Dev Cert.LnFRefIdeal.nD → PrngReg), Pre_LnFIdeal m →
    (∀ c : Dev Cert.LnFIdeal.nD,
      m' ((c.tc : Thread Cert.LnFRefIdeal.nD Cert.LnFRefIdeal.τ).loc Cert.LnFRefIdeal.main_arg0) = m ((c.tc : Thread Cert.LnFIdeal.nD Cert.LnFIdeal.τ).loc Cert.LnFIdeal.main_arg0)
      ∧ m' ((c.tc : Thread Cert.LnFRefIdeal.nD Cert.LnFRefIdeal.τ).loc Cert.LnFRefIdeal.main_arg1) = m ((c.tc : Thread Cert.LnFIdeal.nD Cert.LnFIdeal.τ).loc Cert.LnFIdeal.main_arg1)
      ∧ m' ((c.tc : Thread Cert.LnFRefIdeal.nD Cert.LnFRefIdeal.τ).loc Cert.LnFRefIdeal.main_arg2) = m ((c.tc : Thread Cert.LnFIdeal.nD Cert.LnFIdeal.τ).loc Cert.LnFIdeal.main_arg2)) →
    ∃ (v0 : (c : Dev Cert.LnFIdeal.nD) → Buf (Elt Ideal) ((c.tc : Thread Cert.LnFIdeal.nD Cert.LnFIdeal.τ).loc Cert.LnFIdeal.main_v0)),
      θ_run (Cert.LnFIdeal.defs (F := Ideal)) (onTc (τ := Cert.LnFIdeal.τ) (Cert.LnFIdeal.main (F := Ideal))) ⟨m, fun _ => 0, g⟩ (fun r => ∀ c : Dev Cert.LnFIdeal.nD,
          r.2.mem ((c.tc : Thread Cert.LnFIdeal.nD Cert.LnFIdeal.τ).loc Cert.LnFIdeal.main_v0) = v0 c
          ∧ r.2.mem ((c.tc : Thread Cert.LnFIdeal.nD Cert.LnFIdeal.τ).loc Cert.LnFIdeal.main_arg0) = m ((c.tc : Thread Cert.LnFIdeal.nD Cert.LnFIdeal.τ).loc Cert.LnFIdeal.main_arg0)
          ∧ r.2.mem ((c.tc : Thread Cert.LnFIdeal.nD Cert.LnFIdeal.τ).loc Cert.LnFIdeal.main_arg1) = m ((c.tc : Thread Cert.LnFIdeal.nD Cert.LnFIdeal.τ).loc Cert.LnFIdeal.main_arg1)
          ∧ r.2.mem ((c.tc : Thread Cert.LnFIdeal.nD Cert.LnFIdeal.τ).loc Cert.LnFIdeal.main_arg2) = m ((c.tc : Thread Cert.LnFIdeal.nD Cert.LnFIdeal.τ).loc Cert.LnFIdeal.main_arg2))
      ∧ θ_run (Cert.LnFRefIdeal.defs (F := Ideal)) (onTc (τ := Cert.LnFRefIdeal.τ) (Cert.LnFRefIdeal.main (F := Ideal))) ⟨m', fun _ => 0, g'⟩ (fun r => ∀ c : Dev Cert.LnFRefIdeal.nD,
          r.2.mem ((c.tc : Thread Cert.LnFRefIdeal.nD Cert.LnFRefIdeal.τ).loc Cert.LnFRefIdeal.main_v27) = v0 c
          ∧ r.2.mem ((c.tc : Thread Cert.LnFRefIdeal.nD Cert.LnFRefIdeal.τ).loc Cert.LnFRefIdeal.main_arg0) = m' ((c.tc : Thread Cert.LnFRefIdeal.nD Cert.LnFRefIdeal.τ).loc Cert.LnFRefIdeal.main_arg0)
          ∧ r.2.mem ((c.tc : Thread Cert.LnFRefIdeal.nD Cert.LnFRefIdeal.τ).loc Cert.LnFRefIdeal.main_arg1) = m' ((c.tc : Thread Cert.LnFRefIdeal.nD Cert.LnFRefIdeal.τ).loc Cert.LnFRefIdeal.main_arg1)
          ∧ r.2.mem ((c.tc : Thread Cert.LnFRefIdeal.nD Cert.LnFRefIdeal.τ).loc Cert.LnFRefIdeal.main_arg2) = m' ((c.tc : Thread Cert.LnFRefIdeal.nD Cert.LnFRefIdeal.τ).loc Cert.LnFRefIdeal.main_arg2))

def preserves_ConvB_ConvBIdeal : Prop :=
  True

def algebraic_ConvBIdeal_ConvBRefIdeal [hConvBIdeal : Cert.ConvBIdeal.Facts] [hConvBRefIdeal : Cert.ConvBRefIdeal.Facts] : Prop :=
  ∀ (m : (ℓ : Loc Cert.ConvBIdeal.nD Cert.ConvBIdeal.τ Cert.ConvBIdeal.sig) → Buf (Elt Ideal) ℓ) (g : Dev Cert.ConvBIdeal.nD → PrngReg)
    (m' : (ℓ : Loc Cert.ConvBRefIdeal.nD Cert.ConvBRefIdeal.τ Cert.ConvBRefIdeal.sig) → Buf (Elt Ideal) ℓ) (g' : Dev Cert.ConvBRefIdeal.nD → PrngReg), Pre_ConvBIdeal m →
    (∀ c : Dev Cert.ConvBIdeal.nD,
      m' ((c.tc : Thread Cert.ConvBRefIdeal.nD Cert.ConvBRefIdeal.τ).loc Cert.ConvBRefIdeal.main_arg0) = m ((c.tc : Thread Cert.ConvBIdeal.nD Cert.ConvBIdeal.τ).loc Cert.ConvBIdeal.main_arg0)
      ∧ m' ((c.tc : Thread Cert.ConvBRefIdeal.nD Cert.ConvBRefIdeal.τ).loc Cert.ConvBRefIdeal.main_arg1) = m ((c.tc : Thread Cert.ConvBIdeal.nD Cert.ConvBIdeal.τ).loc Cert.ConvBIdeal.main_arg1)
      ∧ m' ((c.tc : Thread Cert.ConvBRefIdeal.nD Cert.ConvBRefIdeal.τ).loc Cert.ConvBRefIdeal.main_arg2) = m ((c.tc : Thread Cert.ConvBIdeal.nD Cert.ConvBIdeal.τ).loc Cert.ConvBIdeal.main_arg2)
      ∧ m' ((c.tc : Thread Cert.ConvBRefIdeal.nD Cert.ConvBRefIdeal.τ).loc Cert.ConvBRefIdeal.main_arg3) = m ((c.tc : Thread Cert.ConvBIdeal.nD Cert.ConvBIdeal.τ).loc Cert.ConvBIdeal.main_arg3)) →
    ∃ (v0 : (c : Dev Cert.ConvBIdeal.nD) → Buf (Elt Ideal) ((c.tc : Thread Cert.ConvBIdeal.nD Cert.ConvBIdeal.τ).loc Cert.ConvBIdeal.main_v2_0)) (v1 : (c : Dev Cert.ConvBIdeal.nD) → Buf (Elt Ideal) ((c.tc : Thread Cert.ConvBIdeal.nD Cert.ConvBIdeal.τ).loc Cert.ConvBIdeal.main_v2_1)) (v2 : (c : Dev Cert.ConvBIdeal.nD) → Buf (Elt Ideal) ((c.tc : Thread Cert.ConvBIdeal.nD Cert.ConvBIdeal.τ).loc Cert.ConvBIdeal.main_v2_2)),
      θ_run (Cert.ConvBIdeal.defs (F := Ideal)) (onTc (τ := Cert.ConvBIdeal.τ) (Cert.ConvBIdeal.main (F := Ideal))) ⟨m, fun _ => 0, g⟩ (fun r => ∀ c : Dev Cert.ConvBIdeal.nD,
          r.2.mem ((c.tc : Thread Cert.ConvBIdeal.nD Cert.ConvBIdeal.τ).loc Cert.ConvBIdeal.main_v2_0) = v0 c
          ∧ r.2.mem ((c.tc : Thread Cert.ConvBIdeal.nD Cert.ConvBIdeal.τ).loc Cert.ConvBIdeal.main_v2_1) = v1 c
          ∧ r.2.mem ((c.tc : Thread Cert.ConvBIdeal.nD Cert.ConvBIdeal.τ).loc Cert.ConvBIdeal.main_v2_2) = v2 c
          ∧ r.2.mem ((c.tc : Thread Cert.ConvBIdeal.nD Cert.ConvBIdeal.τ).loc Cert.ConvBIdeal.main_arg0) = m ((c.tc : Thread Cert.ConvBIdeal.nD Cert.ConvBIdeal.τ).loc Cert.ConvBIdeal.main_arg0)
          ∧ r.2.mem ((c.tc : Thread Cert.ConvBIdeal.nD Cert.ConvBIdeal.τ).loc Cert.ConvBIdeal.main_arg1) = m ((c.tc : Thread Cert.ConvBIdeal.nD Cert.ConvBIdeal.τ).loc Cert.ConvBIdeal.main_arg1)
          ∧ r.2.mem ((c.tc : Thread Cert.ConvBIdeal.nD Cert.ConvBIdeal.τ).loc Cert.ConvBIdeal.main_arg2) = m ((c.tc : Thread Cert.ConvBIdeal.nD Cert.ConvBIdeal.τ).loc Cert.ConvBIdeal.main_arg2)
          ∧ r.2.mem ((c.tc : Thread Cert.ConvBIdeal.nD Cert.ConvBIdeal.τ).loc Cert.ConvBIdeal.main_arg3) = m ((c.tc : Thread Cert.ConvBIdeal.nD Cert.ConvBIdeal.τ).loc Cert.ConvBIdeal.main_arg3))
      ∧ θ_run (Cert.ConvBRefIdeal.defs (F := Ideal)) (onTc (τ := Cert.ConvBRefIdeal.τ) (Cert.ConvBRefIdeal.main (F := Ideal))) ⟨m', fun _ => 0, g'⟩ (fun r => ∀ c : Dev Cert.ConvBRefIdeal.nD,
          r.2.mem ((c.tc : Thread Cert.ConvBRefIdeal.nD Cert.ConvBRefIdeal.τ).loc Cert.ConvBRefIdeal.main_v577) = v0 c
          ∧ r.2.mem ((c.tc : Thread Cert.ConvBRefIdeal.nD Cert.ConvBRefIdeal.τ).loc Cert.ConvBRefIdeal.main_v579) = v1 c
          ∧ r.2.mem ((c.tc : Thread Cert.ConvBRefIdeal.nD Cert.ConvBRefIdeal.τ).loc Cert.ConvBRefIdeal.main_v236) = v2 c
          ∧ r.2.mem ((c.tc : Thread Cert.ConvBRefIdeal.nD Cert.ConvBRefIdeal.τ).loc Cert.ConvBRefIdeal.main_arg0) = m' ((c.tc : Thread Cert.ConvBRefIdeal.nD Cert.ConvBRefIdeal.τ).loc Cert.ConvBRefIdeal.main_arg0)
          ∧ r.2.mem ((c.tc : Thread Cert.ConvBRefIdeal.nD Cert.ConvBRefIdeal.τ).loc Cert.ConvBRefIdeal.main_arg1) = m' ((c.tc : Thread Cert.ConvBRefIdeal.nD Cert.ConvBRefIdeal.τ).loc Cert.ConvBRefIdeal.main_arg1)
          ∧ r.2.mem ((c.tc : Thread Cert.ConvBRefIdeal.nD Cert.ConvBRefIdeal.τ).loc Cert.ConvBRefIdeal.main_arg2) = m' ((c.tc : Thread Cert.ConvBRefIdeal.nD Cert.ConvBRefIdeal.τ).loc Cert.ConvBRefIdeal.main_arg2)
          ∧ r.2.mem ((c.tc : Thread Cert.ConvBRefIdeal.nD Cert.ConvBRefIdeal.τ).loc Cert.ConvBRefIdeal.main_arg3) = m' ((c.tc : Thread Cert.ConvBRefIdeal.nD Cert.ConvBRefIdeal.τ).loc Cert.ConvBRefIdeal.main_arg3))

def preserves_ConvF_ConvFIdeal : Prop :=
  True

def algebraic_ConvFIdeal_ConvFRefIdeal [hConvFIdeal : Cert.ConvFIdeal.Facts] [hConvFRefIdeal : Cert.ConvFRefIdeal.Facts] : Prop :=
  ∀ (m : (ℓ : Loc Cert.ConvFIdeal.nD Cert.ConvFIdeal.τ Cert.ConvFIdeal.sig) → Buf (Elt Ideal) ℓ) (g : Dev Cert.ConvFIdeal.nD → PrngReg)
    (m' : (ℓ : Loc Cert.ConvFRefIdeal.nD Cert.ConvFRefIdeal.τ Cert.ConvFRefIdeal.sig) → Buf (Elt Ideal) ℓ) (g' : Dev Cert.ConvFRefIdeal.nD → PrngReg), Pre_ConvFIdeal m →
    (∀ c : Dev Cert.ConvFIdeal.nD,
      m' ((c.tc : Thread Cert.ConvFRefIdeal.nD Cert.ConvFRefIdeal.τ).loc Cert.ConvFRefIdeal.main_arg0) = m ((c.tc : Thread Cert.ConvFIdeal.nD Cert.ConvFIdeal.τ).loc Cert.ConvFIdeal.main_arg0)
      ∧ m' ((c.tc : Thread Cert.ConvFRefIdeal.nD Cert.ConvFRefIdeal.τ).loc Cert.ConvFRefIdeal.main_arg1) = m ((c.tc : Thread Cert.ConvFIdeal.nD Cert.ConvFIdeal.τ).loc Cert.ConvFIdeal.main_arg1)
      ∧ m' ((c.tc : Thread Cert.ConvFRefIdeal.nD Cert.ConvFRefIdeal.τ).loc Cert.ConvFRefIdeal.main_arg2) = m ((c.tc : Thread Cert.ConvFIdeal.nD Cert.ConvFIdeal.τ).loc Cert.ConvFIdeal.main_arg2)) →
    ∃ (v0 : (c : Dev Cert.ConvFIdeal.nD) → Buf (Elt Ideal) ((c.tc : Thread Cert.ConvFIdeal.nD Cert.ConvFIdeal.τ).loc Cert.ConvFIdeal.main_v2)),
      θ_run (Cert.ConvFIdeal.defs (F := Ideal)) (onTc (τ := Cert.ConvFIdeal.τ) (Cert.ConvFIdeal.main (F := Ideal))) ⟨m, fun _ => 0, g⟩ (fun r => ∀ c : Dev Cert.ConvFIdeal.nD,
          r.2.mem ((c.tc : Thread Cert.ConvFIdeal.nD Cert.ConvFIdeal.τ).loc Cert.ConvFIdeal.main_v2) = v0 c
          ∧ r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
          ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
          ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2))
      ∧ θ_run (Cert.ConvFRefIdeal.defs (F := Ideal)) (onTc (τ := Cert.ConvFRefIdeal.τ) (Cert.ConvFRefIdeal.main (F := Ideal))) ⟨m', fun _ => 0, g'⟩ (fun r => ∀ c : Dev Cert.ConvFRefIdeal.nD,
          r.2.mem ((c.tc : Thread Cert.ConvFRefIdeal.nD Cert.ConvFRefIdeal.τ).loc Cert.ConvFRefIdeal.main_v232) = v0 c
          ∧ r.2.mem ((c.tc : Thread Cert.ConvFRefIdeal.nD Cert.ConvFRefIdeal.τ).loc Cert.ConvFRefIdeal.main_arg0) = m' ((c.tc : Thread Cert.ConvFRefIdeal.nD Cert.ConvFRefIdeal.τ).loc Cert.ConvFRefIdeal.main_arg0)
          ∧ r.2.mem ((c.tc : Thread Cert.ConvFRefIdeal.nD Cert.ConvFRefIdeal.τ).loc Cert.ConvFRefIdeal.main_arg1) = m' ((c.tc : Thread Cert.ConvFRefIdeal.nD Cert.ConvFRefIdeal.τ).loc Cert.ConvFRefIdeal.main_arg1)
          ∧ r.2.mem ((c.tc : Thread Cert.ConvFRefIdeal.nD Cert.ConvFRefIdeal.τ).loc Cert.ConvFRefIdeal.main_arg2) = m' ((c.tc : Thread Cert.ConvFRefIdeal.nD Cert.ConvFRefIdeal.τ).loc Cert.ConvFRefIdeal.main_arg2))

def preserves_AttnF_AttnFIdeal : Prop :=
  IdealRules.named_const.Statement Cert.AttnFIdeal.κ "mask" .f32 0xF149F2CA#32 ⊥

def algebraic_AttnFIdeal_AttnFRefIdeal_pre_finite_attn [hAttnFIdeal : Cert.AttnFIdeal.Facts] [hAttnFRefIdeal : Cert.AttnFRefIdeal.Facts] [hPre_finite_attn : Cert.Pre_finite_attn.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal_finite_attn m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)
      ∧ m' ((c.tc : Thread Cert.AttnFRefIdeal.nD Cert.AttnFRefIdeal.τ).loc Cert.AttnFRefIdeal.main_arg2) = m ((c.tc : Thread Cert.AttnFIdeal.nD Cert.AttnFIdeal.τ).loc Cert.AttnFIdeal.main_arg2)) →
    ∃ (v0 : (c : Dev Cert.AttnFIdeal.nD) → Buf (Elt Ideal) ((c.tc : Thread Cert.AttnFIdeal.nD Cert.AttnFIdeal.τ).loc Cert.AttnFIdeal.main_v0)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v0) = v0 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v49) = v0 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1)
          ∧ r.2.mem ((c.tc : Thread Cert.AttnFRefIdeal.nD Cert.AttnFRefIdeal.τ).loc Cert.AttnFRefIdeal.main_arg2) = m' ((c.tc : Thread Cert.AttnFRefIdeal.nD Cert.AttnFRefIdeal.τ).loc Cert.AttnFRefIdeal.main_arg2))

def preserves_AttnO_AttnOIdeal : Prop :=
  True

def algebraic_AttnOIdeal_AttnORefIdeal [hAttnOIdeal : Cert.AttnOIdeal.Facts] [hAttnORefIdeal : Cert.AttnORefIdeal.Facts] : Prop :=
  ∀ (m : (ℓ : Loc Cert.AttnOIdeal.nD Cert.AttnOIdeal.τ Cert.AttnOIdeal.sig) → Buf (Elt Ideal) ℓ) (g : Dev Cert.AttnOIdeal.nD → PrngReg)
    (m' : (ℓ : Loc Cert.AttnORefIdeal.nD Cert.AttnORefIdeal.τ Cert.AttnORefIdeal.sig) → Buf (Elt Ideal) ℓ) (g' : Dev Cert.AttnORefIdeal.nD → PrngReg), Pre_AttnOIdeal m →
    (∀ c : Dev Cert.AttnOIdeal.nD,
      m' ((c.tc : Thread Cert.AttnORefIdeal.nD Cert.AttnORefIdeal.τ).loc Cert.AttnORefIdeal.main_arg0) = m ((c.tc : Thread Cert.AttnOIdeal.nD Cert.AttnOIdeal.τ).loc Cert.AttnOIdeal.main_arg0)
      ∧ m' ((c.tc : Thread Cert.AttnORefIdeal.nD Cert.AttnORefIdeal.τ).loc Cert.AttnORefIdeal.main_arg1) = m ((c.tc : Thread Cert.AttnOIdeal.nD Cert.AttnOIdeal.τ).loc Cert.AttnOIdeal.main_arg1)
      ∧ m' ((c.tc : Thread Cert.AttnORefIdeal.nD Cert.AttnORefIdeal.τ).loc Cert.AttnORefIdeal.main_arg2) = m ((c.tc : Thread Cert.AttnOIdeal.nD Cert.AttnOIdeal.τ).loc Cert.AttnOIdeal.main_arg2)) →
    ∃ (v0 : (c : Dev Cert.AttnOIdeal.nD) → Buf (Elt Ideal) ((c.tc : Thread Cert.AttnOIdeal.nD Cert.AttnOIdeal.τ).loc Cert.AttnOIdeal.main_v0)),
      θ_run (Cert.AttnOIdeal.defs (F := Ideal)) (onTc (τ := Cert.AttnOIdeal.τ) (Cert.AttnOIdeal.main (F := Ideal))) ⟨m, fun _ => 0, g⟩ (fun r => ∀ c : Dev Cert.AttnOIdeal.nD,
          r.2.mem ((c.tc : Thread Cert.AttnOIdeal.nD Cert.AttnOIdeal.τ).loc Cert.AttnOIdeal.main_v0) = v0 c
          ∧ r.2.mem ((c.tc : Thread Cert.AttnOIdeal.nD Cert.AttnOIdeal.τ).loc Cert.AttnOIdeal.main_arg0) = m ((c.tc : Thread Cert.AttnOIdeal.nD Cert.AttnOIdeal.τ).loc Cert.AttnOIdeal.main_arg0)
          ∧ r.2.mem ((c.tc : Thread Cert.AttnOIdeal.nD Cert.AttnOIdeal.τ).loc Cert.AttnOIdeal.main_arg1) = m ((c.tc : Thread Cert.AttnOIdeal.nD Cert.AttnOIdeal.τ).loc Cert.AttnOIdeal.main_arg1)
          ∧ r.2.mem ((c.tc : Thread Cert.AttnOIdeal.nD Cert.AttnOIdeal.τ).loc Cert.AttnOIdeal.main_arg2) = m ((c.tc : Thread Cert.AttnOIdeal.nD Cert.AttnOIdeal.τ).loc Cert.AttnOIdeal.main_arg2))
      ∧ θ_run (Cert.AttnORefIdeal.defs (F := Ideal)) (onTc (τ := Cert.AttnORefIdeal.τ) (Cert.AttnORefIdeal.main (F := Ideal))) ⟨m', fun _ => 0, g'⟩ (fun r => ∀ c : Dev Cert.AttnORefIdeal.nD,
          r.2.mem ((c.tc : Thread Cert.AttnORefIdeal.nD Cert.AttnORefIdeal.τ).loc Cert.AttnORefIdeal.main_v5) = v0 c
          ∧ r.2.mem ((c.tc : Thread Cert.AttnORefIdeal.nD Cert.AttnORefIdeal.τ).loc Cert.AttnORefIdeal.main_arg0) = m' ((c.tc : Thread Cert.AttnORefIdeal.nD Cert.AttnORefIdeal.τ).loc Cert.AttnORefIdeal.main_arg0)
          ∧ r.2.mem ((c.tc : Thread Cert.AttnORefIdeal.nD Cert.AttnORefIdeal.τ).loc Cert.AttnORefIdeal.main_arg1) = m' ((c.tc : Thread Cert.AttnORefIdeal.nD Cert.AttnORefIdeal.τ).loc Cert.AttnORefIdeal.main_arg1)
          ∧ r.2.mem ((c.tc : Thread Cert.AttnORefIdeal.nD Cert.AttnORefIdeal.τ).loc Cert.AttnORefIdeal.main_arg2) = m' ((c.tc : Thread Cert.AttnORefIdeal.nD Cert.AttnORefIdeal.τ).loc Cert.AttnORefIdeal.main_arg2))

def preserves_ConvO_ConvOIdeal : Prop :=
  True

def algebraic_ConvOIdeal_ConvORefIdeal [hConvOIdeal : Cert.ConvOIdeal.Facts] [hConvORefIdeal : Cert.ConvORefIdeal.Facts] : Prop :=
  ∀ (m : (ℓ : Loc Cert.ConvOIdeal.nD Cert.ConvOIdeal.τ Cert.ConvOIdeal.sig) → Buf (Elt Ideal) ℓ) (g : Dev Cert.ConvOIdeal.nD → PrngReg)
    (m' : (ℓ : Loc Cert.ConvORefIdeal.nD Cert.ConvORefIdeal.τ Cert.ConvORefIdeal.sig) → Buf (Elt Ideal) ℓ) (g' : Dev Cert.ConvORefIdeal.nD → PrngReg), Pre_ConvOIdeal m →
    (∀ c : Dev Cert.ConvOIdeal.nD,
      m' ((c.tc : Thread Cert.ConvORefIdeal.nD Cert.ConvORefIdeal.τ).loc Cert.ConvORefIdeal.main_arg0) = m ((c.tc : Thread Cert.ConvOIdeal.nD Cert.ConvOIdeal.τ).loc Cert.ConvOIdeal.main_arg0)
      ∧ m' ((c.tc : Thread Cert.ConvORefIdeal.nD Cert.ConvORefIdeal.τ).loc Cert.ConvORefIdeal.main_arg1) = m ((c.tc : Thread Cert.ConvOIdeal.nD Cert.ConvOIdeal.τ).loc Cert.ConvOIdeal.main_arg1)
      ∧ m' ((c.tc : Thread Cert.ConvORefIdeal.nD Cert.ConvORefIdeal.τ).loc Cert.ConvORefIdeal.main_arg2) = m ((c.tc : Thread Cert.ConvOIdeal.nD Cert.ConvOIdeal.τ).loc Cert.ConvOIdeal.main_arg2)
      ∧ m' ((c.tc : Thread Cert.ConvORefIdeal.nD Cert.ConvORefIdeal.τ).loc Cert.ConvORefIdeal.main_arg3) = m ((c.tc : Thread Cert.ConvOIdeal.nD Cert.ConvOIdeal.τ).loc Cert.ConvOIdeal.main_arg3)) →
    ∃ (v0 : (c : Dev Cert.ConvOIdeal.nD) → Buf (Elt Ideal) ((c.tc : Thread Cert.ConvOIdeal.nD Cert.ConvOIdeal.τ).loc Cert.ConvOIdeal.main_v0)),
      θ_run (Cert.ConvOIdeal.defs (F := Ideal)) (onTc (τ := Cert.ConvOIdeal.τ) (Cert.ConvOIdeal.main (F := Ideal))) ⟨m, fun _ => 0, g⟩ (fun r => ∀ c : Dev Cert.ConvOIdeal.nD,
          r.2.mem ((c.tc : Thread Cert.ConvOIdeal.nD Cert.ConvOIdeal.τ).loc Cert.ConvOIdeal.main_v0) = v0 c
          ∧ r.2.mem ((c.tc : Thread Cert.ConvOIdeal.nD Cert.ConvOIdeal.τ).loc Cert.ConvOIdeal.main_arg0) = m ((c.tc : Thread Cert.ConvOIdeal.nD Cert.ConvOIdeal.τ).loc Cert.ConvOIdeal.main_arg0)
          ∧ r.2.mem ((c.tc : Thread Cert.ConvOIdeal.nD Cert.ConvOIdeal.τ).loc Cert.ConvOIdeal.main_arg1) = m ((c.tc : Thread Cert.ConvOIdeal.nD Cert.ConvOIdeal.τ).loc Cert.ConvOIdeal.main_arg1)
          ∧ r.2.mem ((c.tc : Thread Cert.ConvOIdeal.nD Cert.ConvOIdeal.τ).loc Cert.ConvOIdeal.main_arg2) = m ((c.tc : Thread Cert.ConvOIdeal.nD Cert.ConvOIdeal.τ).loc Cert.ConvOIdeal.main_arg2)
          ∧ r.2.mem ((c.tc : Thread Cert.ConvOIdeal.nD Cert.ConvOIdeal.τ).loc Cert.ConvOIdeal.main_arg3) = m ((c.tc : Thread Cert.ConvOIdeal.nD Cert.ConvOIdeal.τ).loc Cert.ConvOIdeal.main_arg3))
      ∧ θ_run (Cert.ConvORefIdeal.defs (F := Ideal)) (onTc (τ := Cert.ConvORefIdeal.τ) (Cert.ConvORefIdeal.main (F := Ideal))) ⟨m', fun _ => 0, g'⟩ (fun r => ∀ c : Dev Cert.ConvORefIdeal.nD,
          r.2.mem ((c.tc : Thread Cert.ConvORefIdeal.nD Cert.ConvORefIdeal.τ).loc Cert.ConvORefIdeal.main_v7) = v0 c
          ∧ r.2.mem ((c.tc : Thread Cert.ConvORefIdeal.nD Cert.ConvORefIdeal.τ).loc Cert.ConvORefIdeal.main_arg0) = m' ((c.tc : Thread Cert.ConvORefIdeal.nD Cert.ConvORefIdeal.τ).loc Cert.ConvORefIdeal.main_arg0)
          ∧ r.2.mem ((c.tc : Thread Cert.ConvORefIdeal.nD Cert.ConvORefIdeal.τ).loc Cert.ConvORefIdeal.main_arg1) = m' ((c.tc : Thread Cert.ConvORefIdeal.nD Cert.ConvORefIdeal.τ).loc Cert.ConvORefIdeal.main_arg1)
          ∧ r.2.mem ((c.tc : Thread Cert.ConvORefIdeal.nD Cert.ConvORefIdeal.τ).loc Cert.ConvORefIdeal.main_arg2) = m' ((c.tc : Thread Cert.ConvORefIdeal.nD Cert.ConvORefIdeal.τ).loc Cert.ConvORefIdeal.main_arg2)
          ∧ r.2.mem ((c.tc : Thread Cert.ConvORefIdeal.nD Cert.ConvORefIdeal.τ).loc Cert.ConvORefIdeal.main_arg3) = m' ((c.tc : Thread Cert.ConvORefIdeal.nD Cert.ConvORefIdeal.τ).loc Cert.ConvORefIdeal.main_arg3))

def preserves_ColIn_ColInIdeal : Prop :=
  True

def algebraic_ColInIdeal_ColInRefIdeal [hColInIdeal : Cert.ColInIdeal.Facts] [hColInRefIdeal : Cert.ColInRefIdeal.Facts] : Prop :=
  ∀ (m : (ℓ : Loc Cert.ColInIdeal.nD Cert.ColInIdeal.τ Cert.ColInIdeal.sig) → Buf (Elt Ideal) ℓ) (g : Dev Cert.ColInIdeal.nD → PrngReg)
    (m' : (ℓ : Loc Cert.ColInRefIdeal.nD Cert.ColInRefIdeal.τ Cert.ColInRefIdeal.sig) → Buf (Elt Ideal) ℓ) (g' : Dev Cert.ColInRefIdeal.nD → PrngReg), Pre_ColInIdeal m →
    (∀ c : Dev Cert.ColInIdeal.nD,
      m' ((c.tc : Thread Cert.ColInRefIdeal.nD Cert.ColInRefIdeal.τ).loc Cert.ColInRefIdeal.main_arg0) = m ((c.tc : Thread Cert.ColInIdeal.nD Cert.ColInIdeal.τ).loc Cert.ColInIdeal.main_arg0)) →
    ∃ (v0 : (c : Dev Cert.ColInIdeal.nD) → Buf (Elt Ideal) ((c.tc : Thread Cert.ColInIdeal.nD Cert.ColInIdeal.τ).loc Cert.ColInIdeal.main_v0)),
      θ_run (Cert.ColInIdeal.defs (F := Ideal)) (onTc (τ := Cert.ColInIdeal.τ) (Cert.ColInIdeal.main (F := Ideal))) ⟨m, fun _ => 0, g⟩ (fun r => ∀ c : Dev Cert.ColInIdeal.nD,
          r.2.mem ((c.tc : Thread Cert.ColInIdeal.nD Cert.ColInIdeal.τ).loc Cert.ColInIdeal.main_v0) = v0 c
          ∧ r.2.mem ((c.tc : Thread Cert.ColInIdeal.nD Cert.ColInIdeal.τ).loc Cert.ColInIdeal.main_arg0) = m ((c.tc : Thread Cert.ColInIdeal.nD Cert.ColInIdeal.τ).loc Cert.ColInIdeal.main_arg0))
      ∧ θ_run (Cert.ColInRefIdeal.defs (F := Ideal)) (onTc (τ := Cert.ColInRefIdeal.τ) (Cert.ColInRefIdeal.main (F := Ideal))) ⟨m', fun _ => 0, g'⟩ (fun r => ∀ c : Dev Cert.ColInRefIdeal.nD,
          r.2.mem ((c.tc : Thread Cert.ColInRefIdeal.nD Cert.ColInRefIdeal.τ).loc Cert.ColInRefIdeal.main_v6) = v0 c
          ∧ r.2.mem ((c.tc : Thread Cert.ColInRefIdeal.nD Cert.ColInRefIdeal.τ).loc Cert.ColInRefIdeal.main_arg0) = m' ((c.tc : Thread Cert.ColInRefIdeal.nD Cert.ColInRefIdeal.τ).loc Cert.ColInRefIdeal.main_arg0))

def preserves_ColO_ColOIdeal : Prop :=
  True

def algebraic_ColOIdeal_ColORefIdeal [hColOIdeal : Cert.ColOIdeal.Facts] [hColORefIdeal : Cert.ColORefIdeal.Facts] : Prop :=
  ∀ (m : (ℓ : Loc Cert.ColOIdeal.nD Cert.ColOIdeal.τ Cert.ColOIdeal.sig) → Buf (Elt Ideal) ℓ) (g : Dev Cert.ColOIdeal.nD → PrngReg)
    (m' : (ℓ : Loc Cert.ColORefIdeal.nD Cert.ColORefIdeal.τ Cert.ColORefIdeal.sig) → Buf (Elt Ideal) ℓ) (g' : Dev Cert.ColORefIdeal.nD → PrngReg), Pre_ColOIdeal m →
    (∀ c : Dev Cert.ColOIdeal.nD,
      m' ((c.tc : Thread Cert.ColORefIdeal.nD Cert.ColORefIdeal.τ).loc Cert.ColORefIdeal.main_arg0) = m ((c.tc : Thread Cert.ColOIdeal.nD Cert.ColOIdeal.τ).loc Cert.ColOIdeal.main_arg0)) →
    ∃ (v0 : (c : Dev Cert.ColOIdeal.nD) → Buf (Elt Ideal) ((c.tc : Thread Cert.ColOIdeal.nD Cert.ColOIdeal.τ).loc Cert.ColOIdeal.main_v0)),
      θ_run (Cert.ColOIdeal.defs (F := Ideal)) (onTc (τ := Cert.ColOIdeal.τ) (Cert.ColOIdeal.main (F := Ideal))) ⟨m, fun _ => 0, g⟩ (fun r => ∀ c : Dev Cert.ColOIdeal.nD,
          r.2.mem ((c.tc : Thread Cert.ColOIdeal.nD Cert.ColOIdeal.τ).loc Cert.ColOIdeal.main_v0) = v0 c
          ∧ r.2.mem ((c.tc : Thread Cert.ColOIdeal.nD Cert.ColOIdeal.τ).loc Cert.ColOIdeal.main_arg0) = m ((c.tc : Thread Cert.ColOIdeal.nD Cert.ColOIdeal.τ).loc Cert.ColOIdeal.main_arg0))
      ∧ θ_run (Cert.ColORefIdeal.defs (F := Ideal)) (onTc (τ := Cert.ColORefIdeal.τ) (Cert.ColORefIdeal.main (F := Ideal))) ⟨m', fun _ => 0, g'⟩ (fun r => ∀ c : Dev Cert.ColORefIdeal.nD,
          r.2.mem ((c.tc : Thread Cert.ColORefIdeal.nD Cert.ColORefIdeal.τ).loc Cert.ColORefIdeal.main_v7) = v0 c
          ∧ r.2.mem ((c.tc : Thread Cert.ColORefIdeal.nD Cert.ColORefIdeal.τ).loc Cert.ColORefIdeal.main_arg0) = m' ((c.tc : Thread Cert.ColORefIdeal.nD Cert.ColORefIdeal.τ).loc Cert.ColORefIdeal.main_arg0))

def preserves_RopeF_RopeFIdeal : Prop :=
  True

def algebraic_RopeFIdeal_RopeFRefIdeal [hRopeFIdeal : Cert.RopeFIdeal.Facts] [hRopeFRefIdeal : Cert.RopeFRefIdeal.Facts] : Prop :=
  ∀ (m : (ℓ : Loc Cert.RopeFIdeal.nD Cert.RopeFIdeal.τ Cert.RopeFIdeal.sig) → Buf (Elt Ideal) ℓ) (g : Dev Cert.RopeFIdeal.nD → PrngReg)
    (m' : (ℓ : Loc Cert.RopeFRefIdeal.nD Cert.RopeFRefIdeal.τ Cert.RopeFRefIdeal.sig) → Buf (Elt Ideal) ℓ) (g' : Dev Cert.RopeFRefIdeal.nD → PrngReg), Pre_RopeFIdeal m →
    (∀ c : Dev Cert.RopeFIdeal.nD,
      m' ((c.tc : Thread Cert.RopeFRefIdeal.nD Cert.RopeFRefIdeal.τ).loc Cert.RopeFRefIdeal.main_arg0) = m ((c.tc : Thread Cert.RopeFIdeal.nD Cert.RopeFIdeal.τ).loc Cert.RopeFIdeal.main_arg0)) →
    ∃ (v0 : (c : Dev Cert.RopeFIdeal.nD) → Buf (Elt Ideal) ((c.tc : Thread Cert.RopeFIdeal.nD Cert.RopeFIdeal.τ).loc Cert.RopeFIdeal.main_v27)),
      θ_run (Cert.RopeFIdeal.defs (F := Ideal)) (onTc (τ := Cert.RopeFIdeal.τ) (Cert.RopeFIdeal.main (F := Ideal))) ⟨m, fun _ => 0, g⟩ (fun r => ∀ c : Dev Cert.RopeFIdeal.nD,
          r.2.mem ((c.tc : Thread Cert.RopeFIdeal.nD Cert.RopeFIdeal.τ).loc Cert.RopeFIdeal.main_v27) = v0 c
          ∧ r.2.mem ((c.tc : Thread Cert.RopeFIdeal.nD Cert.RopeFIdeal.τ).loc Cert.RopeFIdeal.main_arg0) = m ((c.tc : Thread Cert.RopeFIdeal.nD Cert.RopeFIdeal.τ).loc Cert.RopeFIdeal.main_arg0))
      ∧ θ_run (Cert.RopeFRefIdeal.defs (F := Ideal)) (onTc (τ := Cert.RopeFRefIdeal.τ) (Cert.RopeFRefIdeal.main (F := Ideal))) ⟨m', fun _ => 0, g'⟩ (fun r => ∀ c : Dev Cert.RopeFRefIdeal.nD,
          r.2.mem ((c.tc : Thread Cert.RopeFRefIdeal.nD Cert.RopeFRefIdeal.τ).loc Cert.RopeFRefIdeal.main_v78) = v0 c
          ∧ r.2.mem ((c.tc : Thread Cert.RopeFRefIdeal.nD Cert.RopeFRefIdeal.τ).loc Cert.RopeFRefIdeal.main_arg0) = m' ((c.tc : Thread Cert.RopeFRefIdeal.nD Cert.RopeFRefIdeal.τ).loc Cert.RopeFRefIdeal.main_arg0))

def preserves_RopeB_RopeBIdeal : Prop :=
  True

def algebraic_RopeBIdeal_RopeBRefIdeal [hRopeBIdeal : Cert.RopeBIdeal.Facts] [hRopeBRefIdeal : Cert.RopeBRefIdeal.Facts] : Prop :=
  ∀ (m : (ℓ : Loc Cert.RopeBIdeal.nD Cert.RopeBIdeal.τ Cert.RopeBIdeal.sig) → Buf (Elt Ideal) ℓ) (g : Dev Cert.RopeBIdeal.nD → PrngReg)
    (m' : (ℓ : Loc Cert.RopeBRefIdeal.nD Cert.RopeBRefIdeal.τ Cert.RopeBRefIdeal.sig) → Buf (Elt Ideal) ℓ) (g' : Dev Cert.RopeBRefIdeal.nD → PrngReg), Pre_RopeBIdeal m →
    (∀ c : Dev Cert.RopeBIdeal.nD,
      m' ((c.tc : Thread Cert.RopeBRefIdeal.nD Cert.RopeBRefIdeal.τ).loc Cert.RopeBRefIdeal.main_arg0) = m ((c.tc : Thread Cert.RopeBIdeal.nD Cert.RopeBIdeal.τ).loc Cert.RopeBIdeal.main_arg0)
      ∧ m' ((c.tc : Thread Cert.RopeBRefIdeal.nD Cert.RopeBRefIdeal.τ).loc Cert.RopeBRefIdeal.main_arg1) = m ((c.tc : Thread Cert.RopeBIdeal.nD Cert.RopeBIdeal.τ).loc Cert.RopeBIdeal.main_arg1)
      ∧ m' ((c.tc : Thread Cert.RopeBRefIdeal.nD Cert.RopeBRefIdeal.τ).loc Cert.RopeBRefIdeal.main_arg2) = m ((c.tc : Thread Cert.RopeBIdeal.nD Cert.RopeBIdeal.τ).loc Cert.RopeBIdeal.main_arg2)
      ∧ m' ((c.tc : Thread Cert.RopeBRefIdeal.nD Cert.RopeBRefIdeal.τ).loc Cert.RopeBRefIdeal.main_arg3) = m ((c.tc : Thread Cert.RopeBIdeal.nD Cert.RopeBIdeal.τ).loc Cert.RopeBIdeal.main_arg3)
      ∧ m' ((c.tc : Thread Cert.RopeBRefIdeal.nD Cert.RopeBRefIdeal.τ).loc Cert.RopeBRefIdeal.main_arg4) = m ((c.tc : Thread Cert.RopeBIdeal.nD Cert.RopeBIdeal.τ).loc Cert.RopeBIdeal.main_arg4)
      ∧ m' ((c.tc : Thread Cert.RopeBRefIdeal.nD Cert.RopeBRefIdeal.τ).loc Cert.RopeBRefIdeal.main_arg5) = m ((c.tc : Thread Cert.RopeBIdeal.nD Cert.RopeBIdeal.τ).loc Cert.RopeBIdeal.main_arg5)) →
    ∃ (v0 : (c : Dev Cert.RopeBIdeal.nD) → Buf (Elt Ideal) ((c.tc : Thread Cert.RopeBIdeal.nD Cert.RopeBIdeal.τ).loc Cert.RopeBIdeal.main_v27)),
      θ_run (Cert.RopeBIdeal.defs (F := Ideal)) (onTc (τ := Cert.RopeBIdeal.τ) (Cert.RopeBIdeal.main (F := Ideal))) ⟨m, fun _ => 0, g⟩ (fun r => ∀ c : Dev Cert.RopeBIdeal.nD,
          r.2.mem ((c.tc : Thread Cert.RopeBIdeal.nD Cert.RopeBIdeal.τ).loc Cert.RopeBIdeal.main_v27) = v0 c
          ∧ r.2.mem ((c.tc : Thread Cert.RopeBIdeal.nD Cert.RopeBIdeal.τ).loc Cert.RopeBIdeal.main_arg0) = m ((c.tc : Thread Cert.RopeBIdeal.nD Cert.RopeBIdeal.τ).loc Cert.RopeBIdeal.main_arg0)
          ∧ r.2.mem ((c.tc : Thread Cert.RopeBIdeal.nD Cert.RopeBIdeal.τ).loc Cert.RopeBIdeal.main_arg1) = m ((c.tc : Thread Cert.RopeBIdeal.nD Cert.RopeBIdeal.τ).loc Cert.RopeBIdeal.main_arg1)
          ∧ r.2.mem ((c.tc : Thread Cert.RopeBIdeal.nD Cert.RopeBIdeal.τ).loc Cert.RopeBIdeal.main_arg2) = m ((c.tc : Thread Cert.RopeBIdeal.nD Cert.RopeBIdeal.τ).loc Cert.RopeBIdeal.main_arg2)
          ∧ r.2.mem ((c.tc : Thread Cert.RopeBIdeal.nD Cert.RopeBIdeal.τ).loc Cert.RopeBIdeal.main_arg3) = m ((c.tc : Thread Cert.RopeBIdeal.nD Cert.RopeBIdeal.τ).loc Cert.RopeBIdeal.main_arg3)
          ∧ r.2.mem ((c.tc : Thread Cert.RopeBIdeal.nD Cert.RopeBIdeal.τ).loc Cert.RopeBIdeal.main_arg4) = m ((c.tc : Thread Cert.RopeBIdeal.nD Cert.RopeBIdeal.τ).loc Cert.RopeBIdeal.main_arg4)
          ∧ r.2.mem ((c.tc : Thread Cert.RopeBIdeal.nD Cert.RopeBIdeal.τ).loc Cert.RopeBIdeal.main_arg5) = m ((c.tc : Thread Cert.RopeBIdeal.nD Cert.RopeBIdeal.τ).loc Cert.RopeBIdeal.main_arg5))
      ∧ θ_run (Cert.RopeBRefIdeal.defs (F := Ideal)) (onTc (τ := Cert.RopeBRefIdeal.τ) (Cert.RopeBRefIdeal.main (F := Ideal))) ⟨m', fun _ => 0, g'⟩ (fun r => ∀ c : Dev Cert.RopeBRefIdeal.nD,
          r.2.mem ((c.tc : Thread Cert.RopeBRefIdeal.nD Cert.RopeBRefIdeal.τ).loc Cert.RopeBRefIdeal.main_v121) = v0 c
          ∧ r.2.mem ((c.tc : Thread Cert.RopeBRefIdeal.nD Cert.RopeBRefIdeal.τ).loc Cert.RopeBRefIdeal.main_arg0) = m' ((c.tc : Thread Cert.RopeBRefIdeal.nD Cert.RopeBRefIdeal.τ).loc Cert.RopeBRefIdeal.main_arg0)
          ∧ r.2.mem ((c.tc : Thread Cert.RopeBRefIdeal.nD Cert.RopeBRefIdeal.τ).loc Cert.RopeBRefIdeal.main_arg1) = m' ((c.tc : Thread Cert.RopeBRefIdeal.nD Cert.RopeBRefIdeal.τ).loc Cert.RopeBRefIdeal.main_arg1)
          ∧ r.2.mem ((c.tc : Thread Cert.RopeBRefIdeal.nD Cert.RopeBRefIdeal.τ).loc Cert.RopeBRefIdeal.main_arg2) = m' ((c.tc : Thread Cert.RopeBRefIdeal.nD Cert.RopeBRefIdeal.τ).loc Cert.RopeBRefIdeal.main_arg2)
          ∧ r.2.mem ((c.tc : Thread Cert.RopeBRefIdeal.nD Cert.RopeBRefIdeal.τ).loc Cert.RopeBRefIdeal.main_arg3) = m' ((c.tc : Thread Cert.RopeBRefIdeal.nD Cert.RopeBRefIdeal.τ).loc Cert.RopeBRefIdeal.main_arg3)
          ∧ r.2.mem ((c.tc : Thread Cert.RopeBRefIdeal.nD Cert.RopeBRefIdeal.τ).loc Cert.RopeBRefIdeal.main_arg4) = m' ((c.tc : Thread Cert.RopeBRefIdeal.nD Cert.RopeBRefIdeal.τ).loc Cert.RopeBRefIdeal.main_arg4)
          ∧ r.2.mem ((c.tc : Thread Cert.RopeBRefIdeal.nD Cert.RopeBRefIdeal.τ).loc Cert.RopeBRefIdeal.main_arg5) = m' ((c.tc : Thread Cert.RopeBRefIdeal.nD Cert.RopeBRefIdeal.τ).loc Cert.RopeBRefIdeal.main_arg5))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v4) = v0 c
          ∧ r.2.mem ((c.tc : Thread Cert.AdamInRefIdeal.nD Cert.AdamInRefIdeal.τ).loc Cert.AdamInRefIdeal.main_v28) = v1 c
          ∧ r.2.mem ((c.tc : Thread Cert.AdamInRefIdeal.nD Cert.AdamInRefIdeal.τ).loc Cert.AdamInRefIdeal.main_v9) = v2 c
          ∧ r.2.mem ((c.tc : Thread Cert.AdamInRefIdeal.nD Cert.AdamInRefIdeal.τ).loc Cert.AdamInRefIdeal.main_v15) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamO_AdamOIdeal : Prop :=
  True

def algebraic_AdamOIdeal_AdamORefIdeal [hAdamOIdeal : Cert.AdamOIdeal.Facts] [hAdamORefIdeal : Cert.AdamORefIdeal.Facts] : Prop :=
  ∀ (m : (ℓ : Loc Cert.AdamOIdeal.nD Cert.AdamOIdeal.τ Cert.AdamOIdeal.sig) → Buf (Elt Ideal) ℓ) (g : Dev Cert.AdamOIdeal.nD → PrngReg)
    (m' : (ℓ : Loc Cert.AdamORefIdeal.nD Cert.AdamORefIdeal.τ Cert.AdamORefIdeal.sig) → Buf (Elt Ideal) ℓ) (g' : Dev Cert.AdamORefIdeal.nD → PrngReg), Pre_AdamOIdeal m →
    (∀ c : Dev Cert.AdamOIdeal.nD,
      m' ((c.tc : Thread Cert.AdamORefIdeal.nD Cert.AdamORefIdeal.τ).loc Cert.AdamORefIdeal.main_arg0) = m ((c.tc : Thread Cert.AdamOIdeal.nD Cert.AdamOIdeal.τ).loc Cert.AdamOIdeal.main_arg0)
      ∧ m' ((c.tc : Thread Cert.AdamORefIdeal.nD Cert.AdamORefIdeal.τ).loc Cert.AdamORefIdeal.main_arg1) = m ((c.tc : Thread Cert.AdamOIdeal.nD Cert.AdamOIdeal.τ).loc Cert.AdamOIdeal.main_arg1)
      ∧ m' ((c.tc : Thread Cert.AdamORefIdeal.nD Cert.AdamORefIdeal.τ).loc Cert.AdamORefIdeal.main_arg2) = m ((c.tc : Thread Cert.AdamOIdeal.nD Cert.AdamOIdeal.τ).loc Cert.AdamOIdeal.main_arg2)
      ∧ m' ((c.tc : Thread Cert.AdamORefIdeal.nD Cert.AdamORefIdeal.τ).loc Cert.AdamORefIdeal.main_arg3) = m ((c.tc : Thread Cert.AdamOIdeal.nD Cert.AdamOIdeal.τ).loc Cert.AdamOIdeal.main_arg3)) →
    ∃ (v0 : (c : Dev Cert.AdamOIdeal.nD) → Buf (Elt Ideal) ((c.tc : Thread Cert.AdamOIdeal.nD Cert.AdamOIdeal.τ).loc Cert.AdamOIdeal.main_v0_0)) (v1 : (c : Dev Cert.AdamOIdeal.nD) → Buf (Elt Ideal) ((c.tc : Thread Cert.AdamOIdeal.nD Cert.AdamOIdeal.τ).loc Cert.AdamOIdeal.main_v0_1)) (v2 : (c : Dev Cert.AdamOIdeal.nD) → Buf (Elt Ideal) ((c.tc : Thread Cert.AdamOIdeal.nD Cert.AdamOIdeal.τ).loc Cert.AdamOIdeal.main_v0_2)) (v3 : (c : Dev Cert.AdamOIdeal.nD) → Buf (Elt Ideal) ((c.tc : Thread Cert.AdamOIdeal.nD Cert.AdamOIdeal.τ).loc Cert.AdamOIdeal.main_v0_3)),
      θ_run (Cert.AdamOIdeal.defs (F := Ideal)) (onTc (τ := Cert.AdamOIdeal.τ) (Cert.AdamOIdeal.main (F := Ideal))) ⟨m, fun _ => 0, g⟩ (fun r => ∀ c : Dev Cert.AdamOIdeal.nD,
          r.2.mem ((c.tc : Thread Cert.AdamOIdeal.nD Cert.AdamOIdeal.τ).loc Cert.AdamOIdeal.main_v0_0) = v0 c
          ∧ r.2.mem ((c.tc : Thread Cert.AdamOIdeal.nD Cert.AdamOIdeal.τ).loc Cert.AdamOIdeal.main_v0_1) = v1 c
          ∧ r.2.mem ((c.tc : Thread Cert.AdamOIdeal.nD Cert.AdamOIdeal.τ).loc Cert.AdamOIdeal.main_v0_2) = v2 c
          ∧ r.2.mem ((c.tc : Thread Cert.AdamOIdeal.nD Cert.AdamOIdeal.τ).loc Cert.AdamOIdeal.main_v0_3) = v3 c
          ∧ r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
          ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
          ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
          ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ θ_run (Cert.AdamORefIdeal.defs (F := Ideal)) (onTc (τ := Cert.AdamORefIdeal.τ) (Cert.AdamORefIdeal.main (F := Ideal))) ⟨m', fun _ => 0, g'⟩ (fun r => ∀ c : Dev Cert.AdamORefIdeal.nD,
          r.2.mem ((c.tc : Thread Cert.AdamORefIdeal.nD Cert.AdamORefIdeal.τ).loc Cert.AdamORefIdeal.main_v4) = v0 c
          ∧ r.2.mem ((c.tc : Thread Cert.AdamORefIdeal.nD Cert.AdamORefIdeal.τ).loc Cert.AdamORefIdeal.main_v28) = v1 c
          ∧ r.2.mem ((c.tc : Thread Cert.AdamORefIdeal.nD Cert.AdamORefIdeal.τ).loc Cert.AdamORefIdeal.main_v9) = v2 c
          ∧ r.2.mem ((c.tc : Thread Cert.AdamORefIdeal.nD Cert.AdamORefIdeal.τ).loc Cert.AdamORefIdeal.main_v15) = v3 c
          ∧ r.2.mem ((c.tc : Thread Cert.AdamORefIdeal.nD Cert.AdamORefIdeal.τ).loc Cert.AdamORefIdeal.main_arg0) = m' ((c.tc : Thread Cert.AdamORefIdeal.nD Cert.AdamORefIdeal.τ).loc Cert.AdamORefIdeal.main_arg0)
          ∧ r.2.mem ((c.tc : Thread Cert.AdamORefIdeal.nD Cert.AdamORefIdeal.τ).loc Cert.AdamORefIdeal.main_arg1) = m' ((c.tc : Thread Cert.AdamORefIdeal.nD Cert.AdamORefIdeal.τ).loc Cert.AdamORefIdeal.main_arg1)
          ∧ r.2.mem ((c.tc : Thread Cert.AdamORefIdeal.nD Cert.AdamORefIdeal.τ).loc Cert.AdamORefIdeal.main_arg2) = m' ((c.tc : Thread Cert.AdamORefIdeal.nD Cert.AdamORefIdeal.τ).loc Cert.AdamORefIdeal.main_arg2)
          ∧ r.2.mem ((c.tc : Thread Cert.AdamORefIdeal.nD Cert.AdamORefIdeal.τ).loc Cert.AdamORefIdeal.main_arg3) = m' ((c.tc : Thread Cert.AdamORefIdeal.nD Cert.AdamORefIdeal.τ).loc Cert.AdamORefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v4) = v0 c
          ∧ r.2.mem ((c.tc : Thread Cert.AdamOutRefIdeal.nD Cert.AdamOutRefIdeal.τ).loc Cert.AdamOutRefIdeal.main_v28) = v1 c
          ∧ r.2.mem ((c.tc : Thread Cert.AdamOutRefIdeal.nD Cert.AdamOutRefIdeal.τ).loc Cert.AdamOutRefIdeal.main_v9) = v2 c
          ∧ r.2.mem ((c.tc : Thread Cert.AdamOutRefIdeal.nD Cert.AdamOutRefIdeal.τ).loc Cert.AdamOutRefIdeal.main_v15) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGU_AdamGUIdeal : Prop :=
  True

def algebraic_AdamGUIdeal_AdamGURefIdeal [hAdamGUIdeal : Cert.AdamGUIdeal.Facts] [hAdamGURefIdeal : Cert.AdamGURefIdeal.Facts] : Prop :=
  ∀ (m : (ℓ : Loc Cert.AdamGUIdeal.nD Cert.AdamGUIdeal.τ Cert.AdamGUIdeal.sig) → Buf (Elt Ideal) ℓ) (g : Dev Cert.AdamGUIdeal.nD → PrngReg)
    (m' : (ℓ : Loc Cert.AdamGURefIdeal.nD Cert.AdamGURefIdeal.τ Cert.AdamGURefIdeal.sig) → Buf (Elt Ideal) ℓ) (g' : Dev Cert.AdamGURefIdeal.nD → PrngReg), Pre_AdamGUIdeal m →
    (∀ c : Dev Cert.AdamGUIdeal.nD,
      m' ((c.tc : Thread Cert.AdamGURefIdeal.nD Cert.AdamGURefIdeal.τ).loc Cert.AdamGURefIdeal.main_arg0) = m ((c.tc : Thread Cert.AdamGUIdeal.nD Cert.AdamGUIdeal.τ).loc Cert.AdamGUIdeal.main_arg0)
      ∧ m' ((c.tc : Thread Cert.AdamGURefIdeal.nD Cert.AdamGURefIdeal.τ).loc Cert.AdamGURefIdeal.main_arg1) = m ((c.tc : Thread Cert.AdamGUIdeal.nD Cert.AdamGUIdeal.τ).loc Cert.AdamGUIdeal.main_arg1)
      ∧ m' ((c.tc : Thread Cert.AdamGURefIdeal.nD Cert.AdamGURefIdeal.τ).loc Cert.AdamGURefIdeal.main_arg2) = m ((c.tc : Thread Cert.AdamGUIdeal.nD Cert.AdamGUIdeal.τ).loc Cert.AdamGUIdeal.main_arg2)
      ∧ m' ((c.tc : Thread Cert.AdamGURefIdeal.nD Cert.AdamGURefIdeal.τ).loc Cert.AdamGURefIdeal.main_arg3) = m ((c.tc : Thread Cert.AdamGUIdeal.nD Cert.AdamGUIdeal.τ).loc Cert.AdamGUIdeal.main_arg3)) →
    ∃ (v0 : (c : Dev Cert.AdamGUIdeal.nD) → Buf (Elt Ideal) ((c.tc : Thread Cert.AdamGUIdeal.nD Cert.AdamGUIdeal.τ).loc Cert.AdamGUIdeal.main_v0_0)) (v1 : (c : Dev Cert.AdamGUIdeal.nD) → Buf (Elt Ideal) ((c.tc : Thread Cert.AdamGUIdeal.nD Cert.AdamGUIdeal.τ).loc Cert.AdamGUIdeal.main_v0_1)) (v2 : (c : Dev Cert.AdamGUIdeal.nD) → Buf (Elt Ideal) ((c.tc : Thread Cert.AdamGUIdeal.nD Cert.AdamGUIdeal.τ).loc Cert.AdamGUIdeal.main_v0_2)) (v3 : (c : Dev Cert.AdamGUIdeal.nD) → Buf (Elt Ideal) ((c.tc : Thread Cert.AdamGUIdeal.nD Cert.AdamGUIdeal.τ).loc Cert.AdamGUIdeal.main_v0_3)),
      θ_run (Cert.AdamGUIdeal.defs (F := Ideal)) (onTc (τ := Cert.AdamGUIdeal.τ) (Cert.AdamGUIdeal.main (F := Ideal))) ⟨m, fun _ => 0, g⟩ (fun r => ∀ c : Dev Cert.AdamGUIdeal.nD,
          r.2.mem ((c.tc : Thread Cert.AdamGUIdeal.nD Cert.AdamGUIdeal.τ).loc Cert.AdamGUIdeal.main_v0_0) = v0 c
          ∧ r.2.mem ((c.tc : Thread Cert.AdamGUIdeal.nD Cert.AdamGUIdeal.τ).loc Cert.AdamGUIdeal.main_v0_1) = v1 c
          ∧ r.2.mem ((c.tc : Thread Cert.AdamGUIdeal.nD Cert.AdamGUIdeal.τ).loc Cert.AdamGUIdeal.main_v0_2) = v2 c
          ∧ r.2.mem ((c.tc : Thread Cert.AdamGUIdeal.nD Cert.AdamGUIdeal.τ).loc Cert.AdamGUIdeal.main_v0_3) = v3 c
          ∧ r.2.mem ((c.tc : Thread Cert.AdamGUIdeal.nD Cert.AdamGUIdeal.τ).loc Cert.AdamGUIdeal.main_arg0) = m ((c.tc : Thread Cert.AdamGUIdeal.nD Cert.AdamGUIdeal.τ).loc Cert.AdamGUIdeal.main_arg0)
          ∧ r.2.mem ((c.tc : Thread Cert.AdamGUIdeal.nD Cert.AdamGUIdeal.τ).loc Cert.AdamGUIdeal.main_arg1) = m ((c.tc : Thread Cert.AdamGUIdeal.nD Cert.AdamGUIdeal.τ).loc Cert.AdamGUIdeal.main_arg1)
          ∧ r.2.mem ((c.tc : Thread Cert.AdamGUIdeal.nD Cert.AdamGUIdeal.τ).loc Cert.AdamGUIdeal.main_arg2) = m ((c.tc : Thread Cert.AdamGUIdeal.nD Cert.AdamGUIdeal.τ).loc Cert.AdamGUIdeal.main_arg2)
          ∧ r.2.mem ((c.tc : Thread Cert.AdamGUIdeal.nD Cert.AdamGUIdeal.τ).loc Cert.AdamGUIdeal.main_arg3) = m ((c.tc : Thread Cert.AdamGUIdeal.nD Cert.AdamGUIdeal.τ).loc Cert.AdamGUIdeal.main_arg3))
      ∧ θ_run (Cert.AdamGURefIdeal.defs (F := Ideal)) (onTc (τ := Cert.AdamGURefIdeal.τ) (Cert.AdamGURefIdeal.main (F := Ideal))) ⟨m', fun _ => 0, g'⟩ (fun r => ∀ c : Dev Cert.AdamGURefIdeal.nD,
          r.2.mem ((c.tc : Thread Cert.AdamGURefIdeal.nD Cert.AdamGURefIdeal.τ).loc Cert.AdamGURefIdeal.main_v4) = v0 c
          ∧ r.2.mem ((c.tc : Thread Cert.AdamGURefIdeal.nD Cert.AdamGURefIdeal.τ).loc Cert.AdamGURefIdeal.main_v28) = v1 c
          ∧ r.2.mem ((c.tc : Thread Cert.AdamGURefIdeal.nD Cert.AdamGURefIdeal.τ).loc Cert.AdamGURefIdeal.main_v9) = v2 c
          ∧ r.2.mem ((c.tc : Thread Cert.AdamGURefIdeal.nD Cert.AdamGURefIdeal.τ).loc Cert.AdamGURefIdeal.main_v15) = v3 c
          ∧ r.2.mem ((c.tc : Thread Cert.AdamGURefIdeal.nD Cert.AdamGURefIdeal.τ).loc Cert.AdamGURefIdeal.main_arg0) = m' ((c.tc : Thread Cert.AdamGURefIdeal.nD Cert.AdamGURefIdeal.τ).loc Cert.AdamGURefIdeal.main_arg0)
          ∧ r.2.mem ((c.tc : Thread Cert.AdamGURefIdeal.nD Cert.AdamGURefIdeal.τ).loc Cert.AdamGURefIdeal.main_arg1) = m' ((c.tc : Thread Cert.AdamGURefIdeal.nD Cert.AdamGURefIdeal.τ).loc Cert.AdamGURefIdeal.main_arg1)
          ∧ r.2.mem ((c.tc : Thread Cert.AdamGURefIdeal.nD Cert.AdamGURefIdeal.τ).loc Cert.AdamGURefIdeal.main_arg2) = m' ((c.tc : Thread Cert.AdamGURefIdeal.nD Cert.AdamGURefIdeal.τ).loc Cert.AdamGURefIdeal.main_arg2)
          ∧ r.2.mem ((c.tc : Thread Cert.AdamGURefIdeal.nD Cert.AdamGURefIdeal.τ).loc Cert.AdamGURefIdeal.main_arg3) = m' ((c.tc : Thread Cert.AdamGURefIdeal.nD Cert.AdamGURefIdeal.τ).loc Cert.AdamGURefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v4) = v0 c
          ∧ r.2.mem ((c.tc : Thread Cert.AdamDownRefIdeal.nD Cert.AdamDownRefIdeal.τ).loc Cert.AdamDownRefIdeal.main_v28) = v1 c
          ∧ r.2.mem ((c.tc : Thread Cert.AdamDownRefIdeal.nD Cert.AdamDownRefIdeal.τ).loc Cert.AdamDownRefIdeal.main_v9) = v2 c
          ∧ r.2.mem ((c.tc : Thread Cert.AdamDownRefIdeal.nD Cert.AdamDownRefIdeal.τ).loc Cert.AdamDownRefIdeal.main_v15) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hAttn : Cert.Attn.Facts) (hAttnIdeal : Cert.AttnIdeal.Facts) (hRefIdeal : Cert.RefIdeal.Facts) (hDAct : Cert.DAct.Facts) (hDActIdeal : Cert.DActIdeal.Facts) (hDActRefIdeal : Cert.DActRefIdeal.Facts) (hDwDown : Cert.DwDown.Facts) (hDwDownIdeal : Cert.DwDownIdeal.Facts) (hDwDownRefIdeal : Cert.DwDownRefIdeal.Facts) (hDU2 : Cert.DU2.Facts) (hDU2Ideal : Cert.DU2Ideal.Facts) (hDU2RefIdeal : Cert.DU2RefIdeal.Facts) (hDwGateUp : Cert.DwGateUp.Facts) (hDwGateUpIdeal : Cert.DwGateUpIdeal.Facts) (hDwGateUpRefIdeal : Cert.DwGateUpRefIdeal.Facts) (hDU1 : Cert.DU1.Facts) (hDU1Ideal : Cert.DU1Ideal.Facts) (hDU1RefIdeal : Cert.DU1RefIdeal.Facts) (hDwIn : Cert.DwIn.Facts) (hDwInIdeal : Cert.DwInIdeal.Facts) (hDwInRefIdeal : Cert.DwInRefIdeal.Facts) (hIn : Cert.In.Facts) (hInIdeal : Cert.InIdeal.Facts) (hInRefIdeal : Cert.InRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hDMerged : Cert.DMerged.Facts) (hDMergedIdeal : Cert.DMergedIdeal.Facts) (hDMergedRefIdeal : Cert.DMergedRefIdeal.Facts) (hDwOut : Cert.DwOut.Facts) (hDwOutIdeal : Cert.DwOutIdeal.Facts) (hDwOutRefIdeal : Cert.DwOutRefIdeal.Facts) (hDAttn : Cert.DAttn.Facts) (hDAttnIdeal : Cert.DAttnIdeal.Facts) (hDAttnRefIdeal : Cert.DAttnRefIdeal.Facts) (hDwAttnO : Cert.DwAttnO.Facts) (hDwAttnOIdeal : Cert.DwAttnOIdeal.Facts) (hDwAttnORefIdeal : Cert.DwAttnORefIdeal.Facts) (hDConv : Cert.DConv.Facts) (hDConvIdeal : Cert.DConvIdeal.Facts) (hDConvRefIdeal : Cert.DConvRefIdeal.Facts) (hDwConvO : Cert.DwConvO.Facts) (hDwConvOIdeal : Cert.DwConvOIdeal.Facts) (hDwConvORefIdeal : Cert.DwConvORefIdeal.Facts) (hGateB : Cert.GateB.Facts) (hGateBIdeal : Cert.GateBIdeal.Facts) (hGateBRefIdeal : Cert.GateBRefIdeal.Facts) (hGluB : Cert.GluB.Facts) (hGluBIdeal : Cert.GluBIdeal.Facts) (hGluBRefIdeal : Cert.GluBRefIdeal.Facts) (hSwigluB : Cert.SwigluB.Facts) (hSwigluBIdeal : Cert.SwigluBIdeal.Facts) (hSwigluBRefIdeal : Cert.SwigluBRefIdeal.Facts) (hSwigluF : Cert.SwigluF.Facts) (hSwigluFIdeal : Cert.SwigluFIdeal.Facts) (hSwigluFRefIdeal : Cert.SwigluFRefIdeal.Facts) (hGateF : Cert.GateF.Facts) (hGateFIdeal : Cert.GateFIdeal.Facts) (hGateFRefIdeal : Cert.GateFRefIdeal.Facts) (hRmsB : Cert.RmsB.Facts) (hRmsBIdeal : Cert.RmsBIdeal.Facts) (hRmsBRefIdeal : Cert.RmsBRefIdeal.Facts) (hRmsF : Cert.RmsF.Facts) (hRmsFIdeal : Cert.RmsFIdeal.Facts) (hRmsFRefIdeal : Cert.RmsFRefIdeal.Facts) (hLnB : Cert.LnB.Facts) (hLnBIdeal : Cert.LnBIdeal.Facts) (hLnBRefIdeal : Cert.LnBRefIdeal.Facts) (hLnF : Cert.LnF.Facts) (hLnFIdeal : Cert.LnFIdeal.Facts) (hLnFRefIdeal : Cert.LnFRefIdeal.Facts) (hConvB : Cert.ConvB.Facts) (hConvBIdeal : Cert.ConvBIdeal.Facts) (hConvBRefIdeal : Cert.ConvBRefIdeal.Facts) (hConvF : Cert.ConvF.Facts) (hConvFIdeal : Cert.ConvFIdeal.Facts) (hConvFRefIdeal : Cert.ConvFRefIdeal.Facts) (hAttnF : Cert.AttnF.Facts) (hAttnFIdeal : Cert.AttnFIdeal.Facts) (hAttnFRefIdeal : Cert.AttnFRefIdeal.Facts) (hAttnO : Cert.AttnO.Facts) (hAttnOIdeal : Cert.AttnOIdeal.Facts) (hAttnORefIdeal : Cert.AttnORefIdeal.Facts) (hConvO : Cert.ConvO.Facts) (hConvOIdeal : Cert.ConvOIdeal.Facts) (hConvORefIdeal : Cert.ConvORefIdeal.Facts) (hColIn : Cert.ColIn.Facts) (hColInIdeal : Cert.ColInIdeal.Facts) (hColInRefIdeal : Cert.ColInRefIdeal.Facts) (hColO : Cert.ColO.Facts) (hColOIdeal : Cert.ColOIdeal.Facts) (hColORefIdeal : Cert.ColORefIdeal.Facts) (hRopeF : Cert.RopeF.Facts) (hRopeFIdeal : Cert.RopeFIdeal.Facts) (hRopeFRefIdeal : Cert.RopeFRefIdeal.Facts) (hRopeB : Cert.RopeB.Facts) (hRopeBIdeal : Cert.RopeBIdeal.Facts) (hRopeBRefIdeal : Cert.RopeBRefIdeal.Facts) (hAdamIn : Cert.AdamIn.Facts) (hAdamInIdeal : Cert.AdamInIdeal.Facts) (hAdamInRefIdeal : Cert.AdamInRefIdeal.Facts) (hAdamO : Cert.AdamO.Facts) (hAdamOIdeal : Cert.AdamOIdeal.Facts) (hAdamORefIdeal : Cert.AdamORefIdeal.Facts) (hAdamOut : Cert.AdamOut.Facts) (hAdamOutIdeal : Cert.AdamOutIdeal.Facts) (hAdamOutRefIdeal : Cert.AdamOutRefIdeal.Facts) (hAdamGU : Cert.AdamGU.Facts) (hAdamGUIdeal : Cert.AdamGUIdeal.Facts) (hAdamGURefIdeal : Cert.AdamGURefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hPre_finite : Cert.Pre_finite.Facts) (hPre_finite_swiglu : Cert.Pre_finite_swiglu.Facts) (hPre_finite_rms : Cert.Pre_finite_rms.Facts) (hPre_finite_ln : Cert.Pre_finite_ln.Facts) (hPre_finite_attn : Cert.Pre_finite_attn.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_RefIdeal (hRefIdeal := hRefIdeal)
    ∧ quiescent_RefIdeal_pre_finite (hRefIdeal := hRefIdeal) (hPre_finite := hPre_finite)
    ∧ quiescent_DAct (hDAct := hDAct)
    ∧ quiescent_DActIdeal (hDActIdeal := hDActIdeal)
    ∧ quiescent_DActRefIdeal (hDActRefIdeal := hDActRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DU2 (hDU2 := hDU2)
    ∧ quiescent_DU2Ideal (hDU2Ideal := hDU2Ideal)
    ∧ quiescent_DU2RefIdeal (hDU2RefIdeal := hDU2RefIdeal)
    ∧ quiescent_DwGateUp (hDwGateUp := hDwGateUp)
    ∧ quiescent_DwGateUpIdeal (hDwGateUpIdeal := hDwGateUpIdeal)
    ∧ quiescent_DwGateUpRefIdeal (hDwGateUpRefIdeal := hDwGateUpRefIdeal)
    ∧ quiescent_DU1 (hDU1 := hDU1)
    ∧ quiescent_DU1Ideal (hDU1Ideal := hDU1Ideal)
    ∧ quiescent_DU1RefIdeal (hDU1RefIdeal := hDU1RefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_In (hIn := hIn)
    ∧ quiescent_InIdeal (hInIdeal := hInIdeal)
    ∧ quiescent_InRefIdeal (hInRefIdeal := hInRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_DMerged (hDMerged := hDMerged)
    ∧ quiescent_DMergedIdeal (hDMergedIdeal := hDMergedIdeal)
    ∧ quiescent_DMergedRefIdeal (hDMergedRefIdeal := hDMergedRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DAttn (hDAttn := hDAttn)
    ∧ quiescent_DAttnIdeal (hDAttnIdeal := hDAttnIdeal)
    ∧ quiescent_DAttnRefIdeal (hDAttnRefIdeal := hDAttnRefIdeal)
    ∧ quiescent_DwAttnO (hDwAttnO := hDwAttnO)
    ∧ quiescent_DwAttnOIdeal (hDwAttnOIdeal := hDwAttnOIdeal)
    ∧ quiescent_DwAttnORefIdeal (hDwAttnORefIdeal := hDwAttnORefIdeal)
    ∧ quiescent_DConv (hDConv := hDConv)
    ∧ quiescent_DConvIdeal (hDConvIdeal := hDConvIdeal)
    ∧ quiescent_DConvRefIdeal (hDConvRefIdeal := hDConvRefIdeal)
    ∧ quiescent_DwConvO (hDwConvO := hDwConvO)
    ∧ quiescent_DwConvOIdeal (hDwConvOIdeal := hDwConvOIdeal)
    ∧ quiescent_DwConvORefIdeal (hDwConvORefIdeal := hDwConvORefIdeal)
    ∧ quiescent_GateB (hGateB := hGateB)
    ∧ quiescent_GateBIdeal (hGateBIdeal := hGateBIdeal)
    ∧ quiescent_GateBRefIdeal (hGateBRefIdeal := hGateBRefIdeal)
    ∧ quiescent_GluB (hGluB := hGluB)
    ∧ quiescent_GluBIdeal (hGluBIdeal := hGluBIdeal)
    ∧ quiescent_GluBRefIdeal (hGluBRefIdeal := hGluBRefIdeal)
    ∧ quiescent_SwigluB (hSwigluB := hSwigluB)
    ∧ quiescent_SwigluBIdeal (hSwigluBIdeal := hSwigluBIdeal)
    ∧ quiescent_SwigluBIdeal_pre_finite_swiglu (hSwigluBIdeal := hSwigluBIdeal) (hPre_finite_swiglu := hPre_finite_swiglu)
    ∧ quiescent_SwigluBRefIdeal (hSwigluBRefIdeal := hSwigluBRefIdeal)
    ∧ quiescent_SwigluBRefIdeal_pre_finite_swiglu (hSwigluBRefIdeal := hSwigluBRefIdeal) (hPre_finite_swiglu := hPre_finite_swiglu)
    ∧ quiescent_SwigluF (hSwigluF := hSwigluF)
    ∧ quiescent_SwigluFIdeal (hSwigluFIdeal := hSwigluFIdeal)
    ∧ quiescent_SwigluFRefIdeal (hSwigluFRefIdeal := hSwigluFRefIdeal)
    ∧ quiescent_GateF (hGateF := hGateF)
    ∧ quiescent_GateFIdeal (hGateFIdeal := hGateFIdeal)
    ∧ quiescent_GateFRefIdeal (hGateFRefIdeal := hGateFRefIdeal)
    ∧ quiescent_RmsB (hRmsB := hRmsB)
    ∧ quiescent_RmsBIdeal (hRmsBIdeal := hRmsBIdeal)
    ∧ quiescent_RmsBIdeal_pre_finite_rms (hRmsBIdeal := hRmsBIdeal) (hPre_finite_rms := hPre_finite_rms)
    ∧ quiescent_RmsBRefIdeal (hRmsBRefIdeal := hRmsBRefIdeal)
    ∧ quiescent_RmsBRefIdeal_pre_finite_rms (hRmsBRefIdeal := hRmsBRefIdeal) (hPre_finite_rms := hPre_finite_rms)
    ∧ quiescent_RmsF (hRmsF := hRmsF)
    ∧ quiescent_RmsFIdeal (hRmsFIdeal := hRmsFIdeal)
    ∧ quiescent_RmsFRefIdeal (hRmsFRefIdeal := hRmsFRefIdeal)
    ∧ quiescent_LnB (hLnB := hLnB)
    ∧ quiescent_LnBIdeal (hLnBIdeal := hLnBIdeal)
    ∧ quiescent_LnBIdeal_pre_finite_ln (hLnBIdeal := hLnBIdeal) (hPre_finite_ln := hPre_finite_ln)
    ∧ quiescent_LnBRefIdeal (hLnBRefIdeal := hLnBRefIdeal)
    ∧ quiescent_LnBRefIdeal_pre_finite_ln (hLnBRefIdeal := hLnBRefIdeal) (hPre_finite_ln := hPre_finite_ln)
    ∧ quiescent_LnF (hLnF := hLnF)
    ∧ quiescent_LnFIdeal (hLnFIdeal := hLnFIdeal)
    ∧ quiescent_LnFRefIdeal (hLnFRefIdeal := hLnFRefIdeal)
    ∧ quiescent_ConvB (hConvB := hConvB)
    ∧ quiescent_ConvBIdeal (hConvBIdeal := hConvBIdeal)
    ∧ quiescent_ConvBRefIdeal (hConvBRefIdeal := hConvBRefIdeal)
    ∧ quiescent_ConvF (hConvF := hConvF)
    ∧ quiescent_ConvFIdeal (hConvFIdeal := hConvFIdeal)
    ∧ quiescent_ConvFRefIdeal (hConvFRefIdeal := hConvFRefIdeal)
    ∧ quiescent_AttnF (hAttnF := hAttnF)
    ∧ quiescent_AttnFIdeal (hAttnFIdeal := hAttnFIdeal)
    ∧ quiescent_AttnFIdeal_pre_finite_attn (hAttnFIdeal := hAttnFIdeal) (hPre_finite_attn := hPre_finite_attn)
    ∧ quiescent_AttnFRefIdeal (hAttnFRefIdeal := hAttnFRefIdeal)
    ∧ quiescent_AttnFRefIdeal_pre_finite_attn (hAttnFRefIdeal := hAttnFRefIdeal) (hPre_finite_attn := hPre_finite_attn)
    ∧ quiescent_AttnO (hAttnO := hAttnO)
    ∧ quiescent_AttnOIdeal (hAttnOIdeal := hAttnOIdeal)
    ∧ quiescent_AttnORefIdeal (hAttnORefIdeal := hAttnORefIdeal)
    ∧ quiescent_ConvO (hConvO := hConvO)
    ∧ quiescent_ConvOIdeal (hConvOIdeal := hConvOIdeal)
    ∧ quiescent_ConvORefIdeal (hConvORefIdeal := hConvORefIdeal)
    ∧ quiescent_ColIn (hColIn := hColIn)
    ∧ quiescent_ColInIdeal (hColInIdeal := hColInIdeal)
    ∧ quiescent_ColInRefIdeal (hColInRefIdeal := hColInRefIdeal)
    ∧ quiescent_ColO (hColO := hColO)
    ∧ quiescent_ColOIdeal (hColOIdeal := hColOIdeal)
    ∧ quiescent_ColORefIdeal (hColORefIdeal := hColORefIdeal)
    ∧ quiescent_RopeF (hRopeF := hRopeF)
    ∧ quiescent_RopeFIdeal (hRopeFIdeal := hRopeFIdeal)
    ∧ quiescent_RopeFRefIdeal (hRopeFRefIdeal := hRopeFRefIdeal)
    ∧ quiescent_RopeB (hRopeB := hRopeB)
    ∧ quiescent_RopeBIdeal (hRopeBIdeal := hRopeBIdeal)
    ∧ quiescent_RopeBRefIdeal (hRopeBRefIdeal := hRopeBRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamO (hAdamO := hAdamO)
    ∧ quiescent_AdamOIdeal (hAdamOIdeal := hAdamOIdeal)
    ∧ quiescent_AdamORefIdeal (hAdamORefIdeal := hAdamORefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGU (hAdamGU := hAdamGU)
    ∧ quiescent_AdamGUIdeal (hAdamGUIdeal := hAdamGUIdeal)
    ∧ quiescent_AdamGURefIdeal (hAdamGURefIdeal := hAdamGURefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Attn_AttnIdeal
    ∧ algebraic_AttnIdeal_RefIdeal_pre_finite (hAttnIdeal := hAttnIdeal) (hRefIdeal := hRefIdeal) (hPre_finite := hPre_finite)
    ∧ preserves_DAct_DActIdeal
    ∧ algebraic_DActIdeal_DActRefIdeal (hDActIdeal := hDActIdeal) (hDActRefIdeal := hDActRefIdeal)
    ∧ preserves_DwDown_DwDownIdeal
    ∧ algebraic_DwDownIdeal_DwDownRefIdeal (hDwDownIdeal := hDwDownIdeal) (hDwDownRefIdeal := hDwDownRefIdeal)
    ∧ preserves_DU2_DU2Ideal
    ∧ algebraic_DU2Ideal_DU2RefIdeal (hDU2Ideal := hDU2Ideal) (hDU2RefIdeal := hDU2RefIdeal)
    ∧ preserves_DwGateUp_DwGateUpIdeal
    ∧ algebraic_DwGateUpIdeal_DwGateUpRefIdeal (hDwGateUpIdeal := hDwGateUpIdeal) (hDwGateUpRefIdeal := hDwGateUpRefIdeal)
    ∧ preserves_DU1_DU1Ideal
    ∧ algebraic_DU1Ideal_DU1RefIdeal (hDU1Ideal := hDU1Ideal) (hDU1RefIdeal := hDU1RefIdeal)
    ∧ preserves_DwIn_DwInIdeal
    ∧ algebraic_DwInIdeal_DwInRefIdeal (hDwInIdeal := hDwInIdeal) (hDwInRefIdeal := hDwInRefIdeal)
    ∧ preserves_In_InIdeal
    ∧ algebraic_InIdeal_InRefIdeal (hInIdeal := hInIdeal) (hInRefIdeal := hInRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_DMerged_DMergedIdeal
    ∧ algebraic_DMergedIdeal_DMergedRefIdeal (hDMergedIdeal := hDMergedIdeal) (hDMergedRefIdeal := hDMergedRefIdeal)
    ∧ preserves_DwOut_DwOutIdeal
    ∧ algebraic_DwOutIdeal_DwOutRefIdeal (hDwOutIdeal := hDwOutIdeal) (hDwOutRefIdeal := hDwOutRefIdeal)
    ∧ preserves_DAttn_DAttnIdeal
    ∧ algebraic_DAttnIdeal_DAttnRefIdeal (hDAttnIdeal := hDAttnIdeal) (hDAttnRefIdeal := hDAttnRefIdeal)
    ∧ preserves_DwAttnO_DwAttnOIdeal
    ∧ algebraic_DwAttnOIdeal_DwAttnORefIdeal (hDwAttnOIdeal := hDwAttnOIdeal) (hDwAttnORefIdeal := hDwAttnORefIdeal)
    ∧ preserves_DConv_DConvIdeal
    ∧ algebraic_DConvIdeal_DConvRefIdeal (hDConvIdeal := hDConvIdeal) (hDConvRefIdeal := hDConvRefIdeal)
    ∧ preserves_DwConvO_DwConvOIdeal
    ∧ algebraic_DwConvOIdeal_DwConvORefIdeal (hDwConvOIdeal := hDwConvOIdeal) (hDwConvORefIdeal := hDwConvORefIdeal)
    ∧ preserves_GateB_GateBIdeal
    ∧ algebraic_GateBIdeal_GateBRefIdeal (hGateBIdeal := hGateBIdeal) (hGateBRefIdeal := hGateBRefIdeal)
    ∧ preserves_GluB_GluBIdeal
    ∧ algebraic_GluBIdeal_GluBRefIdeal (hGluBIdeal := hGluBIdeal) (hGluBRefIdeal := hGluBRefIdeal)
    ∧ preserves_SwigluB_SwigluBIdeal
    ∧ algebraic_SwigluBIdeal_SwigluBRefIdeal_pre_finite_swiglu (hSwigluBIdeal := hSwigluBIdeal) (hSwigluBRefIdeal := hSwigluBRefIdeal) (hPre_finite_swiglu := hPre_finite_swiglu)
    ∧ preserves_SwigluF_SwigluFIdeal
    ∧ algebraic_SwigluFIdeal_SwigluFRefIdeal (hSwigluFIdeal := hSwigluFIdeal) (hSwigluFRefIdeal := hSwigluFRefIdeal)
    ∧ preserves_GateF_GateFIdeal
    ∧ algebraic_GateFIdeal_GateFRefIdeal (hGateFIdeal := hGateFIdeal) (hGateFRefIdeal := hGateFRefIdeal)
    ∧ preserves_RmsB_RmsBIdeal
    ∧ algebraic_RmsBIdeal_RmsBRefIdeal_pre_finite_rms (hRmsBIdeal := hRmsBIdeal) (hRmsBRefIdeal := hRmsBRefIdeal) (hPre_finite_rms := hPre_finite_rms)
    ∧ preserves_RmsF_RmsFIdeal
    ∧ algebraic_RmsFIdeal_RmsFRefIdeal (hRmsFIdeal := hRmsFIdeal) (hRmsFRefIdeal := hRmsFRefIdeal)
    ∧ preserves_LnB_LnBIdeal
    ∧ algebraic_LnBIdeal_LnBRefIdeal_pre_finite_ln (hLnBIdeal := hLnBIdeal) (hLnBRefIdeal := hLnBRefIdeal) (hPre_finite_ln := hPre_finite_ln)
    ∧ preserves_LnF_LnFIdeal
    ∧ algebraic_LnFIdeal_LnFRefIdeal (hLnFIdeal := hLnFIdeal) (hLnFRefIdeal := hLnFRefIdeal)
    ∧ preserves_ConvB_ConvBIdeal
    ∧ algebraic_ConvBIdeal_ConvBRefIdeal (hConvBIdeal := hConvBIdeal) (hConvBRefIdeal := hConvBRefIdeal)
    ∧ preserves_ConvF_ConvFIdeal
    ∧ algebraic_ConvFIdeal_ConvFRefIdeal (hConvFIdeal := hConvFIdeal) (hConvFRefIdeal := hConvFRefIdeal)
    ∧ preserves_AttnF_AttnFIdeal
    ∧ algebraic_AttnFIdeal_AttnFRefIdeal_pre_finite_attn (hAttnFIdeal := hAttnFIdeal) (hAttnFRefIdeal := hAttnFRefIdeal) (hPre_finite_attn := hPre_finite_attn)
    ∧ preserves_AttnO_AttnOIdeal
    ∧ algebraic_AttnOIdeal_AttnORefIdeal (hAttnOIdeal := hAttnOIdeal) (hAttnORefIdeal := hAttnORefIdeal)
    ∧ preserves_ConvO_ConvOIdeal
    ∧ algebraic_ConvOIdeal_ConvORefIdeal (hConvOIdeal := hConvOIdeal) (hConvORefIdeal := hConvORefIdeal)
    ∧ preserves_ColIn_ColInIdeal
    ∧ algebraic_ColInIdeal_ColInRefIdeal (hColInIdeal := hColInIdeal) (hColInRefIdeal := hColInRefIdeal)
    ∧ preserves_ColO_ColOIdeal
    ∧ algebraic_ColOIdeal_ColORefIdeal (hColOIdeal := hColOIdeal) (hColORefIdeal := hColORefIdeal)
    ∧ preserves_RopeF_RopeFIdeal
    ∧ algebraic_RopeFIdeal_RopeFRefIdeal (hRopeFIdeal := hRopeFIdeal) (hRopeFRefIdeal := hRopeFRefIdeal)
    ∧ preserves_RopeB_RopeBIdeal
    ∧ algebraic_RopeBIdeal_RopeBRefIdeal (hRopeBIdeal := hRopeBIdeal) (hRopeBRefIdeal := hRopeBRefIdeal)
    ∧ preserves_AdamIn_AdamInIdeal
    ∧ algebraic_AdamInIdeal_AdamInRefIdeal (hAdamInIdeal := hAdamInIdeal) (hAdamInRefIdeal := hAdamInRefIdeal)
    ∧ preserves_AdamO_AdamOIdeal
    ∧ algebraic_AdamOIdeal_AdamORefIdeal (hAdamOIdeal := hAdamOIdeal) (hAdamORefIdeal := hAdamORefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGU_AdamGUIdeal
    ∧ algebraic_AdamGUIdeal_AdamGURefIdeal (hAdamGUIdeal := hAdamGUIdeal) (hAdamGURefIdeal := hAdamGURefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_finite.lean ====
abbrev S4224x2304 : Shape := ⟨2, ![4224, 2304]⟩
abbrev S4224x14848 : Shape := ⟨2, ![4224, 14848]⟩
abbrev S1x32 : Shape := ⟨2, ![1, 32]⟩
abbrev S4224x2048 : Shape := ⟨2, ![4224, 2048]⟩
abbrev S_ : Shape := ⟨0, ![]⟩
abbrev S4224x256 : Shape := ⟨2, ![4224, 256]⟩

class Facts : Prop where
  bitsLt_bf16_f32 : FTy.bits .bf16 < FTy.bits .f32
  bcast_S_S4224x2304 : S_.BroadcastsInDim S4224x2304 (![] : Fin 0 → Fin S4224x2304.rank)
  slices_S4224x14848_S4224x256_0_2304 : S4224x14848.Slices ![0, 2304] S4224x256
  bcast_S_S4224x256 : S_.BroadcastsInDim S4224x256 (![] : Fin 0 → Fin S4224x256.rank)
  bcast_S_S1x32 : S_.BroadcastsInDim S1x32 (![] : Fin 0 → Fin S1x32.rank)
  bcast_S_S4224x2048 : S_.BroadcastsInDim S4224x2048 (![] : Fin 0 → Fin S4224x2048.rank)

variable [Facts]

def fn {F : FTy → Type} [FloatOps F] (main_arg0 : FVec F S4224x2304 .bf16) (main_arg1 : FVec F S4224x14848 .bf16) (main_arg2 : FVec F S1x32 .f32) (main_arg3 : FVec F S4224x2048 .bf16) : IVec S4224x2304 1 × IVec S4224x256 1 × IVec S1x32 1 × IVec S4224x2048 1 :=
  let main_v0 : FVec F S4224x2304 .f32 := (extf .f32 · bitsLt_bf16_f32) main_arg0
  let main_v1 : FVec F S4224x2304 .f32 := Host.absf main_v0
  let main_cst : FVec F S_ .f32 := constant S_ .f32 0x7F800000#32
  let main_v2 : FVec F S4224x2304 .f32 := broadcastInDim S4224x2304 ![] bcast_S_S4224x2304 main_cst
  let main_v3 : IVec S4224x2304 1 := cmpf .olt main_v1 main_v2
  let main_v4 : FVec F S4224x256 .bf16 := (extractStridedSlice S4224x256 ![0, 2304] · slices_S4224x14848_S4224x256_0_2304) main_arg1
  let main_v5 : FVec F S4224x256 .f32 := (extf .f32 · bitsLt_bf16_f32) main_v4
  let main_v6 : FVec F S4224x256 .f32 := Host.absf main_v5
  let main_cst_0 : FVec F S_ .f32 := constant S_ .f32 0x7F800000#32
  let main_v7 : FVec F S4224x256 .f32 := broadcastInDim S4224x256 ![] bcast_S_S4224x256 main_cst_0
  let main_v8 : IVec S4224x256 1 := cmpf .olt main_v6 main_v7
  let main_v9 : FVec F S1x32 .f32 := Host.absf main_arg2
  let main_cst_1 : FVec F S_ .f32 := constant S_ .f32 0x7F800000#32
  let main_v10 : FVec F S1x32 .f32 := broadcastInDim S1x32 ![] bcast_S_S1x32 main_cst_1
  let main_v11 : IVec S1x32 1 := cmpf .olt main_v9 main_v10
  let main_v12 : FVec F S4224x2048 .f32 := (extf .f32 · bitsLt_bf16_f32) main_arg3
  let main_v13 : FVec F S4224x2048 .f32 := Host.absf main_v12
  let main_cst_2 : FVec F S_ .f32 := constant S_ .f32 0x7F800000#32
  let main_v14 : FVec F S4224x2048 .f32 := broadcastInDim S4224x2048 ![] bcast_S_S4224x2048 main_cst_2
  let main_v15 : IVec S4224x2048 1 := cmpf .olt main_v13 main_v14
  (main_v3, main_v8, main_v11, main_v15)
-- ==== Pre_finite_attn.lean ====
abbrev S4224x2304 : Shape := ⟨2, ![4224, 2304]⟩
abbrev S4224x14848 : Shape := ⟨2, ![4224, 14848]⟩
abbrev S1x32 : Shape := ⟨2, ![1, 32]⟩
abbrev S_ : Shape := ⟨0, ![]⟩
abbrev S4224x256 : Shape := ⟨2, ![4224, 256]⟩

class Facts : Prop where
  bitsLt_bf16_f32 : FTy.bits .bf16 < FTy.bits .f32
  bcast_S_S4224x2304 : S_.BroadcastsInDim S4224x2304 (![] : Fin 0 → Fin S4224x2304.rank)
  slices_S4224x14848_S4224x256_0_2304 : S4224x14848.Slices ![0, 2304] S4224x256
  bcast_S_S4224x256 : S_.BroadcastsInDim S4224x256 (![] : Fin 0 → Fin S4224x256.rank)
  bcast_S_S1x32 : S_.BroadcastsInDim S1x32 (![] : Fin 0 → Fin S1x32.rank)

variable [Facts]

def fn {F : FTy → Type} [FloatOps F] (main_arg0 : FVec F S4224x2304 .bf16) (main_arg1 : FVec F S4224x14848 .bf16) (main_arg2 : FVec F S1x32 .f32) : IVec S4224x2304 1 × IVec S4224x256 1 × IVec S1x32 1 :=
  let main_v0 : FVec F S4224x2304 .f32 := (extf .f32 · bitsLt_bf16_f32) main_arg0
  let main_v1 : FVec F S4224x2304 .f32 := Host.absf main_v0
  let main_cst : FVec F S_ .f32 := constant S_ .f32 0x7F800000#32
  let main_v2 : FVec F S4224x2304 .f32 := broadcastInDim S4224x2304 ![] bcast_S_S4224x2304 main_cst
  let main_v3 : IVec S4224x2304 1 := cmpf .olt main_v1 main_v2
  let main_v4 : FVec F S4224x256 .bf16 := (extractStridedSlice S4224x256 ![0, 2304] · slices_S4224x14848_S4224x256_0_2304) main_arg1
  let main_v5 : FVec F S4224x256 .f32 := (extf .f32 · bitsLt_bf16_f32) main_v4
  let main_v6 : FVec F S4224x256 .f32 := Host.absf main_v5
  let main_cst_0 : FVec F S_ .f32 := constant S_ .f32 0x7F800000#32
  let main_v7 : FVec F S4224x256 .f32 := broadcastInDim S4224x256 ![] bcast_S_S4224x256 main_cst_0
  let main_v8 : IVec S4224x256 1 := cmpf .olt main_v6 main_v7
  let main_v9 : FVec F S1x32 .f32 := Host.absf main_arg2
  let main_cst_1 : FVec F S_ .f32 := constant S_ .f32 0x7F800000#32
  let main_v10 : FVec F S1x32 .f32 := broadcastInDim S1x32 ![] bcast_S_S1x32 main_cst_1
  let main_v11 : IVec S1x32 1 := cmpf .olt main_v9 main_v10
  (main_v3, main_v8, main_v11)
-- ==== Pre_finite_ln.lean ====
abbrev S4224x2048 : Shape := ⟨2, ![4224, 2048]⟩
abbrev S1x2048 : Shape := ⟨2, ![1, 2048]⟩
abbrev S_ : Shape := ⟨0, ![]⟩

class Facts : Prop where
  bitsLt_bf16_f32 : FTy.bits .bf16 < FTy.bits .f32
  bcast_S_S4224x2048 : S_.BroadcastsInDim S4224x2048 (![] : Fin 0 → Fin S4224x2048.rank)
  bcast_S_S1x2048 : S_.BroadcastsInDim S1x2048 (![] : Fin 0 → Fin S1x2048.rank)

variable [Facts]

def fn {F : FTy → Type} [FloatOps F] (main_arg0 : FVec F S4224x2048 .bf16) (main_arg1 : FVec F S4224x2048 .f32) (main_arg2 : FVec F S1x2048 .f32) (main_arg3 : FVec F S1x2048 .f32) : IVec S4224x2048 1 × IVec S4224x2048 1 × IVec S1x2048 1 × IVec S1x2048 1 :=
  let main_v0 : FVec F S4224x2048 .f32 := (extf .f32 · bitsLt_bf16_f32) main_arg0
  let main_v1 : FVec F S4224x2048 .f32 := Host.absf main_v0
  let main_cst : FVec F S_ .f32 := constant S_ .f32 0x7F800000#32
  let main_v2 : FVec F S4224x2048 .f32 := broadcastInDim S4224x2048 ![] bcast_S_S4224x2048 main_cst
  let main_v3 : IVec S4224x2048 1 := cmpf .olt main_v1 main_v2
  let main_v4 : FVec F S4224x2048 .f32 := Host.absf main_arg1
  let main_cst_0 : FVec F S_ .f32 := constant S_ .f32 0x7F800000#32
  let main_v5 : FVec F S4224x2048 .f32 := broadcastInDim S4224x2048 ![] bcast_S_S4224x2048 main_cst_0
  let main_v6 : IVec S4224x2048 1 := cmpf .olt main_v4 main_v5
  let main_v7 : FVec F S1x2048 .f32 := Host.absf main_arg2
  let main_cst_1 : FVec F S_ .f32 := constant S_ .f32 0x7F800000#32
  let main_v8 : FVec F S1x2048 .f32 := broadcastInDim S1x2048 ![] bcast_S_S1x2048 main_cst_1
  let main_v9 : IVec S1x2048 1 := cmpf .olt main_v7 main_v8
  let main_v10 : FVec F S1x2048 .f32 := Host.absf main_arg3
  let main_cst_2 : FVec F S_ .f32 := constant S_ .f32 0x7F800000#32
  let main_v11 : FVec F S1x2048 .f32 := broadcastInDim S1x2048 ![] bcast_S_S1x2048 main_cst_2
  let main_v12 : IVec S1x2048 1 := cmpf .olt main_v10 main_v11
  (main_v3, main_v6, main_v9, main_v12)
-- ==== Pre_finite_rms.lean ====
abbrev S4224x4096 : Shape := ⟨2, ![4224, 4096]⟩
abbrev S1x4096 : Shape := ⟨2, ![1, 4096]⟩
abbrev S_ : Shape := ⟨0, ![]⟩

class Facts : Prop where
  bcast_S_S4224x4096 : S_.BroadcastsInDim S4224x4096 (![] : Fin 0 → Fin S4224x4096.rank)
  bcast_S_S1x4096 : S_.BroadcastsInDim S1x4096 (![] : Fin 0 → Fin S1x4096.rank)

variable [Facts]

def fn {F : FTy → Type} [FloatOps F] (main_arg0 : FVec F S4224x4096 .f32) (main_arg1 : FVec F S4224x4096 .f32) (main_arg2 : FVec F S1x4096 .f32) (main_arg3 : FVec F S4224x4096 .f32) : IVec S4224x4096 1 × IVec S4224x4096 1 × IVec S1x4096 1 :=
  let main_v0 : FVec F S4224x4096 .f32 := Host.absf main_arg0
  let main_cst : FVec F S_ .f32 := constant S_ .f32 0x7F800000#32
  let main_v1 : FVec F S4224x4096 .f32 := broadcastInDim S4224x4096 ![] bcast_S_S4224x4096 main_cst
  let main_v2 : IVec S4224x4096 1 := cmpf .olt main_v0 main_v1
  let main_v3 : FVec F S4224x4096 .f32 := Host.absf main_arg1
  let main_cst_0 : FVec F S_ .f32 := constant S_ .f32 0x7F800000#32
  let main_v4 : FVec F S4224x4096 .f32 := broadcastInDim S4224x4096 ![] bcast_S_S4224x4096 main_cst_0
  let main_v5 : IVec S4224x4096 1 := cmpf .olt main_v3 main_v4
  let main_v6 : FVec F S1x4096 .f32 := Host.absf main_arg2
  let main_cst_1 : FVec F S_ .f32 := constant S_ .f32 0x7F800000#32
  let main_v7 : FVec F S1x4096 .f32 := broadcastInDim S1x4096 ![] bcast_S_S1x4096 main_cst_1
  let main_v8 : IVec S1x4096 1 := cmpf .olt main_v6 main_v7
  (main_v2, main_v5, main_v8)
-- ==== Pre_finite_swiglu.lean ====
abbrev S4224x11008 : Shape := ⟨2, ![4224, 11008]⟩
abbrev S4224x22016 : Shape := ⟨2, ![4224, 22016]⟩
abbrev S_ : Shape := ⟨0, ![]⟩

class Facts : Prop where
  bitsLt_bf16_f32 : FTy.bits .bf16 < FTy.bits .f32
  bcast_S_S4224x11008 : S_.BroadcastsInDim S4224x11008 (![] : Fin 0 → Fin S4224x11008.rank)
  bcast_S_S4224x22016 : S_.BroadcastsInDim S4224x22016 (![] : Fin 0 → Fin S4224x22016.rank)

variable [Facts]

def fn {F : FTy → Type} [FloatOps F] (main_arg0 : FVec F S4224x11008 .bf16) (main_arg1 : FVec F S4224x22016 .bf16) : IVec S4224x11008 1 × IVec S4224x22016 1 :=
  let main_v0 : FVec F S4224x11008 .f32 := (extf .f32 · bitsLt_bf16_f32) main_arg0
  let main_v1 : FVec F S4224x11008 .f32 := Host.absf main_v0
  let main_cst : FVec F S_ .f32 := constant S_ .f32 0x7F800000#32
  let main_v2 : FVec F S4224x11008 .f32 := broadcastInDim S4224x11008 ![] bcast_S_S4224x11008 main_cst
  let main_v3 : IVec S4224x11008 1 := cmpf .olt main_v1 main_v2
  let main_v4 : FVec F S4224x22016 .f32 := (extf .f32 · bitsLt_bf16_f32) main_arg1
  let main_v5 : FVec F S4224x22016 .f32 := Host.absf main_v4
  let main_cst_0 : FVec F S_ .f32 := constant S_ .f32 0x7F800000#32
  let main_v6 : FVec F S4224x22016 .f32 := broadcastInDim S4224x22016 ![] bcast_S_S4224x22016 main_cst_0
  let main_v7 : IVec S4224x22016 1 := cmpf .olt main_v5 main_v6
  (main_v3, main_v7)
-- ==== Attn.lean ====
abbrev S4224x2304 : Shape := ⟨2, ![4224, 2304]⟩
abbrev S4224x14848 : Shape := ⟨2, ![4224, 14848]⟩
abbrev S1x32 : Shape := ⟨2, ![1, 32]⟩
abbrev S4224x2048 : Shape := ⟨2, ![4224, 2048]⟩
abbrev S4224x256 : Shape := ⟨2, ![4224, 256]⟩
abbrev S128x256 : Shape := ⟨2, ![128, 256]⟩
abbrev S1x128 : Shape := ⟨2, ![1, 128]⟩
abbrev S128x2048 : Shape := ⟨2, ![128, 2048]⟩
abbrev S128x384 : Shape := ⟨2, ![128, 384]⟩
abbrev S128x64 : Shape := ⟨2, ![128, 64]⟩
abbrev S384x64 : Shape := ⟨2, ![384, 64]⟩
abbrev S1x1 : Shape := ⟨2, ![1, 1]⟩
abbrev S128 : Shape := ⟨1, ![128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S4096x256 : Shape := ⟨2, ![4096, 256]⟩

abbrev nBuf : Space → Nat
  | .hbm => 19
  | .vmem => 25
  | .smem => 1
  | _ => 0

abbrev bufTy : (tb : Table) → Fin (tcTables nBuf tb) → BufTy
  | .hbm, ⟨0, _⟩ => ⟨S4224x2304, .bf16⟩
  | .hbm, ⟨1, _⟩ => ⟨S4224x14848, .bf16⟩
  | .hbm, ⟨2, _⟩ => ⟨S1x32, .f32⟩
  | .hbm, ⟨3, _⟩ => ⟨S4224x2048, .bf16⟩
  | .hbm, ⟨4, _⟩ => ⟨S4224x2048, .f32⟩
  | .hbm, ⟨5, _⟩ => ⟨S4224x256, .f32⟩
  | .hbm, ⟨6, _⟩ => ⟨S4224x256, .f32⟩
  | .hbm, ⟨7, _⟩ => ⟨S128x256, .f32⟩
  | .hbm, ⟨8, _⟩ => ⟨S128x256, .f32⟩
  | .hbm, ⟨9, _⟩ => ⟨S1x128, .f32⟩
  | .hbm, ⟨10, _⟩ => ⟨S128x256, .f32⟩
  | .hbm, ⟨11, _⟩ => ⟨S128x256, .f32⟩
  | .hbm, ⟨12, _⟩ => ⟨S4096x256, .f32⟩
  | .hbm, ⟨13, _⟩ => ⟨S4224x256, .f32⟩
  | .hbm, ⟨14, _⟩ => ⟨S128x256, .f32⟩
  | .hbm, ⟨15, _⟩ => ⟨S128x256, .f32⟩
  | .hbm, ⟨16, _⟩ => ⟨S4096x256, .f32⟩
  | .hbm, ⟨17, _⟩ => ⟨S4224x256, .f32⟩
  | .hbm, ⟨18, _⟩ => ⟨S1x32, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S128x2048, .f32⟩
  | .local _ .vmem, ⟨15, _⟩ => ⟨S128x2048, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S1x128, .f32⟩
  | .local _ .vmem, ⟨23, _⟩ => ⟨S128x256, .f32⟩
  | .local _ .vmem, ⟨24, _⟩ => ⟨S128x256, .f32⟩
  | .local _ .smem, ⟨0, _⟩ => ⟨S1x32, .f32⟩
  | _, _ => ⟨S4224x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_scratch1 : Ref sig .tc := ⟨.vmem, 24, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![34], ![false]⟩

def k0_cond2 (i : grid0.Coords) : BitVec 1 :=
  let arg0 : BitVec 32 := BitVec.ofNat 32 (i 0).val
  let c33_i32 : BitVec 32 := 33#32
  let v3 : BitVec 1 := Scalar.cmpi .slt arg0 c33_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c33_i32_2 : BitVec 32 := 33#32
  let v6 : BitVec 1 := Scalar.cmpi .eq arg0 c33_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c32_i32 : BitVec 32 := 32#32
  let v1 : BitVec 32 := Scalar.maxsi c0_i32 v0
  let v2 : BitVec 32 := Scalar.minsi c32_i32 v1
  let c8_i32 : BitVec 32 := 8#32
  let c0_i32_0 : BitVec 32 := 0#32
  ![v2.toNat, c8_i32.toNat]

def cc0_transform_4 (i : grid0.Coords) : Fin 2 → Nat :=
  let arg0 : BitVec 32 := BitVec.ofNat 32 (i 0).val
  let c32_i32 : BitVec 32 := 32#32
  let v0 : BitVec 32 := Scalar.minsi arg0 c32_i32
  let c8_i32 : BitVec 32 := 8#32
  let c0_i32 : BitVec 32 := 0#32
  ![v0.toNat, c8_i32.toNat]

def cc0_transform_5 (i : grid0.Coords) : Fin 2 → Nat :=
  let arg0 : BitVec 32 := BitVec.ofNat 32 (i 0).val
  let c0_i32 : BitVec 32 := 0#32
  let c9_i32 : BitVec 32 := 9#32
  let c0_i32_0 : BitVec 32 := 0#32
  ![c0_i32.toNat, c9_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c32_i32 : BitVec 32 := 32#32
  let v1 : BitVec 32 := Scalar.maxsi c0_i32 v0
  let v2 : BitVec 32 := Scalar.minsi c32_i32 v1
  let c9_i32 : BitVec 32 := 9#32
  let c0_i32_0 : BitVec 32 := 0#32
  ![v2.toNat, c9_i32.toNat]

def cc0_transform_7 (i : grid0.Coords) : Fin 2 → Nat :=
  let arg0 : BitVec 32 := BitVec.ofNat 32 (i 0).val
  let c32_i32 : BitVec 32 := 32#32
  let v0 : BitVec 32 := Scalar.minsi arg0 c32_i32
  let c9_i32 : BitVec 32 := 9#32
  let c0_i32 : BitVec 32 := 0#32
  ![v0.toNat, c9_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .smem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== AttnIdeal.lean ====
variable {F : FTy → Type} [FloatOps F] [Named F]
def κ : String → Option EReal := fun
  | "mask" => some ⊥
  | _ => none
-- ==== RefIdeal.lean ====
abbrev S4224x2304 : Shape := ⟨2, ![4224, 2304]⟩
abbrev S4224x14848 : Shape := ⟨2, ![4224, 14848]⟩
abbrev S1x32 : Shape := ⟨2, ![1, 32]⟩
abbrev S4224x2048 : Shape := ⟨2, ![4224, 2048]⟩
abbrev S4224x256 : Shape := ⟨2, ![4224, 256]⟩
abbrev S4224x4x8x64 : Shape := ⟨4, ![4224, 4, 8, 64]⟩
abbrev S4224x4x64 : Shape := ⟨3, ![4224, 4, 64]⟩
abbrev S4x4224x4224x8 : Shape := ⟨4, ![4, 4224, 4224, 8]⟩
abbrev S4x8x4224x4224 : Shape := ⟨4, ![4, 8, 4224, 4224]⟩
abbrev S4224 : Shape := ⟨1, ![4224]⟩
abbrev S4224x1 : Shape := ⟨2, ![4224, 1]⟩
abbrev S1x4224 : Shape := ⟨2, ![1, 4224]⟩
abbrev S4224x4224 : Shape := ⟨2, ![4224, 4224]⟩
abbrev S_ : Shape := ⟨0, ![]⟩
abbrev S1x1x4224x4224 : Shape := ⟨4, ![1, 1, 4224, 4224]⟩
abbrev S4x8 : Shape := ⟨2, ![4, 8]⟩
abbrev S4x8x1x1 : Shape := ⟨4, ![4, 8, 1, 1]⟩
abbrev S4x8x4224x1 : Shape := ⟨4, ![4, 8, 4224, 1]⟩
abbrev S4x8x4224x4225 : Shape := ⟨4, ![4, 8, 4224, 4225]⟩
abbrev S4x8x4224 : Shape := ⟨3, ![4, 8, 4224]⟩
abbrev S4x64x8x4224 : Shape := ⟨4, ![4, 64, 8, 4224]⟩
abbrev S4x64x4224 : Shape := ⟨3, ![4, 64, 4224]⟩
abbrev S4x4224x8x64 : Shape := ⟨4, ![4, 4224, 8, 64]⟩
abbrev S4x4224x64 : Shape := ⟨3, ![4, 4224, 64]⟩

abbrev nBuf : Space → Nat
  | .hbm => 129
  | .vmem => 0
  | .smem => 0
  | _ => 0

abbrev hbmTy0_0 (i : Nat) : BufTy := match i % 128 with
  | 0 => ⟨S4224x2304, .bf16⟩
  | 1 => ⟨S4224x14848, .bf16⟩
  | 2 => ⟨S1x32, .f32⟩
  | 3 => ⟨S4224x2048, .bf16⟩
  | 4 => ⟨S4224x2048, .bf16⟩
  | 5 => ⟨S4224x2048, .f32⟩
  | 6 => ⟨S4224x256, .bf16⟩
  | 7 => ⟨S4224x256, .f32⟩
  | 8 => ⟨S4224x256, .bf16⟩
  | 9 => ⟨S4224x256, .f32⟩
  | 10 => ⟨S4224x4x8x64, .f32⟩
  | 11 => ⟨S4224x4x64, .f32⟩
  | 12 => ⟨S4224x4x64, .f32⟩
  | 13 => ⟨S4x4224x4224x8, .f32⟩
  | 14 => ⟨S4x8x4224x4224, .f32⟩
  | 15 => ⟨S4224, .i32⟩
  | 16 => ⟨S4224x1, .i32⟩
  | 17 => ⟨S4224, .i32⟩
  | 18 => ⟨S1x4224, .i32⟩
  | 19 => ⟨S4224x4224, .i32⟩
  | 20 => ⟨S4224x4224, .i32⟩
  | 21 => ⟨S4224x4224, .i1⟩
  | 22 => ⟨S4224x4224, .i32⟩
  | 23 => ⟨S4224x4224, .i32⟩
  | 24 => ⟨S4224x4224, .i32⟩
  | 25 => ⟨S_, .i32⟩
  | 26 => ⟨S4224x4224, .i32⟩
  | 27 => ⟨S4224x4224, .i1⟩
  | 28 => ⟨S_, .i32⟩
  | 29 => ⟨S1x4224, .i32⟩
  | 30 => ⟨S1x4224, .i1⟩
  | 31 => ⟨S4224x4224, .i1⟩
  | 32 => ⟨S4224x4224, .i1⟩
  | 33 => ⟨S4224x4224, .i1⟩
  | 34 => ⟨S1x1x4224x4224, .i1⟩
  | 35 => ⟨S_, .f32⟩
  | 36 => ⟨S_, .f32⟩
  | 37 => ⟨S4x8x4224x4224, .i1⟩
  | 38 => ⟨S4x8x4224x4224, .f32⟩
  | 39 => ⟨S4x8x4224x4224, .f32⟩
  | 40 => ⟨S_, .f32⟩
  | 41 => ⟨S4x8x4224x4224, .f32⟩
  | 42 => ⟨S4x8, .f32⟩
  | 43 => ⟨S4x8x1x1, .f32⟩
  | 44 => ⟨S4x8x4224x1, .f32⟩
  | 45 => ⟨S4x8x4224x4225, .f32⟩
  | 46 => ⟨S_, .f32⟩
  | 47 => ⟨S4x8x4224, .f32⟩
  | 48 => ⟨S4x8x4224x1, .f32⟩
  | 49 => ⟨S4x8x4224x4225, .f32⟩
  | 50 => ⟨S4x8x4224x4225, .i1⟩
  | 51 => ⟨S4x8x4224x4225, .f32⟩
  | 52 => ⟨S_, .f32⟩
  | 53 => ⟨S4x8x4224, .f32⟩
  | 54 => ⟨S_, .f32⟩
  | 55 => ⟨S4x8x4224, .f32⟩
  | 56 => ⟨S4x8x4224, .f32⟩
  | 57 => ⟨S_, .f32⟩
  | 58 => ⟨S4x8x4224, .f32⟩
  | 59 => ⟨S4x8x4224, .i1⟩
  | 60 => ⟨S_, .f32⟩
  | 61 => ⟨S4x8x4224, .f32⟩
  | 62 => ⟨S4x8x4224, .i1⟩
  | 63 => ⟨S_, .f32⟩
  | 64 => ⟨S4x8x4224, .f32⟩
  | 65 => ⟨S_, .f32⟩
  | 66 => ⟨S4x8x4224, .f32⟩
  | 67 => ⟨S_, .f32⟩
  | 68 => ⟨S4x8x4224, .f32⟩
  | 69 => ⟨S4x8x4224, .f32⟩
  | 70 => ⟨S4x8x4224, .f32⟩
  | 71 => ⟨S4x8x4224x1, .f32⟩
  | 72 => ⟨S4x8x4224x4225, .f32⟩
  | 73 => ⟨S4x8x4224x4225, .f32⟩
  | 74 => ⟨S4x8x4224x4225, .f32⟩
  | 75 => ⟨S_, .f32⟩
  | 76 => ⟨S4x8x4224, .f32⟩
  | 77 => ⟨S4x8x4224x1, .f32⟩
  | 78 => ⟨S4x8x4224x4225, .f32⟩
  | 79 => ⟨S4x8x4224x4225, .f32⟩
  | 80 => ⟨S4x8x4224x1, .f32⟩
  | 81 => ⟨S_, .f32⟩
  | 82 => ⟨S4x8x4224x1, .f32⟩
  | 83 => ⟨S4x8x4224x1, .f32⟩
  | 84 => ⟨S4x8x4224x4224, .f32⟩
  | 85 => ⟨S4x64x8x4224, .f32⟩
  | 86 => ⟨S4224x4x8x64, .f32⟩
  | 87 => ⟨S4224x2048, .f32⟩
  | 88 => ⟨S4224x2048, .f32⟩
  | 89 => ⟨S4224x4x8x64, .f32⟩
  | 90 => ⟨S4x64x8x4224, .f32⟩
  | 91 => ⟨S4x8x4224x4224, .f32⟩
  | 92 => ⟨S4x64x4224, .f32⟩
  | 93 => ⟨S4224x4x64, .f32⟩
  | 94 => ⟨S_, .f32⟩
  | 95 => ⟨S4x8x4224x4225, .f32⟩
  | 96 => ⟨S4x8x4224x4225, .f32⟩
  | 97 => ⟨S4x8x4224x4225, .f32⟩
  | 98 => ⟨S4x8x4224x4225, .f32⟩
  | 99 => ⟨S_, .f32⟩
  | 100 => ⟨S4x8x4224, .f32⟩
  | 101 => ⟨S4x8x4224x1, .f32⟩
  | 102 => ⟨S4x8x4224x1, .f32⟩
  | 103 => ⟨S4x8x4224x4225, .f32⟩
  | 104 => ⟨S4x8x4224x4225, .f32⟩
  | 105 => ⟨S_, .f32⟩
  | 106 => ⟨S4x8x4224, .f32⟩
  | 107 => ⟨S4x8x4224x4225, .f32⟩
  | 108 => ⟨S4x8x4224x4225, .f32⟩
  | 109 => ⟨S4x8x4224x4225, .f32⟩
  | 110 => ⟨S4x8x4224x4224, .f32⟩
  | 111 => ⟨S4x8x4224x1, .f32⟩
  | 112 => ⟨S_, .f32⟩
  | 113 => ⟨S4x8, .f32⟩
  | 114 => ⟨S4x8x1x1, .f32⟩
  | 115 => ⟨S_, .f32⟩
  | 116 => ⟨S4x8, .f32⟩
  | 117 => ⟨S1x32, .f32⟩
  | 118 => ⟨S_, .f32⟩
  | 119 => ⟨S4x8x4224x4224, .f32⟩
  | 120 => ⟨S4x8x4224x4224, .f32⟩
  | 121 => ⟨S4x4224x4224x8, .f32⟩
  | 122 => ⟨S4x4224x8x64, .f32⟩
  | 123 => ⟨S4224x4x8x64, .f32⟩
  | 124 => ⟨S4x4224x64, .f32⟩
  | 125 => ⟨S4224x4x64, .f32⟩
  | 126 => ⟨S4224x256, .f32⟩
  | 127 => ⟨S4224x256, .f32⟩
  | _ => ⟨S4224x2304, .bf16⟩

abbrev hbmTy0_1 (i : Nat) : BufTy := match i % 128 with
  | 0 => ⟨S4224x2048, .f32⟩
  | _ => ⟨S4224x2304, .bf16⟩

abbrev hbmTy (i : Nat) : BufTy := match i / 128 with
  | 0 => hbmTy0_0 i
  | 1 => hbmTy0_1 i
  | _ => ⟨S4224x2304, .bf16⟩

abbrev bufTy : (tb : Table) → Fin (tcTables nBuf tb) → BufTy
  | .hbm, ⟨i, _⟩ => hbmTy i
  | _, _ => ⟨S4224x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_call0_v0 : Ref sig .tc := ⟨.hbm, 36, rfl⟩
abbrev main_v29_1 : Ref sig .tc := ⟨.hbm, 37, rfl⟩
abbrev main_call0_v2 : Ref sig .tc := ⟨.hbm, 38, rfl⟩
abbrev main_v29_0 : Ref sig .tc := ⟨.hbm, 39, rfl⟩
abbrev main_call0_cst : Ref sig .tc := ⟨.hbm, 40, rfl⟩
abbrev main_v29_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_1 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_13 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_14 : Ref sig .tc := ⟨.hbm, 112, rfl⟩
abbrev main_v87 : Ref sig .tc := ⟨.hbm, 113, rfl⟩
abbrev main_v88 : Ref sig .tc := ⟨.hbm, 114, rfl⟩
abbrev main_cst_15 : Ref sig .tc := ⟨.hbm, 115, rfl⟩
abbrev main_v89 : Ref sig .tc := ⟨.hbm, 116, rfl⟩
abbrev main_v90 : Ref sig .tc := ⟨.hbm, 117, rfl⟩
abbrev main_call1_cst : Ref sig .tc := ⟨.hbm, 118, rfl⟩
abbrev main_call1_v0 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩

abbrev nD : Nat := 1
abbrev τ : Topo := Topo.v7x

variable {F : FTy → Type} [FloatOps F]
-- ==== DAct.lean ====
abbrev S11008x4096 : Shape := ⟨2, ![11008, 4096]⟩
abbrev S4224x4096 : Shape := ⟨2, ![4224, 4096]⟩
abbrev S4224x11008 : Shape := ⟨2, ![4224, 11008]⟩
abbrev S2112x4096 : Shape := ⟨2, ![2112, 4096]⟩
abbrev S256x4096 : Shape := ⟨2, ![256, 4096]⟩
abbrev S2112x256 : Shape := ⟨2, ![2112, 256]⟩

abbrev nBuf : Space → Nat
  | .hbm => 3
  | .vmem => 6
  | .smem => 0
  | _ => 0

abbrev bufTy : (tb : Table) → Fin (tcTables nBuf tb) → BufTy
  | .hbm, ⟨0, _⟩ => ⟨S11008x4096, .bf16⟩
  | .hbm, ⟨1, _⟩ => ⟨S4224x4096, .bf16⟩
  | .hbm, ⟨2, _⟩ => ⟨S4224x11008, .bf16⟩
  | .local _ .vmem, ⟨0, _⟩ => ⟨S2112x4096, .bf16⟩
  | .local _ .vmem, ⟨1, _⟩ => ⟨S2112x4096, .bf16⟩
  | .local _ .vmem, ⟨2, _⟩ => ⟨S256x4096, .bf16⟩
  | .local _ .vmem, ⟨3, _⟩ => ⟨S256x4096, .bf16⟩
  | .local _ .vmem, ⟨4, _⟩ => ⟨S2112x256, .bf16⟩
  | .local _ .vmem, ⟨5, _⟩ => ⟨S2112x256, .bf16⟩
  | _, _ => ⟨S11008x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 2 → Memref sig .tc .vmem S2112x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2112x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActRefIdeal.lean ====
abbrev S11008x4096 : Shape := ⟨2, ![11008, 4096]⟩
abbrev S4224x4096 : Shape := ⟨2, ![4224, 4096]⟩
abbrev S_ : Shape := ⟨0, ![]⟩
abbrev S4224x11008 : Shape := ⟨2, ![4224, 11008]⟩

abbrev nBuf : Space → Nat
  | .hbm => 9
  | .vmem => 0
  | .smem => 0
  | _ => 0

abbrev bufTy : (tb : Table) → Fin (tcTables nBuf tb) → BufTy
  | .hbm, ⟨0, _⟩ => ⟨S11008x4096, .bf16⟩
  | .hbm, ⟨1, _⟩ => ⟨S4224x4096, .bf16⟩
  | .hbm, ⟨2, _⟩ => ⟨S_, .f32⟩
  | .hbm, ⟨3, _⟩ => ⟨S4224x11008, .f32⟩
  | .hbm, ⟨4, _⟩ => ⟨S11008x4096, .f32⟩
  | .hbm, ⟨5, _⟩ => ⟨S4224x4096, .f32⟩
  | .hbm, ⟨6, _⟩ => ⟨S4224x4096, .f32⟩
  | .hbm, ⟨7, _⟩ => ⟨S4224x11008, .f32⟩
  | .hbm, ⟨8, _⟩ => ⟨S4224x11008, .bf16⟩
  | _, _ => ⟨S11008x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwDown.lean ====
abbrev S4224x11008 : Shape := ⟨2, ![4224, 11008]⟩
abbrev S4224x4096 : Shape := ⟨2, ![4224, 4096]⟩
abbrev S11008x4096 : Shape := ⟨2, ![11008, 4096]⟩
abbrev S4224x256 : Shape := ⟨2, ![4224, 256]⟩
abbrev S4224x1024 : Shape := ⟨2, ![4224, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x11008, .bf16⟩
  | .hbm, ⟨1, _⟩ => ⟨S4224x4096, .bf16⟩
  | .hbm, ⟨2, _⟩ => ⟨S11008x4096, .bf16⟩
  | .local _ .vmem, ⟨0, _⟩ => ⟨S4224x256, .bf16⟩
  | .local _ .vmem, ⟨1, _⟩ => ⟨S4224x256, .bf16⟩
  | .local _ .vmem, ⟨2, _⟩ => ⟨S4224x1024, .bf16⟩
  | .local _ .vmem, ⟨3, _⟩ => ⟨S4224x1024, .bf16⟩
  | .local _ .vmem, ⟨4, _⟩ => ⟨S256x1024, .bf16⟩
  | .local _ .vmem, ⟨5, _⟩ => ⟨S256x1024, .bf16⟩
  | _, _ => ⟨S4224x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage0_0 : Fin 2 → Memref sig .tc .vmem S4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4224x11008 : Shape := ⟨2, ![4224, 11008]⟩
abbrev S4224x4096 : Shape := ⟨2, ![4224, 4096]⟩
abbrev S_ : Shape := ⟨0, ![]⟩
abbrev S11008x4096 : Shape := ⟨2, ![11008, 4096]⟩
abbrev S4096x11008 : Shape := ⟨2, ![4096, 11008]⟩

abbrev nBuf : Space → Nat
  | .hbm => 10
  | .vmem => 0
  | .smem => 0
  | _ => 0

abbrev bufTy : (tb : Table) → Fin (tcTables nBuf tb) → BufTy
  | .hbm, ⟨0, _⟩ => ⟨S4224x11008, .bf16⟩
  | .hbm, ⟨1, _⟩ => ⟨S4224x4096, .bf16⟩
  | .hbm, ⟨2, _⟩ => ⟨S_, .f32⟩
  | .hbm, ⟨3, _⟩ => ⟨S11008x4096, .f32⟩
  | .hbm, ⟨4, _⟩ => ⟨S4224x11008, .f32⟩
  | .hbm, ⟨5, _⟩ => ⟨S4224x4096, .f32⟩
  | .hbm, ⟨6, _⟩ => ⟨S4224x4096, .f32⟩
  | .hbm, ⟨7, _⟩ => ⟨S4096x11008, .f32⟩
  | .hbm, ⟨8, _⟩ => ⟨S11008x4096, .f32⟩
  | .hbm, ⟨9, _⟩ => ⟨S11008x4096, .bf16⟩
  | _, _ => ⟨S4224x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DU2.lean ====
abbrev S4096x22016 : Shape := ⟨2, ![4096, 22016]⟩
abbrev S4224x22016 : Shape := ⟨2, ![4224, 22016]⟩
abbrev S4224x4096 : Shape := ⟨2, ![4224, 4096]⟩
abbrev S528x5504 : Shape := ⟨2, ![528, 5504]⟩
abbrev S1024x5504 : Shape := ⟨2, ![1024, 5504]⟩
abbrev S528x1024 : Shape := ⟨2, ![528, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x22016, .bf16⟩
  | .hbm, ⟨1, _⟩ => ⟨S4224x22016, .bf16⟩
  | .hbm, ⟨2, _⟩ => ⟨S4224x4096, .f32⟩
  | .local _ .vmem, ⟨0, _⟩ => ⟨S528x5504, .bf16⟩
  | .local _ .vmem, ⟨1, _⟩ => ⟨S528x5504, .bf16⟩
  | .local _ .vmem, ⟨2, _⟩ => ⟨S1024x5504, .bf16⟩
  | .local _ .vmem, ⟨3, _⟩ => ⟨S1024x5504, .bf16⟩
  | .local _ .vmem, ⟨4, _⟩ => ⟨S528x1024, .f32⟩
  | .local _ .vmem, ⟨5, _⟩ => ⟨S528x1024, .f32⟩
  | .local _ .vmem, ⟨6, _⟩ => ⟨S528x1024, .f32⟩
  | _, _ => ⟨S4096x22016, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 2 → Memref sig .tc .vmem S528x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x5504 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S528x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DU2RefIdeal.lean ====
abbrev S4096x22016 : Shape := ⟨2, ![4096, 22016]⟩
abbrev S4224x22016 : Shape := ⟨2, ![4224, 22016]⟩
abbrev S_ : Shape := ⟨0, ![]⟩
abbrev S4224x4096 : Shape := ⟨2, ![4224, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x22016, .bf16⟩
  | .hbm, ⟨1, _⟩ => ⟨S4224x22016, .bf16⟩
  | .hbm, ⟨2, _⟩ => ⟨S_, .f32⟩
  | .hbm, ⟨3, _⟩ => ⟨S4224x4096, .f32⟩
  | .hbm, ⟨4, _⟩ => ⟨S4096x22016, .f32⟩
  | .hbm, ⟨5, _⟩ => ⟨S4224x22016, .f32⟩
  | .hbm, ⟨6, _⟩ => ⟨S4224x22016, .f32⟩
  | .hbm, ⟨7, _⟩ => ⟨S4224x4096, .f32⟩
  | _, _ => ⟨S4096x22016, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwGateUp.lean ====
abbrev S4224x4096 : Shape := ⟨2, ![4224, 4096]⟩
abbrev S4224x22016 : Shape := ⟨2, ![4224, 22016]⟩
abbrev S4096x22016 : Shape := ⟨2, ![4096, 22016]⟩
abbrev S4224x1024 : Shape := ⟨2, ![4224, 1024]⟩
abbrev S4224x512 : Shape := ⟨2, ![4224, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x4096, .bf16⟩
  | .hbm, ⟨1, _⟩ => ⟨S4224x22016, .bf16⟩
  | .hbm, ⟨2, _⟩ => ⟨S4096x22016, .bf16⟩
  | .local _ .vmem, ⟨0, _⟩ => ⟨S4224x1024, .bf16⟩
  | .local _ .vmem, ⟨1, _⟩ => ⟨S4224x1024, .bf16⟩
  | .local _ .vmem, ⟨2, _⟩ => ⟨S4224x512, .bf16⟩
  | .local _ .vmem, ⟨3, _⟩ => ⟨S4224x512, .bf16⟩
  | .local _ .vmem, ⟨4, _⟩ => ⟨S1024x512, .bf16⟩
  | .local _ .vmem, ⟨5, _⟩ => ⟨S1024x512, .bf16⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateUpRefIdeal.lean ====
abbrev S4224x4096 : Shape := ⟨2, ![4224, 4096]⟩
abbrev S4224x22016 : Shape := ⟨2, ![4224, 22016]⟩
abbrev S_ : Shape := ⟨0, ![]⟩
abbrev S4096x22016 : Shape := ⟨2, ![4096, 22016]⟩
abbrev S22016x4096 : Shape := ⟨2, ![22016, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4224x22016, .bf16⟩
  | .hbm, ⟨2, _⟩ => ⟨S_, .f32⟩
  | .hbm, ⟨3, _⟩ => ⟨S4096x22016, .f32⟩
  | .hbm, ⟨4, _⟩ => ⟨S4224x4096, .f32⟩
  | .hbm, ⟨5, _⟩ => ⟨S4224x22016, .f32⟩
  | .hbm, ⟨6, _⟩ => ⟨S4224x22016, .f32⟩
  | .hbm, ⟨7, _⟩ => ⟨S22016x4096, .f32⟩
  | .hbm, ⟨8, _⟩ => ⟨S4096x22016, .f32⟩
  | .hbm, ⟨9, _⟩ => ⟨S4096x22016, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DU1.lean ====
abbrev S4096x14848 : Shape := ⟨2, ![4096, 14848]⟩
abbrev S4224x14848 : Shape := ⟨2, ![4224, 14848]⟩
abbrev S4224x4096 : Shape := ⟨2, ![4224, 4096]⟩
abbrev S528x14848 : Shape := ⟨2, ![528, 14848]⟩
abbrev S256x14848 : Shape := ⟨2, ![256, 14848]⟩
abbrev S528x256 : Shape := ⟨2, ![528, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x14848, .bf16⟩
  | .hbm, ⟨1, _⟩ => ⟨S4224x14848, .bf16⟩
  | .hbm, ⟨2, _⟩ => ⟨S4224x4096, .f32⟩
  | .local _ .vmem, ⟨0, _⟩ => ⟨S528x14848, .bf16⟩
  | .local _ .vmem, ⟨1, _⟩ => ⟨S528x14848, .bf16⟩
  | .local _ .vmem, ⟨2, _⟩ => ⟨S256x14848, .bf16⟩
  | .local _ .vmem, ⟨3, _⟩ => ⟨S256x14848, .bf16⟩
  | .local _ .vmem, ⟨4, _⟩ => ⟨S528x256, .f32⟩
  | .local _ .vmem, ⟨5, _⟩ => ⟨S528x256, .f32⟩
  | _, _ => ⟨S4096x14848, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 2 → Memref sig .tc .vmem S528x14848 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x14848 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S528x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DU1RefIdeal.lean ====
abbrev S4096x14848 : Shape := ⟨2, ![4096, 14848]⟩
abbrev S4224x14848 : Shape := ⟨2, ![4224, 14848]⟩
abbrev S_ : Shape := ⟨0, ![]⟩
abbrev S4224x4096 : Shape := ⟨2, ![4224, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x14848, .bf16⟩
  | .hbm, ⟨1, _⟩ => ⟨S4224x14848, .bf16⟩
  | .hbm, ⟨2, _⟩ => ⟨S_, .f32⟩
  | .hbm, ⟨3, _⟩ => ⟨S4224x4096, .f32⟩
  | .hbm, ⟨4, _⟩ => ⟨S4096x14848, .f32⟩
  | .hbm, ⟨5, _⟩ => ⟨S4224x14848, .f32⟩
  | .hbm, ⟨6, _⟩ => ⟨S4224x14848, .f32⟩
  | .hbm, ⟨7, _⟩ => ⟨S4224x4096, .f32⟩
  | _, _ => ⟨S4096x14848, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwIn.lean ====
abbrev S4224x4096 : Shape := ⟨2, ![4224, 4096]⟩
abbrev S4224x14848 : Shape := ⟨2, ![4224, 14848]⟩
abbrev S4096x14848 : Shape := ⟨2, ![4096, 14848]⟩
abbrev S4224x1024 : Shape := ⟨2, ![4224, 1024]⟩
abbrev S4224x512 : Shape := ⟨2, ![4224, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x4096, .bf16⟩
  | .hbm, ⟨1, _⟩ => ⟨S4224x14848, .bf16⟩
  | .hbm, ⟨2, _⟩ => ⟨S4096x14848, .bf16⟩
  | .local _ .vmem, ⟨0, _⟩ => ⟨S4224x1024, .bf16⟩
  | .local _ .vmem, ⟨1, _⟩ => ⟨S4224x1024, .bf16⟩
  | .local _ .vmem, ⟨2, _⟩ => ⟨S4224x512, .bf16⟩
  | .local _ .vmem, ⟨3, _⟩ => ⟨S4224x512, .bf16⟩
  | .local _ .vmem, ⟨4, _⟩ => ⟨S1024x512, .bf16⟩
  | .local _ .vmem, ⟨5, _⟩ => ⟨S1024x512, .bf16⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 29, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4224x4096 : Shape := ⟨2, ![4224, 4096]⟩
abbrev S4224x14848 : Shape := ⟨2, ![4224, 14848]⟩
abbrev S_ : Shape := ⟨0, ![]⟩
abbrev S4096x14848 : Shape := ⟨2, ![4096, 14848]⟩
abbrev S14848x4096 : Shape := ⟨2, ![14848, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4224x14848, .bf16⟩
  | .hbm, ⟨2, _⟩ => ⟨S_, .f32⟩
  | .hbm, ⟨3, _⟩ => ⟨S4096x14848, .f32⟩
  | .hbm, ⟨4, _⟩ => ⟨S4224x4096, .f32⟩
  | .hbm, ⟨5, _⟩ => ⟨S4224x14848, .f32⟩
  | .hbm, ⟨6, _⟩ => ⟨S4224x14848, .f32⟩
  | .hbm, ⟨7, _⟩ => ⟨S14848x4096, .f32⟩
  | .hbm, ⟨8, _⟩ => ⟨S4096x14848, .f32⟩
  | .hbm, ⟨9, _⟩ => ⟨S4096x14848, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== In.lean ====
abbrev S4224x4096 : Shape := ⟨2, ![4224, 4096]⟩
abbrev S4096x14848 : Shape := ⟨2, ![4096, 14848]⟩
abbrev S1x14848 : Shape := ⟨2, ![1, 14848]⟩
abbrev S4224x14848 : Shape := ⟨2, ![4224, 14848]⟩
abbrev S1408x4096 : Shape := ⟨2, ![1408, 4096]⟩
abbrev S4096x512 : Shape := ⟨2, ![4096, 512]⟩
abbrev S1x512 : Shape := ⟨2, ![1, 512]⟩
abbrev S1408x512 : Shape := ⟨2, ![1408, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x4096, .bf16⟩
  | .hbm, ⟨1, _⟩ => ⟨S4096x14848, .bf16⟩
  | .hbm, ⟨2, _⟩ => ⟨S1x14848, .f32⟩
  | .hbm, ⟨3, _⟩ => ⟨S4224x14848, .bf16⟩
  | .local _ .vmem, ⟨0, _⟩ => ⟨S1408x4096, .bf16⟩
  | .local _ .vmem, ⟨1, _⟩ => ⟨S1408x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1408x512, .bf16⟩
  | .local _ .vmem, ⟨7, _⟩ => ⟨S1408x512, .bf16⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 29, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InRefIdeal.lean ====
abbrev S4224x4096 : Shape := ⟨2, ![4224, 4096]⟩
abbrev S4096x14848 : Shape := ⟨2, ![4096, 14848]⟩
abbrev S1x14848 : Shape := ⟨2, ![1, 14848]⟩
abbrev S4224x14848 : Shape := ⟨2, ![4224, 14848]⟩

abbrev nBuf : Space → Nat
  | .hbm => 9
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4096x14848, .bf16⟩
  | .hbm, ⟨2, _⟩ => ⟨S1x14848, .f32⟩
  | .hbm, ⟨3, _⟩ => ⟨S4224x4096, .f32⟩
  | .hbm, ⟨4, _⟩ => ⟨S4096x14848, .f32⟩
  | .hbm, ⟨5, _⟩ => ⟨S4224x14848, .f32⟩
  | .hbm, ⟨6, _⟩ => ⟨S4224x14848, .f32⟩
  | .hbm, ⟨7, _⟩ => ⟨S4224x14848, .f32⟩
  | .hbm, ⟨8, _⟩ => ⟨S4224x14848, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateUp.lean ====
abbrev S4224x4096 : Shape := ⟨2, ![4224, 4096]⟩
abbrev S4096x22016 : Shape := ⟨2, ![4096, 22016]⟩
abbrev S4224x22016 : Shape := ⟨2, ![4224, 22016]⟩
abbrev S1408x4096 : Shape := ⟨2, ![1408, 4096]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x4096, .bf16⟩
  | .hbm, ⟨1, _⟩ => ⟨S4096x22016, .bf16⟩
  | .hbm, ⟨2, _⟩ => ⟨S4224x22016, .bf16⟩
  | .local _ .vmem, ⟨0, _⟩ => ⟨S1408x4096, .bf16⟩
  | .local _ .vmem, ⟨1, _⟩ => ⟨S1408x4096, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpRefIdeal.lean ====
abbrev S4224x4096 : Shape := ⟨2, ![4224, 4096]⟩
abbrev S4096x22016 : Shape := ⟨2, ![4096, 22016]⟩
abbrev S4224x22016 : Shape := ⟨2, ![4224, 22016]⟩

abbrev nBuf : Space → Nat
  | .hbm => 6
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4096x22016, .bf16⟩
  | .hbm, ⟨2, _⟩ => ⟨S4224x4096, .f32⟩
  | .hbm, ⟨3, _⟩ => ⟨S4096x22016, .f32⟩
  | .hbm, ⟨4, _⟩ => ⟨S4224x22016, .f32⟩
  | .hbm, ⟨5, _⟩ => ⟨S4224x22016, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S4224x11008 : Shape := ⟨2, ![4224, 11008]⟩
abbrev S11008x4096 : Shape := ⟨2, ![11008, 4096]⟩
abbrev S4224x4096 : Shape := ⟨2, ![4224, 4096]⟩
abbrev S384x11008 : Shape := ⟨2, ![384, 11008]⟩
abbrev S11008x512 : Shape := ⟨2, ![11008, 512]⟩
abbrev S384x512 : Shape := ⟨2, ![384, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x11008, .bf16⟩
  | .hbm, ⟨1, _⟩ => ⟨S11008x4096, .bf16⟩
  | .hbm, ⟨2, _⟩ => ⟨S4224x4096, .f32⟩
  | .hbm, ⟨3, _⟩ => ⟨S4224x4096, .f32⟩
  | .local _ .vmem, ⟨0, _⟩ => ⟨S384x11008, .bf16⟩
  | .local _ .vmem, ⟨1, _⟩ => ⟨S384x11008, .bf16⟩
  | .local _ .vmem, ⟨2, _⟩ => ⟨S11008x512, .bf16⟩
  | .local _ .vmem, ⟨3, _⟩ => ⟨S11008x512, .bf16⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | _, _ => ⟨S4224x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage0_0 : Fin 2 → Memref sig .tc .vmem S384x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4224x11008 : Shape := ⟨2, ![4224, 11008]⟩
abbrev S11008x4096 : Shape := ⟨2, ![11008, 4096]⟩
abbrev S4224x4096 : Shape := ⟨2, ![4224, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4224x11008, .bf16⟩
  | .hbm, ⟨1, _⟩ => ⟨S11008x4096, .bf16⟩
  | .hbm, ⟨2, _⟩ => ⟨S4224x4096, .f32⟩
  | .hbm, ⟨3, _⟩ => ⟨S4224x11008, .f32⟩
  | .hbm, ⟨4, _⟩ => ⟨S11008x4096, .f32⟩
  | .hbm, ⟨5, _⟩ => ⟨S4224x4096, .f32⟩
  | .hbm, ⟨6, _⟩ => ⟨S4224x4096, .f32⟩
  | _, _ => ⟨S4224x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S4224x4096 : Shape := ⟨2, ![4224, 4096]⟩
abbrev S4096x4096 : Shape := ⟨2, ![4096, 4096]⟩
abbrev S704x4096 : Shape := ⟨2, ![704, 4096]⟩
abbrev S4096x1024 : Shape := ⟨2, ![4096, 1024]⟩
abbrev S704x1024 : Shape := ⟨2, ![704, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4224x4096, .bf16⟩
  | .hbm, ⟨1, _⟩ => ⟨S4096x4096, .bf16⟩
  | .hbm, ⟨2, _⟩ => ⟨S4224x4096, .f32⟩
  | .hbm, ⟨3, _⟩ => ⟨S4224x4096, .f32⟩
  | .local _ .vmem, ⟨0, _⟩ => ⟨S704x4096, .bf16⟩
  | .local _ .vmem, ⟨1, _⟩ => ⟨S704x4096, .bf16⟩
  | .local _ .vmem, ⟨2, _⟩ => ⟨S4096x1024, .bf16⟩
  | .local _ .vmem, ⟨3, _⟩ => ⟨S4096x1024, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage0_0 : Fin 2 → Memref sig .tc .vmem S704x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S4224x4096 : Shape := ⟨2, ![4224, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4096x4096, .bf16⟩
  | .hbm, ⟨2, _⟩ => ⟨S4224x4096, .f32⟩
  | .hbm, ⟨3, _⟩ => ⟨S4224x4096, .f32⟩
  | .hbm, ⟨4, _⟩ => ⟨S4096x4096, .f32⟩
  | .hbm, ⟨5, _⟩ => ⟨S4224x4096, .f32⟩
  | .hbm, ⟨6, _⟩ => ⟨S4224x4096, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DMerged.lean ====
abbrev S4096x4096 : Shape := ⟨2, ![4096, 4096]⟩
abbrev S4224x4096 : Shape := ⟨2, ![4224, 4096]⟩
abbrev S1056x4096 : Shape := ⟨2, ![1056, 4096]⟩
abbrev S1024x4096 : Shape := ⟨2, ![1024, 4096]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4224x4096, .bf16⟩
  | .hbm, ⟨2, _⟩ => ⟨S4224x4096, .bf16⟩
  | .local _ .vmem, ⟨0, _⟩ => ⟨S1056x4096, .bf16⟩
  | .local _ .vmem, ⟨1, _⟩ => ⟨S1056x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1056x1024, .bf16⟩
  | .local _ .vmem, ⟨5, _⟩ => ⟨S1056x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedRefIdeal.lean ====
abbrev S4096x4096 : Shape := ⟨2, ![4096, 4096]⟩
abbrev S4224x4096 : Shape := ⟨2, ![4224, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4224x4096, .bf16⟩
  | .hbm, ⟨2, _⟩ => ⟨S_, .f32⟩
  | .hbm, ⟨3, _⟩ => ⟨S4224x4096, .f32⟩
  | .hbm, ⟨4, _⟩ => ⟨S4096x4096, .f32⟩
  | .hbm, ⟨5, _⟩ => ⟨S4224x4096, .f32⟩
  | .hbm, ⟨6, _⟩ => ⟨S4224x4096, .f32⟩
  | .hbm, ⟨7, _⟩ => ⟨S4224x4096, .f32⟩
  | .hbm, ⟨8, _⟩ => ⟨S4224x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwOut.lean ====
abbrev S4224x4096 : Shape := ⟨2, ![4224, 4096]⟩
abbrev S4096x4096 : Shape := ⟨2, ![4096, 4096]⟩
abbrev S4224x1024 : Shape := ⟨2, ![4224, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x4096, .bf16⟩
  | .hbm, ⟨1, _⟩ => ⟨S4224x4096, .bf16⟩
  | .hbm, ⟨2, _⟩ => ⟨S4096x4096, .bf16⟩
  | .local _ .vmem, ⟨0, _⟩ => ⟨S4224x1024, .bf16⟩
  | .local _ .vmem, ⟨1, _⟩ => ⟨S4224x1024, .bf16⟩
  | .local _ .vmem, ⟨2, _⟩ => ⟨S4224x1024, .bf16⟩
  | .local _ .vmem, ⟨3, _⟩ => ⟨S4224x1024, .bf16⟩
  | .local _ .vmem, ⟨4, _⟩ => ⟨S1024x1024, .bf16⟩
  | .local _ .vmem, ⟨5, _⟩ => ⟨S1024x1024, .bf16⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S4224x4096 : Shape := ⟨2, ![4224, 4096]⟩
abbrev S_ : Shape := ⟨0, ![]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4224x4096, .bf16⟩
  | .hbm, ⟨2, _⟩ => ⟨S_, .f32⟩
  | .hbm, ⟨3, _⟩ => ⟨S4096x4096, .f32⟩
  | .hbm, ⟨4, _⟩ => ⟨S4224x4096, .f32⟩
  | .hbm, ⟨5, _⟩ => ⟨S4224x4096, .f32⟩
  | .hbm, ⟨6, _⟩ => ⟨S4224x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DAttn.lean ====
abbrev S2048x4096 : Shape := ⟨2, ![2048, 4096]⟩
abbrev S4224x8192 : Shape := ⟨2, ![4224, 8192]⟩
abbrev S4224x2048 : Shape := ⟨2, ![4224, 2048]⟩
abbrev S1056x4096 : Shape := ⟨2, ![1056, 4096]⟩
abbrev S1024x4096 : Shape := ⟨2, ![1024, 4096]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S4224x8192, .bf16⟩
  | .hbm, ⟨2, _⟩ => ⟨S4224x2048, .bf16⟩
  | .local _ .vmem, ⟨0, _⟩ => ⟨S1056x4096, .bf16⟩
  | .local _ .vmem, ⟨1, _⟩ => ⟨S1056x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1056x1024, .bf16⟩
  | .local _ .vmem, ⟨5, _⟩ => ⟨S1056x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DAttnRefIdeal.lean ====
abbrev S2048x4096 : Shape := ⟨2, ![2048, 4096]⟩
abbrev S4224x8192 : Shape := ⟨2, ![4224, 8192]⟩
abbrev S4224x4096 : Shape := ⟨2, ![4224, 4096]⟩
abbrev S_ : Shape := ⟨0, ![]⟩
abbrev S4224x2048 : Shape := ⟨2, ![4224, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4224x8192, .bf16⟩
  | .hbm, ⟨2, _⟩ => ⟨S4224x4096, .bf16⟩
  | .hbm, ⟨3, _⟩ => ⟨S_, .f32⟩
  | .hbm, ⟨4, _⟩ => ⟨S4224x2048, .f32⟩
  | .hbm, ⟨5, _⟩ => ⟨S2048x4096, .f32⟩
  | .hbm, ⟨6, _⟩ => ⟨S4224x4096, .f32⟩
  | .hbm, ⟨7, _⟩ => ⟨S4224x4096, .f32⟩
  | .hbm, ⟨8, _⟩ => ⟨S4224x2048, .f32⟩
  | .hbm, ⟨9, _⟩ => ⟨S4224x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwAttnO.lean ====
abbrev S4224x2048 : Shape := ⟨2, ![4224, 2048]⟩
abbrev S4224x8192 : Shape := ⟨2, ![4224, 8192]⟩
abbrev S2048x4096 : Shape := ⟨2, ![2048, 4096]⟩
abbrev S4224x1024 : Shape := ⟨2, ![4224, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4224x8192, .bf16⟩
  | .hbm, ⟨2, _⟩ => ⟨S2048x4096, .bf16⟩
  | .local _ .vmem, ⟨0, _⟩ => ⟨S4224x1024, .bf16⟩
  | .local _ .vmem, ⟨1, _⟩ => ⟨S4224x1024, .bf16⟩
  | .local _ .vmem, ⟨2, _⟩ => ⟨S4224x1024, .bf16⟩
  | .local _ .vmem, ⟨3, _⟩ => ⟨S4224x1024, .bf16⟩
  | .local _ .vmem, ⟨4, _⟩ => ⟨S1024x1024, .bf16⟩
  | .local _ .vmem, ⟨5, _⟩ => ⟨S1024x1024, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwAttnORefIdeal.lean ====
abbrev S4224x2048 : Shape := ⟨2, ![4224, 2048]⟩
abbrev S4224x8192 : Shape := ⟨2, ![4224, 8192]⟩
abbrev S4224x4096 : Shape := ⟨2, ![4224, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x8192, .bf16⟩
  | .hbm, ⟨2, _⟩ => ⟨S4224x4096, .bf16⟩
  | .hbm, ⟨3, _⟩ => ⟨S_, .f32⟩
  | .hbm, ⟨4, _⟩ => ⟨S2048x4096, .f32⟩
  | .hbm, ⟨5, _⟩ => ⟨S4224x2048, .f32⟩
  | .hbm, ⟨6, _⟩ => ⟨S4224x4096, .f32⟩
  | .hbm, ⟨7, _⟩ => ⟨S4224x4096, .f32⟩
  | .hbm, ⟨8, _⟩ => ⟨S4096x2048, .f32⟩
  | .hbm, ⟨9, _⟩ => ⟨S2048x4096, .f32⟩
  | .hbm, ⟨10, _⟩ => ⟨S2048x4096, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DConv.lean ====
abbrev S2048x4096 : Shape := ⟨2, ![2048, 4096]⟩
abbrev S4224x8192 : Shape := ⟨2, ![4224, 8192]⟩
abbrev S4224x2048 : Shape := ⟨2, ![4224, 2048]⟩
abbrev S1056x4096 : Shape := ⟨2, ![1056, 4096]⟩
abbrev S1024x4096 : Shape := ⟨2, ![1024, 4096]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S4224x8192, .bf16⟩
  | .hbm, ⟨2, _⟩ => ⟨S4224x2048, .bf16⟩
  | .local _ .vmem, ⟨0, _⟩ => ⟨S1056x4096, .bf16⟩
  | .local _ .vmem, ⟨1, _⟩ => ⟨S1056x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1056x1024, .bf16⟩
  | .local _ .vmem, ⟨5, _⟩ => ⟨S1056x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c1_i32 : BitVec 32 := 1#32
  let v1 : BitVec 32 := Scalar.addi c1_i32 arg2
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DConvRefIdeal.lean ====
abbrev S2048x4096 : Shape := ⟨2, ![2048, 4096]⟩
abbrev S4224x8192 : Shape := ⟨2, ![4224, 8192]⟩
abbrev S4224x4096 : Shape := ⟨2, ![4224, 4096]⟩
abbrev S_ : Shape := ⟨0, ![]⟩
abbrev S4224x2048 : Shape := ⟨2, ![4224, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4224x8192, .bf16⟩
  | .hbm, ⟨2, _⟩ => ⟨S4224x4096, .bf16⟩
  | .hbm, ⟨3, _⟩ => ⟨S_, .f32⟩
  | .hbm, ⟨4, _⟩ => ⟨S4224x2048, .f32⟩
  | .hbm, ⟨5, _⟩ => ⟨S2048x4096, .f32⟩
  | .hbm, ⟨6, _⟩ => ⟨S4224x4096, .f32⟩
  | .hbm, ⟨7, _⟩ => ⟨S4224x4096, .f32⟩
  | .hbm, ⟨8, _⟩ => ⟨S4224x2048, .f32⟩
  | .hbm, ⟨9, _⟩ => ⟨S4224x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwConvO.lean ====
abbrev S4224x2048 : Shape := ⟨2, ![4224, 2048]⟩
abbrev S4224x8192 : Shape := ⟨2, ![4224, 8192]⟩
abbrev S2048x4096 : Shape := ⟨2, ![2048, 4096]⟩
abbrev S4224x1024 : Shape := ⟨2, ![4224, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4224x8192, .bf16⟩
  | .hbm, ⟨2, _⟩ => ⟨S2048x4096, .bf16⟩
  | .local _ .vmem, ⟨0, _⟩ => ⟨S4224x1024, .bf16⟩
  | .local _ .vmem, ⟨1, _⟩ => ⟨S4224x1024, .bf16⟩
  | .local _ .vmem, ⟨2, _⟩ => ⟨S4224x1024, .bf16⟩
  | .local _ .vmem, ⟨3, _⟩ => ⟨S4224x1024, .bf16⟩
  | .local _ .vmem, ⟨4, _⟩ => ⟨S1024x1024, .bf16⟩
  | .local _ .vmem, ⟨5, _⟩ => ⟨S1024x1024, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c4_i32 : BitVec 32 := 4#32
  let v1 : BitVec 32 := Scalar.addi c4_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 2 → Memref sig .tc .vmem S4224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwConvORefIdeal.lean ====
abbrev S4224x2048 : Shape := ⟨2, ![4224, 2048]⟩
abbrev S4224x8192 : Shape := ⟨2, ![4224, 8192]⟩
abbrev S4224x4096 : Shape := ⟨2, ![4224, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x8192, .bf16⟩
  | .hbm, ⟨2, _⟩ => ⟨S4224x4096, .bf16⟩
  | .hbm, ⟨3, _⟩ => ⟨S_, .f32⟩
  | .hbm, ⟨4, _⟩ => ⟨S2048x4096, .f32⟩
  | .hbm, ⟨5, _⟩ => ⟨S4224x2048, .f32⟩
  | .hbm, ⟨6, _⟩ => ⟨S4224x4096, .f32⟩
  | .hbm, ⟨7, _⟩ => ⟨S4224x4096, .f32⟩
  | .hbm, ⟨8, _⟩ => ⟨S4096x2048, .f32⟩
  | .hbm, ⟨9, _⟩ => ⟨S2048x4096, .f32⟩
  | .hbm, ⟨10, _⟩ => ⟨S2048x4096, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GateB.lean ====
abbrev S4224x14848 : Shape := ⟨2, ![4224, 14848]⟩
abbrev S4224x4096 : Shape := ⟨2, ![4224, 4096]⟩
abbrev S4224x8192 : Shape := ⟨2, ![4224, 8192]⟩
abbrev S384x512 : Shape := ⟨2, ![384, 512]⟩

abbrev nBuf : Space → Nat
  | .hbm => 6
  | .vmem => 10
  | .smem => 0
  | _ => 0

abbrev bufTy : (tb : Table) → Fin (tcTables nBuf tb) → BufTy
  | .hbm, ⟨0, _⟩ => ⟨S4224x14848, .bf16⟩
  | .hbm, ⟨1, _⟩ => ⟨S4224x4096, .bf16⟩
  | .hbm, ⟨2, _⟩ => ⟨S4224x14848, .bf16⟩
  | .hbm, ⟨3, _⟩ => ⟨S4224x8192, .bf16⟩
  | .hbm, ⟨4, _⟩ => ⟨S4224x14848, .bf16⟩
  | .hbm, ⟨5, _⟩ => ⟨S4224x8192, .bf16⟩
  | .local _ .vmem, ⟨0, _⟩ => ⟨S384x512, .bf16⟩
  | .local _ .vmem, ⟨1, _⟩ => ⟨S384x512, .bf16⟩
  | .local _ .vmem, ⟨2, _⟩ => ⟨S384x512, .bf16⟩
  | .local _ .vmem, ⟨3, _⟩ => ⟨S384x512, .bf16⟩
  | .local _ .vmem, ⟨4, _⟩ => ⟨S384x512, .bf16⟩
  | .local _ .vmem, ⟨5, _⟩ => ⟨S384x512, .bf16⟩
  | .local _ .vmem, ⟨6, _⟩ => ⟨S384x512, .bf16⟩
  | .local _ .vmem, ⟨7, _⟩ => ⟨S384x512, .bf16⟩
  | .local _ .vmem, ⟨8, _⟩ => ⟨S384x512, .bf16⟩
  | .local _ .vmem, ⟨9, _⟩ => ⟨S384x512, .bf16⟩
  | _, _ => ⟨S4224x14848, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat]

def cc0_transform_1 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateBRefIdeal.lean ====
abbrev S4224x14848 : Shape := ⟨2, ![4224, 14848]⟩
abbrev S4224x4096 : Shape := ⟨2, ![4224, 4096]⟩
abbrev S4224x8192 : Shape := ⟨2, ![4224, 8192]⟩
abbrev S_ : Shape := ⟨0, ![]⟩
abbrev S4224x6656 : Shape := ⟨2, ![4224, 6656]⟩

abbrev nBuf : Space → Nat
  | .hbm => 59
  | .vmem => 0
  | .smem => 0
  | _ => 0

abbrev bufTy : (tb : Table) → Fin (tcTables nBuf tb) → BufTy
  | .hbm, ⟨0, _⟩ => ⟨S4224x14848, .bf16⟩
  | .hbm, ⟨1, _⟩ => ⟨S4224x4096, .bf16⟩
  | .hbm, ⟨2, _⟩ => ⟨S4224x14848, .bf16⟩
  | .hbm, ⟨3, _⟩ => ⟨S4224x8192, .bf16⟩
  | .hbm, ⟨4, _⟩ => ⟨S4224x8192, .bf16⟩
  | .hbm, ⟨5, _⟩ => ⟨S4224x8192, .f32⟩
  | .hbm, ⟨6, _⟩ => ⟨S4224x8192, .f32⟩
  | .hbm, ⟨7, _⟩ => ⟨S4224x4096, .f32⟩
  | .hbm, ⟨8, _⟩ => ⟨S4224x4096, .f32⟩
  | .hbm, ⟨9, _⟩ => ⟨S4224x4096, .f32⟩
  | .hbm, ⟨10, _⟩ => ⟨S_, .f32⟩
  | .hbm, ⟨11, _⟩ => ⟨S4224x4096, .f32⟩
  | .hbm, ⟨12, _⟩ => ⟨S4224x4096, .f32⟩
  | .hbm, ⟨13, _⟩ => ⟨S_, .f32⟩
  | .hbm, ⟨14, _⟩ => ⟨S4224x4096, .f32⟩
  | .hbm, ⟨15, _⟩ => ⟨S4224x4096, .f32⟩
  | .hbm, ⟨16, _⟩ => ⟨S_, .f32⟩
  | .hbm, ⟨17, _⟩ => ⟨S4224x4096, .f32⟩
  | .hbm, ⟨18, _⟩ => ⟨S4224x4096, .f32⟩
  | .hbm, ⟨19, _⟩ => ⟨S4224x4096, .f32⟩
  | .hbm, ⟨20, _⟩ => ⟨S4224x4096, .f32⟩
  | .hbm, ⟨21, _⟩ => ⟨S4224x4096, .f32⟩
  | .hbm, ⟨22, _⟩ => ⟨S4224x4096, .f32⟩
  | .hbm, ⟨23, _⟩ => ⟨S4224x4096, .f32⟩
  | .hbm, ⟨24, _⟩ => ⟨S4224x4096, .f32⟩
  | .hbm, ⟨25, _⟩ => ⟨S_, .f32⟩
  | .hbm, ⟨26, _⟩ => ⟨S4224x4096, .f32⟩
  | .hbm, ⟨27, _⟩ => ⟨S4224x4096, .f32⟩
  | .hbm, ⟨28, _⟩ => ⟨S_, .f32⟩
  | .hbm, ⟨29, _⟩ => ⟨S4224x4096, .f32⟩
  | .hbm, ⟨30, _⟩ => ⟨S4224x4096, .f32⟩
  | .hbm, ⟨31, _⟩ => ⟨S_, .f32⟩
  | .hbm, ⟨32, _⟩ => ⟨S4224x4096, .f32⟩
  | .hbm, ⟨33, _⟩ => ⟨S4224x4096, .f32⟩
  | .hbm, ⟨34, _⟩ => ⟨S4224x4096, .f32⟩
  | .hbm, ⟨35, _⟩ => ⟨S4224x4096, .f32⟩
  | .hbm, ⟨36, _⟩ => ⟨S4224x4096, .f32⟩
  | .hbm, ⟨37, _⟩ => ⟨S4224x4096, .f32⟩
  | .hbm, ⟨38, _⟩ => ⟨S4224x4096, .f32⟩
  | .hbm, ⟨39, _⟩ => ⟨S4224x4096, .f32⟩
  | .hbm, ⟨40, _⟩ => ⟨S4224x4096, .f32⟩
  | .hbm, ⟨41, _⟩ => ⟨S_, .f32⟩
  | .hbm, ⟨42, _⟩ => ⟨S4224x8192, .f32⟩
  | .hbm, ⟨43, _⟩ => ⟨S4224x4096, .f32⟩
  | .hbm, ⟨44, _⟩ => ⟨S_, .f32⟩
  | .hbm, ⟨45, _⟩ => ⟨S4224x8192, .f32⟩
  | .hbm, ⟨46, _⟩ => ⟨S4224x4096, .f32⟩
  | .hbm, ⟨47, _⟩ => ⟨S4224x4096, .f32⟩
  | .hbm, ⟨48, _⟩ => ⟨S_, .f32⟩
  | .hbm, ⟨49, _⟩ => ⟨S4224x8192, .f32⟩
  | .hbm, ⟨50, _⟩ => ⟨S4224x8192, .f32⟩
  | .hbm, ⟨51, _⟩ => ⟨S4224x4096, .f32⟩
  | .hbm, ⟨52, _⟩ => ⟨S_, .f32⟩
  | .hbm, ⟨53, _⟩ => ⟨S4224x8192, .f32⟩
  | .hbm, ⟨54, _⟩ => ⟨S4224x8192, .f32⟩
  | .hbm, ⟨55, _⟩ => ⟨S4224x6656, .bf16⟩
  | .hbm, ⟨56, _⟩ => ⟨S4224x8192, .bf16⟩
  | .hbm, ⟨57, _⟩ => ⟨S4224x14848, .bf16⟩
  | .hbm, ⟨58, _⟩ => ⟨S4224x8192, .bf16⟩
  | _, _ => ⟨S4224x14848, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== GluB.lean ====
abbrev S4224x14848 : Shape := ⟨2, ![4224, 14848]⟩
abbrev S4224x2048 : Shape := ⟨2, ![4224, 2048]⟩
abbrev S384x512 : Shape := ⟨2, ![384, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x14848, .bf16⟩
  | .hbm, ⟨1, _⟩ => ⟨S4224x2048, .f32⟩
  | .hbm, ⟨2, _⟩ => ⟨S4224x14848, .bf16⟩
  | .hbm, ⟨3, _⟩ => ⟨S4224x14848, .bf16⟩
  | .local _ .vmem, ⟨0, _⟩ => ⟨S384x512, .f32⟩
  | .local _ .vmem, ⟨1, _⟩ => ⟨S384x512, .f32⟩
  | .local _ .vmem, ⟨2, _⟩ => ⟨S384x512, .bf16⟩
  | .local _ .vmem, ⟨3, _⟩ => ⟨S384x512, .bf16⟩
  | .local _ .vmem, ⟨4, _⟩ => ⟨S384x512, .bf16⟩
  | .local _ .vmem, ⟨5, _⟩ => ⟨S384x512, .bf16⟩
  | .local _ .vmem, ⟨6, _⟩ => ⟨S384x512, .bf16⟩
  | .local _ .vmem, ⟨7, _⟩ => ⟨S384x512, .bf16⟩
  | _, _ => ⟨S4224x14848, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def k0_cond1 (i : grid0.Coords) : BitVec 1 :=
  let arg1 : BitVec 32 := BitVec.ofNat 32 (i 1).val
  let c4_i32 : BitVec 32 := 4#32
  let v4 : BitVec 1 := Scalar.cmpi .slt arg1 c4_i32
  let v5 : BitVec 32 := Scalar.extui v4
  let c0_i32 : BitVec 32 := 0#32
  let v6 : BitVec 1 := Scalar.cmpi .ne v5 c0_i32
  v6

def k0_cond2 (i : grid0.Coords) : BitVec 1 :=
  let arg1 : BitVec 32 := BitVec.ofNat 32 (i 1).val
  let c4_i32_3 : BitVec 32 := 4#32
  let v7 : BitVec 1 := Scalar.cmpi .sge arg1 c4_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c5_i32 : BitVec 32 := 5#32
  let v10 : BitVec 32 := Scalar.addi c5_i32 v9
  let c0_i32_3 : BitVec 32 := 0#32
  ![arg0.toNat, v10.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c9_i32 : BitVec 32 := 9#32
  let v10 : BitVec 32 := Scalar.addi c9_i32 v9
  let c0_i32_3 : BitVec 32 := 0#32
  ![arg0.toNat, v10.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluBRefIdeal.lean ====
abbrev S4224x14848 : Shape := ⟨2, ![4224, 14848]⟩
abbrev S4224x2048 : Shape := ⟨2, ![4224, 2048]⟩
abbrev S4224x4096 : Shape := ⟨2, ![4224, 4096]⟩
abbrev S_ : Shape := ⟨0, ![]⟩
abbrev S4224x2560 : Shape := ⟨2, ![4224, 2560]⟩
abbrev S4224x8192 : Shape := ⟨2, ![4224, 8192]⟩

abbrev nBuf : Space → Nat
  | .hbm => 32
  | .vmem => 0
  | .smem => 0
  | _ => 0

abbrev bufTy : (tb : Table) → Fin (tcTables nBuf tb) → BufTy
  | .hbm, ⟨0, _⟩ => ⟨S4224x14848, .bf16⟩
  | .hbm, ⟨1, _⟩ => ⟨S4224x2048, .f32⟩
  | .hbm, ⟨2, _⟩ => ⟨S4224x14848, .bf16⟩
  | .hbm, ⟨3, _⟩ => ⟨S4224x4096, .bf16⟩
  | .hbm, ⟨4, _⟩ => ⟨S4224x4096, .f32⟩
  | .hbm, ⟨5, _⟩ => ⟨S4224x2048, .f32⟩
  | .hbm, ⟨6, _⟩ => ⟨S4224x2048, .f32⟩
  | .hbm, ⟨7, _⟩ => ⟨S4224x2048, .f32⟩
  | .hbm, ⟨8, _⟩ => ⟨S4224x2048, .f32⟩
  | .hbm, ⟨9, _⟩ => ⟨S_, .f32⟩
  | .hbm, ⟨10, _⟩ => ⟨S4224x2048, .f32⟩
  | .hbm, ⟨11, _⟩ => ⟨S4224x2048, .f32⟩
  | .hbm, ⟨12, _⟩ => ⟨S_, .f32⟩
  | .hbm, ⟨13, _⟩ => ⟨S4224x2048, .f32⟩
  | .hbm, ⟨14, _⟩ => ⟨S4224x2048, .f32⟩
  | .hbm, ⟨15, _⟩ => ⟨S_, .f32⟩
  | .hbm, ⟨16, _⟩ => ⟨S4224x2048, .f32⟩
  | .hbm, ⟨17, _⟩ => ⟨S4224x2048, .f32⟩
  | .hbm, ⟨18, _⟩ => ⟨S4224x2048, .f32⟩
  | .hbm, ⟨19, _⟩ => ⟨S4224x2048, .f32⟩
  | .hbm, ⟨20, _⟩ => ⟨S4224x2048, .f32⟩
  | .hbm, ⟨21, _⟩ => ⟨S4224x2048, .f32⟩
  | .hbm, ⟨22, _⟩ => ⟨S4224x2048, .f32⟩
  | .hbm, ⟨23, _⟩ => ⟨S_, .f32⟩
  | .hbm, ⟨24, _⟩ => ⟨S4224x4096, .f32⟩
  | .hbm, ⟨25, _⟩ => ⟨S_, .f32⟩
  | .hbm, ⟨26, _⟩ => ⟨S4224x4096, .f32⟩
  | .hbm, ⟨27, _⟩ => ⟨S4224x4096, .f32⟩
  | .hbm, ⟨28, _⟩ => ⟨S4224x2560, .bf16⟩
  | .hbm, ⟨29, _⟩ => ⟨S4224x4096, .bf16⟩
  | .hbm, ⟨30, _⟩ => ⟨S4224x8192, .bf16⟩
  | .hbm, ⟨31, _⟩ => ⟨S4224x14848, .bf16⟩
  | _, _ => ⟨S4224x14848, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== SwigluB.lean ====
abbrev S4224x11008 : Shape := ⟨2, ![4224, 11008]⟩
abbrev S4224x22016 : Shape := ⟨2, ![4224, 22016]⟩
abbrev S64x5504 : Shape := ⟨2, ![64, 5504]⟩

abbrev nBuf : Space → Nat
  | .hbm => 3
  | .vmem => 8
  | .smem => 0
  | _ => 0

abbrev bufTy : (tb : Table) → Fin (tcTables nBuf tb) → BufTy
  | .hbm, ⟨0, _⟩ => ⟨S4224x11008, .bf16⟩
  | .hbm, ⟨1, _⟩ => ⟨S4224x22016, .bf16⟩
  | .hbm, ⟨2, _⟩ => ⟨S4224x22016, .bf16⟩
  | .local _ .vmem, ⟨0, _⟩ => ⟨S64x5504, .bf16⟩
  | .local _ .vmem, ⟨1, _⟩ => ⟨S64x5504, .bf16⟩
  | .local _ .vmem, ⟨2, _⟩ => ⟨S64x5504, .bf16⟩
  | .local _ .vmem, ⟨3, _⟩ => ⟨S64x5504, .bf16⟩
  | .local _ .vmem, ⟨4, _⟩ => ⟨S64x5504, .bf16⟩
  | .local _ .vmem, ⟨5, _⟩ => ⟨S64x5504, .bf16⟩
  | .local _ .vmem, ⟨6, _⟩ => ⟨S64x5504, .bf16⟩
  | .local _ .vmem, ⟨7, _⟩ => ⟨S64x5504, .bf16⟩
  | _, _ => ⟨S4224x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![66, 4], ![false, false]⟩

def k0_cond1 (i : grid0.Coords) : BitVec 1 :=
  let arg1 : BitVec 32 := BitVec.ofNat 32 (i 1).val
  let c2_i32 : BitVec 32 := 2#32
  let v5 : BitVec 1 := Scalar.cmpi .slt arg1 c2_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c2_i32_3 : BitVec 32 := 2#32
  let v8 : BitVec 1 := Scalar.cmpi .sge arg1 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.addi c0_i32_3 v9
  let c0_i32_4 : BitVec 32 := 0#32
  ![arg0.toNat, v10.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.addi c0_i32_3 v9
  let c0_i32_4 : BitVec 32 := 0#32
  ![arg0.toNat, v10.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.addi c2_i32_3 v9
  let c0_i32_4 : BitVec 32 := 0#32
  ![arg0.toNat, v10.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x5504 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x5504 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x5504 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwigluBRefIdeal.lean ====
abbrev S4224x11008 : Shape := ⟨2, ![4224, 11008]⟩
abbrev S4224x22016 : Shape := ⟨2, ![4224, 22016]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4224x11008, .bf16⟩
  | .hbm, ⟨1, _⟩ => ⟨S4224x22016, .bf16⟩
  | .hbm, ⟨2, _⟩ => ⟨S4224x22016, .f32⟩
  | .hbm, ⟨3, _⟩ => ⟨S4224x11008, .f32⟩
  | .hbm, ⟨4, _⟩ => ⟨S4224x11008, .f32⟩
  | .hbm, ⟨5, _⟩ => ⟨S4224x11008, .f32⟩
  | .hbm, ⟨6, _⟩ => ⟨S_, .f32⟩
  | .hbm, ⟨7, _⟩ => ⟨S4224x11008, .f32⟩
  | .hbm, ⟨8, _⟩ => ⟨S4224x11008, .f32⟩
  | .hbm, ⟨9, _⟩ => ⟨S_, .f32⟩
  | .hbm, ⟨10, _⟩ => ⟨S4224x11008, .f32⟩
  | .hbm, ⟨11, _⟩ => ⟨S4224x11008, .f32⟩
  | .hbm, ⟨12, _⟩ => ⟨S_, .f32⟩
  | .hbm, ⟨13, _⟩ => ⟨S4224x11008, .f32⟩
  | .hbm, ⟨14, _⟩ => ⟨S4224x11008, .f32⟩
  | .hbm, ⟨15, _⟩ => ⟨S4224x11008, .f32⟩
  | .hbm, ⟨16, _⟩ => ⟨S4224x11008, .f32⟩
  | .hbm, ⟨17, _⟩ => ⟨S4224x11008, .f32⟩
  | .hbm, ⟨18, _⟩ => ⟨S4224x11008, .f32⟩
  | .hbm, ⟨19, _⟩ => ⟨S4224x11008, .f32⟩
  | .hbm, ⟨20, _⟩ => ⟨S4224x11008, .f32⟩
  | .hbm, ⟨21, _⟩ => ⟨S4224x11008, .f32⟩
  | .hbm, ⟨22, _⟩ => ⟨S_, .f32⟩
  | .hbm, ⟨23, _⟩ => ⟨S4224x22016, .f32⟩
  | .hbm, ⟨24, _⟩ => ⟨S4224x11008, .f32⟩
  | .hbm, ⟨25, _⟩ => ⟨S4224x11008, .f32⟩
  | .hbm, ⟨26, _⟩ => ⟨S4224x11008, .f32⟩
  | .hbm, ⟨27, _⟩ => ⟨S4224x11008, .f32⟩
  | .hbm, ⟨28, _⟩ => ⟨S_, .f32⟩
  | .hbm, ⟨29, _⟩ => ⟨S4224x22016, .f32⟩
  | .hbm, ⟨30, _⟩ => ⟨S4224x22016, .f32⟩
  | .hbm, ⟨31, _⟩ => ⟨S4224x22016, .bf16⟩
  | _, _ => ⟨S4224x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== SwigluF.lean ====
abbrev S4224x22016 : Shape := ⟨2, ![4224, 22016]⟩
abbrev S4224x11008 : Shape := ⟨2, ![4224, 11008]⟩
abbrev S64x5504 : Shape := ⟨2, ![64, 5504]⟩

abbrev nBuf : Space → Nat
  | .hbm => 2
  | .vmem => 6
  | .smem => 0
  | _ => 0

abbrev bufTy : (tb : Table) → Fin (tcTables nBuf tb) → BufTy
  | .hbm, ⟨0, _⟩ => ⟨S4224x22016, .bf16⟩
  | .hbm, ⟨1, _⟩ => ⟨S4224x11008, .bf16⟩
  | .local _ .vmem, ⟨0, _⟩ => ⟨S64x5504, .bf16⟩
  | .local _ .vmem, ⟨1, _⟩ => ⟨S64x5504, .bf16⟩
  | .local _ .vmem, ⟨2, _⟩ => ⟨S64x5504, .bf16⟩
  | .local _ .vmem, ⟨3, _⟩ => ⟨S64x5504, .bf16⟩
  | .local _ .vmem, ⟨4, _⟩ => ⟨S64x5504, .bf16⟩
  | .local _ .vmem, ⟨5, _⟩ => ⟨S64x5504, .bf16⟩
  | _, _ => ⟨S4224x22016, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![66, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S64x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x5504 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x5504 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwigluFRefIdeal.lean ====
abbrev S4224x22016 : Shape := ⟨2, ![4224, 22016]⟩
abbrev S4224x11008 : Shape := ⟨2, ![4224, 11008]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4224x22016, .bf16⟩
  | .hbm, ⟨1, _⟩ => ⟨S4224x11008, .bf16⟩
  | .hbm, ⟨2, _⟩ => ⟨S4224x11008, .f32⟩
  | .hbm, ⟨3, _⟩ => ⟨S4224x11008, .bf16⟩
  | .hbm, ⟨4, _⟩ => ⟨S4224x11008, .f32⟩
  | .hbm, ⟨5, _⟩ => ⟨S4224x11008, .f32⟩
  | .hbm, ⟨6, _⟩ => ⟨S4224x11008, .f32⟩
  | .hbm, ⟨7, _⟩ => ⟨S_, .f32⟩
  | .hbm, ⟨8, _⟩ => ⟨S4224x11008, .f32⟩
  | .hbm, ⟨9, _⟩ => ⟨S4224x11008, .f32⟩
  | .hbm, ⟨10, _⟩ => ⟨S_, .f32⟩
  | .hbm, ⟨11, _⟩ => ⟨S4224x11008, .f32⟩
  | .hbm, ⟨12, _⟩ => ⟨S4224x11008, .f32⟩
  | .hbm, ⟨13, _⟩ => ⟨S4224x11008, .f32⟩
  | .hbm, ⟨14, _⟩ => ⟨S4224x11008, .f32⟩
  | .hbm, ⟨15, _⟩ => ⟨S4224x11008, .bf16⟩
  | _, _ => ⟨S4224x22016, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== GateF.lean ====
abbrev S4224x14848 : Shape := ⟨2, ![4224, 14848]⟩
abbrev S4224x8192 : Shape := ⟨2, ![4224, 8192]⟩
abbrev S4224x4096 : Shape := ⟨2, ![4224, 4096]⟩
abbrev S384x512 : Shape := ⟨2, ![384, 512]⟩

abbrev nBuf : Space → Nat
  | .hbm => 3
  | .vmem => 10
  | .smem => 0
  | _ => 0

abbrev bufTy : (tb : Table) → Fin (tcTables nBuf tb) → BufTy
  | .hbm, ⟨0, _⟩ => ⟨S4224x14848, .bf16⟩
  | .hbm, ⟨1, _⟩ => ⟨S4224x8192, .bf16⟩
  | .hbm, ⟨2, _⟩ => ⟨S4224x4096, .bf16⟩
  | .local _ .vmem, ⟨0, _⟩ => ⟨S384x512, .bf16⟩
  | .local _ .vmem, ⟨1, _⟩ => ⟨S384x512, .bf16⟩
  | .local _ .vmem, ⟨2, _⟩ => ⟨S384x512, .bf16⟩
  | .local _ .vmem, ⟨3, _⟩ => ⟨S384x512, .bf16⟩
  | .local _ .vmem, ⟨4, _⟩ => ⟨S384x512, .bf16⟩
  | .local _ .vmem, ⟨5, _⟩ => ⟨S384x512, .bf16⟩
  | .local _ .vmem, ⟨6, _⟩ => ⟨S384x512, .bf16⟩
  | .local _ .vmem, ⟨7, _⟩ => ⟨S384x512, .bf16⟩
  | .local _ .vmem, ⟨8, _⟩ => ⟨S384x512, .bf16⟩
  | .local _ .vmem, ⟨9, _⟩ => ⟨S384x512, .bf16⟩
  | _, _ => ⟨S4224x14848, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateFRefIdeal.lean ====
abbrev S4224x14848 : Shape := ⟨2, ![4224, 14848]⟩
abbrev S4224x8192 : Shape := ⟨2, ![4224, 8192]⟩
abbrev S4224x4096 : Shape := ⟨2, ![4224, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4224x14848, .bf16⟩
  | .hbm, ⟨1, _⟩ => ⟨S4224x8192, .bf16⟩
  | .hbm, ⟨2, _⟩ => ⟨S4224x8192, .bf16⟩
  | .hbm, ⟨3, _⟩ => ⟨S4224x8192, .f32⟩
  | .hbm, ⟨4, _⟩ => ⟨S4224x8192, .f32⟩
  | .hbm, ⟨5, _⟩ => ⟨S4224x4096, .f32⟩
  | .hbm, ⟨6, _⟩ => ⟨S4224x4096, .f32⟩
  | .hbm, ⟨7, _⟩ => ⟨S4224x4096, .f32⟩
  | .hbm, ⟨8, _⟩ => ⟨S_, .f32⟩
  | .hbm, ⟨9, _⟩ => ⟨S4224x4096, .f32⟩
  | .hbm, ⟨10, _⟩ => ⟨S4224x4096, .f32⟩
  | .hbm, ⟨11, _⟩ => ⟨S_, .f32⟩
  | .hbm, ⟨12, _⟩ => ⟨S4224x4096, .f32⟩
  | .hbm, ⟨13, _⟩ => ⟨S4224x4096, .f32⟩
  | .hbm, ⟨14, _⟩ => ⟨S4224x4096, .f32⟩
  | .hbm, ⟨15, _⟩ => ⟨S4224x4096, .f32⟩
  | .hbm, ⟨16, _⟩ => ⟨S4224x4096, .f32⟩
  | .hbm, ⟨17, _⟩ => ⟨S4224x4096, .f32⟩
  | .hbm, ⟨18, _⟩ => ⟨S4224x4096, .f32⟩
  | .hbm, ⟨19, _⟩ => ⟨S_, .f32⟩
  | .hbm, ⟨20, _⟩ => ⟨S4224x4096, .f32⟩
  | .hbm, ⟨21, _⟩ => ⟨S4224x4096, .f32⟩
  | .hbm, ⟨22, _⟩ => ⟨S_, .f32⟩
  | .hbm, ⟨23, _⟩ => ⟨S4224x4096, .f32⟩
  | .hbm, ⟨24, _⟩ => ⟨S4224x4096, .f32⟩
  | .hbm, ⟨25, _⟩ => ⟨S4224x4096, .f32⟩
  | .hbm, ⟨26, _⟩ => ⟨S4224x4096, .f32⟩
  | .hbm, ⟨27, _⟩ => ⟨S4224x4096, .f32⟩
  | .hbm, ⟨28, _⟩ => ⟨S4224x4096, .bf16⟩
  | _, _ => ⟨S4224x14848, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== RmsB.lean ====
abbrev S4224x4096 : Shape := ⟨2, ![4224, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 7
  | .vmem => 12
  | .smem => 0
  | _ => 0

abbrev bufTy : (tb : Table) → Fin (tcTables nBuf tb) → BufTy
  | .hbm, ⟨0, _⟩ => ⟨S4224x4096, .f32⟩
  | .hbm, ⟨1, _⟩ => ⟨S4224x4096, .f32⟩
  | .hbm, ⟨2, _⟩ => ⟨S1x4096, .f32⟩
  | .hbm, ⟨3, _⟩ => ⟨S4224x4096, .f32⟩
  | .hbm, ⟨4, _⟩ => ⟨S4224x4096, .f32⟩
  | .hbm, ⟨5, _⟩ => ⟨S4224x4096, .bf16⟩
  | .hbm, ⟨6, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .bf16⟩
  | .local _ .vmem, ⟨10, _⟩ => ⟨S128x4096, .bf16⟩
  | .local _ .vmem, ⟨11, _⟩ => ⟨S1x4096, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBRefIdeal.lean ====
abbrev S4224x4096 : Shape := ⟨2, ![4224, 4096]⟩
abbrev S1x4096 : Shape := ⟨2, ![1, 4096]⟩
abbrev S_ : Shape := ⟨0, ![]⟩
abbrev S4224 : Shape := ⟨1, ![4224]⟩
abbrev S4224x1 : Shape := ⟨2, ![4224, 1]⟩
abbrev S4096 : Shape := ⟨1, ![4096]⟩

abbrev nBuf : Space → Nat
  | .hbm => 49
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4224x4096, .f32⟩
  | .hbm, ⟨2, _⟩ => ⟨S1x4096, .f32⟩
  | .hbm, ⟨3, _⟩ => ⟨S4224x4096, .f32⟩
  | .hbm, ⟨4, _⟩ => ⟨S4224x4096, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x4096, .f32⟩
  | .hbm, ⟨20, _⟩ => ⟨S4224x4096, .f32⟩
  | .hbm, ⟨21, _⟩ => ⟨S4224x4096, .f32⟩
  | .hbm, ⟨22, _⟩ => ⟨S4224x4096, .f32⟩
  | .hbm, ⟨23, _⟩ => ⟨S4224x4096, .f32⟩
  | .hbm, ⟨24, _⟩ => ⟨S_, .f32⟩
  | .hbm, ⟨25, _⟩ => ⟨S4096, .f32⟩
  | .hbm, ⟨26, _⟩ => ⟨S1x4096, .f32⟩
  | .hbm, ⟨27, _⟩ => ⟨S4224x4096, .f32⟩
  | .hbm, ⟨28, _⟩ => ⟨S4224x4096, .f32⟩
  | .hbm, ⟨29, _⟩ => ⟨S4224x4096, .f32⟩
  | .hbm, ⟨30, _⟩ => ⟨S_, .f32⟩
  | .hbm, ⟨31, _⟩ => ⟨S4224, .f32⟩
  | .hbm, ⟨32, _⟩ => ⟨S4224x1, .f32⟩
  | .hbm, ⟨33, _⟩ => ⟨S4224x4096, .f32⟩
  | .hbm, ⟨34, _⟩ => ⟨S4224x4096, .f32⟩
  | .hbm, ⟨35, _⟩ => ⟨S4224x1, .f32⟩
  | .hbm, ⟨36, _⟩ => ⟨S_, .f32⟩
  | .hbm, ⟨37, _⟩ => ⟨S4224x1, .f32⟩
  | .hbm, ⟨38, _⟩ => ⟨S4224x1, .f32⟩
  | .hbm, ⟨39, _⟩ => ⟨S_, .f32⟩
  | .hbm, ⟨40, _⟩ => ⟨S4224, .f32⟩
  | .hbm, ⟨41, _⟩ => ⟨S4224x4096, .f32⟩
  | .hbm, ⟨42, _⟩ => ⟨S4224x4096, .f32⟩
  | .hbm, ⟨43, _⟩ => ⟨S4224x4096, .f32⟩
  | .hbm, ⟨44, _⟩ => ⟨S4224x4096, .f32⟩
  | .hbm, ⟨45, _⟩ => ⟨S4224x4096, .f32⟩
  | .hbm, ⟨46, _⟩ => ⟨S4224x4096, .f32⟩
  | .hbm, ⟨47, _⟩ => ⟨S4224x4096, .f32⟩
  | .hbm, ⟨48, _⟩ => ⟨S4224x4096, .bf16⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== RmsF.lean ====
abbrev S4224x4096 : Shape := ⟨2, ![4224, 4096]⟩
abbrev S1x4096 : Shape := ⟨2, ![1, 4096]⟩
abbrev S384x4096 : Shape := ⟨2, ![384, 4096]⟩
abbrev S384 : Shape := ⟨1, ![384]⟩
abbrev S384x1 : Shape := ⟨2, ![384, 1]⟩

abbrev nBuf : Space → Nat
  | .hbm => 3
  | .vmem => 5
  | .smem => 0
  | _ => 0

abbrev bufTy : (tb : Table) → Fin (tcTables nBuf tb) → BufTy
  | .hbm, ⟨0, _⟩ => ⟨S4224x4096, .f32⟩
  | .hbm, ⟨1, _⟩ => ⟨S1x4096, .f32⟩
  | .hbm, ⟨2, _⟩ => ⟨S4224x4096, .bf16⟩
  | .local _ .vmem, ⟨0, _⟩ => ⟨S384x4096, .f32⟩
  | .local _ .vmem, ⟨1, _⟩ => ⟨S384x4096, .f32⟩
  | .local _ .vmem, ⟨2, _⟩ => ⟨S1x4096, .f32⟩
  | .local _ .vmem, ⟨3, _⟩ => ⟨S384x4096, .bf16⟩
  | .local _ .vmem, ⟨4, _⟩ => ⟨S384x4096, .bf16⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFRefIdeal.lean ====
abbrev S4224x4096 : Shape := ⟨2, ![4224, 4096]⟩
abbrev S1x4096 : Shape := ⟨2, ![1, 4096]⟩
abbrev S_ : Shape := ⟨0, ![]⟩
abbrev S4224 : Shape := ⟨1, ![4224]⟩
abbrev S4224x1 : Shape := ⟨2, ![4224, 1]⟩

abbrev nBuf : Space → Nat
  | .hbm => 18
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S1x4096, .f32⟩
  | .hbm, ⟨2, _⟩ => ⟨S4224x4096, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1, .f32⟩
  | .hbm, ⟨13, _⟩ => ⟨S4224x4096, .f32⟩
  | .hbm, ⟨14, _⟩ => ⟨S4224x4096, .f32⟩
  | .hbm, ⟨15, _⟩ => ⟨S4224x4096, .f32⟩
  | .hbm, ⟨16, _⟩ => ⟨S4224x4096, .f32⟩
  | .hbm, ⟨17, _⟩ => ⟨S4224x4096, .bf16⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== LnB.lean ====
abbrev S4224x2048 : Shape := ⟨2, ![4224, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 10
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .f32⟩
  | .hbm, ⟨2, _⟩ => ⟨S1x2048, .f32⟩
  | .hbm, ⟨3, _⟩ => ⟨S1x2048, .f32⟩
  | .hbm, ⟨4, _⟩ => ⟨S4224x2048, .f32⟩
  | .hbm, ⟨5, _⟩ => ⟨S1x2048, .f32⟩
  | .hbm, ⟨6, _⟩ => ⟨S1x2048, .f32⟩
  | .local _ .vmem, ⟨0, _⟩ => ⟨S128x2048, .bf16⟩
  | .local _ .vmem, ⟨1, _⟩ => ⟨S128x2048, .bf16⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | .local _ .vmem, ⟨9, _⟩ => ⟨S1x2048, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v57 : BitVec 1 := Scalar.cmpi .eq arg0 c0_i32
  let v58 : BitVec 32 := Scalar.extui v57
  let c0_i32_21 : BitVec 32 := 0#32
  let v59 : BitVec 1 := Scalar.cmpi .ne v58 c0_i32_21
  v59

def k0_cond2 (i : grid0.Coords) : BitVec 1 :=
  let arg0 : BitVec 32 := BitVec.ofNat 32 (i 0).val
  let c0_i32_22 : BitVec 32 := 0#32
  let v60 : BitVec 1 := Scalar.cmpi .sgt arg0 c0_i32_22
  let v61 : BitVec 32 := Scalar.extui v60
  let c0_i32_23 : BitVec 32 := 0#32
  let v62 : BitVec 1 := Scalar.cmpi .ne v61 c0_i32_23
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnBRefIdeal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩
abbrev S2048 : Shape := ⟨1, ![2048]⟩

abbrev nBuf : Space → Nat
  | .hbm => 88
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S4224x2048, .f32⟩
  | .hbm, ⟨11, _⟩ => ⟨S4224x2048, .f32⟩
  | .hbm, ⟨12, _⟩ => ⟨S4224x2048, .f32⟩
  | .hbm, ⟨13, _⟩ => ⟨S_, .f32⟩
  | .hbm, ⟨14, _⟩ => ⟨S4224, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S_, .f32⟩
  | .hbm, ⟨20, _⟩ => ⟨S4224x1, .f32⟩
  | .hbm, ⟨21, _⟩ => ⟨S4224x1, .f32⟩
  | .hbm, ⟨22, _⟩ => ⟨S4224x1, .f32⟩
  | .hbm, ⟨23, _⟩ => ⟨S4224x1, .f32⟩
  | .hbm, ⟨24, _⟩ => ⟨S_, .f32⟩
  | .hbm, ⟨25, _⟩ => ⟨S4224x1, .f32⟩
  | .hbm, ⟨26, _⟩ => ⟨S4224x1, .f32⟩
  | .hbm, ⟨27, _⟩ => ⟨S4224x2048, .f32⟩
  | .hbm, ⟨28, _⟩ => ⟨S4224x2048, .f32⟩
  | .hbm, ⟨29, _⟩ => ⟨S4224x2048, .f32⟩
  | .hbm, ⟨30, _⟩ => ⟨S4224x2048, .f32⟩
  | .hbm, ⟨31, _⟩ => ⟨S4224x2048, .f32⟩
  | .hbm, ⟨32, _⟩ => ⟨S4224x2048, .f32⟩
  | .hbm, ⟨33, _⟩ => ⟨S4224x2048, .f32⟩
  | .hbm, ⟨34, _⟩ => ⟨S4224x2048, .f32⟩
  | .hbm, ⟨35, _⟩ => ⟨S_, .f32⟩
  | .hbm, ⟨36, _⟩ => ⟨S4224x2048, .f32⟩
  | .hbm, ⟨37, _⟩ => ⟨S4224x2048, .f32⟩
  | .hbm, ⟨38, _⟩ => ⟨S_, .f32⟩
  | .hbm, ⟨39, _⟩ => ⟨S4224x2048, .f32⟩
  | .hbm, ⟨40, _⟩ => ⟨S4224x2048, .f32⟩
  | .hbm, ⟨41, _⟩ => ⟨S_, .f32⟩
  | .hbm, ⟨42, _⟩ => ⟨S4224x2048, .f32⟩
  | .hbm, ⟨43, _⟩ => ⟨S4224x2048, .f32⟩
  | .hbm, ⟨44, _⟩ => ⟨S4224x2048, .f32⟩
  | .hbm, ⟨45, _⟩ => ⟨S4224x2048, .f32⟩
  | .hbm, ⟨46, _⟩ => ⟨S4224x2048, .f32⟩
  | .hbm, ⟨47, _⟩ => ⟨S4224x2048, .f32⟩
  | .hbm, ⟨48, _⟩ => ⟨S4224x2048, .f32⟩
  | .hbm, ⟨49, _⟩ => ⟨S4224x2048, .f32⟩
  | .hbm, ⟨50, _⟩ => ⟨S4224x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S4224x2048, .f32⟩
  | .hbm, ⟨55, _⟩ => ⟨S_, .f32⟩
  | .hbm, ⟨56, _⟩ => ⟨S2048, .f32⟩
  | .hbm, ⟨57, _⟩ => ⟨S1x2048, .f32⟩
  | .hbm, ⟨58, _⟩ => ⟨S4224x2048, .f32⟩
  | .hbm, ⟨59, _⟩ => ⟨S4224x2048, .f32⟩
  | .hbm, ⟨60, _⟩ => ⟨S4224x2048, .f32⟩
  | .hbm, ⟨61, _⟩ => ⟨S_, .f32⟩
  | .hbm, ⟨62, _⟩ => ⟨S4224, .f32⟩
  | .hbm, ⟨63, _⟩ => ⟨S4224x1, .f32⟩
  | .hbm, ⟨64, _⟩ => ⟨S4224x2048, .f32⟩
  | .hbm, ⟨65, _⟩ => ⟨S4224x2048, .f32⟩
  | .hbm, ⟨66, _⟩ => ⟨S4224x1, .f32⟩
  | .hbm, ⟨67, _⟩ => ⟨S_, .f32⟩
  | .hbm, ⟨68, _⟩ => ⟨S4224x1, .f32⟩
  | .hbm, ⟨69, _⟩ => ⟨S4224x1, .f32⟩
  | .hbm, ⟨70, _⟩ => ⟨S_, .f32⟩
  | .hbm, ⟨71, _⟩ => ⟨S4224, .f32⟩
  | .hbm, ⟨72, _⟩ => ⟨S4224x2048, .f32⟩
  | .hbm, ⟨73, _⟩ => ⟨S4224x2048, .f32⟩
  | .hbm, ⟨74, _⟩ => ⟨S4224x2048, .f32⟩
  | .hbm, ⟨75, _⟩ => ⟨S4224x2048, .f32⟩
  | .hbm, ⟨76, _⟩ => ⟨S4224x2048, .f32⟩
  | .hbm, ⟨77, _⟩ => ⟨S4224x2048, .f32⟩
  | .hbm, ⟨78, _⟩ => ⟨S_, .f32⟩
  | .hbm, ⟨79, _⟩ => ⟨S4224, .f32⟩
  | .hbm, ⟨80, _⟩ => ⟨S4224x1, .f32⟩
  | .hbm, ⟨81, _⟩ => ⟨S_, .f32⟩
  | .hbm, ⟨82, _⟩ => ⟨S4224x1, .f32⟩
  | .hbm, ⟨83, _⟩ => ⟨S4224x1, .f32⟩
  | .hbm, ⟨84, _⟩ => ⟨S_, .f32⟩
  | .hbm, ⟨85, _⟩ => ⟨S4224, .f32⟩
  | .hbm, ⟨86, _⟩ => ⟨S4224x2048, .f32⟩
  | .hbm, ⟨87, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_13 : Ref sig .tc := ⟨.hbm, 78, rfl⟩
abbrev main_v60 : Ref sig .tc := ⟨.hbm, 79, rfl⟩
abbrev main_v61 : Ref sig .tc := ⟨.hbm, 80, rfl⟩
abbrev main_cst_14 : Ref sig .tc := ⟨.hbm, 81, rfl⟩
abbrev main_v62 : Ref sig .tc := ⟨.hbm, 82, rfl⟩
abbrev main_v63 : Ref sig .tc := ⟨.hbm, 83, rfl⟩
abbrev main_cst_15 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== LnF.lean ====
abbrev S4224x2048 : Shape := ⟨2, ![4224, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 4
  | .vmem => 6
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S1x2048, .f32⟩
  | .hbm, ⟨3, _⟩ => ⟨S4224x2048, .bf16⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S1x2048, .f32⟩
  | .local _ .vmem, ⟨4, _⟩ => ⟨S128x2048, .bf16⟩
  | .local _ .vmem, ⟨5, _⟩ => ⟨S128x2048, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LnFRefIdeal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩

abbrev nBuf : Space → Nat
  | .hbm => 38
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S1x2048, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S4224x2048, .f32⟩
  | .hbm, ⟨10, _⟩ => ⟨S4224x2048, .f32⟩
  | .hbm, ⟨11, _⟩ => ⟨S4224x2048, .f32⟩
  | .hbm, ⟨12, _⟩ => ⟨S_, .f32⟩
  | .hbm, ⟨13, _⟩ => ⟨S4224, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S_, .f32⟩
  | .hbm, ⟨19, _⟩ => ⟨S4224x1, .f32⟩
  | .hbm, ⟨20, _⟩ => ⟨S4224x1, .f32⟩
  | .hbm, ⟨21, _⟩ => ⟨S4224x1, .f32⟩
  | .hbm, ⟨22, _⟩ => ⟨S4224x2048, .f32⟩
  | .hbm, ⟨23, _⟩ => ⟨S4224x2048, .f32⟩
  | .hbm, ⟨24, _⟩ => ⟨S4224x2048, .f32⟩
  | .hbm, ⟨25, _⟩ => ⟨S4224x2048, .f32⟩
  | .hbm, ⟨26, _⟩ => ⟨S4224x2048, .f32⟩
  | .hbm, ⟨27, _⟩ => ⟨S4224x2048, .f32⟩
  | .hbm, ⟨28, _⟩ => ⟨S4224x2048, .f32⟩
  | .hbm, ⟨29, _⟩ => ⟨S4224x2048, .f32⟩
  | .hbm, ⟨30, _⟩ => ⟨S_, .f32⟩
  | .hbm, ⟨31, _⟩ => ⟨S4224x2048, .f32⟩
  | .hbm, ⟨32, _⟩ => ⟨S4224x2048, .f32⟩
  | .hbm, ⟨33, _⟩ => ⟨S_, .f32⟩
  | .hbm, ⟨34, _⟩ => ⟨S4224x2048, .f32⟩
  | .hbm, ⟨35, _⟩ => ⟨S4224x2048, .f32⟩
  | .hbm, ⟨36, _⟩ => ⟨S4224x2048, .f32⟩
  | .hbm, ⟨37, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== ConvB.lean ====
abbrev S4224x2048 : Shape := ⟨2, ![4224, 2048]⟩
abbrev S4224x14848 : Shape := ⟨2, ![4224, 14848]⟩
abbrev S31x2048 : Shape := ⟨2, ![31, 2048]⟩
abbrev S1x2048 : Shape := ⟨2, ![1, 2048]⟩
abbrev S_ : Shape := ⟨0, ![]⟩
abbrev S32x2048 : Shape := ⟨2, ![32, 2048]⟩
abbrev S384x512 : Shape := ⟨2, ![384, 512]⟩
abbrev S32x512 : Shape := ⟨2, ![32, 512]⟩
abbrev S1x512 : Shape := ⟨2, ![1, 512]⟩
abbrev S416x512 : Shape := ⟨2, ![416, 512]⟩
abbrev S512 : Shape := ⟨1, ![512]⟩

abbrev nBuf : Space → Nat
  | .hbm => 10
  | .vmem => 22
  | .smem => 0
  | _ => 0

abbrev bufTy : (tb : Table) → Fin (tcTables nBuf tb) → BufTy
  | .hbm, ⟨0, _⟩ => ⟨S4224x2048, .f32⟩
  | .hbm, ⟨1, _⟩ => ⟨S4224x14848, .bf16⟩
  | .hbm, ⟨2, _⟩ => ⟨S31x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S32x2048, .f32⟩
  | .hbm, ⟨7, _⟩ => ⟨S4224x2048, .f32⟩
  | .hbm, ⟨8, _⟩ => ⟨S32x2048, .f32⟩
  | .hbm, ⟨9, _⟩ => ⟨S1x2048, .f32⟩
  | .local _ .vmem, ⟨0, _⟩ => ⟨S384x512, .f32⟩
  | .local _ .vmem, ⟨1, _⟩ => ⟨S384x512, .f32⟩
  | .local _ .vmem, ⟨2, _⟩ => ⟨S32x512, .f32⟩
  | .local _ .vmem, ⟨3, _⟩ => ⟨S32x512, .f32⟩
  | .local _ .vmem, ⟨4, _⟩ => ⟨S384x512, .bf16⟩
  | .local _ .vmem, ⟨5, _⟩ => ⟨S384x512, .bf16⟩
  | .local _ .vmem, ⟨6, _⟩ => ⟨S384x512, .bf16⟩
  | .local _ .vmem, ⟨7, _⟩ => ⟨S384x512, .bf16⟩
  | .local _ .vmem, ⟨8, _⟩ => ⟨S32x512, .bf16⟩
  | .local _ .vmem, ⟨9, _⟩ => ⟨S32x512, .bf16⟩
  | .local _ .vmem, ⟨10, _⟩ => ⟨S32x512, .bf16⟩
  | .local _ .vmem, ⟨11, _⟩ => ⟨S32x512, .bf16⟩
  | .local _ .vmem, ⟨12, _⟩ => ⟨S32x512, .f32⟩
  | .local _ .vmem, ⟨13, _⟩ => ⟨S32x512, .f32⟩
  | .local _ .vmem, ⟨14, _⟩ => ⟨S384x512, .f32⟩
  | .local _ .vmem, ⟨15, _⟩ => ⟨S384x512, .f32⟩
  | .local _ .vmem, ⟨16, _⟩ => ⟨S32x512, .f32⟩
  | .local _ .vmem, ⟨17, _⟩ => ⟨S32x512, .f32⟩
  | .local _ .vmem, ⟨18, _⟩ => ⟨S1x512, .f32⟩
  | .local _ .vmem, ⟨19, _⟩ => ⟨S1x512, .f32⟩
  | .local _ .vmem, ⟨20, _⟩ => ⟨S416x512, .f32⟩
  | .local _ .vmem, ⟨21, _⟩ => ⟨S416x512, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c12_i32 : BitVec 32 := 12#32
  let v1 : BitVec 32 := Scalar.muli v0 c12_i32
  let c131_i32 : BitVec 32 := 131#32
  let v2 : BitVec 32 := Scalar.minsi v1 c131_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg1 c12_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let v3 : BitVec 32 := Scalar.addi c5_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg1 c12_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let v3 : BitVec 32 := Scalar.addi c9_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S384x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ConvBRefIdeal.lean ====
abbrev S4224x2048 : Shape := ⟨2, ![4224, 2048]⟩
abbrev S4224x14848 : Shape := ⟨2, ![4224, 14848]⟩
abbrev S31x2048 : Shape := ⟨2, ![31, 2048]⟩
abbrev S1x2048 : Shape := ⟨2, ![1, 2048]⟩
abbrev S4224x4096 : Shape := ⟨2, ![4224, 4096]⟩
abbrev S_ : Shape := ⟨0, ![]⟩
abbrev S30x2048 : Shape := ⟨2, ![30, 2048]⟩
abbrev S4254x2048 : Shape := ⟨2, ![4254, 2048]⟩
abbrev S2048 : Shape := ⟨1, ![2048]⟩
abbrev S32x2048 : Shape := ⟨2, ![32, 2048]⟩

abbrev nBuf : Space → Nat
  | .hbm => 715
  | .vmem => 0
  | .smem => 0
  | _ => 0

abbrev hbmTy0_0 (i : Nat) : BufTy := match i % 128 with
  | 0 => ⟨S4224x2048, .f32⟩
  | 1 => ⟨S4224x14848, .bf16⟩
  | 2 => ⟨S31x2048, .f32⟩
  | 3 => ⟨S1x2048, .f32⟩
  | 4 => ⟨S4224x4096, .bf16⟩
  | 5 => ⟨S4224x4096, .f32⟩
  | 6 => ⟨S4224x2048, .f32⟩
  | 7 => ⟨S4224x2048, .f32⟩
  | 8 => ⟨S4224x2048, .f32⟩
  | 9 => ⟨S4224x2048, .f32⟩
  | 10 => ⟨S_, .f32⟩
  | 11 => ⟨S4224x2048, .f32⟩
  | 12 => ⟨S4224x2048, .f32⟩
  | 13 => ⟨S_, .f32⟩
  | 14 => ⟨S4224x2048, .f32⟩
  | 15 => ⟨S4224x2048, .f32⟩
  | 16 => ⟨S4224x2048, .f32⟩
  | 17 => ⟨S_, .f32⟩
  | 18 => ⟨S30x2048, .f32⟩
  | 19 => ⟨S4254x2048, .f32⟩
  | 20 => ⟨S_, .f32⟩
  | 21 => ⟨S30x2048, .f32⟩
  | 22 => ⟨S4224x2048, .f32⟩
  | 23 => ⟨S1x2048, .f32⟩
  | 24 => ⟨S2048, .f32⟩
  | 25 => ⟨S1x2048, .f32⟩
  | 26 => ⟨S4224x2048, .f32⟩
  | 27 => ⟨S4224x2048, .f32⟩
  | 28 => ⟨S_, .f32⟩
  | 29 => ⟨S4224x2048, .f32⟩
  | 30 => ⟨S4224x2048, .f32⟩
  | 31 => ⟨S4224x2048, .f32⟩
  | 32 => ⟨S1x2048, .f32⟩
  | 33 => ⟨S2048, .f32⟩
  | 34 => ⟨S1x2048, .f32⟩
  | 35 => ⟨S4224x2048, .f32⟩
  | 36 => ⟨S4224x2048, .f32⟩
  | 37 => ⟨S4224x2048, .f32⟩
  | 38 => ⟨S4224x2048, .f32⟩
  | 39 => ⟨S1x2048, .f32⟩
  | 40 => ⟨S2048, .f32⟩
  | 41 => ⟨S1x2048, .f32⟩
  | 42 => ⟨S4224x2048, .f32⟩
  | 43 => ⟨S4224x2048, .f32⟩
  | 44 => ⟨S4224x2048, .f32⟩
  | 45 => ⟨S4224x2048, .f32⟩
  | 46 => ⟨S1x2048, .f32⟩
  | 47 => ⟨S2048, .f32⟩
  | 48 => ⟨S1x2048, .f32⟩
  | 49 => ⟨S4224x2048, .f32⟩
  | 50 => ⟨S4224x2048, .f32⟩
  | 51 => ⟨S4224x2048, .f32⟩
  | 52 => ⟨S4224x2048, .f32⟩
  | 53 => ⟨S1x2048, .f32⟩
  | 54 => ⟨S2048, .f32⟩
  | 55 => ⟨S1x2048, .f32⟩
  | 56 => ⟨S4224x2048, .f32⟩
  | 57 => ⟨S4224x2048, .f32⟩
  | 58 => ⟨S4224x2048, .f32⟩
  | 59 => ⟨S4224x2048, .f32⟩
  | 60 => ⟨S1x2048, .f32⟩
  | 61 => ⟨S2048, .f32⟩
  | 62 => ⟨S1x2048, .f32⟩
  | 63 => ⟨S4224x2048, .f32⟩
  | 64 => ⟨S4224x2048, .f32⟩
  | 65 => ⟨S4224x2048, .f32⟩
  | 66 => ⟨S4224x2048, .f32⟩
  | 67 => ⟨S1x2048, .f32⟩
  | 68 => ⟨S2048, .f32⟩
  | 69 => ⟨S1x2048, .f32⟩
  | 70 => ⟨S4224x2048, .f32⟩
  | 71 => ⟨S4224x2048, .f32⟩
  | 72 => ⟨S4224x2048, .f32⟩
  | 73 => ⟨S4224x2048, .f32⟩
  | 74 => ⟨S1x2048, .f32⟩
  | 75 => ⟨S2048, .f32⟩
  | 76 => ⟨S1x2048, .f32⟩
  | 77 => ⟨S4224x2048, .f32⟩
  | 78 => ⟨S4224x2048, .f32⟩
  | 79 => ⟨S4224x2048, .f32⟩
  | 80 => ⟨S4224x2048, .f32⟩
  | 81 => ⟨S1x2048, .f32⟩
  | 82 => ⟨S2048, .f32⟩
  | 83 => ⟨S1x2048, .f32⟩
  | 84 => ⟨S4224x2048, .f32⟩
  | 85 => ⟨S4224x2048, .f32⟩
  | 86 => ⟨S4224x2048, .f32⟩
  | 87 => ⟨S4224x2048, .f32⟩
  | 88 => ⟨S1x2048, .f32⟩
  | 89 => ⟨S2048, .f32⟩
  | 90 => ⟨S1x2048, .f32⟩
  | 91 => ⟨S4224x2048, .f32⟩
  | 92 => ⟨S4224x2048, .f32⟩
  | 93 => ⟨S4224x2048, .f32⟩
  | 94 => ⟨S4224x2048, .f32⟩
  | 95 => ⟨S1x2048, .f32⟩
  | 96 => ⟨S2048, .f32⟩
  | 97 => ⟨S1x2048, .f32⟩
  | 98 => ⟨S4224x2048, .f32⟩
  | 99 => ⟨S4224x2048, .f32⟩
  | 100 => ⟨S4224x2048, .f32⟩
  | 101 => ⟨S4224x2048, .f32⟩
  | 102 => ⟨S1x2048, .f32⟩
  | 103 => ⟨S2048, .f32⟩
  | 104 => ⟨S1x2048, .f32⟩
  | 105 => ⟨S4224x2048, .f32⟩
  | 106 => ⟨S4224x2048, .f32⟩
  | 107 => ⟨S4224x2048, .f32⟩
  | 108 => ⟨S4224x2048, .f32⟩
  | 109 => ⟨S1x2048, .f32⟩
  | 110 => ⟨S2048, .f32⟩
  | 111 => ⟨S1x2048, .f32⟩
  | 112 => ⟨S4224x2048, .f32⟩
  | 113 => ⟨S4224x2048, .f32⟩
  | 114 => ⟨S4224x2048, .f32⟩
  | 115 => ⟨S4224x2048, .f32⟩
  | 116 => ⟨S1x2048, .f32⟩
  | 117 => ⟨S2048, .f32⟩
  | 118 => ⟨S1x2048, .f32⟩
  | 119 => ⟨S4224x2048, .f32⟩
  | 120 => ⟨S4224x2048, .f32⟩
  | 121 => ⟨S4224x2048, .f32⟩
  | 122 => ⟨S4224x2048, .f32⟩
  | 123 => ⟨S1x2048, .f32⟩
  | 124 => ⟨S2048, .f32⟩
  | 125 => ⟨S1x2048, .f32⟩
  | 126 => ⟨S4224x2048, .f32⟩
  | 127 => ⟨S4224x2048, .f32⟩
  | _ => ⟨S4224x2048, .f32⟩

abbrev hbmTy0_1 (i : Nat) : BufTy := match i % 128 with
  | 0 => ⟨S4224x2048, .f32⟩
  | 1 => ⟨S4224x2048, .f32⟩
  | 2 => ⟨S1x2048, .f32⟩
  | 3 => ⟨S2048, .f32⟩
  | 4 => ⟨S1x2048, .f32⟩
  | 5 => ⟨S4224x2048, .f32⟩
  | 6 => ⟨S4224x2048, .f32⟩
  | 7 => ⟨S4224x2048, .f32⟩
  | 8 => ⟨S4224x2048, .f32⟩
  | 9 => ⟨S1x2048, .f32⟩
  | 10 => ⟨S2048, .f32⟩
  | 11 => ⟨S1x2048, .f32⟩
  | 12 => ⟨S4224x2048, .f32⟩
  | 13 => ⟨S4224x2048, .f32⟩
  | 14 => ⟨S4224x2048, .f32⟩
  | 15 => ⟨S4224x2048, .f32⟩
  | 16 => ⟨S1x2048, .f32⟩
  | 17 => ⟨S2048, .f32⟩
  | 18 => ⟨S1x2048, .f32⟩
  | 19 => ⟨S4224x2048, .f32⟩
  | 20 => ⟨S4224x2048, .f32⟩
  | 21 => ⟨S4224x2048, .f32⟩
  | 22 => ⟨S4224x2048, .f32⟩
  | 23 => ⟨S1x2048, .f32⟩
  | 24 => ⟨S2048, .f32⟩
  | 25 => ⟨S1x2048, .f32⟩
  | 26 => ⟨S4224x2048, .f32⟩
  | 27 => ⟨S4224x2048, .f32⟩
  | 28 => ⟨S4224x2048, .f32⟩
  | 29 => ⟨S4224x2048, .f32⟩
  | 30 => ⟨S1x2048, .f32⟩
  | 31 => ⟨S2048, .f32⟩
  | 32 => ⟨S1x2048, .f32⟩
  | 33 => ⟨S4224x2048, .f32⟩
  | 34 => ⟨S4224x2048, .f32⟩
  | 35 => ⟨S4224x2048, .f32⟩
  | 36 => ⟨S4224x2048, .f32⟩
  | 37 => ⟨S1x2048, .f32⟩
  | 38 => ⟨S2048, .f32⟩
  | 39 => ⟨S1x2048, .f32⟩
  | 40 => ⟨S4224x2048, .f32⟩
  | 41 => ⟨S4224x2048, .f32⟩
  | 42 => ⟨S4224x2048, .f32⟩
  | 43 => ⟨S4224x2048, .f32⟩
  | 44 => ⟨S1x2048, .f32⟩
  | 45 => ⟨S2048, .f32⟩
  | 46 => ⟨S1x2048, .f32⟩
  | 47 => ⟨S4224x2048, .f32⟩
  | 48 => ⟨S4224x2048, .f32⟩
  | 49 => ⟨S4224x2048, .f32⟩
  | 50 => ⟨S4224x2048, .f32⟩
  | 51 => ⟨S1x2048, .f32⟩
  | 52 => ⟨S2048, .f32⟩
  | 53 => ⟨S1x2048, .f32⟩
  | 54 => ⟨S4224x2048, .f32⟩
  | 55 => ⟨S4224x2048, .f32⟩
  | 56 => ⟨S4224x2048, .f32⟩
  | 57 => ⟨S4224x2048, .f32⟩
  | 58 => ⟨S1x2048, .f32⟩
  | 59 => ⟨S2048, .f32⟩
  | 60 => ⟨S1x2048, .f32⟩
  | 61 => ⟨S4224x2048, .f32⟩
  | 62 => ⟨S4224x2048, .f32⟩
  | 63 => ⟨S4224x2048, .f32⟩
  | 64 => ⟨S4224x2048, .f32⟩
  | 65 => ⟨S1x2048, .f32⟩
  | 66 => ⟨S2048, .f32⟩
  | 67 => ⟨S1x2048, .f32⟩
  | 68 => ⟨S4224x2048, .f32⟩
  | 69 => ⟨S4224x2048, .f32⟩
  | 70 => ⟨S4224x2048, .f32⟩
  | 71 => ⟨S4224x2048, .f32⟩
  | 72 => ⟨S1x2048, .f32⟩
  | 73 => ⟨S2048, .f32⟩
  | 74 => ⟨S1x2048, .f32⟩
  | 75 => ⟨S4224x2048, .f32⟩
  | 76 => ⟨S4224x2048, .f32⟩
  | 77 => ⟨S4224x2048, .f32⟩
  | 78 => ⟨S4224x2048, .f32⟩
  | 79 => ⟨S1x2048, .f32⟩
  | 80 => ⟨S2048, .f32⟩
  | 81 => ⟨S1x2048, .f32⟩
  | 82 => ⟨S4224x2048, .f32⟩
  | 83 => ⟨S4224x2048, .f32⟩
  | 84 => ⟨S4224x2048, .f32⟩
  | 85 => ⟨S4224x2048, .f32⟩
  | 86 => ⟨S1x2048, .f32⟩
  | 87 => ⟨S2048, .f32⟩
  | 88 => ⟨S1x2048, .f32⟩
  | 89 => ⟨S4224x2048, .f32⟩
  | 90 => ⟨S4224x2048, .f32⟩
  | 91 => ⟨S4224x2048, .f32⟩
  | 92 => ⟨S4224x2048, .f32⟩
  | 93 => ⟨S1x2048, .f32⟩
  | 94 => ⟨S2048, .f32⟩
  | 95 => ⟨S1x2048, .f32⟩
  | 96 => ⟨S4224x2048, .f32⟩
  | 97 => ⟨S4224x2048, .f32⟩
  | 98 => ⟨S4224x2048, .f32⟩
  | 99 => ⟨S4224x2048, .f32⟩
  | 100 => ⟨S1x2048, .f32⟩
  | 101 => ⟨S2048, .f32⟩
  | 102 => ⟨S1x2048, .f32⟩
  | 103 => ⟨S4224x2048, .f32⟩
  | 104 => ⟨S4224x2048, .f32⟩
  | 105 => ⟨S4224x2048, .f32⟩
  | 106 => ⟨S4224x2048, .f32⟩
  | 107 => ⟨S1x2048, .f32⟩
  | 108 => ⟨S2048, .f32⟩
  | 109 => ⟨S1x2048, .f32⟩
  | 110 => ⟨S4224x2048, .f32⟩
  | 111 => ⟨S4224x2048, .f32⟩
  | 112 => ⟨S4224x2048, .f32⟩
  | 113 => ⟨S4224x2048, .f32⟩
  | 114 => ⟨S4224x2048, .f32⟩
  | 115 => ⟨S4224x2048, .f32⟩
  | 116 => ⟨S_, .f32⟩
  | 117 => ⟨S2048, .f32⟩
  | 118 => ⟨S1x2048, .f32⟩
  | 119 => ⟨S4224x2048, .f32⟩
  | 120 => ⟨S_, .f32⟩
  | 121 => ⟨S2048, .f32⟩
  | 122 => ⟨S1x2048, .f32⟩
  | 123 => ⟨S4224x2048, .f32⟩
  | 124 => ⟨S4224x2048, .f32⟩
  | 125 => ⟨S_, .f32⟩
  | 126 => ⟨S2048, .f32⟩
  | 127 => ⟨S1x2048, .f32⟩
  | _ => ⟨S4224x2048, .f32⟩

abbrev hbmTy0_2 (i : Nat) : BufTy := match i % 128 with
  | 0 => ⟨S_, .f32⟩
  | 1 => ⟨S31x2048, .f32⟩
  | 2 => ⟨S_, .f32⟩
  | 3 => ⟨S4254x2048, .f32⟩
  | 4 => ⟨S4224x2048, .f32⟩
  | 5 => ⟨S_, .f32⟩
  | 6 => ⟨S2048, .f32⟩
  | 7 => ⟨S1x2048, .f32⟩
  | 8 => ⟨S4224x2048, .f32⟩
  | 9 => ⟨S4224x2048, .f32⟩
  | 10 => ⟨S_, .f32⟩
  | 11 => ⟨S2048, .f32⟩
  | 12 => ⟨S1x2048, .f32⟩
  | 13 => ⟨S_, .f32⟩
  | 14 => ⟨S31x2048, .f32⟩
  | 15 => ⟨S31x2048, .f32⟩
  | 16 => ⟨S_, .f32⟩
  | 17 => ⟨S4254x2048, .f32⟩
  | 18 => ⟨S4254x2048, .f32⟩
  | 19 => ⟨S4224x2048, .f32⟩
  | 20 => ⟨S_, .f32⟩
  | 21 => ⟨S2048, .f32⟩
  | 22 => ⟨S1x2048, .f32⟩
  | 23 => ⟨S4224x2048, .f32⟩
  | 24 => ⟨S4224x2048, .f32⟩
  | 25 => ⟨S_, .f32⟩
  | 26 => ⟨S2048, .f32⟩
  | 27 => ⟨S1x2048, .f32⟩
  | 28 => ⟨S_, .f32⟩
  | 29 => ⟨S31x2048, .f32⟩
  | 30 => ⟨S31x2048, .f32⟩
  | 31 => ⟨S_, .f32⟩
  | 32 => ⟨S4254x2048, .f32⟩
  | 33 => ⟨S4254x2048, .f32⟩
  | 34 => ⟨S4224x2048, .f32⟩
  | 35 => ⟨S_, .f32⟩
  | 36 => ⟨S2048, .f32⟩
  | 37 => ⟨S1x2048, .f32⟩
  | 38 => ⟨S4224x2048, .f32⟩
  | 39 => ⟨S4224x2048, .f32⟩
  | 40 => ⟨S_, .f32⟩
  | 41 => ⟨S2048, .f32⟩
  | 42 => ⟨S1x2048, .f32⟩
  | 43 => ⟨S_, .f32⟩
  | 44 => ⟨S31x2048, .f32⟩
  | 45 => ⟨S31x2048, .f32⟩
  | 46 => ⟨S_, .f32⟩
  | 47 => ⟨S4254x2048, .f32⟩
  | 48 => ⟨S4254x2048, .f32⟩
  | 49 => ⟨S4224x2048, .f32⟩
  | 50 => ⟨S_, .f32⟩
  | 51 => ⟨S2048, .f32⟩
  | 52 => ⟨S1x2048, .f32⟩
  | 53 => ⟨S4224x2048, .f32⟩
  | 54 => ⟨S4224x2048, .f32⟩
  | 55 => ⟨S_, .f32⟩
  | 56 => ⟨S2048, .f32⟩
  | 57 => ⟨S1x2048, .f32⟩
  | 58 => ⟨S_, .f32⟩
  | 59 => ⟨S31x2048, .f32⟩
  | 60 => ⟨S31x2048, .f32⟩
  | 61 => ⟨S_, .f32⟩
  | 62 => ⟨S4254x2048, .f32⟩
  | 63 => ⟨S4254x2048, .f32⟩
  | 64 => ⟨S4224x2048, .f32⟩
  | 65 => ⟨S_, .f32⟩
  | 66 => ⟨S2048, .f32⟩
  | 67 => ⟨S1x2048, .f32⟩
  | 68 => ⟨S4224x2048, .f32⟩
  | 69 => ⟨S4224x2048, .f32⟩
  | 70 => ⟨S_, .f32⟩
  | 71 => ⟨S2048, .f32⟩
  | 72 => ⟨S1x2048, .f32⟩
  | 73 => ⟨S_, .f32⟩
  | 74 => ⟨S31x2048, .f32⟩
  | 75 => ⟨S31x2048, .f32⟩
  | 76 => ⟨S_, .f32⟩
  | 77 => ⟨S4254x2048, .f32⟩
  | 78 => ⟨S4254x2048, .f32⟩
  | 79 => ⟨S4224x2048, .f32⟩
  | 80 => ⟨S_, .f32⟩
  | 81 => ⟨S2048, .f32⟩
  | 82 => ⟨S1x2048, .f32⟩
  | 83 => ⟨S4224x2048, .f32⟩
  | 84 => ⟨S4224x2048, .f32⟩
  | 85 => ⟨S_, .f32⟩
  | 86 => ⟨S2048, .f32⟩
  | 87 => ⟨S1x2048, .f32⟩
  | 88 => ⟨S_, .f32⟩
  | 89 => ⟨S31x2048, .f32⟩
  | 90 => ⟨S31x2048, .f32⟩
  | 91 => ⟨S_, .f32⟩
  | 92 => ⟨S4254x2048, .f32⟩
  | 93 => ⟨S4254x2048, .f32⟩
  | 94 => ⟨S4224x2048, .f32⟩
  | 95 => ⟨S_, .f32⟩
  | 96 => ⟨S2048, .f32⟩
  | 97 => ⟨S1x2048, .f32⟩
  | 98 => ⟨S4224x2048, .f32⟩
  | 99 => ⟨S4224x2048, .f32⟩
  | 100 => ⟨S_, .f32⟩
  | 101 => ⟨S2048, .f32⟩
  | 102 => ⟨S1x2048, .f32⟩
  | 103 => ⟨S_, .f32⟩
  | 104 => ⟨S31x2048, .f32⟩
  | 105 => ⟨S31x2048, .f32⟩
  | 106 => ⟨S_, .f32⟩
  | 107 => ⟨S4254x2048, .f32⟩
  | 108 => ⟨S4254x2048, .f32⟩
  | 109 => ⟨S4224x2048, .f32⟩
  | 110 => ⟨S_, .f32⟩
  | 111 => ⟨S2048, .f32⟩
  | 112 => ⟨S1x2048, .f32⟩
  | 113 => ⟨S4224x2048, .f32⟩
  | 114 => ⟨S4224x2048, .f32⟩
  | 115 => ⟨S_, .f32⟩
  | 116 => ⟨S2048, .f32⟩
  | 117 => ⟨S1x2048, .f32⟩
  | 118 => ⟨S_, .f32⟩
  | 119 => ⟨S31x2048, .f32⟩
  | 120 => ⟨S31x2048, .f32⟩
  | 121 => ⟨S_, .f32⟩
  | 122 => ⟨S4254x2048, .f32⟩
  | 123 => ⟨S4254x2048, .f32⟩
  | 124 => ⟨S4224x2048, .f32⟩
  | 125 => ⟨S_, .f32⟩
  | 126 => ⟨S2048, .f32⟩
  | 127 => ⟨S1x2048, .f32⟩
  | _ => ⟨S4224x2048, .f32⟩

abbrev hbmTy0_3 (i : Nat) : BufTy := match i % 128 with
  | 0 => ⟨S4224x2048, .f32⟩
  | 1 => ⟨S4224x2048, .f32⟩
  | 2 => ⟨S_, .f32⟩
  | 3 => ⟨S2048, .f32⟩
  | 4 => ⟨S1x2048, .f32⟩
  | 5 => ⟨S_, .f32⟩
  | 6 => ⟨S31x2048, .f32⟩
  | 7 => ⟨S31x2048, .f32⟩
  | 8 => ⟨S_, .f32⟩
  | 9 => ⟨S4254x2048, .f32⟩
  | 10 => ⟨S4254x2048, .f32⟩
  | 11 => ⟨S4224x2048, .f32⟩
  | 12 => ⟨S_, .f32⟩
  | 13 => ⟨S2048, .f32⟩
  | 14 => ⟨S1x2048, .f32⟩
  | 15 => ⟨S4224x2048, .f32⟩
  | 16 => ⟨S4224x2048, .f32⟩
  | 17 => ⟨S_, .f32⟩
  | 18 => ⟨S2048, .f32⟩
  | 19 => ⟨S1x2048, .f32⟩
  | 20 => ⟨S_, .f32⟩
  | 21 => ⟨S31x2048, .f32⟩
  | 22 => ⟨S31x2048, .f32⟩
  | 23 => ⟨S_, .f32⟩
  | 24 => ⟨S4254x2048, .f32⟩
  | 25 => ⟨S4254x2048, .f32⟩
  | 26 => ⟨S4224x2048, .f32⟩
  | 27 => ⟨S_, .f32⟩
  | 28 => ⟨S2048, .f32⟩
  | 29 => ⟨S1x2048, .f32⟩
  | 30 => ⟨S4224x2048, .f32⟩
  | 31 => ⟨S4224x2048, .f32⟩
  | 32 => ⟨S_, .f32⟩
  | 33 => ⟨S2048, .f32⟩
  | 34 => ⟨S1x2048, .f32⟩
  | 35 => ⟨S_, .f32⟩
  | 36 => ⟨S31x2048, .f32⟩
  | 37 => ⟨S31x2048, .f32⟩
  | 38 => ⟨S_, .f32⟩
  | 39 => ⟨S4254x2048, .f32⟩
  | 40 => ⟨S4254x2048, .f32⟩
  | 41 => ⟨S4224x2048, .f32⟩
  | 42 => ⟨S_, .f32⟩
  | 43 => ⟨S2048, .f32⟩
  | 44 => ⟨S1x2048, .f32⟩
  | 45 => ⟨S4224x2048, .f32⟩
  | 46 => ⟨S4224x2048, .f32⟩
  | 47 => ⟨S_, .f32⟩
  | 48 => ⟨S2048, .f32⟩
  | 49 => ⟨S1x2048, .f32⟩
  | 50 => ⟨S_, .f32⟩
  | 51 => ⟨S31x2048, .f32⟩
  | 52 => ⟨S31x2048, .f32⟩
  | 53 => ⟨S_, .f32⟩
  | 54 => ⟨S4254x2048, .f32⟩
  | 55 => ⟨S4254x2048, .f32⟩
  | 56 => ⟨S4224x2048, .f32⟩
  | 57 => ⟨S_, .f32⟩
  | 58 => ⟨S2048, .f32⟩
  | 59 => ⟨S1x2048, .f32⟩
  | 60 => ⟨S4224x2048, .f32⟩
  | 61 => ⟨S4224x2048, .f32⟩
  | 62 => ⟨S_, .f32⟩
  | 63 => ⟨S2048, .f32⟩
  | 64 => ⟨S1x2048, .f32⟩
  | 65 => ⟨S_, .f32⟩
  | 66 => ⟨S31x2048, .f32⟩
  | 67 => ⟨S31x2048, .f32⟩
  | 68 => ⟨S_, .f32⟩
  | 69 => ⟨S4254x2048, .f32⟩
  | 70 => ⟨S4254x2048, .f32⟩
  | 71 => ⟨S4224x2048, .f32⟩
  | 72 => ⟨S_, .f32⟩
  | 73 => ⟨S2048, .f32⟩
  | 74 => ⟨S1x2048, .f32⟩
  | 75 => ⟨S4224x2048, .f32⟩
  | 76 => ⟨S4224x2048, .f32⟩
  | 77 => ⟨S_, .f32⟩
  | 78 => ⟨S2048, .f32⟩
  | 79 => ⟨S1x2048, .f32⟩
  | 80 => ⟨S_, .f32⟩
  | 81 => ⟨S31x2048, .f32⟩
  | 82 => ⟨S31x2048, .f32⟩
  | 83 => ⟨S_, .f32⟩
  | 84 => ⟨S4254x2048, .f32⟩
  | 85 => ⟨S4254x2048, .f32⟩
  | 86 => ⟨S4224x2048, .f32⟩
  | 87 => ⟨S_, .f32⟩
  | 88 => ⟨S2048, .f32⟩
  | 89 => ⟨S1x2048, .f32⟩
  | 90 => ⟨S4224x2048, .f32⟩
  | 91 => ⟨S4224x2048, .f32⟩
  | 92 => ⟨S_, .f32⟩
  | 93 => ⟨S2048, .f32⟩
  | 94 => ⟨S1x2048, .f32⟩
  | 95 => ⟨S_, .f32⟩
  | 96 => ⟨S31x2048, .f32⟩
  | 97 => ⟨S31x2048, .f32⟩
  | 98 => ⟨S_, .f32⟩
  | 99 => ⟨S4254x2048, .f32⟩
  | 100 => ⟨S4254x2048, .f32⟩
  | 101 => ⟨S4224x2048, .f32⟩
  | 102 => ⟨S_, .f32⟩
  | 103 => ⟨S2048, .f32⟩
  | 104 => ⟨S1x2048, .f32⟩
  | 105 => ⟨S4224x2048, .f32⟩
  | 106 => ⟨S4224x2048, .f32⟩
  | 107 => ⟨S_, .f32⟩
  | 108 => ⟨S2048, .f32⟩
  | 109 => ⟨S1x2048, .f32⟩
  | 110 => ⟨S_, .f32⟩
  | 111 => ⟨S31x2048, .f32⟩
  | 112 => ⟨S31x2048, .f32⟩
  | 113 => ⟨S_, .f32⟩
  | 114 => ⟨S4254x2048, .f32⟩
  | 115 => ⟨S4254x2048, .f32⟩
  | 116 => ⟨S4224x2048, .f32⟩
  | 117 => ⟨S_, .f32⟩
  | 118 => ⟨S2048, .f32⟩
  | 119 => ⟨S1x2048, .f32⟩
  | 120 => ⟨S4224x2048, .f32⟩
  | 121 => ⟨S4224x2048, .f32⟩
  | 122 => ⟨S_, .f32⟩
  | 123 => ⟨S2048, .f32⟩
  | 124 => ⟨S1x2048, .f32⟩
  | 125 => ⟨S_, .f32⟩
  | 126 => ⟨S31x2048, .f32⟩
  | 127 => ⟨S31x2048, .f32⟩
  | _ => ⟨S4224x2048, .f32⟩

abbrev hbmTy0_4 (i : Nat) : BufTy := match i % 128 with
  | 0 => ⟨S_, .f32⟩
  | 1 => ⟨S4254x2048, .f32⟩
  | 2 => ⟨S4254x2048, .f32⟩
  | 3 => ⟨S4224x2048, .f32⟩
  | 4 => ⟨S_, .f32⟩
  | 5 => ⟨S2048, .f32⟩
  | 6 => ⟨S1x2048, .f32⟩
  | 7 => ⟨S4224x2048, .f32⟩
  | 8 => ⟨S4224x2048, .f32⟩
  | 9 => ⟨S_, .f32⟩
  | 10 => ⟨S2048, .f32⟩
  | 11 => ⟨S1x2048, .f32⟩
  | 12 => ⟨S_, .f32⟩
  | 13 => ⟨S31x2048, .f32⟩
  | 14 => ⟨S31x2048, .f32⟩
  | 15 => ⟨S_, .f32⟩
  | 16 => ⟨S4254x2048, .f32⟩
  | 17 => ⟨S4254x2048, .f32⟩
  | 18 => ⟨S4224x2048, .f32⟩
  | 19 => ⟨S_, .f32⟩
  | 20 => ⟨S2048, .f32⟩
  | 21 => ⟨S1x2048, .f32⟩
  | 22 => ⟨S4224x2048, .f32⟩
  | 23 => ⟨S4224x2048, .f32⟩
  | 24 => ⟨S_, .f32⟩
  | 25 => ⟨S2048, .f32⟩
  | 26 => ⟨S1x2048, .f32⟩
  | 27 => ⟨S_, .f32⟩
  | 28 => ⟨S31x2048, .f32⟩
  | 29 => ⟨S31x2048, .f32⟩
  | 30 => ⟨S_, .f32⟩
  | 31 => ⟨S4254x2048, .f32⟩
  | 32 => ⟨S4254x2048, .f32⟩
  | 33 => ⟨S4224x2048, .f32⟩
  | 34 => ⟨S_, .f32⟩
  | 35 => ⟨S2048, .f32⟩
  | 36 => ⟨S1x2048, .f32⟩
  | 37 => ⟨S4224x2048, .f32⟩
  | 38 => ⟨S4224x2048, .f32⟩
  | 39 => ⟨S_, .f32⟩
  | 40 => ⟨S2048, .f32⟩
  | 41 => ⟨S1x2048, .f32⟩
  | 42 => ⟨S_, .f32⟩
  | 43 => ⟨S31x2048, .f32⟩
  | 44 => ⟨S31x2048, .f32⟩
  | 45 => ⟨S_, .f32⟩
  | 46 => ⟨S4254x2048, .f32⟩
  | 47 => ⟨S4254x2048, .f32⟩
  | 48 => ⟨S4224x2048, .f32⟩
  | 49 => ⟨S_, .f32⟩
  | 50 => ⟨S2048, .f32⟩
  | 51 => ⟨S1x2048, .f32⟩
  | 52 => ⟨S4224x2048, .f32⟩
  | 53 => ⟨S4224x2048, .f32⟩
  | 54 => ⟨S_, .f32⟩
  | 55 => ⟨S2048, .f32⟩
  | 56 => ⟨S1x2048, .f32⟩
  | 57 => ⟨S_, .f32⟩
  | 58 => ⟨S31x2048, .f32⟩
  | 59 => ⟨S31x2048, .f32⟩
  | 60 => ⟨S_, .f32⟩
  | 61 => ⟨S4254x2048, .f32⟩
  | 62 => ⟨S4254x2048, .f32⟩
  | 63 => ⟨S4224x2048, .f32⟩
  | 64 => ⟨S_, .f32⟩
  | 65 => ⟨S2048, .f32⟩
  | 66 => ⟨S1x2048, .f32⟩
  | 67 => ⟨S4224x2048, .f32⟩
  | 68 => ⟨S4224x2048, .f32⟩
  | 69 => ⟨S_, .f32⟩
  | 70 => ⟨S2048, .f32⟩
  | 71 => ⟨S1x2048, .f32⟩
  | 72 => ⟨S_, .f32⟩
  | 73 => ⟨S31x2048, .f32⟩
  | 74 => ⟨S31x2048, .f32⟩
  | 75 => ⟨S_, .f32⟩
  | 76 => ⟨S4254x2048, .f32⟩
  | 77 => ⟨S4254x2048, .f32⟩
  | 78 => ⟨S4224x2048, .f32⟩
  | 79 => ⟨S_, .f32⟩
  | 80 => ⟨S2048, .f32⟩
  | 81 => ⟨S1x2048, .f32⟩
  | 82 => ⟨S4224x2048, .f32⟩
  | 83 => ⟨S4224x2048, .f32⟩
  | 84 => ⟨S_, .f32⟩
  | 85 => ⟨S2048, .f32⟩
  | 86 => ⟨S1x2048, .f32⟩
  | 87 => ⟨S_, .f32⟩
  | 88 => ⟨S31x2048, .f32⟩
  | 89 => ⟨S31x2048, .f32⟩
  | 90 => ⟨S_, .f32⟩
  | 91 => ⟨S4254x2048, .f32⟩
  | 92 => ⟨S4254x2048, .f32⟩
  | 93 => ⟨S4224x2048, .f32⟩
  | 94 => ⟨S_, .f32⟩
  | 95 => ⟨S2048, .f32⟩
  | 96 => ⟨S1x2048, .f32⟩
  | 97 => ⟨S4224x2048, .f32⟩
  | 98 => ⟨S4224x2048, .f32⟩
  | 99 => ⟨S_, .f32⟩
  | 100 => ⟨S2048, .f32⟩
  | 101 => ⟨S1x2048, .f32⟩
  | 102 => ⟨S_, .f32⟩
  | 103 => ⟨S31x2048, .f32⟩
  | 104 => ⟨S31x2048, .f32⟩
  | 105 => ⟨S_, .f32⟩
  | 106 => ⟨S4254x2048, .f32⟩
  | 107 => ⟨S4254x2048, .f32⟩
  | 108 => ⟨S4224x2048, .f32⟩
  | 109 => ⟨S_, .f32⟩
  | 110 => ⟨S2048, .f32⟩
  | 111 => ⟨S1x2048, .f32⟩
  | 112 => ⟨S4224x2048, .f32⟩
  | 113 => ⟨S4224x2048, .f32⟩
  | 114 => ⟨S_, .f32⟩
  | 115 => ⟨S2048, .f32⟩
  | 116 => ⟨S1x2048, .f32⟩
  | 117 => ⟨S_, .f32⟩
  | 118 => ⟨S31x2048, .f32⟩
  | 119 => ⟨S31x2048, .f32⟩
  | 120 => ⟨S_, .f32⟩
  | 121 => ⟨S4254x2048, .f32⟩
  | 122 => ⟨S4254x2048, .f32⟩
  | 123 => ⟨S4224x2048, .f32⟩
  | 124 => ⟨S_, .f32⟩
  | 125 => ⟨S2048, .f32⟩
  | 126 => ⟨S1x2048, .f32⟩
  | 127 => ⟨S4224x2048, .f32⟩
  | _ => ⟨S4224x2048, .f32⟩

abbrev hbmTy0_5 (i : Nat) : BufTy := match i % 128 with
  | 0 => ⟨S4224x2048, .f32⟩
  | 1 => ⟨S_, .f32⟩
  | 2 => ⟨S2048, .f32⟩
  | 3 => ⟨S1x2048, .f32⟩
  | 4 => ⟨S_, .f32⟩
  | 5 => ⟨S31x2048, .f32⟩
  | 6 => ⟨S31x2048, .f32⟩
  | 7 => ⟨S_, .f32⟩
  | 8 => ⟨S4254x2048, .f32⟩
  | 9 => ⟨S4254x2048, .f32⟩
  | 10 => ⟨S4224x2048, .f32⟩
  | 11 => ⟨S_, .f32⟩
  | 12 => ⟨S2048, .f32⟩
  | 13 => ⟨S1x2048, .f32⟩
  | 14 => ⟨S4224x2048, .f32⟩
  | 15 => ⟨S4224x2048, .f32⟩
  | 16 => ⟨S_, .f32⟩
  | 17 => ⟨S2048, .f32⟩
  | 18 => ⟨S1x2048, .f32⟩
  | 19 => ⟨S_, .f32⟩
  | 20 => ⟨S31x2048, .f32⟩
  | 21 => ⟨S31x2048, .f32⟩
  | 22 => ⟨S_, .f32⟩
  | 23 => ⟨S4254x2048, .f32⟩
  | 24 => ⟨S4254x2048, .f32⟩
  | 25 => ⟨S4224x2048, .f32⟩
  | 26 => ⟨S_, .f32⟩
  | 27 => ⟨S2048, .f32⟩
  | 28 => ⟨S1x2048, .f32⟩
  | 29 => ⟨S4224x2048, .f32⟩
  | 30 => ⟨S4224x2048, .f32⟩
  | 31 => ⟨S_, .f32⟩
  | 32 => ⟨S2048, .f32⟩
  | 33 => ⟨S1x2048, .f32⟩
  | 34 => ⟨S_, .f32⟩
  | 35 => ⟨S31x2048, .f32⟩
  | 36 => ⟨S31x2048, .f32⟩
  | 37 => ⟨S_, .f32⟩
  | 38 => ⟨S4254x2048, .f32⟩
  | 39 => ⟨S4254x2048, .f32⟩
  | 40 => ⟨S4224x2048, .f32⟩
  | 41 => ⟨S_, .f32⟩
  | 42 => ⟨S2048, .f32⟩
  | 43 => ⟨S1x2048, .f32⟩
  | 44 => ⟨S4224x2048, .f32⟩
  | 45 => ⟨S4224x2048, .f32⟩
  | 46 => ⟨S_, .f32⟩
  | 47 => ⟨S2048, .f32⟩
  | 48 => ⟨S1x2048, .f32⟩
  | 49 => ⟨S_, .f32⟩
  | 50 => ⟨S31x2048, .f32⟩
  | 51 => ⟨S31x2048, .f32⟩
  | 52 => ⟨S_, .f32⟩
  | 53 => ⟨S4254x2048, .f32⟩
  | 54 => ⟨S4254x2048, .f32⟩
  | 55 => ⟨S4224x2048, .f32⟩
  | 56 => ⟨S_, .f32⟩
  | 57 => ⟨S2048, .f32⟩
  | 58 => ⟨S1x2048, .f32⟩
  | 59 => ⟨S4224x2048, .f32⟩
  | 60 => ⟨S4224x2048, .f32⟩
  | 61 => ⟨S_, .f32⟩
  | 62 => ⟨S2048, .f32⟩
  | 63 => ⟨S1x2048, .f32⟩
  | 64 => ⟨S_, .f32⟩
  | 65 => ⟨S31x2048, .f32⟩
  | 66 => ⟨S31x2048, .f32⟩
  | 67 => ⟨S_, .f32⟩
  | 68 => ⟨S4254x2048, .f32⟩
  | 69 => ⟨S4254x2048, .f32⟩
  | 70 => ⟨S30x2048, .f32⟩
  | 71 => ⟨S4224x2048, .f32⟩
  | 72 => ⟨S_, .f32⟩
  | 73 => ⟨S1x2048, .f32⟩
  | 74 => ⟨S32x2048, .f32⟩
  | _ => ⟨S4224x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4224x2048, .f32⟩

abbrev bufTy : (tb : Table) → Fin (tcTables nBuf tb) → BufTy
  | .hbm, ⟨i, _⟩ => hbmTy i
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_cst_4 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_cst_5 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_cst_6 : Ref sig .tc := ⟨.hbm, 253, rfl⟩
abbrev main_v242 : Ref sig .tc := ⟨.hbm, 254, rfl⟩
abbrev main_v243 : Ref sig .tc := ⟨.hbm, 255, rfl⟩
abbrev main_cst_7 : Ref sig .tc := ⟨.hbm, 256, rfl⟩
abbrev main_v244 : Ref sig .tc := ⟨.hbm, 257, rfl⟩
abbrev main_cst_8 : Ref sig .tc := ⟨.hbm, 258, rfl⟩
abbrev main_v245 : Ref sig .tc := ⟨.hbm, 259, rfl⟩
abbrev main_v246 : Ref sig .tc := ⟨.hbm, 260, rfl⟩
abbrev main_cst_9 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_cst_10 : Ref sig .tc := ⟨.hbm, 266, rfl⟩
abbrev main_v251 : Ref sig .tc := ⟨.hbm, 267, rfl⟩
abbrev main_v252 : Ref sig .tc := ⟨.hbm, 268, rfl⟩
abbrev main_cst_11 : Ref sig .tc := ⟨.hbm, 269, rfl⟩
abbrev main_v253 : Ref sig .tc := ⟨.hbm, 270, rfl⟩
abbrev main_v254 : Ref sig .tc := ⟨.hbm, 271, rfl⟩
abbrev main_cst_12 : Ref sig .tc := ⟨.hbm, 272, rfl⟩
abbrev main_v255 : Ref sig .tc := ⟨.hbm, 273, rfl⟩
abbrev main_v256 : Ref sig .tc := ⟨.hbm, 274, rfl⟩
abbrev main_v257 : Ref sig .tc := ⟨.hbm, 275, rfl⟩
abbrev main_cst_13 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_cst_14 : Ref sig .tc := ⟨.hbm, 281, rfl⟩
abbrev main_v262 : Ref sig .tc := ⟨.hbm, 282, rfl⟩
abbrev main_v263 : Ref sig .tc := ⟨.hbm, 283, rfl⟩
abbrev main_cst_15 : Ref sig .tc := ⟨.hbm, 284, rfl⟩
abbrev main_v264 : Ref sig .tc := ⟨.hbm, 285, rfl⟩
abbrev main_v265 : Ref sig .tc := ⟨.hbm, 286, rfl⟩
abbrev main_cst_16 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_cst_17 : Ref sig .tc := ⟨.hbm, 291, rfl⟩
abbrev main_v269 : Ref sig .tc := ⟨.hbm, 292, rfl⟩
abbrev main_v270 : Ref sig .tc := ⟨.hbm, 293, rfl⟩
abbrev main_v271 : Ref sig .tc := ⟨.hbm, 294, rfl⟩
abbrev main_v272 : Ref sig .tc := ⟨.hbm, 295, rfl⟩
abbrev main_cst_18 : Ref sig .tc := ⟨.hbm, 296, rfl⟩
abbrev main_v273 : Ref sig .tc := ⟨.hbm, 297, rfl⟩
abbrev main_v274 : Ref sig .tc := ⟨.hbm, 298, rfl⟩
abbrev main_cst_19 : Ref sig .tc := ⟨.hbm, 299, rfl⟩
abbrev main_v275 : Ref sig .tc := ⟨.hbm, 300, rfl⟩
abbrev main_v276 : Ref sig .tc := ⟨.hbm, 301, rfl⟩
abbrev main_cst_20 : Ref sig .tc := ⟨.hbm, 302, rfl⟩
abbrev main_v277 : Ref sig .tc := ⟨.hbm, 303, rfl⟩
abbrev main_v278 : Ref sig .tc := ⟨.hbm, 304, rfl⟩
abbrev main_v279 : Ref sig .tc := ⟨.hbm, 305, rfl⟩
abbrev main_cst_21 : Ref sig .tc := ⟨.hbm, 306, rfl⟩
abbrev main_v280 : Ref sig .tc := ⟨.hbm, 307, rfl⟩
abbrev main_v281 : Ref sig .tc := ⟨.hbm, 308, rfl⟩
abbrev main_v282 : Ref sig .tc := ⟨.hbm, 309, rfl⟩
abbrev main_v283 : Ref sig .tc := ⟨.hbm, 310, rfl⟩
abbrev main_cst_22 : Ref sig .tc := ⟨.hbm, 311, rfl⟩
abbrev main_v284 : Ref sig .tc := ⟨.hbm, 312, rfl⟩
abbrev main_v285 : Ref sig .tc := ⟨.hbm, 313, rfl⟩
abbrev main_cst_23 : Ref sig .tc := ⟨.hbm, 314, rfl⟩
abbrev main_v286 : Ref sig .tc := ⟨.hbm, 315, rfl⟩
abbrev main_v287 : Ref sig .tc := ⟨.hbm, 316, rfl⟩
abbrev main_cst_24 : Ref sig .tc := ⟨.hbm, 317, rfl⟩
abbrev main_v288 : Ref sig .tc := ⟨.hbm, 318, rfl⟩
abbrev main_v289 : Ref sig .tc := ⟨.hbm, 319, rfl⟩
abbrev main_v290 : Ref sig .tc := ⟨.hbm, 320, rfl⟩
abbrev main_cst_25 : Ref sig .tc := ⟨.hbm, 321, rfl⟩
abbrev main_v291 : Ref sig .tc := ⟨.hbm, 322, rfl⟩
abbrev main_v292 : Ref sig .tc := ⟨.hbm, 323, rfl⟩
abbrev main_v293 : Ref sig .tc := ⟨.hbm, 324, rfl⟩
abbrev main_v294 : Ref sig .tc := ⟨.hbm, 325, rfl⟩
abbrev main_cst_26 : Ref sig .tc := ⟨.hbm, 326, rfl⟩
abbrev main_v295 : Ref sig .tc := ⟨.hbm, 327, rfl⟩
abbrev main_v296 : Ref sig .tc := ⟨.hbm, 328, rfl⟩
abbrev main_cst_27 : Ref sig .tc := ⟨.hbm, 329, rfl⟩
abbrev main_v297 : Ref sig .tc := ⟨.hbm, 330, rfl⟩
abbrev main_v298 : Ref sig .tc := ⟨.hbm, 331, rfl⟩
abbrev main_cst_28 : Ref sig .tc := ⟨.hbm, 332, rfl⟩
abbrev main_v299 : Ref sig .tc := ⟨.hbm, 333, rfl⟩
abbrev main_v300 : Ref sig .tc := ⟨.hbm, 334, rfl⟩
abbrev main_v301 : Ref sig .tc := ⟨.hbm, 335, rfl⟩
abbrev main_cst_29 : Ref sig .tc := ⟨.hbm, 336, rfl⟩
abbrev main_v302 : Ref sig .tc := ⟨.hbm, 337, rfl⟩
abbrev main_v303 : Ref sig .tc := ⟨.hbm, 338, rfl⟩
abbrev main_v304 : Ref sig .tc := ⟨.hbm, 339, rfl⟩
abbrev main_v305 : Ref sig .tc := ⟨.hbm, 340, rfl⟩
abbrev main_cst_30 : Ref sig .tc := ⟨.hbm, 341, rfl⟩
abbrev main_v306 : Ref sig .tc := ⟨.hbm, 342, rfl⟩
abbrev main_v307 : Ref sig .tc := ⟨.hbm, 343, rfl⟩
abbrev main_cst_31 : Ref sig .tc := ⟨.hbm, 344, rfl⟩
abbrev main_v308 : Ref sig .tc := ⟨.hbm, 345, rfl⟩
abbrev main_v309 : Ref sig .tc := ⟨.hbm, 346, rfl⟩
abbrev main_cst_32 : Ref sig .tc := ⟨.hbm, 347, rfl⟩
abbrev main_v310 : Ref sig .tc := ⟨.hbm, 348, rfl⟩
abbrev main_v311 : Ref sig .tc := ⟨.hbm, 349, rfl⟩
abbrev main_v312 : Ref sig .tc := ⟨.hbm, 350, rfl⟩
abbrev main_cst_33 : Ref sig .tc := ⟨.hbm, 351, rfl⟩
abbrev main_v313 : Ref sig .tc := ⟨.hbm, 352, rfl⟩
abbrev main_v314 : Ref sig .tc := ⟨.hbm, 353, rfl⟩
abbrev main_v315 : Ref sig .tc := ⟨.hbm, 354, rfl⟩
abbrev main_v316 : Ref sig .tc := ⟨.hbm, 355, rfl⟩
abbrev main_cst_34 : Ref sig .tc := ⟨.hbm, 356, rfl⟩
abbrev main_v317 : Ref sig .tc := ⟨.hbm, 357, rfl⟩
abbrev main_v318 : Ref sig .tc := ⟨.hbm, 358, rfl⟩
abbrev main_cst_35 : Ref sig .tc := ⟨.hbm, 359, rfl⟩
abbrev main_v319 : Ref sig .tc := ⟨.hbm, 360, rfl⟩
abbrev main_v320 : Ref sig .tc := ⟨.hbm, 361, rfl⟩
abbrev main_cst_36 : Ref sig .tc := ⟨.hbm, 362, rfl⟩
abbrev main_v321 : Ref sig .tc := ⟨.hbm, 363, rfl⟩
abbrev main_v322 : Ref sig .tc := ⟨.hbm, 364, rfl⟩
abbrev main_v323 : Ref sig .tc := ⟨.hbm, 365, rfl⟩
abbrev main_cst_37 : Ref sig .tc := ⟨.hbm, 366, rfl⟩
abbrev main_v324 : Ref sig .tc := ⟨.hbm, 367, rfl⟩
abbrev main_v325 : Ref sig .tc := ⟨.hbm, 368, rfl⟩
abbrev main_v326 : Ref sig .tc := ⟨.hbm, 369, rfl⟩
abbrev main_v327 : Ref sig .tc := ⟨.hbm, 370, rfl⟩
abbrev main_cst_38 : Ref sig .tc := ⟨.hbm, 371, rfl⟩
abbrev main_v328 : Ref sig .tc := ⟨.hbm, 372, rfl⟩
abbrev main_v329 : Ref sig .tc := ⟨.hbm, 373, rfl⟩
abbrev main_cst_39 : Ref sig .tc := ⟨.hbm, 374, rfl⟩
abbrev main_v330 : Ref sig .tc := ⟨.hbm, 375, rfl⟩
abbrev main_v331 : Ref sig .tc := ⟨.hbm, 376, rfl⟩
abbrev main_cst_40 : Ref sig .tc := ⟨.hbm, 377, rfl⟩
abbrev main_v332 : Ref sig .tc := ⟨.hbm, 378, rfl⟩
abbrev main_v333 : Ref sig .tc := ⟨.hbm, 379, rfl⟩
abbrev main_v334 : Ref sig .tc := ⟨.hbm, 380, rfl⟩
abbrev main_cst_41 : Ref sig .tc := ⟨.hbm, 381, rfl⟩
abbrev main_v335 : Ref sig .tc := ⟨.hbm, 382, rfl⟩
abbrev main_v336 : Ref sig .tc := ⟨.hbm, 383, rfl⟩
abbrev main_v337 : Ref sig .tc := ⟨.hbm, 384, rfl⟩
abbrev main_v338 : Ref sig .tc := ⟨.hbm, 385, rfl⟩
abbrev main_cst_42 : Ref sig .tc := ⟨.hbm, 386, rfl⟩
abbrev main_v339 : Ref sig .tc := ⟨.hbm, 387, rfl⟩
abbrev main_v340 : Ref sig .tc := ⟨.hbm, 388, rfl⟩
abbrev main_cst_43 : Ref sig .tc := ⟨.hbm, 389, rfl⟩
abbrev main_v341 : Ref sig .tc := ⟨.hbm, 390, rfl⟩
abbrev main_v342 : Ref sig .tc := ⟨.hbm, 391, rfl⟩
abbrev main_cst_44 : Ref sig .tc := ⟨.hbm, 392, rfl⟩
abbrev main_v343 : Ref sig .tc := ⟨.hbm, 393, rfl⟩
abbrev main_v344 : Ref sig .tc := ⟨.hbm, 394, rfl⟩
abbrev main_v345 : Ref sig .tc := ⟨.hbm, 395, rfl⟩
abbrev main_cst_45 : Ref sig .tc := ⟨.hbm, 396, rfl⟩
abbrev main_v346 : Ref sig .tc := ⟨.hbm, 397, rfl⟩
abbrev main_v347 : Ref sig .tc := ⟨.hbm, 398, rfl⟩
abbrev main_v348 : Ref sig .tc := ⟨.hbm, 399, rfl⟩
abbrev main_v349 : Ref sig .tc := ⟨.hbm, 400, rfl⟩
abbrev main_cst_46 : Ref sig .tc := ⟨.hbm, 401, rfl⟩
abbrev main_v350 : Ref sig .tc := ⟨.hbm, 402, rfl⟩
abbrev main_v351 : Ref sig .tc := ⟨.hbm, 403, rfl⟩
abbrev main_cst_47 : Ref sig .tc := ⟨.hbm, 404, rfl⟩
abbrev main_v352 : Ref sig .tc := ⟨.hbm, 405, rfl⟩
abbrev main_v353 : Ref sig .tc := ⟨.hbm, 406, rfl⟩
abbrev main_cst_48 : Ref sig .tc := ⟨.hbm, 407, rfl⟩
abbrev main_v354 : Ref sig .tc := ⟨.hbm, 408, rfl⟩
abbrev main_v355 : Ref sig .tc := ⟨.hbm, 409, rfl⟩
abbrev main_v356 : Ref sig .tc := ⟨.hbm, 410, rfl⟩
abbrev main_cst_49 : Ref sig .tc := ⟨.hbm, 411, rfl⟩
abbrev main_v357 : Ref sig .tc := ⟨.hbm, 412, rfl⟩
abbrev main_v358 : Ref sig .tc := ⟨.hbm, 413, rfl⟩
abbrev main_v359 : Ref sig .tc := ⟨.hbm, 414, rfl⟩
abbrev main_v360 : Ref sig .tc := ⟨.hbm, 415, rfl⟩
abbrev main_cst_50 : Ref sig .tc := ⟨.hbm, 416, rfl⟩
abbrev main_v361 : Ref sig .tc := ⟨.hbm, 417, rfl⟩
abbrev main_v362 : Ref sig .tc := ⟨.hbm, 418, rfl⟩
abbrev main_cst_51 : Ref sig .tc := ⟨.hbm, 419, rfl⟩
abbrev main_v363 : Ref sig .tc := ⟨.hbm, 420, rfl⟩
abbrev main_v364 : Ref sig .tc := ⟨.hbm, 421, rfl⟩
abbrev main_cst_52 : Ref sig .tc := ⟨.hbm, 422, rfl⟩
abbrev main_v365 : Ref sig .tc := ⟨.hbm, 423, rfl⟩
abbrev main_v366 : Ref sig .tc := ⟨.hbm, 424, rfl⟩
abbrev main_v367 : Ref sig .tc := ⟨.hbm, 425, rfl⟩
abbrev main_cst_53 : Ref sig .tc := ⟨.hbm, 426, rfl⟩
abbrev main_v368 : Ref sig .tc := ⟨.hbm, 427, rfl⟩
abbrev main_v369 : Ref sig .tc := ⟨.hbm, 428, rfl⟩
abbrev main_v370 : Ref sig .tc := ⟨.hbm, 429, rfl⟩
abbrev main_v371 : Ref sig .tc := ⟨.hbm, 430, rfl⟩
abbrev main_cst_54 : Ref sig .tc := ⟨.hbm, 431, rfl⟩
abbrev main_v372 : Ref sig .tc := ⟨.hbm, 432, rfl⟩
abbrev main_v373 : Ref sig .tc := ⟨.hbm, 433, rfl⟩
abbrev main_cst_55 : Ref sig .tc := ⟨.hbm, 434, rfl⟩
abbrev main_v374 : Ref sig .tc := ⟨.hbm, 435, rfl⟩
abbrev main_v375 : Ref sig .tc := ⟨.hbm, 436, rfl⟩
abbrev main_cst_56 : Ref sig .tc := ⟨.hbm, 437, rfl⟩
abbrev main_v376 : Ref sig .tc := ⟨.hbm, 438, rfl⟩
abbrev main_v377 : Ref sig .tc := ⟨.hbm, 439, rfl⟩
abbrev main_v378 : Ref sig .tc := ⟨.hbm, 440, rfl⟩
abbrev main_cst_57 : Ref sig .tc := ⟨.hbm, 441, rfl⟩
abbrev main_v379 : Ref sig .tc := ⟨.hbm, 442, rfl⟩
abbrev main_v380 : Ref sig .tc := ⟨.hbm, 443, rfl⟩
abbrev main_v381 : Ref sig .tc := ⟨.hbm, 444, rfl⟩
abbrev main_v382 : Ref sig .tc := ⟨.hbm, 445, rfl⟩
abbrev main_cst_58 : Ref sig .tc := ⟨.hbm, 446, rfl⟩
abbrev main_v383 : Ref sig .tc := ⟨.hbm, 447, rfl⟩
abbrev main_v384 : Ref sig .tc := ⟨.hbm, 448, rfl⟩
abbrev main_cst_59 : Ref sig .tc := ⟨.hbm, 449, rfl⟩
abbrev main_v385 : Ref sig .tc := ⟨.hbm, 450, rfl⟩
abbrev main_v386 : Ref sig .tc := ⟨.hbm, 451, rfl⟩
abbrev main_cst_60 : Ref sig .tc := ⟨.hbm, 452, rfl⟩
abbrev main_v387 : Ref sig .tc := ⟨.hbm, 453, rfl⟩
abbrev main_v388 : Ref sig .tc := ⟨.hbm, 454, rfl⟩
abbrev main_v389 : Ref sig .tc := ⟨.hbm, 455, rfl⟩
abbrev main_cst_61 : Ref sig .tc := ⟨.hbm, 456, rfl⟩
abbrev main_v390 : Ref sig .tc := ⟨.hbm, 457, rfl⟩
abbrev main_v391 : Ref sig .tc := ⟨.hbm, 458, rfl⟩
abbrev main_v392 : Ref sig .tc := ⟨.hbm, 459, rfl⟩
abbrev main_v393 : Ref sig .tc := ⟨.hbm, 460, rfl⟩
abbrev main_cst_62 : Ref sig .tc := ⟨.hbm, 461, rfl⟩
abbrev main_v394 : Ref sig .tc := ⟨.hbm, 462, rfl⟩
abbrev main_v395 : Ref sig .tc := ⟨.hbm, 463, rfl⟩
abbrev main_cst_63 : Ref sig .tc := ⟨.hbm, 464, rfl⟩
abbrev main_v396 : Ref sig .tc := ⟨.hbm, 465, rfl⟩
abbrev main_v397 : Ref sig .tc := ⟨.hbm, 466, rfl⟩
abbrev main_cst_64 : Ref sig .tc := ⟨.hbm, 467, rfl⟩
abbrev main_v398 : Ref sig .tc := ⟨.hbm, 468, rfl⟩
abbrev main_v399 : Ref sig .tc := ⟨.hbm, 469, rfl⟩
abbrev main_v400 : Ref sig .tc := ⟨.hbm, 470, rfl⟩
abbrev main_cst_65 : Ref sig .tc := ⟨.hbm, 471, rfl⟩
abbrev main_v401 : Ref sig .tc := ⟨.hbm, 472, rfl⟩
abbrev main_v402 : Ref sig .tc := ⟨.hbm, 473, rfl⟩
abbrev main_v403 : Ref sig .tc := ⟨.hbm, 474, rfl⟩
abbrev main_v404 : Ref sig .tc := ⟨.hbm, 475, rfl⟩
abbrev main_cst_66 : Ref sig .tc := ⟨.hbm, 476, rfl⟩
abbrev main_v405 : Ref sig .tc := ⟨.hbm, 477, rfl⟩
abbrev main_v406 : Ref sig .tc := ⟨.hbm, 478, rfl⟩
abbrev main_cst_67 : Ref sig .tc := ⟨.hbm, 479, rfl⟩
abbrev main_v407 : Ref sig .tc := ⟨.hbm, 480, rfl⟩
abbrev main_v408 : Ref sig .tc := ⟨.hbm, 481, rfl⟩
abbrev main_cst_68 : Ref sig .tc := ⟨.hbm, 482, rfl⟩
abbrev main_v409 : Ref sig .tc := ⟨.hbm, 483, rfl⟩
abbrev main_v410 : Ref sig .tc := ⟨.hbm, 484, rfl⟩
abbrev main_v411 : Ref sig .tc := ⟨.hbm, 485, rfl⟩
abbrev main_cst_69 : Ref sig .tc := ⟨.hbm, 486, rfl⟩
abbrev main_v412 : Ref sig .tc := ⟨.hbm, 487, rfl⟩
abbrev main_v413 : Ref sig .tc := ⟨.hbm, 488, rfl⟩
abbrev main_v414 : Ref sig .tc := ⟨.hbm, 489, rfl⟩
abbrev main_v415 : Ref sig .tc := ⟨.hbm, 490, rfl⟩
abbrev main_cst_70 : Ref sig .tc := ⟨.hbm, 491, rfl⟩
abbrev main_v416 : Ref sig .tc := ⟨.hbm, 492, rfl⟩
abbrev main_v417 : Ref sig .tc := ⟨.hbm, 493, rfl⟩
abbrev main_cst_71 : Ref sig .tc := ⟨.hbm, 494, rfl⟩
abbrev main_v418 : Ref sig .tc := ⟨.hbm, 495, rfl⟩
abbrev main_v419 : Ref sig .tc := ⟨.hbm, 496, rfl⟩
abbrev main_cst_72 : Ref sig .tc := ⟨.hbm, 497, rfl⟩
abbrev main_v420 : Ref sig .tc := ⟨.hbm, 498, rfl⟩
abbrev main_v421 : Ref sig .tc := ⟨.hbm, 499, rfl⟩
abbrev main_v422 : Ref sig .tc := ⟨.hbm, 500, rfl⟩
abbrev main_cst_73 : Ref sig .tc := ⟨.hbm, 501, rfl⟩
abbrev main_v423 : Ref sig .tc := ⟨.hbm, 502, rfl⟩
abbrev main_v424 : Ref sig .tc := ⟨.hbm, 503, rfl⟩
abbrev main_v425 : Ref sig .tc := ⟨.hbm, 504, rfl⟩
abbrev main_v426 : Ref sig .tc := ⟨.hbm, 505, rfl⟩
abbrev main_cst_74 : Ref sig .tc := ⟨.hbm, 506, rfl⟩
abbrev main_v427 : Ref sig .tc := ⟨.hbm, 507, rfl⟩
abbrev main_v428 : Ref sig .tc := ⟨.hbm, 508, rfl⟩
abbrev main_cst_75 : Ref sig .tc := ⟨.hbm, 509, rfl⟩
abbrev main_v429 : Ref sig .tc := ⟨.hbm, 510, rfl⟩
abbrev main_v430 : Ref sig .tc := ⟨.hbm, 511, rfl⟩
abbrev main_cst_76 : Ref sig .tc := ⟨.hbm, 512, rfl⟩
abbrev main_v431 : Ref sig .tc := ⟨.hbm, 513, rfl⟩
abbrev main_v432 : Ref sig .tc := ⟨.hbm, 514, rfl⟩
abbrev main_v433 : Ref sig .tc := ⟨.hbm, 515, rfl⟩
abbrev main_cst_77 : Ref sig .tc := ⟨.hbm, 516, rfl⟩
abbrev main_v434 : Ref sig .tc := ⟨.hbm, 517, rfl⟩
abbrev main_v435 : Ref sig .tc := ⟨.hbm, 518, rfl⟩
abbrev main_v436 : Ref sig .tc := ⟨.hbm, 519, rfl⟩
abbrev main_v437 : Ref sig .tc := ⟨.hbm, 520, rfl⟩
abbrev main_cst_78 : Ref sig .tc := ⟨.hbm, 521, rfl⟩
abbrev main_v438 : Ref sig .tc := ⟨.hbm, 522, rfl⟩
abbrev main_v439 : Ref sig .tc := ⟨.hbm, 523, rfl⟩
abbrev main_cst_79 : Ref sig .tc := ⟨.hbm, 524, rfl⟩
abbrev main_v440 : Ref sig .tc := ⟨.hbm, 525, rfl⟩
abbrev main_v441 : Ref sig .tc := ⟨.hbm, 526, rfl⟩
abbrev main_cst_80 : Ref sig .tc := ⟨.hbm, 527, rfl⟩
abbrev main_v442 : Ref sig .tc := ⟨.hbm, 528, rfl⟩
abbrev main_v443 : Ref sig .tc := ⟨.hbm, 529, rfl⟩
abbrev main_v444 : Ref sig .tc := ⟨.hbm, 530, rfl⟩
abbrev main_cst_81 : Ref sig .tc := ⟨.hbm, 531, rfl⟩
abbrev main_v445 : Ref sig .tc := ⟨.hbm, 532, rfl⟩
abbrev main_v446 : Ref sig .tc := ⟨.hbm, 533, rfl⟩
abbrev main_v447 : Ref sig .tc := ⟨.hbm, 534, rfl⟩
abbrev main_v448 : Ref sig .tc := ⟨.hbm, 535, rfl⟩
abbrev main_cst_82 : Ref sig .tc := ⟨.hbm, 536, rfl⟩
abbrev main_v449 : Ref sig .tc := ⟨.hbm, 537, rfl⟩
abbrev main_v450 : Ref sig .tc := ⟨.hbm, 538, rfl⟩
abbrev main_cst_83 : Ref sig .tc := ⟨.hbm, 539, rfl⟩
abbrev main_v451 : Ref sig .tc := ⟨.hbm, 540, rfl⟩
abbrev main_v452 : Ref sig .tc := ⟨.hbm, 541, rfl⟩
abbrev main_cst_84 : Ref sig .tc := ⟨.hbm, 542, rfl⟩
abbrev main_v453 : Ref sig .tc := ⟨.hbm, 543, rfl⟩
abbrev main_v454 : Ref sig .tc := ⟨.hbm, 544, rfl⟩
abbrev main_v455 : Ref sig .tc := ⟨.hbm, 545, rfl⟩
abbrev main_cst_85 : Ref sig .tc := ⟨.hbm, 546, rfl⟩
abbrev main_v456 : Ref sig .tc := ⟨.hbm, 547, rfl⟩
abbrev main_v457 : Ref sig .tc := ⟨.hbm, 548, rfl⟩
abbrev main_v458 : Ref sig .tc := ⟨.hbm, 549, rfl⟩
abbrev main_v459 : Ref sig .tc := ⟨.hbm, 550, rfl⟩
abbrev main_cst_86 : Ref sig .tc := ⟨.hbm, 551, rfl⟩
abbrev main_v460 : Ref sig .tc := ⟨.hbm, 552, rfl⟩
abbrev main_v461 : Ref sig .tc := ⟨.hbm, 553, rfl⟩
abbrev main_cst_87 : Ref sig .tc := ⟨.hbm, 554, rfl⟩
abbrev main_v462 : Ref sig .tc := ⟨.hbm, 555, rfl⟩
abbrev main_v463 : Ref sig .tc := ⟨.hbm, 556, rfl⟩
abbrev main_cst_88 : Ref sig .tc := ⟨.hbm, 557, rfl⟩
abbrev main_v464 : Ref sig .tc := ⟨.hbm, 558, rfl⟩
abbrev main_v465 : Ref sig .tc := ⟨.hbm, 559, rfl⟩
abbrev main_v466 : Ref sig .tc := ⟨.hbm, 560, rfl⟩
abbrev main_cst_89 : Ref sig .tc := ⟨.hbm, 561, rfl⟩
abbrev main_v467 : Ref sig .tc := ⟨.hbm, 562, rfl⟩
abbrev main_v468 : Ref sig .tc := ⟨.hbm, 563, rfl⟩
abbrev main_v469 : Ref sig .tc := ⟨.hbm, 564, rfl⟩
abbrev main_v470 : Ref sig .tc := ⟨.hbm, 565, rfl⟩
abbrev main_cst_90 : Ref sig .tc := ⟨.hbm, 566, rfl⟩
abbrev main_v471 : Ref sig .tc := ⟨.hbm, 567, rfl⟩
abbrev main_v472 : Ref sig .tc := ⟨.hbm, 568, rfl⟩
abbrev main_cst_91 : Ref sig .tc := ⟨.hbm, 569, rfl⟩
abbrev main_v473 : Ref sig .tc := ⟨.hbm, 570, rfl⟩
abbrev main_v474 : Ref sig .tc := ⟨.hbm, 571, rfl⟩
abbrev main_cst_92 : Ref sig .tc := ⟨.hbm, 572, rfl⟩
abbrev main_v475 : Ref sig .tc := ⟨.hbm, 573, rfl⟩
abbrev main_v476 : Ref sig .tc := ⟨.hbm, 574, rfl⟩
abbrev main_v477 : Ref sig .tc := ⟨.hbm, 575, rfl⟩
abbrev main_cst_93 : Ref sig .tc := ⟨.hbm, 576, rfl⟩
abbrev main_v478 : Ref sig .tc := ⟨.hbm, 577, rfl⟩
abbrev main_v479 : Ref sig .tc := ⟨.hbm, 578, rfl⟩
abbrev main_v480 : Ref sig .tc := ⟨.hbm, 579, rfl⟩
abbrev main_v481 : Ref sig .tc := ⟨.hbm, 580, rfl⟩
abbrev main_cst_94 : Ref sig .tc := ⟨.hbm, 581, rfl⟩
abbrev main_v482 : Ref sig .tc := ⟨.hbm, 582, rfl⟩
abbrev main_v483 : Ref sig .tc := ⟨.hbm, 583, rfl⟩
abbrev main_cst_95 : Ref sig .tc := ⟨.hbm, 584, rfl⟩
abbrev main_v484 : Ref sig .tc := ⟨.hbm, 585, rfl⟩
abbrev main_v485 : Ref sig .tc := ⟨.hbm, 586, rfl⟩
abbrev main_cst_96 : Ref sig .tc := ⟨.hbm, 587, rfl⟩
abbrev main_v486 : Ref sig .tc := ⟨.hbm, 588, rfl⟩
abbrev main_v487 : Ref sig .tc := ⟨.hbm, 589, rfl⟩
abbrev main_v488 : Ref sig .tc := ⟨.hbm, 590, rfl⟩
abbrev main_cst_97 : Ref sig .tc := ⟨.hbm, 591, rfl⟩
abbrev main_v489 : Ref sig .tc := ⟨.hbm, 592, rfl⟩
abbrev main_v490 : Ref sig .tc := ⟨.hbm, 593, rfl⟩
abbrev main_v491 : Ref sig .tc := ⟨.hbm, 594, rfl⟩
abbrev main_v492 : Ref sig .tc := ⟨.hbm, 595, rfl⟩
abbrev main_cst_98 : Ref sig .tc := ⟨.hbm, 596, rfl⟩
abbrev main_v493 : Ref sig .tc := ⟨.hbm, 597, rfl⟩
abbrev main_v494 : Ref sig .tc := ⟨.hbm, 598, rfl⟩
abbrev main_cst_99 : Ref sig .tc := ⟨.hbm, 599, rfl⟩
abbrev main_v495 : Ref sig .tc := ⟨.hbm, 600, rfl⟩
abbrev main_v496 : Ref sig .tc := ⟨.hbm, 601, rfl⟩
abbrev main_cst_100 : Ref sig .tc := ⟨.hbm, 602, rfl⟩
abbrev main_v497 : Ref sig .tc := ⟨.hbm, 603, rfl⟩
abbrev main_v498 : Ref sig .tc := ⟨.hbm, 604, rfl⟩
abbrev main_v499 : Ref sig .tc := ⟨.hbm, 605, rfl⟩
abbrev main_cst_101 : Ref sig .tc := ⟨.hbm, 606, rfl⟩
abbrev main_v500 : Ref sig .tc := ⟨.hbm, 607, rfl⟩
abbrev main_v501 : Ref sig .tc := ⟨.hbm, 608, rfl⟩
abbrev main_v502 : Ref sig .tc := ⟨.hbm, 609, rfl⟩
abbrev main_v503 : Ref sig .tc := ⟨.hbm, 610, rfl⟩
abbrev main_cst_102 : Ref sig .tc := ⟨.hbm, 611, rfl⟩
abbrev main_v504 : Ref sig .tc := ⟨.hbm, 612, rfl⟩
abbrev main_v505 : Ref sig .tc := ⟨.hbm, 613, rfl⟩
abbrev main_cst_103 : Ref sig .tc := ⟨.hbm, 614, rfl⟩
abbrev main_v506 : Ref sig .tc := ⟨.hbm, 615, rfl⟩
abbrev main_v507 : Ref sig .tc := ⟨.hbm, 616, rfl⟩
abbrev main_cst_104 : Ref sig .tc := ⟨.hbm, 617, rfl⟩
abbrev main_v508 : Ref sig .tc := ⟨.hbm, 618, rfl⟩
abbrev main_v509 : Ref sig .tc := ⟨.hbm, 619, rfl⟩
abbrev main_v510 : Ref sig .tc := ⟨.hbm, 620, rfl⟩
abbrev main_cst_105 : Ref sig .tc := ⟨.hbm, 621, rfl⟩
abbrev main_v511 : Ref sig .tc := ⟨.hbm, 622, rfl⟩
abbrev main_v512 : Ref sig .tc := ⟨.hbm, 623, rfl⟩
abbrev main_v513 : Ref sig .tc := ⟨.hbm, 624, rfl⟩
abbrev main_v514 : Ref sig .tc := ⟨.hbm, 625, rfl⟩
abbrev main_cst_106 : Ref sig .tc := ⟨.hbm, 626, rfl⟩
abbrev main_v515 : Ref sig .tc := ⟨.hbm, 627, rfl⟩
abbrev main_v516 : Ref sig .tc := ⟨.hbm, 628, rfl⟩
abbrev main_cst_107 : Ref sig .tc := ⟨.hbm, 629, rfl⟩
abbrev main_v517 : Ref sig .tc := ⟨.hbm, 630, rfl⟩
abbrev main_v518 : Ref sig .tc := ⟨.hbm, 631, rfl⟩
abbrev main_cst_108 : Ref sig .tc := ⟨.hbm, 632, rfl⟩
abbrev main_v519 : Ref sig .tc := ⟨.hbm, 633, rfl⟩
abbrev main_v520 : Ref sig .tc := ⟨.hbm, 634, rfl⟩
abbrev main_v521 : Ref sig .tc := ⟨.hbm, 635, rfl⟩
abbrev main_cst_109 : Ref sig .tc := ⟨.hbm, 636, rfl⟩
abbrev main_v522 : Ref sig .tc := ⟨.hbm, 637, rfl⟩
abbrev main_v523 : Ref sig .tc := ⟨.hbm, 638, rfl⟩
abbrev main_v524 : Ref sig .tc := ⟨.hbm, 639, rfl⟩
abbrev main_v525 : Ref sig .tc := ⟨.hbm, 640, rfl⟩
abbrev main_cst_110 : Ref sig .tc := ⟨.hbm, 641, rfl⟩
abbrev main_v526 : Ref sig .tc := ⟨.hbm, 642, rfl⟩
abbrev main_v527 : Ref sig .tc := ⟨.hbm, 643, rfl⟩
abbrev main_cst_111 : Ref sig .tc := ⟨.hbm, 644, rfl⟩
abbrev main_v528 : Ref sig .tc := ⟨.hbm, 645, rfl⟩
abbrev main_v529 : Ref sig .tc := ⟨.hbm, 646, rfl⟩
abbrev main_cst_112 : Ref sig .tc := ⟨.hbm, 647, rfl⟩
abbrev main_v530 : Ref sig .tc := ⟨.hbm, 648, rfl⟩
abbrev main_v531 : Ref sig .tc := ⟨.hbm, 649, rfl⟩
abbrev main_v532 : Ref sig .tc := ⟨.hbm, 650, rfl⟩
abbrev main_cst_113 : Ref sig .tc := ⟨.hbm, 651, rfl⟩
abbrev main_v533 : Ref sig .tc := ⟨.hbm, 652, rfl⟩
abbrev main_v534 : Ref sig .tc := ⟨.hbm, 653, rfl⟩
abbrev main_v535 : Ref sig .tc := ⟨.hbm, 654, rfl⟩
abbrev main_v536 : Ref sig .tc := ⟨.hbm, 655, rfl⟩
abbrev main_cst_114 : Ref sig .tc := ⟨.hbm, 656, rfl⟩
abbrev main_v537 : Ref sig .tc := ⟨.hbm, 657, rfl⟩
abbrev main_v538 : Ref sig .tc := ⟨.hbm, 658, rfl⟩
abbrev main_cst_115 : Ref sig .tc := ⟨.hbm, 659, rfl⟩
abbrev main_v539 : Ref sig .tc := ⟨.hbm, 660, rfl⟩
abbrev main_v540 : Ref sig .tc := ⟨.hbm, 661, rfl⟩
abbrev main_cst_116 : Ref sig .tc := ⟨.hbm, 662, rfl⟩
abbrev main_v541 : Ref sig .tc := ⟨.hbm, 663, rfl⟩
abbrev main_v542 : Ref sig .tc := ⟨.hbm, 664, rfl⟩
abbrev main_v543 : Ref sig .tc := ⟨.hbm, 665, rfl⟩
abbrev main_cst_117 : Ref sig .tc := ⟨.hbm, 666, rfl⟩
abbrev main_v544 : Ref sig .tc := ⟨.hbm, 667, rfl⟩
abbrev main_v545 : Ref sig .tc := ⟨.hbm, 668, rfl⟩
abbrev main_v546 : Ref sig .tc := ⟨.hbm, 669, rfl⟩
abbrev main_v547 : Ref sig .tc := ⟨.hbm, 670, rfl⟩
abbrev main_cst_118 : Ref sig .tc := ⟨.hbm, 671, rfl⟩
abbrev main_v548 : Ref sig .tc := ⟨.hbm, 672, rfl⟩
abbrev main_v549 : Ref sig .tc := ⟨.hbm, 673, rfl⟩
abbrev main_cst_119 : Ref sig .tc := ⟨.hbm, 674, rfl⟩
abbrev main_v550 : Ref sig .tc := ⟨.hbm, 675, rfl⟩
abbrev main_v551 : Ref sig .tc := ⟨.hbm, 676, rfl⟩
abbrev main_cst_120 : Ref sig .tc := ⟨.hbm, 677, rfl⟩
abbrev main_v552 : Ref sig .tc := ⟨.hbm, 678, rfl⟩
abbrev main_v553 : Ref sig .tc := ⟨.hbm, 679, rfl⟩
abbrev main_v554 : Ref sig .tc := ⟨.hbm, 680, rfl⟩
abbrev main_cst_121 : Ref sig .tc := ⟨.hbm, 681, rfl⟩
abbrev main_v555 : Ref sig .tc := ⟨.hbm, 682, rfl⟩
abbrev main_v556 : Ref sig .tc := ⟨.hbm, 683, rfl⟩
abbrev main_v557 : Ref sig .tc := ⟨.hbm, 684, rfl⟩
abbrev main_v558 : Ref sig .tc := ⟨.hbm, 685, rfl⟩
abbrev main_cst_122 : Ref sig .tc := ⟨.hbm, 686, rfl⟩
abbrev main_v559 : Ref sig .tc := ⟨.hbm, 687, rfl⟩
abbrev main_v560 : Ref sig .tc := ⟨.hbm, 688, rfl⟩
abbrev main_cst_123 : Ref sig .tc := ⟨.hbm, 689, rfl⟩
abbrev main_v561 : Ref sig .tc := ⟨.hbm, 690, rfl⟩
abbrev main_v562 : Ref sig .tc := ⟨.hbm, 691, rfl⟩
abbrev main_cst_124 : Ref sig .tc := ⟨.hbm, 692, rfl⟩
abbrev main_v563 : Ref sig .tc := ⟨.hbm, 693, rfl⟩
abbrev main_v564 : Ref sig .tc := ⟨.hbm, 694, rfl⟩
abbrev main_v565 : Ref sig .tc := ⟨.hbm, 695, rfl⟩
abbrev main_cst_125 : Ref sig .tc := ⟨.hbm, 696, rfl⟩
abbrev main_v566 : Ref sig .tc := ⟨.hbm, 697, rfl⟩
abbrev main_v567 : Ref sig .tc := ⟨.hbm, 698, rfl⟩
abbrev main_v568 : Ref sig .tc := ⟨.hbm, 699, rfl⟩
abbrev main_v569 : Ref sig .tc := ⟨.hbm, 700, rfl⟩
abbrev main_cst_126 : Ref sig .tc := ⟨.hbm, 701, rfl⟩
abbrev main_v570 : Ref sig .tc := ⟨.hbm, 702, rfl⟩
abbrev main_v571 : Ref sig .tc := ⟨.hbm, 703, rfl⟩
abbrev main_cst_127 : Ref sig .tc := ⟨.hbm, 704, rfl⟩
abbrev main_v572 : Ref sig .tc := ⟨.hbm, 705, rfl⟩
abbrev main_v573 : Ref sig .tc := ⟨.hbm, 706, rfl⟩
abbrev main_cst_128 : Ref sig .tc := ⟨.hbm, 707, rfl⟩
abbrev main_v574 : Ref sig .tc := ⟨.hbm, 708, rfl⟩
abbrev main_v575 : Ref sig .tc := ⟨.hbm, 709, rfl⟩
abbrev main_v576 : Ref sig .tc := ⟨.hbm, 710, rfl⟩
abbrev main_v577 : Ref sig .tc := ⟨.hbm, 711, rfl⟩
abbrev main_cst_129 : Ref sig .tc := ⟨.hbm, 712, rfl⟩
abbrev main_v578 : Ref sig .tc := ⟨.hbm, 713, rfl⟩
abbrev main_v579 : Ref sig .tc := ⟨.hbm, 714, rfl⟩

abbrev nD : Nat := 1
abbrev τ : Topo := Topo.v7x

variable {F : FTy → Type} [FloatOps F]
-- ==== ConvF.lean ====
abbrev S4224x14848 : Shape := ⟨2, ![4224, 14848]⟩
abbrev S31x2048 : Shape := ⟨2, ![31, 2048]⟩
abbrev S1x2048 : Shape := ⟨2, ![1, 2048]⟩
abbrev S_ : Shape := ⟨0, ![]⟩
abbrev S32x2048 : Shape := ⟨2, ![32, 2048]⟩
abbrev S4224x2048 : Shape := ⟨2, ![4224, 2048]⟩
abbrev S384x512 : Shape := ⟨2, ![384, 512]⟩
abbrev S32x512 : Shape := ⟨2, ![32, 512]⟩
abbrev S1x512 : Shape := ⟨2, ![1, 512]⟩
abbrev S416x512 : Shape := ⟨2, ![416, 512]⟩

abbrev nBuf : Space → Nat
  | .hbm => 7
  | .vmem => 15
  | .smem => 0
  | _ => 0

abbrev bufTy : (tb : Table) → Fin (tcTables nBuf tb) → BufTy
  | .hbm, ⟨0, _⟩ => ⟨S4224x14848, .bf16⟩
  | .hbm, ⟨1, _⟩ => ⟨S31x2048, .f32⟩
  | .hbm, ⟨2, _⟩ => ⟨S1x2048, .f32⟩
  | .hbm, ⟨3, _⟩ => ⟨S_, .f32⟩
  | .hbm, ⟨4, _⟩ => ⟨S1x2048, .f32⟩
  | .hbm, ⟨5, _⟩ => ⟨S32x2048, .f32⟩
  | .hbm, ⟨6, _⟩ => ⟨S4224x2048, .f32⟩
  | .local _ .vmem, ⟨0, _⟩ => ⟨S384x512, .bf16⟩
  | .local _ .vmem, ⟨1, _⟩ => ⟨S384x512, .bf16⟩
  | .local _ .vmem, ⟨2, _⟩ => ⟨S384x512, .bf16⟩
  | .local _ .vmem, ⟨3, _⟩ => ⟨S384x512, .bf16⟩
  | .local _ .vmem, ⟨4, _⟩ => ⟨S32x512, .bf16⟩
  | .local _ .vmem, ⟨5, _⟩ => ⟨S32x512, .bf16⟩
  | .local _ .vmem, ⟨6, _⟩ => ⟨S32x512, .bf16⟩
  | .local _ .vmem, ⟨7, _⟩ => ⟨S32x512, .bf16⟩
  | .local _ .vmem, ⟨8, _⟩ => ⟨S32x512, .f32⟩
  | .local _ .vmem, ⟨9, _⟩ => ⟨S32x512, .f32⟩
  | .local _ .vmem, ⟨10, _⟩ => ⟨S1x512, .f32⟩
  | .local _ .vmem, ⟨11, _⟩ => ⟨S1x512, .f32⟩
  | .local _ .vmem, ⟨12, _⟩ => ⟨S384x512, .f32⟩
  | .local _ .vmem, ⟨13, _⟩ => ⟨S384x512, .f32⟩
  | .local _ .vmem, ⟨14, _⟩ => ⟨S416x512, .f32⟩
  | _, _ => ⟨S4224x14848, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let v3 : BitVec 32 := Scalar.addi c5_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let v3 : BitVec 32 := Scalar.addi c9_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S384x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvFRefIdeal.lean ====
abbrev S4224x14848 : Shape := ⟨2, ![4224, 14848]⟩
abbrev S31x2048 : Shape := ⟨2, ![31, 2048]⟩
abbrev S1x2048 : Shape := ⟨2, ![1, 2048]⟩
abbrev S4224x4096 : Shape := ⟨2, ![4224, 4096]⟩
abbrev S4224x2048 : Shape := ⟨2, ![4224, 2048]⟩
abbrev S_ : Shape := ⟨0, ![]⟩
abbrev S30x2048 : Shape := ⟨2, ![30, 2048]⟩
abbrev S4254x2048 : Shape := ⟨2, ![4254, 2048]⟩
abbrev S2048 : Shape := ⟨1, ![2048]⟩

abbrev nBuf : Space → Nat
  | .hbm => 240
  | .vmem => 0
  | .smem => 0
  | _ => 0

abbrev hbmTy0_0 (i : Nat) : BufTy := match i % 128 with
  | 0 => ⟨S4224x14848, .bf16⟩
  | 1 => ⟨S31x2048, .f32⟩
  | 2 => ⟨S1x2048, .f32⟩
  | 3 => ⟨S4224x4096, .bf16⟩
  | 4 => ⟨S4224x4096, .f32⟩
  | 5 => ⟨S4224x2048, .f32⟩
  | 6 => ⟨S4224x2048, .f32⟩
  | 7 => ⟨S4224x2048, .f32⟩
  | 8 => ⟨S4224x2048, .f32⟩
  | 9 => ⟨S_, .f32⟩
  | 10 => ⟨S4224x2048, .f32⟩
  | 11 => ⟨S4224x2048, .f32⟩
  | 12 => ⟨S_, .f32⟩
  | 13 => ⟨S4224x2048, .f32⟩
  | 14 => ⟨S4224x2048, .f32⟩
  | 15 => ⟨S4224x2048, .f32⟩
  | 16 => ⟨S_, .f32⟩
  | 17 => ⟨S30x2048, .f32⟩
  | 18 => ⟨S4254x2048, .f32⟩
  | 19 => ⟨S4224x2048, .f32⟩
  | 20 => ⟨S1x2048, .f32⟩
  | 21 => ⟨S2048, .f32⟩
  | 22 => ⟨S1x2048, .f32⟩
  | 23 => ⟨S4224x2048, .f32⟩
  | 24 => ⟨S4224x2048, .f32⟩
  | 25 => ⟨S_, .f32⟩
  | 26 => ⟨S4224x2048, .f32⟩
  | 27 => ⟨S4224x2048, .f32⟩
  | 28 => ⟨S4224x2048, .f32⟩
  | 29 => ⟨S1x2048, .f32⟩
  | 30 => ⟨S2048, .f32⟩
  | 31 => ⟨S1x2048, .f32⟩
  | 32 => ⟨S4224x2048, .f32⟩
  | 33 => ⟨S4224x2048, .f32⟩
  | 34 => ⟨S4224x2048, .f32⟩
  | 35 => ⟨S4224x2048, .f32⟩
  | 36 => ⟨S1x2048, .f32⟩
  | 37 => ⟨S2048, .f32⟩
  | 38 => ⟨S1x2048, .f32⟩
  | 39 => ⟨S4224x2048, .f32⟩
  | 40 => ⟨S4224x2048, .f32⟩
  | 41 => ⟨S4224x2048, .f32⟩
  | 42 => ⟨S4224x2048, .f32⟩
  | 43 => ⟨S1x2048, .f32⟩
  | 44 => ⟨S2048, .f32⟩
  | 45 => ⟨S1x2048, .f32⟩
  | 46 => ⟨S4224x2048, .f32⟩
  | 47 => ⟨S4224x2048, .f32⟩
  | 48 => ⟨S4224x2048, .f32⟩
  | 49 => ⟨S4224x2048, .f32⟩
  | 50 => ⟨S1x2048, .f32⟩
  | 51 => ⟨S2048, .f32⟩
  | 52 => ⟨S1x2048, .f32⟩
  | 53 => ⟨S4224x2048, .f32⟩
  | 54 => ⟨S4224x2048, .f32⟩
  | 55 => ⟨S4224x2048, .f32⟩
  | 56 => ⟨S4224x2048, .f32⟩
  | 57 => ⟨S1x2048, .f32⟩
  | 58 => ⟨S2048, .f32⟩
  | 59 => ⟨S1x2048, .f32⟩
  | 60 => ⟨S4224x2048, .f32⟩
  | 61 => ⟨S4224x2048, .f32⟩
  | 62 => ⟨S4224x2048, .f32⟩
  | 63 => ⟨S4224x2048, .f32⟩
  | 64 => ⟨S1x2048, .f32⟩
  | 65 => ⟨S2048, .f32⟩
  | 66 => ⟨S1x2048, .f32⟩
  | 67 => ⟨S4224x2048, .f32⟩
  | 68 => ⟨S4224x2048, .f32⟩
  | 69 => ⟨S4224x2048, .f32⟩
  | 70 => ⟨S4224x2048, .f32⟩
  | 71 => ⟨S1x2048, .f32⟩
  | 72 => ⟨S2048, .f32⟩
  | 73 => ⟨S1x2048, .f32⟩
  | 74 => ⟨S4224x2048, .f32⟩
  | 75 => ⟨S4224x2048, .f32⟩
  | 76 => ⟨S4224x2048, .f32⟩
  | 77 => ⟨S4224x2048, .f32⟩
  | 78 => ⟨S1x2048, .f32⟩
  | 79 => ⟨S2048, .f32⟩
  | 80 => ⟨S1x2048, .f32⟩
  | 81 => ⟨S4224x2048, .f32⟩
  | 82 => ⟨S4224x2048, .f32⟩
  | 83 => ⟨S4224x2048, .f32⟩
  | 84 => ⟨S4224x2048, .f32⟩
  | 85 => ⟨S1x2048, .f32⟩
  | 86 => ⟨S2048, .f32⟩
  | 87 => ⟨S1x2048, .f32⟩
  | 88 => ⟨S4224x2048, .f32⟩
  | 89 => ⟨S4224x2048, .f32⟩
  | 90 => ⟨S4224x2048, .f32⟩
  | 91 => ⟨S4224x2048, .f32⟩
  | 92 => ⟨S1x2048, .f32⟩
  | 93 => ⟨S2048, .f32⟩
  | 94 => ⟨S1x2048, .f32⟩
  | 95 => ⟨S4224x2048, .f32⟩
  | 96 => ⟨S4224x2048, .f32⟩
  | 97 => ⟨S4224x2048, .f32⟩
  | 98 => ⟨S4224x2048, .f32⟩
  | 99 => ⟨S1x2048, .f32⟩
  | 100 => ⟨S2048, .f32⟩
  | 101 => ⟨S1x2048, .f32⟩
  | 102 => ⟨S4224x2048, .f32⟩
  | 103 => ⟨S4224x2048, .f32⟩
  | 104 => ⟨S4224x2048, .f32⟩
  | 105 => ⟨S4224x2048, .f32⟩
  | 106 => ⟨S1x2048, .f32⟩
  | 107 => ⟨S2048, .f32⟩
  | 108 => ⟨S1x2048, .f32⟩
  | 109 => ⟨S4224x2048, .f32⟩
  | 110 => ⟨S4224x2048, .f32⟩
  | 111 => ⟨S4224x2048, .f32⟩
  | 112 => ⟨S4224x2048, .f32⟩
  | 113 => ⟨S1x2048, .f32⟩
  | 114 => ⟨S2048, .f32⟩
  | 115 => ⟨S1x2048, .f32⟩
  | 116 => ⟨S4224x2048, .f32⟩
  | 117 => ⟨S4224x2048, .f32⟩
  | 118 => ⟨S4224x2048, .f32⟩
  | 119 => ⟨S4224x2048, .f32⟩
  | 120 => ⟨S1x2048, .f32⟩
  | 121 => ⟨S2048, .f32⟩
  | 122 => ⟨S1x2048, .f32⟩
  | 123 => ⟨S4224x2048, .f32⟩
  | 124 => ⟨S4224x2048, .f32⟩
  | 125 => ⟨S4224x2048, .f32⟩
  | 126 => ⟨S4224x2048, .f32⟩
  | 127 => ⟨S1x2048, .f32⟩
  | _ => ⟨S4224x14848, .bf16⟩

abbrev hbmTy0_1 (i : Nat) : BufTy := match i % 128 with
  | 0 => ⟨S2048, .f32⟩
  | 1 => ⟨S1x2048, .f32⟩
  | 2 => ⟨S4224x2048, .f32⟩
  | 3 => ⟨S4224x2048, .f32⟩
  | 4 => ⟨S4224x2048, .f32⟩
  | 5 => ⟨S4224x2048, .f32⟩
  | 6 => ⟨S1x2048, .f32⟩
  | 7 => ⟨S2048, .f32⟩
  | 8 => ⟨S1x2048, .f32⟩
  | 9 => ⟨S4224x2048, .f32⟩
  | 10 => ⟨S4224x2048, .f32⟩
  | 11 => ⟨S4224x2048, .f32⟩
  | 12 => ⟨S4224x2048, .f32⟩
  | 13 => ⟨S1x2048, .f32⟩
  | 14 => ⟨S2048, .f32⟩
  | 15 => ⟨S1x2048, .f32⟩
  | 16 => ⟨S4224x2048, .f32⟩
  | 17 => ⟨S4224x2048, .f32⟩
  | 18 => ⟨S4224x2048, .f32⟩
  | 19 => ⟨S4224x2048, .f32⟩
  | 20 => ⟨S1x2048, .f32⟩
  | 21 => ⟨S2048, .f32⟩
  | 22 => ⟨S1x2048, .f32⟩
  | 23 => ⟨S4224x2048, .f32⟩
  | 24 => ⟨S4224x2048, .f32⟩
  | 25 => ⟨S4224x2048, .f32⟩
  | 26 => ⟨S4224x2048, .f32⟩
  | 27 => ⟨S1x2048, .f32⟩
  | 28 => ⟨S2048, .f32⟩
  | 29 => ⟨S1x2048, .f32⟩
  | 30 => ⟨S4224x2048, .f32⟩
  | 31 => ⟨S4224x2048, .f32⟩
  | 32 => ⟨S4224x2048, .f32⟩
  | 33 => ⟨S4224x2048, .f32⟩
  | 34 => ⟨S1x2048, .f32⟩
  | 35 => ⟨S2048, .f32⟩
  | 36 => ⟨S1x2048, .f32⟩
  | 37 => ⟨S4224x2048, .f32⟩
  | 38 => ⟨S4224x2048, .f32⟩
  | 39 => ⟨S4224x2048, .f32⟩
  | 40 => ⟨S4224x2048, .f32⟩
  | 41 => ⟨S1x2048, .f32⟩
  | 42 => ⟨S2048, .f32⟩
  | 43 => ⟨S1x2048, .f32⟩
  | 44 => ⟨S4224x2048, .f32⟩
  | 45 => ⟨S4224x2048, .f32⟩
  | 46 => ⟨S4224x2048, .f32⟩
  | 47 => ⟨S4224x2048, .f32⟩
  | 48 => ⟨S1x2048, .f32⟩
  | 49 => ⟨S2048, .f32⟩
  | 50 => ⟨S1x2048, .f32⟩
  | 51 => ⟨S4224x2048, .f32⟩
  | 52 => ⟨S4224x2048, .f32⟩
  | 53 => ⟨S4224x2048, .f32⟩
  | 54 => ⟨S4224x2048, .f32⟩
  | 55 => ⟨S1x2048, .f32⟩
  | 56 => ⟨S2048, .f32⟩
  | 57 => ⟨S1x2048, .f32⟩
  | 58 => ⟨S4224x2048, .f32⟩
  | 59 => ⟨S4224x2048, .f32⟩
  | 60 => ⟨S4224x2048, .f32⟩
  | 61 => ⟨S4224x2048, .f32⟩
  | 62 => ⟨S1x2048, .f32⟩
  | 63 => ⟨S2048, .f32⟩
  | 64 => ⟨S1x2048, .f32⟩
  | 65 => ⟨S4224x2048, .f32⟩
  | 66 => ⟨S4224x2048, .f32⟩
  | 67 => ⟨S4224x2048, .f32⟩
  | 68 => ⟨S4224x2048, .f32⟩
  | 69 => ⟨S1x2048, .f32⟩
  | 70 => ⟨S2048, .f32⟩
  | 71 => ⟨S1x2048, .f32⟩
  | 72 => ⟨S4224x2048, .f32⟩
  | 73 => ⟨S4224x2048, .f32⟩
  | 74 => ⟨S4224x2048, .f32⟩
  | 75 => ⟨S4224x2048, .f32⟩
  | 76 => ⟨S1x2048, .f32⟩
  | 77 => ⟨S2048, .f32⟩
  | 78 => ⟨S1x2048, .f32⟩
  | 79 => ⟨S4224x2048, .f32⟩
  | 80 => ⟨S4224x2048, .f32⟩
  | 81 => ⟨S4224x2048, .f32⟩
  | 82 => ⟨S4224x2048, .f32⟩
  | 83 => ⟨S1x2048, .f32⟩
  | 84 => ⟨S2048, .f32⟩
  | 85 => ⟨S1x2048, .f32⟩
  | 86 => ⟨S4224x2048, .f32⟩
  | 87 => ⟨S4224x2048, .f32⟩
  | 88 => ⟨S4224x2048, .f32⟩
  | 89 => ⟨S4224x2048, .f32⟩
  | 90 => ⟨S1x2048, .f32⟩
  | 91 => ⟨S2048, .f32⟩
  | 92 => ⟨S1x2048, .f32⟩
  | 93 => ⟨S4224x2048, .f32⟩
  | 94 => ⟨S4224x2048, .f32⟩
  | 95 => ⟨S4224x2048, .f32⟩
  | 96 => ⟨S4224x2048, .f32⟩
  | 97 => ⟨S1x2048, .f32⟩
  | 98 => ⟨S2048, .f32⟩
  | 99 => ⟨S1x2048, .f32⟩
  | 100 => ⟨S4224x2048, .f32⟩
  | 101 => ⟨S4224x2048, .f32⟩
  | 102 => ⟨S4224x2048, .f32⟩
  | 103 => ⟨S4224x2048, .f32⟩
  | 104 => ⟨S1x2048, .f32⟩
  | 105 => ⟨S2048, .f32⟩
  | 106 => ⟨S1x2048, .f32⟩
  | 107 => ⟨S4224x2048, .f32⟩
  | 108 => ⟨S4224x2048, .f32⟩
  | 109 => ⟨S4224x2048, .f32⟩
  | 110 => ⟨S4224x2048, .f32⟩
  | 111 => ⟨S4224x2048, .f32⟩
  | _ => ⟨S4224x14848, .bf16⟩

abbrev hbmTy (i : Nat) : BufTy := match i / 128 with
  | 0 => hbmTy0_0 i
  | 1 => hbmTy0_1 i
  | _ => ⟨S4224x14848, .bf16⟩

abbrev bufTy : (tb : Table) → Fin (tcTables nBuf tb) → BufTy
  | .hbm, ⟨i, _⟩ => hbmTy i
  | _, _ => ⟨S4224x14848, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩
abbrev main_v232 : Ref sig .tc := ⟨.hbm, 239, rfl⟩

abbrev nD : Nat := 1
abbrev τ : Topo := Topo.v7x

variable {F : FTy → Type} [FloatOps F]
-- ==== AttnF.lean ====
abbrev S4224x2304 : Shape := ⟨2, ![4224, 2304]⟩
abbrev S4224x14848 : Shape := ⟨2, ![4224, 14848]⟩
abbrev S1x32 : Shape := ⟨2, ![1, 32]⟩
abbrev S4224x2048 : Shape := ⟨2, ![4224, 2048]⟩
abbrev S128x2048 : Shape := ⟨2, ![128, 2048]⟩
abbrev S128x256 : Shape := ⟨2, ![128, 256]⟩
abbrev S128x384 : Shape := ⟨2, ![128, 384]⟩
abbrev S128x64 : Shape := ⟨2, ![128, 64]⟩
abbrev S384x64 : Shape := ⟨2, ![384, 64]⟩
abbrev S1x1 : Shape := ⟨2, ![1, 1]⟩
abbrev S128 : Shape := ⟨1, ![128]⟩
abbrev S128x1 : Shape := ⟨2, ![128, 1]⟩

abbrev nBuf : Space → Nat
  | .hbm => 4
  | .vmem => 14
  | .smem => 1
  | _ => 0

abbrev bufTy : (tb : Table) → Fin (tcTables nBuf tb) → BufTy
  | .hbm, ⟨0, _⟩ => ⟨S4224x2304, .bf16⟩
  | .hbm, ⟨1, _⟩ => ⟨S4224x14848, .bf16⟩
  | .hbm, ⟨2, _⟩ => ⟨S1x32, .f32⟩
  | .hbm, ⟨3, _⟩ => ⟨S4224x2048, .bf16⟩
  | .local _ .vmem, ⟨0, _⟩ => ⟨S128x2048, .bf16⟩
  | .local _ .vmem, ⟨1, _⟩ => ⟨S128x2048, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x2048, .bf16⟩
  | .local _ .vmem, ⟨13, _⟩ => ⟨S128x2048, .bf16⟩
  | .local _ .smem, ⟨0, _⟩ => ⟨S1x32, .f32⟩
  | _, _ => ⟨S4224x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c9_i32 : BitVec 32 := 9#32
  let c0_i32_0 : BitVec 32 := 0#32
  ![c0_i32.toNat, c9_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  ![v1.toNat, c9_i32.toNat]

def cc0_transform_6 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnFIdeal.lean ====
variable {F : FTy → Type} [FloatOps F] [Named F]
def κ : String → Option EReal := fun
  | "mask" => some ⊥
  | _ => none
-- ==== AttnFRefIdeal.lean ====
abbrev S4224x2304 : Shape := ⟨2, ![4224, 2304]⟩
abbrev S4224x14848 : Shape := ⟨2, ![4224, 14848]⟩
abbrev S1x32 : Shape := ⟨2, ![1, 32]⟩
abbrev S4224x2048 : Shape := ⟨2, ![4224, 2048]⟩
abbrev S4224x256 : Shape := ⟨2, ![4224, 256]⟩
abbrev S4224x4x8x64 : Shape := ⟨4, ![4224, 4, 8, 64]⟩
abbrev S4224x4x64 : Shape := ⟨3, ![4224, 4, 64]⟩
abbrev S4x4224x4224x8 : Shape := ⟨4, ![4, 4224, 4224, 8]⟩
abbrev S4x8x4224x4224 : Shape := ⟨4, ![4, 8, 4224, 4224]⟩
abbrev S4224 : Shape := ⟨1, ![4224]⟩
abbrev S4224x1 : Shape := ⟨2, ![4224, 1]⟩
abbrev S1x4224 : Shape := ⟨2, ![1, 4224]⟩
abbrev S4224x4224 : Shape := ⟨2, ![4224, 4224]⟩
abbrev S_ : Shape := ⟨0, ![]⟩
abbrev S1x1x4224x4224 : Shape := ⟨4, ![1, 1, 4224, 4224]⟩
abbrev S4x8 : Shape := ⟨2, ![4, 8]⟩
abbrev S4x8x1x1 : Shape := ⟨4, ![4, 8, 1, 1]⟩
abbrev S4x8x4224x1 : Shape := ⟨4, ![4, 8, 4224, 1]⟩
abbrev S4x8x4224x4225 : Shape := ⟨4, ![4, 8, 4224, 4225]⟩
abbrev S4x8x4224 : Shape := ⟨3, ![4, 8, 4224]⟩
abbrev S4x64x8x4224 : Shape := ⟨4, ![4, 64, 8, 4224]⟩

abbrev nBuf : Space → Nat
  | .hbm => 62
  | .vmem => 0
  | .smem => 0
  | _ => 0

abbrev bufTy : (tb : Table) → Fin (tcTables nBuf tb) → BufTy
  | .hbm, ⟨0, _⟩ => ⟨S4224x2304, .bf16⟩
  | .hbm, ⟨1, _⟩ => ⟨S4224x14848, .bf16⟩
  | .hbm, ⟨2, _⟩ => ⟨S1x32, .f32⟩
  | .hbm, ⟨3, _⟩ => ⟨S4224x2048, .bf16⟩
  | .hbm, ⟨4, _⟩ => ⟨S4224x2048, .f32⟩
  | .hbm, ⟨5, _⟩ => ⟨S4224x256, .bf16⟩
  | .hbm, ⟨6, _⟩ => ⟨S4224x256, .f32⟩
  | .hbm, ⟨7, _⟩ => ⟨S4224x256, .bf16⟩
  | .hbm, ⟨8, _⟩ => ⟨S4224x256, .f32⟩
  | .hbm, ⟨9, _⟩ => ⟨S4224x4x8x64, .f32⟩
  | .hbm, ⟨10, _⟩ => ⟨S4224x4x64, .f32⟩
  | .hbm, ⟨11, _⟩ => ⟨S4224x4x64, .f32⟩
  | .hbm, ⟨12, _⟩ => ⟨S4x4224x4224x8, .f32⟩
  | .hbm, ⟨13, _⟩ => ⟨S4x8x4224x4224, .f32⟩
  | .hbm, ⟨14, _⟩ => ⟨S4224, .i32⟩
  | .hbm, ⟨15, _⟩ => ⟨S4224x1, .i32⟩
  | .hbm, ⟨16, _⟩ => ⟨S4224, .i32⟩
  | .hbm, ⟨17, _⟩ => ⟨S1x4224, .i32⟩
  | .hbm, ⟨18, _⟩ => ⟨S4224x4224, .i32⟩
  | .hbm, ⟨19, _⟩ => ⟨S4224x4224, .i32⟩
  | .hbm, ⟨20, _⟩ => ⟨S4224x4224, .i1⟩
  | .hbm, ⟨21, _⟩ => ⟨S4224x4224, .i32⟩
  | .hbm, ⟨22, _⟩ => ⟨S4224x4224, .i32⟩
  | .hbm, ⟨23, _⟩ => ⟨S4224x4224, .i32⟩
  | .hbm, ⟨24, _⟩ => ⟨S_, .i32⟩
  | .hbm, ⟨25, _⟩ => ⟨S4224x4224, .i32⟩
  | .hbm, ⟨26, _⟩ => ⟨S4224x4224, .i1⟩
  | .hbm, ⟨27, _⟩ => ⟨S_, .i32⟩
  | .hbm, ⟨28, _⟩ => ⟨S1x4224, .i32⟩
  | .hbm, ⟨29, _⟩ => ⟨S1x4224, .i1⟩
  | .hbm, ⟨30, _⟩ => ⟨S4224x4224, .i1⟩
  | .hbm, ⟨31, _⟩ => ⟨S4224x4224, .i1⟩
  | .hbm, ⟨32, _⟩ => ⟨S4224x4224, .i1⟩
  | .hbm, ⟨33, _⟩ => ⟨S1x1x4224x4224, .i1⟩
  | .hbm, ⟨34, _⟩ => ⟨S_, .f32⟩
  | .hbm, ⟨35, _⟩ => ⟨S_, .f32⟩
  | .hbm, ⟨36, _⟩ => ⟨S4x8x4224x4224, .i1⟩
  | .hbm, ⟨37, _⟩ => ⟨S4x8x4224x4224, .f32⟩
  | .hbm, ⟨38, _⟩ => ⟨S4x8x4224x4224, .f32⟩
  | .hbm, ⟨39, _⟩ => ⟨S4x8, .f32⟩
  | .hbm, ⟨40, _⟩ => ⟨S4x8x1x1, .f32⟩
  | .hbm, ⟨41, _⟩ => ⟨S4x8x4224x1, .f32⟩
  | .hbm, ⟨42, _⟩ => ⟨S4x8x4224x4225, .f32⟩
  | .hbm, ⟨43, _⟩ => ⟨S_, .f32⟩
  | .hbm, ⟨44, _⟩ => ⟨S4x8x4224, .f32⟩
  | .hbm, ⟨45, _⟩ => ⟨S_, .f32⟩
  | .hbm, ⟨46, _⟩ => ⟨S4x8x4224, .f32⟩
  | .hbm, ⟨47, _⟩ => ⟨S4x8x4224, .f32⟩
  | .hbm, ⟨48, _⟩ => ⟨S4x8x4224x1, .f32⟩
  | .hbm, ⟨49, _⟩ => ⟨S4x8x4224x4225, .f32⟩
  | .hbm, ⟨50, _⟩ => ⟨S4x8x4224x4225, .f32⟩
  | .hbm, ⟨51, _⟩ => ⟨S4x8x4224x4225, .f32⟩
  | .hbm, ⟨52, _⟩ => ⟨S_, .f32⟩
  | .hbm, ⟨53, _⟩ => ⟨S4x8x4224, .f32⟩
  | .hbm, ⟨54, _⟩ => ⟨S4x8x4224x1, .f32⟩
  | .hbm, ⟨55, _⟩ => ⟨S4x8x4224x4225, .f32⟩
  | .hbm, ⟨56, _⟩ => ⟨S4x8x4224x4225, .f32⟩
  | .hbm, ⟨57, _⟩ => ⟨S4x8x4224x4224, .f32⟩
  | .hbm, ⟨58, _⟩ => ⟨S4x64x8x4224, .f32⟩
  | .hbm, ⟨59, _⟩ => ⟨S4224x4x8x64, .f32⟩
  | .hbm, ⟨60, _⟩ => ⟨S4224x2048, .f32⟩
  | .hbm, ⟨61, _⟩ => ⟨S4224x2048, .bf16⟩
  | _, _ => ⟨S4224x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_c : Ref sig .tc := ⟨.hbm, 24, rfl⟩
abbrev main_v21 : Ref sig .tc := ⟨.hbm, 25, rfl⟩
abbrev main_v22 : Ref sig .tc := ⟨.hbm, 26, rfl⟩
abbrev main_c_0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_1 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩

abbrev nD : Nat := 1
abbrev τ : Topo := Topo.v7x

variable {F : FTy → Type} [FloatOps F]
-- ==== AttnO.lean ====
abbrev S4224x2048 : Shape := ⟨2, ![4224, 2048]⟩
abbrev S2048x4096 : Shape := ⟨2, ![2048, 4096]⟩
abbrev S4224x8192 : Shape := ⟨2, ![4224, 8192]⟩
abbrev S2112x2048 : Shape := ⟨2, ![2112, 2048]⟩
abbrev S2048x1024 : Shape := ⟨2, ![2048, 1024]⟩
abbrev S2112x1024 : Shape := ⟨2, ![2112, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2048x4096, .bf16⟩
  | .hbm, ⟨2, _⟩ => ⟨S4224x8192, .bf16⟩
  | .hbm, ⟨3, _⟩ => ⟨S4224x8192, .bf16⟩
  | .local _ .vmem, ⟨0, _⟩ => ⟨S2112x2048, .bf16⟩
  | .local _ .vmem, ⟨1, _⟩ => ⟨S2112x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2112x1024, .bf16⟩
  | .local _ .vmem, ⟨5, _⟩ => ⟨S2112x1024, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2112x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnORefIdeal.lean ====
abbrev S4224x2048 : Shape := ⟨2, ![4224, 2048]⟩
abbrev S2048x4096 : Shape := ⟨2, ![2048, 4096]⟩
abbrev S4224x8192 : Shape := ⟨2, ![4224, 8192]⟩
abbrev S4224x4096 : Shape := ⟨2, ![4224, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x4096, .bf16⟩
  | .hbm, ⟨2, _⟩ => ⟨S4224x8192, .bf16⟩
  | .hbm, ⟨3, _⟩ => ⟨S4224x2048, .f32⟩
  | .hbm, ⟨4, _⟩ => ⟨S2048x4096, .f32⟩
  | .hbm, ⟨5, _⟩ => ⟨S4224x4096, .f32⟩
  | .hbm, ⟨6, _⟩ => ⟨S4224x4096, .bf16⟩
  | .hbm, ⟨7, _⟩ => ⟨S4224x4096, .bf16⟩
  | .hbm, ⟨8, _⟩ => ⟨S4224x8192, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ConvO.lean ====
abbrev S4224x2048 : Shape := ⟨2, ![4224, 2048]⟩
abbrev S2048x4096 : Shape := ⟨2, ![2048, 4096]⟩
abbrev S1x4096 : Shape := ⟨2, ![1, 4096]⟩
abbrev S4224x8192 : Shape := ⟨2, ![4224, 8192]⟩
abbrev S2112x2048 : Shape := ⟨2, ![2112, 2048]⟩
abbrev S2048x1024 : Shape := ⟨2, ![2048, 1024]⟩
abbrev S1x1024 : Shape := ⟨2, ![1, 1024]⟩
abbrev S2112x1024 : Shape := ⟨2, ![2112, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4224x2048, .bf16⟩
  | .hbm, ⟨1, _⟩ => ⟨S2048x4096, .bf16⟩
  | .hbm, ⟨2, _⟩ => ⟨S1x4096, .f32⟩
  | .hbm, ⟨3, _⟩ => ⟨S4224x8192, .bf16⟩
  | .hbm, ⟨4, _⟩ => ⟨S4224x8192, .bf16⟩
  | .local _ .vmem, ⟨0, _⟩ => ⟨S2112x2048, .bf16⟩
  | .local _ .vmem, ⟨1, _⟩ => ⟨S2112x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S2112x1024, .bf16⟩
  | .local _ .vmem, ⟨7, _⟩ => ⟨S2112x1024, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2112x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ConvORefIdeal.lean ====
abbrev S4224x2048 : Shape := ⟨2, ![4224, 2048]⟩
abbrev S2048x4096 : Shape := ⟨2, ![2048, 4096]⟩
abbrev S1x4096 : Shape := ⟨2, ![1, 4096]⟩
abbrev S4224x8192 : Shape := ⟨2, ![4224, 8192]⟩
abbrev S4224x4096 : Shape := ⟨2, ![4224, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x4096, .bf16⟩
  | .hbm, ⟨2, _⟩ => ⟨S1x4096, .f32⟩
  | .hbm, ⟨3, _⟩ => ⟨S4224x8192, .bf16⟩
  | .hbm, ⟨4, _⟩ => ⟨S4224x4096, .bf16⟩
  | .hbm, ⟨5, _⟩ => ⟨S4224x2048, .f32⟩
  | .hbm, ⟨6, _⟩ => ⟨S2048x4096, .f32⟩
  | .hbm, ⟨7, _⟩ => ⟨S4224x4096, .f32⟩
  | .hbm, ⟨8, _⟩ => ⟨S4224x4096, .f32⟩
  | .hbm, ⟨9, _⟩ => ⟨S4224x4096, .f32⟩
  | .hbm, ⟨10, _⟩ => ⟨S4224x4096, .bf16⟩
  | .hbm, ⟨11, _⟩ => ⟨S4224x8192, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== ColIn.lean ====
abbrev S4224x14848 : Shape := ⟨2, ![4224, 14848]⟩
abbrev S1x14848 : Shape := ⟨2, ![1, 14848]⟩
abbrev S384x512 : Shape := ⟨2, ![384, 512]⟩
abbrev S1x512 : Shape := ⟨2, ![1, 512]⟩
abbrev S512 : Shape := ⟨1, ![512]⟩

abbrev nBuf : Space → Nat
  | .hbm => 2
  | .vmem => 4
  | .smem => 0
  | _ => 0

abbrev bufTy : (tb : Table) → Fin (tcTables nBuf tb) → BufTy
  | .hbm, ⟨0, _⟩ => ⟨S4224x14848, .bf16⟩
  | .hbm, ⟨1, _⟩ => ⟨S1x14848, .f32⟩
  | .local _ .vmem, ⟨0, _⟩ => ⟨S384x512, .bf16⟩
  | .local _ .vmem, ⟨1, _⟩ => ⟨S384x512, .bf16⟩
  | .local _ .vmem, ⟨2, _⟩ => ⟨S1x512, .f32⟩
  | .local _ .vmem, ⟨3, _⟩ => ⟨S1x512, .f32⟩
  | _, _ => ⟨S4224x14848, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![29, 11], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_1 : BitVec 32 := 0#32
  let v6 : BitVec 1 := Scalar.cmpi .ne v5 c0_i32_1
  v6

def k0_cond2 (i : grid0.Coords) : BitVec 1 :=
  let arg1 : BitVec 32 := BitVec.ofNat 32 (i 1).val
  let c0_i32_2 : BitVec 32 := 0#32
  let v7 : BitVec 1 := Scalar.cmpi .sgt arg1 c0_i32_2
  let v8 : BitVec 32 := Scalar.extui v7
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== ColInRefIdeal.lean ====
abbrev S4224x14848 : Shape := ⟨2, ![4224, 14848]⟩
abbrev S_ : Shape := ⟨0, ![]⟩
abbrev S1x14848 : Shape := ⟨2, ![1, 14848]⟩
abbrev S14848 : Shape := ⟨1, ![14848]⟩

abbrev nBuf : Space → Nat
  | .hbm => 11
  | .vmem => 0
  | .smem => 0
  | _ => 0

abbrev bufTy : (tb : Table) → Fin (tcTables nBuf tb) → BufTy
  | .hbm, ⟨0, _⟩ => ⟨S4224x14848, .bf16⟩
  | .hbm, ⟨1, _⟩ => ⟨S_, .f32⟩
  | .hbm, ⟨2, _⟩ => ⟨S4224x14848, .f32⟩
  | .hbm, ⟨3, _⟩ => ⟨S_, .f32⟩
  | .hbm, ⟨4, _⟩ => ⟨S1x14848, .f32⟩
  | .hbm, ⟨5, _⟩ => ⟨S4224x14848, .f32⟩
  | .hbm, ⟨6, _⟩ => ⟨S4224x14848, .f32⟩
  | .hbm, ⟨7, _⟩ => ⟨S4224x14848, .f32⟩
  | .hbm, ⟨8, _⟩ => ⟨S_, .f32⟩
  | .hbm, ⟨9, _⟩ => ⟨S14848, .f32⟩
  | .hbm, ⟨10, _⟩ => ⟨S1x14848, .f32⟩
  | _, _ => ⟨S4224x14848, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== ColO.lean ====
abbrev S4224x8192 : Shape := ⟨2, ![4224, 8192]⟩
abbrev S1x4096 : Shape := ⟨2, ![1, 4096]⟩
abbrev S384x512 : Shape := ⟨2, ![384, 512]⟩
abbrev S1x512 : Shape := ⟨2, ![1, 512]⟩
abbrev S512 : Shape := ⟨1, ![512]⟩

abbrev nBuf : Space → Nat
  | .hbm => 2
  | .vmem => 4
  | .smem => 0
  | _ => 0

abbrev bufTy : (tb : Table) → Fin (tcTables nBuf tb) → BufTy
  | .hbm, ⟨0, _⟩ => ⟨S4224x8192, .bf16⟩
  | .hbm, ⟨1, _⟩ => ⟨S1x4096, .f32⟩
  | .local _ .vmem, ⟨0, _⟩ => ⟨S384x512, .bf16⟩
  | .local _ .vmem, ⟨1, _⟩ => ⟨S384x512, .bf16⟩
  | .local _ .vmem, ⟨2, _⟩ => ⟨S1x512, .f32⟩
  | .local _ .vmem, ⟨3, _⟩ => ⟨S1x512, .f32⟩
  | _, _ => ⟨S4224x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_1 : BitVec 32 := 0#32
  let v6 : BitVec 1 := Scalar.cmpi .ne v5 c0_i32_1
  v6

def k0_cond2 (i : grid0.Coords) : BitVec 1 :=
  let arg1 : BitVec 32 := BitVec.ofNat 32 (i 1).val
  let c0_i32_2 : BitVec 32 := 0#32
  let v7 : BitVec 1 := Scalar.cmpi .sgt arg1 c0_i32_2
  let v8 : BitVec 32 := Scalar.extui v7
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== ColORefIdeal.lean ====
abbrev S4224x8192 : Shape := ⟨2, ![4224, 8192]⟩
abbrev S_ : Shape := ⟨0, ![]⟩
abbrev S4224x4096 : Shape := ⟨2, ![4224, 4096]⟩
abbrev S1x4096 : Shape := ⟨2, ![1, 4096]⟩
abbrev S4096 : Shape := ⟨1, ![4096]⟩

abbrev nBuf : Space → Nat
  | .hbm => 12
  | .vmem => 0
  | .smem => 0
  | _ => 0

abbrev bufTy : (tb : Table) → Fin (tcTables nBuf tb) → BufTy
  | .hbm, ⟨0, _⟩ => ⟨S4224x8192, .bf16⟩
  | .hbm, ⟨1, _⟩ => ⟨S_, .f32⟩
  | .hbm, ⟨2, _⟩ => ⟨S4224x4096, .f32⟩
  | .hbm, ⟨3, _⟩ => ⟨S_, .f32⟩
  | .hbm, ⟨4, _⟩ => ⟨S1x4096, .f32⟩
  | .hbm, ⟨5, _⟩ => ⟨S4224x4096, .f32⟩
  | .hbm, ⟨6, _⟩ => ⟨S4224x4096, .f32⟩
  | .hbm, ⟨7, _⟩ => ⟨S4224x4096, .bf16⟩
  | .hbm, ⟨8, _⟩ => ⟨S4224x4096, .f32⟩
  | .hbm, ⟨9, _⟩ => ⟨S_, .f32⟩
  | .hbm, ⟨10, _⟩ => ⟨S4096, .f32⟩
  | .hbm, ⟨11, _⟩ => ⟨S1x4096, .f32⟩
  | _, _ => ⟨S4224x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== RopeF.lean ====
abbrev S4224x14848 : Shape := ⟨2, ![4224, 14848]⟩
abbrev S4224 : Shape := ⟨1, ![4224]⟩
abbrev S32 : Shape := ⟨1, ![32]⟩
abbrev S_ : Shape := ⟨0, ![]⟩
abbrev S4224x1 : Shape := ⟨2, ![4224, 1]⟩
abbrev S1x32 : Shape := ⟨2, ![1, 32]⟩
abbrev S4224x32 : Shape := ⟨2, ![4224, 32]⟩
abbrev S4224x64 : Shape := ⟨2, ![4224, 64]⟩
abbrev S1x4224x1x64 : Shape := ⟨4, ![1, 4224, 1, 64]⟩
abbrev S1x4224x2x64 : Shape := ⟨4, ![1, 4224, 2, 64]⟩
abbrev S4224x128 : Shape := ⟨2, ![4224, 128]⟩
abbrev S4224x2304 : Shape := ⟨2, ![4224, 2304]⟩
abbrev S384x2304 : Shape := ⟨2, ![384, 2304]⟩
abbrev S384x128 : Shape := ⟨2, ![384, 128]⟩

abbrev nBuf : Space → Nat
  | .hbm => 33
  | .vmem => 8
  | .smem => 0
  | _ => 0

abbrev bufTy : (tb : Table) → Fin (tcTables nBuf tb) → BufTy
  | .hbm, ⟨0, _⟩ => ⟨S4224x14848, .bf16⟩
  | .hbm, ⟨1, _⟩ => ⟨S4224, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4224x1, .f32⟩
  | .hbm, ⟨17, _⟩ => ⟨S1x32, .f32⟩
  | .hbm, ⟨18, _⟩ => ⟨S4224x32, .f32⟩
  | .hbm, ⟨19, _⟩ => ⟨S4224x32, .f32⟩
  | .hbm, ⟨20, _⟩ => ⟨S4224x32, .f32⟩
  | .hbm, ⟨21, _⟩ => ⟨S4224x32, .f32⟩
  | .hbm, ⟨22, _⟩ => ⟨S4224x32, .f32⟩
  | .hbm, ⟨23, _⟩ => ⟨S4224x64, .f32⟩
  | .hbm, ⟨24, _⟩ => ⟨S1x4224x1x64, .f32⟩
  | .hbm, ⟨25, _⟩ => ⟨S1x4224x2x64, .f32⟩
  | .hbm, ⟨26, _⟩ => ⟨S4224x128, .f32⟩
  | .hbm, ⟨27, _⟩ => ⟨S4224x32, .f32⟩
  | .hbm, ⟨28, _⟩ => ⟨S4224x64, .f32⟩
  | .hbm, ⟨29, _⟩ => ⟨S1x4224x1x64, .f32⟩
  | .hbm, ⟨30, _⟩ => ⟨S1x4224x2x64, .f32⟩
  | .hbm, ⟨31, _⟩ => ⟨S4224x128, .f32⟩
  | .hbm, ⟨32, _⟩ => ⟨S4224x2304, .bf16⟩
  | .local _ .vmem, ⟨0, _⟩ => ⟨S384x2304, .bf16⟩
  | .local _ .vmem, ⟨1, _⟩ => ⟨S384x2304, .bf16⟩
  | .local _ .vmem, ⟨2, _⟩ => ⟨S384x128, .f32⟩
  | .local _ .vmem, ⟨3, _⟩ => ⟨S384x128, .f32⟩
  | .local _ .vmem, ⟨4, _⟩ => ⟨S384x128, .f32⟩
  | .local _ .vmem, ⟨5, _⟩ => ⟨S384x128, .f32⟩
  | .local _ .vmem, ⟨6, _⟩ => ⟨S384x2304, .bf16⟩
  | .local _ .vmem, ⟨7, _⟩ => ⟨S384x2304, .bf16⟩
  | _, _ => ⟨S4224x14848, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeFRefIdeal.lean ====
abbrev S4224x14848 : Shape := ⟨2, ![4224, 14848]⟩
abbrev S4224x2048 : Shape := ⟨2, ![4224, 2048]⟩
abbrev S4224x32x64 : Shape := ⟨3, ![4224, 32, 64]⟩
abbrev S4224 : Shape := ⟨1, ![4224]⟩
abbrev S32 : Shape := ⟨1, ![32]⟩
abbrev S_ : Shape := ⟨0, ![]⟩
abbrev S4224x1 : Shape := ⟨2, ![4224, 1]⟩
abbrev S1x32 : Shape := ⟨2, ![1, 32]⟩
abbrev S4224x32 : Shape := ⟨2, ![4224, 32]⟩
abbrev S4224x1x32 : Shape := ⟨3, ![4224, 1, 32]⟩
abbrev S4224x32x32 : Shape := ⟨3, ![4224, 32, 32]⟩
abbrev S4224x256 : Shape := ⟨2, ![4224, 256]⟩
abbrev S4224x4x64 : Shape := ⟨3, ![4224, 4, 64]⟩
abbrev S4224x4x32 : Shape := ⟨3, ![4224, 4, 32]⟩
abbrev S4224x2304 : Shape := ⟨2, ![4224, 2304]⟩

abbrev nBuf : Space → Nat
  | .hbm => 89
  | .vmem => 0
  | .smem => 0
  | _ => 0

abbrev bufTy : (tb : Table) → Fin (tcTables nBuf tb) → BufTy
  | .hbm, ⟨0, _⟩ => ⟨S4224x14848, .bf16⟩
  | .hbm, ⟨1, _⟩ => ⟨S4224x2048, .bf16⟩
  | .hbm, ⟨2, _⟩ => ⟨S4224x2048, .f32⟩
  | .hbm, ⟨3, _⟩ => ⟨S4224x32x64, .f32⟩
  | .hbm, ⟨4, _⟩ => ⟨S4224, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4224x1, .f32⟩
  | .hbm, ⟨20, _⟩ => ⟨S1x32, .f32⟩
  | .hbm, ⟨21, _⟩ => ⟨S4224x32, .f32⟩
  | .hbm, ⟨22, _⟩ => ⟨S4224x32, .f32⟩
  | .hbm, ⟨23, _⟩ => ⟨S4224x32, .f32⟩
  | .hbm, ⟨24, _⟩ => ⟨S4224x32, .f32⟩
  | .hbm, ⟨25, _⟩ => ⟨S4224x1x32, .f32⟩
  | .hbm, ⟨26, _⟩ => ⟨S4224x32, .f32⟩
  | .hbm, ⟨27, _⟩ => ⟨S4224x1x32, .f32⟩
  | .hbm, ⟨28, _⟩ => ⟨S4224x32x32, .f32⟩
  | .hbm, ⟨29, _⟩ => ⟨S4224x32x32, .f32⟩
  | .hbm, ⟨30, _⟩ => ⟨S4224x32x32, .f32⟩
  | .hbm, ⟨31, _⟩ => ⟨S4224x32x32, .f32⟩
  | .hbm, ⟨32, _⟩ => ⟨S4224x32x32, .f32⟩
  | .hbm, ⟨33, _⟩ => ⟨S4224x32x32, .f32⟩
  | .hbm, ⟨34, _⟩ => ⟨S4224x32x32, .f32⟩
  | .hbm, ⟨35, _⟩ => ⟨S4224x32x32, .f32⟩
  | .hbm, ⟨36, _⟩ => ⟨S4224x32x32, .f32⟩
  | .hbm, ⟨37, _⟩ => ⟨S4224x32x32, .f32⟩
  | .hbm, ⟨38, _⟩ => ⟨S4224x32x32, .f32⟩
  | .hbm, ⟨39, _⟩ => ⟨S4224x32x32, .f32⟩
  | .hbm, ⟨40, _⟩ => ⟨S4224x32x64, .f32⟩
  | .hbm, ⟨41, _⟩ => ⟨S4224x2048, .f32⟩
  | .hbm, ⟨42, _⟩ => ⟨S_, .f32⟩
  | .hbm, ⟨43, _⟩ => ⟨S4224x2048, .f32⟩
  | .hbm, ⟨44, _⟩ => ⟨S4224x2048, .f32⟩
  | .hbm, ⟨45, _⟩ => ⟨S4224x256, .bf16⟩
  | .hbm, ⟨46, _⟩ => ⟨S4224x256, .f32⟩
  | .hbm, ⟨47, _⟩ => ⟨S4224x4x64, .f32⟩
  | .hbm, ⟨48, _⟩ => ⟨S4224, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S4224x1, .f32⟩
  | .hbm, ⟨64, _⟩ => ⟨S1x32, .f32⟩
  | .hbm, ⟨65, _⟩ => ⟨S4224x32, .f32⟩
  | .hbm, ⟨66, _⟩ => ⟨S4224x32, .f32⟩
  | .hbm, ⟨67, _⟩ => ⟨S4224x32, .f32⟩
  | .hbm, ⟨68, _⟩ => ⟨S4224x32, .f32⟩
  | .hbm, ⟨69, _⟩ => ⟨S4224x1x32, .f32⟩
  | .hbm, ⟨70, _⟩ => ⟨S4224x32, .f32⟩
  | .hbm, ⟨71, _⟩ => ⟨S4224x1x32, .f32⟩
  | .hbm, ⟨72, _⟩ => ⟨S4224x4x32, .f32⟩
  | .hbm, ⟨73, _⟩ => ⟨S4224x4x32, .f32⟩
  | .hbm, ⟨74, _⟩ => ⟨S4224x4x32, .f32⟩
  | .hbm, ⟨75, _⟩ => ⟨S4224x4x32, .f32⟩
  | .hbm, ⟨76, _⟩ => ⟨S4224x4x32, .f32⟩
  | .hbm, ⟨77, _⟩ => ⟨S4224x4x32, .f32⟩
  | .hbm, ⟨78, _⟩ => ⟨S4224x4x32, .f32⟩
  | .hbm, ⟨79, _⟩ => ⟨S4224x4x32, .f32⟩
  | .hbm, ⟨80, _⟩ => ⟨S4224x4x32, .f32⟩
  | .hbm, ⟨81, _⟩ => ⟨S4224x4x32, .f32⟩
  | .hbm, ⟨82, _⟩ => ⟨S4224x4x32, .f32⟩
  | .hbm, ⟨83, _⟩ => ⟨S4224x4x32, .f32⟩
  | .hbm, ⟨84, _⟩ => ⟨S4224x4x64, .f32⟩
  | .hbm, ⟨85, _⟩ => ⟨S4224x256, .f32⟩
  | .hbm, ⟨86, _⟩ => ⟨S4224x2048, .bf16⟩
  | .hbm, ⟨87, _⟩ => ⟨S4224x256, .bf16⟩
  | .hbm, ⟨88, _⟩ => ⟨S4224x2304, .bf16⟩
  | _, _ => ⟨S4224x14848, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_3 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_4 : Ref sig .tc := ⟨.hbm, 50, rfl⟩
abbrev main_v44 : Ref sig .tc := ⟨.hbm, 51, rfl⟩
abbrev main_v45 : Ref sig .tc := ⟨.hbm, 52, rfl⟩
abbrev main_cst_5 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_6 : Ref sig .tc := ⟨.hbm, 57, rfl⟩
abbrev main_v49 : Ref sig .tc := ⟨.hbm, 58, rfl⟩
abbrev main_v50 : Ref sig .tc := ⟨.hbm, 59, rfl⟩
abbrev main_cst_7 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩

abbrev nD : Nat := 1
abbrev τ : Topo := Topo.v7x

variable {F : FTy → Type} [FloatOps F]
-- ==== RopeB.lean ====
abbrev S4224x14848 : Shape := ⟨2, ![4224, 14848]⟩
abbrev S4224x2048 : Shape := ⟨2, ![4224, 2048]⟩
abbrev S4224x256 : Shape := ⟨2, ![4224, 256]⟩
abbrev S128x256 : Shape := ⟨2, ![128, 256]⟩
abbrev S4224 : Shape := ⟨1, ![4224]⟩
abbrev S32 : Shape := ⟨1, ![32]⟩
abbrev S_ : Shape := ⟨0, ![]⟩
abbrev S4224x1 : Shape := ⟨2, ![4224, 1]⟩
abbrev S1x32 : Shape := ⟨2, ![1, 32]⟩
abbrev S4224x32 : Shape := ⟨2, ![4224, 32]⟩
abbrev S4224x64 : Shape := ⟨2, ![4224, 64]⟩
abbrev S1x4224x1x64 : Shape := ⟨4, ![1, 4224, 1, 64]⟩
abbrev S1x4224x2x64 : Shape := ⟨4, ![1, 4224, 2, 64]⟩
abbrev S4224x128 : Shape := ⟨2, ![4224, 128]⟩
abbrev S128x2048 : Shape := ⟨2, ![128, 2048]⟩
abbrev S128x128 : Shape := ⟨2, ![128, 128]⟩
abbrev S128x2560 : Shape := ⟨2, ![128, 2560]⟩

abbrev nBuf : Space → Nat
  | .hbm => 38
  | .vmem => 14
  | .smem => 0
  | _ => 0

abbrev bufTy : (tb : Table) → Fin (tcTables nBuf tb) → BufTy
  | .hbm, ⟨0, _⟩ => ⟨S4224x14848, .bf16⟩
  | .hbm, ⟨1, _⟩ => ⟨S4224x2048, .f32⟩
  | .hbm, ⟨2, _⟩ => ⟨S4224x256, .f32⟩
  | .hbm, ⟨3, _⟩ => ⟨S4224x256, .f32⟩
  | .hbm, ⟨4, _⟩ => ⟨S128x256, .f32⟩
  | .hbm, ⟨5, _⟩ => ⟨S128x256, .f32⟩
  | .hbm, ⟨6, _⟩ => ⟨S4224, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4224x1, .f32⟩
  | .hbm, ⟨22, _⟩ => ⟨S1x32, .f32⟩
  | .hbm, ⟨23, _⟩ => ⟨S4224x32, .f32⟩
  | .hbm, ⟨24, _⟩ => ⟨S4224x32, .f32⟩
  | .hbm, ⟨25, _⟩ => ⟨S4224x32, .f32⟩
  | .hbm, ⟨26, _⟩ => ⟨S4224x32, .f32⟩
  | .hbm, ⟨27, _⟩ => ⟨S4224x32, .f32⟩
  | .hbm, ⟨28, _⟩ => ⟨S4224x64, .f32⟩
  | .hbm, ⟨29, _⟩ => ⟨S1x4224x1x64, .f32⟩
  | .hbm, ⟨30, _⟩ => ⟨S1x4224x2x64, .f32⟩
  | .hbm, ⟨31, _⟩ => ⟨S4224x128, .f32⟩
  | .hbm, ⟨32, _⟩ => ⟨S4224x32, .f32⟩
  | .hbm, ⟨33, _⟩ => ⟨S4224x64, .f32⟩
  | .hbm, ⟨34, _⟩ => ⟨S1x4224x1x64, .f32⟩
  | .hbm, ⟨35, _⟩ => ⟨S1x4224x2x64, .f32⟩
  | .hbm, ⟨36, _⟩ => ⟨S4224x128, .f32⟩
  | .hbm, ⟨37, _⟩ => ⟨S4224x14848, .bf16⟩
  | .local _ .vmem, ⟨0, _⟩ => ⟨S128x2048, .f32⟩
  | .local _ .vmem, ⟨1, _⟩ => ⟨S128x2048, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x2560, .bf16⟩
  | .local _ .vmem, ⟨13, _⟩ => ⟨S128x2560, .bf16⟩
  | _, _ => ⟨S4224x14848, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2560 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RopeBRefIdeal.lean ====
abbrev S4224x14848 : Shape := ⟨2, ![4224, 14848]⟩
abbrev S4224x2048 : Shape := ⟨2, ![4224, 2048]⟩
abbrev S4224x256 : Shape := ⟨2, ![4224, 256]⟩
abbrev S128x256 : Shape := ⟨2, ![128, 256]⟩
abbrev S_ : Shape := ⟨0, ![]⟩
abbrev S4096x256 : Shape := ⟨2, ![4096, 256]⟩
abbrev S4224x32x64 : Shape := ⟨3, ![4224, 32, 64]⟩
abbrev S4224 : Shape := ⟨1, ![4224]⟩
abbrev S32 : Shape := ⟨1, ![32]⟩
abbrev S4224x1 : Shape := ⟨2, ![4224, 1]⟩
abbrev S1x32 : Shape := ⟨2, ![1, 32]⟩
abbrev S4224x32 : Shape := ⟨2, ![4224, 32]⟩
abbrev S4224x1x32 : Shape := ⟨3, ![4224, 1, 32]⟩
abbrev S4224x32x32 : Shape := ⟨3, ![4224, 32, 32]⟩
abbrev S4224x4x64 : Shape := ⟨3, ![4224, 4, 64]⟩
abbrev S4224x4x32 : Shape := ⟨3, ![4224, 4, 32]⟩
abbrev S4224x12288 : Shape := ⟨2, ![4224, 12288]⟩

abbrev nBuf : Space → Nat
  | .hbm => 145
  | .vmem => 0
  | .smem => 0
  | _ => 0

abbrev hbmTy0_0 (i : Nat) : BufTy := match i % 128 with
  | 0 => ⟨S4224x14848, .bf16⟩
  | 1 => ⟨S4224x2048, .f32⟩
  | 2 => ⟨S4224x256, .f32⟩
  | 3 => ⟨S4224x256, .f32⟩
  | 4 => ⟨S128x256, .f32⟩
  | 5 => ⟨S128x256, .f32⟩
  | 6 => ⟨S_, .f32⟩
  | 7 => ⟨S4096x256, .f32⟩
  | 8 => ⟨S4224x256, .f32⟩
  | 9 => ⟨S4224x256, .f32⟩
  | 10 => ⟨S4224x256, .f32⟩
  | 11 => ⟨S4224x256, .f32⟩
  | 12 => ⟨S_, .f32⟩
  | 13 => ⟨S4224x2048, .f32⟩
  | 14 => ⟨S_, .f32⟩
  | 15 => ⟨S4224x256, .f32⟩
  | 16 => ⟨S4224x32x64, .f32⟩
  | 17 => ⟨S4224, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S32, .f32⟩
  | 26 => ⟨S_, .f32⟩
  | 27 => ⟨S32, .f32⟩
  | 28 => ⟨S32, .f32⟩
  | 29 => ⟨S_, .f32⟩
  | 30 => ⟨S32, .f32⟩
  | 31 => ⟨S32, .f32⟩
  | 32 => ⟨S4224x1, .f32⟩
  | 33 => ⟨S1x32, .f32⟩
  | 34 => ⟨S4224x32, .f32⟩
  | 35 => ⟨S4224x32, .f32⟩
  | 36 => ⟨S4224x32, .f32⟩
  | 37 => ⟨S4224x32, .f32⟩
  | 38 => ⟨S4224x1x32, .f32⟩
  | 39 => ⟨S4224x32, .f32⟩
  | 40 => ⟨S4224x1x32, .f32⟩
  | 41 => ⟨S4224x32x32, .f32⟩
  | 42 => ⟨S4224x32x32, .f32⟩
  | 43 => ⟨S4224x32x32, .f32⟩
  | 44 => ⟨S4224x32x32, .f32⟩
  | 45 => ⟨S4224x32x32, .f32⟩
  | 46 => ⟨S4224x32x32, .f32⟩
  | 47 => ⟨S4224x32x32, .f32⟩
  | 48 => ⟨S4224x32x32, .f32⟩
  | 49 => ⟨S4224x32x32, .f32⟩
  | 50 => ⟨S4224x32x32, .f32⟩
  | 51 => ⟨S4224x32x32, .f32⟩
  | 52 => ⟨S4224x32x32, .f32⟩
  | 53 => ⟨S4224x32x64, .f32⟩
  | 54 => ⟨S4224x2048, .f32⟩
  | 55 => ⟨S_, .f32⟩
  | 56 => ⟨S4224x2048, .f32⟩
  | 57 => ⟨S4224x2048, .f32⟩
  | 58 => ⟨S4224x4x64, .f32⟩
  | 59 => ⟨S4224, .f32⟩
  | 60 => ⟨S32, .f32⟩
  | 61 => ⟨S_, .f32⟩
  | 62 => ⟨S32, .f32⟩
  | 63 => ⟨S32, .f32⟩
  | 64 => ⟨S_, .f32⟩
  | 65 => ⟨S32, .f32⟩
  | 66 => ⟨S32, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S4224x1, .f32⟩
  | 75 => ⟨S1x32, .f32⟩
  | 76 => ⟨S4224x32, .f32⟩
  | 77 => ⟨S4224x32, .f32⟩
  | 78 => ⟨S4224x32, .f32⟩
  | 79 => ⟨S4224x32, .f32⟩
  | 80 => ⟨S4224x1x32, .f32⟩
  | 81 => ⟨S4224x32, .f32⟩
  | 82 => ⟨S4224x1x32, .f32⟩
  | 83 => ⟨S4224x4x32, .f32⟩
  | 84 => ⟨S4224x4x32, .f32⟩
  | 85 => ⟨S4224x4x32, .f32⟩
  | 86 => ⟨S4224x4x32, .f32⟩
  | 87 => ⟨S4224x4x32, .f32⟩
  | 88 => ⟨S4224x4x32, .f32⟩
  | 89 => ⟨S4224x4x32, .f32⟩
  | 90 => ⟨S4224x4x32, .f32⟩
  | 91 => ⟨S4224x4x32, .f32⟩
  | 92 => ⟨S4224x4x32, .f32⟩
  | 93 => ⟨S4224x4x32, .f32⟩
  | 94 => ⟨S4224x4x32, .f32⟩
  | 95 => ⟨S4224x4x64, .f32⟩
  | 96 => ⟨S4224x256, .f32⟩
  | 97 => ⟨S4224x4x64, .f32⟩
  | 98 => ⟨S4224x4x32, .f32⟩
  | 99 => ⟨S4224x4x32, .f32⟩
  | 100 => ⟨S4224x4x32, .f32⟩
  | 101 => ⟨S4224x4x32, .f32⟩
  | 102 => ⟨S4224x4x32, .f32⟩
  | 103 => ⟨S4224x4x32, .f32⟩
  | 104 => ⟨S4224x4x32, .f32⟩
  | 105 => ⟨S4224x4x32, .f32⟩
  | 106 => ⟨S4224x4x32, .f32⟩
  | 107 => ⟨S4224x4x32, .f32⟩
  | 108 => ⟨S4224x4x32, .f32⟩
  | 109 => ⟨S4224x4x32, .f32⟩
  | 110 => ⟨S4224x4x32, .f32⟩
  | 111 => ⟨S_, .f32⟩
  | 112 => ⟨S4224x4x64, .f32⟩
  | 113 => ⟨S_, .f32⟩
  | 114 => ⟨S4224x4x64, .f32⟩
  | 115 => ⟨S4224x4x64, .f32⟩
  | 116 => ⟨S4224x256, .f32⟩
  | 117 => ⟨S_, .f32⟩
  | 118 => ⟨S4224x2048, .f32⟩
  | 119 => ⟨S4224x2048, .f32⟩
  | 120 => ⟨S4224x32x64, .f32⟩
  | 121 => ⟨S4224x32x32, .f32⟩
  | 122 => ⟨S4224x32x32, .f32⟩
  | 123 => ⟨S4224x32x32, .f32⟩
  | 124 => ⟨S4224x32x32, .f32⟩
  | 125 => ⟨S4224x32x32, .f32⟩
  | 126 => ⟨S4224x32x32, .f32⟩
  | 127 => ⟨S4224x32x32, .f32⟩
  | _ => ⟨S4224x14848, .bf16⟩

abbrev hbmTy0_1 (i : Nat) : BufTy := match i % 128 with
  | 0 => ⟨S4224x32x32, .f32⟩
  | 1 => ⟨S4224x32x32, .f32⟩
  | 2 => ⟨S4224x32x32, .f32⟩
  | 3 => ⟨S4224x32x32, .f32⟩
  | 4 => ⟨S4224x32x32, .f32⟩
  | 5 => ⟨S4224x32x32, .f32⟩
  | 6 => ⟨S_, .f32⟩
  | 7 => ⟨S4224x32x64, .f32⟩
  | 8 => ⟨S_, .f32⟩
  | 9 => ⟨S4224x32x64, .f32⟩
  | 10 => ⟨S4224x32x64, .f32⟩
  | 11 => ⟨S4224x2048, .f32⟩
  | 12 => ⟨S4224x2048, .bf16⟩
  | 13 => ⟨S4224x256, .bf16⟩
  | 14 => ⟨S4224x256, .bf16⟩
  | 15 => ⟨S4224x12288, .bf16⟩
  | 16 => ⟨S4224x14848, .bf16⟩
  | _ => ⟨S4224x14848, .bf16⟩

abbrev hbmTy (i : Nat) : BufTy := match i / 128 with
  | 0 => hbmTy0_0 i
  | 1 => hbmTy0_1 i
  | _ => ⟨S4224x14848, .bf16⟩

abbrev bufTy : (tb : Table) → Fin (tcTables nBuf tb) → BufTy
  | .hbm, ⟨i, _⟩ => hbmTy i
  | _, _ => ⟨S4224x14848, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_cst_11 : Ref sig .tc := ⟨.hbm, 111, rfl⟩
abbrev main_v93 : Ref sig .tc := ⟨.hbm, 112, rfl⟩
abbrev main_cst_12 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_cst_13 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_cst_14 : Ref sig .tc := ⟨.hbm, 134, rfl⟩
abbrev main_v113 : Ref sig .tc := ⟨.hbm, 135, rfl⟩
abbrev main_cst_15 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩

abbrev nD : Nat := 1
abbrev τ : Topo := Topo.v7x

variable {F : FTy → Type} [FloatOps F]
-- ==== AdamIn.lean ====
abbrev S2x2048x3712 : Shape := ⟨3, ![2, 2048, 3712]⟩
abbrev S4096x3712 : Shape := ⟨2, ![4096, 3712]⟩
abbrev S1x256x128 : Shape := ⟨3, ![1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x3712, .f32⟩
  | .hbm, ⟨1, _⟩ => ⟨S4096x3712, .f32⟩
  | .hbm, ⟨2, _⟩ => ⟨S4096x3712, .f32⟩
  | .hbm, ⟨3, _⟩ => ⟨S4096x3712, .f32⟩
  | .hbm, ⟨4, _⟩ => ⟨S4096x3712, .f32⟩
  | .hbm, ⟨5, _⟩ => ⟨S4096x3712, .f32⟩
  | .hbm, ⟨6, _⟩ => ⟨S4096x3712, .f32⟩
  | .hbm, ⟨7, _⟩ => ⟨S4096x3712, .f32⟩
  | .local _ .vmem, ⟨0, _⟩ => ⟨S1x256x128, .f32⟩
  | .local _ .vmem, ⟨1, _⟩ => ⟨S1x256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S2x2048x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 8, 29], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AdamInRefIdeal.lean ====
abbrev S2x2048x3712 : Shape := ⟨3, ![2, 2048, 3712]⟩
abbrev S4096x3712 : Shape := ⟨2, ![4096, 3712]⟩
abbrev S1x2048x3712 : Shape := ⟨3, ![1, 2048, 3712]⟩
abbrev S2048x3712 : Shape := ⟨2, ![2048, 3712]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x3712, .f32⟩
  | .hbm, ⟨1, _⟩ => ⟨S4096x3712, .f32⟩
  | .hbm, ⟨2, _⟩ => ⟨S4096x3712, .f32⟩
  | .hbm, ⟨3, _⟩ => ⟨S4096x3712, .f32⟩
  | .hbm, ⟨4, _⟩ => ⟨S1x2048x3712, .f32⟩
  | .hbm, ⟨5, _⟩ => ⟨S2048x3712, .f32⟩
  | .hbm, ⟨6, _⟩ => ⟨S1x2048x3712, .f32⟩
  | .hbm, ⟨7, _⟩ => ⟨S2048x3712, .f32⟩
  | .hbm, ⟨8, _⟩ => ⟨S4096x3712, .f32⟩
  | .hbm, ⟨9, _⟩ => ⟨S_, .f32⟩
  | .hbm, ⟨10, _⟩ => ⟨S4096x3712, .f32⟩
  | .hbm, ⟨11, _⟩ => ⟨S4096x3712, .f32⟩
  | .hbm, ⟨12, _⟩ => ⟨S_, .f32⟩
  | .hbm, ⟨13, _⟩ => ⟨S4096x3712, .f32⟩
  | .hbm, ⟨14, _⟩ => ⟨S4096x3712, .f32⟩
  | .hbm, ⟨15, _⟩ => ⟨S4096x3712, .f32⟩
  | .hbm, ⟨16, _⟩ => ⟨S_, .f32⟩
  | .hbm, ⟨17, _⟩ => ⟨S4096x3712, .f32⟩
  | .hbm, ⟨18, _⟩ => ⟨S4096x3712, .f32⟩
  | .hbm, ⟨19, _⟩ => ⟨S4096x3712, .f32⟩
  | .hbm, ⟨20, _⟩ => ⟨S_, .f32⟩
  | .hbm, ⟨21, _⟩ => ⟨S4096x3712, .f32⟩
  | .hbm, ⟨22, _⟩ => ⟨S4096x3712, .f32⟩
  | .hbm, ⟨23, _⟩ => ⟨S4096x3712, .f32⟩
  | .hbm, ⟨24, _⟩ => ⟨S_, .f32⟩
  | .hbm, ⟨25, _⟩ => ⟨S4096x3712, .f32⟩
  | .hbm, ⟨26, _⟩ => ⟨S4096x3712, .f32⟩
  | .hbm, ⟨27, _⟩ => ⟨S_, .f32⟩
  | .hbm, ⟨28, _⟩ => ⟨S4096x3712, .f32⟩
  | .hbm, ⟨29, _⟩ => ⟨S4096x3712, .f32⟩
  | .hbm, ⟨30, _⟩ => ⟨S4096x3712, .f32⟩
  | .hbm, ⟨31, _⟩ => ⟨S_, .f32⟩
  | .hbm, ⟨32, _⟩ => ⟨S4096x3712, .f32⟩
  | .hbm, ⟨33, _⟩ => ⟨S4096x3712, .f32⟩
  | .hbm, ⟨34, _⟩ => ⟨S4096x3712, .f32⟩
  | .hbm, ⟨35, _⟩ => ⟨S_, .f32⟩
  | .hbm, ⟨36, _⟩ => ⟨S4096x3712, .f32⟩
  | .hbm, ⟨37, _⟩ => ⟨S4096x3712, .f32⟩
  | .hbm, ⟨38, _⟩ => ⟨S4096x3712, .f32⟩
  | .hbm, ⟨39, _⟩ => ⟨S_, .f32⟩
  | .hbm, ⟨40, _⟩ => ⟨S4096x3712, .f32⟩
  | .hbm, ⟨41, _⟩ => ⟨S4096x3712, .f32⟩
  | _, _ => ⟨S2x2048x3712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== AdamO.lean ====
abbrev S2x1024x1024 : Shape := ⟨3, ![2, 1024, 1024]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AdamORefIdeal.lean ====
abbrev S2x1024x1024 : Shape := ⟨3, ![2, 1024, 1024]⟩
abbrev S2048x1024 : Shape := ⟨2, ![2048, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1x1024x1024, .f32⟩
  | .hbm, ⟨5, _⟩ => ⟨S1024x1024, .f32⟩
  | .hbm, ⟨6, _⟩ => ⟨S1x1024x1024, .f32⟩
  | .hbm, ⟨7, _⟩ => ⟨S1024x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== AdamOut.lean ====
abbrev S2x1024x2048 : Shape := ⟨3, ![2, 1024, 2048]⟩
abbrev S1024x4096 : Shape := ⟨2, ![1024, 4096]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x2048, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1024x4096, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AdamOutRefIdeal.lean ====
abbrev S2x1024x2048 : Shape := ⟨3, ![2, 1024, 2048]⟩
abbrev S1024x4096 : Shape := ⟨2, ![1024, 4096]⟩
abbrev S1x1024x2048 : Shape := ⟨3, ![1, 1024, 2048]⟩
abbrev S1024x2048 : Shape := ⟨2, ![1024, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x1024x2048, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S1x1024x2048, .f32⟩
  | .hbm, ⟨5, _⟩ => ⟨S1024x2048, .f32⟩
  | .hbm, ⟨6, _⟩ => ⟨S1x1024x2048, .f32⟩
  | .hbm, ⟨7, _⟩ => ⟨S1024x2048, .f32⟩
  | .hbm, ⟨8, _⟩ => ⟨S1024x4096, .f32⟩
  | .hbm, ⟨9, _⟩ => ⟨S_, .f32⟩
  | .hbm, ⟨10, _⟩ => ⟨S1024x4096, .f32⟩
  | .hbm, ⟨11, _⟩ => ⟨S1024x4096, .f32⟩
  | .hbm, ⟨12, _⟩ => ⟨S_, .f32⟩
  | .hbm, ⟨13, _⟩ => ⟨S1024x4096, .f32⟩
  | .hbm, ⟨14, _⟩ => ⟨S1024x4096, .f32⟩
  | .hbm, ⟨15, _⟩ => ⟨S1024x4096, .f32⟩
  | .hbm, ⟨16, _⟩ => ⟨S_, .f32⟩
  | .hbm, ⟨17, _⟩ => ⟨S1024x4096, .f32⟩
  | .hbm, ⟨18, _⟩ => ⟨S1024x4096, .f32⟩
  | .hbm, ⟨19, _⟩ => ⟨S1024x4096, .f32⟩
  | .hbm, ⟨20, _⟩ => ⟨S_, .f32⟩
  | .hbm, ⟨21, _⟩ => ⟨S1024x4096, .f32⟩
  | .hbm, ⟨22, _⟩ => ⟨S1024x4096, .f32⟩
  | .hbm, ⟨23, _⟩ => ⟨S1024x4096, .f32⟩
  | .hbm, ⟨24, _⟩ => ⟨S_, .f32⟩
  | .hbm, ⟨25, _⟩ => ⟨S1024x4096, .f32⟩
  | .hbm, ⟨26, _⟩ => ⟨S1024x4096, .f32⟩
  | .hbm, ⟨27, _⟩ => ⟨S_, .f32⟩
  | .hbm, ⟨28, _⟩ => ⟨S1024x4096, .f32⟩
  | .hbm, ⟨29, _⟩ => ⟨S1024x4096, .f32⟩
  | .hbm, ⟨30, _⟩ => ⟨S1024x4096, .f32⟩
  | .hbm, ⟨31, _⟩ => ⟨S_, .f32⟩
  | .hbm, ⟨32, _⟩ => ⟨S1024x4096, .f32⟩
  | .hbm, ⟨33, _⟩ => ⟨S1024x4096, .f32⟩
  | .hbm, ⟨34, _⟩ => ⟨S1024x4096, .f32⟩
  | .hbm, ⟨35, _⟩ => ⟨S_, .f32⟩
  | .hbm, ⟨36, _⟩ => ⟨S1024x4096, .f32⟩
  | .hbm, ⟨37, _⟩ => ⟨S1024x4096, .f32⟩
  | .hbm, ⟨38, _⟩ => ⟨S1024x4096, .f32⟩
  | .hbm, ⟨39, _⟩ => ⟨S_, .f32⟩
  | .hbm, ⟨40, _⟩ => ⟨S1024x4096, .f32⟩
  | .hbm, ⟨41, _⟩ => ⟨S1024x4096, .f32⟩
  | _, _ => ⟨S2x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== AdamGU.lean ====
abbrev S2x2048x5504 : Shape := ⟨3, ![2, 2048, 5504]⟩
abbrev S4096x5504 : Shape := ⟨2, ![4096, 5504]⟩
abbrev S1x256x128 : Shape := ⟨3, ![1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x5504, .f32⟩
  | .hbm, ⟨1, _⟩ => ⟨S4096x5504, .f32⟩
  | .hbm, ⟨2, _⟩ => ⟨S4096x5504, .f32⟩
  | .hbm, ⟨3, _⟩ => ⟨S4096x5504, .f32⟩
  | .hbm, ⟨4, _⟩ => ⟨S4096x5504, .f32⟩
  | .hbm, ⟨5, _⟩ => ⟨S4096x5504, .f32⟩
  | .hbm, ⟨6, _⟩ => ⟨S4096x5504, .f32⟩
  | .hbm, ⟨7, _⟩ => ⟨S4096x5504, .f32⟩
  | .local _ .vmem, ⟨0, _⟩ => ⟨S1x256x128, .f32⟩
  | .local _ .vmem, ⟨1, _⟩ => ⟨S1x256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S2x2048x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 8, 43], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AdamGURefIdeal.lean ====
abbrev S2x2048x5504 : Shape := ⟨3, ![2, 2048, 5504]⟩
abbrev S4096x5504 : Shape := ⟨2, ![4096, 5504]⟩
abbrev S1x2048x5504 : Shape := ⟨3, ![1, 2048, 5504]⟩
abbrev S2048x5504 : Shape := ⟨2, ![2048, 5504]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x5504, .f32⟩
  | .hbm, ⟨1, _⟩ => ⟨S4096x5504, .f32⟩
  | .hbm, ⟨2, _⟩ => ⟨S4096x5504, .f32⟩
  | .hbm, ⟨3, _⟩ => ⟨S4096x5504, .f32⟩
  | .hbm, ⟨4, _⟩ => ⟨S1x2048x5504, .f32⟩
  | .hbm, ⟨5, _⟩ => ⟨S2048x5504, .f32⟩
  | .hbm, ⟨6, _⟩ => ⟨S1x2048x5504, .f32⟩
  | .hbm, ⟨7, _⟩ => ⟨S2048x5504, .f32⟩
  | .hbm, ⟨8, _⟩ => ⟨S4096x5504, .f32⟩
  | .hbm, ⟨9, _⟩ => ⟨S_, .f32⟩
  | .hbm, ⟨10, _⟩ => ⟨S4096x5504, .f32⟩
  | .hbm, ⟨11, _⟩ => ⟨S4096x5504, .f32⟩
  | .hbm, ⟨12, _⟩ => ⟨S_, .f32⟩
  | .hbm, ⟨13, _⟩ => ⟨S4096x5504, .f32⟩
  | .hbm, ⟨14, _⟩ => ⟨S4096x5504, .f32⟩
  | .hbm, ⟨15, _⟩ => ⟨S4096x5504, .f32⟩
  | .hbm, ⟨16, _⟩ => ⟨S_, .f32⟩
  | .hbm, ⟨17, _⟩ => ⟨S4096x5504, .f32⟩
  | .hbm, ⟨18, _⟩ => ⟨S4096x5504, .f32⟩
  | .hbm, ⟨19, _⟩ => ⟨S4096x5504, .f32⟩
  | .hbm, ⟨20, _⟩ => ⟨S_, .f32⟩
  | .hbm, ⟨21, _⟩ => ⟨S4096x5504, .f32⟩
  | .hbm, ⟨22, _⟩ => ⟨S4096x5504, .f32⟩
  | .hbm, ⟨23, _⟩ => ⟨S4096x5504, .f32⟩
  | .hbm, ⟨24, _⟩ => ⟨S_, .f32⟩
  | .hbm, ⟨25, _⟩ => ⟨S4096x5504, .f32⟩
  | .hbm, ⟨26, _⟩ => ⟨S4096x5504, .f32⟩
  | .hbm, ⟨27, _⟩ => ⟨S_, .f32⟩
  | .hbm, ⟨28, _⟩ => ⟨S4096x5504, .f32⟩
  | .hbm, ⟨29, _⟩ => ⟨S4096x5504, .f32⟩
  | .hbm, ⟨30, _⟩ => ⟨S4096x5504, .f32⟩
  | .hbm, ⟨31, _⟩ => ⟨S_, .f32⟩
  | .hbm, ⟨32, _⟩ => ⟨S4096x5504, .f32⟩
  | .hbm, ⟨33, _⟩ => ⟨S4096x5504, .f32⟩
  | .hbm, ⟨34, _⟩ => ⟨S4096x5504, .f32⟩
  | .hbm, ⟨35, _⟩ => ⟨S_, .f32⟩
  | .hbm, ⟨36, _⟩ => ⟨S4096x5504, .f32⟩
  | .hbm, ⟨37, _⟩ => ⟨S4096x5504, .f32⟩
  | .hbm, ⟨38, _⟩ => ⟨S4096x5504, .f32⟩
  | .hbm, ⟨39, _⟩ => ⟨S_, .f32⟩
  | .hbm, ⟨40, _⟩ => ⟨S4096x5504, .f32⟩
  | .hbm, ⟨41, _⟩ => ⟨S4096x5504, .f32⟩
  | _, _ => ⟨S2x2048x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== AdamDown.lean ====
abbrev S2x2752x2048 : Shape := ⟨3, ![2, 2752, 2048]⟩
abbrev S2752x4096 : Shape := ⟨2, ![2752, 4096]⟩
abbrev S1x64x1024 : Shape := ⟨3, ![1, 64, 1024]⟩
abbrev S64x1024 : Shape := ⟨2, ![64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x2752x2048, .f32⟩
  | .hbm, ⟨1, _⟩ => ⟨S2752x4096, .f32⟩
  | .hbm, ⟨2, _⟩ => ⟨S2752x4096, .f32⟩
  | .hbm, ⟨3, _⟩ => ⟨S2752x4096, .f32⟩
  | .hbm, ⟨4, _⟩ => ⟨S2752x4096, .f32⟩
  | .hbm, ⟨5, _⟩ => ⟨S2752x4096, .f32⟩
  | .hbm, ⟨6, _⟩ => ⟨S2752x4096, .f32⟩
  | .hbm, ⟨7, _⟩ => ⟨S2752x4096, .f32⟩
  | .local _ .vmem, ⟨0, _⟩ => ⟨S1x64x1024, .f32⟩
  | .local _ .vmem, ⟨1, _⟩ => ⟨S1x64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S2x2752x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 43, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AdamDownRefIdeal.lean ====
abbrev S2x2752x2048 : Shape := ⟨3, ![2, 2752, 2048]⟩
abbrev S2752x4096 : Shape := ⟨2, ![2752, 4096]⟩
abbrev S1x2752x2048 : Shape := ⟨3, ![1, 2752, 2048]⟩
abbrev S2752x2048 : Shape := ⟨2, ![2752, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x2752x2048, .f32⟩
  | .hbm, ⟨1, _⟩ => ⟨S2752x4096, .f32⟩
  | .hbm, ⟨2, _⟩ => ⟨S2752x4096, .f32⟩
  | .hbm, ⟨3, _⟩ => ⟨S2752x4096, .f32⟩
  | .hbm, ⟨4, _⟩ => ⟨S1x2752x2048, .f32⟩
  | .hbm, ⟨5, _⟩ => ⟨S2752x2048, .f32⟩
  | .hbm, ⟨6, _⟩ => ⟨S1x2752x2048, .f32⟩
  | .hbm, ⟨7, _⟩ => ⟨S2752x2048, .f32⟩
  | .hbm, ⟨8, _⟩ => ⟨S2752x4096, .f32⟩
  | .hbm, ⟨9, _⟩ => ⟨S_, .f32⟩
  | .hbm, ⟨10, _⟩ => ⟨S2752x4096, .f32⟩
  | .hbm, ⟨11, _⟩ => ⟨S2752x4096, .f32⟩
  | .hbm, ⟨12, _⟩ => ⟨S_, .f32⟩
  | .hbm, ⟨13, _⟩ => ⟨S2752x4096, .f32⟩
  | .hbm, ⟨14, _⟩ => ⟨S2752x4096, .f32⟩
  | .hbm, ⟨15, _⟩ => ⟨S2752x4096, .f32⟩
  | .hbm, ⟨16, _⟩ => ⟨S_, .f32⟩
  | .hbm, ⟨17, _⟩ => ⟨S2752x4096, .f32⟩
  | .hbm, ⟨18, _⟩ => ⟨S2752x4096, .f32⟩
  | .hbm, ⟨19, _⟩ => ⟨S2752x4096, .f32⟩
  | .hbm, ⟨20, _⟩ => ⟨S_, .f32⟩
  | .hbm, ⟨21, _⟩ => ⟨S2752x4096, .f32⟩
  | .hbm, ⟨22, _⟩ => ⟨S2752x4096, .f32⟩
  | .hbm, ⟨23, _⟩ => ⟨S2752x4096, .f32⟩
  | .hbm, ⟨24, _⟩ => ⟨S_, .f32⟩
  | .hbm, ⟨25, _⟩ => ⟨S2752x4096, .f32⟩
  | .hbm, ⟨26, _⟩ => ⟨S2752x4096, .f32⟩
  | .hbm, ⟨27, _⟩ => ⟨S_, .f32⟩
  | .hbm, ⟨28, _⟩ => ⟨S2752x4096, .f32⟩
  | .hbm, ⟨29, _⟩ => ⟨S2752x4096, .f32⟩
  | .hbm, ⟨30, _⟩ => ⟨S2752x4096, .f32⟩
  | .hbm, ⟨31, _⟩ => ⟨S_, .f32⟩
  | .hbm, ⟨32, _⟩ => ⟨S2752x4096, .f32⟩
  | .hbm, ⟨33, _⟩ => ⟨S2752x4096, .f32⟩
  | .hbm, ⟨34, _⟩ => ⟨S2752x4096, .f32⟩
  | .hbm, ⟨35, _⟩ => ⟨S_, .f32⟩
  | .hbm, ⟨36, _⟩ => ⟨S2752x4096, .f32⟩
  | .hbm, ⟨37, _⟩ => ⟨S2752x4096, .f32⟩
  | .hbm, ⟨38, _⟩ => ⟨S2752x4096, .f32⟩
  | .hbm, ⟨39, _⟩ => ⟨S_, .f32⟩
  | .hbm, ⟨40, _⟩ => ⟨S2752x4096, .f32⟩
  | .hbm, ⟨41, _⟩ => ⟨S2752x4096, .f32⟩
  | _, _ => ⟨S2x2752x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== AdamSmall.lean ====
abbrev S552x128 : Shape := ⟨2, ![552, 128]⟩
abbrev S184x128 : Shape := ⟨2, ![184, 128]⟩

abbrev nBuf : Space → Nat
  | .hbm => 7
  | .vmem => 14
  | .smem => 0
  | _ => 0

abbrev bufTy : (tb : Table) → Fin (tcTables nBuf tb) → BufTy
  | .hbm, ⟨0, _⟩ => ⟨S552x128, .f32⟩
  | .hbm, ⟨1, _⟩ => ⟨S552x128, .f32⟩
  | .hbm, ⟨2, _⟩ => ⟨S552x128, .f32⟩
  | .hbm, ⟨3, _⟩ => ⟨S552x128, .f32⟩
  | .hbm, ⟨4, _⟩ => ⟨S552x128, .f32⟩
  | .hbm, ⟨5, _⟩ => ⟨S552x128, .f32⟩
  | .hbm, ⟨6, _⟩ => ⟨S552x128, .f32⟩
  | .local _ .vmem, ⟨0, _⟩ => ⟨S184x128, .f32⟩
  | .local _ .vmem, ⟨1, _⟩ => ⟨S184x128, .f32⟩
  | .local _ .vmem, ⟨2, _⟩ => ⟨S184x128, .f32⟩
  | .local _ .vmem, ⟨3, _⟩ => ⟨S184x128, .f32⟩
  | .local _ .vmem, ⟨4, _⟩ => ⟨S184x128, .f32⟩
  | .local _ .vmem, ⟨5, _⟩ => ⟨S184x128, .f32⟩
  | .local _ .vmem, ⟨6, _⟩ => ⟨S184x128, .f32⟩
  | .local _ .vmem, ⟨7, _⟩ => ⟨S184x128, .f32⟩
  | .local _ .vmem, ⟨8, _⟩ => ⟨S184x128, .f32⟩
  | .local _ .vmem, ⟨9, _⟩ => ⟨S184x128, .f32⟩
  | .local _ .vmem, ⟨10, _⟩ => ⟨S184x128, .f32⟩
  | .local _ .vmem, ⟨11, _⟩ => ⟨S184x128, .f32⟩
  | .local _ .vmem, ⟨12, _⟩ => ⟨S184x128, .f32⟩
  | .local _ .vmem, ⟨13, _⟩ => ⟨S184x128, .f32⟩
  | _, _ => ⟨S552x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S184x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S184x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S184x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S184x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S184x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S184x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S184x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S552x128 : Shape := ⟨2, ![552, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S552x128, .f32⟩
  | .hbm, ⟨1, _⟩ => ⟨S552x128, .f32⟩
  | .hbm, ⟨2, _⟩ => ⟨S552x128, .f32⟩
  | .hbm, ⟨3, _⟩ => ⟨S552x128, .f32⟩
  | .hbm, ⟨4, _⟩ => ⟨S_, .f32⟩
  | .hbm, ⟨5, _⟩ => ⟨S552x128, .f32⟩
  | .hbm, ⟨6, _⟩ => ⟨S552x128, .f32⟩
  | .hbm, ⟨7, _⟩ => ⟨S_, .f32⟩
  | .hbm, ⟨8, _⟩ => ⟨S552x128, .f32⟩
  | .hbm, ⟨9, _⟩ => ⟨S552x128, .f32⟩
  | .hbm, ⟨10, _⟩ => ⟨S552x128, .f32⟩
  | .hbm, ⟨11, _⟩ => ⟨S_, .f32⟩
  | .hbm, ⟨12, _⟩ => ⟨S552x128, .f32⟩
  | .hbm, ⟨13, _⟩ => ⟨S552x128, .f32⟩
  | .hbm, ⟨14, _⟩ => ⟨S552x128, .f32⟩
  | .hbm, ⟨15, _⟩ => ⟨S_, .f32⟩
  | .hbm, ⟨16, _⟩ => ⟨S552x128, .f32⟩
  | .hbm, ⟨17, _⟩ => ⟨S552x128, .f32⟩
  | .hbm, ⟨18, _⟩ => ⟨S552x128, .f32⟩
  | .hbm, ⟨19, _⟩ => ⟨S_, .f32⟩
  | .hbm, ⟨20, _⟩ => ⟨S552x128, .f32⟩
  | .hbm, ⟨21, _⟩ => ⟨S552x128, .f32⟩
  | .hbm, ⟨22, _⟩ => ⟨S_, .f32⟩
  | .hbm, ⟨23, _⟩ => ⟨S552x128, .f32⟩
  | .hbm, ⟨24, _⟩ => ⟨S552x128, .f32⟩
  | .hbm, ⟨25, _⟩ => ⟨S552x128, .f32⟩
  | .hbm, ⟨26, _⟩ => ⟨S_, .f32⟩
  | .hbm, ⟨27, _⟩ => ⟨S552x128, .f32⟩
  | .hbm, ⟨28, _⟩ => ⟨S552x128, .f32⟩
  | .hbm, ⟨29, _⟩ => ⟨S552x128, .f32⟩
  | .hbm, ⟨30, _⟩ => ⟨S_, .f32⟩
  | .hbm, ⟨31, _⟩ => ⟨S552x128, .f32⟩
  | .hbm, ⟨32, _⟩ => ⟨S552x128, .f32⟩
  | .hbm, ⟨33, _⟩ => ⟨S552x128, .f32⟩
  | .hbm, ⟨34, _⟩ => ⟨S_, .f32⟩
  | .hbm, ⟨35, _⟩ => ⟨S552x128, .f32⟩
  | .hbm, ⟨36, _⟩ => ⟨S552x128, .f32⟩
  | _, _ => ⟨S552x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Attention.Sites.lean ====
module

public import proofs.«01_k».proof.Proof.Gen.AttnIdeal.Frame
public import proofs.«01_k».proof.Proof.Gen.AttnIdeal.Skeleton
public import Idealize.ShloMosaic.Lib.Pipeline.TableIdle

/-! Where the attention gradient's body branches, which buffers each branch stores into, and the memrefs a grid point runs on. -/

@[expose] public section

set_option maxRecDepth 16384

noncomputable section

namespace Cert.AttnIdeal.Bwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The three branches of the body, by the grid point: the first point, every point with a query block, the last point. -/
abbrev isFirst (i : grid0.Coords) : Prop := k0_cond1 i = 1#1
abbrev isBlock (i : grid0.Coords) : Prop := k0_cond2 i = 1#1
abbrev isLast (i : grid0.Coords) : Prop := k0_cond3 i = 1#1

theorem isFirst_iff : ∀ t : Fin cfg0.N, isFirst (grid0.coords t) ↔ t.val = 0 :=
  (by decide +kernel : ∀ t : Fin grid0.N, isFirst (grid0.coords t) ↔ t.val = 0)
theorem isBlock_iff : ∀ t : Fin cfg0.N, isBlock (grid0.coords t) ↔ t.val < 33 :=
  (by decide +kernel : ∀ t : Fin grid0.N, isBlock (grid0.coords t) ↔ t.val < 33)
theorem isLast_iff : ∀ t : Fin cfg0.N, isLast (grid0.coords t) ↔ t.val = 33 :=
  (by decide +kernel : ∀ t : Fin grid0.N, isLast (grid0.coords t) ↔ t.val = 33)

/-- At a point with a query block every output is stored into. -/
theorem live9 : ∀ t : Fin cfg0.N, t.val < 33 → cfg0.idle 9 (grid0.coords t) = false := by decide +kernel
theorem live10 : ∀ t : Fin cfg0.N, t.val < 33 → cfg0.idle 10 (grid0.coords t) = false := by decide +kernel
theorem live11 : ∀ t : Fin cfg0.N, t.val < 33 → cfg0.idle 11 (grid0.coords t) = false := by decide +kernel
theorem live12 : ∀ t : Fin cfg0.N, t.val < 33 → cfg0.idle 12 (grid0.coords t) = false := by decide +kernel
theorem live13 : ∀ t : Fin cfg0.N, t.val < 33 → cfg0.idle 13 (grid0.coords t) = false := by decide +kernel
theorem live14 : ∀ t : Fin cfg0.N, t.val < 33 → cfg0.idle 14 (grid0.coords t) = false := by decide +kernel

/-- The last point stores the two carried blocks only; the other four outputs are written back there as they are. -/
theorem live10_last : ∀ t : Fin cfg0.N, ¬ t.val < 33 → cfg0.idle 10 (grid0.coords t) = false := by decide +kernel
theorem live11_last : ∀ t : Fin cfg0.N, ¬ t.val < 33 → cfg0.idle 11 (grid0.coords t) = false := by decide +kernel
theorem idle9 : ∀ t : Fin cfg0.N, ¬ t.val < 33 → cfg0.idle 9 (grid0.coords t) = true ∧ (cfg0.win 9).flush t = true := by decide +kernel
theorem idle12 : ∀ t : Fin cfg0.N, ¬ t.val < 33 → cfg0.idle 12 (grid0.coords t) = true ∧ (cfg0.win 12).flush t = true := by decide +kernel
theorem idle13 : ∀ t : Fin cfg0.N, ¬ t.val < 33 → cfg0.idle 13 (grid0.coords t) = true ∧ (cfg0.win 13).flush t = true := by decide +kernel
theorem idle14 : ∀ t : Fin cfg0.N, ¬ t.val < 33 → cfg0.idle 14 (grid0.coords t) = true ∧ (cfg0.win 14).flush t = true := by decide +kernel

/-- Whether the query gradient's buffer holds nothing stored since its last write-back: at every position but the last. -/
def freshQ : ℕ → Bool := fun n => n ≤ 32 || n == 34
theorem freshQ_step : ∀ t : Fin cfg0.N,
    freshQ (t.val + 1) = ((cfg0.win 9).flush t || (cfg0.idle 9 (cfg0.grid.coords t) && freshQ t.val)) := by decide +kernel
/-- Whether one of the three accumulators holds nothing stored yet: at the first position, and after its write-back. -/
def freshAcc : ℕ → Bool := fun n => n == 0 || n == 34
theorem freshAcc_step12 : ∀ t : Fin cfg0.N,
    freshAcc (t.val + 1) = ((cfg0.win 12).flush t || (cfg0.idle 12 (cfg0.grid.coords t) && freshAcc t.val)) := by decide +kernel
theorem freshAcc_step13 : ∀ t : Fin cfg0.N,
    freshAcc (t.val + 1) = ((cfg0.win 13).flush t || (cfg0.idle 13 (cfg0.grid.coords t) && freshAcc t.val)) := by decide +kernel
theorem freshAcc_step14 : ∀ t : Fin cfg0.N,
    freshAcc (t.val + 1) = ((cfg0.win 14).flush t || (cfg0.idle 14 (cfg0.grid.coords t) && freshAcc t.val)) := by decide +kernel

theorem notFresh9 (t : Fin cfg0.N) (h : ¬ t.val < 33) : cfg0.fresh 9 t.val = false := by
  have hN : t.val < 34 := lt_of_lt_of_eq t.isLt N_0
  rw [Pipeline.Cfg.fresh_tab cfg0 9 freshQ rfl freshQ_step t.val (Nat.le_of_lt t.isLt), show t.val = 33 by omega]; rfl
theorem freshAcc_pos (n : ℕ) (h : n ≠ 0) (hn : n < 34) : freshAcc n = false := by
  unfold freshAcc; simp only [Bool.or_eq_false_iff, beq_eq_false_iff_ne]; omega
theorem notFresh12 (t : Fin cfg0.N) (h : t.val ≠ 0) : cfg0.fresh 12 t.val = false := by
  rw [Pipeline.Cfg.fresh_tab cfg0 12 freshAcc rfl freshAcc_step12 t.val (Nat.le_of_lt t.isLt)]
  exact freshAcc_pos _ h (lt_of_lt_of_eq t.isLt N_0)
theorem notFresh13 (t : Fin cfg0.N) (h : t.val ≠ 0) : cfg0.fresh 13 t.val = false := by
  rw [Pipeline.Cfg.fresh_tab cfg0 13 freshAcc rfl freshAcc_step13 t.val (Nat.le_of_lt t.isLt)]
  exact freshAcc_pos _ h (lt_of_lt_of_eq t.isLt N_0)
theorem notFresh14 (t : Fin cfg0.N) (h : t.val ≠ 0) : cfg0.fresh 14 t.val = false := by
  rw [Pipeline.Cfg.fresh_tab cfg0 14 freshAcc rfl freshAcc_step14 t.val (Nat.le_of_lt t.isLt)]
  exact freshAcc_pos _ h (lt_of_lt_of_eq t.isLt N_0)

/-! The staging memrefs of a point, and the two scratch buffers carried between points. -/

abbrev ms0 (t : Fin cfg0.N) : Memref sig .tc .vmem S128x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x256 .bf16 := win0_7.stage (cfg0.slots t 7)
abbrev hs7 (t : Fin cfg0.N) : (ms7 t).IsWhole := hstage0_7 ((cfg0.slots t 7).cast nbuf0_7)
abbrev ms8 (t : Fin cfg0.N) : Memref sig .tc .smem S1x32 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S128x2048 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S128x256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S128x256 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S128x256 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S128x256 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x128 .f32 := win0_14.stage (cfg0.slots t 14)
abbrev hs14 (t : Fin cfg0.N) : (ms14 t).IsWhole := hstage0_14 ((cfg0.slots t 14).cast nbuf0_14)
abbrev scK : Memref sig .tc .vmem S128x256 .f32 := Memref.whole cc0_scratch0
abbrev scV : Memref sig .tc .vmem S128x256 .f32 := Memref.whole cc0_scratch1

/-- A whole buffer of each shape, to read stores back through. -/
abbrev viewQ : View sig .tc .vmem S128x2048 .f32 := (Memref.whole cc0_stg9_0 : Memref sig .tc .vmem S128x2048 .f32).view
abbrev viewK : View sig .tc .vmem S128x256 .f32 := (Memref.whole cc0_stg12_0 : Memref sig .tc .vmem S128x256 .f32).view
abbrev viewS : View sig .tc .vmem S1x128 .f32 := (Memref.whole cc0_stg14_0 : Memref sig .tc .vmem S1x128 .f32).view

/-- The region's invariant, with the two scratch buffers as memrefs at some contents. -/
theorem inv_eq (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

end Cert.AttnIdeal.Bwd

end
-- ==== Proof.Attention.Head.lean ====
module

public import proofs.«01_k».proof.Proof.Attention.Sites

/-! One query head of one block of the attention gradient, and the sums over the eight heads of a group: the arithmetic that the body does between its loads and stores. -/

@[expose] public section

set_option maxRecDepth 16384

noncomputable section

namespace Cert.AttnIdeal.Bwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- One head's operands: which keys each query sees, the 384 keys and values, the queries, the output's gradient, the sink. -/
structure Head (F : FTy → Type) where
  see : IVec S128x384 1
  k : FVec F S384x64 .bf16
  v : FVec F S384x64 .bf16
  q : Vec F S128x64 .bf16
  g : Vec F S128x64 .bf16
  s : F .f32

namespace Head

variable (x : Head F)

/-- The scores, the mask's constant where a key is not seen. -/
def score : FVec F S128x384 .f32 :=
  select x.see (matmul dot_S128x64_S384x64_S128x384_1_1_0_0_n_n none x.q x.k (constant S128x384 .f32 0x00000000#32))
    (broadcast S128x384 (Named.named κ "mask" 0xF149F2CA#32))
/-- Each row's largest score, the sink's among them. -/
def top : FVec F S128x1 .f32 :=
  maximumf (shapeCast S128x1 (multiReduction .maximumf [1] S128 x.score 0xFF800000#32 reduces_S128x384_S128 (.inl rfl) rfl) shapeCasts_S128_S128x1)
    (broadcast S128x1 x.s)
/-- The exponentials of the scores. -/
def expScore : FVec F S128x384 .f32 := exp (subf x.score (broadcastTo S128x384 x.top broadcasts_S128x1_S128x384))
/-- The sink's exponential. -/
def expSink : FVec F S128x1 .f32 := exp (subf (broadcast S128x1 x.s) x.top)
/-- One over the sum of a row's exponentials. -/
def recip : FVec F S128x1 .f32 :=
  divf (broadcast S128x1 (Scalar.ofBits .f32 0x3F800000#32))
    (addf (shapeCast S128x1 (multiReduction .add [1] S128 x.expScore 0x00000000#32 reduces_S128x384_S128 (.inl rfl) rfl) shapeCasts_S128_S128x1) x.expSink)
/-- The weights of the softmax. -/
def weight : FVec F S128x384 .f32 := mulf x.expScore (broadcastTo S128x384 x.recip broadcasts_S128x1_S128x384)
/-- The sink's weight. -/
def weightSink : FVec F S128x1 .f32 := mulf x.expSink x.recip
/-- The gradient of the weights. -/
def dWeight : FVec F S128x384 .f32 :=
  matmul dot_S128x64_S384x64_S128x384_1_1_0_0_n_n none x.g x.v (constant S128x384 .f32 0x00000000#32)
/-- Each row's sum of weights by their gradients. -/
def delta : FVec F S128x1 .f32 :=
  shapeCast S128x1 (multiReduction .add [1] S128 (mulf x.weight x.dWeight) 0x00000000#32 reduces_S128x384_S128 (.inl rfl) rfl) shapeCasts_S128_S128x1
/-- The gradient of the scores. -/
def dScore : FVec F S128x384 .bf16 :=
  truncf .bf16 (mulf x.weight (subf x.dWeight (broadcastTo S128x384 x.delta broadcasts_S128x1_S128x384))) bitsLt_bf16_f32
/-- The gradient of the queries. -/
def dq : FVec F S128x64 .f32 :=
  matmul dot_S128x384_S384x64_S128x64_1_0_0_1_n_n none x.dScore x.k (constant S128x64 .f32 0x00000000#32)
/-- The head's part of the gradient of the 384 keys. -/
def dk : FVec F S384x64 .f32 :=
  matmul dot_S128x384_S128x64_S384x64_0_0_1_1_n_n none x.dScore x.q (constant S384x64 .f32 0x00000000#32)
/-- The head's part of the gradient of the 384 values. -/
def dv : FVec F S384x64 .f32 :=
  matmul dot_S128x384_S128x64_S384x64_0_0_1_1_n_n none (truncf .bf16 x.weight bitsLt_bf16_f32) x.g (constant S384x64 .f32 0x00000000#32)
/-- The gradient of the sink over the block's rows. -/
def ds : F .f32 :=
  Scalar.subf (Scalar.ofBits .f32 0x00000000#32)
    (extractAt ![0, 0, 0] (shapeCast S1x1x1 (multiReduction .add [1, 2] S1
      (shapeCast S1x128x1 (mulf x.weightSink x.delta) shapeCasts_S128x1_S1x128x1) 0x00000000#32 reduces_S1x128x1_S1 (.inl rfl) rfl) shapeCasts_S1_S1x1x1)
      inpos_S1x1x1_p0_0_0)
/-- The sink's gradient in the head's lane, zero in the others. -/
def dsLane (n : ℕ) : FVec F S1x128 .f32 :=
  select (cmpi .eq (iota .tc S1x128 32 [1] iota_S1x128_d1_w32) (broadcast S1x128 (BitVec.ofNat 32 n))) (broadcast S1x128 x.ds)
    (broadcast S1x128 (Scalar.ofBits .f32 0x00000000#32))

end Head

/-- Which keys the queries of the block at a point see. -/
def sees (i : grid0.Coords) : IVec S128x384 1 :=
  k0_pay15 (k0_pay12 (BitVec.ofNat 32 (i 0).val)) (k0_pay13 (BitVec.ofNat 32 (i 0).val)) (k0_pay14 (BitVec.ofNat 32 (i 0).val))

theorem inbQ (n : Fin 32) : ∀ a, (![0, 64 * n.val] : Fin 2 → ℕ) a + S128x64.size a ≤ S128x2048.size a := by
  intro a; fin_cases a <;> simp [S128x64, S128x2048]; omega
theorem inbK (h : Fin 4) : ∀ a, (![0, 64 * h.val] : Fin 2 → ℕ) a + S128x64.size a ≤ S128x256.size a := by
  intro a; fin_cases a <;> simp [S128x64, S128x256]; omega

/-- The columns of a query head, and of a key head. -/
abbrev colQ (n : Fin 32) : Rect S128x2048 := Rect.unit ![0, 64 * n.val] S128x64.size (inbQ n)
abbrev colK (h : Fin 4) : Rect S128x256 := Rect.unit ![0, 64 * h.val] S128x64.size (inbK h)

end Cert.AttnIdeal.Bwd

end
-- ==== Proof.Attention.RunFirst.lean ====
module

public import proofs.«01_k».proof.Proof.Attention.Sites
public import Idealize.ShloMosaic.Lib.Ring

/-! The body of the attention gradient at one kind of grid point. -/

@[expose] public section

set_option maxRecDepth 16384

noncomputable section

namespace Cert.AttnIdeal.Bwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem S128x2048 .bf16) (harg1 : arg1.IsWhole)
  (arg2 : Memref sig .tc .vmem S128x2048 .bf16) (harg2 : arg2.IsWhole)
  (arg3 : Memref sig .tc .vmem S128x256 .bf16) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x256 .bf16) (harg6 : arg6.IsWhole)
  (arg7 : Memref sig .tc .vmem S128x256 .bf16) (harg7 : arg7.IsWhole)
  (arg8 : Memref sig .tc .vmem S128x256 .bf16) (harg8 : arg8.IsWhole)
  (arg9 : Memref sig .tc .smem S1x32 .f32) (harg9 : arg9.IsWhole)
  (arg10 : Memref sig .tc .vmem S128x2048 .f32) (harg10 : arg10.IsWhole)
  (arg11 : Memref sig .tc .vmem S128x256 .f32) (harg11 : arg11.IsWhole)
  (arg12 : Memref sig .tc .vmem S128x256 .f32) (harg12 : arg12.IsWhole)
  (arg13 : Memref sig .tc .vmem S128x256 .f32) (harg13 : arg13.IsWhole)
  (arg14 : Memref sig .tc .vmem S128x256 .f32) (harg14 : arg14.IsWhole)
  (arg15 : Memref sig .tc .vmem S1x128 .f32) (harg15 : arg15.IsWhole)
  (arg16 : Memref sig .tc .vmem S128x256 .f32) (harg16 : arg16.IsWhole)
  (arg17 : Memref sig .tc .vmem S128x256 .f32) (harg17 : arg17.IsWhole)

set_option maxHeartbeats 2000000 in
/-- The first point: zeros are stored, then the block's contributions. The pieces that the stores leave in each output and scratch buffer, and the proof that the body leaves them. -/
noncomputable def runFirst (hc0 : isFirst i) (hc1 : isBlock i) (hc2 : ¬ isLast i)
  (x0 x1 : Vec F S128x2048 .bf16) (x2 x3 x4 x5 x6 x7 : Vec F S128x256 .bf16) (x8 : Vec F S1x32 .f32)
 :
    Σ' (L10 : List (View.Piece (Elt F) S128x2048 .f32)),
    Σ' (L11 : List (View.Piece (Elt F) S128x256 .f32)),
    Σ' (L12 : List (View.Piece (Elt F) S128x256 .f32)),
    Σ' (L13 : List (View.Piece (Elt F) S128x256 .f32)),
    Σ' (L14 : List (View.Piece (Elt F) S128x256 .f32)),
    Σ' (L15 : List (View.Piece (Elt F) S1x128 .f32)),
    Σ' (L16 : List (View.Piece (Elt F) S128x256 .f32)),
    { L17 : List (View.Piece (Elt F) S128x256 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ (∃ d, owns (c : Thread nD τ) arg16 fullShare d)
            ∗ (∃ d, owns (c : Thread nD τ) arg17 fullShare d)
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ (∃ f, arg10.view.loc (c : Thread nD τ) ↦[arg10.view.set]{fullShare} arg10.view.writes (Elt F) f L10)
            ∗ (∃ f, arg11.view.loc (c : Thread nD τ) ↦[arg11.view.set]{fullShare} arg11.view.writes (Elt F) f L11)
            ∗ (∃ f, arg12.view.loc (c : Thread nD τ) ↦[arg12.view.set]{fullShare} arg12.view.writes (Elt F) f L12)
            ∗ (∃ f, arg13.view.loc (c : Thread nD τ) ↦[arg13.view.set]{fullShare} arg13.view.writes (Elt F) f L13)
            ∗ (∃ f, arg14.view.loc (c : Thread nD τ) ↦[arg14.view.set]{fullShare} arg14.view.writes (Elt F) f L14)
            ∗ (∃ f, arg15.view.loc (c : Thread nD τ) ↦[arg15.view.set]{fullShare} arg15.view.writes (Elt F) f L15)
            ∗ (∃ f, arg16.view.loc (c : Thread nD τ) ↦[arg16.view.set]{fullShare} arg16.view.writes (Elt F) f L16)
            ∗ (∃ f, arg17.view.loc (c : Thread nD τ) ↦[arg17.view.set]{fullShare} arg17.view.writes (Elt F) f L17)) -∗ K ⟨⟩))
          ⊢ wp frame (wpE (defs₀ (F := F)) Variants.none c none) E
            (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun E K => ?run⟩
  case run =>
    simp only [cc0_attn_bwd_eq_skeleton]; unfold cc0_attn_bwd_skel
    simp only [k0_part46_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    iexists _; iexact H17

end Cert.AttnIdeal.Bwd

end
-- ==== Proof.Attention.RunBlock.lean ====
module

public import proofs.«01_k».proof.Proof.Attention.Sites
public import Idealize.ShloMosaic.Lib.Ring

/-! The body of the attention gradient at one kind of grid point. -/

@[expose] public section

set_option maxRecDepth 16384

noncomputable section

namespace Cert.AttnIdeal.Bwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem S128x2048 .bf16) (harg1 : arg1.IsWhole)
  (arg2 : Memref sig .tc .vmem S128x2048 .bf16) (harg2 : arg2.IsWhole)
  (arg3 : Memref sig .tc .vmem S128x256 .bf16) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x256 .bf16) (harg6 : arg6.IsWhole)
  (arg7 : Memref sig .tc .vmem S128x256 .bf16) (harg7 : arg7.IsWhole)
  (arg8 : Memref sig .tc .vmem S128x256 .bf16) (harg8 : arg8.IsWhole)
  (arg9 : Memref sig .tc .smem S1x32 .f32) (harg9 : arg9.IsWhole)
  (arg10 : Memref sig .tc .vmem S128x2048 .f32) (harg10 : arg10.IsWhole)
  (arg11 : Memref sig .tc .vmem S128x256 .f32) (harg11 : arg11.IsWhole)
  (arg12 : Memref sig .tc .vmem S128x256 .f32) (harg12 : arg12.IsWhole)
  (arg13 : Memref sig .tc .vmem S128x256 .f32) (harg13 : arg13.IsWhole)
  (arg14 : Memref sig .tc .vmem S128x256 .f32) (harg14 : arg14.IsWhole)
  (arg15 : Memref sig .tc .vmem S1x128 .f32) (harg15 : arg15.IsWhole)
  (arg16 : Memref sig .tc .vmem S128x256 .f32) (harg16 : arg16.IsWhole)
  (arg17 : Memref sig .tc .vmem S128x256 .f32) (harg17 : arg17.IsWhole)

set_option maxHeartbeats 2000000 in
/-- A later point with a query block: the same, over what the accumulators and the carried scratch hold. -/
noncomputable def runBlock (hc0 : ¬ isFirst i) (hc1 : isBlock i) (hc2 : ¬ isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) :
    Σ' (L10 : List (View.Piece (Elt F) S128x2048 .f32)),
    Σ' (L11 : List (View.Piece (Elt F) S128x256 .f32)),
    Σ' (L12 : List (View.Piece (Elt F) S128x256 .f32)),
    Σ' (L13 : List (View.Piece (Elt F) S128x256 .f32)),
    Σ' (L14 : List (View.Piece (Elt F) S128x256 .f32)),
    Σ' (L15 : List (View.Piece (Elt F) S1x128 .f32)),
    Σ' (L16 : List (View.Piece (Elt F) S128x256 .f32)),
    { L17 : List (View.Piece (Elt F) S128x256 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ (∃ d, owns (c : Thread nD τ) arg10 fullShare d)
            ∗ (∃ d, owns (c : Thread nD τ) arg11 fullShare d)
            ∗ (∃ d, owns (c : Thread nD τ) arg12 fullShare d)
            ∗ owns (c : Thread nD τ) arg13 fullShare y12
            ∗ owns (c : Thread nD τ) arg14 fullShare y13
            ∗ owns (c : Thread nD τ) arg15 fullShare y14
            ∗ owns (c : Thread nD τ) arg16 fullShare y16
            ∗ owns (c : Thread nD τ) arg17 fullShare y17
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ (∃ f, arg10.view.loc (c : Thread nD τ) ↦[arg10.view.set]{fullShare} arg10.view.writes (Elt F) f L10)
            ∗ (∃ f, arg11.view.loc (c : Thread nD τ) ↦[arg11.view.set]{fullShare} arg11.view.writes (Elt F) f L11)
            ∗ (∃ f, arg12.view.loc (c : Thread nD τ) ↦[arg12.view.set]{fullShare} arg12.view.writes (Elt F) f L12)
            ∗ (∃ f, arg13.view.loc (c : Thread nD τ) ↦[arg13.view.set]{fullShare} arg13.view.writes (Elt F) f L13)
            ∗ (∃ f, arg14.view.loc (c : Thread nD τ) ↦[arg14.view.set]{fullShare} arg14.view.writes (Elt F) f L14)
            ∗ (∃ f, arg15.view.loc (c : Thread nD τ) ↦[arg15.view.set]{fullShare} arg15.view.writes (Elt F) f L15)
            ∗ (∃ f, arg16.view.loc (c : Thread nD τ) ↦[arg16.view.set]{fullShare} arg16.view.writes (Elt F) f L16)
            ∗ (∃ f, arg17.view.loc (c : Thread nD τ) ↦[arg17.view.set]{fullShare} arg17.view.writes (Elt F) f L17)) -∗ K ⟨⟩))
          ⊢ wp frame (wpE (defs₀ (F := F)) Variants.none c none) E
            (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun E K => ?run⟩
  case run =>
    simp only [cc0_attn_bwd_eq_skeleton]; unfold cc0_attn_bwd_skel
    simp only [k0_part46_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, ⟨%f15, %hf15, H15⟩, ⟨%f16, %hf16, H16⟩, ⟨%f17, %hf17, H17⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13; obtain rfl := harg14.eq_unread hf14; obtain rfl := harg15.eq_unread hf15; obtain rfl := harg16.eq_unread hf16; obtain rfl := harg17.eq_unread hf17
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    iexists _; iexact H17

end Cert.AttnIdeal.Bwd

end
-- ==== Proof.Attention.RunLast.lean ====
module

public import proofs.«01_k».proof.Proof.Attention.Sites
public import Idealize.ShloMosaic.Lib.Ring

/-! The body of the attention gradient at one kind of grid point. -/

@[expose] public section

set_option maxRecDepth 16384

noncomputable section

namespace Cert.AttnIdeal.Bwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem S128x2048 .bf16) (harg1 : arg1.IsWhole)
  (arg2 : Memref sig .tc .vmem S128x2048 .bf16) (harg2 : arg2.IsWhole)
  (arg3 : Memref sig .tc .vmem S128x256 .bf16) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x256 .bf16) (harg6 : arg6.IsWhole)
  (arg7 : Memref sig .tc .vmem S128x256 .bf16) (harg7 : arg7.IsWhole)
  (arg8 : Memref sig .tc .vmem S128x256 .bf16) (harg8 : arg8.IsWhole)
  (arg9 : Memref sig .tc .smem S1x32 .f32) (harg9 : arg9.IsWhole)
  (arg10 : Memref sig .tc .vmem S128x2048 .f32) (harg10 : arg10.IsWhole)
  (arg11 : Memref sig .tc .vmem S128x256 .f32) (harg11 : arg11.IsWhole)
  (arg12 : Memref sig .tc .vmem S128x256 .f32) (harg12 : arg12.IsWhole)
  (arg13 : Memref sig .tc .vmem S128x256 .f32) (harg13 : arg13.IsWhole)
  (arg14 : Memref sig .tc .vmem S128x256 .f32) (harg14 : arg14.IsWhole)
  (arg15 : Memref sig .tc .vmem S1x128 .f32) (harg15 : arg15.IsWhole)
  (arg16 : Memref sig .tc .vmem S128x256 .f32) (harg16 : arg16.IsWhole)
  (arg17 : Memref sig .tc .vmem S128x256 .f32) (harg17 : arg17.IsWhole)

set_option maxHeartbeats 2000000 in
/-- The last point: the carried blocks are copied out; nothing else is touched. -/
noncomputable def runLast (hc0 : ¬ isFirst i) (hc1 : ¬ isBlock i) (hc2 : isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) :
    Σ' (L11 : List (View.Piece (Elt F) S128x256 .f32)),
    { L12 : List (View.Piece (Elt F) S128x256 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ (∃ d, owns (c : Thread nD τ) arg11 fullShare d)
            ∗ (∃ d, owns (c : Thread nD τ) arg12 fullShare d)
            ∗ owns (c : Thread nD τ) arg16 fullShare y16
            ∗ owns (c : Thread nD τ) arg17 fullShare y17
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ (∃ f, arg11.view.loc (c : Thread nD τ) ↦[arg11.view.set]{fullShare} arg11.view.writes (Elt F) f L11)
            ∗ (∃ f, arg12.view.loc (c : Thread nD τ) ↦[arg12.view.set]{fullShare} arg12.view.writes (Elt F) f L12)
            ∗ owns (c : Thread nD τ) arg16 fullShare y16
            ∗ owns (c : Thread nD τ) arg17 fullShare y17) -∗ K ⟨⟩))
          ⊢ wp frame (wpE (defs₀ (F := F)) Variants.none c none) E
            (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0_attn_bwd_eq_skeleton]; unfold cc0_attn_bwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%f16, %hf16, H16⟩, ⟨%f17, %hf17, H17⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg16.eq_unread hf16; obtain rfl := harg17.eq_unread hf17
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H11]
    · iexists _; iexact H11
    isplitl [H12]
    · iexists _; iexact H12
    isplitl [H16]
    · iexists _; isplitr; · ipureintro; exact harg16.read_unread _
      iexact H16
    iexists _; isplitr; · ipureintro; exact harg17.read_unread _
    iexact H17

end Cert.AttnIdeal.Bwd

end
-- ==== Proof.Attention.Steps.lean ====
module

public import proofs.«01_k».proof.Proof.Attention.RunFirst
public import proofs.«01_k».proof.Proof.Attention.RunBlock
public import proofs.«01_k».proof.Proof.Attention.RunLast

/-! What the body leaves at each kind of grid point, as one function of the blocks: the stores' pieces cover each buffer, so what they leave reads as the pieces alone. -/

@[expose] public section

set_option maxRecDepth 16384

noncomputable section

namespace Cert.AttnIdeal.Bwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem S128x2048 .bf16) (harg1 : arg1.IsWhole)
  (arg2 : Memref sig .tc .vmem S128x2048 .bf16) (harg2 : arg2.IsWhole)
  (arg3 : Memref sig .tc .vmem S128x256 .bf16) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x256 .bf16) (harg6 : arg6.IsWhole)
  (arg7 : Memref sig .tc .vmem S128x256 .bf16) (harg7 : arg7.IsWhole)
  (arg8 : Memref sig .tc .vmem S128x256 .bf16) (harg8 : arg8.IsWhole)
  (arg9 : Memref sig .tc .smem S1x32 .f32) (harg9 : arg9.IsWhole)
  (arg10 : Memref sig .tc .vmem S128x2048 .f32) (harg10 : arg10.IsWhole)
  (arg11 : Memref sig .tc .vmem S128x256 .f32) (harg11 : arg11.IsWhole)
  (arg12 : Memref sig .tc .vmem S128x256 .f32) (harg12 : arg12.IsWhole)
  (arg13 : Memref sig .tc .vmem S128x256 .f32) (harg13 : arg13.IsWhole)
  (arg14 : Memref sig .tc .vmem S128x256 .f32) (harg14 : arg14.IsWhole)
  (arg15 : Memref sig .tc .vmem S1x128 .f32) (harg15 : arg15.IsWhole)
  (arg16 : Memref sig .tc .vmem S128x256 .f32) (harg16 : arg16.IsWhole)
  (arg17 : Memref sig .tc .vmem S128x256 .f32) (harg17 : arg17.IsWhole)

/-- What the body leaves in the outputs' buffers and in the two scratch buffers. -/
structure State (F : FTy → Type) where
  dq : Vec F S128x2048 .f32
  dk : Vec F S128x256 .f32
  dv : Vec F S128x256 .f32
  dkm : Vec F S128x256 .f32
  dvm : Vec F S128x256 .f32
  ds : Vec F S1x128 .f32
  ck : Vec F S128x256 .f32
  cv : Vec F S128x256 .f32

theorem first_cover_dq (hc0 : isFirst i) (hc1 : isBlock i) (hc2 : ¬ isLast i)
  (x0 x1 : Vec F S128x2048 .bf16) (x2 x3 x4 x5 x6 x7 : Vec F S128x256 .bf16) (x8 : Vec F S1x32 .f32)
 (y : S128x2048.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).1 S128x64.size (by sl_kernel_rfl) y

theorem first_cover_dk (hc0 : isFirst i) (hc1 : isBlock i) (hc2 : ¬ isLast i)
  (x0 x1 : Vec F S128x2048 .bf16) (x2 x3 x4 x5 x6 x7 : Vec F S128x256 .bf16) (x8 : Vec F S1x32 .f32)
 (y : S128x256.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.1 S128x64.size (by sl_kernel_rfl) y

theorem first_cover_dv (hc0 : isFirst i) (hc1 : isBlock i) (hc2 : ¬ isLast i)
  (x0 x1 : Vec F S128x2048 .bf16) (x2 x3 x4 x5 x6 x7 : Vec F S128x256 .bf16) (x8 : Vec F S1x32 .f32)
 (y : S128x256.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.1 S128x64.size (by sl_kernel_rfl) y

theorem first_cover_dkm (hc0 : isFirst i) (hc1 : isBlock i) (hc2 : ¬ isLast i)
  (x0 x1 : Vec F S128x2048 .bf16) (x2 x3 x4 x5 x6 x7 : Vec F S128x256 .bf16) (x8 : Vec F S1x32 .f32)
 (y : S128x256.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.2.1, y ∈ pc.1.set :=
  View.cover_of_tiledBy (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.2.1 ![128, 64] (by sl_kernel_rfl) y

theorem first_cover_dvm (hc0 : isFirst i) (hc1 : isBlock i) (hc2 : ¬ isLast i)
  (x0 x1 : Vec F S128x2048 .bf16) (x2 x3 x4 x5 x6 x7 : Vec F S128x256 .bf16) (x8 : Vec F S1x32 .f32)
 (y : S128x256.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.2.2.1, y ∈ pc.1.set :=
  View.cover_of_tiledBy (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.2.2.1 ![128, 64] (by sl_kernel_rfl) y

theorem first_cover_ds (hc0 : isFirst i) (hc1 : isBlock i) (hc2 : ¬ isLast i)
  (x0 x1 : Vec F S128x2048 .bf16) (x2 x3 x4 x5 x6 x7 : Vec F S128x256 .bf16) (x8 : Vec F S1x32 .f32)
 (y : S1x128.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.2.2.2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.2.2.2.1 S1x128.size (by sl_kernel_rfl) y

theorem first_cover_ck (hc0 : isFirst i) (hc1 : isBlock i) (hc2 : ¬ isLast i)
  (x0 x1 : Vec F S128x2048 .bf16) (x2 x3 x4 x5 x6 x7 : Vec F S128x256 .bf16) (x8 : Vec F S1x32 .f32)
 (y : S128x256.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.2.2.2.2.1, y ∈ pc.1.set :=
  View.cover_of_wholeMem (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.2.2.2.2.1 (by sl_whole_mem) y

theorem first_cover_cv (hc0 : isFirst i) (hc1 : isBlock i) (hc2 : ¬ isLast i)
  (x0 x1 : Vec F S128x2048 .bf16) (x2 x3 x4 x5 x6 x7 : Vec F S128x256 .bf16) (x8 : Vec F S1x32 .f32)
 (y : S128x256.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.2.2.2.2.2.1, y ∈ pc.1.set :=
  View.cover_of_wholeMem (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.2.2.2.2.2.1 (by sl_whole_mem) y

/-- What the body leaves at the first points. -/
def firstState (hc0 : isFirst i) (hc1 : isBlock i) (hc2 : ¬ isLast i)
  (x0 x1 : Vec F S128x2048 .bf16) (x2 x3 x4 x5 x6 x7 : Vec F S128x256 .bf16) (x8 : Vec F S1x32 .f32)
 : State F :=
  ⟨View.canon (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).1,
   View.canon (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.1,
   View.canon (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.1,
   View.canon (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.2.1,
   View.canon (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.2.2.1,
   View.canon (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.2.2.2.1,
   View.canon (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.2.2.2.2.1,
   View.canon (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.2.2.2.2.2.1⟩

set_option maxHeartbeats 2000000 in
/-- The body's triple at one kind of point, with what it leaves as functions of the blocks. -/
theorem first_triple (hc0 : isFirst i) (hc1 : isBlock i) (hc2 : ¬ isLast i)
  (x0 x1 : Vec F S128x2048 .bf16) (x2 x3 x4 x5 x6 x7 : Vec F S128x256 .bf16) (x8 : Vec F S1x32 .f32)
 (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare (firstState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).dq
        ∗ owns (c : Thread nD τ) arg11 fullShare (firstState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).dk
        ∗ owns (c : Thread nD τ) arg12 fullShare (firstState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).dv
        ∗ owns (c : Thread nD τ) arg13 fullShare (firstState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).dkm
        ∗ owns (c : Thread nD τ) arg14 fullShare (firstState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).dvm
        ∗ owns (c : Thread nD τ) arg15 fullShare (firstState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).ds
        ∗ owns (c : Thread nD τ) arg16 fullShare (firstState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).ck
        ∗ owns (c : Thread nD τ) arg17 fullShare (firstState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).cv) -∗ K ⟨⟩))
      ⊢ wp frame (wpE (defs₀ (F := F)) Variants.none c none) E
        (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H1, H2, H3, H4, H5, H6, H7, H8, H9, H10, H11, H12, H13, H14, H15, H16, H17, Hk⟩
  iapply ((runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).2.2.2.2.2.2.2.2 E _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%e17, H17⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_eq_canon _ _ _ (first_cover_dq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8)
  isplitl [H11]
  · unfold owns; iexists _; isplitr
    swap; · iexact H11
    ipureintro; exact View.read_writes_eq_canon _ _ _ (first_cover_dk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8)
  isplitl [H12]
  · unfold owns; iexists _; isplitr
    swap; · iexact H12
    ipureintro; exact View.read_writes_eq_canon _ _ _ (first_cover_dv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8)
  isplitl [H13]
  · unfold owns; iexists _; isplitr
    swap; · iexact H13
    ipureintro; exact View.read_writes_eq_canon _ _ _ (first_cover_dkm c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8)
  isplitl [H14]
  · unfold owns; iexists _; isplitr
    swap; · iexact H14
    ipureintro; exact View.read_writes_eq_canon _ _ _ (first_cover_dvm c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8)
  isplitl [H15]
  · unfold owns; iexists _; isplitr
    swap; · iexact H15
    ipureintro; exact View.read_writes_eq_canon _ _ _ (first_cover_ds c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8)
  isplitl [H16]
  · unfold owns; iexists _; isplitr
    swap; · iexact H16
    ipureintro; exact View.read_writes_eq_canon _ _ _ (first_cover_ck c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8)
  unfold owns; iexists _; isplitr
  swap; · iexact H17
  ipureintro; exact View.read_writes_eq_canon _ _ _ (first_cover_cv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8)

theorem block_cover_dq (hc0 : ¬ isFirst i) (hc1 : isBlock i) (hc2 : ¬ isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) (y : S128x2048.Idx) :
    ∃ pc ∈ (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).1, y ∈ pc.1.set :=
  View.cover_of_tiledL (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).1 S128x64.size (by sl_kernel_rfl) y

theorem block_cover_dk (hc0 : ¬ isFirst i) (hc1 : isBlock i) (hc2 : ¬ isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) (y : S128x256.Idx) :
    ∃ pc ∈ (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.1, y ∈ pc.1.set :=
  View.cover_of_tiledL (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.1 S128x64.size (by sl_kernel_rfl) y

theorem block_cover_dv (hc0 : ¬ isFirst i) (hc1 : isBlock i) (hc2 : ¬ isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) (y : S128x256.Idx) :
    ∃ pc ∈ (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.2.1, y ∈ pc.1.set :=
  View.cover_of_tiledL (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.2.1 S128x64.size (by sl_kernel_rfl) y

theorem block_cover_dkm (hc0 : ¬ isFirst i) (hc1 : isBlock i) (hc2 : ¬ isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) (y : S128x256.Idx) :
    ∃ pc ∈ (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.2.2.1, y ∈ pc.1.set :=
  View.cover_of_tiledL (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.2.2.1 S128x64.size (by sl_kernel_rfl) y

theorem block_cover_dvm (hc0 : ¬ isFirst i) (hc1 : isBlock i) (hc2 : ¬ isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) (y : S128x256.Idx) :
    ∃ pc ∈ (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.2.2.2.1, y ∈ pc.1.set :=
  View.cover_of_tiledL (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.2.2.2.1 S128x64.size (by sl_kernel_rfl) y

theorem block_cover_ds (hc0 : ¬ isFirst i) (hc1 : isBlock i) (hc2 : ¬ isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) (y : S1x128.Idx) :
    ∃ pc ∈ (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.2.2.2.2.1, y ∈ pc.1.set :=
  View.cover_of_tiledL (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.2.2.2.2.1 S1x128.size (by sl_kernel_rfl) y

theorem block_cover_ck (hc0 : ¬ isFirst i) (hc1 : isBlock i) (hc2 : ¬ isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) (y : S128x256.Idx) :
    ∃ pc ∈ (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.2.2.2.2.2.1, y ∈ pc.1.set :=
  View.cover_of_tiledL (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.2.2.2.2.2.1 S128x64.size (by sl_kernel_rfl) y

theorem block_cover_cv (hc0 : ¬ isFirst i) (hc1 : isBlock i) (hc2 : ¬ isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) (y : S128x256.Idx) :
    ∃ pc ∈ (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.2.2.2.2.2.2.1, y ∈ pc.1.set :=
  View.cover_of_tiledL (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.2.2.2.2.2.2.1 S128x64.size (by sl_kernel_rfl) y

/-- What the body leaves at the later block points. -/
def blockState (hc0 : ¬ isFirst i) (hc1 : isBlock i) (hc2 : ¬ isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) : State F :=
  ⟨View.canon (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).1,
   View.canon (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.1,
   View.canon (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.2.1,
   View.canon (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.2.2.1,
   View.canon (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.2.2.2.1,
   View.canon (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.2.2.2.2.1,
   View.canon (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.2.2.2.2.2.1,
   View.canon (runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.2.2.2.2.2.2.1⟩

set_option maxHeartbeats 2000000 in
/-- The body's triple at one kind of point, with what it leaves as functions of the blocks. -/
theorem block_triple (hc0 : ¬ isFirst i) (hc1 : isBlock i) (hc2 : ¬ isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (∃ d, owns (c : Thread nD τ) arg11 fullShare d)
        ∗ (∃ d, owns (c : Thread nD τ) arg12 fullShare d)
        ∗ owns (c : Thread nD τ) arg13 fullShare y12
        ∗ owns (c : Thread nD τ) arg14 fullShare y13
        ∗ owns (c : Thread nD τ) arg15 fullShare y14
        ∗ owns (c : Thread nD τ) arg16 fullShare y16
        ∗ owns (c : Thread nD τ) arg17 fullShare y17
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare (blockState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).dq
        ∗ owns (c : Thread nD τ) arg11 fullShare (blockState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).dk
        ∗ owns (c : Thread nD τ) arg12 fullShare (blockState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).dv
        ∗ owns (c : Thread nD τ) arg13 fullShare (blockState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).dkm
        ∗ owns (c : Thread nD τ) arg14 fullShare (blockState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).dvm
        ∗ owns (c : Thread nD τ) arg15 fullShare (blockState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).ds
        ∗ owns (c : Thread nD τ) arg16 fullShare (blockState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).ck
        ∗ owns (c : Thread nD τ) arg17 fullShare (blockState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).cv) -∗ K ⟨⟩))
      ⊢ wp frame (wpE (defs₀ (F := F)) Variants.none c none) E
        (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H1, H2, H3, H4, H5, H6, H7, H8, H9, H10, H11, H12, H13, H14, H15, H16, H17, Hk⟩
  iapply ((runBlock c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.2.2.2.2.2.2.2 E _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%e17, H17⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_eq_canon _ _ _ (block_cover_dq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17)
  isplitl [H11]
  · unfold owns; iexists _; isplitr
    swap; · iexact H11
    ipureintro; exact View.read_writes_eq_canon _ _ _ (block_cover_dk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17)
  isplitl [H12]
  · unfold owns; iexists _; isplitr
    swap; · iexact H12
    ipureintro; exact View.read_writes_eq_canon _ _ _ (block_cover_dv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17)
  isplitl [H13]
  · unfold owns; iexists _; isplitr
    swap; · iexact H13
    ipureintro; exact View.read_writes_eq_canon _ _ _ (block_cover_dkm c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17)
  isplitl [H14]
  · unfold owns; iexists _; isplitr
    swap; · iexact H14
    ipureintro; exact View.read_writes_eq_canon _ _ _ (block_cover_dvm c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17)
  isplitl [H15]
  · unfold owns; iexists _; isplitr
    swap; · iexact H15
    ipureintro; exact View.read_writes_eq_canon _ _ _ (block_cover_ds c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17)
  isplitl [H16]
  · unfold owns; iexists _; isplitr
    swap; · iexact H16
    ipureintro; exact View.read_writes_eq_canon _ _ _ (block_cover_ck c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17)
  unfold owns; iexists _; isplitr
  swap; · iexact H17
  ipureintro; exact View.read_writes_eq_canon _ _ _ (block_cover_cv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17)

theorem last_cover_dk (hc0 : ¬ isFirst i) (hc1 : ¬ isBlock i) (hc2 : isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) (y : S128x256.Idx) :
    ∃ pc ∈ (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).1, y ∈ pc.1.set :=
  View.cover_of_tiledL (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).1 S128x256.size (by sl_kernel_rfl) y

theorem last_cover_dv (hc0 : ¬ isFirst i) (hc1 : ¬ isBlock i) (hc2 : isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) (y : S128x256.Idx) :
    ∃ pc ∈ (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.1, y ∈ pc.1.set :=
  View.cover_of_tiledL (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.1 S128x256.size (by sl_kernel_rfl) y

/-- What the body leaves at the last point: the two carried blocks, in the gradient's buffers. -/
def lastDk (hc0 : ¬ isFirst i) (hc1 : ¬ isBlock i) (hc2 : isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) : Vec F S128x256 .f32 := View.canon (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).1
/-- The same of the values' gradient. -/
def lastDv (hc0 : ¬ isFirst i) (hc1 : ¬ isBlock i) (hc2 : isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) : Vec F S128x256 .f32 := View.canon (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.1

set_option maxHeartbeats 2000000 in
/-- The body's triple at one kind of point, with what it leaves as functions of the blocks. -/
theorem last_triple (hc0 : ¬ isFirst i) (hc1 : ¬ isBlock i) (hc2 : isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg11 fullShare d)
        ∗ (∃ d, owns (c : Thread nD τ) arg12 fullShare d)
        ∗ owns (c : Thread nD τ) arg16 fullShare y16
        ∗ owns (c : Thread nD τ) arg17 fullShare y17
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg11 fullShare (lastDk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17)
        ∗ owns (c : Thread nD τ) arg12 fullShare (lastDv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17)
        ∗ owns (c : Thread nD τ) arg16 fullShare y16
        ∗ owns (c : Thread nD τ) arg17 fullShare y17) -∗ K ⟨⟩))
      ⊢ wp frame (wpE (defs₀ (F := F)) Variants.none c none) E
        (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H1, H2, H3, H4, H5, H6, H7, H8, H9, H11, H12, H16, H17, Hk⟩
  iapply ((runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).2.2 E _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  isplitl [H16]; · iexact H16
  isplitl [H17]; · iexact H17
  iintro ⟨H1, H2, H3, H4, H5, H6, H7, H8, H9, ⟨%e11, H11⟩, ⟨%e12, H12⟩, H16, H17⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]
  · unfold owns; iexists _; isplitr
    swap; · iexact H11
    ipureintro; exact View.read_writes_eq_canon _ _ _ (last_cover_dk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17)
  isplitl [H12]
  · unfold owns; iexists _; isplitr
    swap; · iexact H12
    ipureintro; exact View.read_writes_eq_canon _ _ _ (last_cover_dv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17)
  isplitl [H16]; · iexact H16
  iexact H17

end Cert.AttnIdeal.Bwd

end
-- ==== Proof.Attention.Spec.lean ====
module

public import proofs.«01_k».proof.Proof.Attention.Head
public import proofs.«01_k».proof.Proof.Attention.Steps

/-! What a block's stores hold, head by head, and that the run's pieces are these. -/

@[expose] public section

set_option maxRecDepth 16384

noncomputable section

namespace Cert.AttnIdeal.Bwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem inbS (n : Fin 32) : ∀ a, (![0, n.val] : Fin 2 → ℕ) a + S1x1.size a ≤ S1x32.size a := by
  intro a; fin_cases a <;> simp [S1x1, S1x32]

/-- A key or value head's 384 rows: the first block's, the block before's, and the block's own. -/
def rows3 (a b d : Vec F S128x64 .bf16) : FVec F S384x64 .bf16 :=
  concatenate S384x64 0 [⟨S128x64, a⟩, ⟨S128x64, b⟩, ⟨S128x64, d⟩] concatenates_S128x64_S128x64_S128x64_S384x64_d0

/-- A head's sink. -/
def sinkAt (x8 : Vec F S1x32 .f32) (n : Fin 32) : F .f32 :=
  View.ld (Val := Elt F) (e' := .f32) x8 (Rect.unit ![0, n.val] S1x1.size (inbS n)) (Shape.Idx.first (show 0 < S1x1.numel by decide))

/-- The key head of a query head. -/
def grp (n : Fin 32) : Fin 4 := ⟨n.val / 8, by omega⟩

/-- The `e`-th query head of a key head. -/
def mem (h : Fin 4) (e : Fin 8) : Fin 32 := ⟨8 * h.val + e.val, by omega⟩

/-- The operands of query head `n` at a point, from the point's blocks. -/
def heads (i : grid0.Coords) (x0 x1 : Vec F S128x2048 .bf16) (x2 x3 x4 x5 x6 x7 : Vec F S128x256 .bf16) (x8 : Vec F S1x32 .f32) (n : Fin 32) : Head F where
  see := sees i
  k := rows3 (View.ld (Val := Elt F) (e' := .bf16) x2 (colK (grp n))) (View.ld (Val := Elt F) (e' := .bf16) x3 (colK (grp n))) (View.ld (Val := Elt F) (e' := .bf16) x4 (colK (grp n)))
  v := rows3 (View.ld (Val := Elt F) (e' := .bf16) x5 (colK (grp n))) (View.ld (Val := Elt F) (e' := .bf16) x6 (colK (grp n))) (View.ld (Val := Elt F) (e' := .bf16) x7 (colK (grp n)))
  q := View.ld (Val := Elt F) (e' := .bf16) x0 (colQ n)
  g := View.ld (Val := Elt F) (e' := .bf16) x1 (colQ n)
  s := sinkAt x8 n

/-- Eight terms added to `z`, one after the other. -/
def add8 {s : Shape} (z : FVec F s .f32) (f : Fin 8 → FVec F s .f32) : FVec F s .f32 :=
  addf (addf (addf (addf (addf (addf (addf (addf z (f 0)) (f 1)) (f 2)) (f 3)) (f 4)) (f 5)) (f 6)) (f 7)

/-- The gradient of a key head's 384 keys over the block's queries, -/
def dK (x : Fin 32 → Head F) (h : Fin 4) : FVec F S384x64 .f32 :=
  add8 (broadcast S384x64 (Scalar.ofBits .f32 0x00000000#32)) fun e => (x (mem h e)).dk
/-- and of its 384 values. -/
def dV (x : Fin 32 → Head F) (h : Fin 4) : FVec F S384x64 .f32 :=
  add8 (broadcast S384x64 (Scalar.ofBits .f32 0x00000000#32)) fun e => (x (mem h e)).dv
/-- The gradient of the sinks over the block's queries, each in its lane. -/
def dS (x : Fin 32 → Head F) : FVec F S1x128 .f32 :=
  add8 (add8 (add8 (add8 (broadcast S1x128 (Scalar.ofBits .f32 0x00000000#32))
    fun e => (x (mem 0 e)).dsLane (mem 0 e).val) fun e => (x (mem 1 e)).dsLane (mem 1 e).val)
    fun e => (x (mem 2 e)).dsLane (mem 2 e).val) fun e => (x (mem 3 e)).dsLane (mem 3 e).val

/-- The first block's rows of a key head's gradient, the rows of the block before, and the block's own. -/
def rowsM (z : FVec F S384x64 .f32) : FVec F S128x64 .f32 := extractStridedSlice S128x64 ![0, 0] z slices_S384x64_o0_0_S128x64
def rowsP (z : FVec F S384x64 .f32) : FVec F S128x64 .f32 := extractStridedSlice S128x64 ![128, 0] z slices_S384x64_o128_0_S128x64
def rowsC (z : FVec F S384x64 .f32) : FVec F S128x64 .f32 := extractStridedSlice S128x64 ![256, 0] z slices_S384x64_o256_0_S128x64

/-- The pieces that fill a block of 32 query heads, and one of four key heads, the last stored first. -/
def piecesQ (f : Fin 32 → Vec F S128x64 .f32) : List (View.Piece (Elt F) S128x2048 .f32) :=
  (List.finRange 32).reverse.map fun n => ⟨colQ n, f n⟩
def piecesK (f : Fin 4 → Vec F S128x64 .f32) : List (View.Piece (Elt F) S128x256 .f32) :=
  [⟨colK 3, f 3⟩, ⟨colK 2, f 2⟩, ⟨colK 1, f 1⟩, ⟨colK 0, f 0⟩]

/-- A block of the sinks' gradients as the body leaves it. -/
def pieceS (y : Vec F S1x128 .f32) : View.Piece (Elt F) S1x128 .f32 := ⟨Rect.unit ![0, 0] S1x128.size inb_S1x128_S1x128_0_0, y⟩

/-- One accumulator's new slices: what it held, plus the first block's rows. -/
def accM (y : Vec F S128x256 .f32) (z : Fin 4 → FVec F S384x64 .f32) (h : Fin 4) : Vec F S128x64 .f32 :=
  addf (shapeCast S128x64 (View.ld (Val := Elt F) (e' := .f32) y (colK h)) shapeCasts_S128x64_S128x64) (rowsM (z h))
/-- One gradient block's slices: what was carried, plus the rows of the block before. -/
def accP (y : Vec F S128x256 .f32) (z : Fin 4 → FVec F S384x64 .f32) (h : Fin 4) : Vec F S128x64 .f32 :=
  addf (View.ld (Val := Elt F) (e' := .f32) y (colK h)) (rowsP (z h))
/-- What is carried on: the block's own rows. -/
def keepC (z : Fin 4 → FVec F S384x64 .f32) (h : Fin 4) : Vec F S128x64 .f32 :=
  shapeCast S128x64 (rowsC (z h)) shapeCasts_S128x64_S128x64

/-- What a point with a query block leaves, from its heads and what the point before left. -/
def blockSpec (x : Fin 32 → Head F) (y12 y13 : Vec F S128x256 .f32) (y14 : Vec F S1x128 .f32) (y16 y17 : Vec F S128x256 .f32) : State F where
  dq := View.canon (piecesQ fun n => (x n).dq)
  dk := View.canon (piecesK (accP y16 (dK x)))
  dv := View.canon (piecesK (accP y17 (dV x)))
  dkm := View.canon (piecesK (accM y12 (dK x)))
  dvm := View.canon (piecesK (accM y13 (dV x)))
  ds := View.canon [pieceS (addf (shapeCast S1x128 (View.ld (Val := Elt F) (e' := .f32) y14 (Rect.unit ![0, 0] S1x128.size inb_S1x128_S1x128_0_0)) shapeCasts_S1x128_S1x128) (dS x))]
  ck := View.canon (piecesK (keepC (dK x)))
  cv := View.canon (piecesK (keepC (dV x)))

variable (c : Dev nD) (i : grid0.Coords)
  (arg1 : Memref sig .tc .vmem S128x2048 .bf16) (harg1 : arg1.IsWhole)
  (arg2 : Memref sig .tc .vmem S128x2048 .bf16) (harg2 : arg2.IsWhole)
  (arg3 : Memref sig .tc .vmem S128x256 .bf16) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x256 .bf16) (harg6 : arg6.IsWhole)
  (arg7 : Memref sig .tc .vmem S128x256 .bf16) (harg7 : arg7.IsWhole)
  (arg8 : Memref sig .tc .vmem S128x256 .bf16) (harg8 : arg8.IsWhole)
  (arg9 : Memref sig .tc .smem S1x32 .f32) (harg9 : arg9.IsWhole)
  (arg10 : Memref sig .tc .vmem S128x2048 .f32) (harg10 : arg10.IsWhole)
  (arg11 : Memref sig .tc .vmem S128x256 .f32) (harg11 : arg11.IsWhole)
  (arg12 : Memref sig .tc .vmem S128x256 .f32) (harg12 : arg12.IsWhole)
  (arg13 : Memref sig .tc .vmem S128x256 .f32) (harg13 : arg13.IsWhole)
  (arg14 : Memref sig .tc .vmem S128x256 .f32) (harg14 : arg14.IsWhole)
  (arg15 : Memref sig .tc .vmem S1x128 .f32) (harg15 : arg15.IsWhole)
  (arg16 : Memref sig .tc .vmem S128x256 .f32) (harg16 : arg16.IsWhole)
  (arg17 : Memref sig .tc .vmem S128x256 .f32) (harg17 : arg17.IsWhole)
theorem block_dq (hc0 : ¬ isFirst i) (hc1 : isBlock i) (hc2 : ¬ isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) :
    (blockState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).dq
      = View.canon (piecesQ fun n => ((heads i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8))) n).dq) := by
  sl_kernel_rfl

theorem block_dk (hc0 : ¬ isFirst i) (hc1 : isBlock i) (hc2 : ¬ isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) :
    (blockState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).dk
      = View.canon (piecesK (accP (arg16.view.read (Elt F) (harg16.unread y16)) (dK (heads i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8)))))) := by
  sl_kernel_rfl

theorem block_dv (hc0 : ¬ isFirst i) (hc1 : isBlock i) (hc2 : ¬ isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) :
    (blockState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).dv
      = View.canon (piecesK (accP (arg17.view.read (Elt F) (harg17.unread y17)) (dV (heads i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8)))))) := by
  sl_kernel_rfl

theorem block_dkm (hc0 : ¬ isFirst i) (hc1 : isBlock i) (hc2 : ¬ isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) :
    (blockState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).dkm
      = View.canon (piecesK (accM (arg13.view.read (Elt F) (harg13.unread y12)) (dK (heads i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8)))))) := by
  sl_kernel_rfl

theorem block_dvm (hc0 : ¬ isFirst i) (hc1 : isBlock i) (hc2 : ¬ isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) :
    (blockState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).dvm
      = View.canon (piecesK (accM (arg14.view.read (Elt F) (harg14.unread y13)) (dV (heads i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8)))))) := by
  sl_kernel_rfl

theorem block_ds (hc0 : ¬ isFirst i) (hc1 : isBlock i) (hc2 : ¬ isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) :
    (blockState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).ds
      = View.canon [pieceS (addf (shapeCast S1x128 (View.ld (Val := Elt F) (e' := .f32) (arg15.view.read (Elt F) (harg15.unread y14)) (Rect.unit ![0, 0] S1x128.size inb_S1x128_S1x128_0_0)) shapeCasts_S1x128_S1x128) (dS (heads i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8)))))] := by
  sl_kernel_rfl

theorem block_ck (hc0 : ¬ isFirst i) (hc1 : isBlock i) (hc2 : ¬ isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) :
    (blockState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).ck
      = View.canon (piecesK (keepC (dK (heads i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8)))))) := by
  sl_kernel_rfl

theorem block_cv (hc0 : ¬ isFirst i) (hc1 : isBlock i) (hc2 : ¬ isLast i)
  (x0 x1 : Vec F S128x2048 .bf16) (x2 x3 x4 x5 x6 x7 : Vec F S128x256 .bf16) (x8 : Vec F S1x32 .f32)
    (y12 y13 : Vec F S128x256 .f32) (y14 : Vec F S1x128 .f32) (y16 y17 : Vec F S128x256 .f32) :
    (blockState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17).cv
      = View.canon (piecesK (keepC (dV (heads i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8)))))) := by
  sl_kernel_rfl

end Cert.AttnIdeal.Bwd

end
-- ==== Proof.Attention.HeadReal.lean ====
module

public import proofs.«01_k».proof.Proof.Attention.Spec
public import Idealize.ShloMosaic.Lib.Pipeline.ValueKit
public import Idealize.ShloMosaic.Lib.Pointwise

/-! One query head of one block over the extended reals: where its operands are real numbers, so are its softmax, the gradients of the scores,
and the gradients that it gives to its queries, to its 384 keys and values and to the sink; each is stated as a formula over the reals. -/

@[expose] public section

noncomputable section

namespace Cert.AttnIdeal.Bwd

open Cert.AttnIdeal Cert.AttnIdeal.Gen
open Idealize.ShloMosaic Idealize.ShloMosaic.Pointwise

/-- A finite sum of reals, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of a real number and of numbers below `⊤` is a real number. -/
theorem exists_real_max {ι : Type*} (s : Finset ι) (f : ι → EReal) (hf : ∀ i ∈ s, f i < ⊤) (σ : ℝ) :
    ∃ m : ℝ, max (s.fold max (⊥ : EReal) f) (σ : EReal) = m := by
  have h1 : max (s.fold max (⊥ : EReal) f) (σ : EReal) < ⊤ :=
    max_lt ((Finset.fold_max_lt _).2 ⟨bot_lt_top, hf⟩) (EReal.coe_lt_top σ)
  have h2 : (⊥ : EReal) < max (s.fold max (⊥ : EReal) f) (σ : EReal) := lt_of_lt_of_le (EReal.bot_lt_coe σ) (le_max_right _ _)
  exact ⟨_, (EReal.coe_toReal h1.ne h2.ne').symm⟩

/-- The exponential of a difference of reals. -/
theorem exp_sub (a m : ℝ) : Ideal.exp ((a : EReal) - (m : EReal)) = ((Real.exp a * Real.exp (-m) : ℝ) : EReal) := by
  rw [← EReal.coe_sub, sub_eq_add_neg, ← Real.exp_add]; rfl
/-- The exponential of what is masked. -/
theorem exp_bot_sub (m : ℝ) : Ideal.exp ((⊥ : EReal) - (m : EReal)) = 0 := by
  rw [EReal.bot_sub]; rfl
/-- A quotient of reals. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A head whose operands are real. -/
structure Head.Real (x : Head Ideal) (S : Fin 128 → Fin 384 → Prop) [∀ a j, Decidable (S a j)]
    (q g : Fin 128 → Fin 64 → ℝ) (k v : Fin 384 → Fin 64 → ℝ) (σ : ℝ) : Prop where
  see : ∀ a j, x.see (ix2 a j) = BitVec.ofBool (decide (S a j))
  q : ∀ a d, x.q (ix2 a d) = ((q a d : ℝ) : EReal)
  g : ∀ a d, x.g (ix2 a d) = ((g a d : ℝ) : EReal)
  k : ∀ j d, x.k (ix2 j d) = ((k j d : ℝ) : EReal)
  v : ∀ j d, x.v (ix2 j d) = ((v j d : ℝ) : EReal)
  s : x.s = (σ : EReal)

/-- The mask's constant is minus infinity. -/
theorem mask_bot : (Named.named κ "mask" 0xF149F2CA#32 : Ideal .f32) = (⊥ : EReal) := IdealRules.named_const.ideal_named_scalar _ _ _ _ rfl

/-- The word of minus infinity, and of infinity. -/
theorem negInf : Ideal.ofBits FTy.f32 4286578688#32 = (⊥ : EReal) := by
  simp [Ideal.ofBits, Ideal.ieee]
theorem posInf : Ideal.ofBits FTy.f32 2139095040#32 = (⊤ : EReal) := by
  simp [Ideal.ofBits, Ideal.ieee]

namespace Head.Real

variable {x : Head Ideal} {S : Fin 128 → Fin 384 → Prop} [∀ a j, Decidable (S a j)]
  {q g : Fin 128 → Fin 64 → ℝ} {k v : Fin 384 → Fin 64 → ℝ} {σ : ℝ}

/-- A row's exponentials, their sum with the sink's, the softmax, its gradient, a row's mean, the gradient of the scores. -/
def ex (S : Fin 128 → Fin 384 → Prop) [∀ a j, Decidable (S a j)] (q : Fin 128 → Fin 64 → ℝ) (k : Fin 384 → Fin 64 → ℝ) (a : Fin 128) (j : Fin 384) : ℝ :=
  if S a j then Real.exp (∑ d, q a d * k j d) else 0
def total (S : Fin 128 → Fin 384 → Prop) [∀ a j, Decidable (S a j)] (q : Fin 128 → Fin 64 → ℝ) (k : Fin 384 → Fin 64 → ℝ) (σ : ℝ) (a : Fin 128) : ℝ :=
  ∑ j, ex S q k a j + Real.exp σ
def dp (g : Fin 128 → Fin 64 → ℝ) (v : Fin 384 → Fin 64 → ℝ) (a : Fin 128) (j : Fin 384) : ℝ := ∑ d, g a d * v j d

theorem ex_nonneg (a : Fin 128) (j : Fin 384) : 0 ≤ ex S q k a j := by
  unfold ex; split
  · exact (Real.exp_pos _).le
  · exact le_rfl
theorem total_pos (a : Fin 128) : 0 < total S q k σ a :=
  add_pos_of_nonneg_of_pos (Finset.sum_nonneg fun j _ => ex_nonneg a j) (Real.exp_pos _)

variable (h : x.Real S q g k v σ)
include h

theorem score (a : Fin 128) (j : Fin 384) :
    x.score (ix2 a j) = if S a j then ((∑ d, q a d * k j d : ℝ) : EReal) else ⊥ := by
  have e : x.score (ix2 a j) = Scalar.select (x.see (ix2 a j)) (∑ d, x.q (ix2 a d) * x.k (ix2 j d)) (Named.named κ "mask" 0xF149F2CA#32 : Ideal .f32) := by
    pointwise [Head.score]
  rw [e, h.see, mask_bot]
  simp only [h.q, h.k, ← EReal.coe_mul, ← coe_sum]
  by_cases hs : S a j <;> simp [hs, Scalar.select]

theorem top (a : Fin 128) : ∃ m : ℝ, x.top (ix2 a 0) = (m : EReal) := by
  have e : x.top (ix2 a 0) = max (Finset.fold max (Ideal.ofBits FTy.f32 4286578688#32) (fun j => x.score (ix2 a j)) Finset.univ) x.s := by
    pointwise [Head.top]
  rw [e, h.s, negInf]
  refine exists_real_max _ _ (fun j _ => ?_) σ
  rw [h.score]
  split
  · exact EReal.coe_lt_top _
  · exact bot_lt_top

/-- The exponentials, over one factor that a row's softmax does not keep. -/
theorem exps (a : Fin 128) : ∃ m : ℝ, 0 < m ∧ (∀ j, x.expScore (ix2 a j) = ((ex S q k a j * m : ℝ) : EReal))
    ∧ x.expSink (ix2 a 0) = ((Real.exp σ * m : ℝ) : EReal) := by
  obtain ⟨m, hm⟩ := h.top a
  refine ⟨Real.exp (-m), Real.exp_pos _, fun j => ?_, ?_⟩
  · have e : x.expScore (ix2 a j) = Ideal.exp (x.score (ix2 a j) - x.top (ix2 a 0)) := by pointwise [Head.expScore]
    rw [e, hm, h.score]
    by_cases hs : S a j
    · rw [if_pos hs, exp_sub]; simp [ex, hs]
    · rw [if_neg hs, exp_bot_sub]; simp [ex, hs]
  · have e : x.expSink (ix2 a 0) = Ideal.exp (x.s - x.top (ix2 a 0)) := by pointwise [Head.expSink]
    rw [e, hm, h.s, exp_sub]

theorem weights (a : Fin 128) : (∀ j, x.weight (ix2 a j) = ((ex S q k a j / total S q k σ a : ℝ) : EReal))
    ∧ x.weightSink (ix2 a 0) = ((Real.exp σ / total S q k σ a : ℝ) : EReal) := by
  obtain ⟨m, hm, h1, h2⟩ := h.exps a
  have ht := total_pos (S := S) (q := q) (k := k) (σ := σ) a
  have er : x.recip (ix2 a 0) = ((1 / (total S q k σ a * m) : ℝ) : EReal) := by
    have e : x.recip (ix2 a 0) = Ideal.div 1 ((∑ j, x.expScore (ix2 a j)) + x.expSink (ix2 a 0)) := by pointwise [Head.recip]
    rw [e, h2]
    simp only [h1, ← coe_sum]
    rw [← EReal.coe_add, ← EReal.coe_one, div_coe]
    · congr 2; rw [total, add_mul, Finset.sum_mul]
    · rw [← Finset.sum_mul, ← add_mul]; exact (mul_pos ht hm).ne'
  constructor
  · intro j
    have e : x.weight (ix2 a j) = x.expScore (ix2 a j) * x.recip (ix2 a 0) := by pointwise [Head.weight]
    rw [e, h1, er, ← EReal.coe_mul]
    congr 1; field_simp
  · have e : x.weightSink (ix2 a 0) = x.expSink (ix2 a 0) * x.recip (ix2 a 0) := by pointwise [Head.weightSink]
    rw [e, h2, er, ← EReal.coe_mul]
    congr 1; field_simp

theorem weight (a : Fin 128) (j : Fin 384) : x.weight (ix2 a j) = ((ex S q k a j / total S q k σ a : ℝ) : EReal) := (h.weights a).1 j

theorem dWeight (a : Fin 128) (j : Fin 384) : x.dWeight (ix2 a j) = ((dp g v a j : ℝ) : EReal) := by
  have e : x.dWeight (ix2 a j) = ∑ d, x.g (ix2 a d) * x.v (ix2 j d) := by pointwise [Head.dWeight]
  rw [e]
  simp only [h.g, h.v, ← EReal.coe_mul, ← coe_sum]; rfl

theorem delta (a : Fin 128) : x.delta (ix2 a 0) = ((∑ j, ex S q k a j / total S q k σ a * dp g v a j : ℝ) : EReal) := by
  have e : x.delta (ix2 a 0) = ∑ j, x.weight (ix2 a j) * x.dWeight (ix2 a j) := by pointwise [Head.delta]
  rw [e]
  simp only [h.weight, h.dWeight, ← EReal.coe_mul, ← coe_sum]

theorem dScore (a : Fin 128) (j : Fin 384) : x.dScore (ix2 a j)
    = ((ex S q k a j / total S q k σ a * (dp g v a j - ∑ j, ex S q k a j / total S q k σ a * dp g v a j) : ℝ) : EReal) := by
  have e : x.dScore (ix2 a j) = x.weight (ix2 a j) * (x.dWeight (ix2 a j) - x.delta (ix2 a 0)) := by pointwise [Head.dScore]
  rw [e, h.weight, h.dWeight, h.delta, ← EReal.coe_sub, ← EReal.coe_mul]

theorem dq (a : Fin 128) (d : Fin 64) {f : Fin 384 → ℝ} (hf : ∀ j, x.dScore (ix2 a j) = (f j : EReal)) :
    x.dq (ix2 a d) = ((∑ j, f j * k j d : ℝ) : EReal) := by
  have e : x.dq (ix2 a d) = ∑ j, x.dScore (ix2 a j) * x.k (ix2 j d) := by pointwise [Head.dq]
  rw [e]
  simp only [hf, h.k, ← EReal.coe_mul, ← coe_sum]

theorem dk (j : Fin 384) (d : Fin 64) {f : Fin 128 → ℝ} (hf : ∀ a, x.dScore (ix2 a j) = (f a : EReal)) :
    x.dk (ix2 j d) = ((∑ a, f a * q a d : ℝ) : EReal) := by
  have e : x.dk (ix2 j d) = ∑ a, x.dScore (ix2 a j) * x.q (ix2 a d) := by pointwise [Head.dk]
  rw [e]
  simp only [hf, h.q, ← EReal.coe_mul, ← coe_sum]

theorem dv (j : Fin 384) (d : Fin 64) {f : Fin 128 → ℝ} (hf : ∀ a, x.weight (ix2 a j) = (f a : EReal)) :
    x.dv (ix2 j d) = ((∑ a, f a * g a d : ℝ) : EReal) := by
  have e : x.dv (ix2 j d) = ∑ a, x.weight (ix2 a j) * x.g (ix2 a d) := by pointwise [Head.dv]
  rw [e]
  simp only [hf, h.g, ← EReal.coe_mul, ← coe_sum]

theorem ds {f : Fin 128 → ℝ} (hf : ∀ a, x.weightSink (ix2 a 0) * x.delta (ix2 a 0) = (f a : EReal)) : x.ds = ((-∑ a, f a : ℝ) : EReal) := by
  have e : x.ds = 0 - ∑ a : Fin 128, ∑ b : Fin 1, x.weightSink (ix2 a 0) * x.delta (ix2 a 0) := by pointwise [Head.ds]
  rw [e]
  simp only [hf, Finset.univ_unique, Finset.sum_singleton, ← coe_sum]
  rw [← EReal.coe_zero, ← EReal.coe_sub, zero_sub]

end Head.Real

end Cert.AttnIdeal.Bwd

end
-- ==== Proof.Attention.Real.lean ====
module

public import Idealize.ShloMosaic.Lib.Pipeline.ValueKit
public import Idealize.ShloMosaic.Lib.Pointwise

/-! The gradient of causal attention within a window of 128 keys and 16 first keys, with a sink per head, over the real numbers:
the formulas that both programs compute, and the passage from all 4224 keys to the 384 that a block of queries is given. -/

@[expose] public section

noncomputable section

namespace Cert.Attention

/-- Query `r` sees key `c`: not later than `r`, and among the last 128 or the first 16. -/
def Sees (r c : ℕ) : Prop := c ≤ r ∧ (r < c + 128 ∨ c < 16)
instance (r c : ℕ) : Decidable (Sees r c) := inferInstanceAs (Decidable (_ ∧ _))

/-- The arguments: queries, keys, values, the output's gradient and the sinks. -/
structure Data where
  q : Fin 32 → Fin 4224 → Fin 64 → ℝ
  k : Fin 4 → Fin 4224 → Fin 64 → ℝ
  v : Fin 4 → Fin 4224 → Fin 64 → ℝ
  g : Fin 32 → Fin 4224 → Fin 64 → ℝ
  s : Fin 32 → ℝ

/-- The key head of a query head. -/
def kv (n : Fin 32) : Fin 4 := ⟨n.val / 8, by omega⟩
/-- The `e`-th query head of a key head. -/
def qh (h : Fin 4) (e : Fin 8) : Fin 32 := ⟨8 * h.val + e.val, by omega⟩
theorem kv_qh (h : Fin 4) (e : Fin 8) : kv (qh h e) = h := by ext; simp [kv, qh]; omega

namespace Data
variable (D : Data)

def score (n : Fin 32) (r c : Fin 4224) : ℝ := ∑ d, D.q n r d * D.k (kv n) c d
/-- A row's exponentials, and their sum with the sink's. -/
def ex (n : Fin 32) (r c : Fin 4224) : ℝ := if Sees r c then Real.exp (D.score n r c) else 0
def total (n : Fin 32) (r : Fin 4224) : ℝ := ∑ c, D.ex n r c + Real.exp (D.s n)
/-- The softmax, and the sink's part of it. -/
def p (n : Fin 32) (r c : Fin 4224) : ℝ := D.ex n r c / D.total n r
def ps (n : Fin 32) (r : Fin 4224) : ℝ := Real.exp (D.s n) / D.total n r
/-- The softmax's gradient, and each row's mean of it. -/
def dp (n : Fin 32) (r c : Fin 4224) : ℝ := ∑ d, D.g n r d * D.v (kv n) c d
def mean (n : Fin 32) (r : Fin 4224) : ℝ := ∑ c, D.p n r c * D.dp n r c
/-- The gradient of the scores. -/
def dscore (n : Fin 32) (r c : Fin 4224) : ℝ := D.p n r c * (D.dp n r c - D.mean n r)
/-- The four results: the gradients of the queries, keys, values and sinks. -/
def dq (n : Fin 32) (r : Fin 4224) (d : Fin 64) : ℝ := ∑ c, D.dscore n r c * D.k (kv n) c d
def dk (h : Fin 4) (c : Fin 4224) (d : Fin 64) : ℝ := ∑ e, ∑ r, D.dscore (qh h e) r c * D.q (qh h e) r d
def dv (h : Fin 4) (c : Fin 4224) (d : Fin 64) : ℝ := ∑ e, ∑ r, D.p (qh h e) r c * D.g (qh h e) r d
def ds (n : Fin 32) : ℝ := -∑ r, D.ps n r * D.mean n r

theorem ex_nonneg (n : Fin 32) (r c : Fin 4224) : 0 ≤ D.ex n r c := by
  unfold ex; split
  · exact (Real.exp_pos _).le
  · exact le_rfl
theorem total_pos (n : Fin 32) (r : Fin 4224) : 0 < D.total n r :=
  add_pos_of_nonneg_of_pos (Finset.sum_nonneg fun c _ => D.ex_nonneg n r c) (Real.exp_pos _)
theorem p_of_not {n : Fin 32} {r c : Fin 4224} (h : ¬ Sees r c) : D.p n r c = 0 := by simp [p, ex, h]
theorem dscore_of_not {n : Fin 32} {r c : Fin 4224} (h : ¬ Sees r c) : D.dscore n r c = 0 := by simp [dscore, D.p_of_not h]

end Data

/-- The row of the `a`-th query of block `t`. -/
def row (t : Fin 33) (a : Fin 128) : Fin 4224 := ⟨128 * t.val + a.val, by omega⟩
/-- The key in slot `j` of block `t`: the first block's, the block before's, the block's own. -/
def pos (t : Fin 33) (j : Fin 384) : Fin 4224 :=
  ⟨if j.val < 128 then j.val else if j.val < 256 then 128 * (t.val - 1) + (j.val - 128) else 128 * t.val + (j.val - 256), by
    split
    · omega
    · split <;> omega⟩
/-- The slots that are in use: the first keys from the third block on, the block before from the second on. -/
def Used (t : Fin 33) (j : Fin 384) : Prop :=
  (j.val < 128 ∧ 2 ≤ t.val ∧ j.val < 16) ∨ (128 ≤ j.val ∧ j.val < 256 ∧ 1 ≤ t.val) ∨ 256 ≤ j.val
instance (t : Fin 33) (j : Fin 384) : Decidable (Used t j) := inferInstanceAs (Decidable (_ ∨ _ ∨ _))
/-- The `a`-th query of block `t` sees slot `j`. -/
def Seen (t : Fin 33) (a : Fin 128) (j : Fin 384) : Prop := Used t j ∧ Sees (row t a) (pos t j)
instance (t : Fin 33) (a : Fin 128) (j : Fin 384) : Decidable (Seen t a j) := inferInstanceAs (Decidable (_ ∧ _))

theorem pos_low (t : Fin 33) (j : Fin 384) (h : j.val < 128) : (pos t j).val = j.val := by
  simp only [pos]; rw [if_pos h]
theorem pos_mid (t : Fin 33) (j : Fin 384) (h : 128 ≤ j.val) (h' : j.val < 256) : (pos t j).val = 128 * (t.val - 1) + (j.val - 128) := by
  simp only [pos]; rw [if_neg (by omega), if_pos h']
theorem pos_high (t : Fin 33) (j : Fin 384) (h : 256 ≤ j.val) : (pos t j).val = 128 * t.val + (j.val - 256) := by
  simp only [pos]; rw [if_neg (by omega), if_neg (by omega)]

/-- The slot of a key that a query of block `t` sees. -/
def slot (t : Fin 33) (c : Fin 4224) : Fin 384 :=
  if h : 128 * t.val ≤ c.val ∧ c.val < 128 * t.val + 128 then ⟨256 + (c.val - 128 * t.val), by omega⟩
  else if h : 1 ≤ t.val ∧ 128 * (t.val - 1) ≤ c.val ∧ c.val < 128 * t.val then ⟨128 + (c.val - 128 * (t.val - 1)), by omega⟩
  else if h : c.val < 128 then ⟨c.val, by omega⟩ else 0

theorem pos_slot (t : Fin 33) (a : Fin 128) (c : Fin 4224) (h : Sees (row t a) c) : pos t (slot t c) = c ∧ Used t (slot t c) := by
  obtain ⟨h1, h2⟩ := h
  have ha := a.isLt
  simp only [row] at h1 h2
  unfold slot
  split
  · rename_i h3
    refine ⟨Fin.ext ?_, Or.inr (Or.inr (by simp))⟩
    simp only [pos]
    rw [if_neg (by omega), if_neg (by omega)]; omega
  · rename_i h3
    split
    · rename_i h4
      refine ⟨Fin.ext ?_, Or.inr (Or.inl ⟨by simp, by simp; omega, h4.1⟩)⟩
      simp only [pos]
      rw [if_neg (by omega), if_pos (by omega)]; omega
    · rename_i h4
      have h5 : c.val < 16 ∧ 2 ≤ t.val := by omega
      rw [dif_pos (by omega)]
      refine ⟨Fin.ext ?_, Or.inl ⟨by simp; omega, h5.2, by simp; omega⟩⟩
      simp only [pos]
      rw [if_pos (by omega)]

theorem slot_pos (t : Fin 33) (a : Fin 128) (j : Fin 384) (h : Seen t a j) : slot t (pos t j) = j := by
  obtain ⟨hu, h1, h2⟩ := h
  have ha := a.isLt
  have hj := j.isLt
  rcases hu with ⟨u1, u2, u3⟩ | ⟨u1, u2, u3⟩ | u1
  · have hp := pos_low t j u1
    unfold slot
    rw [dif_neg (by omega), dif_neg (by omega), dif_pos (by omega)]
    exact Fin.ext hp
  · have hp := pos_mid t j u1 u2
    unfold slot
    rw [dif_neg (by omega), dif_pos (by omega)]
    exact Fin.ext (by simp only [hp]; omega)
  · have hp := pos_high t j u1
    unfold slot
    rw [dif_pos (by omega)]
    exact Fin.ext (by simp only [hp]; omega)

/-- A sum over the slots that a query sees is the sum over the keys that it sees. -/
theorem sum_slots (t : Fin 33) (a : Fin 128) (f : Fin 4224 → ℝ) :
    ∑ j, (if Seen t a j then f (pos t j) else 0) = ∑ c : Fin 4224, if Sees (row t a) c then f c else 0 := by
  rw [← Finset.sum_filter, ← Finset.sum_filter]
  refine Finset.sum_bij' (fun j _ => pos t j) (fun c _ => slot t c) ?_ ?_ ?_ ?_ ?_
  · intro j hj; simpa using (Finset.mem_filter.1 hj).2.2
  · intro c hc
    have h := (Finset.mem_filter.1 hc).2
    have := pos_slot t a c h
    simp only [Finset.mem_filter, Finset.mem_univ, true_and]
    exact ⟨this.2, by rw [this.1]; exact h⟩
  · intro j hj; exact slot_pos t a j (Finset.mem_filter.1 hj).2
  · intro c hc; exact (pos_slot t a c (Finset.mem_filter.1 hc).2).1
  · intro j hj; rfl

/-- A sum over the slots of a function that vanishes where a key is not seen. -/
theorem sum_slots' (t : Fin 33) (a : Fin 128) (f : Fin 4224 → ℝ) (hf : ∀ c : Fin 4224, ¬ Sees (row t a) c → f c = 0) :
    ∑ j, (if Seen t a j then f (pos t j) else 0) = ∑ c, f c := by
  rw [sum_slots]
  refine Finset.sum_congr rfl fun c _ => ?_
  split
  · rfl
  · rename_i h; exact (hf c h).symm

/-- A sum over the rows, block by block. -/
theorem sum_rows {M : Type*} [AddCommMonoid M] (f : Fin 4224 → M) : ∑ r, f r = ∑ t, ∑ a, f (row t a) := by
  rw [← Finset.sum_product']
  refine (Finset.sum_bij' (fun x _ => row x.1 x.2) (fun r _ => ((⟨r.val / 128, by omega⟩ : Fin 33), (⟨r.val % 128, by omega⟩ : Fin 128)))
    (fun _ _ => Finset.mem_univ _) (fun _ _ => Finset.mem_univ _) ?_ ?_ (fun _ _ => rfl)).symm
  · rintro ⟨t, a⟩ _; ext <;> simp [row] <;> omega
  · intro r _; ext; simp [row]; omega

/-- The three slots at which key `128 b + i` is held: its own block's, the next block's, and the first block's. -/
def own (i : Fin 128) : Fin 384 := ⟨256 + i.val, by omega⟩
def before (i : Fin 128) : Fin 384 := ⟨128 + i.val, by omega⟩
def first (i : Fin 128) : Fin 384 := ⟨i.val, by omega⟩

/-- What one block gives to a key, from the three slots. -/
theorem split_slots (t b : Fin 33) (a i : Fin 128) (f : ℝ) :
    (if Sees (row t a) (row b i) then f else 0)
      = (if t = b then (if Seen t a (own i) then f else 0) else 0)
        + (if t.val = b.val + 1 then (if Seen t a (before i) then f else 0) else 0)
        + (if b = 0 then (if Seen t a (first i) then f else 0) else 0) := by
  have ha := a.isLt
  have hi := i.isLt
  have e1 : t = b → (Seen t a (own i) ↔ Sees (row t a) (row b i)) := by
    rintro rfl
    have : pos t (own i) = row t i := Fin.ext (by rw [pos_high _ _ (by simp [own])]; simp [own, row])
    unfold Seen; rw [this]; simp [Used, own]
  have e2 : t.val = b.val + 1 → (Seen t a (before i) ↔ Sees (row t a) (row b i)) := by
    intro h
    have : pos t (before i) = row b i := Fin.ext (by rw [pos_mid _ _ (by simp [before]) (by simp [before]; omega)]; simp [before, row]; omega)
    unfold Seen; rw [this]
    have : Used t (before i) := Or.inr (Or.inl ⟨by simp [before], by simp [before]; omega, by omega⟩)
    simp [this]
  have e3 : b = 0 → (Seen t a (first i) ↔ (2 ≤ t.val ∧ i.val < 16) ∧ Sees (row t a) (row b i)) := by
    rintro rfl
    have : pos t (first i) = row 0 i := Fin.ext (by rw [pos_low _ _ (by simp [first])]; simp [first, row])
    unfold Seen; rw [this]
    have : Used t (first i) ↔ (2 ≤ t.val ∧ i.val < 16) := by simp only [Used, first]; omega
    rw [this]
  by_cases hs : Sees (row t a) (row b i)
  · rw [if_pos hs]
    have hs' := hs
    obtain ⟨h1, h2⟩ := hs'
    simp only [row] at h1 h2
    by_cases c1 : t = b
    · have c2 : ¬ t.val = b.val + 1 := by rw [c1]; omega
      rw [if_pos c1, if_pos ((e1 c1).2 hs), if_neg c2]
      by_cases c3 : b = 0
      · rw [if_pos c3, if_neg (fun h => by have := ((e3 c3).1 h).1.1; rw [c1, c3] at this; simp at this)]; ring
      · rw [if_neg c3]; ring
    · have c1' : t.val ≠ b.val := fun h => c1 (Fin.ext h)
      rw [if_neg c1]
      by_cases c2 : t.val = b.val + 1
      · rw [if_pos c2, if_pos ((e2 c2).2 hs)]
        by_cases c3 : b = 0
        · rw [if_pos c3, if_neg (fun h => by have := ((e3 c3).1 h).1.1; rw [c3] at c2; simp at c2; omega)]; ring
        · rw [if_neg c3]; ring
      · have c3 : b = 0 := Fin.ext (by simp; omega)
        have c3' : b.val = 0 := by rw [c3]; rfl
        rw [if_neg c2, if_pos c3, if_pos ((e3 c3).2 ⟨by omega, hs⟩)]; ring
  · rw [if_neg hs]
    have z1 : (if t = b then (if Seen t a (own i) then f else 0) else 0) = 0 := by
      split
      · rename_i h; rw [if_neg (fun h' => hs ((e1 h).1 h'))]
      · rfl
    have z2 : (if t.val = b.val + 1 then (if Seen t a (before i) then f else 0) else 0) = 0 := by
      split
      · rename_i h; rw [if_neg (fun h' => hs ((e2 h).1 h'))]
      · rfl
    have z3 : (if b = 0 then (if Seen t a (first i) then f else 0) else 0) = 0 := by
      split
      · rename_i h; rw [if_neg (fun h' => hs ((e3 h).1 h').2)]
      · rfl
    rw [z1, z2, z3]; ring

end Cert.Attention

end
-- ==== Proof.Attention.Mask.lean ====
module

public import proofs.«01_k».proof.Proof.Attention.HeadReal
public import proofs.«01_k».proof.Proof.Attention.Real

/-! Which slots the queries of a block see: the mask that the body computes on 32-bit words, read as a condition on numbers. -/

@[expose] public section

noncomputable section

namespace Cert.AttnIdeal.Bwd

open Cert.AttnIdeal Cert.AttnIdeal.Gen Cert.Attention
open Idealize.ShloMosaic Idealize.ShloMosaic.Pointwise

theorem toInt_word (x : ℕ) (h : x < 2147483648) : (BitVec.ofNat 32 x).toInt = (x : ℤ) := by
  rw [BitVec.toInt_eq_toNat_cond, BitVec.toNat_ofNat, Nat.mod_eq_of_lt (by omega)]
  rw [if_pos (by omega)]
theorem slt_word (x y : ℕ) (hx : x < 2147483648) (hy : y < 2147483648) :
    IntOp.cmpi CmpIPredicate.slt (BitVec.ofNat 32 x) (BitVec.ofNat 32 y) = BitVec.ofBool (decide (x < y)) := by
  simp only [IntOp.cmpi, BitVec.slt, toInt_word x hx, toInt_word y hy, Nat.cast_lt]
theorem sle_word (x y : ℕ) (hx : x < 2147483648) (hy : y < 2147483648) :
    IntOp.cmpi CmpIPredicate.sle (BitVec.ofNat 32 x) (BitVec.ofNat 32 y) = BitVec.ofBool (decide (x ≤ y)) := by
  simp only [IntOp.cmpi, BitVec.sle, toInt_word x hx, toInt_word y hy, Nat.cast_le]
theorem sge_word (x y : ℕ) (hx : x < 2147483648) (hy : y < 2147483648) :
    IntOp.cmpi CmpIPredicate.sge (BitVec.ofNat 32 x) (BitVec.ofNat 32 y) = BitVec.ofBool (decide (y ≤ x)) := by
  simp only [IntOp.cmpi, BitVec.sle, toInt_word x hx, toInt_word y hy, Nat.cast_le]
theorem sub_word (x y : ℕ) (h : y ≤ x) : IntOp.subi (BitVec.ofNat 32 x) (BitVec.ofNat 32 y) = BitVec.ofNat 32 (x - y) := by
  obtain ⟨z, rfl⟩ := Nat.exists_eq_add_of_le h
  simp only [IntOp.subi, BitVec.ofNat_add, Nat.add_sub_cancel_left]
  rw [BitVec.add_comm, BitVec.add_sub_cancel]
theorem and_word (p q : Bool) : IntOp.andi (BitVec.ofBool p) (BitVec.ofBool q) = BitVec.ofBool (p && q) := by cases p <;> cases q <;> rfl
theorem or_word (p q : Bool) : IntOp.ori (BitVec.ofBool p) (BitVec.ofBool q) = BitVec.ofBool (p || q) := by cases p <;> cases q <;> rfl
theorem select_true {e : Type} (x y : e) : Scalar.select (BitVec.ofBool true) x y = x := rfl
theorem select_false {e : Type} (x y : e) : Scalar.select (BitVec.ofBool false) x y = y := rfl

/-- Later keys are not seen, nor those before the window, the first sixteen apart. -/
theorem sees_word (r u : ℕ) (hr : r < 5000) (hu : u < 5000) :
    IntOp.andi (IntOp.cmpi CmpIPredicate.sle (BitVec.ofNat 32 u) (BitVec.ofNat 32 r))
      (IntOp.ori (IntOp.cmpi CmpIPredicate.slt (IntOp.subi (BitVec.ofNat 32 r) (BitVec.ofNat 32 u)) 128#32)
        (IntOp.cmpi CmpIPredicate.slt (BitVec.ofNat 32 u) 16#32)) = BitVec.ofBool (decide (Sees r u)) := by
  rw [sle_word _ _ (by omega) (by omega), slt_word u 16 (by omega) (by omega)]
  by_cases h : u ≤ r
  · rw [sub_word _ _ h, slt_word _ 128 (by omega) (by omega), or_word, and_word]
    congr 1
    have e : (r - u < 128) = (r < u + 128) := propext (by omega)
    have e' : Sees r u = (r < u + 128 ∨ u < 16) := propext ⟨fun h' => h'.2, fun h' => ⟨h, h'⟩⟩
    simp only [e', e, h, Bool.decide_or, decide_true, Bool.true_and]
  · have e : ¬ Sees r u := fun h' => h h'.1
    generalize IntOp.subi (BitVec.ofNat 32 r) (BitVec.ofNat 32 u) = w
    simp only [IntOp.cmpi, or_word, and_word]
    simp [h, e]

theorem sees_word' (U : Bool) (r u : ℕ) (hr : r < 5000) (hu : u < 5000) :
    IntOp.andi (IntOp.andi (BitVec.ofBool U) (IntOp.cmpi CmpIPredicate.sle (BitVec.ofNat 32 u) (BitVec.ofNat 32 r)))
      (IntOp.ori (IntOp.cmpi CmpIPredicate.slt (IntOp.subi (BitVec.ofNat 32 r) (BitVec.ofNat 32 u)) 128#32)
        (IntOp.cmpi CmpIPredicate.slt (BitVec.ofNat 32 u) 16#32)) = BitVec.ofBool (U && decide (Sees r u)) := by
  rw [← and_word, ← sees_word r u hr hu]
  exact BitVec.and_assoc _ _ _

theorem zero_word (w v : BitVec 1) : IntOp.andi (IntOp.andi (BitVec.ofBool false) w) v = BitVec.ofBool false := by
  simp [IntOp.andi]

/-- The mask of a block: slot `j` is seen by query `a`. -/
theorem sees_apply (i : grid0.Coords) (a : Fin 128) (j : Fin 384) (t : Fin 33) (h : (i 0).val = t.val) :
    sees i (ix2 a j) = BitVec.ofBool (decide (Seen t a j)) := by
  pointwise [sees, k0_pay15, k0_pay12, k0_pay13, k0_pay14, k0_pay11]
  rw [h]
  have ht := t.isLt
  have ha := a.isLt
  have hj := j.isLt
  have er : IntOp.addi (Scalar.muli (BitVec.ofNat 32 t.val) 128#32) (BitVec.ofNat 32 a.val) = BitVec.ofNat 32 (128 * t.val + a.val) := by
    simp only [IntOp.addi, Scalar.muli, IntOp.muli, ← BitVec.ofNat_mul, ← BitVec.ofNat_add, Nat.mul_comm]
  have ej : IntOp.addi (Scalar.muli (BitVec.ofNat 32 t.val) 128#32) (BitVec.ofNat 32 j.val) = BitVec.ofNat 32 (128 * t.val + j.val) := by
    simp only [IntOp.addi, Scalar.muli, IntOp.muli, ← BitVec.ofNat_mul, ← BitVec.ofNat_add, Nat.mul_comm]
  have sc : ∀ p (x y : BitVec 32), Scalar.cmpi p x y = IntOp.cmpi p x y := fun _ _ _ => rfl
  rw [er, ej, sc, sc, sge_word t.val 2 (by omega) (by omega), sge_word t.val 1 (by omega) (by omega), slt_word j.val 128 (by omega) (by omega),
    slt_word j.val 256 (by omega) (by omega), sge_word j.val 128 (by omega) (by omega), sge_word j.val 256 (by omega) (by omega)]
  have es : decide (Seen t a j) = (decide (Used t j) && decide (Sees (128 * t.val + a.val) (pos t j).val)) := by
    by_cases h1 : Used t j <;> by_cases h2 : Sees (128 * t.val + a.val) (pos t j).val <;> simp [Seen, row, h1, h2]
  rw [es]
  by_cases c1 : j.val < 128
  · have hp := pos_low t j c1
    rw [decide_eq_true c1, select_true, slt_word j.val 16 (by omega) (by omega)]
    simp only [and_word, or_word]
    rw [← slt_word j.val 16 (by omega) (by omega), sees_word' _ _ _ (by omega) (by omega)]
    rw [hp]
    congr 2
    simp [Used, c1, show ¬ 128 ≤ j.val by omega, show ¬ 256 ≤ j.val by omega]
  · rw [decide_eq_false c1, select_false]
    by_cases c2 : j.val < 256
    · rw [decide_eq_true c2, select_true]
      by_cases c3 : t.val = 0
      · have hu : ¬ Used t j := by simp only [Used]; omega
        have e : ∀ w : BitVec 1, IntOp.andi (IntOp.andi (BitVec.ofBool false) (BitVec.ofBool (decide (2 ≤ t.val)))) w = BitVec.ofBool false := zero_word _
        rw [e, decide_eq_false hu, decide_eq_false (show ¬ 1 ≤ t.val by omega), decide_eq_false (show ¬ 256 ≤ j.val by omega)]
        simp only [and_word, or_word, Bool.and_false, Bool.or_false, Bool.false_and]
        exact zero_word _ _
      · have hp := pos_mid t j (by omega) c2
        have e : IntOp.subi (IntOp.addi (Scalar.muli (Scalar.subi (BitVec.ofNat 32 t.val) 1#32) 128#32) (BitVec.ofNat 32 j.val)) 128#32
            = BitVec.ofNat 32 (pos t j).val := by
          have e1 : Scalar.subi (BitVec.ofNat 32 t.val) 1#32 = BitVec.ofNat 32 (t.val - 1) := sub_word t.val 1 (by omega)
          rw [e1]
          have e2 : IntOp.addi (Scalar.muli (BitVec.ofNat 32 (t.val - 1)) 128#32) (BitVec.ofNat 32 j.val) = BitVec.ofNat 32 (128 * (t.val - 1) + j.val) := by
            simp only [IntOp.addi, Scalar.muli, IntOp.muli, ← BitVec.ofNat_mul, ← BitVec.ofNat_add, Nat.mul_comm]
          rw [e2, sub_word _ 128 (by omega), hp]
          congr 1; omega
        rw [e]
        have hl := (pos t j).isLt
        rw [slt_word (pos t j).val 16 (by omega) (by omega)]
        simp only [and_word, or_word]
        rw [← slt_word (pos t j).val 16 (by omega) (by omega), sees_word' _ _ _ (by omega) (by omega)]
        congr 2
        simp [Used, c1, c2, show 128 ≤ j.val by omega, show ¬ 256 ≤ j.val by omega]
    · rw [decide_eq_false c2, select_false]
      have hp := pos_high t j (by omega)
      have e : IntOp.subi (BitVec.ofNat 32 (128 * t.val + j.val)) 256#32 = BitVec.ofNat 32 (pos t j).val := by
        rw [sub_word _ 256 (by omega), hp]
        congr 1; omega
      rw [e]
      have hl := (pos t j).isLt
      rw [slt_word (pos t j).val 16 (by omega) (by omega)]
      simp only [and_word, or_word]
      rw [← slt_word (pos t j).val 16 (by omega) (by omega), sees_word' _ _ _ (by omega) (by omega)]
      congr 2
      simp [Used, c1, c2, show 256 ≤ j.val by omega]

end Cert.AttnIdeal.Bwd

end
-- ==== Proof.Attention.Block.lean ====
module

public import proofs.«01_k».proof.Proof.Attention.Mask
public import proofs.«01_k».proof.Proof.Attention.HeadReal
public import proofs.«01_k».proof.Proof.Attention.Spec

/-! What one block of queries gives, where its operands are numbers: its queries' gradient, and its part of the gradient of
the 384 keys and values and of the sinks. -/

@[expose] public section

noncomputable section

namespace Cert.Attention
namespace Data
variable (D : Data)

/-- What block `t` gives to the key and to the value in slot `j`. -/
def blockK (t : Fin 33) (h : Fin 4) (j : Fin 384) (d : Fin 64) : ℝ :=
  ∑ e, ∑ a, (if Seen t a j then D.dscore (qh h e) (row t a) (pos t j) else 0) * D.q (qh h e) (row t a) d
def blockV (t : Fin 33) (h : Fin 4) (j : Fin 384) (d : Fin 64) : ℝ :=
  ∑ e, ∑ a, (if Seen t a j then D.p (qh h e) (row t a) (pos t j) else 0) * D.g (qh h e) (row t a) d
/-- What it gives to a sink. -/
def blockS (t : Fin 33) (n : Fin 32) : ℝ := -∑ a, D.ps n (row t a) * D.mean n (row t a)

end Data
end Cert.Attention

namespace Cert.AttnIdeal.Bwd

open Idealize.ShloMosaic Idealize.ShloMosaic.Pointwise Cert.AttnIdeal Cert.AttnIdeal.Gen Cert.Attention

/-- The heads of block `t` hold the data's rows. -/
def Holds (x : Fin 32 → Head Ideal) (D : Data) (t : Fin 33) : Prop :=
  ∀ n, (x n).Real (Seen t) (fun a d => D.q n (row t a) d) (fun a d => D.g n (row t a) d)
    (fun j d => D.k (kv n) (pos t j) d) (fun j d => D.v (kv n) (pos t j) d) (D.s n)

/-- Eight terms added up, at an index. -/
theorem add8_apply {s : Shape} (z : FVec Ideal s .f32) (f : Fin 8 → FVec Ideal s .f32) (i : s.Idx) :
    add8 z f i = (((((((z i + f 0 i) + f 1 i) + f 2 i) + f 3 i) + f 4 i) + f 5 i) + f 6 i) + f 7 i := rfl
theorem add8_real {s : Shape} (i : s.Idx) (f : Fin 8 → FVec Ideal s .f32) (r : Fin 8 → ℝ) (hf : ∀ e, f e i = (r e : EReal)) :
    ((((((((broadcast s (Scalar.ofBits (F := Ideal) .f32 0x00000000#32) : FVec Ideal s .f32) i + f 0 i) + f 1 i) + f 2 i) + f 3 i) + f 4 i) + f 5 i) + f 6 i) + f 7 i
      = ((∑ e, r e : ℝ) : EReal) := by
  rw [show (broadcast s (Scalar.ofBits (F := Ideal) .f32 0x00000000#32) : FVec Ideal s .f32) i = (0 : EReal) from Ideal.ofBits_zero_f32, coe_sum, Fin.sum_univ_eight]
  simp only [hf, zero_add]

namespace Holds

variable {x : Fin 32 → Head Ideal} {D : Data} {t : Fin 33} (h : Holds x D t) (n : Fin 32)
include h

theorem ex_eq (a : Fin 128) (j : Fin 384) :
    Head.Real.ex (Seen t) (fun a d => D.q n (row t a) d) (fun j d => D.k (kv n) (pos t j) d) a j
      = if Seen t a j then D.ex n (row t a) (pos t j) else 0 := by
  unfold Head.Real.ex
  by_cases c : Seen t a j
  · rw [if_pos c, if_pos c]; unfold Data.ex; rw [if_pos c.2]; rfl
  · rw [if_neg c, if_neg c]

theorem total_eq (a : Fin 128) :
    Head.Real.total (Seen t) (fun a d => D.q n (row t a) d) (fun j d => D.k (kv n) (pos t j) d) (D.s n) a = D.total n (row t a) := by
  unfold Head.Real.total Data.total
  congr 1
  rw [← sum_slots' t a (fun c => D.ex n (row t a) c) fun c hc => by unfold Data.ex; rw [if_neg hc]]
  exact Finset.sum_congr rfl fun j _ => h.ex_eq n a j

theorem weight (a : Fin 128) (j : Fin 384) :
    (x n).weight (ix2 a j) = ((if Seen t a j then D.p n (row t a) (pos t j) else 0 : ℝ) : EReal) := by
  rw [(h n).weight a j, h.ex_eq, h.total_eq]
  congr 1
  by_cases c : Seen t a j
  · rw [if_pos c, if_pos c]; rfl
  · rw [if_neg c, if_neg c, zero_div]

theorem mean (a : Fin 128) : (x n).delta (ix2 a 0) = (D.mean n (row t a) : EReal) := by
  rw [(h n).delta a]
  congr 1
  rw [Data.mean, ← sum_slots' t a (fun c => D.p n (row t a) c * D.dp n (row t a) c) fun c hc => by rw [D.p_of_not hc, zero_mul]]
  refine Finset.sum_congr rfl fun j _ => ?_
  rw [h.ex_eq, h.total_eq]
  by_cases c : Seen t a j
  · rw [if_pos c, if_pos c]; rfl
  · rw [if_neg c, if_neg c, zero_div, zero_mul]

theorem dScore (a : Fin 128) (j : Fin 384) :
    (x n).dScore (ix2 a j) = ((if Seen t a j then D.dscore n (row t a) (pos t j) else 0 : ℝ) : EReal) := by
  rw [(h n).dScore a j]
  congr 1
  have hm := (h n).delta a
  rw [h.mean n a] at hm
  have hm := EReal.coe_injective hm
  rw [← hm, h.ex_eq, h.total_eq]
  by_cases c : Seen t a j
  · rw [if_pos c, if_pos c]; rfl
  · rw [if_neg c, if_neg c, zero_div, zero_mul]

/-- The block's queries' gradient. -/
theorem dq (a : Fin 128) (d : Fin 64) : (x n).dq (ix2 a d) = (D.dq n (row t a) d : EReal) := by
  rw [(h n).dq a d fun j => h.dScore n a j]
  congr 1
  rw [Data.dq, ← sum_slots' t a (fun c => D.dscore n (row t a) c * D.k (kv n) c d) fun c hc => by rw [D.dscore_of_not hc, zero_mul]]
  refine Finset.sum_congr rfl fun j _ => ?_
  by_cases c : Seen t a j
  · rw [if_pos c, if_pos c]
  · rw [if_neg c, if_neg c, zero_mul]

theorem dK (g : Fin 4) (j : Fin 384) (d : Fin 64) : Bwd.dK x g (ix2 j d) = (D.blockK t g j d : EReal) := by
  have e (e : Fin 8) := (h (mem g e)).dk j d fun a => h.dScore (mem g e) a j
  unfold Bwd.dK Data.blockK
  rw [add8_apply]
  exact add8_real (ix2 j d) (fun e => (x (mem g e)).dk) (fun e => ∑ a, (if Seen t a j then D.dscore (mem g e) (row t a) (pos t j) else 0) * D.q (mem g e) (row t a) d) e

theorem dV (g : Fin 4) (j : Fin 384) (d : Fin 64) : Bwd.dV x g (ix2 j d) = (D.blockV t g j d : EReal) := by
  have e (e : Fin 8) := (h (mem g e)).dv j d fun a => h.weight (mem g e) a j
  unfold Bwd.dV Data.blockV
  rw [add8_apply]
  exact add8_real (ix2 j d) (fun e => (x (mem g e)).dv) (fun e => ∑ a, (if Seen t a j then D.p (mem g e) (row t a) (pos t j) else 0) * D.g (mem g e) (row t a) d) e

theorem ds : (x n).ds = (D.blockS t n : EReal) := by
  refine (h n).ds fun a => ?_
  rw [h.mean, ((h n).weights a).2, h.total_eq, ← EReal.coe_mul]
  rfl

end Holds

end Cert.AttnIdeal.Bwd

end
-- ==== Proof.Attention.FirstLast.lean ====
module

public import proofs.«01_k».proof.Proof.Attention.Spec

/-! The first point's stores: it adds to buffers that it has just filled with zeros, so it leaves what a later point would over zeros; and the last point's. -/

@[expose] public section

set_option maxRecDepth 16384

noncomputable section

namespace Cert.AttnIdeal.Bwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The piece that fills a whole buffer. -/
def fill (z : Vec F S128x256 .f32) : View.Piece (Elt F) S128x256 .f32 := ⟨Rect.unit ![0, 0] S128x256.size inb_S128x256_S128x256_0_0, z⟩

/-- A filled buffer with the first `h` heads' slices stored over it. -/
def over (z : Vec F S128x256 .f32) (c : Fin 4 → Vec F S128x64 .f32) : ℕ → List (View.Piece (Elt F) S128x256 .f32)
  | 0 => [fill z]
  | 1 => [⟨colK 0, c 0⟩, fill z]
  | 2 => [⟨colK 1, c 1⟩, ⟨colK 0, c 0⟩, fill z]
  | 3 => [⟨colK 2, c 2⟩, ⟨colK 1, c 1⟩, ⟨colK 0, c 0⟩, fill z]
  | _ => [⟨colK 3, c 3⟩, ⟨colK 2, c 2⟩, ⟨colK 1, c 1⟩, ⟨colK 0, c 0⟩, fill z]

/-- A filled buffer with four slices stored over it, each computed from what it finds there. -/
def rmw (v : View sig .tc .vmem S128x256 .f32) (z : Vec F S128x256 .f32) (f : Fin 4 → Vec F S128x64 .f32 → Vec F S128x64 .f32) :
    List (View.Piece (Elt F) S128x256 .f32) :=
  let c0 := f 0 (v.readCov [fill z] (colK 0).toLoadRect)
  let c1 := f 1 (v.readCov [⟨colK 0, c0⟩, fill z] (colK 1).toLoadRect)
  let c2 := f 2 (v.readCov [⟨colK 1, c1⟩, ⟨colK 0, c0⟩, fill z] (colK 2).toLoadRect)
  let c3 := f 3 (v.readCov [⟨colK 2, c2⟩, ⟨colK 1, c1⟩, ⟨colK 0, c0⟩, fill z] (colK 3).toLoadRect)
  [⟨colK 3, c3⟩, ⟨colK 2, c2⟩, ⟨colK 1, c1⟩, ⟨colK 0, c0⟩, fill z]

/-- An index off a head's columns. -/
theorem not_mem_colK (h h' : Fin 4) (hne : h ≠ h') (j : S128x64.Idx) : (colK h').emb j ∉ (colK h).set := by
  intro hm
  obtain ⟨k, hk⟩ := (colK h).exists_idx_of_mem hm
  have e1 : ∀ (h : Fin 4) (j : S128x64.Idx), ((colK h).emb j 1).val = 64 * h.val + (j 1).val := fun h j => by
    show (![0, 64 * h.val] : Fin 2 → ℕ) 1 + 1 * (j 1).val = _
    simp
  have e2 : ∀ j : S128x64.Idx, (j 1).val < 64 := fun j => (j 1).isLt
  have h1 : 64 * h.val + (k 1).val = 64 * h'.val + (j 1).val :=
    (e1 h k).symm.trans ((congrArg (fun y : S128x256.Idx => (y 1).val) hk).trans (e1 h' j))
  have h2 := e2 j
  have h3 := e2 k
  exact hne (Fin.ext (by omega))

/-- A head's columns do not see another head's slice. -/
theorem skip (h h' : Fin 4) (hne : h ≠ h') (c : Vec F S128x64 .f32) (L : List (View.Piece (Elt F) S128x256 .f32)) (j : S128x64.Idx) :
    View.canon (⟨colK h, c⟩ :: L) ((colK h').emb j) = View.canon L ((colK h').emb j) :=
  View.canon_cons_of_not_mem _ _ (not_mem_colK h h' hne j)

/-- The filled buffer reads as the fill. -/
theorem canon_fill (z : Vec F S128x256 .f32) : View.canon [fill z] = z := by
  funext y
  have : (Rect.unit (s := S128x256) ![0, 0] S128x256.size inb_S128x256_S128x256_0_0).emb y = y := by
    funext a; apply Fin.ext
    show (![0, 0] : Fin 2 → ℕ) a + 1 * (y a).val = _
    fin_cases a <;> simp
  conv_lhs => rw [← this]
  exact View.canon_cons_emb _ _ _ _

/-- Head `h`'s columns of the buffer hold the fill while only earlier heads' slices have been stored. -/
theorem load_over (v : View sig .tc .vmem S128x256 .f32) (z : Vec F S128x256 .f32) (c : Fin 4 → Vec F S128x64 .f32) (h : Fin 4) :
    v.readCov (over z c h.val) (colK h).toLoadRect = View.ld (Val := Elt F) (e' := .f32) z (colK h) := by
  rw [View.readCov_eq_canon']
  funext j
  show View.canon (over z c h.val) ((colK h).emb j) = z ((colK h).emb j)
  match h with
  | 0 => exact congrFun (canon_fill z) _
  | 1 => exact (skip 0 1 (by decide) _ _ _).trans (congrFun (canon_fill z) _)
  | 2 => exact (skip 1 2 (by decide) _ _ _).trans ((skip 0 2 (by decide) _ _ _).trans (congrFun (canon_fill z) _))
  | 3 => exact (skip 2 3 (by decide) _ _ _).trans ((skip 1 3 (by decide) _ _ _).trans ((skip 0 3 (by decide) _ _ _).trans (congrFun (canon_fill z) _)))

theorem rmw_eq (v : View sig .tc .vmem S128x256 .f32) (z : Vec F S128x256 .f32) (f : Fin 4 → Vec F S128x64 .f32 → Vec F S128x64 .f32) :
    rmw v z f = over z (fun h => f h (View.ld (Val := Elt F) (e' := .f32) z (colK h))) 4 := by
  unfold rmw
  have e0 := load_over v z (fun h => f h (View.ld (Val := Elt F) (e' := .f32) z (colK h))) 0
  have e1 := load_over v z (fun h => f h (View.ld (Val := Elt F) (e' := .f32) z (colK h))) 1
  have e2 := load_over v z (fun h => f h (View.ld (Val := Elt F) (e' := .f32) z (colK h))) 2
  have e3 := load_over v z (fun h => f h (View.ld (Val := Elt F) (e' := .f32) z (colK h))) 3
  simp only [over, show ((0 : Fin 4).val) = 0 from rfl, show ((1 : Fin 4).val) = 1 from rfl, show ((2 : Fin 4).val) = 2 from rfl,
    show ((3 : Fin 4).val) = 3 from rfl] at e0 e1 e2 e3
  simp only [over, e0, e1, e2, e3]

/-- Every index lies in some head's columns. -/
theorem cover_colK (y : S128x256.Idx) : ∃ (h : Fin 4) (j : S128x64.Idx), (colK h).emb j = y := by
  have hy : (y 1).val < 256 := (y 1).isLt
  refine ⟨⟨(y 1).val / 64, by omega⟩, fun a => ⟨if a = 0 then (y 0).val else (y 1).val % 64, ?_⟩, ?_⟩
  · fin_cases a
    · exact (y 0).isLt
    · exact Nat.mod_lt _ (by decide)
  · funext a; apply Fin.ext
    show (![0, 64 * ((y 1).val / 64)] : Fin 2 → ℕ) a + 1 * (if a = 0 then (y 0).val else (y 1).val % 64) = (y a).val
    fin_cases a
    · simp
    · simp; omega

/-- What four slices leave, at an index of one of them. -/
theorem canon_piecesK_emb (c : Fin 4 → Vec F S128x64 .f32) (L : List (View.Piece (Elt F) S128x256 .f32)) (h : Fin 4) (j : S128x64.Idx) :
    View.canon (piecesK c ++ L) ((colK h).emb j) = c h j := by
  match h with
  | 3 => exact View.canon_cons_emb _ _ _ _
  | 2 => exact (skip 3 2 (by decide) _ _ _).trans (View.canon_cons_emb _ _ _ _)
  | 1 => exact (skip 3 1 (by decide) _ _ _).trans ((skip 2 1 (by decide) _ _ _).trans (View.canon_cons_emb _ _ _ _))
  | 0 => exact (skip 3 0 (by decide) _ _ _).trans ((skip 2 0 (by decide) _ _ _).trans ((skip 1 0 (by decide) _ _ _).trans (View.canon_cons_emb _ _ _ _)))

theorem canon_over (z : Vec F S128x256 .f32) (c : Fin 4 → Vec F S128x64 .f32) : View.canon (over z c 4) = View.canon (piecesK c) := by
  funext y
  obtain ⟨h, j, rfl⟩ := cover_colK y
  have h1 := canon_piecesK_emb c [fill z] h j
  have h2 := canon_piecesK_emb c [] h j
  rw [List.append_nil] at h2
  exact h1.trans h2.symm

/-- The slices that a head's columns hold, over what a buffer with the earlier heads' slices reads. -/
def loads (v : View sig .tc .vmem S128x256 .f32) (z : Vec F S128x256 .f32) (c : Fin 4 → Vec F S128x64 .f32) : Fin 4 → Vec F S128x64 .f32
  | 0 => v.readCov (over z c 0) (colK 0).toLoadRect
  | 1 => v.readCov (over z c 1) (colK 1).toLoadRect
  | 2 => v.readCov (over z c 2) (colK 2).toLoadRect
  | 3 => v.readCov (over z c 3) (colK 3).toLoadRect

theorem loads_eq (v : View sig .tc .vmem S128x256 .f32) (z : Vec F S128x256 .f32) (c : Fin 4 → Vec F S128x64 .f32) (h : Fin 4) :
    loads v z c h = View.ld (Val := Elt F) (e' := .f32) z (colK h) := by
  fin_cases h
  · exact load_over v z c 0
  · exact load_over v z c 1
  · exact load_over v z c 2
  · exact load_over v z c 3

/-- The sinks' block, filled and then stored whole. -/
theorem canon_pieceS (y : Vec F S1x128 .f32) (L : List (View.Piece (Elt F) S1x128 .f32)) : View.canon (pieceS y :: L) = y := by
  funext j
  have : (Rect.unit (s := S1x128) ![0, 0] S1x128.size inb_S1x128_S1x128_0_0).emb j = j := by
    funext a; apply Fin.ext
    show (![0, 0] : Fin 2 → ℕ) a + 1 * (j a).val = _
    fin_cases a <;> simp
  conv_lhs => rw [← this]
  exact View.canon_cons_emb _ _ _ _

variable (c : Dev nD) (i : grid0.Coords)
  (arg1 : Memref sig .tc .vmem S128x2048 .bf16) (harg1 : arg1.IsWhole)
  (arg2 : Memref sig .tc .vmem S128x2048 .bf16) (harg2 : arg2.IsWhole)
  (arg3 : Memref sig .tc .vmem S128x256 .bf16) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x256 .bf16) (harg6 : arg6.IsWhole)
  (arg7 : Memref sig .tc .vmem S128x256 .bf16) (harg7 : arg7.IsWhole)
  (arg8 : Memref sig .tc .vmem S128x256 .bf16) (harg8 : arg8.IsWhole)
  (arg9 : Memref sig .tc .smem S1x32 .f32) (harg9 : arg9.IsWhole)
  (arg10 : Memref sig .tc .vmem S128x2048 .f32) (harg10 : arg10.IsWhole)
  (arg11 : Memref sig .tc .vmem S128x256 .f32) (harg11 : arg11.IsWhole)
  (arg12 : Memref sig .tc .vmem S128x256 .f32) (harg12 : arg12.IsWhole)
  (arg13 : Memref sig .tc .vmem S128x256 .f32) (harg13 : arg13.IsWhole)
  (arg14 : Memref sig .tc .vmem S128x256 .f32) (harg14 : arg14.IsWhole)
  (arg15 : Memref sig .tc .vmem S1x128 .f32) (harg15 : arg15.IsWhole)
  (arg16 : Memref sig .tc .vmem S128x256 .f32) (harg16 : arg16.IsWhole)
  (arg17 : Memref sig .tc .vmem S128x256 .f32) (harg17 : arg17.IsWhole)
theorem first_dq (hc0 : isFirst i) (hc1 : isBlock i) (hc2 : ¬ isLast i)
  (x0 x1 : Vec F S128x2048 .bf16) (x2 x3 x4 x5 x6 x7 : Vec F S128x256 .bf16) (x8 : Vec F S1x32 .f32) :
    (firstState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).dq
      = View.canon (piecesQ fun n => ((heads i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8))) n).dq) := by
  sl_kernel_rfl

theorem first_dk (hc0 : isFirst i) (hc1 : isBlock i) (hc2 : ¬ isLast i)
  (x0 x1 : Vec F S128x2048 .bf16) (x2 x3 x4 x5 x6 x7 : Vec F S128x256 .bf16) (x8 : Vec F S1x32 .f32) :
    (firstState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).dk
      = View.canon (piecesK fun h => addf (loads arg16.view k0_pay4 (keepC (dK (heads i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8))))) h) (rowsP (dK (heads i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8))) h))) := by
  sl_kernel_rfl

theorem first_dv (hc0 : isFirst i) (hc1 : isBlock i) (hc2 : ¬ isLast i)
  (x0 x1 : Vec F S128x2048 .bf16) (x2 x3 x4 x5 x6 x7 : Vec F S128x256 .bf16) (x8 : Vec F S1x32 .f32) :
    (firstState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).dv
      = View.canon (piecesK fun h => addf (loads arg17.view k0_pay5 (keepC (dV (heads i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8))))) h) (rowsP (dV (heads i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8))) h))) := by
  sl_kernel_rfl

theorem first_dkm (hc0 : isFirst i) (hc1 : isBlock i) (hc2 : ¬ isLast i)
  (x0 x1 : Vec F S128x2048 .bf16) (x2 x3 x4 x5 x6 x7 : Vec F S128x256 .bf16) (x8 : Vec F S1x32 .f32) :
    (firstState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).dkm
      = View.canon (rmw arg13.view k0_pay1 (fun h y => addf (shapeCast S128x64 y shapeCasts_S128x64_S128x64) (rowsM (dK (heads i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8))) h)))) := by
  sl_kernel_rfl

theorem first_dvm (hc0 : isFirst i) (hc1 : isBlock i) (hc2 : ¬ isLast i)
  (x0 x1 : Vec F S128x2048 .bf16) (x2 x3 x4 x5 x6 x7 : Vec F S128x256 .bf16) (x8 : Vec F S1x32 .f32) :
    (firstState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).dvm
      = View.canon (rmw arg14.view k0_pay2 (fun h y => addf (shapeCast S128x64 y shapeCasts_S128x64_S128x64) (rowsM (dV (heads i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8))) h)))) := by
  sl_kernel_rfl

theorem first_ds (hc0 : isFirst i) (hc1 : isBlock i) (hc2 : ¬ isLast i)
  (x0 x1 : Vec F S128x2048 .bf16) (x2 x3 x4 x5 x6 x7 : Vec F S128x256 .bf16) (x8 : Vec F S1x32 .f32) :
    (firstState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).ds
      = View.canon [pieceS (addf (shapeCast S1x128 (arg15.view.readCov [pieceS k0_pay3] (Rect.unit ![0, 0] S1x128.size inb_S1x128_S1x128_0_0).toLoadRect) shapeCasts_S1x128_S1x128) (dS (heads i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8))))), pieceS k0_pay3] := by
  sl_kernel_rfl

theorem first_ck (hc0 : isFirst i) (hc1 : isBlock i) (hc2 : ¬ isLast i)
  (x0 x1 : Vec F S128x2048 .bf16) (x2 x3 x4 x5 x6 x7 : Vec F S128x256 .bf16) (x8 : Vec F S1x32 .f32) :
    (firstState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).ck
      = View.canon (over k0_pay4 (keepC (dK (heads i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8))))) 4) := by
  sl_kernel_rfl

theorem first_cv (hc0 : isFirst i) (hc1 : isBlock i) (hc2 : ¬ isLast i)
  (x0 x1 : Vec F S128x2048 .bf16) (x2 x3 x4 x5 x6 x7 : Vec F S128x256 .bf16) (x8 : Vec F S1x32 .f32) :
    (firstState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8).cv
      = View.canon (over k0_pay5 (keepC (dV (heads i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8))))) 4) := by
  sl_kernel_rfl

theorem firstState_eq (hc0 : isFirst i) (hc1 : isBlock i) (hc2 : ¬ isLast i)
  (x0 x1 : Vec F S128x2048 .bf16) (x2 x3 x4 x5 x6 x7 : Vec F S128x256 .bf16) (x8 : Vec F S1x32 .f32) :
    firstState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8
      = blockSpec (heads i x0 x1 x2 x3 x4 x5 x6 x7 x8) k0_pay1 k0_pay2 k0_pay3 k0_pay4 k0_pay5 := by
  have e : ∀ s t : State F, s.dq = t.dq → s.dk = t.dk → s.dv = t.dv → s.dkm = t.dkm → s.dvm = t.dvm → s.ds = t.ds → s.ck = t.ck → s.cv = t.cv → s = t := by
    rintro ⟨⟩ ⟨⟩ h1 h2 h3 h4 h5 h6 h7 h8; simp only at h1 h2 h3 h4 h5 h6 h7 h8; subst h1 h2 h3 h4 h5 h6 h7 h8; rfl
  apply e
  · rw [first_dq]; simp only [Memref.IsWhole.read_unread]; rfl
  · rw [first_dk]; simp only [Memref.IsWhole.read_unread]; simp only [loads_eq]; rfl
  · rw [first_dv]; simp only [Memref.IsWhole.read_unread]; simp only [loads_eq]; rfl
  · rw [first_dkm]; simp only [Memref.IsWhole.read_unread]; rw [rmw_eq, canon_over]; rfl
  · rw [first_dvm]; simp only [Memref.IsWhole.read_unread]; rw [rmw_eq, canon_over]; rfl
  · rw [first_ds]; simp only [Memref.IsWhole.read_unread]; rw [canon_pieceS, View.readCov_eq_canon', canon_pieceS]; exact (canon_pieceS _ _).symm
  · rw [first_ck]; simp only [Memref.IsWhole.read_unread]; rw [canon_over]; rfl
  · rw [first_cv]; simp only [Memref.IsWhole.read_unread]; rw [canon_over]; rfl

theorem blockState_eq (hc0 : ¬ isFirst i) (hc1 : isBlock i) (hc2 : ¬ isLast i)
  (x0 x1 : Vec F S128x2048 .bf16) (x2 x3 x4 x5 x6 x7 : Vec F S128x256 .bf16) (x8 : Vec F S1x32 .f32) (y12 y13 : Vec F S128x256 .f32) (y14 : Vec F S1x128 .f32) (y16 y17 : Vec F S128x256 .f32) :
    blockState c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17
      = blockSpec (heads i x0 x1 x2 x3 x4 x5 x6 x7 x8) y12 y13 y14 y16 y17 := by
  have e : ∀ s t : State F, s.dq = t.dq → s.dk = t.dk → s.dv = t.dv → s.dkm = t.dkm → s.dvm = t.dvm → s.ds = t.ds → s.ck = t.ck → s.cv = t.cv → s = t := by
    rintro ⟨⟩ ⟨⟩ h1 h2 h3 h4 h5 h6 h7 h8; simp only at h1 h2 h3 h4 h5 h6 h7 h8; subst h1 h2 h3 h4 h5 h6 h7 h8; rfl
  apply e
  · rw [block_dq]; simp only [Memref.IsWhole.read_unread]; rfl
  · rw [block_dk]; simp only [Memref.IsWhole.read_unread]; rfl
  · rw [block_dv]; simp only [Memref.IsWhole.read_unread]; rfl
  · rw [block_dkm]; simp only [Memref.IsWhole.read_unread]; rfl
  · rw [block_dvm]; simp only [Memref.IsWhole.read_unread]; rfl
  · rw [block_ds]; simp only [Memref.IsWhole.read_unread]; rfl
  · rw [block_ck]; simp only [Memref.IsWhole.read_unread]; rfl
  · rw [block_cv]; simp only [Memref.IsWhole.read_unread]; rfl

theorem lastDk_eq (hc0 : ¬ isFirst i) (hc1 : ¬ isBlock i) (hc2 : isLast i)
  (x0 x1 : Vec F S128x2048 .bf16) (x2 x3 x4 x5 x6 x7 : Vec F S128x256 .bf16) (x8 : Vec F S1x32 .f32) (y12 y13 : Vec F S128x256 .f32) (y14 : Vec F S1x128 .f32) (y16 y17 : Vec F S128x256 .f32) :
    lastDk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17 = y16 := by
  have h : lastDk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17
      = View.canon [fill (View.ld (Val := Elt F) (e' := .f32) (arg16.view.read (Elt F) (harg16.unread y16)) (Rect.unit ![0, 0] S128x256.size inb_S128x256_S128x256_0_0))] := by
    sl_kernel_rfl
  rw [h, canon_fill]; simp only [Memref.IsWhole.read_unread]
  funext j
  refine congrArg y16 ?_
  funext b; apply Fin.ext
  show (![0, 0] : Fin 2 → ℕ) b + 1 * (j b).val = _
  fin_cases b <;> simp

theorem lastDv_eq (hc0 : ¬ isFirst i) (hc1 : ¬ isBlock i) (hc2 : isLast i)
  (x0 x1 : Vec F S128x2048 .bf16) (x2 x3 x4 x5 x6 x7 : Vec F S128x256 .bf16) (x8 : Vec F S1x32 .f32) (y12 y13 : Vec F S128x256 .f32) (y14 : Vec F S1x128 .f32) (y16 y17 : Vec F S128x256 .f32) :
    lastDv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17 = y17 := by
  have h : lastDv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 y12 y13 y14 y16 y17
      = View.canon [fill (View.ld (Val := Elt F) (e' := .f32) (arg17.view.read (Elt F) (harg17.unread y17)) (Rect.unit ![0, 0] S128x256.size inb_S128x256_S128x256_0_0))] := by
    sl_kernel_rfl
  rw [h, canon_fill]; simp only [Memref.IsWhole.read_unread]
  funext j
  refine congrArg y17 ?_
  funext b; apply Fin.ext
  show (![0, 0] : Fin 2 → ℕ) b + 1 * (j b).val = _
  fin_cases b <;> simp

end Cert.AttnIdeal.Bwd

end
-- ==== Proof.Attention.Launch.lean ====
module

public import proofs.«01_k».proof.Proof.Attention.Steps
public import Idealize.ShloMosaic.Lib.Claim

/-! The attention gradient's run: what every point leaves, the pipeline's proof data, the body's obligation, the launch, and the frame. -/

@[expose] public section

set_option maxRecDepth 16384

noncomputable section

namespace Cert.AttnIdeal.Bwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hFirst (t : Fin cfg0.N) (h : t.val = 0) : isFirst (grid0.coords t) ∧ isBlock (grid0.coords t) ∧ ¬ isLast (grid0.coords t) :=
  ⟨(isFirst_iff t).mpr h, (isBlock_iff t).mpr (by omega), fun h' => by have := (isLast_iff t).mp h'; omega⟩
theorem hBlock (t : Fin cfg0.N) (h0 : t.val ≠ 0) (h : t.val < 33) : ¬ isFirst (grid0.coords t) ∧ isBlock (grid0.coords t) ∧ ¬ isLast (grid0.coords t) :=
  ⟨fun h' => h0 ((isFirst_iff t).mp h'), (isBlock_iff t).mpr h, fun h' => by have := (isLast_iff t).mp h'; omega⟩
theorem hLast (t : Fin cfg0.N) (h : ¬ t.val < 33) : ¬ isFirst (grid0.coords t) ∧ ¬ isBlock (grid0.coords t) ∧ isLast (grid0.coords t) :=
  have hN : t.val < 34 := lt_of_lt_of_eq t.isLt N_0
  ⟨fun h' => by have := (isFirst_iff t).mp h'; omega, fun h' => h ((isBlock_iff t).mp h'), (isLast_iff t).mpr (by omega)⟩

/-- What the first point leaves. -/
def stepFirst (c : Dev nD) (t : Fin cfg0.N) (h : t.val = 0) : State F :=
  firstState c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scK (Memref.isWhole_whole _) scV (Memref.isWhole_whole _) (hFirst t h).1 (hFirst t h).2.1 (hFirst t h).2.2 (X0_0 m c t) (iblk m c 1 t) (iblk m c 2 t) (iblk m c 3 t) (iblk m c 4 t) (iblk m c 5 t) (iblk m c 6 t) (iblk m c 7 t) (iblk m c 8 t)
/-- What a later point with a query block leaves, from what the point before left. -/
def stepBlock (c : Dev nD) (t : Fin cfg0.N) (h0 : t.val ≠ 0) (h : t.val < 33) (s : State F) : State F :=
  blockState c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scK (Memref.isWhole_whole _) scV (Memref.isWhole_whole _) (hBlock t h0 h).1 (hBlock t h0 h).2.1 (hBlock t h0 h).2.2 (X0_0 m c t) (iblk m c 1 t) (iblk m c 2 t) (iblk m c 3 t) (iblk m c 4 t) (iblk m c 5 t) (iblk m c 6 t) (iblk m c 7 t) (iblk m c 8 t) s.dkm s.dvm s.ds s.ck s.cv
/-- What the last point leaves: the carried blocks in the two gradients' buffers, the rest as it was. -/
def stepLast (c : Dev nD) (t : Fin cfg0.N) (h : ¬ t.val < 33) (s : State F) : State F :=
  { s with
    dk := lastDk c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scK (Memref.isWhole_whole _) scV (Memref.isWhole_whole _) (hLast t h).1 (hLast t h).2.1 (hLast t h).2.2 (X0_0 m c t) (iblk m c 1 t) (iblk m c 2 t) (iblk m c 3 t) (iblk m c 4 t) (iblk m c 5 t) (iblk m c 6 t) (iblk m c 7 t) (iblk m c 8 t) s.dkm s.dvm s.ds s.ck s.cv
    dv := lastDv c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scK (Memref.isWhole_whole _) scV (Memref.isWhole_whole _) (hLast t h).1 (hLast t h).2.1 (hLast t h).2.2 (X0_0 m c t) (iblk m c 1 t) (iblk m c 2 t) (iblk m c 3 t) (iblk m c 4 t) (iblk m c 5 t) (iblk m c 6 t) (iblk m c 7 t) (iblk m c 8 t) s.dkm s.dvm s.ds s.ck s.cv }

/-- What point `n` leaves in the outputs' buffers and the scratch buffers. -/
def states (c : Dev nD) : (n : ℕ) → n < cfg0.N → State F
  | 0, hn => stepFirst m c ⟨0, hn⟩ rfl
  | n + 1, hn =>
    if h : n + 1 < 33 then stepBlock m c ⟨n + 1, hn⟩ (Nat.succ_ne_zero n) h (states c n (Nat.lt_of_succ_lt hn))
    else stepLast m c ⟨n + 1, hn⟩ h (states c n (Nat.lt_of_succ_lt hn))

/-- What the point before `t` left. -/
abbrev prev (c : Dev nD) (t : Fin cfg0.N) : State F := states m c (t.val - 1) (Nat.lt_of_le_of_lt (Nat.sub_le _ _) t.isLt)

theorem states_first (c : Dev nD) (t : Fin cfg0.N) (h : t.val = 0) : states m c t.val t.isLt = stepFirst m c t h := by
  obtain ⟨n, hn⟩ := t; cases n with
  | zero => rfl
  | succ n => exact absurd h (Nat.succ_ne_zero n)
theorem states_block (c : Dev nD) (t : Fin cfg0.N) (h0 : t.val ≠ 0) (h : t.val < 33) :
    states m c t.val t.isLt = stepBlock m c t h0 h (prev m c t) := by
  obtain ⟨n, hn⟩ := t; cases n with
  | zero => exact absurd rfl h0
  | succ n => exact dif_pos h
theorem states_last (c : Dev nD) (t : Fin cfg0.N) (h : ¬ t.val < 33) :
    states m c t.val t.isLt = stepLast m c t h (prev m c t) := by
  obtain ⟨n, hn⟩ := t; cases n with
  | zero => exact absurd (show (0 : ℕ) < 33 by omega) h
  | succ n => exact dif_neg h

/-- The invariant before position `n`: the scratch buffers at anything before the first point, then at what the point before left. -/
def inv (c : Dev nD) : (n : ℕ) → n ≤ cfg0.N → sProp 𝕄
  | 0, _ => Pipeline.ΦA spec0 c
  | n + 1, hn => iprop(iprop(owns (c : Thread nD τ) scK fullShare (states m c n hn).ck ∗ owns (c : Thread nD τ) scV fullShare (states m c n hn).cv) ∗ (∃ r, prngReg c r))

theorem inv_zero (c : Dev nD) (n : ℕ) (h : n ≤ cfg0.N) (hz : n = 0) : inv m c n h = Pipeline.ΦA spec0 c := by
  subst hz; rfl
theorem inv_succ (c : Dev nD) (n : ℕ) (hn : n < cfg0.N) :
    inv m c (n + 1) hn = iprop(iprop(owns (c : Thread nD τ) scK fullShare (states m c n hn).ck ∗ owns (c : Thread nD τ) scV fullShare (states m c n hn).cv) ∗ (∃ r, prngReg c r)) := rfl
theorem inv_pos (c : Dev nD) (n : ℕ) (h : n ≤ cfg0.N) (hz : n ≠ 0) :
    inv m c n h = iprop(iprop(owns (c : Thread nD τ) scK fullShare (states m c (n - 1) (by omega)).ck ∗ owns (c : Thread nD τ) scV fullShare (states m c (n - 1) (by omega)).cv) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (states m c t.val t.isLt).dq
    | ⟨10, _⟩ => (states m c t.val t.isLt).dk
    | ⟨11, _⟩ => (states m c t.val t.isLt).dv
    | ⟨12, _⟩ => (states m c t.val t.isLt).dkm
    | ⟨13, _⟩ => (states m c t.val t.isLt).dvm
    | ⟨14, _⟩ => (states m c t.val t.isLt).ds
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = X0_0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = (states m c t.val t.isLt).dq := by dsimp only [dats]
theorem after10 (c : Dev nD) (t : Fin cfg0.N) : (dats m 0 c).after 10 t = (states m c t.val t.isLt).dk := by dsimp only [dats]
theorem after11 (c : Dev nD) (t : Fin cfg0.N) : (dats m 0 c).after 11 t = (states m c t.val t.isLt).dv := by dsimp only [dats]
theorem after12 (c : Dev nD) (t : Fin cfg0.N) : (dats m 0 c).after 12 t = (states m c t.val t.isLt).dkm := by dsimp only [dats]
theorem after13 (c : Dev nD) (t : Fin cfg0.N) : (dats m 0 c).after 13 t = (states m c t.val t.isLt).dvm := by dsimp only [dats]
theorem after14 (c : Dev nD) (t : Fin cfg0.N) : (dats m 0 c).after 14 t = (states m c t.val t.isLt).ds := by dsimp only [dats]
theorem before0 (c : Dev nD) (t : Fin cfg0.N) (d) : (dats m 0 c).before 0 t d = X0_0 m c t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-! The accumulators' buffers hold what the point before left, at every point but the first; at the last point the query gradient's does too. -/

theorem carry9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  rw [after9, after9]
  by_cases h : t.val < 33
  · rw [live9 t h] at hi; exact absurd hi Bool.false_ne_true
  · rw [states_last m c t h]; rfl
theorem before9 (c : Dev nD) (t : Fin cfg0.N) (h : ¬ t.val < 33) (d) : (dats m 0 c).before 9 t d = (prev m c t).dq := by
  rw [Dat.before_out_traj _ 9 rfl (fun _ _ => rfl) (carry9 m c) t.val t rfl d,
    if_neg (by rw [notFresh9 t h]; exact Bool.false_ne_true)]
  dsimp only [dats]
theorem carry12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  rw [after12, after12]
  by_cases h : t.val < 33
  · rw [live12 t h] at hi; exact absurd hi Bool.false_ne_true
  · rw [states_last m c t h]; rfl
theorem before12 (c : Dev nD) (t : Fin cfg0.N) (h : t.val ≠ 0) (d) : (dats m 0 c).before 12 t d = (prev m c t).dkm := by
  rw [Dat.before_out_traj _ 12 rfl (fun _ _ => rfl) (carry12 m c) t.val t rfl d,
    if_neg (by rw [notFresh12 t h]; exact Bool.false_ne_true)]
  dsimp only [dats]
theorem carry13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  rw [after13, after13]
  by_cases h : t.val < 33
  · rw [live13 t h] at hi; exact absurd hi Bool.false_ne_true
  · rw [states_last m c t h]; rfl
theorem before13 (c : Dev nD) (t : Fin cfg0.N) (h : t.val ≠ 0) (d) : (dats m 0 c).before 13 t d = (prev m c t).dvm := by
  rw [Dat.before_out_traj _ 13 rfl (fun _ _ => rfl) (carry13 m c) t.val t rfl d,
    if_neg (by rw [notFresh13 t h]; exact Bool.false_ne_true)]
  dsimp only [dats]
theorem carry14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t _ hi _
  rw [after14, after14]
  by_cases h : t.val < 33
  · rw [live14 t h] at hi; exact absurd hi Bool.false_ne_true
  · rw [states_last m c t h]; rfl
theorem before14 (c : Dev nD) (t : Fin cfg0.N) (h : t.val ≠ 0) (d) : (dats m 0 c).before 14 t d = (prev m c t).ds := by
  rw [Dat.before_out_traj _ 14 rfl (fun _ _ => rfl) (carry14 m c) t.val t rfl d,
    if_neg (by rw [notFresh14 t h]; exact Bool.false_ne_true)]
  dsimp only [dats]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)
/-- The body at point `t`. -/
abbrev bodyAt (t : Fin cfg0.N) :=
  cc0_attn_bwd (F := F) (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scK (Memref.isWhole_whole _) scV (Memref.isWhole_whole _)

theorem leaves0 (c : Dev nD) (t : Fin cfg0.N) : (dats m 0 c).leavesExact 0 t = owns (c : Thread nD τ) (ms0 t) fullShare (X0_0 m c t) := by
  unfold Dat.leavesExact; rw [show cfg0.idle 0 (grid0.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after4]
theorem leaves5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl, after5]
theorem leaves6 (c : Dev nD) (t : Fin cfg0.N) : (dats m 0 c).leavesExact 6 t = owns (c : Thread nD τ) (ms6 t) fullShare (iblk m c 6 t) := by
  unfold Dat.leavesExact; rw [show cfg0.idle 6 (grid0.coords t) = false from rfl, after6]
theorem leaves7 (c : Dev nD) (t : Fin cfg0.N) : (dats m 0 c).leavesExact 7 t = owns (c : Thread nD τ) (ms7 t) fullShare (iblk m c 7 t) := by
  unfold Dat.leavesExact; rw [show cfg0.idle 7 (grid0.coords t) = false from rfl, after7]
theorem leaves8 (c : Dev nD) (t : Fin cfg0.N) : (dats m 0 c).leavesExact 8 t = owns (c : Thread nD τ) (ms8 t) fullShare (iblk m c 8 t) := by
  unfold Dat.leavesExact; rw [show cfg0.idle 8 (grid0.coords t) = false from rfl, after8]
theorem leaves9 (c : Dev nD) (t : Fin cfg0.N) : (dats m 0 c).leavesExact 9 t = owns (c : Thread nD τ) (ms9 t) fullShare ((states m c t.val t.isLt).dq) := by
  by_cases h : t.val < 33
  · unfold Dat.leavesExact; rw [live9 t h, after9]
  · unfold Dat.leavesExact; rw [(idle9 t h).1, (idle9 t h).2, after9]
theorem leaves10 (c : Dev nD) (t : Fin cfg0.N) : (dats m 0 c).leavesExact 10 t = owns (c : Thread nD τ) (ms10 t) fullShare ((states m c t.val t.isLt).dk) := by
  by_cases h : t.val < 33
  · unfold Dat.leavesExact; rw [live10 t h, after10]
  · unfold Dat.leavesExact; rw [live10_last t h, after10]
theorem leaves11 (c : Dev nD) (t : Fin cfg0.N) : (dats m 0 c).leavesExact 11 t = owns (c : Thread nD τ) (ms11 t) fullShare ((states m c t.val t.isLt).dv) := by
  by_cases h : t.val < 33
  · unfold Dat.leavesExact; rw [live11 t h, after11]
  · unfold Dat.leavesExact; rw [live11_last t h, after11]
theorem leaves12 (c : Dev nD) (t : Fin cfg0.N) : (dats m 0 c).leavesExact 12 t = owns (c : Thread nD τ) (ms12 t) fullShare ((states m c t.val t.isLt).dkm) := by
  by_cases h : t.val < 33
  · unfold Dat.leavesExact; rw [live12 t h, after12]
  · unfold Dat.leavesExact; rw [(idle12 t h).1, (idle12 t h).2, after12]
theorem leaves13 (c : Dev nD) (t : Fin cfg0.N) : (dats m 0 c).leavesExact 13 t = owns (c : Thread nD τ) (ms13 t) fullShare ((states m c t.val t.isLt).dvm) := by
  by_cases h : t.val < 33
  · unfold Dat.leavesExact; rw [live13 t h, after13]
  · unfold Dat.leavesExact; rw [(idle13 t h).1, (idle13 t h).2, after13]
theorem leaves14 (c : Dev nD) (t : Fin cfg0.N) : (dats m 0 c).leavesExact 14 t = owns (c : Thread nD τ) (ms14 t) fullShare ((states m c t.val t.isLt).ds) := by
  by_cases h : t.val < 33
  · unfold Dat.leavesExact; rw [live14 t h, after14]
  · unfold Dat.leavesExact; rw [(idle14 t h).1, (idle14 t h).2, after14]

set_option maxHeartbeats 4000000 in
theorem sound_first (c : Dev nD) (t : Fin cfg0.N) (h : t.val = 0) :
    bodyPre m c t ⊢ wp frame (wpE (defs₀ (F := F)) Variants.none c none) Set.univ (bodyAt t) (fun _ => bodyPost m c t) := by
  unfold bodyPre bodyPost bodyAt
  simp only [before0, before1, before2, before3, before4, before5, before6, before7, before8]
  rw [show (dats m 0 c).owesAt () t.succ = (dats m 0 c).owesAt () t.castSucc from rfl]
  rw [show (dats m 0 c).Φ t.succ = inv m c (t.val + 1) t.isLt from rfl, inv_succ]
  rw [leaves0, leaves1, leaves2, leaves3, leaves4, leaves5, leaves6, leaves7, leaves8, leaves9, leaves10, leaves11, leaves12, leaves13, leaves14]
  rw [inv_castSucc m c t, inv_zero m c _ _ h, inv_eq]
  rw [states_first m c t h]
  unfold stepFirst
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (first_triple c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scK (Memref.isWhole_whole _) scV (Memref.isWhole_whole _) (hFirst t h).1 (hFirst t h).2.1 (hFirst t h).2.2 (X0_0 m c t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [HS0]; · iexact HS0
  isplitl [HS1]; · iexact HS1
  iintro ⟨H0, H1, H2, H3, H4, H5, H6, H7, H8, H9, H10, H11, H12, H13, H14, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 4000000 in
theorem sound_block (c : Dev nD) (t : Fin cfg0.N) (h0 : t.val ≠ 0) (h : t.val < 33) :
    bodyPre m c t ⊢ wp frame (wpE (defs₀ (F := F)) Variants.none c none) Set.univ (bodyAt t) (fun _ => bodyPost m c t) := by
  unfold bodyPre bodyPost bodyAt
  simp only [before0, before1, before2, before3, before4, before5, before6, before7, before8]
  simp only [before12 m c t h0, before13 m c t h0, before14 m c t h0]
  rw [show (dats m 0 c).owesAt () t.succ = (dats m 0 c).owesAt () t.castSucc from rfl]
  rw [show (dats m 0 c).Φ t.succ = inv m c (t.val + 1) t.isLt from rfl, inv_succ]
  rw [leaves0, leaves1, leaves2, leaves3, leaves4, leaves5, leaves6, leaves7, leaves8, leaves9, leaves10, leaves11, leaves12, leaves13, leaves14]
  rw [inv_castSucc m c t, inv_pos m c _ _ h0]
  rw [states_block m c t h0 h]
  unfold stepBlock
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (block_triple c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scK (Memref.isWhole_whole _) scV (Memref.isWhole_whole _) (hBlock t h0 h).1 (hBlock t h0 h).2.1 (hBlock t h0 h).2.2 (X0_0 m c t) (iblk m c 1 t) (iblk m c 2 t) (iblk m c 3 t) (iblk m c 4 t) (iblk m c 5 t) (iblk m c 6 t) (iblk m c 7 t) (iblk m c 8 t) (prev m c t).dkm (prev m c t).dvm (prev m c t).ds (prev m c t).ck (prev m c t).cv Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexact H12
  isplitl [H13]; · iexact H13
  isplitl [H14]; · iexact H14
  isplitl [HS0]; · iexact HS0
  isplitl [HS1]; · iexact HS1
  iintro ⟨H0, H1, H2, H3, H4, H5, H6, H7, H8, H9, H10, H11, H12, H13, H14, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 4000000 in
theorem sound_last (c : Dev nD) (t : Fin cfg0.N) (h : ¬ t.val < 33) :
    bodyPre m c t ⊢ wp frame (wpE (defs₀ (F := F)) Variants.none c none) Set.univ (bodyAt t) (fun _ => bodyPost m c t) := by
  unfold bodyPre bodyPost bodyAt
  simp only [before0, before1, before2, before3, before4, before5, before6, before7, before8]
  have h0 : t.val ≠ 0 := by omega
  simp only [before9 m c t h, before12 m c t h0, before13 m c t h0, before14 m c t h0]
  rw [show (dats m 0 c).owesAt () t.succ = (dats m 0 c).owesAt () t.castSucc from rfl]
  rw [show (dats m 0 c).Φ t.succ = inv m c (t.val + 1) t.isLt from rfl, inv_succ]
  rw [leaves0, leaves1, leaves2, leaves3, leaves4, leaves5, leaves6, leaves7, leaves8, leaves9, leaves10, leaves11, leaves12, leaves13, leaves14]
  rw [inv_castSucc m c t, inv_pos m c _ _ h0]
  rw [states_last m c t h]
  unfold stepLast
  dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (last_triple c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scK (Memref.isWhole_whole _) scV (Memref.isWhole_whole _) (hLast t h).1 (hLast t h).2.1 (hLast t h).2.2 (X0_0 m c t) (iblk m c 1 t) (iblk m c 2 t) (iblk m c 3 t) (iblk m c 4 t) (iblk m c 5 t) (iblk m c 6 t) (iblk m c 7 t) (iblk m c 8 t) (prev m c t).dkm (prev m c t).dvm (prev m c t).ds (prev m c t).ck (prev m c t).cv Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexists _; iexact H10
  isplitl [H11]; · iexists _; iexact H11
  isplitl [HS0]; · iexact HS0
  isplitl [HS1]; · iexact HS1
  iintro ⟨H0, H1, H2, H3, H4, H5, H6, H7, H8, H10, H11, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body at any point. -/
theorem sound_body (c : Dev nD) (t : Fin cfg0.N) :
    bodyPre m c t ⊢ wp frame (wpE (defs₀ (F := F)) Variants.none c none) Set.univ (bodyAt t) (fun _ => bodyPost m c t) := by
  by_cases h0 : t.val = 0
  · exact sound_first m c t h0
  by_cases h : t.val < 33
  · exact sound_block m c t h0 h
  · exact sound_last m c t h

theorem defs₀_row (t : Fin cfg0.N) :
    defs₀ (F := F) .tc cfg0.body (cfg0.bodyArgs t (cfg0.slots t)) = bodyAt t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 34 := N_0; omega), inv_eq]
  iintro ⟨⟨HS0, HS1⟩, Hg⟩
  isplitl [HS0 HS1]
  · isplitl [HS0]
    · iexists _; iexact HS0
    iexists _; iexact HS1
  iexact Hg

set_option backward.isDefEq.respectTransparency.types false in
/-- The launch: every weakly fair execution ends, with the pipeline's arrays at what the proof data computes, every
    buffer of the host's tail at what the tail computes, the rest as it was, and the counters at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hin := hin m) (hout := hout m)

/-- The frame: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.AttnIdeal.Bwd

end
-- ==== Proof.Attention.Operands.lean ====
module

public import proofs.«01_k».proof.Proof.Attention.Block
public import proofs.«01_k».proof.Proof.Attention.FirstLast
public import proofs.«01_k».proof.Proof.Attention.Launch
public import Idealize.ShloMosaic.Lib.Pipeline.ValueKit
public import Idealize.ShloMosaic.Lib.Pointwise

/-! What a point's blocks hold, read off the arguments. -/

@[expose] public section

set_option maxRecDepth 16384

noncomputable section

namespace Cert.AttnIdeal.Bwd

open Idealize.ShloMosaic Idealize.ShloMosaic.Pointwise Idealize.ShloMosaic.TcCoe Idealize.SL.Sem
open Cert.AttnIdeal Cert.AttnIdeal.Gen Cert.Attention

/-- Where a point's blocks lie. -/
theorem at0 : ∀ t : Fin cfg0.N, win0_0.index t 0 = min t.val 32 ∧ win0_0.index t 1 = 0 :=
  (by decide +kernel : ∀ t : Fin grid0.N, win0_0.index t 0 = min t.val 32 ∧ win0_0.index t 1 = 0)
theorem at1 : ∀ t : Fin cfg0.N, win0_1.index t 0 = min t.val 32 ∧ win0_1.index t 1 = 0 :=
  (by decide +kernel : ∀ t : Fin grid0.N, win0_1.index t 0 = min t.val 32 ∧ win0_1.index t 1 = 0)
theorem at2 : ∀ t : Fin cfg0.N, win0_2.index t 0 = 0 ∧ win0_2.index t 1 = 8 :=
  (by decide +kernel : ∀ t : Fin grid0.N, win0_2.index t 0 = 0 ∧ win0_2.index t 1 = 8)
theorem at3 : ∀ t : Fin cfg0.N, win0_3.index t 0 = t.val - 1 ∧ win0_3.index t 1 = 8 :=
  (by decide +kernel : ∀ t : Fin grid0.N, win0_3.index t 0 = t.val - 1 ∧ win0_3.index t 1 = 8)
theorem at4 : ∀ t : Fin cfg0.N, win0_4.index t 0 = min t.val 32 ∧ win0_4.index t 1 = 8 :=
  (by decide +kernel : ∀ t : Fin grid0.N, win0_4.index t 0 = min t.val 32 ∧ win0_4.index t 1 = 8)
theorem at5 : ∀ t : Fin cfg0.N, win0_5.index t 0 = 0 ∧ win0_5.index t 1 = 9 :=
  (by decide +kernel : ∀ t : Fin grid0.N, win0_5.index t 0 = 0 ∧ win0_5.index t 1 = 9)
theorem at6 : ∀ t : Fin cfg0.N, win0_6.index t 0 = t.val - 1 ∧ win0_6.index t 1 = 9 :=
  (by decide +kernel : ∀ t : Fin grid0.N, win0_6.index t 0 = t.val - 1 ∧ win0_6.index t 1 = 9)
theorem at7 : ∀ t : Fin cfg0.N, win0_7.index t 0 = min t.val 32 ∧ win0_7.index t 1 = 9 :=
  (by decide +kernel : ∀ t : Fin grid0.N, win0_7.index t 0 = min t.val 32 ∧ win0_7.index t 1 = 9)
theorem at8 : ∀ t : Fin cfg0.N, win0_8.index t 0 = 0 ∧ win0_8.index t 1 = 0 :=
  (by decide +kernel : ∀ t : Fin grid0.N, win0_8.index t 0 = 0 ∧ win0_8.index t 1 = 0)
/-- The grid's coordinate is the point's number. -/
theorem coord : ∀ t : Fin cfg0.N, (grid0.coords t 0).val = t.val :=
  (by decide +kernel : ∀ t : Fin grid0.N, (grid0.coords t 0).val = t.val)

variable (m : (ℓ : Loc nD τ sig) → Buf (Elt Ideal) ℓ) (c : Dev nD)

theorem read0 (t : Fin cfg0.N) (r : Fin 4224) (a : Fin 128) (b : Fin 2048) (hr : r.val = 128 * min t.val 32 + a.val) :
    X0_0 m c t (ix2 a b) = m ((c.tc : Thread nD τ).loc main_arg0) (ix2 r (⟨b.val, by omega⟩ : Fin 2304)) := by
  obtain ⟨e0, e1⟩ := at0 t
  unfold X0_0 Pipeline.Window.fill
  rw [dif_pos (moved0_0 t _)]
  blk_ext [iblk, V, e0, e1]
theorem read1 (t : Fin cfg0.N) (r : Fin 4224) (a : Fin 128) (b : Fin 2048) (hr : r.val = 128 * min t.val 32 + a.val) :
    iblk m c 1 t (ix2 a b) = m ((c.tc : Thread nD τ).loc main_arg3) (ix2 r b) := by
  obtain ⟨e0, e1⟩ := at1 t
  blk_ext [iblk, V, e0, e1]
theorem read2 (t : Fin cfg0.N) (r : Fin 4224) (a : Fin 128) (b : Fin 256) (hr : r.val = a.val) :
    iblk m c 2 t (ix2 a b) = m ((c.tc : Thread nD τ).loc main_arg0) (ix2 r (⟨2048 + b.val, by omega⟩ : Fin 2304)) := by
  obtain ⟨e0, e1⟩ := at2 t
  blk_ext [iblk, V, e0, e1]
theorem read3 (t : Fin cfg0.N) (r : Fin 4224) (a : Fin 128) (b : Fin 256) (hr : r.val = 128 * (t.val - 1) + a.val) :
    iblk m c 3 t (ix2 a b) = m ((c.tc : Thread nD τ).loc main_arg0) (ix2 r (⟨2048 + b.val, by omega⟩ : Fin 2304)) := by
  obtain ⟨e0, e1⟩ := at3 t
  blk_ext [iblk, V, e0, e1]
theorem read4 (t : Fin cfg0.N) (r : Fin 4224) (a : Fin 128) (b : Fin 256) (hr : r.val = 128 * min t.val 32 + a.val) :
    iblk m c 4 t (ix2 a b) = m ((c.tc : Thread nD τ).loc main_arg0) (ix2 r (⟨2048 + b.val, by omega⟩ : Fin 2304)) := by
  obtain ⟨e0, e1⟩ := at4 t
  blk_ext [iblk, V, e0, e1]
theorem read5 (t : Fin cfg0.N) (r : Fin 4224) (a : Fin 128) (b : Fin 256) (hr : r.val = a.val) :
    iblk m c 5 t (ix2 a b) = m ((c.tc : Thread nD τ).loc main_arg1) (ix2 r (⟨2304 + b.val, by omega⟩ : Fin 14848)) := by
  obtain ⟨e0, e1⟩ := at5 t
  blk_ext [iblk, V, e0, e1]
theorem read6 (t : Fin cfg0.N) (r : Fin 4224) (a : Fin 128) (b : Fin 256) (hr : r.val = 128 * (t.val - 1) + a.val) :
    iblk m c 6 t (ix2 a b) = m ((c.tc : Thread nD τ).loc main_arg1) (ix2 r (⟨2304 + b.val, by omega⟩ : Fin 14848)) := by
  obtain ⟨e0, e1⟩ := at6 t
  blk_ext [iblk, V, e0, e1]
theorem read7 (t : Fin cfg0.N) (r : Fin 4224) (a : Fin 128) (b : Fin 256) (hr : r.val = 128 * min t.val 32 + a.val) :
    iblk m c 7 t (ix2 a b) = m ((c.tc : Thread nD τ).loc main_arg1) (ix2 r (⟨2304 + b.val, by omega⟩ : Fin 14848)) := by
  obtain ⟨e0, e1⟩ := at7 t
  blk_ext [iblk, V, e0, e1]
theorem read8 (t : Fin cfg0.N) (n : Fin 32) :
    iblk m c 8 t (ix2 0 n) = m ((c.tc : Thread nD τ).loc main_arg2) (ix2 0 n) := by
  obtain ⟨e0, e1⟩ := at8 t
  blk_ext [iblk, V, e0, e1]

end Cert.AttnIdeal.Bwd

namespace Cert.Attention

open Idealize.ShloMosaic Idealize.ShloMosaic.Pointwise

/-- The arguments hold the numbers `D`: the queries and keys beside each other, the values within the wide array, the
sinks, the output's gradient. -/
structure Numbers (x0 : Cert.AttnIdeal.S4224x2304.Idx → EReal) (x1 : Cert.AttnIdeal.S4224x14848.Idx → EReal)
    (x2 : Cert.AttnIdeal.S1x32.Idx → EReal) (x3 : Cert.AttnIdeal.S4224x2048.Idx → EReal) (D : Data) : Prop where
  q : ∀ (n : Fin 32) (r : Fin 4224) (d : Fin 64), x0 (ix2 r (⟨64 * n.val + d.val, by omega⟩ : Fin 2304)) = (D.q n r d : EReal)
  k : ∀ (h : Fin 4) (r : Fin 4224) (d : Fin 64), x0 (ix2 r (⟨2048 + (64 * h.val + d.val), by omega⟩ : Fin 2304)) = (D.k h r d : EReal)
  v : ∀ (h : Fin 4) (r : Fin 4224) (d : Fin 64), x1 (ix2 r (⟨2304 + (64 * h.val + d.val), by omega⟩ : Fin 14848)) = (D.v h r d : EReal)
  g : ∀ (n : Fin 32) (r : Fin 4224) (d : Fin 64), x3 (ix2 r (⟨64 * n.val + d.val, by omega⟩ : Fin 2048)) = (D.g n r d : EReal)
  s : ∀ n : Fin 32, x2 (ix2 0 n) = (D.s n : EReal)

end Cert.Attention

namespace Cert.AttnIdeal.Bwd

open Idealize.ShloMosaic Idealize.ShloMosaic.Pointwise Idealize.ShloMosaic.TcCoe Idealize.SL.Sem
open Cert.AttnIdeal Cert.AttnIdeal.Gen Cert.Attention

variable (m : (ℓ : Loc nD τ sig) → Buf (Elt Ideal) ℓ) (c : Dev nD)

/-- The heads at a point, over the point's blocks. -/
def headsAt (t : Fin cfg0.N) : Fin 32 → Head Ideal :=
  heads (grid0.coords t) (X0_0 m c t) (iblk m c 1 t) (iblk m c 2 t) (iblk m c 3 t) (iblk m c 4 t) (iblk m c 5 t) (iblk m c 6 t) (iblk m c 7 t) (iblk m c 8 t)

theorem ld_colQ (x : Vec Ideal S128x2048 .bf16) (n : Fin 32) (a : Fin 128) (d : Fin 64) :
    View.ld (Val := Elt Ideal) (e' := .bf16) x (colQ n) (ix2 a d) = x (ix2 a (⟨64 * n.val + d.val, by omega⟩ : Fin 2048)) := by
  refine congrArg x ?_
  funext b; apply Fin.ext
  fin_cases b
  · show 0 + 1 * a.val = a.val; omega
  · show 64 * n.val + 1 * d.val = 64 * n.val + d.val; omega
theorem ld_colK (x : Vec Ideal S128x256 .bf16) (h : Fin 4) (a : Fin 128) (d : Fin 64) :
    View.ld (Val := Elt Ideal) (e' := .bf16) x (colK h) (ix2 a d) = x (ix2 a (⟨64 * h.val + d.val, by omega⟩ : Fin 256)) := by
  refine congrArg x ?_
  funext b; apply Fin.ext
  fin_cases b
  · show 0 + 1 * a.val = a.val; omega
  · show 64 * h.val + 1 * d.val = 64 * h.val + d.val; omega
theorem sinkAt_eq (x : Vec Ideal S1x32 .f32) (n : Fin 32) : sinkAt x n = x (ix2 0 n) := by
  refine congrArg x ?_
  funext b; apply Fin.ext
  fin_cases b
  · rfl
  · show n.val + 1 * 0 = n.val; omega

theorem rows3_apply (x y z : Vec Ideal S128x64 .bf16) (j : Fin 384) (d : Fin 64) :
    rows3 x y z (ix2 j d) = if h : j.val < 128 then x (ix2 ⟨j.val, h⟩ d)
      else if h' : j.val < 256 then y (ix2 ⟨j.val - 128, by omega⟩ d) else z (ix2 ⟨j.val - 256, by omega⟩ d) := by
  pointwise [rows3]
  by_cases h : j.val < 128
  · rw [dif_pos h, dif_pos h]
  · rw [dif_neg h, dif_neg h]
    by_cases h' : j.val < 256
    · rw [dif_pos (show j.val - 128 < 128 by omega), dif_pos h']
    · rw [dif_neg (show ¬ j.val - 128 < 128 by omega), dif_neg h']
      congr 2

variable {m c} {D : Data}

/-- The heads at point `t` hold the rows of block `t`. -/
theorem holds (hD : Numbers (m ((c.tc : Thread nD τ).loc main_arg0)) (m ((c.tc : Thread nD τ).loc main_arg1)) (m ((c.tc : Thread nD τ).loc main_arg2)) (m ((c.tc : Thread nD τ).loc main_arg3)) D)
    (t : Fin cfg0.N) (b : Fin 33) (hb : t.val = b.val) : Holds (headsAt m c t) D b := by
  have hb' := b.isLt
  intro n
  refine ⟨fun a j => ?_, fun a d => ?_, fun a d => ?_, fun j d => ?_, fun j d => ?_, ?_⟩
  · exact sees_apply _ a j b ((coord t).trans hb)
  · exact ((ld_colQ _ n a d).trans (read0 m c t (row b a) a _ (by simp only [row]; omega))).trans (hD.q n (row b a) d)
  · exact ((ld_colQ _ n a d).trans (read1 m c t (row b a) a _ (by simp only [row]; omega))).trans (hD.g n (row b a) d)
  · refine (rows3_apply _ _ _ j d).trans ?_
    split
    · rename_i h
      exact ((ld_colK _ (grp n) _ d).trans (read2 m c t (pos b j) _ _ (pos_low b j h))).trans (hD.k (kv n) (pos b j) d)
    · split
      · rename_i h h'
        exact ((ld_colK _ (grp n) _ d).trans (read3 m c t (pos b j) _ _ (by rw [pos_mid b j (by omega) h']; simp only [hb]))).trans (hD.k (kv n) (pos b j) d)
      · rename_i h h'
        exact ((ld_colK _ (grp n) _ d).trans (read4 m c t (pos b j) _ _ (by rw [pos_high b j (by omega)]; simp only []; omega))).trans (hD.k (kv n) (pos b j) d)
  · refine (rows3_apply _ _ _ j d).trans ?_
    split
    · rename_i h
      exact ((ld_colK _ (grp n) _ d).trans (read5 m c t (pos b j) _ _ (pos_low b j h))).trans (hD.v (kv n) (pos b j) d)
    · split
      · rename_i h h'
        exact ((ld_colK _ (grp n) _ d).trans (read6 m c t (pos b j) _ _ (by rw [pos_mid b j (by omega) h']; simp only [hb]))).trans (hD.v (kv n) (pos b j) d)
      · rename_i h h'
        exact ((ld_colK _ (grp n) _ d).trans (read7 m c t (pos b j) _ _ (by rw [pos_high b j (by omega)]; simp only []; omega))).trans (hD.v (kv n) (pos b j) d)
  · exact ((sinkAt_eq _ n).trans (read8 m c t n)).trans (hD.s n)

end Cert.AttnIdeal.Bwd

end
-- ==== Proof.Attention.Pre.lean ====
module

public import proofs.«01_k».proof.Defs
public import proofs.«01_k».proof.Proof.Attention.Operands
public import Idealize.ShloMosaic.Lib.Pointwise

/-! What the precondition says: the arguments that the attention's gradient reads are numbers. -/

@[expose] public section

set_option maxRecDepth 16384

noncomputable section

namespace Cert.Pre_finite

instance holdsFacts : Cert.Pre_finite.Facts where
  bitsLt_bf16_f32 := by decide
  bcast_S_S4224x2304 := by decide
  slices_S4224x14848_S4224x256_0_2304 := by decide
  bcast_S_S4224x256 := by decide
  bcast_S_S1x32 := by decide
  bcast_S_S4224x2048 := by decide

open Idealize.ShloMosaic Idealize.ShloMosaic.Pointwise Idealize.ShloMosaic.TcCoe Idealize.SL.Sem
open Cert.Attention

variable (x0 : FVec Ideal S4224x2304 .bf16) (x1 : FVec Ideal S4224x14848 .bf16) (x2 : FVec Ideal S1x32 .f32) (x3 : FVec Ideal S4224x2048 .bf16)

/-- Less than infinity in absolute value: a number. -/
theorem number (x : EReal) (h : BitVec.ofBool (decide (max x (-x) < Ideal.ofBits FTy.f32 2139095040#32)) = 1#1) : x = (x.toReal : EReal) := by
  rw [Cert.AttnIdeal.Bwd.posInf] at h
  have hx : max x (-x) < ⊤ := by
    by_contra c
    rw [decide_eq_false c] at h
    exact absurd h (by decide)
  refine (EReal.coe_toReal (lt_of_le_of_lt (le_max_left _ _) hx).ne fun e => ?_).symm
  rw [e, EReal.neg_bot] at hx
  exact absurd hx (by simp)

theorem fn0 (h : (fn (F := Ideal) x0 x1 x2 x3).1 = fun _ => 1#1) (r : Fin 4224) (y : Fin 2304) : (x0 (ix2 r y) : EReal) = ((x0 (ix2 r y) : EReal).toReal : EReal) := by
  refine number _ (Eq.trans (Eq.symm ?_) (congrFun h (ix2 r y)))
  pointwise [fn]
  rfl
theorem fn1 (h : (fn (F := Ideal) x0 x1 x2 x3).2.1 = fun _ => 1#1) (r : Fin 4224) (y : Fin 256) :
    (x1 (ix2 r (⟨2304 + y.val, by omega⟩ : Fin 14848)) : EReal) = ((x1 (ix2 r (⟨2304 + y.val, by omega⟩ : Fin 14848)) : EReal).toReal : EReal) := by
  refine number _ (Eq.trans (Eq.symm ?_) (congrFun h (ix2 r y)))
  pointwise [fn]
  rfl
theorem fn2 (h : (fn (F := Ideal) x0 x1 x2 x3).2.2.1 = fun _ => 1#1) (n : Fin 32) : (x2 (ix2 0 n) : EReal) = ((x2 (ix2 0 n) : EReal).toReal : EReal) := by
  refine number _ (Eq.trans (Eq.symm ?_) (congrFun h (ix2 0 n)))
  pointwise [fn]
  rfl
theorem fn3 (h : (fn (F := Ideal) x0 x1 x2 x3).2.2.2 = fun _ => 1#1) (r : Fin 4224) (y : Fin 2048) : (x3 (ix2 r y) : EReal) = ((x3 (ix2 r y) : EReal).toReal : EReal) := by
  refine number _ (Eq.trans (Eq.symm ?_) (congrFun h (ix2 r y)))
  pointwise [fn]
  rfl

/-- The numbers that the arguments hold. -/
def data : Data where
  q n r d := (x0 (ix2 r (⟨64 * n.val + d.val, by omega⟩ : Fin 2304)) : EReal).toReal
  k h r d := (x0 (ix2 r (⟨2048 + (64 * h.val + d.val), by omega⟩ : Fin 2304)) : EReal).toReal
  v h r d := (x1 (ix2 r (⟨2304 + (64 * h.val + d.val), by omega⟩ : Fin 14848)) : EReal).toReal
  g n r d := (x3 (ix2 r (⟨64 * n.val + d.val, by omega⟩ : Fin 2048)) : EReal).toReal
  s n := (x2 (ix2 0 n) : EReal).toReal

theorem numbers (h0 : (fn (F := Ideal) x0 x1 x2 x3).1 = fun _ => 1#1) (h1 : (fn (F := Ideal) x0 x1 x2 x3).2.1 = fun _ => 1#1)
    (h2 : (fn (F := Ideal) x0 x1 x2 x3).2.2.1 = fun _ => 1#1) (h3 : (fn (F := Ideal) x0 x1 x2 x3).2.2.2 = fun _ => 1#1) :
    Numbers x0 x1 x2 x3 (data x0 x1 x2 x3) where
  q n r d := fn0 x0 x1 x2 x3 h0 r _
  k h r d := fn0 x0 x1 x2 x3 h0 r _
  v h r d := fn1 x0 x1 x2 x3 h1 r (⟨64 * h.val + d.val, by omega⟩ : Fin 256)
  g n r d := fn3 x0 x1 x2 x3 h3 r _
  s n := fn2 x0 x1 x2 x3 h2 n

end Cert.Pre_finite

end
-- ==== Proof.Attention.RefLines.lean ====
module

public import proofs.«01_k».proof.Proof.Gen.RefIdeal.Read
public import proofs.«01_k».proof.Proof.Attention.Operands
public import proofs.«01_k».proof.Proof.Attention.HeadReal
public import proofs.«01_k».proof.Proof.Attention.Mask
public import Idealize.ShloMosaic.Lib.Pointwise

/-! The reference's softmax and its gradient, as numbers, when the arguments are numbers. -/

@[expose] public section

set_option maxRecDepth 16384

noncomputable section

namespace Cert.RefIdeal.Bwd

open Idealize.ShloMosaic Idealize.ShloMosaic.Pointwise Idealize.ShloMosaic.TcCoe Idealize.SL.Sem
open Cert.RefIdeal Cert.RefIdeal.Gen Cert.RefIdeal.Read Cert.Attention

/-- The key columns among the 4225, and the sink's. -/
def key (c : Fin 4224) : Fin 4225 := ⟨c.val, by omega⟩
def sink : Fin 4225 := ⟨4224, by omega⟩

theorem sum_keys {M : Type*} [AddCommMonoid M] (f : Fin 4225 → M) : ∑ j, f j = ∑ c, f (key c) + f sink := Fin.sum_univ_castSucc f

theorem real_max {ι : Type*} [Fintype ι] (f : ι → EReal) (hf : ∀ i, f i < ⊤) (i : ι) (σ : ℝ) (hi : f i = σ) :
    ∃ m : ℝ, Finset.univ.fold max (⊥ : EReal) f = m := by
  have h1 : Finset.univ.fold max (⊥ : EReal) f < ⊤ := (Finset.fold_max_lt _).2 ⟨bot_lt_top, fun i _ => hf i⟩
  have h2 : (⊥ : EReal) < Finset.univ.fold max (⊥ : EReal) f := (Finset.lt_fold_max _).2 (Or.inr ⟨i, Finset.mem_univ _, hi ▸ EReal.bot_lt_coe σ⟩)
  exact ⟨_, (EReal.coe_toReal h1.ne h2.ne').symm⟩

section
variable (x0 : (⟨S4224x2304, .bf16⟩ : BufTy).Contents (Elt Ideal)) (x1 : (⟨S4224x14848, .bf16⟩ : BufTy).Contents (Elt Ideal))
  (x2 : (⟨S1x32, .f32⟩ : BufTy).Contents (Elt Ideal)) (x3 : (⟨S4224x2048, .bf16⟩ : BufTy).Contents (Elt Ideal))

/-! Each line of the reference at an index. -/

theorem at10' (h : Fin 4) (e : Fin 8) (r j : Fin 4224) : val_main_v10 (F := Ideal) x0 (ix4 h e r j)
    = ∑ d : Fin 64, (x0 (ix2 j (⟨2048 + (h.val * 64 + d.val), by omega⟩ : Fin 2304)) : EReal) * x0 (ix2 r (⟨h.val * 512 + e.val * 64 + d.val, by omega⟩ : Fin 2304)) := by
  pointwise [val_main_v10, val_main_v9, val_main_v7, val_main_v6, val_main_v3, val_main_v2, val_main_v1, val_main_v0]
theorem at29 (h : Fin 4) (e : Fin 8) (r j : Fin 4224) : val_main_v29_1 (F := Ideal) (ix4 h e r j) = BitVec.ofBool (decide (Sees r j)) := by
  pointwise [val_main_v29_1, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_c, val_main_c_0]
  exact Cert.AttnIdeal.Bwd.sees_word r.val j.val (by omega) (by omega)
theorem at29' (h : Fin 4) (e : Fin 8) (r j : Fin 4224) : val_main_v29_0 (F := Ideal) x0 (ix4 h e r j)
    = Scalar.select (val_main_v29_1 (F := Ideal) (ix4 h e r j)) (val_main_v10 (F := Ideal) x0 (ix4 h e r j)) (Ideal.ofBits FTy.f32 4286578688#32) := by
  pointwise [val_main_v29_0, val_main_call0_v2, val_main_call0_v0, val_main_cst]
  rfl
theorem at33 (h : Fin 4) (e : Fin 8) (r : Fin 4224) (j : Fin 4225) : val_main_v33 (F := Ideal) x0 x2 (ix4 h e r j)
    = if l : j.val < 4224 then (val_main_v29_0 (F := Ideal) x0 (ix4 h e r (⟨j.val, l⟩ : Fin 4224)) : EReal) else x2 (ix2 0 (⟨h.val * 8 + e.val, by omega⟩ : Fin 32)) := by
  pointwise [val_main_v33, val_main_v32, val_main_v31, val_main_v30]
theorem at34 (h : Fin 4) (e : Fin 8) (r : Fin 4224) : val_main_v34 (F := Ideal) x0 x2 (ix3 h e r)
    = Finset.fold max (Ideal.ofBits FTy.f32 4286578688#32) (fun x => (val_main_v33 (F := Ideal) x0 x2 (ix4 h e r x) : EReal)) Finset.univ := by
  pointwise [val_main_v34, val_main_cst_1]
theorem at52 (h : Fin 4) (e : Fin 8) (r : Fin 4224) (j : Fin 4225) : val_main_v52 (F := Ideal) x0 x2 (ix4 h e r j) = val_main_v41 (F := Ideal) x0 x2 (ix3 h e r) := by
  pointwise [val_main_v52, val_main_v51]
theorem at41 (h : Fin 4) (e : Fin 8) (r : Fin 4224) : (val_main_v41 (F := Ideal) x0 x2 (ix3 h e r) : EReal) = val_main_v34 (F := Ideal) x0 x2 (ix3 h e r) := by
  rw [val_main_v41_apply, val_main_v40_apply, val_main_cst_3_apply]
  generalize val_main_v34 (F := Ideal) x0 x2 (ix3 h e r) = y
  show max (Ideal.ofBits FTy.f32 4286578688#32) (y : EReal) = y
  rw [Cert.AttnIdeal.Bwd.negInf]
  exact max_eq_right bot_le
theorem at54 (h : Fin 4) (e : Fin 8) (r : Fin 4224) (j : Fin 4225) : val_main_v54 (F := Ideal) x0 x2 (ix4 h e r j)
    = Ideal.exp ((val_main_v33 (F := Ideal) x0 x2 (ix4 h e r j) : EReal) - val_main_v52 (F := Ideal) x0 x2 (ix4 h e r j)) := by
  pointwise [val_main_v54, val_main_v53]
theorem at56 (h : Fin 4) (e : Fin 8) (r : Fin 4224) : (val_main_v56 (F := Ideal) x0 x2 (ix4 h e r 0) : EReal)
    = ∑ j : Fin 4225, (val_main_v54 (F := Ideal) x0 x2 (ix4 h e r j) : EReal) := by
  pointwise [val_main_v56, val_main_v55, val_main_cst_9]
theorem at62 (h : Fin 4) (e : Fin 8) (r j : Fin 4224) : val_main_v62 (F := Ideal) x0 x2 (ix4 h e r j)
    = Ideal.div (val_main_v54 (F := Ideal) x0 x2 (ix4 h e r (key j))) (val_main_v56 (F := Ideal) x0 x2 (ix4 h e r 0)) := by
  pointwise [val_main_v62, val_main_v58, val_main_v57]
  rfl
theorem at69 (h : Fin 4) (e : Fin 8) (r j : Fin 4224) : val_main_v69 (F := Ideal) x1 x3 (ix4 h e r j)
    = ∑ d : Fin 64, (x3 (ix2 r (⟨h.val * 512 + e.val * 64 + d.val, by omega⟩ : Fin 2048)) : EReal) * x1 (ix2 j (⟨2304 + (h.val * 64 + d.val), by omega⟩ : Fin 14848)) := by
  pointwise [val_main_v69, val_main_v68, val_main_v67, val_main_v66, val_main_v8, val_main_v5, val_main_v4]
theorem at72 (h : Fin 4) (e : Fin 8) (r : Fin 4224) (j : Fin 4225) : val_main_v72 (F := Ideal) x1 x3 (ix4 h e r j)
    = if l : j.val < 4224 then (val_main_v69 (F := Ideal) x1 x3 (ix4 h e r (⟨j.val, l⟩ : Fin 4224)) : EReal) else 0 := by
  pointwise [val_main_v72, val_main_cst_11]
theorem at75 (h : Fin 4) (e : Fin 8) (r : Fin 4224) (j : Fin 4225) : (val_main_v75 (F := Ideal) x0 x1 x2 x3 (ix4 h e r j) : EReal)
    = val_main_v72 (F := Ideal) x1 x3 (ix4 h e r j) * Ideal.div 1 ((val_main_v56 (F := Ideal) x0 x2 (ix4 h e r 0) : EReal) * val_main_v56 (F := Ideal) x0 x2 (ix4 h e r 0))
      * val_main_v54 (F := Ideal) x0 x2 (ix4 h e r j) := by
  pointwise [val_main_v75, val_main_v74, val_main_v73, val_main_v61, val_main_v60, val_main_cst_10, val_main_v59]
theorem at84 (h : Fin 4) (e : Fin 8) (r : Fin 4224) (j : Fin 4225) : (val_main_v84 (F := Ideal) x0 x1 x2 x3 (ix4 h e r j) : EReal)
    = (Ideal.div (val_main_v72 (F := Ideal) x1 x3 (ix4 h e r j)) (val_main_v56 (F := Ideal) x0 x2 (ix4 h e r 0))
        + ∑ x : Fin 1, -∑ j : Fin 4225, (val_main_v75 (F := Ideal) x0 x1 x2 x3 (ix4 h e r j) : EReal))
      * val_main_v54 (F := Ideal) x0 x2 (ix4 h e r j) := by
  pointwise [val_main_v84, val_main_v83, val_main_v82, val_main_v81, val_main_v80, val_main_v79, val_main_v78, val_main_v77, val_main_v76, val_main_cst_12, val_main_cst_13]
theorem at92 (h : Fin 4) (e : Fin 8) (r j : Fin 4224) : val_main_v92 (F := Ideal) x0 x1 x2 x3 (ix4 h j r e)
    = Scalar.select (val_main_v29_1 (F := Ideal) (ix4 h e r j)) (val_main_v84 (F := Ideal) x0 x1 x2 x3 (ix4 h e r (key j)) : EReal) 0 := by
  pointwise [val_main_v92, val_main_v91, val_main_v85, val_main_call1_v0, val_main_call1_cst]
  rfl

end

end Cert.RefIdeal.Bwd

end
-- ==== Proof.Attention.States.lean ====
module

public import proofs.«01_k».proof.Proof.Attention.Operands

/-! What every point leaves, as numbers: the queries' gradient of its block, the gradient of the keys and values of the block
before, the block's own part carried on, and the sums so far for the first block's keys and values and for the sinks. -/

@[expose] public section

set_option maxRecDepth 16384

noncomputable section

namespace Cert.Attention

/-- The sum over the blocks up to `n`. -/
def upto (f : Fin 33 → ℝ) (n : ℕ) : ℝ := ∑ t ∈ Finset.univ.filter (fun t : Fin 33 => t.val ≤ n), f t
theorem upto_zero (f : Fin 33 → ℝ) : upto f 0 = f 0 := by
  have : Finset.univ.filter (fun t : Fin 33 => t.val ≤ 0) = {0} := by
    ext t; simp only [Finset.mem_filter, Finset.mem_univ, true_and, Finset.mem_singleton, Fin.ext_iff, Fin.val_zero]; omega
  rw [upto, this, Finset.sum_singleton]
theorem upto_succ (f : Fin 33 → ℝ) (b : Fin 33) (h : b.val ≠ 0) : upto f b.val = upto f (b.val - 1) + f b := by
  have : Finset.univ.filter (fun t : Fin 33 => t.val ≤ b.val) = insert b (Finset.univ.filter (fun t : Fin 33 => t.val ≤ b.val - 1)) := by
    ext t; simp only [Finset.mem_filter, Finset.mem_univ, true_and, Finset.mem_insert, Fin.ext_iff]; omega
  rw [upto, this, Finset.sum_insert (by simp only [Finset.mem_filter, Finset.mem_univ, true_and]; omega), add_comm]; rfl
theorem upto_all (f : Fin 33 → ℝ) : upto f 32 = ∑ t, f t := by
  have : Finset.univ.filter (fun t : Fin 33 => t.val ≤ 32) = Finset.univ := by
    ext t; simp only [Finset.mem_filter, Finset.mem_univ, true_and, iff_true]; omega
  rw [upto, this]

/-- What the block before gave, nothing before the first. -/
def before' (f : Fin 33 → ℝ) (b : Fin 33) : ℝ := if b.val = 0 then 0 else f ⟨b.val - 1, by omega⟩

end Cert.Attention

namespace Cert.AttnIdeal.Bwd

open Idealize.ShloMosaic Idealize.ShloMosaic.Pointwise Idealize.ShloMosaic.TcCoe Idealize.SL.Sem
open Cert.AttnIdeal Cert.AttnIdeal.Gen Cert.Attention

/-- Column `d` of key head `h`, and of query head `n`. -/
def cK (h : Fin 4) (d : Fin 64) : Fin 256 := ⟨64 * h.val + d.val, by omega⟩
def cQ (n : Fin 32) (d : Fin 64) : Fin 2048 := ⟨64 * n.val + d.val, by omega⟩
def cS (n : Fin 32) : Fin 128 := ⟨n.val, by omega⟩

theorem ld_f32 (x : Vec Ideal S128x256 .f32) (h : Fin 4) (a : Fin 128) (d : Fin 64) :
    View.ld (Val := Elt Ideal) (e' := .f32) x (colK h) (ix2 a d) = x (ix2 a (cK h d)) := by
  refine congrArg x ?_
  funext b; apply Fin.ext
  fin_cases b
  · show 0 + 1 * a.val = a.val; omega
  · show 64 * h.val + 1 * d.val = 64 * h.val + d.val; omega

theorem canonK (f : Fin 4 → Vec Ideal S128x64 .f32) (h : Fin 4) (a : Fin 128) (d : Fin 64) :
    View.canon (piecesK f) (ix2 a (cK h d)) = f h (ix2 a d) := by
  have e : (colK h).emb (ix2 a d) = ix2 a (cK h d) := by
    funext b; apply Fin.ext
    fin_cases b
    · show 0 + 1 * a.val = a.val; omega
    · show 64 * h.val + 1 * d.val = 64 * h.val + d.val; omega
  have := canon_piecesK_emb f [] h (ix2 a d)
  rw [List.append_nil, e] at this
  exact this

theorem not_mem_colQ (h h' : Fin 32) (hne : h ≠ h') (j : S128x64.Idx) : (colQ h').emb j ∉ (colQ h).set := by
  intro hm
  obtain ⟨k, hk⟩ := (colQ h).exists_idx_of_mem hm
  have e1 : ∀ (h : Fin 32) (j : S128x64.Idx), ((colQ h).emb j 1).val = 64 * h.val + (j 1).val := fun h j => by
    show (![0, 64 * h.val] : Fin 2 → ℕ) 1 + 1 * (j 1).val = _
    simp
  have e2 : ∀ j : S128x64.Idx, (j 1).val < 64 := fun j => (j 1).isLt
  have h1 : 64 * h.val + (k 1).val = 64 * h'.val + (j 1).val :=
    (e1 h k).symm.trans ((congrArg (fun y : S128x2048.Idx => (y 1).val) hk).trans (e1 h' j))
  have h2 := e2 j
  have h3 := e2 k
  exact hne (Fin.ext (by omega))

theorem canonQ_list (f : Fin 32 → Vec Ideal S128x64 .f32) (n : Fin 32) (j : S128x64.Idx) (l : List (Fin 32)) (hn : n ∈ l) :
    View.canon (l.map fun n => (⟨colQ n, f n⟩ : View.Piece (Elt Ideal) S128x2048 .f32)) ((colQ n).emb j) = f n j := by
  induction l with
  | nil => cases hn
  | cons k l ih =>
    by_cases e : k = n
    · subst e; exact View.canon_cons_emb (colQ k) (f k) (l.map fun n => (⟨colQ n, f n⟩ : View.Piece (Elt Ideal) S128x2048 .f32)) j
    · have h1 := View.canon_cons_of_not_mem (⟨colQ k, f k⟩ : View.Piece (Elt Ideal) S128x2048 .f32)
        (l.map fun n => (⟨colQ n, f n⟩ : View.Piece (Elt Ideal) S128x2048 .f32)) (not_mem_colQ k n e j)
      have h2 : n ∈ l := (List.mem_cons.1 hn).resolve_left fun h => e h.symm
      rw [List.map_cons, h1, ih h2]

theorem canonQ (f : Fin 32 → Vec Ideal S128x64 .f32) (n : Fin 32) (a : Fin 128) (d : Fin 64) :
    View.canon (piecesQ f) (ix2 a (cQ n d)) = f n (ix2 a d) := by
  have e : (colQ n).emb (ix2 a d) = ix2 a (cQ n d) := by
    funext b; apply Fin.ext
    fin_cases b
    · show 0 + 1 * a.val = a.val; omega
    · show 64 * n.val + 1 * d.val = 64 * n.val + d.val; omega
  have hm : n ∈ (List.finRange 32).reverse := by
    rw [List.mem_reverse]; exact List.mem_finRange n
  have := canonQ_list f n (ix2 a d) (List.finRange 32).reverse hm
  rw [e] at this
  unfold piecesQ
  exact this

theorem rowsM_apply (z : FVec Ideal S384x64 .f32) (i : Fin 128) (d : Fin 64) : rowsM z (ix2 i d) = z (ix2 (first i) d) := by
  pointwise [rowsM, first]
theorem rowsP_apply (z : FVec Ideal S384x64 .f32) (i : Fin 128) (d : Fin 64) : rowsP z (ix2 i d) = z (ix2 (before i) d) := by
  pointwise [rowsP, before]
theorem rowsC_apply (z : FVec Ideal S384x64 .f32) (i : Fin 128) (d : Fin 64) : rowsC z (ix2 i d) = z (ix2 (own i) d) := by
  pointwise [rowsC, own]

theorem accM_apply (y : Vec Ideal S128x256 .f32) (z : Fin 4 → FVec Ideal S384x64 .f32) (h : Fin 4) (i : Fin 128) (d : Fin 64) :
    accM y z h (ix2 i d) = (y (ix2 i (cK h d)) + z h (ix2 (first i) d) : EReal) := by
  have e : ∀ u w : FVec Ideal S128x64 .f32, addf (shapeCast S128x64 u shapeCasts_S128x64_S128x64) w (ix2 i d) = u (ix2 i d) + w (ix2 i d) := by
    intro u w; pointwise
  exact (e _ _).trans (congrArg₂ (fun a b : EReal => a + b) (ld_f32 y h i d) (rowsM_apply (z h) i d))
theorem accP_apply (y : Vec Ideal S128x256 .f32) (z : Fin 4 → FVec Ideal S384x64 .f32) (h : Fin 4) (i : Fin 128) (d : Fin 64) :
    accP y z h (ix2 i d) = (y (ix2 i (cK h d)) + z h (ix2 (before i) d) : EReal) :=
  congrArg₂ (fun a b : EReal => a + b) (ld_f32 y h i d) (rowsP_apply (z h) i d)
theorem keepC_apply (z : Fin 4 → FVec Ideal S384x64 .f32) (h : Fin 4) (i : Fin 128) (d : Fin 64) :
    keepC z h (ix2 i d) = z h (ix2 (own i) d) := by
  have e : ∀ u : FVec Ideal S128x64 .f32, shapeCast S128x64 u shapeCasts_S128x64_S128x64 (ix2 i d) = u (ix2 i d) := by
    intro u; pointwise
  exact (e _).trans (rowsC_apply (z h) i d)

/-- Eight terms added to `z`. -/
theorem add8_sum {s : Shape} (z : FVec Ideal s .f32) (f : Fin 8 → FVec Ideal s .f32) (i : s.Idx) :
    add8 z f i = ((z i : EReal) + ∑ e, (f e i : EReal) : EReal) := by
  rw [add8_apply, Fin.sum_univ_eight]
  simp only [add_assoc]

theorem lane_apply (x : Head Ideal) (n n' : Fin 32) : x.dsLane n.val (ix2 0 (cS n')) = if n' = n then x.ds else (0 : EReal) := by
  pointwise [Head.dsLane, cS]
  have hn := n.isLt
  have hn' := n'.isLt
  by_cases h : n' = n
  · subst h; rw [if_pos rfl]; simp [IntOp.cmpi, Scalar.select]
  · have e : BitVec.ofNat 32 n'.val ≠ BitVec.ofNat 32 n.val := by
      intro e
      have := congrArg BitVec.toNat e
      rw [BitVec.toNat_ofNat, BitVec.toNat_ofNat, Nat.mod_eq_of_lt (by omega), Nat.mod_eq_of_lt (by omega)] at this
      exact h (Fin.ext this)
    have e' := beq_false_of_ne e
    rw [if_neg h]; simp [IntOp.cmpi, Scalar.select, e']

/-- Each sink's lane holds its head's gradient. -/
theorem dS_apply (x : Fin 32 → Head Ideal) (n : Fin 32) : dS x (ix2 0 (cS n)) = (x n).ds := by
  unfold dS
  simp only [add8_sum, lane_apply]
  rw [show (broadcast S1x128 (Scalar.ofBits (F := Ideal) .f32 0x00000000#32) : FVec Ideal S1x128 .f32) (ix2 0 (cS n)) = (0 : EReal) from Ideal.ofBits_zero_f32]
  rw [zero_add]
  have hn := n.isLt
  have key : ∑ h : Fin 4, ∑ e : Fin 8, (if n = mem h e then ((x (mem h e)).ds : EReal) else 0) = (x n).ds := by
    have e0 : n = mem (grp n) ⟨n.val % 8, by omega⟩ := Fin.ext (by simp only [mem, grp]; omega)
    rw [Finset.sum_eq_single (grp n), Finset.sum_eq_single (⟨n.val % 8, by omega⟩ : Fin 8), if_pos e0, ← e0]
    · intro e _ he
      rw [if_neg]; intro h; apply he; have := congrArg Fin.val h; simp only [mem, grp] at this; exact Fin.ext (by simp only []; omega)
    · intro h; exact absurd (Finset.mem_univ _) h
    · intro h _ hh
      refine Finset.sum_eq_zero fun e _ => ?_
      rw [if_neg]; intro h'; apply hh; have := congrArg Fin.val h'; simp only [mem] at this; exact Fin.ext (by simp only [grp]; omega)
    · intro h; exact absurd (Finset.mem_univ _) h
  rw [Fin.sum_univ_four] at key
  exact key

/-- What a point with block `b` leaves. -/
structure Left (s : State Ideal) (D : Data) (b : Fin 33) : Prop where
  dq : ∀ (n : Fin 32) (a : Fin 128) (d : Fin 64), s.dq (ix2 a (cQ n d)) = (D.dq n (row b a) d : EReal)
  dk : ∀ (h : Fin 4) (i : Fin 128) (d : Fin 64), s.dk (ix2 i (cK h d)) = ((before' (fun t => D.blockK t h (own i) d) b + D.blockK b h (before i) d : ℝ) : EReal)
  dv : ∀ (h : Fin 4) (i : Fin 128) (d : Fin 64), s.dv (ix2 i (cK h d)) = ((before' (fun t => D.blockV t h (own i) d) b + D.blockV b h (before i) d : ℝ) : EReal)
  dkm : ∀ (h : Fin 4) (i : Fin 128) (d : Fin 64), s.dkm (ix2 i (cK h d)) = (upto (fun t => D.blockK t h (first i) d) b.val : EReal)
  dvm : ∀ (h : Fin 4) (i : Fin 128) (d : Fin 64), s.dvm (ix2 i (cK h d)) = (upto (fun t => D.blockV t h (first i) d) b.val : EReal)
  ds : ∀ n : Fin 32, s.ds (ix2 0 (cS n)) = (upto (fun t => D.blockS t n) b.val : EReal)
  ck : ∀ (h : Fin 4) (i : Fin 128) (d : Fin 64), s.ck (ix2 i (cK h d)) = (D.blockK b h (own i) d : EReal)
  cv : ∀ (h : Fin 4) (i : Fin 128) (d : Fin 64), s.cv (ix2 i (cK h d)) = (D.blockV b h (own i) d : EReal)

set_option maxHeartbeats 1000000 in
/-- One step, from what the buffers held before it. -/
theorem left_of {x : Fin 32 → Head Ideal} {D : Data} {b : Fin 33} (hx : Holds x D b)
    {y12 y13 : Vec Ideal S128x256 .f32} {y14 : Vec Ideal S1x128 .f32} {y16 y17 : Vec Ideal S128x256 .f32}
    {u12 u13 u16 u17 : Fin 4 → Fin 128 → Fin 64 → ℝ} {u14 : Fin 32 → ℝ}
    (h12 : ∀ h i d, y12 (ix2 i (cK h d)) = (u12 h i d : EReal)) (h13 : ∀ h i d, y13 (ix2 i (cK h d)) = (u13 h i d : EReal))
    (h14 : ∀ n, y14 (ix2 0 (cS n)) = (u14 n : EReal))
    (h16 : ∀ h i d, y16 (ix2 i (cK h d)) = (u16 h i d : EReal)) (h17 : ∀ h i d, y17 (ix2 i (cK h d)) = (u17 h i d : EReal))
    (e12 : ∀ h i d, u12 h i d + D.blockK b h (first i) d = upto (fun t => D.blockK t h (first i) d) b.val)
    (e13 : ∀ h i d, u13 h i d + D.blockV b h (first i) d = upto (fun t => D.blockV t h (first i) d) b.val)
    (e14 : ∀ n, u14 n + D.blockS b n = upto (fun t => D.blockS t n) b.val)
    (e16 : ∀ h i d, u16 h i d = before' (fun t => D.blockK t h (own i) d) b)
    (e17 : ∀ h i d, u17 h i d = before' (fun t => D.blockV t h (own i) d) b) :
    Left (blockSpec x y12 y13 y14 y16 y17) D b where
  dq n a d := by
    show View.canon (piecesQ (F := Ideal) fun n => (x n).dq) (ix2 a (cQ n d)) = _
    rw [canonQ, hx.dq]
  dk h i d := by
    show View.canon (piecesK (accP y16 (Bwd.dK x))) (ix2 i (cK h d)) = _
    rw [canonK, accP_apply, h16, hx.dK, ← EReal.coe_add, e16]
  dv h i d := by
    show View.canon (piecesK (accP y17 (Bwd.dV x))) (ix2 i (cK h d)) = _
    rw [canonK, accP_apply, h17, hx.dV, ← EReal.coe_add, e17]
  dkm h i d := by
    show View.canon (piecesK (accM y12 (Bwd.dK x))) (ix2 i (cK h d)) = _
    rw [canonK, accM_apply, h12, hx.dK, ← EReal.coe_add, e12]
  dvm h i d := by
    show View.canon (piecesK (accM y13 (Bwd.dV x))) (ix2 i (cK h d)) = _
    rw [canonK, accM_apply, h13, hx.dV, ← EReal.coe_add, e13]
  ds n := by
    have e : ∀ (u w : FVec Ideal S1x128 .f32) (j : S1x128.Idx), addf (shapeCast S1x128 u shapeCasts_S1x128_S1x128) w j = u j + w j := by
      intro u w j; pointwise
    have el : (View.ld (Val := Elt Ideal) (e' := .f32) y14 (Rect.unit ![0, 0] S1x128.size inb_S1x128_S1x128_0_0)) (ix2 0 (cS n)) = y14 (ix2 0 (cS n)) := by
      refine congrArg y14 ?_
      funext b; apply Fin.ext
      fin_cases b
      · rfl
      · show 0 + 1 * (cS n).val = (cS n).val; omega
    show View.canon [pieceS (addf (shapeCast S1x128 (View.ld (Val := Elt Ideal) (e' := .f32) y14 (Rect.unit ![0, 0] S1x128.size inb_S1x128_S1x128_0_0)) shapeCasts_S1x128_S1x128) (dS x))] (ix2 0 (cS n)) = _
    rw [canon_pieceS, e, el, h14, dS_apply, hx.ds, ← EReal.coe_add, e14]
  ck h i d := by
    show View.canon (piecesK (keepC (Bwd.dK x))) (ix2 i (cK h d)) = _
    rw [canonK, keepC_apply, hx.dK]
  cv h i d := by
    show View.canon (piecesK (keepC (Bwd.dV x))) (ix2 i (cK h d)) = _
    rw [canonK, keepC_apply, hx.dV]

theorem fill4 (h : Fin 4) (i : Fin 128) (d : Fin 64) : k0_pay4 (F := Ideal) (ix2 i (cK h d)) = ((0 : ℝ) : EReal) := by
  rw [EReal.coe_zero]; pointwise [k0_pay4]
theorem fill5 (h : Fin 4) (i : Fin 128) (d : Fin 64) : k0_pay5 (F := Ideal) (ix2 i (cK h d)) = ((0 : ℝ) : EReal) := by
  rw [EReal.coe_zero]; pointwise [k0_pay5]
theorem fill1 (h : Fin 4) (i : Fin 128) (d : Fin 64) : k0_pay1 (F := Ideal) (ix2 i (cK h d)) = ((0 : ℝ) : EReal) := by
  rw [EReal.coe_zero]; pointwise [k0_pay1]
theorem fill2 (h : Fin 4) (i : Fin 128) (d : Fin 64) : k0_pay2 (F := Ideal) (ix2 i (cK h d)) = ((0 : ℝ) : EReal) := by
  rw [EReal.coe_zero]; pointwise [k0_pay2]
theorem fill3 (n : Fin 32) : k0_pay3 (F := Ideal) (ix2 0 (cS n)) = ((0 : ℝ) : EReal) := by
  rw [EReal.coe_zero]; pointwise [k0_pay3]

variable {m : (ℓ : Loc nD τ sig) → Buf (Elt Ideal) ℓ} {c : Dev nD} {D : Data}
  (hD : Numbers (m ((c.tc : Thread nD τ).loc main_arg0)) (m ((c.tc : Thread nD τ).loc main_arg1)) (m ((c.tc : Thread nD τ).loc main_arg2)) (m ((c.tc : Thread nD τ).loc main_arg3)) D)
include hD

/-- What every point with a block leaves. -/
theorem left (n : ℕ) : ∀ (t : Fin cfg0.N) (b : Fin 33), t.val = n → b.val = n → Left (states m c t.val t.isLt) D b := by
  induction n with
  | zero =>
    intro t b ht hb
    have b0 : b = 0 := Fin.ext hb
    have hx := holds hD t b (ht.trans hb.symm)
    rw [states_first m c t ht]
    unfold stepFirst
    rw [firstState_eq]
    refine left_of (u12 := fun _ _ _ => 0) (u13 := fun _ _ _ => 0) (u16 := fun _ _ _ => 0) (u17 := fun _ _ _ => 0) (u14 := fun _ => 0)
      hx fill1 fill2 fill3 fill4 fill5 ?_ ?_ ?_ ?_ ?_
    · intro h i d; rw [hb, upto_zero, zero_add, b0]
    · intro h i d; rw [hb, upto_zero, zero_add, b0]
    · intro n; rw [hb, upto_zero, zero_add, b0]
    · intro h i d; unfold before'; rw [if_pos hb]
    · intro h i d; unfold before'; rw [if_pos hb]
  | succ n ih =>
    intro t b ht hb
    have hb' := b.isLt
    have h0 : t.val ≠ 0 := by omega
    have b0 : b.val ≠ 0 := by omega
    have hx := holds hD t b (ht.trans hb.symm)
    have hl := ih ⟨t.val - 1, Nat.lt_of_le_of_lt (Nat.sub_le _ _) t.isLt⟩ ⟨b.val - 1, by omega⟩ (by simp only []; omega) (by simp only []; omega)
    rw [states_block m c t h0 (by omega)]
    unfold stepBlock
    rw [blockState_eq]
    refine left_of hx hl.dkm hl.dvm hl.ds hl.ck hl.cv ?_ ?_ ?_ ?_ ?_
    · intro h i d; exact (upto_succ (fun t => D.blockK t h (first i) d) b b0).symm
    · intro h i d; exact (upto_succ (fun t => D.blockV t h (first i) d) b b0).symm
    · intro n; exact (upto_succ (fun t => D.blockS t n) b b0).symm
    · intro h i d; unfold before'; rw [if_neg b0]
    · intro h i d; unfold before'; rw [if_neg b0]

/-- What the last point leaves: the carried rows, and the rest as before. -/
theorem left_last (t : Fin cfg0.N) (ht : t.val = 33) :
    (∀ n a d, (states m c t.val t.isLt).dq (ix2 a (cQ n d)) = (D.dq n (row 32 a) d : EReal))
    ∧ (∀ h i d, (states m c t.val t.isLt).dk (ix2 i (cK h d)) = (D.blockK 32 h (own i) d : EReal))
    ∧ (∀ h i d, (states m c t.val t.isLt).dv (ix2 i (cK h d)) = (D.blockV 32 h (own i) d : EReal))
    ∧ (∀ h i d, (states m c t.val t.isLt).dkm (ix2 i (cK h d)) = ((∑ t, D.blockK t h (first i) d : ℝ) : EReal))
    ∧ (∀ h i d, (states m c t.val t.isLt).dvm (ix2 i (cK h d)) = ((∑ t, D.blockV t h (first i) d : ℝ) : EReal))
    ∧ (∀ n, (states m c t.val t.isLt).ds (ix2 0 (cS n)) = ((∑ t, D.blockS t n : ℝ) : EReal)) := by
  have hl := left hD 32 ⟨t.val - 1, Nat.lt_of_le_of_lt (Nat.sub_le _ _) t.isLt⟩ 32 (by simp only []; omega) rfl
  have hk := hl.dkm; have hv := hl.dvm; have hs := hl.ds
  rw [states_last m c t (by omega)]
  unfold stepLast
  rw [lastDk_eq, lastDv_eq]
  simp only [show ((32 : Fin 33).val) = 32 from rfl, upto_all] at hk hv hs
  exact ⟨hl.dq, hl.ck, hl.cv, hk, hv, hs⟩

end Cert.AttnIdeal.Bwd

end
-- ==== Proof.Attention.Arrays.lean ====
module

public import proofs.«01_k».proof.Proof.Attention.States

/-! The arrays that the attention gradient's run leaves, as numbers. -/

@[expose] public section

set_option maxRecDepth 16384

noncomputable section

namespace Cert.AttnIdeal.Bwd

open Idealize.ShloMosaic Idealize.ShloMosaic.Pointwise Idealize.ShloMosaic.TcCoe Idealize.SL.Sem
open Cert.AttnIdeal Cert.AttnIdeal.Gen Cert.Attention

/-- Where the outputs' blocks lie, and when they are written back. -/
theorem at9 : ∀ t : Fin cfg0.N, win0_9.index t 0 = min t.val 32 ∧ win0_9.index t 1 = 0 :=
  (by decide +kernel : ∀ t : Fin grid0.N, win0_9.index t 0 = min t.val 32 ∧ win0_9.index t 1 = 0)
theorem at10 : ∀ t : Fin cfg0.N, win0_10.index t 0 = t.val - 1 ∧ win0_10.index t 1 = 0 :=
  (by decide +kernel : ∀ t : Fin grid0.N, win0_10.index t 0 = t.val - 1 ∧ win0_10.index t 1 = 0)
theorem at11 : ∀ t : Fin cfg0.N, win0_11.index t 0 = t.val - 1 ∧ win0_11.index t 1 = 0 :=
  (by decide +kernel : ∀ t : Fin grid0.N, win0_11.index t 0 = t.val - 1 ∧ win0_11.index t 1 = 0)

/-- A column's head and its place in it. -/
def hQ (y : Fin 2048) : Fin 32 := ⟨y.val / 64, by omega⟩
def hK (y : Fin 256) : Fin 4 := ⟨y.val / 64, by omega⟩
def laneQ (y : Fin 2048) : Fin 64 := ⟨y.val % 64, by omega⟩
def laneK (y : Fin 256) : Fin 64 := ⟨y.val % 64, by omega⟩
theorem cQ_hQ (y : Fin 2048) : cQ (hQ y) (laneQ y) = y := Fin.ext (by simp only [cQ, hQ, laneQ]; omega)
theorem cK_hK (y : Fin 256) : cK (hK y) (laneK y) = y := Fin.ext (by simp only [cK, hK, laneK]; omega)

/-- The gradients as whole arrays: the queries'; the keys' and values' as the blocks give them, the block's own part and the next
block's; the sums for the first block's keys and values; the sinks'. -/
def after' (f : Fin 33 → ℝ) (b : Fin 33) : ℝ := if h : b.val < 32 then f ⟨b.val + 1, by omega⟩ else 0
def blockOf (r : Fin 4224) : Fin 33 := ⟨r.val / 128, by omega⟩
def rowOf (r : Fin 4224) : Fin 128 := ⟨r.val % 128, by omega⟩
def arrQ (D : Data) : S4224x2048.Idx → EReal := fun i => (D.dq (hQ (i 1)) (i 0) (laneQ (i 1)) : EReal)
def arrK (f : Fin 33 → Fin 4 → Fin 384 → Fin 64 → ℝ) : S4224x256.Idx → EReal := fun i =>
  ((f (blockOf (i 0)) (hK (i 1)) (own (rowOf (i 0))) (laneK (i 1)) + after' (fun t => f t (hK (i 1)) (before (rowOf (i 0))) (laneK (i 1))) (blockOf (i 0)) : ℝ) : EReal)
def arrM (f : Fin 33 → Fin 4 → Fin 384 → Fin 64 → ℝ) : S128x256.Idx → EReal := fun i =>
  ((∑ t, f t (hK (i 1)) (first (i 0)) (laneK (i 1)) : ℝ) : EReal)

theorem ix2_eta {a b : ℕ} (y : Shape.Idx ⟨2, ![a, b]⟩) : ix2 (y 0) (y 1) = y := by
  funext k; fin_cases k <;> rfl
theorem at_cQ (X : S128x2048.Idx → EReal) (f : Fin 32 → Fin 128 → Fin 64 → ℝ) (h : ∀ n a d, X (ix2 a (cQ n d)) = (f n a d : EReal)) (y : S128x2048.Idx) :
    X y = (f (hQ (y 1)) (y 0) (laneQ (y 1)) : EReal) := by
  exact (congrArg X ((congrArg (fun b : Fin 2048 => (ix2 (y 0) b : S128x2048.Idx)) (cQ_hQ (y 1))).trans (ix2_eta y)).symm).trans (h _ _ _)
theorem at_cK (X : S128x256.Idx → EReal) (f : Fin 4 → Fin 128 → Fin 64 → ℝ) (h : ∀ n a d, X (ix2 a (cK n d)) = (f n a d : EReal)) (y : S128x256.Idx) :
    X y = (f (hK (y 1)) (y 0) (laneK (y 1)) : EReal) := by
  exact (congrArg X ((congrArg (fun b : Fin 256 => (ix2 (y 0) b : S128x256.Idx)) (cK_hK (y 1))).trans (ix2_eta y)).symm).trans (h _ _ _)

theorem flush10 : ∀ t : Fin cfg0.N, (cfg0.win 10).flush t = true → t.val ≠ 0 :=
  (by decide +kernel : ∀ t : Fin grid0.N, win0_10.flush t = true → t.val ≠ 0)
theorem flush11 : ∀ t : Fin cfg0.N, (cfg0.win 11).flush t = true → t.val ≠ 0 :=
  (by decide +kernel : ∀ t : Fin grid0.N, win0_11.flush t = true → t.val ≠ 0)
theorem flush12 : ∀ t : Fin cfg0.N, (cfg0.win 12).flush t = true → t.val = 33 :=
  (by decide +kernel : ∀ t : Fin grid0.N, win0_12.flush t = true → t.val = 33)
theorem flush13 : ∀ t : Fin cfg0.N, (cfg0.win 13).flush t = true → t.val = 33 :=
  (by decide +kernel : ∀ t : Fin grid0.N, win0_13.flush t = true → t.val = 33)
theorem flush14 : ∀ t : Fin cfg0.N, (cfg0.win 14).flush t = true → t.val = 33 :=
  (by decide +kernel : ∀ t : Fin grid0.N, win0_14.flush t = true → t.val = 33)
theorem at12 : ∀ t : Fin cfg0.N, win0_12.index t 0 = 0 ∧ win0_12.index t 1 = 0 :=
  (by decide +kernel : ∀ t : Fin grid0.N, win0_12.index t 0 = 0 ∧ win0_12.index t 1 = 0)
theorem at13 : ∀ t : Fin cfg0.N, win0_13.index t 0 = 0 ∧ win0_13.index t 1 = 0 :=
  (by decide +kernel : ∀ t : Fin grid0.N, win0_13.index t 0 = 0 ∧ win0_13.index t 1 = 0)
theorem at14 : ∀ t : Fin cfg0.N, win0_14.index t 0 = 0 ∧ win0_14.index t 1 = 0 :=
  (by decide +kernel : ∀ t : Fin grid0.N, win0_14.index t 0 = 0 ∧ win0_14.index t 1 = 0)

/-- One block of the keys' or the values' gradient. -/
theorem arrK_block (f : Fin 33 → Fin 4 → Fin 384 → Fin 64 → ℝ) (i : S4224x256.Idx) (h : Fin 4) (a : Fin 128) (d : Fin 64) (b : Fin 33)
    (e0 : (i 0).val = 128 * b.val + a.val) (e1 : i 1 = cK h d) :
    arrK f i = ((f b h (own a) d + after' (fun t => f t h (before a) d) b : ℝ) : EReal) := by
  have hb : blockOf (i 0) = b := Fin.ext (by simp only [blockOf, e0]; omega)
  have hr : rowOf (i 0) = a := Fin.ext (by simp only [rowOf, e0]; omega)
  have hh : hK (cK h d) = h := Fin.ext (by simp only [hK, cK]; omega)
  have hl : laneK (cK h d) = d := Fin.ext (by simp only [laneK, cK]; omega)
  unfold arrK
  rw [hb, hr, e1, hh, hl]

variable {m : (ℓ : Loc nD τ sig) → Buf (Elt Ideal) ℓ} {c : Dev nD} {D : Data}
  (hD : Numbers (m ((c.tc : Thread nD τ).loc main_arg0)) (m ((c.tc : Thread nD τ).loc main_arg1)) (m ((c.tc : Thread nD τ).loc main_arg2)) (m ((c.tc : Thread nD τ).loc main_arg3)) D)
include hD

theorem final9 : (dats m 0 c).arrAt 9 cfg0.N = arrQ D := by
  refine (dats m 0 c).arrAt_eq_of_covers 9 _ (by decide +kernel) fun t hf y => ?_
  have ht := lt_of_lt_of_eq t.isLt N_0
  have e0 : (((cfg0.win 9).blk t).view.emb y 0).val = 128 * min t.val 32 + (y 0).val := by
    have := (at9 t).1
    blk_simp [this]; omega
  have e1 : (((cfg0.win 9).blk t).view.emb y 1).val = (y 1).val := by
    have := (at9 t).2
    blk_simp [this]
  have e : arrQ D (((cfg0.win 9).blk t).view.emb y) = (D.dq (hQ (y 1)) (row ⟨min t.val 32, by omega⟩ (y 0)) (laneQ (y 1)) : EReal) := by
    have a0 : ((cfg0.win 9).blk t).view.emb y 0 = row ⟨min t.val 32, by omega⟩ (y 0) := Fin.ext e0
    have a1 : ((cfg0.win 9).blk t).view.emb y 1 = y 1 := Fin.ext e1
    show ((D.dq (hQ (((cfg0.win 9).blk t).view.emb y 1)) (((cfg0.win 9).blk t).view.emb y 0) (laneQ (((cfg0.win 9).blk t).view.emb y 1)) : ℝ) : EReal) = _
    rw [a0, a1]
  refine (congrFun (after9 m c t) y).trans (Eq.trans ?_ e.symm)
  by_cases h : t.val < 33
  · refine (at_cQ _ _ (left hD t.val t ⟨t.val, h⟩ rfl rfl).dq y).trans ?_
    simp only [Nat.min_eq_left (show t.val ≤ 32 by omega)]
  · refine (at_cQ _ _ (left_last hD t (by omega)).1 y).trans ?_
    simp only [Nat.min_eq_right (show 32 ≤ t.val by omega)]
    rfl

theorem final10 : (dats m 0 c).arrAt 10 cfg0.N = arrK D.blockK := by
  refine (dats m 0 c).arrAt_eq_of_covers 10 _ (by decide +kernel) fun t hf y => ?_
  have ht0 := flush10 t hf
  have ht := lt_of_lt_of_eq t.isLt N_0
  have e0 : (((cfg0.win 10).blk t).view.emb y 0).val = 128 * (t.val - 1) + (y 0).val := by
    have := (at10 t).1
    blk_simp [this]; omega
  have e1 : (((cfg0.win 10).blk t).view.emb y 1).val = (y 1).val := by
    have := (at10 t).2
    blk_simp [this]
  have e2 : ((cfg0.win 10).blk t).view.emb y 1 = cK (hK (y 1)) (laneK (y 1)) := (Fin.ext e1).trans (cK_hK _).symm
  refine (congrFun (after10 m c t) y).trans ?_
  refine Eq.trans ?_ (arrK_block D.blockK _ (hK (y 1)) (y 0) (laneK (y 1)) ⟨t.val - 1, by omega⟩ e0 e2).symm
  by_cases h : t.val < 33
  · refine (at_cK _ _ (left hD t.val t ⟨t.val, h⟩ rfl rfl).dk y).trans ?_
    unfold before' after'
    rw [if_neg ht0, dif_pos (by simp only []; omega)]
    simp only [Nat.sub_add_cancel (Nat.one_le_iff_ne_zero.2 ht0)]
  · have h33 : t.val = 33 := by omega
    refine (at_cK _ _ (left_last hD t h33).2.1 y).trans ?_
    unfold after'
    rw [dif_neg (by simp only []; omega), add_zero]
    congr 2
    exact Fin.ext (by simp only [h33]; rfl)

theorem final11 : (dats m 0 c).arrAt 11 cfg0.N = arrK D.blockV := by
  refine (dats m 0 c).arrAt_eq_of_covers 11 _ (by decide +kernel) fun t hf y => ?_
  have ht0 := flush11 t hf
  have ht := lt_of_lt_of_eq t.isLt N_0
  have e0 : (((cfg0.win 11).blk t).view.emb y 0).val = 128 * (t.val - 1) + (y 0).val := by
    have := (at11 t).1
    blk_simp [this]; omega
  have e1 : (((cfg0.win 11).blk t).view.emb y 1).val = (y 1).val := by
    have := (at11 t).2
    blk_simp [this]
  have e2 : ((cfg0.win 11).blk t).view.emb y 1 = cK (hK (y 1)) (laneK (y 1)) := (Fin.ext e1).trans (cK_hK _).symm
  refine (congrFun (after11 m c t) y).trans ?_
  refine Eq.trans ?_ (arrK_block D.blockV _ (hK (y 1)) (y 0) (laneK (y 1)) ⟨t.val - 1, by omega⟩ e0 e2).symm
  by_cases h : t.val < 33
  · refine (at_cK _ _ (left hD t.val t ⟨t.val, h⟩ rfl rfl).dv y).trans ?_
    unfold before' after'
    rw [if_neg ht0, dif_pos (by simp only []; omega)]
    simp only [Nat.sub_add_cancel (Nat.one_le_iff_ne_zero.2 ht0)]
  · have h33 : t.val = 33 := by omega
    refine (at_cK _ _ (left_last hD t h33).2.2.1 y).trans ?_
    unfold after'
    rw [dif_neg (by simp only []; omega), add_zero]
    congr 2
    exact Fin.ext (by simp only [h33]; rfl)

theorem final12 : (dats m 0 c).arrAt 12 cfg0.N = arrM D.blockK := by
  refine (dats m 0 c).arrAt_eq_of_covers 12 _ (by decide +kernel) fun t hf y => ?_
  have h33 := flush12 t hf
  have e : ((cfg0.win 12).blk t).view.emb y = y := by
    obtain ⟨h0, h1⟩ := at12 t
    blk_ext [h0, h1]
  refine (congrFun (after12 m c t) y).trans ?_
  refine (at_cK _ _ (left_last hD t h33).2.2.2.1 y).trans ?_
  exact congrArg (arrM D.blockK) e.symm

theorem final13 : (dats m 0 c).arrAt 13 cfg0.N = arrM D.blockV := by
  refine (dats m 0 c).arrAt_eq_of_covers 13 _ (by decide +kernel) fun t hf y => ?_
  have h33 := flush13 t hf
  have e : ((cfg0.win 13).blk t).view.emb y = y := by
    obtain ⟨h0, h1⟩ := at13 t
    blk_ext [h0, h1]
  refine (congrFun (after13 m c t) y).trans ?_
  refine (at_cK _ _ (left_last hD t h33).2.2.2.2.1 y).trans ?_
  exact congrArg (arrM D.blockV) e.symm

theorem final14_of (s : State Ideal) (hs : ∀ t : Fin cfg0.N, t.val = 33 → states m c t.val t.isLt = s) :
    (dats m 0 c).arrAt 14 cfg0.N = s.ds := by
  refine (dats m 0 c).arrAt_eq_of_covers 14 _ (by decide +kernel) fun t hf y => ?_
  have h33 := flush14 t hf
  have e : ((cfg0.win 14).blk t).view.emb y = y := by
    obtain ⟨h0, h1⟩ := at14 t
    blk_ext [h0, h1]
  refine (congrFun (after14 m c t) y).trans ?_
  rw [hs t h33]
  exact congrArg s.ds e.symm

/-- The sinks' sums, in the first 32 lanes. -/
theorem final14 (n : Fin 32) : (dats m 0 c).arrAt 14 cfg0.N (ix2 0 (cS n)) = ((∑ t, D.blockS t n : ℝ) : EReal) := by
  obtain ⟨t, ht⟩ : ∃ t : Fin cfg0.N, t.val = 33 := ⟨⟨33, by decide⟩, rfl⟩
  have key := final14_of hD (states m c t.val t.isLt) fun t' h => by
    have : t' = t := Fin.ext (h.trans ht.symm)
    rw [this]
  rw [key]
  exact (left_last hD t ht).2.2.2.2.2 n

end Cert.AttnIdeal.Bwd

end
-- ==== Proof.Attention.Total.lean ====
module

public import proofs.«01_k».proof.Proof.Attention.Arrays

/-! A key's gradient is what its own block gives it, what the next block gives it, and, in the first block, what every later
block gives it. -/

@[expose] public section

noncomputable section

namespace Cert.Attention

open Cert.AttnIdeal.Bwd

theorem pos_own (b : Fin 33) (i : Fin 128) : pos b (own i) = row b i :=
  Fin.ext (by rw [pos_high _ _ (by simp [own])]; simp [own, row])
theorem pos_before (b t : Fin 33) (i : Fin 128) (h : t.val = b.val + 1) : pos t (before i) = row b i :=
  Fin.ext (by rw [pos_mid _ _ (by simp [before]) (by simp [before]; omega)]; simp [before, row]; omega)
theorem pos_first (t : Fin 33) (i : Fin 128) : pos t (first i) = row 0 i :=
  Fin.ext (by rw [pos_low _ _ (by simp [first])]; simp [first, row])

section
variable (w : Fin 8 → Fin 4224 → Fin 4224 → ℝ) (u : Fin 8 → Fin 4224 → ℝ)

/-- What block `t` gives to the key in slot `j`, from the weights `w` and the rows `u`. -/
def give (t : Fin 33) (j : Fin 384) : ℝ := ∑ e, ∑ a, (if Seen t a j then w e (row t a) (pos t j) else 0) * u e (row t a)

theorem sum_if {ι : Type*} (s : Finset ι) (P : Prop) [Decidable P] (f : ι → ℝ) : ∑ t ∈ s, (if P then f t else 0) = if P then ∑ t ∈ s, f t else 0 := by
  split
  · rfl
  · exact Finset.sum_const_zero
theorem sum_if_eq (b : Fin 33) (f : Fin 33 → ℝ) : ∑ t, (if t = b then f t else 0) = f b := by
  rw [Finset.sum_ite_eq' Finset.univ b f, if_pos (Finset.mem_univ _)]
theorem sum_if_next (b : Fin 33) (f : Fin 33 → ℝ) : ∑ t : Fin 33, (if t.val = b.val + 1 then f t else 0) = after' f b := by
  unfold after'
  split
  · rename_i h
    rw [Finset.sum_eq_single (⟨b.val + 1, by omega⟩ : Fin 33)]
    · rw [if_pos rfl]
    · intro t _ ht; rw [if_neg]; exact fun h' => ht (Fin.ext h')
    · intro h'; exact absurd (Finset.mem_univ _) h'
  · rename_i h
    refine Finset.sum_eq_zero fun t _ => ?_
    rw [if_neg]; have := t.isLt; omega

theorem give_total (hw : ∀ e (r c : Fin 4224), ¬ Sees r c → w e r c = 0) (b : Fin 33) (i : Fin 128) :
    ∑ e, ∑ r, w e r (row b i) * u e r
      = give w u b (own i) + after' (fun t => give w u t (before i)) b + (if b = 0 then ∑ t, give w u t (first i) else 0) := by
  have h1 : ∀ (t : Fin 33), ∑ e, ∑ a, w e (row t a) (row b i) * u e (row t a)
      = (if t = b then give w u t (own i) else 0) + (if t.val = b.val + 1 then give w u t (before i) else 0)
        + (if b = 0 then give w u t (first i) else 0) := by
    intro t
    have h2 : ∀ e a, w e (row t a) (row b i) * u e (row t a)
        = (if t = b then (if Seen t a (own i) then w e (row t a) (pos t (own i)) else 0) * u e (row t a) else 0)
          + (if t.val = b.val + 1 then (if Seen t a (before i) then w e (row t a) (pos t (before i)) else 0) * u e (row t a) else 0)
          + (if b = 0 then (if Seen t a (first i) then w e (row t a) (pos t (first i)) else 0) * u e (row t a) else 0) := by
      intro e a
      have h3 : w e (row t a) (row b i) = if Sees (row t a) (row b i) then w e (row t a) (row b i) else 0 := by
        split
        · rfl
        · rename_i h; exact hw _ _ _ h
      have h4 := split_slots t b a i (w e (row t a) (row b i))
      rw [h3, h4, add_mul, add_mul]
      congr 1
      · congr 1
        · by_cases c : t = b
          · rw [if_pos c, if_pos c, c, pos_own]
          · rw [if_neg c, if_neg c, zero_mul]
        · by_cases c : t.val = b.val + 1
          · rw [if_pos c, if_pos c, pos_before b t i c]
          · rw [if_neg c, if_neg c, zero_mul]
      · by_cases c : b = 0
        · rw [if_pos c, if_pos c, pos_first, c]
        · rw [if_neg c, if_neg c, zero_mul]
    simp only [h2, Finset.sum_add_distrib, sum_if]
    rfl
  have h5 : ∑ e, ∑ r, w e r (row b i) * u e r = ∑ t, ∑ e, ∑ a, w e (row t a) (row b i) * u e (row t a) := by
    symm
    rw [Finset.sum_comm]
    exact Finset.sum_congr rfl fun e _ => (sum_rows fun r => w e r (row b i) * u e r).symm
  rw [h5]
  rw [Finset.sum_congr rfl fun t _ => h1 t, Finset.sum_add_distrib, Finset.sum_add_distrib,
    sum_if_eq b (fun t => give w u t (own i)), sum_if_next b (fun t => give w u t (before i)), sum_if]

end

namespace Data
variable (D : Data)

theorem dk_total (h : Fin 4) (b : Fin 33) (i : Fin 128) (d : Fin 64) : D.dk h (row b i) d
    = D.blockK b h (own i) d + after' (fun t => D.blockK t h (before i) d) b + (if b = 0 then ∑ t, D.blockK t h (first i) d else 0) :=
  give_total (fun e r c => D.dscore (qh h e) r c) (fun e r => D.q (qh h e) r d) (fun e r c hs => D.dscore_of_not hs) b i
theorem dv_total (h : Fin 4) (b : Fin 33) (i : Fin 128) (d : Fin 64) : D.dv h (row b i) d
    = D.blockV b h (own i) d + after' (fun t => D.blockV t h (before i) d) b + (if b = 0 then ∑ t, D.blockV t h (first i) d else 0) :=
  give_total (fun e r c => D.p (qh h e) r c) (fun e r => D.g (qh h e) r d) (fun e r c hs => D.p_of_not hs) b i
theorem ds_total (n : Fin 32) : ∑ t, D.blockS t n = D.ds n := by
  unfold blockS ds
  rw [sum_rows, Finset.sum_neg_distrib]

end Data

end Cert.Attention

end
-- ==== Proof.Attention.Tail.lean ====
module

public import proofs.«01_k».proof.Proof.Attention.Arrays
public import proofs.«01_k».proof.Proof.Attention.Total

/-! What the attention gradient's program returns: the queries' gradient as the region leaves it, and the keys', values' and
sinks' gradients after the host's last lines, which add the first block's sums. -/

@[expose] public section

set_option maxRecDepth 16384

noncomputable section

namespace Cert.AttnIdeal.Bwd

open Idealize.ShloMosaic Idealize.ShloMosaic.Pointwise Idealize.ShloMosaic.TcCoe Idealize.SL.Sem
open Cert.AttnIdeal Cert.AttnIdeal.Gen Cert.Attention

/-- The keys' (values') gradient as the host's last lines join it: the first 128 rows with the sums added, the others as they are. -/
def hostK (a : FVec Ideal S4224x256 .f32) (b : FVec Ideal S128x256 .f32) : FVec Ideal S4224x256 .f32 :=
  let u : FVec Ideal S128x256 .f32 := addf (extractStridedSlice S128x256 ![0, 0] a slices_S4224x256_S128x256_0_0 : FVec Ideal S128x256 .f32) b
  let w : FVec Ideal S4096x256 .f32 := extractStridedSlice S4096x256 ![128, 0] a slices_S4224x256_S4096x256_128_0
  concatenate S4224x256 0 [⟨S128x256, u⟩, ⟨S4096x256, w⟩] concatenates_S128x256_S4096x256_S4224x256_d0
/-- The sinks' gradient: 32 numbers out of 128. -/
def hostS (a : (⟨S1x128, .f32⟩ : BufTy).Contents (Elt Ideal)) : (⟨S1x32, .f32⟩ : BufTy).Contents (Elt Ideal) :=
  extractStridedSlice S1x32 ![0, 0] a slices_S1x128_S1x32_0_0

section
variable (V : Valuation τ sig (Elt Ideal))

theorem tail4 : StableHlo.after (hostOps1 : List (HloOp τ sig (Elt Ideal))) V (Proc.devRef .tc main_v4)
    = hostK (V (Proc.devRef .tc main_v0_1)) (V (Proc.devRef .tc main_v0_3)) := by
  after_results
  rfl
theorem tail8 : StableHlo.after (hostOps1 : List (HloOp τ sig (Elt Ideal))) V (Proc.devRef .tc main_v8)
    = hostK (V (Proc.devRef .tc main_v0_2)) (V (Proc.devRef .tc main_v0_4)) := by
  after_results
  rfl
theorem tail9 : StableHlo.after (hostOps1 : List (HloOp τ sig (Elt Ideal))) V (Proc.devRef .tc main_v9)
    = hostS (V (Proc.devRef .tc main_v0_5)) := by
  after_results
  rfl

end

theorem hostK_apply (a : FVec Ideal S4224x256 .f32) (b : FVec Ideal S128x256 .f32) (i : S4224x256.Idx) :
    hostK a b i = if h : (i 0).val < 128 then (a i : EReal) + b (ix2 ⟨(i 0).val, h⟩ (i 1)) else a i := by
  pointwise [hostK]
  split
  · rfl
  · rename_i h
    exact congrArg a ((congrArg (fun r : Fin 4224 => (ix2 r (i 1) : S4224x256.Idx)) (Fin.ext (by show 128 + ((i 0).val - 128) = (i 0).val; omega))).trans (ix2_eta i))

theorem hostS_apply (a : (⟨S1x128, .f32⟩ : BufTy).Contents (Elt Ideal)) (n : Fin 32) :
    hostS a (ix2 0 n) = a (ix2 0 (cS n)) := by
  pointwise [hostS]
  rfl

/-- The gradients that the program returns, as numbers. -/
def resK (f : Fin 4 → Fin 4224 → Fin 64 → ℝ) : S4224x256.Idx → EReal := fun i => (f (hK (i 1)) (i 0) (laneK (i 1)) : EReal)
def resS (f : Fin 32 → ℝ) : S1x32.Idx → EReal := fun i => (f (i 1) : EReal)

theorem row_eta (r : Fin 4224) : row (blockOf r) (rowOf r) = r := Fin.ext (by simp only [row, blockOf, rowOf]; omega)

/-- A row of the joined gradient is the sum over the queries that see its key. -/
theorem hostK_eq (f : Fin 33 → Fin 4 → Fin 384 → Fin 64 → ℝ) (g : Fin 4 → Fin 4224 → Fin 64 → ℝ)
    (hg : ∀ (h : Fin 4) (b : Fin 33) (i : Fin 128) (d : Fin 64), g h (row b i) d = f b h (own i) d + after' (fun t => f t h (before i) d) b + (if b = 0 then ∑ t, f t h (first i) d else 0)) :
    hostK (arrK f) (arrM f) = resK g := by
  funext i
  rw [hostK_apply]
  have e : g (hK (i 1)) (i 0) (laneK (i 1)) = _ := (congrArg (fun r => g (hK (i 1)) r (laneK (i 1))) (row_eta (i 0)).symm).trans (hg (hK (i 1)) (blockOf (i 0)) (rowOf (i 0)) (laneK (i 1)))
  show _ = ((g (hK (i 1)) (i 0) (laneK (i 1)) : ℝ) : EReal)
  rw [e]
  split
  · rename_i h
    have hb : blockOf (i 0) = 0 := Fin.ext (by show (i 0).val / 128 = 0; omega)
    have hr : rowOf (i 0) = ⟨(i 0).val, h⟩ := Fin.ext (by show (i 0).val % 128 = (i 0).val; omega)
    rw [if_pos hb, EReal.coe_add, ← hr]
    rfl
  · rename_i h
    have hb : blockOf (i 0) ≠ 0 := fun e => h (by
      have : (i 0).val / 128 = 0 := congrArg Fin.val e
      omega)
    rw [if_neg hb, add_zero]
    rfl

section
variable {m : (ℓ : Loc nD τ sig) → Buf (Elt Ideal) ℓ} {ρ : Dev nD → PrngReg} {D : Dev nD → Data}

/-- What the program's run leaves in its results: the gradients. -/
theorem run_values (hD : ∀ c : Dev nD, Numbers (m ((c.tc : Thread nD τ).loc main_arg0)) (m ((c.tc : Thread nD τ).loc main_arg1)) (m ((c.tc : Thread nD τ).loc main_arg2)) (m ((c.tc : Thread nD τ).loc main_arg3)) (D c)) :
    θ_run defs (onTc (τ := τ) (main (F := Ideal))) ⟨m, fun _ => 0, ρ⟩ (fun r => ∀ c : Dev nD,
      r.2.mem ((c.tc : Thread nD τ).loc main_v0_0) = arrQ (D c)
      ∧ r.2.mem ((c.tc : Thread nD τ).loc main_v4) = resK (D c).dk
      ∧ r.2.mem ((c.tc : Thread nD τ).loc main_v8) = resK (D c).dv
      ∧ r.2.mem ((c.tc : Thread nD τ).loc main_v9) = resS (D c).ds) := by
  refine (θ_run defs _ _).mono (fun r h c => ?_) (run_quiescent m ρ)
  have hA := (dats m 0 c).withArrays_arrAt sharedIn0 (V0 m c) (A_eq m c)
  refine ⟨(h.1 c).1 9 |>.trans (final9 (hD c)), ((h.1 c).2 main_v4 (by decide)).trans ?_, ((h.1 c).2 main_v8 (by decide)).trans ?_, ((h.1 c).2 main_v9 (by decide)).trans ?_⟩
  · refine ((tail4 _).trans (congrArg₂ hostK ?_ ?_)).trans (hostK_eq (D c).blockK (D c).dk fun h b i d => (D c).dk_total h b i d)
    · exact (hA 10).trans (final10 (hD c))
    · exact (hA 12).trans (final12 (hD c))
  · refine ((tail8 _).trans (congrArg₂ hostK ?_ ?_)).trans (hostK_eq (D c).blockV (D c).dv fun h b i d => (D c).dv_total h b i d)
    · exact (hA 11).trans (final11 (hD c))
    · exact (hA 13).trans (final13 (hD c))
  · refine ((tail9 _).trans (congrArg hostS (hA 14))).trans ?_
    funext i
    have e : (ix2 0 (i 1) : S1x32.Idx) = i := (congrArg (fun z : Fin 1 => (ix2 z (i 1) : S1x32.Idx)) (Subsingleton.elim (0 : Fin 1) (i 0))).trans (ix2_eta i)
    exact ((congrArg (hostS ((dats m 0 c).arrAt 14 cfg0.N)) e.symm).trans (hostS_apply _ (i 1))).trans ((final14 (hD c) (i 1)).trans (congrArg (fun z : ℝ => (z : EReal)) ((D c).ds_total (i 1))))

end

end Cert.AttnIdeal.Bwd

end
-- ==== Proof.Attention.RefReal.lean ====
module

public import proofs.«01_k».proof.Proof.Attention.RefLines
public import proofs.«01_k».proof.Proof.Attention.Tail

/-! The reference's results are the gradients, when the arguments are numbers. -/

@[expose] public section

set_option maxRecDepth 16384

noncomputable section

namespace Cert.RefIdeal.Bwd

open Idealize.ShloMosaic Idealize.ShloMosaic.Pointwise Idealize.ShloMosaic.TcCoe Idealize.SL.Sem
open Cert.RefIdeal Cert.RefIdeal.Gen Cert.RefIdeal.Read Cert.Attention
open Cert.AttnIdeal.Bwd (negInf exists_real_max exp_sub exp_bot_sub div_coe coe_sum select_true select_false hQ hK laneQ laneK resK resS arrQ)

section
variable {x0 : (⟨S4224x2304, .bf16⟩ : BufTy).Contents (Elt Ideal)} {x1 : (⟨S4224x14848, .bf16⟩ : BufTy).Contents (Elt Ideal)}
  {x2 : (⟨S1x32, .f32⟩ : BufTy).Contents (Elt Ideal)} {x3 : (⟨S4224x2048, .bf16⟩ : BufTy).Contents (Elt Ideal)} {D : Data}
  (hD : Numbers x0 x1 x2 x3 D)
include hD

/-! The arguments as the reference spells their indices. -/

theorem q_at (h : Fin 4) (e : Fin 8) (r : Fin 4224) (d : Fin 64) (l : h.val * 512 + e.val * 64 + d.val < 2304) :
    (x0 (ix2 r (⟨h.val * 512 + e.val * 64 + d.val, l⟩ : Fin 2304)) : EReal) = (D.q (qh h e) r d : EReal) :=
  (congrArg (fun y : Fin 2304 => (x0 (ix2 r y) : EReal)) (Fin.ext (by simp only [qh]; omega))).trans (hD.q (qh h e) r d)
theorem g_at (h : Fin 4) (e : Fin 8) (r : Fin 4224) (d : Fin 64) (l : h.val * 512 + e.val * 64 + d.val < 2048) :
    (x3 (ix2 r (⟨h.val * 512 + e.val * 64 + d.val, l⟩ : Fin 2048)) : EReal) = (D.g (qh h e) r d : EReal) :=
  (congrArg (fun y : Fin 2048 => (x3 (ix2 r y) : EReal)) (Fin.ext (by simp only [qh]; omega))).trans (hD.g (qh h e) r d)
theorem k_at (h : Fin 4) (r : Fin 4224) (d : Fin 64) (l : 2048 + (h.val * 64 + d.val) < 2304) :
    (x0 (ix2 r (⟨2048 + (h.val * 64 + d.val), l⟩ : Fin 2304)) : EReal) = (D.k h r d : EReal) :=
  (congrArg (fun y : Fin 2304 => (x0 (ix2 r y) : EReal)) (Fin.ext (by show 2048 + (h.val * 64 + d.val) = 2048 + (64 * h.val + d.val); omega))).trans (hD.k h r d)
theorem v_at (h : Fin 4) (r : Fin 4224) (d : Fin 64) (l : 2304 + (h.val * 64 + d.val) < 14848) :
    (x1 (ix2 r (⟨2304 + (h.val * 64 + d.val), l⟩ : Fin 14848)) : EReal) = (D.v h r d : EReal) :=
  (congrArg (fun y : Fin 14848 => (x1 (ix2 r y) : EReal)) (Fin.ext (by show 2304 + (h.val * 64 + d.val) = 2304 + (64 * h.val + d.val); omega))).trans (hD.v h r d)
theorem s_at (h : Fin 4) (e : Fin 8) (l : h.val * 8 + e.val < 32) :
    (x2 (ix2 0 (⟨h.val * 8 + e.val, l⟩ : Fin 32)) : EReal) = (D.s (qh h e) : EReal) :=
  (congrArg (fun y : Fin 32 => (x2 (ix2 0 y) : EReal)) (Fin.ext (by simp only [qh]; omega))).trans (hD.s (qh h e))

/-- The scores. -/
theorem score (h : Fin 4) (e : Fin 8) (r j : Fin 4224) : (val_main_v10 (F := Ideal) x0 (ix4 h e r j) : EReal) = (D.score (qh h e) r j : EReal) := by
  rw [at10']
  refine (Fin.sum_fin_congr fun d => ?_).trans (coe_sum Finset.univ _).symm
  rw [k_at hD, q_at hD, mul_comm, ← EReal.coe_mul, kv_qh]

/-- The masked scores. -/
theorem masked (h : Fin 4) (e : Fin 8) (r j : Fin 4224) : (val_main_v29_0 (F := Ideal) x0 (ix4 h e r j) : EReal)
    = if Sees r j then (D.score (qh h e) r j : EReal) else ⊥ := by
  rw [at29', at29, negInf]
  by_cases c : Sees r j
  · rw [decide_eq_true c, select_true, if_pos c]
    exact score hD h e r j
  · rw [decide_eq_false c, select_false, if_neg c]

theorem row_key (h : Fin 4) (e : Fin 8) (r j : Fin 4224) : (val_main_v33 (F := Ideal) x0 x2 (ix4 h e r (key j)) : EReal)
    = if Sees r j then (D.score (qh h e) r j : EReal) else ⊥ := by
  rw [at33, dif_pos (show (key j).val < 4224 from j.isLt)]
  exact masked hD h e r j
theorem row_sink (h : Fin 4) (e : Fin 8) (r : Fin 4224) : (val_main_v33 (F := Ideal) x0 x2 (ix4 h e r sink) : EReal) = (D.s (qh h e) : EReal) := by
  rw [at33, dif_neg (show ¬ sink.val < 4224 from lt_irrefl _)]
  exact s_at hD h e _

/-- A row's largest entry is a number. -/
theorem top (h : Fin 4) (e : Fin 8) (r : Fin 4224) : ∃ M : ℝ, (val_main_v41 (F := Ideal) x0 x2 (ix3 h e r) : EReal) = (M : EReal) := by
  rw [at41, at34, negInf]
  refine real_max _ (fun j => ?_) sink (D.s (qh h e)) (row_sink hD h e r)
  by_cases l : j.val < 4224
  · have ej : j = key ⟨j.val, l⟩ := rfl
    rw [ej, row_key hD]
    split
    · exact EReal.coe_lt_top _
    · exact bot_lt_top
  · have ej : j = sink := Fin.ext (by show j.val = 4224; omega)
    rw [ej, row_sink hD]
    exact EReal.coe_lt_top _

/-- The exponentials, over one positive factor that a row's softmax does not keep. -/
theorem exps (h : Fin 4) (e : Fin 8) (r : Fin 4224) : ∃ μ : ℝ, 0 < μ
    ∧ (∀ j : Fin 4224, (val_main_v54 (F := Ideal) x0 x2 (ix4 h e r (key j)) : EReal) = ((D.ex (qh h e) r j * μ : ℝ) : EReal))
    ∧ (val_main_v54 (F := Ideal) x0 x2 (ix4 h e r sink) : EReal) = ((Real.exp (D.s (qh h e)) * μ : ℝ) : EReal) := by
  obtain ⟨M, hM⟩ := top hD h e r
  refine ⟨Real.exp (-M), Real.exp_pos _, fun j => ?_, ?_⟩
  · rw [at54, at52, row_key hD, hM]
    unfold Data.ex
    split
    · exact exp_sub _ _
    · rw [exp_bot_sub, zero_mul]; rfl
  · rw [at54, at52, row_sink hD, hM]
    exact exp_sub _ _

/-- The gradient of the weights. -/
theorem dp_at (h : Fin 4) (e : Fin 8) (r j : Fin 4224) : (val_main_v69 (F := Ideal) x1 x3 (ix4 h e r j) : EReal) = (D.dp (qh h e) r j : EReal) := by
  rw [at69]
  refine (Fin.sum_fin_congr fun d => ?_).trans (coe_sum Finset.univ _).symm
  rw [v_at hD, g_at hD, ← EReal.coe_mul, kv_qh]
theorem pad_key (h : Fin 4) (e : Fin 8) (r j : Fin 4224) : (val_main_v72 (F := Ideal) x1 x3 (ix4 h e r (key j)) : EReal) = (D.dp (qh h e) r j : EReal) := by
  rw [at72, dif_pos (show (key j).val < 4224 from j.isLt)]
  exact dp_at hD h e r j
omit hD in
theorem pad_sink (h : Fin 4) (e : Fin 8) (r : Fin 4224) : (val_main_v72 (F := Ideal) x1 x3 (ix4 h e r sink) : EReal) = ((0 : ℝ) : EReal) := by
  rw [at72, dif_neg (show ¬ sink.val < 4224 from lt_irrefl _)]
  rfl

/-- The softmax, and the gradient of the scores and of the sink in each row. -/
theorem rows (h : Fin 4) (e : Fin 8) (r : Fin 4224) :
    (∀ j : Fin 4224, (val_main_v62 (F := Ideal) x0 x2 (ix4 h e r j) : EReal) = (D.p (qh h e) r j : EReal))
    ∧ (∀ j : Fin 4224, (val_main_v84 (F := Ideal) x0 x1 x2 x3 (ix4 h e r (key j)) : EReal) = (D.dscore (qh h e) r j : EReal))
    ∧ (val_main_v84 (F := Ideal) x0 x1 x2 x3 (ix4 h e r sink) : EReal) = ((-(D.ps (qh h e) r * D.mean (qh h e) r) : ℝ) : EReal) := by
  obtain ⟨μ, hμ, h1, h2⟩ := exps hD h e r
  have hT := D.total_pos (qh h e) r
  have h56 : (val_main_v56 (F := Ideal) x0 x2 (ix4 h e r 0) : EReal) = ((D.total (qh h e) r * μ : ℝ) : EReal) := by
    rw [at56, sum_keys, h2, Fin.sum_fin_congr h1, ← coe_sum, ← EReal.coe_add, ← Finset.sum_mul, ← add_mul]
    rfl
  have hne : D.total (qh h e) r * μ ≠ 0 := (mul_pos hT hμ).ne'
  have hw : (1 : EReal) = ((1 : ℝ) : EReal) := rfl
  have h75 : ∑ j : Fin 4225, (val_main_v75 (F := Ideal) x0 x1 x2 x3 (ix4 h e r j) : EReal) = ((D.mean (qh h e) r / (D.total (qh h e) r * μ) : ℝ) : EReal) := by
    rw [sum_keys]
    have a1 : ∀ j : Fin 4224, (val_main_v75 (F := Ideal) x0 x1 x2 x3 (ix4 h e r (key j)) : EReal)
        = ((D.dp (qh h e) r j * (1 / (D.total (qh h e) r * μ * (D.total (qh h e) r * μ))) * (D.ex (qh h e) r j * μ) : ℝ) : EReal) := fun j => by
      rw [at75, h56, pad_key hD, h1, ← EReal.coe_mul, hw, div_coe _ _ (mul_ne_zero hne hne), ← EReal.coe_mul, ← EReal.coe_mul]
    have a2 : (val_main_v75 (F := Ideal) x0 x1 x2 x3 (ix4 h e r sink) : EReal) = ((0 : ℝ) : EReal) := by
      rw [at75, pad_sink, EReal.coe_zero, zero_mul, zero_mul]
    rw [a2, Fin.sum_fin_congr a1, ← coe_sum, ← EReal.coe_add, add_zero]
    refine congrArg (fun z : ℝ => (z : EReal)) ?_
    unfold Data.mean Data.p
    rw [Finset.sum_div]
    refine Finset.sum_congr rfl fun j _ => ?_
    have := hT.ne'
    have := hμ.ne'
    field_simp
  have hall : ∑ x : Fin 1, -∑ j : Fin 4225, (val_main_v75 (F := Ideal) x0 x1 x2 x3 (ix4 h e r j) : EReal) = ((-(D.mean (qh h e) r / (D.total (qh h e) r * μ)) : ℝ) : EReal) := by
    rw [Fin.sum_univ_one, h75, EReal.coe_neg]
  have t1 := hT.ne'
  have t2 := hμ.ne'
  refine ⟨fun j => ?_, fun j => ?_, ?_⟩
  · rw [at62, h56, h1, div_coe _ _ hne]
    refine congrArg (fun z : ℝ => (z : EReal)) ?_
    unfold Data.p
    field_simp
  · rw [at84, hall, h56, h1, pad_key hD, div_coe _ _ hne, ← EReal.coe_add, ← EReal.coe_mul]
    refine congrArg (fun z : ℝ => (z : EReal)) ?_
    unfold Data.dscore Data.p
    field_simp
    ring
  · rw [at84, hall, h56, h2, pad_sink, div_coe _ _ hne, ← EReal.coe_add, ← EReal.coe_mul]
    refine congrArg (fun z : ℝ => (z : EReal)) ?_
    unfold Data.ps
    field_simp
    ring

/-- The masked gradient of the scores. -/
theorem dscore_at (h : Fin 4) (e : Fin 8) (r j : Fin 4224) : (val_main_v92 (F := Ideal) x0 x1 x2 x3 (ix4 h j r e) : EReal) = (D.dscore (qh h e) r j : EReal) := by
  rw [at92, at29]
  by_cases c : Sees r j
  · rw [decide_eq_true c, select_true]
    exact (rows hD h e r).2.1 j
  · rw [decide_eq_false c, select_false, D.dscore_of_not c]
    rfl

/-- A query column's head, by its key head and its place among the eight. -/
def hq (y : Fin 2048) : Fin 4 := ⟨y.val / 512, by omega⟩
def eq' (y : Fin 2048) : Fin 8 := ⟨y.val / 64 % 8, by omega⟩
omit hD in
theorem qh_hq (y : Fin 2048) : qh (hq y) (eq' y) = hQ y := Fin.ext (by simp only [qh, hq, eq', hQ]; omega)

theorem dq_at (r : Fin 4224) (y : Fin 2048) : (val_main_v99 (F := Ideal) x0 x1 x2 x3 (ix2 r y) : EReal) = (D.dq (hQ y) r (laneQ y) : EReal) := by
  have e : (val_main_v99 (F := Ideal) x0 x1 x2 x3 (ix2 r y) : EReal) = ∑ c : Fin 4224, (val_main_v92 (F := Ideal) x0 x1 x2 x3 (ix4 (hq y) c r (eq' y)) : EReal)
      * x0 (ix2 c (⟨2048 + ((hq y).val * 64 + (laneQ y).val), by have := (hq y).isLt; have := (laneQ y).isLt; omega⟩ : Fin 2304)) := by
    pointwise [val_main_v99, val_main_v94, val_main_v93, val_main_v7, val_main_v3, val_main_v2]
    rfl
  rw [e]
  refine (Fin.sum_fin_congr fun c => ?_).trans (coe_sum Finset.univ _).symm
  rw [dscore_at hD, k_at hD, ← EReal.coe_mul, ← qh_hq, kv_qh]

theorem dk_at (r : Fin 4224) (y : Fin 256) : (val_main_v98 (F := Ideal) x0 x1 x2 x3 (ix2 r y) : EReal) = (D.dk (hK y) r (laneK y) : EReal) := by
  have e : (val_main_v98 (F := Ideal) x0 x1 x2 x3 (ix2 r y) : EReal) = ∑ c : Fin 4224, ∑ e : Fin 8, (val_main_v92 (F := Ideal) x0 x1 x2 x3 (ix4 (hK y) r c e) : EReal)
      * x0 (ix2 c (⟨(hK y).val * 512 + e.val * 64 + (laneK y).val, by have := (hK y).isLt; have := (laneK y).isLt; omega⟩ : Fin 2304)) := by
    pointwise [val_main_v98, val_main_v96, val_main_v95, val_main_v6, val_main_v1, val_main_v0]
    rfl
  rw [e]
  unfold Data.dk
  rw [Finset.sum_comm (f := fun (e : Fin 8) (c : Fin 4224) => D.dscore (qh (hK y) e) c r * D.q (qh (hK y) e) c (laneK y)), coe_sum]
  refine Fin.sum_fin_congr fun c => ?_
  rw [coe_sum]
  refine Fin.sum_fin_congr fun e => ?_
  rw [dscore_at hD, q_at hD, ← EReal.coe_mul]

theorem dv_at (r : Fin 4224) (y : Fin 256) : (val_main_v97 (F := Ideal) x0 x2 x3 (ix2 r y) : EReal) = (D.dv (hK y) r (laneK y) : EReal) := by
  have e : (val_main_v97 (F := Ideal) x0 x2 x3 (ix2 r y) : EReal) = ∑ e : Fin 8, ∑ c : Fin 4224,
      (x3 (ix2 c (⟨(hK y).val * 512 + e.val * 64 + (laneK y).val, by have := (hK y).isLt; have := (laneK y).isLt; omega⟩ : Fin 2048)) : EReal)
      * val_main_v62 (F := Ideal) x0 x2 (ix4 (hK y) e c r) := by
    pointwise [val_main_v97, val_main_v71, val_main_v70, val_main_v68, val_main_v67, val_main_v66]
    rfl
  rw [e]
  unfold Data.dv
  rw [coe_sum]
  refine Fin.sum_fin_congr fun e => ?_
  rw [coe_sum]
  refine Fin.sum_fin_congr fun c => ?_
  rw [(rows hD (hK y) e c).1, g_at hD, ← EReal.coe_mul, mul_comm]

theorem ds_at (n : Fin 32) : (val_main_v90 (F := Ideal) x0 x1 x2 x3 (ix2 0 n) : EReal) = (D.ds n : EReal) := by
  have e : (val_main_v90 (F := Ideal) x0 x1 x2 x3 (ix2 0 n) : EReal) = ∑ _ : Fin 1, ∑ _ : Fin 1, ∑ r : Fin 4224, ∑ _ : Fin 1,
      (val_main_v84 (F := Ideal) x0 x1 x2 x3 (ix4 (kv n) (⟨n.val % 8, by omega⟩ : Fin 8) r sink) : EReal) := by
    pointwise [val_main_v90, val_main_v89, val_main_v88, val_main_v87, val_main_v86, val_main_cst_14, val_main_cst_15]
    rfl
  have hn : qh (kv n) (⟨n.val % 8, by omega⟩ : Fin 8) = n := Fin.ext (by simp only [qh, kv]; omega)
  rw [e]
  simp only [Fin.sum_univ_one]
  unfold Data.ds
  rw [← Finset.sum_neg_distrib, coe_sum]
  refine Fin.sum_fin_congr fun r => ?_
  rw [(rows hD _ _ r).2.2, hn]

end

end Cert.RefIdeal.Bwd

end
-- ==== Proof.Attention.FrameBits.lean ====
module

public import proofs.«01_k».proof.Proof.Attention.Launch
public import proofs.«01_k».proof.Proof.Gen.Attn
public import proofs.«01_k».proof.Defs

/-! The frame of the attention gradient over machine words, from the run over any values. -/

@[expose] public section

noncomputable section

namespace Cert.AttnIdeal.Bwd

open Cert.AttnIdeal
open Idealize.ShloMosaic Idealize.ShloMosaic.TcCoe Idealize.ShloMosaic.Tactic

/-- Over machine words the named constant is its word. -/
local instance namedBits : Named Bits := ⟨fun _ _ {_} b => Scalar.ofBits _ b⟩

/-- The frame of the program with the named constant, over machine words. -/
def WordFrame : Prop :=
  ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

/-- The kernel over machine words is the same program, the mask's constant at its word. -/
theorem quiescent_eq : Cert.quiescent_Attn = WordFrame := by
  sl_kernel_rfl

/-- The kernel's frame over machine words. -/
theorem frame_bits : Cert.quiescent_Attn := quiescent_eq.mpr fun m ρ _ => frame (F := Bits) m ρ

end Cert.AttnIdeal.Bwd

end
-- ==== Proof.Attention.Claims.lean ====
module

public import proofs.«01_k».proof.Proof.Attention.Pre
public import proofs.«01_k».proof.Proof.Attention.RefReal
public import proofs.«01_k».proof.Proof.Attention.FrameBits
public import proofs.«01_k».proof.Proof.Gen.RefIdeal.Run
public import Idealize.ShloMosaic.Lib.Quiescent

/-! The claims about the attention's gradient: the frames, and that kernel and reference compute the same four gradients. -/

@[expose] public section

set_option maxRecDepth 16384

noncomputable section

namespace Cert.Attention

open Idealize.ShloMosaic Idealize.ShloMosaic.TcCoe Idealize.ShloMosaic.Pointwise Idealize.SL.Sem
open Cert.AttnIdeal.Bwd (arrQ resK resS)

theorem frame_ideal : Cert.quiescent_AttnIdeal := fun m ρ _ => Cert.AttnIdeal.Bwd.frame m ρ
theorem frame_ideal_finite : Cert.quiescent_AttnIdeal_pre_finite := fun m ρ _ => Cert.AttnIdeal.Bwd.frame m ρ
theorem frame_ref : Cert.quiescent_RefIdeal := fun m ρ _ =>
  (θ_run Cert.RefIdeal.defs _ _).mono (fun r h => ⟨fun c => (h c).2.2.2.2, sem_eq_zero_of_no_sems rfl r.2⟩) (Cert.RefIdeal.Value.run m ρ)
theorem frame_ref_finite : Cert.quiescent_RefIdeal_pre_finite := fun m ρ _ =>
  (θ_run Cert.RefIdeal.defs _ _).mono (fun r h => ⟨fun c => (h c).2.2.2.2, sem_eq_zero_of_no_sems rfl r.2⟩) (Cert.RefIdeal.Value.run m ρ)

/-- What the reference's run leaves in its results: the gradients. -/
theorem run_ref {m : (ℓ : Loc Cert.RefIdeal.nD Cert.RefIdeal.τ Cert.RefIdeal.sig) → Buf (Elt Ideal) ℓ} {D : Dev Cert.RefIdeal.nD → Data}
    (hD : ∀ c : Dev Cert.RefIdeal.nD, Numbers (m ((c.tc : Thread Cert.RefIdeal.nD Cert.RefIdeal.τ).loc Cert.RefIdeal.main_arg0)) (m ((c.tc : Thread Cert.RefIdeal.nD Cert.RefIdeal.τ).loc Cert.RefIdeal.main_arg1))
      (m ((c.tc : Thread Cert.RefIdeal.nD Cert.RefIdeal.τ).loc Cert.RefIdeal.main_arg2)) (m ((c.tc : Thread Cert.RefIdeal.nD Cert.RefIdeal.τ).loc Cert.RefIdeal.main_arg3)) (D c)) (c : Dev Cert.RefIdeal.nD) :
    Cert.RefIdeal.Value.res_main_v99 m c = arrQ (D c) ∧ Cert.RefIdeal.Value.res_main_v98 m c = resK (D c).dk
      ∧ Cert.RefIdeal.Value.res_main_v97 m c = resK (D c).dv ∧ Cert.RefIdeal.Value.res_main_v90 m c = resS (D c).ds := by
  refine ⟨(Cert.RefIdeal.Read.val_main_v99_eq m c).trans ?_, (Cert.RefIdeal.Read.val_main_v98_eq m c).trans ?_,
    (Cert.RefIdeal.Read.val_main_v97_eq m c).trans ?_, (Cert.RefIdeal.Read.val_main_v90_eq m c).trans ?_⟩
  · funext i
    exact (congrArg _ (Cert.AttnIdeal.Bwd.ix2_eta i).symm).trans (Cert.RefIdeal.Bwd.dq_at (hD c) (i 0) (i 1))
  · funext i
    exact (congrArg _ (Cert.AttnIdeal.Bwd.ix2_eta i).symm).trans (Cert.RefIdeal.Bwd.dk_at (hD c) (i 0) (i 1))
  · funext i
    exact (congrArg _ (Cert.AttnIdeal.Bwd.ix2_eta i).symm).trans (Cert.RefIdeal.Bwd.dv_at (hD c) (i 0) (i 1))
  · funext i
    have e : (ix2 0 (i 1) : Cert.RefIdeal.S1x32.Idx) = i :=
      (congrArg (fun z : Fin 1 => (ix2 z (i 1) : Cert.RefIdeal.S1x32.Idx)) (Subsingleton.elim (0 : Fin 1) (i 0))).trans (Cert.AttnIdeal.Bwd.ix2_eta i)
    exact (congrArg _ e.symm).trans (Cert.RefIdeal.Bwd.ds_at (hD c) (i 1))

/-- The attention's gradient: the kernel and the reference compute the same four arrays. -/
theorem equal : Cert.algebraic_AttnIdeal_RefIdeal_pre_finite := fun m g m' g' hp h => by
  obtain ⟨D, hD⟩ : ∃ D : Dev Cert.AttnIdeal.nD → Data, ∀ c : Dev Cert.AttnIdeal.nD, Numbers (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (D c) :=
    ⟨fun c => Cert.Pre_finite.data (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)),
      fun c => Cert.Pre_finite.numbers _ _ _ _ (hp c).1 (hp c).2.1 (hp c).2.2.1 (hp c).2.2.2⟩
  have hD' : ∀ c : Dev Cert.RefIdeal.nD, Numbers (m' ((c.tc : Thread Cert.RefIdeal.nD Cert.RefIdeal.τ).loc Cert.RefIdeal.main_arg0)) (m' ((c.tc : Thread Cert.RefIdeal.nD Cert.RefIdeal.τ).loc Cert.RefIdeal.main_arg1)) (m' ((c.tc : Thread Cert.RefIdeal.nD Cert.RefIdeal.τ).loc Cert.RefIdeal.main_arg2)) (m' ((c.tc : Thread Cert.RefIdeal.nD Cert.RefIdeal.τ).loc Cert.RefIdeal.main_arg3)) (D c) := fun c => by
    rw [(h c).1, (h c).2.1, (h c).2.2.1, (h c).2.2.2]
    exact hD c
  refine ⟨fun c => arrQ (D c), fun c => resK (D c).dk, fun c => resK (D c).dv, fun c => resS (D c).ds, ?_, ?_⟩
  rotate_left
  · exact (θ_run Cert.RefIdeal.defs _ _).mono (fun r hr c =>
      ⟨(hr c).1.trans (run_ref hD' c).1, (hr c).2.1.trans (run_ref hD' c).2.1, (hr c).2.2.1.trans (run_ref hD' c).2.2.1,
        (hr c).2.2.2.1.trans (run_ref hD' c).2.2.2, (hr c).2.2.2.2⟩) (Cert.RefIdeal.Value.run m' g')
  · exact (θ_run Cert.AttnIdeal.defs _ _).mono (fun r hr c =>
      ⟨(hr.1 c).1, (hr.1 c).2.1, (hr.1 c).2.2.1, (hr.1 c).2.2.2, hr.2.1 c⟩)
      (θ_run_and (Cert.AttnIdeal.Bwd.run_values hD) (Cert.AttnIdeal.Bwd.frame m g))

end Cert.Attention

end
-- ==== Proof.Adam.Spec.lean ====
module

public import Idealize.ShloMosaic.Lib.Pointwise

/-! One step of AdamW, on one entry. -/

@[expose] public section

set_option maxRecDepth 16384

noncomputable section

namespace Cert.Adam

open Idealize.ShloMosaic Idealize.ShloMosaic.TcCoe Idealize.SL.Sem
open Idealize.ShloMosaic.Pointwise

/-- The gradient's mean, after a step. -/
def mean (m g : EReal) : EReal :=
  Ideal.ofBits .f32 0x3F666666#32 * m + Ideal.ofBits .f32 0x3DCCCCCD#32 * g

/-- The gradient's square mean, after a step. -/
def square (v g : EReal) : EReal :=
  Ideal.ofBits .f32 0x3F7FBE77#32 * v + Ideal.ofBits .f32 0x3A83126F#32 * (g * g)

/-- The weight's change, from the two new means. -/
def change (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32)
      + Ideal.ofBits .f32 0x3C23D70A#32 * w)

end Cert.Adam

end
-- ==== Proof.Adam.AdamIn.lean ====
module

public import proofs.«01_k».proof.Proof.Gen.AdamInIdeal.Value
public import proofs.«01_k».proof.Proof.Gen.AdamInRefIdeal.Read
public import proofs.«01_k».proof.Proof.Adam.Spec
public import Idealize.ShloMosaic.Lib.Pipeline.ValueKit
public import Idealize.ShloMosaic.Lib.Pointwise

/-! AdamW for one weight, whose gradient comes in two halves. -/

@[expose] public section

set_option maxRecDepth 16384

noncomputable section

namespace Cert.AdamInIdeal.Adam

open Cert.AdamInIdeal Cert.AdamInIdeal.Gen Idealize.ShloMosaic Idealize.ShloMosaic.TcCoe Idealize.SL.Sem
open Idealize.ShloMosaic.Pointwise

/-- The gradient, its two halves put together. -/
def grad (g : S2x2048x3712.Idx → EReal) : S4096x3712.Idx → EReal := fun i =>
  g (ix3 ⟨(i 0).val / 2048, by have := (i 0).isLt; change _ < 4096 at this; omega⟩ ⟨(i 0).val % 2048, Nat.mod_lt _ (by omega)⟩ (i 1))

/-- The new mean of the gradient. -/
def newM (g : S2x2048x3712.Idx → EReal) (v : S4096x3712.Idx → EReal) : S4096x3712.Idx → EReal := fun i => Adam.mean (v i) (grad g i)

/-- The new square mean of the gradient. -/
def newV (g : S2x2048x3712.Idx → EReal) (v : S4096x3712.Idx → EReal) : S4096x3712.Idx → EReal := fun i => Adam.square (v i) (grad g i)

/-- The weight's change. -/
def delta (g : S2x2048x3712.Idx → EReal) (w m v : S4096x3712.Idx → EReal) : S4096x3712.Idx → EReal := fun i =>
  Adam.change (w i) (newM g m i) (newV g v i)

/-- A block of the gradient. -/
theorem pay1 (x : Vec Ideal S1x256x128 .f32) (j : S256x128.Idx) :
    k0_pay1 (F := Ideal) x j = x (ix3 0 (j 0) (j 1)) := by
  pointwise [k0_pay1]

/-- A block of the new mean. -/
theorem pay2 (g : Vec Ideal S1x256x128 .f32) (x : Vec Ideal S256x128 .f32) (j : S256x128.Idx) :
    k0_pay2 (F := Ideal) g x j = Adam.mean (x j) (g (ix3 0 (j 0) (j 1))) := by
  simp only [← pay1]
  pointwise [k0_pay2, Adam.mean]

/-- A block of the new square mean. -/
theorem pay3 (g : Vec Ideal S1x256x128 .f32) (x : Vec Ideal S256x128 .f32) (j : S256x128.Idx) :
    k0_pay3 (F := Ideal) g x j = Adam.square (x j) (g (ix3 0 (j 0) (j 1))) := by
  simp only [← pay1]
  pointwise [k0_pay3, Adam.square]

/-- A block of the weight's change. -/
theorem pay4 (g : Vec Ideal S1x256x128 .f32) (x y z : Vec Ideal S256x128 .f32) (j : S256x128.Idx) :
    k0_pay4 (F := Ideal) g x y z j = Adam.change (x j) (Adam.mean (y j) (g (ix3 0 (j 0) (j 1))))
      (Adam.square (z j) (g (ix3 0 (j 0) (j 1)))) := by
  simp only [← pay2, ← pay3]
  pointwise [k0_pay4, Adam.change]

/-- Where each block lies, beside the first result's. -/
theorem idx : ∀ t : Fin cfg0.N, (win0_0.index t 0 * 8 + win0_0.index t 1 = win0_4.index t 0 ∧ win0_0.index t 1 < 8 ∧ win0_0.index t 2 = win0_4.index t 1) ∧ (win0_1.index t 0 = win0_4.index t 0 ∧ win0_1.index t 1 = win0_4.index t 1) ∧ (win0_2.index t 0 = win0_4.index t 0 ∧ win0_2.index t 1 = win0_4.index t 1) ∧ (win0_3.index t 0 = win0_4.index t 0 ∧ win0_3.index t 1 = win0_4.index t 1) ∧ (win0_5.index t 0 = win0_4.index t 0 ∧ win0_5.index t 1 = win0_4.index t 1) ∧ (win0_6.index t 0 = win0_4.index t 0 ∧ win0_6.index t 1 = win0_4.index t 1) ∧ (win0_7.index t 0 = win0_4.index t 0 ∧ win0_7.index t 1 = win0_4.index t 1) :=
  (by decide +kernel : ∀ t : Fin grid0.N, (win0_0.index t 0 * 8 + win0_0.index t 1 = win0_4.index t 0 ∧ win0_0.index t 1 < 8 ∧ win0_0.index t 2 = win0_4.index t 1) ∧ (win0_1.index t 0 = win0_4.index t 0 ∧ win0_1.index t 1 = win0_4.index t 1) ∧ (win0_2.index t 0 = win0_4.index t 0 ∧ win0_2.index t 1 = win0_4.index t 1) ∧ (win0_3.index t 0 = win0_4.index t 0 ∧ win0_3.index t 1 = win0_4.index t 1) ∧ (win0_5.index t 0 = win0_4.index t 0 ∧ win0_5.index t 1 = win0_4.index t 1) ∧ (win0_6.index t 0 = win0_4.index t 0 ∧ win0_6.index t 1 = win0_4.index t 1) ∧ (win0_7.index t 0 = win0_4.index t 0 ∧ win0_7.index t 1 = win0_4.index t 1))

/-- The blocks of argument 1. -/
theorem blk1 (m : (ℓ : Loc nD τ sig) → Buf (Elt Ideal) ℓ) (c : Dev nD) (t : Fin cfg0.N) (y : S256x128.Idx) (e : S4096x3712.Idx)
    (k0 : (e 0).val = win0_4.index t 0 * 256 + (y 0).val) (k1 : (e 1).val = win0_4.index t 1 * 128 + (y 1).val) :
    iblk m c 1 t y = (m ((c : Thread nD τ).loc main_arg1)) e := by
  have h := idx t
  obtain ⟨e0, e1⟩ := h.2.1
  blk_ext [iblk, V, e0, e1, k0, k1]

/-- The blocks of argument 2. -/
theorem blk2 (m : (ℓ : Loc nD τ sig) → Buf (Elt Ideal) ℓ) (c : Dev nD) (t : Fin cfg0.N) (y : S256x128.Idx) (e : S4096x3712.Idx)
    (k0 : (e 0).val = win0_4.index t 0 * 256 + (y 0).val) (k1 : (e 1).val = win0_4.index t 1 * 128 + (y 1).val) :
    iblk m c 2 t y = (m ((c : Thread nD τ).loc main_arg2)) e := by
  have h := idx t
  obtain ⟨e0, e1⟩ := h.2.2.1
  blk_ext [iblk, V, e0, e1, k0, k1]

/-- The blocks of argument 3. -/
theorem blk3 (m : (ℓ : Loc nD τ sig) → Buf (Elt Ideal) ℓ) (c : Dev nD) (t : Fin cfg0.N) (y : S256x128.Idx) (e : S4096x3712.Idx)
    (k0 : (e 0).val = win0_4.index t 0 * 256 + (y 0).val) (k1 : (e 1).val = win0_4.index t 1 * 128 + (y 1).val) :
    iblk m c 3 t y = (m ((c : Thread nD τ).loc main_arg3)) e := by
  have h := idx t
  obtain ⟨e0, e1⟩ := h.2.2.2.1
  blk_ext [iblk, V, e0, e1, k0, k1]

/-- The blocks of the gradient. -/
theorem blk0 (m : (ℓ : Loc nD τ sig) → Buf (Elt Ideal) ℓ) (c : Dev nD) (t : Fin cfg0.N) (y : S256x128.Idx) (e : S4096x3712.Idx)
    (k0 : (e 0).val = win0_4.index t 0 * 256 + (y 0).val) (k1 : (e 1).val = win0_4.index t 1 * 128 + (y 1).val) :
    iblk m c 0 t (ix3 0 (y 0) (y 1)) = grad (m ((c : Thread nD τ).loc main_arg0)) e := by
  have hy0 : (y 0).val < 256 := (y 0).isLt
  have hy1 : (y 1).val < 128 := (y 1).isLt
  obtain ⟨⟨e0, e1, e2⟩, -⟩ := idx t
  have d0 : (e 0).val / 2048 = win0_0.index t 0 := by omega
  have d1 : (e 0).val % 2048 = win0_0.index t 1 * 256 + (y 0).val := by omega
  unfold grad
  blk_ext [iblk, V, e2, d0, d1, k0, k1]

/-- A grid point's block of the gradient. -/
theorem tile4 (m : (ℓ : Loc nD τ sig) → Buf (Elt Ideal) ℓ) (c : Dev nD) (t : Fin cfg0.N) (y : S256x128.Idx) (e : S4096x3712.Idx)
    (k0 : (e 0).val = win0_4.index t 0 * 256 + (y 0).val) (k1 : (e 1).val = win0_4.index t 1 * 128 + (y 1).val) :
    (dats m 0 c).after 4 t y = grad (m ((c : Thread nD τ).loc main_arg0)) e := by
  rw [after0_4]
  frame_out
  refine (pay1 _ y).trans ?_
  rw [blk0 m c t y e k0 k1]

/-- The whole array of the gradient. -/
theorem final4 (m : (ℓ : Loc nD τ sig) → Buf (Elt Ideal) ℓ) (c : Dev nD) : (dats m 0 c).arrAt 4 cfg0.N = grad (m ((c : Thread nD τ).loc main_arg0)) := by
  refine (dats m 0 c).arrAt_eq_of_covers 4 _ (by decide +kernel) fun t hf y => ?_
  blk_simp
  refine tile4 m c t y _ ?_ ?_
  · blk_simp
  · blk_simp

/-- A grid point's block of the weight's change. -/
theorem tile5 (m : (ℓ : Loc nD τ sig) → Buf (Elt Ideal) ℓ) (c : Dev nD) (t : Fin cfg0.N) (y : S256x128.Idx) (e : S4096x3712.Idx)
    (k0 : (e 0).val = win0_4.index t 0 * 256 + (y 0).val) (k1 : (e 1).val = win0_4.index t 1 * 128 + (y 1).val) :
    (dats m 0 c).after 5 t y = delta (m ((c : Thread nD τ).loc main_arg0)) (m ((c : Thread nD τ).loc main_arg1)) (m ((c : Thread nD τ).loc main_arg2)) (m ((c : Thread nD τ).loc main_arg3)) e := by
  rw [after0_5]
  frame_out
  refine (pay4 _ _ _ _ y).trans ?_
  rw [blk0 m c t y e k0 k1, blk1 m c t y e k0 k1, blk2 m c t y e k0 k1, blk3 m c t y e k0 k1]
  rfl

/-- The whole array of the weight's change. -/
theorem final5 (m : (ℓ : Loc nD τ sig) → Buf (Elt Ideal) ℓ) (c : Dev nD) : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have h := idx t
  obtain ⟨g0, g1⟩ := h.2.2.2.2.1
  blk_simp
  refine tile5 m c t y _ ?_ ?_
  · blk_simp [g0]
  · blk_simp [g1]

/-- A grid point's block of the new mean. -/
theorem tile6 (m : (ℓ : Loc nD τ sig) → Buf (Elt Ideal) ℓ) (c : Dev nD) (t : Fin cfg0.N) (y : S256x128.Idx) (e : S4096x3712.Idx)
    (k0 : (e 0).val = win0_4.index t 0 * 256 + (y 0).val) (k1 : (e 1).val = win0_4.index t 1 * 128 + (y 1).val) :
    (dats m 0 c).after 6 t y = newM (m ((c : Thread nD τ).loc main_arg0)) (m ((c : Thread nD τ).loc main_arg2)) e := by
  rw [after0_6]
  frame_out
  refine (pay2 _ _ y).trans ?_
  rw [blk0 m c t y e k0 k1, blk2 m c t y e k0 k1]
  rfl

/-- The whole array of the new mean. -/
theorem final6 (m : (ℓ : Loc nD τ sig) → Buf (Elt Ideal) ℓ) (c : Dev nD) : (dats m 0 c).arrAt 6 cfg0.N = newM (m ((c : Thread nD τ).loc main_arg0)) (m ((c : Thread nD τ).loc main_arg2)) := by
  refine (dats m 0 c).arrAt_eq_of_covers 6 _ (by decide +kernel) fun t hf y => ?_
  have h := idx t
  obtain ⟨g0, g1⟩ := h.2.2.2.2.2.1
  blk_simp
  refine tile6 m c t y _ ?_ ?_
  · blk_simp [g0]
  · blk_simp [g1]

/-- A grid point's block of the new square mean. -/
theorem tile7 (m : (ℓ : Loc nD τ sig) → Buf (Elt Ideal) ℓ) (c : Dev nD) (t : Fin cfg0.N) (y : S256x128.Idx) (e : S4096x3712.Idx)
    (k0 : (e 0).val = win0_4.index t 0 * 256 + (y 0).val) (k1 : (e 1).val = win0_4.index t 1 * 128 + (y 1).val) :
    (dats m 0 c).after 7 t y = newV (m ((c : Thread nD τ).loc main_arg0)) (m ((c : Thread nD τ).loc main_arg3)) e := by
  rw [after0_7]
  frame_out
  refine (pay3 _ _ y).trans ?_
  rw [blk0 m c t y e k0 k1, blk3 m c t y e k0 k1]
  rfl

/-- The whole array of the new square mean. -/
theorem final7 (m : (ℓ : Loc nD τ sig) → Buf (Elt Ideal) ℓ) (c : Dev nD) : (dats m 0 c).arrAt 7 cfg0.N = newV (m ((c : Thread nD τ).loc main_arg0)) (m ((c : Thread nD τ).loc main_arg3)) := by
  refine (dats m 0 c).arrAt_eq_of_covers 7 _ (by decide +kernel) fun t hf y => ?_
  have h := idx t
  obtain ⟨g0, g1⟩ := h.2.2.2.2.2.2
  blk_simp
  refine tile7 m c t y _ ?_ ?_
  · blk_simp [g0]
  · blk_simp [g1]

/-- The reference's gradient. -/
theorem refG (x0 : FVec Ideal Cert.AdamInRefIdeal.S2x2048x3712 .f32) : Cert.AdamInRefIdeal.Read.val_main_v4 (F := Ideal) x0 = grad x0 := by
  funext i
  have hi : (i 0).val < 4096 := (i 0).isLt
  pointwise [grad, Cert.AdamInRefIdeal.Read.val_main_v0, Cert.AdamInRefIdeal.Read.val_main_v1, Cert.AdamInRefIdeal.Read.val_main_v2, Cert.AdamInRefIdeal.Read.val_main_v3, Cert.AdamInRefIdeal.Read.val_main_v4]
  by_cases h : (i 0).val < 2048
  · have e : (i 0).val / 2048 = 0 := Nat.div_eq_of_lt h
    have e' : (i 0).val % 2048 = (i 0).val := Nat.mod_eq_of_lt h
    rw [dif_pos h]
    simp only [e, e']
    first | done | rfl
  · have e : (i 0).val / 2048 = 1 := by omega
    have e' : (i 0).val % 2048 = (i 0).val - 2048 := by omega
    rw [dif_neg h]
    simp only [e, e']
    first | done | rfl

/-- The reference's new mean. -/
theorem refM (x0 : FVec Ideal Cert.AdamInRefIdeal.S2x2048x3712 .f32) (x2 : FVec Ideal Cert.AdamInRefIdeal.S4096x3712 .f32) : Cert.AdamInRefIdeal.Read.val_main_v9 (F := Ideal) x0 x2 = newM x0 x2 := by
  funext i
  unfold newM
  rw [← refG]
  pointwise [Adam.mean, Cert.AdamInRefIdeal.Read.val_main_cst, Cert.AdamInRefIdeal.Read.val_main_v5, Cert.AdamInRefIdeal.Read.val_main_v6, Cert.AdamInRefIdeal.Read.val_main_cst_0, Cert.AdamInRefIdeal.Read.val_main_v7, Cert.AdamInRefIdeal.Read.val_main_v8, Cert.AdamInRefIdeal.Read.val_main_v9, Cert.AdamInRefIdeal.Read.val_main_cst_1, Cert.AdamInRefIdeal.Read.val_main_cst_2, Cert.AdamInRefIdeal.Read.val_main_cst_3, Cert.AdamInRefIdeal.Read.val_main_cst_4, Cert.AdamInRefIdeal.Read.val_main_cst_5, Cert.AdamInRefIdeal.Read.val_main_cst_6, Cert.AdamInRefIdeal.Read.val_main_cst_7]

/-- The reference's new square mean. -/
theorem refV (x0 : FVec Ideal Cert.AdamInRefIdeal.S2x2048x3712 .f32) (x3 : FVec Ideal Cert.AdamInRefIdeal.S4096x3712 .f32) : Cert.AdamInRefIdeal.Read.val_main_v15 (F := Ideal) x0 x3 = newV x0 x3 := by
  funext i
  unfold newV
  rw [← refG]
  pointwise [Adam.square, Cert.AdamInRefIdeal.Read.val_main_cst, Cert.AdamInRefIdeal.Read.val_main_v5, Cert.AdamInRefIdeal.Read.val_main_v6, Cert.AdamInRefIdeal.Read.val_main_cst_0, Cert.AdamInRefIdeal.Read.val_main_v7, Cert.AdamInRefIdeal.Read.val_main_v8, Cert.AdamInRefIdeal.Read.val_main_v9, Cert.AdamInRefIdeal.Read.val_main_cst_1, Cert.AdamInRefIdeal.Read.val_main_v10, Cert.AdamInRefIdeal.Read.val_main_v11, Cert.AdamInRefIdeal.Read.val_main_v12, Cert.AdamInRefIdeal.Read.val_main_cst_2, Cert.AdamInRefIdeal.Read.val_main_v13, Cert.AdamInRefIdeal.Read.val_main_v14, Cert.AdamInRefIdeal.Read.val_main_v15, Cert.AdamInRefIdeal.Read.val_main_cst_3, Cert.AdamInRefIdeal.Read.val_main_cst_4, Cert.AdamInRefIdeal.Read.val_main_cst_5, Cert.AdamInRefIdeal.Read.val_main_cst_6, Cert.AdamInRefIdeal.Read.val_main_cst_7]

/-- The reference's change of the weight. -/
theorem refD (x0 : FVec Ideal Cert.AdamInRefIdeal.S2x2048x3712 .f32) (x1 x2 x3 : FVec Ideal Cert.AdamInRefIdeal.S4096x3712 .f32) : Cert.AdamInRefIdeal.Read.val_main_v28 (F := Ideal) x0 x1 x2 x3 = delta x0 x1 x2 x3 := by
  funext i
  unfold delta
  rw [← refM x0 x2, ← refV x0 x3]
  pointwise [Adam.change, Cert.AdamInRefIdeal.Read.val_main_cst, Cert.AdamInRefIdeal.Read.val_main_cst_0, Cert.AdamInRefIdeal.Read.val_main_cst_1, Cert.AdamInRefIdeal.Read.val_main_cst_2, Cert.AdamInRefIdeal.Read.val_main_cst_3, Cert.AdamInRefIdeal.Read.val_main_v16, Cert.AdamInRefIdeal.Read.val_main_v17, Cert.AdamInRefIdeal.Read.val_main_cst_4, Cert.AdamInRefIdeal.Read.val_main_v18, Cert.AdamInRefIdeal.Read.val_main_v19, Cert.AdamInRefIdeal.Read.val_main_v20, Cert.AdamInRefIdeal.Read.val_main_cst_5, Cert.AdamInRefIdeal.Read.val_main_v21, Cert.AdamInRefIdeal.Read.val_main_v22, Cert.AdamInRefIdeal.Read.val_main_v23, Cert.AdamInRefIdeal.Read.val_main_cst_6, Cert.AdamInRefIdeal.Read.val_main_v24, Cert.AdamInRefIdeal.Read.val_main_v25, Cert.AdamInRefIdeal.Read.val_main_v26, Cert.AdamInRefIdeal.Read.val_main_cst_7, Cert.AdamInRefIdeal.Read.val_main_v27, Cert.AdamInRefIdeal.Read.val_main_v28]

end Cert.AdamInIdeal.Adam

end
-- ==== Proof.Adam.AdamO.lean ====
module

public import proofs.«01_k».proof.Proof.Gen.AdamOIdeal.Value
public import proofs.«01_k».proof.Proof.Gen.AdamORefIdeal.Read
public import proofs.«01_k».proof.Proof.Adam.Spec
public import Idealize.ShloMosaic.Lib.Pipeline.ValueKit
public import Idealize.ShloMosaic.Lib.Pointwise

/-! AdamW for one weight, whose gradient comes in two halves. -/

@[expose] public section

set_option maxRecDepth 16384

noncomputable section

namespace Cert.AdamOIdeal.Adam

open Cert.AdamOIdeal Cert.AdamOIdeal.Gen Idealize.ShloMosaic Idealize.ShloMosaic.TcCoe Idealize.SL.Sem
open Idealize.ShloMosaic.Pointwise

/-- The gradient, its two halves put together. -/
def grad (g : S2x1024x1024.Idx → EReal) : S2048x1024.Idx → EReal := fun i =>
  g (ix3 ⟨(i 0).val / 1024, by have := (i 0).isLt; change _ < 2048 at this; omega⟩ ⟨(i 0).val % 1024, Nat.mod_lt _ (by omega)⟩ (i 1))

/-- The new mean of the gradient. -/
def newM (g : S2x1024x1024.Idx → EReal) (v : S2048x1024.Idx → EReal) : S2048x1024.Idx → EReal := fun i => Adam.mean (v i) (grad g i)

/-- The new square mean of the gradient. -/
def newV (g : S2x1024x1024.Idx → EReal) (v : S2048x1024.Idx → EReal) : S2048x1024.Idx → EReal := fun i => Adam.square (v i) (grad g i)

/-- The weight's change. -/
def delta (g : S2x1024x1024.Idx → EReal) (w m v : S2048x1024.Idx → EReal) : S2048x1024.Idx → EReal := fun i =>
  Adam.change (w i) (newM g m i) (newV g v i)

/-- A block of the gradient. -/
theorem pay1 (x : Vec Ideal S1x256x1024 .f32) (j : S256x1024.Idx) :
    k0_pay1 (F := Ideal) x j = x (ix3 0 (j 0) (j 1)) := by
  pointwise [k0_pay1]

/-- A block of the new mean. -/
theorem pay2 (g : Vec Ideal S1x256x1024 .f32) (x : Vec Ideal S256x1024 .f32) (j : S256x1024.Idx) :
    k0_pay2 (F := Ideal) g x j = Adam.mean (x j) (g (ix3 0 (j 0) (j 1))) := by
  simp only [← pay1]
  pointwise [k0_pay2, Adam.mean]

/-- A block of the new square mean. -/
theorem pay3 (g : Vec Ideal S1x256x1024 .f32) (x : Vec Ideal S256x1024 .f32) (j : S256x1024.Idx) :
    k0_pay3 (F := Ideal) g x j = Adam.square (x j) (g (ix3 0 (j 0) (j 1))) := by
  simp only [← pay1]
  pointwise [k0_pay3, Adam.square]

/-- A block of the weight's change. -/
theorem pay4 (g : Vec Ideal S1x256x1024 .f32) (x y z : Vec Ideal S256x1024 .f32) (j : S256x1024.Idx) :
    k0_pay4 (F := Ideal) g x y z j = Adam.change (x j) (Adam.mean (y j) (g (ix3 0 (j 0) (j 1))))
      (Adam.square (z j) (g (ix3 0 (j 0) (j 1)))) := by
  simp only [← pay2, ← pay3]
  pointwise [k0_pay4, Adam.change]

/-- Where each block lies, beside the first result's. -/
theorem idx : ∀ t : Fin cfg0.N, (win0_0.index t 0 * 4 + win0_0.index t 1 = win0_4.index t 0 ∧ win0_0.index t 1 < 4 ∧ win0_0.index t 2 = win0_4.index t 1) ∧ (win0_1.index t 0 = win0_4.index t 0 ∧ win0_1.index t 1 = win0_4.index t 1) ∧ (win0_2.index t 0 = win0_4.index t 0 ∧ win0_2.index t 1 = win0_4.index t 1) ∧ (win0_3.index t 0 = win0_4.index t 0 ∧ win0_3.index t 1 = win0_4.index t 1) ∧ (win0_5.index t 0 = win0_4.index t 0 ∧ win0_5.index t 1 = win0_4.index t 1) ∧ (win0_6.index t 0 = win0_4.index t 0 ∧ win0_6.index t 1 = win0_4.index t 1) ∧ (win0_7.index t 0 = win0_4.index t 0 ∧ win0_7.index t 1 = win0_4.index t 1) :=
  (by decide +kernel : ∀ t : Fin grid0.N, (win0_0.index t 0 * 4 + win0_0.index t 1 = win0_4.index t 0 ∧ win0_0.index t 1 < 4 ∧ win0_0.index t 2 = win0_4.index t 1) ∧ (win0_1.index t 0 = win0_4.index t 0 ∧ win0_1.index t 1 = win0_4.index t 1) ∧ (win0_2.index t 0 = win0_4.index t 0 ∧ win0_2.index t 1 = win0_4.index t 1) ∧ (win0_3.index t 0 = win0_4.index t 0 ∧ win0_3.index t 1 = win0_4.index t 1) ∧ (win0_5.index t 0 = win0_4.index t 0 ∧ win0_5.index t 1 = win0_4.index t 1) ∧ (win0_6.index t 0 = win0_4.index t 0 ∧ win0_6.index t 1 = win0_4.index t 1) ∧ (win0_7.index t 0 = win0_4.index t 0 ∧ win0_7.index t 1 = win0_4.index t 1))

/-- The blocks of argument 1. -/
theorem blk1 (m : (ℓ : Loc nD τ sig) → Buf (Elt Ideal) ℓ) (c : Dev nD) (t : Fin cfg0.N) (y : S256x1024.Idx) (e : S2048x1024.Idx)
    (k0 : (e 0).val = win0_4.index t 0 * 256 + (y 0).val) (k1 : (e 1).val = win0_4.index t 1 * 1024 + (y 1).val) :
    iblk m c 1 t y = (m ((c : Thread nD τ).loc main_arg1)) e := by
  have h := idx t
  obtain ⟨e0, e1⟩ := h.2.1
  blk_ext [iblk, V, e0, e1, k0, k1]

/-- The blocks of argument 2. -/
theorem blk2 (m : (ℓ : Loc nD τ sig) → Buf (Elt Ideal) ℓ) (c : Dev nD) (t : Fin cfg0.N) (y : S256x1024.Idx) (e : S2048x1024.Idx)
    (k0 : (e 0).val = win0_4.index t 0 * 256 + (y 0).val) (k1 : (e 1).val = win0_4.index t 1 * 1024 + (y 1).val) :
    iblk m c 2 t y = (m ((c : Thread nD τ).loc main_arg2)) e := by
  have h := idx t
  obtain ⟨e0, e1⟩ := h.2.2.1
  blk_ext [iblk, V, e0, e1, k0, k1]

/-- The blocks of argument 3. -/
theorem blk3 (m : (ℓ : Loc nD τ sig) → Buf (Elt Ideal) ℓ) (c : Dev nD) (t : Fin cfg0.N) (y : S256x1024.Idx) (e : S2048x1024.Idx)
    (k0 : (e 0).val = win0_4.index t 0 * 256 + (y 0).val) (k1 : (e 1).val = win0_4.index t 1 * 1024 + (y 1).val) :
    iblk m c 3 t y = (m ((c : Thread nD τ).loc main_arg3)) e := by
  have h := idx t
  obtain ⟨e0, e1⟩ := h.2.2.2.1
  blk_ext [iblk, V, e0, e1, k0, k1]

/-- The blocks of the gradient. -/
theorem blk0 (m : (ℓ : Loc nD τ sig) → Buf (Elt Ideal) ℓ) (c : Dev nD) (t : Fin cfg0.N) (y : S256x1024.Idx) (e : S2048x1024.Idx)
    (k0 : (e 0).val = win0_4.index t 0 * 256 + (y 0).val) (k1 : (e 1).val = win0_4.index t 1 * 1024 + (y 1).val) :
    iblk m c 0 t (ix3 0 (y 0) (y 1)) = grad (m ((c : Thread nD τ).loc main_arg0)) e := by
  have hy0 : (y 0).val < 256 := (y 0).isLt
  have hy1 : (y 1).val < 1024 := (y 1).isLt
  obtain ⟨⟨e0, e1, e2⟩, -⟩ := idx t
  have d0 : (e 0).val / 1024 = win0_0.index t 0 := by omega
  have d1 : (e 0).val % 1024 = win0_0.index t 1 * 256 + (y 0).val := by omega
  unfold grad
  blk_ext [iblk, V, e2, d0, d1, k0, k1]

/-- A grid point's block of the gradient. -/
theorem tile4 (m : (ℓ : Loc nD τ sig) → Buf (Elt Ideal) ℓ) (c : Dev nD) (t : Fin cfg0.N) (y : S256x1024.Idx) (e : S2048x1024.Idx)
    (k0 : (e 0).val = win0_4.index t 0 * 256 + (y 0).val) (k1 : (e 1).val = win0_4.index t 1 * 1024 + (y 1).val) :
    (dats m 0 c).after 4 t y = grad (m ((c : Thread nD τ).loc main_arg0)) e := by
  rw [after0_4]
  frame_out
  refine (pay1 _ y).trans ?_
  rw [blk0 m c t y e k0 k1]

/-- The whole array of the gradient. -/
theorem final4 (m : (ℓ : Loc nD τ sig) → Buf (Elt Ideal) ℓ) (c : Dev nD) : (dats m 0 c).arrAt 4 cfg0.N = grad (m ((c : Thread nD τ).loc main_arg0)) := by
  refine (dats m 0 c).arrAt_eq_of_covers 4 _ (by decide +kernel) fun t hf y => ?_
  blk_simp
  refine tile4 m c t y _ ?_ ?_
  · blk_simp
  · blk_simp

/-- A grid point's block of the weight's change. -/
theorem tile5 (m : (ℓ : Loc nD τ sig) → Buf (Elt Ideal) ℓ) (c : Dev nD) (t : Fin cfg0.N) (y : S256x1024.Idx) (e : S2048x1024.Idx)
    (k0 : (e 0).val = win0_4.index t 0 * 256 + (y 0).val) (k1 : (e 1).val = win0_4.index t 1 * 1024 + (y 1).val) :
    (dats m 0 c).after 5 t y = delta (m ((c : Thread nD τ).loc main_arg0)) (m ((c : Thread nD τ).loc main_arg1)) (m ((c : Thread nD τ).loc main_arg2)) (m ((c : Thread nD τ).loc main_arg3)) e := by
  rw [after0_5]
  frame_out
  refine (pay4 _ _ _ _ y).trans ?_
  rw [blk0 m c t y e k0 k1, blk1 m c t y e k0 k1, blk2 m c t y e k0 k1, blk3 m c t y e k0 k1]
  rfl

/-- The whole array of the weight's change. -/
theorem final5 (m : (ℓ : Loc nD τ sig) → Buf (Elt Ideal) ℓ) (c : Dev nD) : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have h := idx t
  obtain ⟨g0, g1⟩ := h.2.2.2.2.1
  blk_simp
  refine tile5 m c t y _ ?_ ?_
  · blk_simp [g0]
  · blk_simp [g1]

/-- A grid point's block of the new mean. -/
theorem tile6 (m : (ℓ : Loc nD τ sig) → Buf (Elt Ideal) ℓ) (c : Dev nD) (t : Fin cfg0.N) (y : S256x1024.Idx) (e : S2048x1024.Idx)
    (k0 : (e 0).val = win0_4.index t 0 * 256 + (y 0).val) (k1 : (e 1).val = win0_4.index t 1 * 1024 + (y 1).val) :
    (dats m 0 c).after 6 t y = newM (m ((c : Thread nD τ).loc main_arg0)) (m ((c : Thread nD τ).loc main_arg2)) e := by
  rw [after0_6]
  frame_out
  refine (pay2 _ _ y).trans ?_
  rw [blk0 m c t y e k0 k1, blk2 m c t y e k0 k1]
  rfl

/-- The whole array of the new mean. -/
theorem final6 (m : (ℓ : Loc nD τ sig) → Buf (Elt Ideal) ℓ) (c : Dev nD) : (dats m 0 c).arrAt 6 cfg0.N = newM (m ((c : Thread nD τ).loc main_arg0)) (m ((c : Thread nD τ).loc main_arg2)) := by
  refine (dats m 0 c).arrAt_eq_of_covers 6 _ (by decide +kernel) fun t hf y => ?_
  have h := idx t
  obtain ⟨g0, g1⟩ := h.2.2.2.2.2.1
  blk_simp
  refine tile6 m c t y _ ?_ ?_
  · blk_simp [g0]
  · blk_simp [g1]

/-- A grid point's block of the new square mean. -/
theorem tile7 (m : (ℓ : Loc nD τ sig) → Buf (Elt Ideal) ℓ) (c : Dev nD) (t : Fin cfg0.N) (y : S256x1024.Idx) (e : S2048x1024.Idx)
    (k0 : (e 0).val = win0_4.index t 0 * 256 + (y 0).val) (k1 : (e 1).val = win0_4.index t 1 * 1024 + (y 1).val) :
    (dats m 0 c).after 7 t y = newV (m ((c : Thread nD τ).loc main_arg0)) (m ((c : Thread nD τ).loc main_arg3)) e := by
  rw [after0_7]
  frame_out
  refine (pay3 _ _ y).trans ?_
  rw [blk0 m c t y e k0 k1, blk3 m c t y e k0 k1]
  rfl

/-- The whole array of the new square mean. -/
theorem final7 (m : (ℓ : Loc nD τ sig) → Buf (Elt Ideal) ℓ) (c : Dev nD) : (dats m 0 c).arrAt 7 cfg0.N = newV (m ((c : Thread nD τ).loc main_arg0)) (m ((c : Thread nD τ).loc main_arg3)) := by
  refine (dats m 0 c).arrAt_eq_of_covers 7 _ (by decide +kernel) fun t hf y => ?_
  have h := idx t
  obtain ⟨g0, g1⟩ := h.2.2.2.2.2.2
  blk_simp
  refine tile7 m c t y _ ?_ ?_
  · blk_simp [g0]
  · blk_simp [g1]

/-- The reference's gradient. -/
theorem refG (x0 : FVec Ideal Cert.AdamORefIdeal.S2x1024x1024 .f32) : Cert.AdamORefIdeal.Read.val_main_v4 (F := Ideal) x0 = grad x0 := by
  funext i
  have hi : (i 0).val < 2048 := (i 0).isLt
  pointwise [grad, Cert.AdamORefIdeal.Read.val_main_v0, Cert.AdamORefIdeal.Read.val_main_v1, Cert.AdamORefIdeal.Read.val_main_v2, Cert.AdamORefIdeal.Read.val_main_v3, Cert.AdamORefIdeal.Read.val_main_v4]
  by_cases h : (i 0).val < 1024
  · have e : (i 0).val / 1024 = 0 := Nat.div_eq_of_lt h
    have e' : (i 0).val % 1024 = (i 0).val := Nat.mod_eq_of_lt h
    rw [dif_pos h]
    simp only [e, e']
    first | done | rfl
  · have e : (i 0).val / 1024 = 1 := by omega
    have e' : (i 0).val % 1024 = (i 0).val - 1024 := by omega
    rw [dif_neg h]
    simp only [e, e']
    first | done | rfl

/-- The reference's new mean. -/
theorem refM (x0 : FVec Ideal Cert.AdamORefIdeal.S2x1024x1024 .f32) (x2 : FVec Ideal Cert.AdamORefIdeal.S2048x1024 .f32) : Cert.AdamORefIdeal.Read.val_main_v9 (F := Ideal) x0 x2 = newM x0 x2 := by
  funext i
  unfold newM
  rw [← refG]
  pointwise [Adam.mean, Cert.AdamORefIdeal.Read.val_main_cst, Cert.AdamORefIdeal.Read.val_main_v5, Cert.AdamORefIdeal.Read.val_main_v6, Cert.AdamORefIdeal.Read.val_main_cst_0, Cert.AdamORefIdeal.Read.val_main_v7, Cert.AdamORefIdeal.Read.val_main_v8, Cert.AdamORefIdeal.Read.val_main_v9, Cert.AdamORefIdeal.Read.val_main_cst_1, Cert.AdamORefIdeal.Read.val_main_cst_2, Cert.AdamORefIdeal.Read.val_main_cst_3, Cert.AdamORefIdeal.Read.val_main_cst_4, Cert.AdamORefIdeal.Read.val_main_cst_5, Cert.AdamORefIdeal.Read.val_main_cst_6, Cert.AdamORefIdeal.Read.val_main_cst_7]

/-- The reference's new square mean. -/
theorem refV (x0 : FVec Ideal Cert.AdamORefIdeal.S2x1024x1024 .f32) (x3 : FVec Ideal Cert.AdamORefIdeal.S2048x1024 .f32) : Cert.AdamORefIdeal.Read.val_main_v15 (F := Ideal) x0 x3 = newV x0 x3 := by
  funext i
  unfold newV
  rw [← refG]
  pointwise [Adam.square, Cert.AdamORefIdeal.Read.val_main_cst, Cert.AdamORefIdeal.Read.val_main_v5, Cert.AdamORefIdeal.Read.val_main_v6, Cert.AdamORefIdeal.Read.val_main_cst_0, Cert.AdamORefIdeal.Read.val_main_v7, Cert.AdamORefIdeal.Read.val_main_v8, Cert.AdamORefIdeal.Read.val_main_v9, Cert.AdamORefIdeal.Read.val_main_cst_1, Cert.AdamORefIdeal.Read.val_main_v10, Cert.AdamORefIdeal.Read.val_main_v11, Cert.AdamORefIdeal.Read.val_main_v12, Cert.AdamORefIdeal.Read.val_main_cst_2, Cert.AdamORefIdeal.Read.val_main_v13, Cert.AdamORefIdeal.Read.val_main_v14, Cert.AdamORefIdeal.Read.val_main_v15, Cert.AdamORefIdeal.Read.val_main_cst_3, Cert.AdamORefIdeal.Read.val_main_cst_4, Cert.AdamORefIdeal.Read.val_main_cst_5, Cert.AdamORefIdeal.Read.val_main_cst_6, Cert.AdamORefIdeal.Read.val_main_cst_7]

/-- The reference's change of the weight. -/
theorem refD (x0 : FVec Ideal Cert.AdamORefIdeal.S2x1024x1024 .f32) (x1 x2 x3 : FVec Ideal Cert.AdamORefIdeal.S2048x1024 .f32) : Cert.AdamORefIdeal.Read.val_main_v28 (F := Ideal) x0 x1 x2 x3 = delta x0 x1 x2 x3 := by
  funext i
  unfold delta
  rw [← refM x0 x2, ← refV x0 x3]
  pointwise [Adam.change, Cert.AdamORefIdeal.Read.val_main_cst, Cert.AdamORefIdeal.Read.val_main_cst_0, Cert.AdamORefIdeal.Read.val_main_cst_1, Cert.AdamORefIdeal.Read.val_main_cst_2, Cert.AdamORefIdeal.Read.val_main_cst_3, Cert.AdamORefIdeal.Read.val_main_v16, Cert.AdamORefIdeal.Read.val_main_v17, Cert.AdamORefIdeal.Read.val_main_cst_4, Cert.AdamORefIdeal.Read.val_main_v18, Cert.AdamORefIdeal.Read.val_main_v19, Cert.AdamORefIdeal.Read.val_main_v20, Cert.AdamORefIdeal.Read.val_main_cst_5, Cert.AdamORefIdeal.Read.val_main_v21, Cert.AdamORefIdeal.Read.val_main_v22, Cert.AdamORefIdeal.Read.val_main_v23, Cert.AdamORefIdeal.Read.val_main_cst_6, Cert.AdamORefIdeal.Read.val_main_v24, Cert.AdamORefIdeal.Read.val_main_v25, Cert.AdamORefIdeal.Read.val_main_v26, Cert.AdamORefIdeal.Read.val_main_cst_7, Cert.AdamORefIdeal.Read.val_main_v27, Cert.AdamORefIdeal.Read.val_main_v28]

end Cert.AdamOIdeal.Adam

end
-- ==== Proof.Adam.AdamOut.lean ====
module

public import proofs.«01_k».proof.Proof.Gen.AdamOutIdeal.Value
public import proofs.«01_k».proof.Proof.Gen.AdamOutRefIdeal.Read
public import proofs.«01_k».proof.Proof.Adam.Spec
public import Idealize.ShloMosaic.Lib.Pipeline.ValueKit
public import Idealize.ShloMosaic.Lib.Pointwise

/-! AdamW for one weight, whose gradient comes in two halves. -/

@[expose] public section

set_option maxRecDepth 16384

noncomputable section

namespace Cert.AdamOutIdeal.Adam

open Cert.AdamOutIdeal Cert.AdamOutIdeal.Gen Idealize.ShloMosaic Idealize.ShloMosaic.TcCoe Idealize.SL.Sem
open Idealize.ShloMosaic.Pointwise

/-- The gradient, its two halves put together. -/
def grad (g : S2x1024x2048.Idx → EReal) : S1024x4096.Idx → EReal := fun i =>
  g (ix3 ⟨(i 1).val / 2048, by have := (i 1).isLt; change _ < 4096 at this; omega⟩ (i 0) ⟨(i 1).val % 2048, Nat.mod_lt _ (by omega)⟩)

/-- The new mean of the gradient. -/
def newM (g : S2x1024x2048.Idx → EReal) (v : S1024x4096.Idx → EReal) : S1024x4096.Idx → EReal := fun i => Adam.mean (v i) (grad g i)

/-- The new square mean of the gradient. -/
def newV (g : S2x1024x2048.Idx → EReal) (v : S1024x4096.Idx → EReal) : S1024x4096.Idx → EReal := fun i => Adam.square (v i) (grad g i)

/-- The weight's change. -/
def delta (g : S2x1024x2048.Idx → EReal) (w m v : S1024x4096.Idx → EReal) : S1024x4096.Idx → EReal := fun i =>
  Adam.change (w i) (newM g m i) (newV g v i)

/-- A block of the gradient. -/
theorem pay1 (x : Vec Ideal S1x256x1024 .f32) (j : S256x1024.Idx) :
    k0_pay1 (F := Ideal) x j = x (ix3 0 (j 0) (j 1)) := by
  pointwise [k0_pay1]

/-- A block of the new mean. -/
theorem pay2 (g : Vec Ideal S1x256x1024 .f32) (x : Vec Ideal S256x1024 .f32) (j : S256x1024.Idx) :
    k0_pay2 (F := Ideal) g x j = Adam.mean (x j) (g (ix3 0 (j 0) (j 1))) := by
  simp only [← pay1]
  pointwise [k0_pay2, Adam.mean]

/-- A block of the new square mean. -/
theorem pay3 (g : Vec Ideal S1x256x1024 .f32) (x : Vec Ideal S256x1024 .f32) (j : S256x1024.Idx) :
    k0_pay3 (F := Ideal) g x j = Adam.square (x j) (g (ix3 0 (j 0) (j 1))) := by
  simp only [← pay1]
  pointwise [k0_pay3, Adam.square]

/-- A block of the weight's change. -/
theorem pay4 (g : Vec Ideal S1x256x1024 .f32) (x y z : Vec Ideal S256x1024 .f32) (j : S256x1024.Idx) :
    k0_pay4 (F := Ideal) g x y z j = Adam.change (x j) (Adam.mean (y j) (g (ix3 0 (j 0) (j 1))))
      (Adam.square (z j) (g (ix3 0 (j 0) (j 1)))) := by
  simp only [← pay2, ← pay3]
  pointwise [k0_pay4, Adam.change]

/-- Where each block lies, beside the first result's. -/
theorem idx : ∀ t : Fin cfg0.N, (win0_0.index t 0 * 2 + win0_0.index t 2 = win0_4.index t 1 ∧ win0_0.index t 2 < 2 ∧ win0_0.index t 1 = win0_4.index t 0) ∧ (win0_1.index t 0 = win0_4.index t 0 ∧ win0_1.index t 1 = win0_4.index t 1) ∧ (win0_2.index t 0 = win0_4.index t 0 ∧ win0_2.index t 1 = win0_4.index t 1) ∧ (win0_3.index t 0 = win0_4.index t 0 ∧ win0_3.index t 1 = win0_4.index t 1) ∧ (win0_5.index t 0 = win0_4.index t 0 ∧ win0_5.index t 1 = win0_4.index t 1) ∧ (win0_6.index t 0 = win0_4.index t 0 ∧ win0_6.index t 1 = win0_4.index t 1) ∧ (win0_7.index t 0 = win0_4.index t 0 ∧ win0_7.index t 1 = win0_4.index t 1) :=
  (by decide +kernel : ∀ t : Fin grid0.N, (win0_0.index t 0 * 2 + win0_0.index t 2 = win0_4.index t 1 ∧ win0_0.index t 2 < 2 ∧ win0_0.index t 1 = win0_4.index t 0) ∧ (win0_1.index t 0 = win0_4.index t 0 ∧ win0_1.index t 1 = win0_4.index t 1) ∧ (win0_2.index t 0 = win0_4.index t 0 ∧ win0_2.index t 1 = win0_4.index t 1) ∧ (win0_3.index t 0 = win0_4.index t 0 ∧ win0_3.index t 1 = win0_4.index t 1) ∧ (win0_5.index t 0 = win0_4.index t 0 ∧ win0_5.index t 1 = win0_4.index t 1) ∧ (win0_6.index t 0 = win0_4.index t 0 ∧ win0_6.index t 1 = win0_4.index t 1) ∧ (win0_7.index t 0 = win0_4.index t 0 ∧ win0_7.index t 1 = win0_4.index t 1))

/-- The blocks of argument 1. -/
theorem blk1 (m : (ℓ : Loc nD τ sig) → Buf (Elt Ideal) ℓ) (c : Dev nD) (t : Fin cfg0.N) (y : S256x1024.Idx) (e : S1024x4096.Idx)
    (k0 : (e 0).val = win0_4.index t 0 * 256 + (y 0).val) (k1 : (e 1).val = win0_4.index t 1 * 1024 + (y 1).val) :
    iblk m c 1 t y = (m ((c : Thread nD τ).loc main_arg1)) e := by
  have h := idx t
  obtain ⟨e0, e1⟩ := h.2.1
  blk_ext [iblk, V, e0, e1, k0, k1]

/-- The blocks of argument 2. -/
theorem blk2 (m : (ℓ : Loc nD τ sig) → Buf (Elt Ideal) ℓ) (c : Dev nD) (t : Fin cfg0.N) (y : S256x1024.Idx) (e : S1024x4096.Idx)
    (k0 : (e 0).val = win0_4.index t 0 * 256 + (y 0).val) (k1 : (e 1).val = win0_4.index t 1 * 1024 + (y 1).val) :
    iblk m c 2 t y = (m ((c : Thread nD τ).loc main_arg2)) e := by
  have h := idx t
  obtain ⟨e0, e1⟩ := h.2.2.1
  blk_ext [iblk, V, e0, e1, k0, k1]

/-- The blocks of argument 3. -/
theorem blk3 (m : (ℓ : Loc nD τ sig) → Buf (Elt Ideal) ℓ) (c : Dev nD) (t : Fin cfg0.N) (y : S256x1024.Idx) (e : S1024x4096.Idx)
    (k0 : (e 0).val = win0_4.index t 0 * 256 + (y 0).val) (k1 : (e 1).val = win0_4.index t 1 * 1024 + (y 1).val) :
    iblk m c 3 t y = (m ((c : Thread nD τ).loc main_arg3)) e := by
  have h := idx t
  obtain ⟨e0, e1⟩ := h.2.2.2.1
  blk_ext [iblk, V, e0, e1, k0, k1]

/-- The blocks of the gradient. -/
theorem blk0 (m : (ℓ : Loc nD τ sig) → Buf (Elt Ideal) ℓ) (c : Dev nD) (t : Fin cfg0.N) (y : S256x1024.Idx) (e : S1024x4096.Idx)
    (k0 : (e 0).val = win0_4.index t 0 * 256 + (y 0).val) (k1 : (e 1).val = win0_4.index t 1 * 1024 + (y 1).val) :
    iblk m c 0 t (ix3 0 (y 0) (y 1)) = grad (m ((c : Thread nD τ).loc main_arg0)) e := by
  have hy0 : (y 0).val < 256 := (y 0).isLt
  have hy1 : (y 1).val < 1024 := (y 1).isLt
  obtain ⟨⟨e0, e1, e2⟩, -⟩ := idx t
  have d0 : (e 1).val / 2048 = win0_0.index t 0 := by omega
  have d1 : (e 1).val % 2048 = win0_0.index t 2 * 1024 + (y 1).val := by omega
  unfold grad
  blk_ext [iblk, V, e2, d0, d1, k0, k1]

/-- A grid point's block of the gradient. -/
theorem tile4 (m : (ℓ : Loc nD τ sig) → Buf (Elt Ideal) ℓ) (c : Dev nD) (t : Fin cfg0.N) (y : S256x1024.Idx) (e : S1024x4096.Idx)
    (k0 : (e 0).val = win0_4.index t 0 * 256 + (y 0).val) (k1 : (e 1).val = win0_4.index t 1 * 1024 + (y 1).val) :
    (dats m 0 c).after 4 t y = grad (m ((c : Thread nD τ).loc main_arg0)) e := by
  rw [after0_4]
  frame_out
  refine (pay1 _ y).trans ?_
  rw [blk0 m c t y e k0 k1]

/-- The whole array of the gradient. -/
theorem final4 (m : (ℓ : Loc nD τ sig) → Buf (Elt Ideal) ℓ) (c : Dev nD) : (dats m 0 c).arrAt 4 cfg0.N = grad (m ((c : Thread nD τ).loc main_arg0)) := by
  refine (dats m 0 c).arrAt_eq_of_covers 4 _ (by decide +kernel) fun t hf y => ?_
  blk_simp
  refine tile4 m c t y _ ?_ ?_
  · blk_simp
  · blk_simp

/-- A grid point's block of the weight's change. -/
theorem tile5 (m : (ℓ : Loc nD τ sig) → Buf (Elt Ideal) ℓ) (c : Dev nD) (t : Fin cfg0.N) (y : S256x1024.Idx) (e : S1024x4096.Idx)
    (k0 : (e 0).val = win0_4.index t 0 * 256 + (y 0).val) (k1 : (e 1).val = win0_4.index t 1 * 1024 + (y 1).val) :
    (dats m 0 c).after 5 t y = delta (m ((c : Thread nD τ).loc main_arg0)) (m ((c : Thread nD τ).loc main_arg1)) (m ((c : Thread nD τ).loc main_arg2)) (m ((c : Thread nD τ).loc main_arg3)) e := by
  rw [after0_5]
  frame_out
  refine (pay4 _ _ _ _ y).trans ?_
  rw [blk0 m c t y e k0 k1, blk1 m c t y e k0 k1, blk2 m c t y e k0 k1, blk3 m c t y e k0 k1]
  rfl

/-- The whole array of the weight's change. -/
theorem final5 (m : (ℓ : Loc nD τ sig) → Buf (Elt Ideal) ℓ) (c : Dev nD) : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have h := idx t
  obtain ⟨g0, g1⟩ := h.2.2.2.2.1
  blk_simp
  refine tile5 m c t y _ ?_ ?_
  · blk_simp [g0]
  · blk_simp [g1]

/-- A grid point's block of the new mean. -/
theorem tile6 (m : (ℓ : Loc nD τ sig) → Buf (Elt Ideal) ℓ) (c : Dev nD) (t : Fin cfg0.N) (y : S256x1024.Idx) (e : S1024x4096.Idx)
    (k0 : (e 0).val = win0_4.index t 0 * 256 + (y 0).val) (k1 : (e 1).val = win0_4.index t 1 * 1024 + (y 1).val) :
    (dats m 0 c).after 6 t y = newM (m ((c : Thread nD τ).loc main_arg0)) (m ((c : Thread nD τ).loc main_arg2)) e := by
  rw [after0_6]
  frame_out
  refine (pay2 _ _ y).trans ?_
  rw [blk0 m c t y e k0 k1, blk2 m c t y e k0 k1]
  rfl

/-- The whole array of the new mean. -/
theorem final6 (m : (ℓ : Loc nD τ sig) → Buf (Elt Ideal) ℓ) (c : Dev nD) : (dats m 0 c).arrAt 6 cfg0.N = newM (m ((c : Thread nD τ).loc main_arg0)) (m ((c : Thread nD τ).loc main_arg2)) := by
  refine (dats m 0 c).arrAt_eq_of_covers 6 _ (by decide +kernel) fun t hf y => ?_
  have h := idx t
  obtain ⟨g0, g1⟩ := h.2.2.2.2.2.1
  blk_simp
  refine tile6 m c t y _ ?_ ?_
  · blk_simp [g0]
  · blk_simp [g1]

/-- A grid point's block of the new square mean. -/
theorem tile7 (m : (ℓ : Loc nD τ sig) → Buf (Elt Ideal) ℓ) (c : Dev nD) (t : Fin cfg0.N) (y : S256x1024.Idx) (e : S1024x4096.Idx)
    (k0 : (e 0).val = win0_4.index t 0 * 256 + (y 0).val) (k1 : (e 1).val = win0_4.index t 1 * 1024 + (y 1).val) :
    (dats m 0 c).after 7 t y = newV (m ((c : Thread nD τ).loc main_arg0)) (m ((c : Thread nD τ).loc main_arg3)) e := by
  rw [after0_7]
  frame_out
  refine (pay3 _ _ y).trans ?_
  rw [blk0 m c t y e k0 k1, blk3 m c t y e k0 k1]
  rfl

/-- The whole array of the new square mean. -/
theorem final7 (m : (ℓ : Loc nD τ sig) → Buf (Elt Ideal) ℓ) (c : Dev nD) : (dats m 0 c).arrAt 7 cfg0.N = newV (m ((c : Thread nD τ).loc main_arg0)) (m ((c : Thread nD τ).loc main_arg3)) := by
  refine (dats m 0 c).arrAt_eq_of_covers 7 _ (by decide +kernel) fun t hf y => ?_
  have h := idx t
  obtain ⟨g0, g1⟩ := h.2.2.2.2.2.2
  blk_simp
  refine tile7 m c t y _ ?_ ?_
  · blk_simp [g0]
  · blk_simp [g1]

/-- The reference's gradient. -/
theorem refG (x0 : FVec Ideal Cert.AdamOutRefIdeal.S2x1024x2048 .f32) : Cert.AdamOutRefIdeal.Read.val_main_v4 (F := Ideal) x0 = grad x0 := by
  funext i
  have hi : (i 1).val < 4096 := (i 1).isLt
  pointwise [grad, Cert.AdamOutRefIdeal.Read.val_main_v0, Cert.AdamOutRefIdeal.Read.val_main_v1, Cert.AdamOutRefIdeal.Read.val_main_v2, Cert.AdamOutRefIdeal.Read.val_main_v3, Cert.AdamOutRefIdeal.Read.val_main_v4]
  by_cases h : (i 1).val < 2048
  · have e : (i 1).val / 2048 = 0 := Nat.div_eq_of_lt h
    have e' : (i 1).val % 2048 = (i 1).val := Nat.mod_eq_of_lt h
    rw [dif_pos h]
    simp only [e, e']
    first | done | rfl
  · have e : (i 1).val / 2048 = 1 := by omega
    have e' : (i 1).val % 2048 = (i 1).val - 2048 := by omega
    rw [dif_neg h]
    simp only [e, e']
    first | done | rfl

/-- The reference's new mean. -/
theorem refM (x0 : FVec Ideal Cert.AdamOutRefIdeal.S2x1024x2048 .f32) (x2 : FVec Ideal Cert.AdamOutRefIdeal.S1024x4096 .f32) : Cert.AdamOutRefIdeal.Read.val_main_v9 (F := Ideal) x0 x2 = newM x0 x2 := by
  funext i
  unfold newM
  rw [← refG]
  pointwise [Adam.mean, Cert.AdamOutRefIdeal.Read.val_main_cst, Cert.AdamOutRefIdeal.Read.val_main_v5, Cert.AdamOutRefIdeal.Read.val_main_v6, Cert.AdamOutRefIdeal.Read.val_main_cst_0, Cert.AdamOutRefIdeal.Read.val_main_v7, Cert.AdamOutRefIdeal.Read.val_main_v8, Cert.AdamOutRefIdeal.Read.val_main_v9, Cert.AdamOutRefIdeal.Read.val_main_cst_1, Cert.AdamOutRefIdeal.Read.val_main_cst_2, Cert.AdamOutRefIdeal.Read.val_main_cst_3, Cert.AdamOutRefIdeal.Read.val_main_cst_4, Cert.AdamOutRefIdeal.Read.val_main_cst_5, Cert.AdamOutRefIdeal.Read.val_main_cst_6, Cert.AdamOutRefIdeal.Read.val_main_cst_7]

/-- The reference's new square mean. -/
theorem refV (x0 : FVec Ideal Cert.AdamOutRefIdeal.S2x1024x2048 .f32) (x3 : FVec Ideal Cert.AdamOutRefIdeal.S1024x4096 .f32) : Cert.AdamOutRefIdeal.Read.val_main_v15 (F := Ideal) x0 x3 = newV x0 x3 := by
  funext i
  unfold newV
  rw [← refG]
  pointwise [Adam.square, Cert.AdamOutRefIdeal.Read.val_main_cst, Cert.AdamOutRefIdeal.Read.val_main_v5, Cert.AdamOutRefIdeal.Read.val_main_v6, Cert.AdamOutRefIdeal.Read.val_main_cst_0, Cert.AdamOutRefIdeal.Read.val_main_v7, Cert.AdamOutRefIdeal.Read.val_main_v8, Cert.AdamOutRefIdeal.Read.val_main_v9, Cert.AdamOutRefIdeal.Read.val_main_cst_1, Cert.AdamOutRefIdeal.Read.val_main_v10, Cert.AdamOutRefIdeal.Read.val_main_v11, Cert.AdamOutRefIdeal.Read.val_main_v12, Cert.AdamOutRefIdeal.Read.val_main_cst_2, Cert.AdamOutRefIdeal.Read.val_main_v13, Cert.AdamOutRefIdeal.Read.val_main_v14, Cert.AdamOutRefIdeal.Read.val_main_v15, Cert.AdamOutRefIdeal.Read.val_main_cst_3, Cert.AdamOutRefIdeal.Read.val_main_cst_4, Cert.AdamOutRefIdeal.Read.val_main_cst_5, Cert.AdamOutRefIdeal.Read.val_main_cst_6, Cert.AdamOutRefIdeal.Read.val_main_cst_7]

/-- The reference's change of the weight. -/
theorem refD (x0 : FVec Ideal Cert.AdamOutRefIdeal.S2x1024x2048 .f32) (x1 x2 x3 : FVec Ideal Cert.AdamOutRefIdeal.S1024x4096 .f32) : Cert.AdamOutRefIdeal.Read.val_main_v28 (F := Ideal) x0 x1 x2 x3 = delta x0 x1 x2 x3 := by
  funext i
  unfold delta
  rw [← refM x0 x2, ← refV x0 x3]
  pointwise [Adam.change, Cert.AdamOutRefIdeal.Read.val_main_cst, Cert.AdamOutRefIdeal.Read.val_main_cst_0, Cert.AdamOutRefIdeal.Read.val_main_cst_1, Cert.AdamOutRefIdeal.Read.val_main_cst_2, Cert.AdamOutRefIdeal.Read.val_main_cst_3, Cert.AdamOutRefIdeal.Read.val_main_v16, Cert.AdamOutRefIdeal.Read.val_main_v17, Cert.AdamOutRefIdeal.Read.val_main_cst_4, Cert.AdamOutRefIdeal.Read.val_main_v18, Cert.AdamOutRefIdeal.Read.val_main_v19, Cert.AdamOutRefIdeal.Read.val_main_v20, Cert.AdamOutRefIdeal.Read.val_main_cst_5, Cert.AdamOutRefIdeal.Read.val_main_v21, Cert.AdamOutRefIdeal.Read.val_main_v22, Cert.AdamOutRefIdeal.Read.val_main_v23, Cert.AdamOutRefIdeal.Read.val_main_cst_6, Cert.AdamOutRefIdeal.Read.val_main_v24, Cert.AdamOutRefIdeal.Read.val_main_v25, Cert.AdamOutRefIdeal.Read.val_main_v26, Cert.AdamOutRefIdeal.Read.val_main_cst_7, Cert.AdamOutRefIdeal.Read.val_main_v27, Cert.AdamOutRefIdeal.Read.val_main_v28]

end Cert.AdamOutIdeal.Adam

end
-- ==== Proof.Adam.AdamGU.lean ====
module

public import proofs.«01_k».proof.Proof.Gen.AdamGUIdeal.Value
public import proofs.«01_k».proof.Proof.Gen.AdamGURefIdeal.Read
public import proofs.«01_k».proof.Proof.Adam.Spec
public import Idealize.ShloMosaic.Lib.Pipeline.ValueKit
public import Idealize.ShloMosaic.Lib.Pointwise

/-! AdamW for one weight, whose gradient comes in two halves. -/

@[expose] public section

set_option maxRecDepth 16384

noncomputable section

namespace Cert.AdamGUIdeal.Adam

open Cert.AdamGUIdeal Cert.AdamGUIdeal.Gen Idealize.ShloMosaic Idealize.ShloMosaic.TcCoe Idealize.SL.Sem
open Idealize.ShloMosaic.Pointwise

/-- The gradient, its two halves put together. -/
def grad (g : S2x2048x5504.Idx → EReal) : S4096x5504.Idx → EReal := fun i =>
  g (ix3 ⟨(i 0).val / 2048, by have := (i 0).isLt; change _ < 4096 at this; omega⟩ ⟨(i 0).val % 2048, Nat.mod_lt _ (by omega)⟩ (i 1))

/-- The new mean of the gradient. -/
def newM (g : S2x2048x5504.Idx → EReal) (v : S4096x5504.Idx → EReal) : S4096x5504.Idx → EReal := fun i => Adam.mean (v i) (grad g i)

/-- The new square mean of the gradient. -/
def newV (g : S2x2048x5504.Idx → EReal) (v : S4096x5504.Idx → EReal) : S4096x5504.Idx → EReal := fun i => Adam.square (v i) (grad g i)

/-- The weight's change. -/
def delta (g : S2x2048x5504.Idx → EReal) (w m v : S4096x5504.Idx → EReal) : S4096x5504.Idx → EReal := fun i =>
  Adam.change (w i) (newM g m i) (newV g v i)

/-- A block of the gradient. -/
theorem pay1 (x : Vec Ideal S1x256x128 .f32) (j : S256x128.Idx) :
    k0_pay1 (F := Ideal) x j = x (ix3 0 (j 0) (j 1)) := by
  pointwise [k0_pay1]

/-- A block of the new mean. -/
theorem pay2 (g : Vec Ideal S1x256x128 .f32) (x : Vec Ideal S256x128 .f32) (j : S256x128.Idx) :
    k0_pay2 (F := Ideal) g x j = Adam.mean (x j) (g (ix3 0 (j 0) (j 1))) := by
  simp only [← pay1]
  pointwise [k0_pay2, Adam.mean]

/-- A block of the new square mean. -/
theorem pay3 (g : Vec Ideal S1x256x128 .f32) (x : Vec Ideal S256x128 .f32) (j : S256x128.Idx) :
    k0_pay3 (F := Ideal) g x j = Adam.square (x j) (g (ix3 0 (j 0) (j 1))) := by
  simp only [← pay1]
  pointwise [k0_pay3, Adam.square]

/-- A block of the weight's change. -/
theorem pay4 (g : Vec Ideal S1x256x128 .f32) (x y z : Vec Ideal S256x128 .f32) (j : S256x128.Idx) :
    k0_pay4 (F := Ideal) g x y z j = Adam.change (x j) (Adam.mean (y j) (g (ix3 0 (j 0) (j 1))))
      (Adam.square (z j) (g (ix3 0 (j 0) (j 1)))) := by
  simp only [← pay2, ← pay3]
  pointwise [k0_pay4, Adam.change]

/-- Where each block lies, beside the first result's. -/
theorem idx : ∀ t : Fin cfg0.N, (win0_0.index t 0 * 8 + win0_0.index t 1 = win0_4.index t 0 ∧ win0_0.index t 1 < 8 ∧ win0_0.index t 2 = win0_4.index t 1) ∧ (win0_1.index t 0 = win0_4.index t 0 ∧ win0_1.index t 1 = win0_4.index t 1) ∧ (win0_2.index t 0 = win0_4.index t 0 ∧ win0_2.index t 1 = win0_4.index t 1) ∧ (win0_3.index t 0 = win0_4.index t 0 ∧ win0_3.index t 1 = win0_4.index t 1) ∧ (win0_5.index t 0 = win0_4.index t 0 ∧ win0_5.index t 1 = win0_4.index t 1) ∧ (win0_6.index t 0 = win0_4.index t 0 ∧ win0_6.index t 1 = win0_4.index t 1) ∧ (win0_7.index t 0 = win0_4.index t 0 ∧ win0_7.index t 1 = win0_4.index t 1) :=
  (by decide +kernel : ∀ t : Fin grid0.N, (win0_0.index t 0 * 8 + win0_0.index t 1 = win0_4.index t 0 ∧ win0_0.index t 1 < 8 ∧ win0_0.index t 2 = win0_4.index t 1) ∧ (win0_1.index t 0 = win0_4.index t 0 ∧ win0_1.index t 1 = win0_4.index t 1) ∧ (win0_2.index t 0 = win0_4.index t 0 ∧ win0_2.index t 1 = win0_4.index t 1) ∧ (win0_3.index t 0 = win0_4.index t 0 ∧ win0_3.index t 1 = win0_4.index t 1) ∧ (win0_5.index t 0 = win0_4.index t 0 ∧ win0_5.index t 1 = win0_4.index t 1) ∧ (win0_6.index t 0 = win0_4.index t 0 ∧ win0_6.index t 1 = win0_4.index t 1) ∧ (win0_7.index t 0 = win0_4.index t 0 ∧ win0_7.index t 1 = win0_4.index t 1))

/-- The blocks of argument 1. -/
theorem blk1 (m : (ℓ : Loc nD τ sig) → Buf (Elt Ideal) ℓ) (c : Dev nD) (t : Fin cfg0.N) (y : S256x128.Idx) (e : S4096x5504.Idx)
    (k0 : (e 0).val = win0_4.index t 0 * 256 + (y 0).val) (k1 : (e 1).val = win0_4.index t 1 * 128 + (y 1).val) :
    iblk m c 1 t y = (m ((c : Thread nD τ).loc main_arg1)) e := by
  have h := idx t
  obtain ⟨e0, e1⟩ := h.2.1
  blk_ext [iblk, V, e0, e1, k0, k1]

/-- The blocks of argument 2. -/
theorem blk2 (m : (ℓ : Loc nD τ sig) → Buf (Elt Ideal) ℓ) (c : Dev nD) (t : Fin cfg0.N) (y : S256x128.Idx) (e : S4096x5504.Idx)
    (k0 : (e 0).val = win0_4.index t 0 * 256 + (y 0).val) (k1 : (e 1).val = win0_4.index t 1 * 128 + (y 1).val) :
    iblk m c 2 t y = (m ((c : Thread nD τ).loc main_arg2)) e := by
  have h := idx t
  obtain ⟨e0, e1⟩ := h.2.2.1
  blk_ext [iblk, V, e0, e1, k0, k1]

/-- The blocks of argument 3. -/
theorem blk3 (m : (ℓ : Loc nD τ sig) → Buf (Elt Ideal) ℓ) (c : Dev nD) (t : Fin cfg0.N) (y : S256x128.Idx) (e : S4096x5504.Idx)
    (k0 : (e 0).val = win0_4.index t 0 * 256 + (y 0).val) (k1 : (e 1).val = win0_4.index t 1 * 128 + (y 1).val) :
    iblk m c 3 t y = (m ((c : Thread nD τ).loc main_arg3)) e := by
  have h := idx t
  obtain ⟨e0, e1⟩ := h.2.2.2.1
  blk_ext [iblk, V, e0, e1, k0, k1]

/-- The blocks of the gradient. -/
theorem blk0 (m : (ℓ : Loc nD τ sig) → Buf (Elt Ideal) ℓ) (c : Dev nD) (t : Fin cfg0.N) (y : S256x128.Idx) (e : S4096x5504.Idx)
    (k0 : (e 0).val = win0_4.index t 0 * 256 + (y 0).val) (k1 : (e 1).val = win0_4.index t 1 * 128 + (y 1).val) :
    iblk m c 0 t (ix3 0 (y 0) (y 1)) = grad (m ((c : Thread nD τ).loc main_arg0)) e := by
  have hy0 : (y 0).val < 256 := (y 0).isLt
  have hy1 : (y 1).val < 128 := (y 1).isLt
  obtain ⟨⟨e0, e1, e2⟩, -⟩ := idx t
  have d0 : (e 0).val / 2048 = win0_0.index t 0 := by omega
  have d1 : (e 0).val % 2048 = win0_0.index t 1 * 256 + (y 0).val := by omega
  unfold grad
  blk_ext [iblk, V, e2, d0, d1, k0, k1]

/-- A grid point's block of the gradient. -/
theorem tile4 (m : (ℓ : Loc nD τ sig) → Buf (Elt Ideal) ℓ) (c : Dev nD) (t : Fin cfg0.N) (y : S256x128.Idx) (e : S4096x5504.Idx)
    (k0 : (e 0).val = win0_4.index t 0 * 256 + (y 0).val) (k1 : (e 1).val = win0_4.index t 1 * 128 + (y 1).val) :
    (dats m 0 c).after 4 t y = grad (m ((c : Thread nD τ).loc main_arg0)) e := by
  rw [after0_4]
  frame_out
  refine (pay1 _ y).trans ?_
  rw [blk0 m c t y e k0 k1]

/-- The whole array of the gradient. -/
theorem final4 (m : (ℓ : Loc nD τ sig) → Buf (Elt Ideal) ℓ) (c : Dev nD) : (dats m 0 c).arrAt 4 cfg0.N = grad (m ((c : Thread nD τ).loc main_arg0)) := by
  refine (dats m 0 c).arrAt_eq_of_covers 4 _ (by decide +kernel) fun t hf y => ?_
  blk_simp
  refine tile4 m c t y _ ?_ ?_
  · blk_simp
  · blk_simp

/-- A grid point's block of the weight's change. -/
theorem tile5 (m : (ℓ : Loc nD τ sig) → Buf (Elt Ideal) ℓ) (c : Dev nD) (t : Fin cfg0.N) (y : S256x128.Idx) (e : S4096x5504.Idx)
    (k0 : (e 0).val = win0_4.index t 0 * 256 + (y 0).val) (k1 : (e 1).val = win0_4.index t 1 * 128 + (y 1).val) :
    (dats m 0 c).after 5 t y = delta (m ((c : Thread nD τ).loc main_arg0)) (m ((c : Thread nD τ).loc main_arg1)) (m ((c : Thread nD τ).loc main_arg2)) (m ((c : Thread nD τ).loc main_arg3)) e := by
  rw [after0_5]
  frame_out
  refine (pay4 _ _ _ _ y).trans ?_
  rw [blk0 m c t y e k0 k1, blk1 m c t y e k0 k1, blk2 m c t y e k0 k1, blk3 m c t y e k0 k1]
  rfl

/-- The whole array of the weight's change. -/
theorem final5 (m : (ℓ : Loc nD τ sig) → Buf (Elt Ideal) ℓ) (c : Dev nD) : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have h := idx t
  obtain ⟨g0, g1⟩ := h.2.2.2.2.1
  blk_simp
  refine tile5 m c t y _ ?_ ?_
  · blk_simp [g0]
  · blk_simp [g1]

/-- A grid point's block of the new mean. -/
theorem tile6 (m : (ℓ : Loc nD τ sig) → Buf (Elt Ideal) ℓ) (c : Dev nD) (t : Fin cfg0.N) (y : S256x128.Idx) (e : S4096x5504.Idx)
    (k0 : (e 0).val = win0_4.index t 0 * 256 + (y 0).val) (k1 : (e 1).val = win0_4.index t 1 * 128 + (y 1).val) :
    (dats m 0 c).after 6 t y = newM (m ((c : Thread nD τ).loc main_arg0)) (m ((c : Thread nD τ).loc main_arg2)) e := by
  rw [after0_6]
  frame_out
  refine (pay2 _ _ y).trans ?_
  rw [blk0 m c t y e k0 k1, blk2 m c t y e k0 k1]
  rfl

/-- The whole array of the new mean. -/
theorem final6 (m : (ℓ : Loc nD τ sig) → Buf (Elt Ideal) ℓ) (c : Dev nD) : (dats m 0 c).arrAt 6 cfg0.N = newM (m ((c : Thread nD τ).loc main_arg0)) (m ((c : Thread nD τ).loc main_arg2)) := by
  refine (dats m 0 c).arrAt_eq_of_covers 6 _ (by decide +kernel) fun t hf y => ?_
  have h := idx t
  obtain ⟨g0, g1⟩ := h.2.2.2.2.2.1
  blk_simp
  refine tile6 m c t y _ ?_ ?_
  · blk_simp [g0]
  · blk_simp [g1]

/-- A grid point's block of the new square mean. -/
theorem tile7 (m : (ℓ : Loc nD τ sig) → Buf (Elt Ideal) ℓ) (c : Dev nD) (t : Fin cfg0.N) (y : S256x128.Idx) (e : S4096x5504.Idx)
    (k0 : (e 0).val = win0_4.index t 0 * 256 + (y 0).val) (k1 : (e 1).val = win0_4.index t 1 * 128 + (y 1).val) :
    (dats m 0 c).after 7 t y = newV (m ((c : Thread nD τ).loc main_arg0)) (m ((c : Thread nD τ).loc main_arg3)) e := by
  rw [after0_7]
  frame_out
  refine (pay3 _ _ y).trans ?_
  rw [blk0 m c t y e k0 k1, blk3 m c t y e k0 k1]
  rfl

/-- The whole array of the new square mean. -/
theorem final7 (m : (ℓ : Loc nD τ sig) → Buf (Elt Ideal) ℓ) (c : Dev nD) : (dats m 0 c).arrAt 7 cfg0.N = newV (m ((c : Thread nD τ).loc main_arg0)) (m ((c : Thread nD τ).loc main_arg3)) := by
  refine (dats m 0 c).arrAt_eq_of_covers 7 _ (by decide +kernel) fun t hf y => ?_
  have h := idx t
  obtain ⟨g0, g1⟩ := h.2.2.2.2.2.2
  blk_simp
  refine tile7 m c t y _ ?_ ?_
  · blk_simp [g0]
  · blk_simp [g1]

/-- The reference's gradient. -/
theorem refG (x0 : FVec Ideal Cert.AdamGURefIdeal.S2x2048x5504 .f32) : Cert.AdamGURefIdeal.Read.val_main_v4 (F := Ideal) x0 = grad x0 := by
  funext i
  have hi : (i 0).val < 4096 := (i 0).isLt
  pointwise [grad, Cert.AdamGURefIdeal.Read.val_main_v0, Cert.AdamGURefIdeal.Read.val_main_v1, Cert.AdamGURefIdeal.Read.val_main_v2, Cert.AdamGURefIdeal.Read.val_main_v3, Cert.AdamGURefIdeal.Read.val_main_v4]
  by_cases h : (i 0).val < 2048
  · have e : (i 0).val / 2048 = 0 := Nat.div_eq_of_lt h
    have e' : (i 0).val % 2048 = (i 0).val := Nat.mod_eq_of_lt h
    rw [dif_pos h]
    simp only [e, e']
    first | done | rfl
  · have e : (i 0).val / 2048 = 1 := by omega
    have e' : (i 0).val % 2048 = (i 0).val - 2048 := by omega
    rw [dif_neg h]
    simp only [e, e']
    first | done | rfl

/-- The reference's new mean. -/
theorem refM (x0 : FVec Ideal Cert.AdamGURefIdeal.S2x2048x5504 .f32) (x2 : FVec Ideal Cert.AdamGURefIdeal.S4096x5504 .f32) : Cert.AdamGURefIdeal.Read.val_main_v9 (F := Ideal) x0 x2 = newM x0 x2 := by
  funext i
  unfold newM
  rw [← refG]
  pointwise [Adam.mean, Cert.AdamGURefIdeal.Read.val_main_cst, Cert.AdamGURefIdeal.Read.val_main_v5, Cert.AdamGURefIdeal.Read.val_main_v6, Cert.AdamGURefIdeal.Read.val_main_cst_0, Cert.AdamGURefIdeal.Read.val_main_v7, Cert.AdamGURefIdeal.Read.val_main_v8, Cert.AdamGURefIdeal.Read.val_main_v9, Cert.AdamGURefIdeal.Read.val_main_cst_1, Cert.AdamGURefIdeal.Read.val_main_cst_2, Cert.AdamGURefIdeal.Read.val_main_cst_3, Cert.AdamGURefIdeal.Read.val_main_cst_4, Cert.AdamGURefIdeal.Read.val_main_cst_5, Cert.AdamGURefIdeal.Read.val_main_cst_6, Cert.AdamGURefIdeal.Read.val_main_cst_7]

/-- The reference's new square mean. -/
theorem refV (x0 : FVec Ideal Cert.AdamGURefIdeal.S2x2048x5504 .f32) (x3 : FVec Ideal Cert.AdamGURefIdeal.S4096x5504 .f32) : Cert.AdamGURefIdeal.Read.val_main_v15 (F := Ideal) x0 x3 = newV x0 x3 := by
  funext i
  unfold newV
  rw [← refG]
  pointwise [Adam.square, Cert.AdamGURefIdeal.Read.val_main_cst, Cert.AdamGURefIdeal.Read.val_main_v5, Cert.AdamGURefIdeal.Read.val_main_v6, Cert.AdamGURefIdeal.Read.val_main_cst_0, Cert.AdamGURefIdeal.Read.val_main_v7, Cert.AdamGURefIdeal.Read.val_main_v8, Cert.AdamGURefIdeal.Read.val_main_v9, Cert.AdamGURefIdeal.Read.val_main_cst_1, Cert.AdamGURefIdeal.Read.val_main_v10, Cert.AdamGURefIdeal.Read.val_main_v11, Cert.AdamGURefIdeal.Read.val_main_v12, Cert.AdamGURefIdeal.Read.val_main_cst_2, Cert.AdamGURefIdeal.Read.val_main_v13, Cert.AdamGURefIdeal.Read.val_main_v14, Cert.AdamGURefIdeal.Read.val_main_v15, Cert.AdamGURefIdeal.Read.val_main_cst_3, Cert.AdamGURefIdeal.Read.val_main_cst_4, Cert.AdamGURefIdeal.Read.val_main_cst_5, Cert.AdamGURefIdeal.Read.val_main_cst_6, Cert.AdamGURefIdeal.Read.val_main_cst_7]

/-- The reference's change of the weight. -/
theorem refD (x0 : FVec Ideal Cert.AdamGURefIdeal.S2x2048x5504 .f32) (x1 x2 x3 : FVec Ideal Cert.AdamGURefIdeal.S4096x5504 .f32) : Cert.AdamGURefIdeal.Read.val_main_v28 (F := Ideal) x0 x1 x2 x3 = delta x0 x1 x2 x3 := by
  funext i
  unfold delta
  rw [← refM x0 x2, ← refV x0 x3]
  pointwise [Adam.change, Cert.AdamGURefIdeal.Read.val_main_cst, Cert.AdamGURefIdeal.Read.val_main_cst_0, Cert.AdamGURefIdeal.Read.val_main_cst_1, Cert.AdamGURefIdeal.Read.val_main_cst_2, Cert.AdamGURefIdeal.Read.val_main_cst_3, Cert.AdamGURefIdeal.Read.val_main_v16, Cert.AdamGURefIdeal.Read.val_main_v17, Cert.AdamGURefIdeal.Read.val_main_cst_4, Cert.AdamGURefIdeal.Read.val_main_v18, Cert.AdamGURefIdeal.Read.val_main_v19, Cert.AdamGURefIdeal.Read.val_main_v20, Cert.AdamGURefIdeal.Read.val_main_cst_5, Cert.AdamGURefIdeal.Read.val_main_v21, Cert.AdamGURefIdeal.Read.val_main_v22, Cert.AdamGURefIdeal.Read.val_main_v23, Cert.AdamGURefIdeal.Read.val_main_cst_6, Cert.AdamGURefIdeal.Read.val_main_v24, Cert.AdamGURefIdeal.Read.val_main_v25, Cert.AdamGURefIdeal.Read.val_main_v26, Cert.AdamGURefIdeal.Read.val_main_cst_7, Cert.AdamGURefIdeal.Read.val_main_v27, Cert.AdamGURefIdeal.Read.val_main_v28]

end Cert.AdamGUIdeal.Adam

end
-- ==== Proof.Adam.AdamDown.lean ====
module

public import proofs.«01_k».proof.Proof.Gen.AdamDownIdeal.Value
public import proofs.«01_k».proof.Proof.Gen.AdamDownRefIdeal.Read
public import proofs.«01_k».proof.Proof.Adam.Spec
public import Idealize.ShloMosaic.Lib.Pipeline.ValueKit
public import Idealize.ShloMosaic.Lib.Pointwise

/-! AdamW for one weight, whose gradient comes in two halves. -/

@[expose] public section

set_option maxRecDepth 16384

noncomputable section

namespace Cert.AdamDownIdeal.Adam

open Cert.AdamDownIdeal Cert.AdamDownIdeal.Gen Idealize.ShloMosaic Idealize.ShloMosaic.TcCoe Idealize.SL.Sem
open Idealize.ShloMosaic.Pointwise

/-- The gradient, its two halves put together. -/
def grad (g : S2x2752x2048.Idx → EReal) : S2752x4096.Idx → EReal := fun i =>
  g (ix3 ⟨(i 1).val / 2048, by have := (i 1).isLt; change _ < 4096 at this; omega⟩ (i 0) ⟨(i 1).val % 2048, Nat.mod_lt _ (by omega)⟩)

/-- The new mean of the gradient. -/
def newM (g : S2x2752x2048.Idx → EReal) (v : S2752x4096.Idx → EReal) : S2752x4096.Idx → EReal := fun i => Adam.mean (v i) (grad g i)

/-- The new square mean of the gradient. -/
def newV (g : S2x2752x2048.Idx → EReal) (v : S2752x4096.Idx → EReal) : S2752x4096.Idx → EReal := fun i => Adam.square (v i) (grad g i)

/-- The weight's change. -/
def delta (g : S2x2752x2048.Idx → EReal) (w m v : S2752x4096.Idx → EReal) : S2752x4096.Idx → EReal := fun i =>
  Adam.change (w i) (newM g m i) (newV g v i)

/-- A block of the gradient. -/
theorem pay1 (x : Vec Ideal S1x64x1024 .f32) (j : S64x1024.Idx) :
    k0_pay1 (F := Ideal) x j = x (ix3 0 (j 0) (j 1)) := by
  pointwise [k0_pay1]

/-- A block of the new mean. -/
theorem pay2 (g : Vec Ideal S1x64x1024 .f32) (x : Vec Ideal S64x1024 .f32) (j : S64x1024.Idx) :
    k0_pay2 (F := Ideal) g x j = Adam.mean (x j) (g (ix3 0 (j 0) (j 1))) := by
  simp only [← pay1]
  pointwise [k0_pay2, Adam.mean]

/-- A block of the new square mean. -/
theorem pay3 (g : Vec Ideal S1x64x1024 .f32) (x : Vec Ideal S64x1024 .f32) (j : S64x1024.Idx) :
    k0_pay3 (F := Ideal) g x j = Adam.square (x j) (g (ix3 0 (j 0) (j 1))) := by
  simp only [← pay1]
  pointwise [k0_pay3, Adam.square]

/-- A block of the weight's change. -/
theorem pay4 (g : Vec Ideal S1x64x1024 .f32) (x y z : Vec Ideal S64x1024 .f32) (j : S64x1024.Idx) :
    k0_pay4 (F := Ideal) g x y z j = Adam.change (x j) (Adam.mean (y j) (g (ix3 0 (j 0) (j 1))))
      (Adam.square (z j) (g (ix3 0 (j 0) (j 1)))) := by
  simp only [← pay2, ← pay3]
  pointwise [k0_pay4, Adam.change]

/-- Where each block lies, beside the first result's. -/
theorem idx : ∀ t : Fin cfg0.N, (win0_0.index t 0 * 2 + win0_0.index t 2 = win0_4.index t 1 ∧ win0_0.index t 2 < 2 ∧ win0_0.index t 1 = win0_4.index t 0) ∧ (win0_1.index t 0 = win0_4.index t 0 ∧ win0_1.index t 1 = win0_4.index t 1) ∧ (win0_2.index t 0 = win0_4.index t 0 ∧ win0_2.index t 1 = win0_4.index t 1) ∧ (win0_3.index t 0 = win0_4.index t 0 ∧ win0_3.index t 1 = win0_4.index t 1) ∧ (win0_5.index t 0 = win0_4.index t 0 ∧ win0_5.index t 1 = win0_4.index t 1) ∧ (win0_6.index t 0 = win0_4.index t 0 ∧ win0_6.index t 1 = win0_4.index t 1) ∧ (win0_7.index t 0 = win0_4.index t 0 ∧ win0_7.index t 1 = win0_4.index t 1) :=
  (by decide +kernel : ∀ t : Fin grid0.N, (win0_0.index t 0 * 2 + win0_0.index t 2 = win0_4.index t 1 ∧ win0_0.index t 2 < 2 ∧ win0_0.index t 1 = win0_4.index t 0) ∧ (win0_1.index t 0 = win0_4.index t 0 ∧ win0_1.index t 1 = win0_4.index t 1) ∧ (win0_2.index t 0 = win0_4.index t 0 ∧ win0_2.index t 1 = win0_4.index t 1) ∧ (win0_3.index t 0 = win0_4.index t 0 ∧ win0_3.index t 1 = win0_4.index t 1) ∧ (win0_5.index t 0 = win0_4.index t 0 ∧ win0_5.index t 1 = win0_4.index t 1) ∧ (win0_6.index t 0 = win0_4.index t 0 ∧ win0_6.index t 1 = win0_4.index t 1) ∧ (win0_7.index t 0 = win0_4.index t 0 ∧ win0_7.index t 1 = win0_4.index t 1))

/-- The blocks of argument 1. -/
theorem blk1 (m : (ℓ : Loc nD τ sig) → Buf (Elt Ideal) ℓ) (c : Dev nD) (t : Fin cfg0.N) (y : S64x1024.Idx) (e : S2752x4096.Idx)
    (k0 : (e 0).val = win0_4.index t 0 * 64 + (y 0).val) (k1 : (e 1).val = win0_4.index t 1 * 1024 + (y 1).val) :
    iblk m c 1 t y = (m ((c : Thread nD τ).loc main_arg1)) e := by
  have h := idx t
  obtain ⟨e0, e1⟩ := h.2.1
  blk_ext [iblk, V, e0, e1, k0, k1]

/-- The blocks of argument 2. -/
theorem blk2 (m : (ℓ : Loc nD τ sig) → Buf (Elt Ideal) ℓ) (c : Dev nD) (t : Fin cfg0.N) (y : S64x1024.Idx) (e : S2752x4096.Idx)
    (k0 : (e 0).val = win0_4.index t 0 * 64 + (y 0).val) (k1 : (e 1).val = win0_4.index t 1 * 1024 + (y 1).val) :
    iblk m c 2 t y = (m ((c : Thread nD τ).loc main_arg2)) e := by
  have h := idx t
  obtain ⟨e0, e1⟩ := h.2.2.1
  blk_ext [iblk, V, e0, e1, k0, k1]

/-- The blocks of argument 3. -/
theorem blk3 (m : (ℓ : Loc nD τ sig) → Buf (Elt Ideal) ℓ) (c : Dev nD) (t : Fin cfg0.N) (y : S64x1024.Idx) (e : S2752x4096.Idx)
    (k0 : (e 0).val = win0_4.index t 0 * 64 + (y 0).val) (k1 : (e 1).val = win0_4.index t 1 * 1024 + (y 1).val) :
    iblk m c 3 t y = (m ((c : Thread nD τ).loc main_arg3)) e := by
  have h := idx t
  obtain ⟨e0, e1⟩ := h.2.2.2.1
  blk_ext [iblk, V, e0, e1, k0, k1]

/-- The blocks of the gradient. -/
theorem blk0 (m : (ℓ : Loc nD τ sig) → Buf (Elt Ideal) ℓ) (c : Dev nD) (t : Fin cfg0.N) (y : S64x1024.Idx) (e : S2752x4096.Idx)
    (k0 : (e 0).val = win0_4.index t 0 * 64 + (y 0).val) (k1 : (e 1).val = win0_4.index t 1 * 1024 + (y 1).val) :
    iblk m c 0 t (ix3 0 (y 0) (y 1)) = grad (m ((c : Thread nD τ).loc main_arg0)) e := by
  have hy0 : (y 0).val < 64 := (y 0).isLt
  have hy1 : (y 1).val < 1024 := (y 1).isLt
  obtain ⟨⟨e0, e1, e2⟩, -⟩ := idx t
  have d0 : (e 1).val / 2048 = win0_0.index t 0 := by omega
  have d1 : (e 1).val % 2048 = win0_0.index t 2 * 1024 + (y 1).val := by omega
  unfold grad
  blk_ext [iblk, V, e2, d0, d1, k0, k1]

/-- A grid point's block of the gradient. -/
theorem tile4 (m : (ℓ : Loc nD τ sig) → Buf (Elt Ideal) ℓ) (c : Dev nD) (t : Fin cfg0.N) (y : S64x1024.Idx) (e : S2752x4096.Idx)
    (k0 : (e 0).val = win0_4.index t 0 * 64 + (y 0).val) (k1 : (e 1).val = win0_4.index t 1 * 1024 + (y 1).val) :
    (dats m 0 c).after 4 t y = grad (m ((c : Thread nD τ).loc main_arg0)) e := by
  rw [after0_4]
  frame_out
  refine (pay1 _ y).trans ?_
  rw [blk0 m c t y e k0 k1]

/-- The whole array of the gradient. -/
theorem final4 (m : (ℓ : Loc nD τ sig) → Buf (Elt Ideal) ℓ) (c : Dev nD) : (dats m 0 c).arrAt 4 cfg0.N = grad (m ((c : Thread nD τ).loc main_arg0)) := by
  refine (dats m 0 c).arrAt_eq_of_covers 4 _ (by decide +kernel) fun t hf y => ?_
  blk_simp
  refine tile4 m c t y _ ?_ ?_
  · blk_simp
  · blk_simp

/-- A grid point's block of the weight's change. -/
theorem tile5 (m : (ℓ : Loc nD τ sig) → Buf (Elt Ideal) ℓ) (c : Dev nD) (t : Fin cfg0.N) (y : S64x1024.Idx) (e : S2752x4096.Idx)
    (k0 : (e 0).val = win0_4.index t 0 * 64 + (y 0).val) (k1 : (e 1).val = win0_4.index t 1 * 1024 + (y 1).val) :
    (dats m 0 c).after 5 t y = delta (m ((c : Thread nD τ).loc main_arg0)) (m ((c : Thread nD τ).loc main_arg1)) (m ((c : Thread nD τ).loc main_arg2)) (m ((c : Thread nD τ).loc main_arg3)) e := by
  rw [after0_5]
  frame_out
  refine (pay4 _ _ _ _ y).trans ?_
  rw [blk0 m c t y e k0 k1, blk1 m c t y e k0 k1, blk2 m c t y e k0 k1, blk3 m c t y e k0 k1]
  rfl

/-- The whole array of the weight's change. -/
theorem final5 (m : (ℓ : Loc nD τ sig) → Buf (Elt Ideal) ℓ) (c : Dev nD) : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have h := idx t
  obtain ⟨g0, g1⟩ := h.2.2.2.2.1
  blk_simp
  refine tile5 m c t y _ ?_ ?_
  · blk_simp [g0]
  · blk_simp [g1]

/-- A grid point's block of the new mean. -/
theorem tile6 (m : (ℓ : Loc nD τ sig) → Buf (Elt Ideal) ℓ) (c : Dev nD) (t : Fin cfg0.N) (y : S64x1024.Idx) (e : S2752x4096.Idx)
    (k0 : (e 0).val = win0_4.index t 0 * 64 + (y 0).val) (k1 : (e 1).val = win0_4.index t 1 * 1024 + (y 1).val) :
    (dats m 0 c).after 6 t y = newM (m ((c : Thread nD τ).loc main_arg0)) (m ((c : Thread nD τ).loc main_arg2)) e := by
  rw [after0_6]
  frame_out
  refine (pay2 _ _ y).trans ?_
  rw [blk0 m c t y e k0 k1, blk2 m c t y e k0 k1]
  rfl

/-- The whole array of the new mean. -/
theorem final6 (m : (ℓ : Loc nD τ sig) → Buf (Elt Ideal) ℓ) (c : Dev nD) : (dats m 0 c).arrAt 6 cfg0.N = newM (m ((c : Thread nD τ).loc main_arg0)) (m ((c : Thread nD τ).loc main_arg2)) := by
  refine (dats m 0 c).arrAt_eq_of_covers 6 _ (by decide +kernel) fun t hf y => ?_
  have h := idx t
  obtain ⟨g0, g1⟩ := h.2.2.2.2.2.1
  blk_simp
  refine tile6 m c t y _ ?_ ?_
  · blk_simp [g0]
  · blk_simp [g1]

/-- A grid point's block of the new square mean. -/
theorem tile7 (m : (ℓ : Loc nD τ sig) → Buf (Elt Ideal) ℓ) (c : Dev nD) (t : Fin cfg0.N) (y : S64x1024.Idx) (e : S2752x4096.Idx)
    (k0 : (e 0).val = win0_4.index t 0 * 64 + (y 0).val) (k1 : (e 1).val = win0_4.index t 1 * 1024 + (y 1).val) :
    (dats m 0 c).after 7 t y = newV (m ((c : Thread nD τ).loc main_arg0)) (m ((c : Thread nD τ).loc main_arg3)) e := by
  rw [after0_7]
  frame_out
  refine (pay3 _ _ y).trans ?_
  rw [blk0 m c t y e k0 k1, blk3 m c t y e k0 k1]
  rfl

/-- The whole array of the new square mean. -/
theorem final7 (m : (ℓ : Loc nD τ sig) → Buf (Elt Ideal) ℓ) (c : Dev nD) : (dats m 0 c).arrAt 7 cfg0.N = newV (m ((c : Thread nD τ).loc main_arg0)) (m ((c : Thread nD τ).loc main_arg3)) := by
  refine (dats m 0 c).arrAt_eq_of_covers 7 _ (by decide +kernel) fun t hf y => ?_
  have h := idx t
  obtain ⟨g0, g1⟩ := h.2.2.2.2.2.2
  blk_simp
  refine tile7 m c t y _ ?_ ?_
  · blk_simp [g0]
  · blk_simp [g1]

/-- The reference's gradient. -/
theorem refG (x0 : FVec Ideal Cert.AdamDownRefIdeal.S2x2752x2048 .f32) : Cert.AdamDownRefIdeal.Read.val_main_v4 (F := Ideal) x0 = grad x0 := by
  funext i
  have hi : (i 1).val < 4096 := (i 1).isLt
  pointwise [grad, Cert.AdamDownRefIdeal.Read.val_main_v0, Cert.AdamDownRefIdeal.Read.val_main_v1, Cert.AdamDownRefIdeal.Read.val_main_v2, Cert.AdamDownRefIdeal.Read.val_main_v3, Cert.AdamDownRefIdeal.Read.val_main_v4]
  by_cases h : (i 1).val < 2048
  · have e : (i 1).val / 2048 = 0 := Nat.div_eq_of_lt h
    have e' : (i 1).val % 2048 = (i 1).val := Nat.mod_eq_of_lt h
    rw [dif_pos h]
    simp only [e, e']
    first | done | rfl
  · have e : (i 1).val / 2048 = 1 := by omega
    have e' : (i 1).val % 2048 = (i 1).val - 2048 := by omega
    rw [dif_neg h]
    simp only [e, e']
    first | done | rfl

/-- The reference's new mean. -/
theorem refM (x0 : FVec Ideal Cert.AdamDownRefIdeal.S2x2752x2048 .f32) (x2 : FVec Ideal Cert.AdamDownRefIdeal.S2752x4096 .f32) : Cert.AdamDownRefIdeal.Read.val_main_v9 (F := Ideal) x0 x2 = newM x0 x2 := by
  funext i
  unfold newM
  rw [← refG]
  pointwise [Adam.mean, Cert.AdamDownRefIdeal.Read.val_main_cst, Cert.AdamDownRefIdeal.Read.val_main_v5, Cert.AdamDownRefIdeal.Read.val_main_v6, Cert.AdamDownRefIdeal.Read.val_main_cst_0, Cert.AdamDownRefIdeal.Read.val_main_v7, Cert.AdamDownRefIdeal.Read.val_main_v8, Cert.AdamDownRefIdeal.Read.val_main_v9, Cert.AdamDownRefIdeal.Read.val_main_cst_1, Cert.AdamDownRefIdeal.Read.val_main_cst_2, Cert.AdamDownRefIdeal.Read.val_main_cst_3, Cert.AdamDownRefIdeal.Read.val_main_cst_4, Cert.AdamDownRefIdeal.Read.val_main_cst_5, Cert.AdamDownRefIdeal.Read.val_main_cst_6, Cert.AdamDownRefIdeal.Read.val_main_cst_7]

/-- The reference's new square mean. -/
theorem refV (x0 : FVec Ideal Cert.AdamDownRefIdeal.S2x2752x2048 .f32) (x3 : FVec Ideal Cert.AdamDownRefIdeal.S2752x4096 .f32) : Cert.AdamDownRefIdeal.Read.val_main_v15 (F := Ideal) x0 x3 = newV x0 x3 := by
  funext i
  unfold newV
  rw [← refG]
  pointwise [Adam.square, Cert.AdamDownRefIdeal.Read.val_main_cst, Cert.AdamDownRefIdeal.Read.val_main_v5, Cert.AdamDownRefIdeal.Read.val_main_v6, Cert.AdamDownRefIdeal.Read.val_main_cst_0, Cert.AdamDownRefIdeal.Read.val_main_v7, Cert.AdamDownRefIdeal.Read.val_main_v8, Cert.AdamDownRefIdeal.Read.val_main_v9, Cert.AdamDownRefIdeal.Read.val_main_cst_1, Cert.AdamDownRefIdeal.Read.val_main_v10, Cert.AdamDownRefIdeal.Read.val_main_v11, Cert.AdamDownRefIdeal.Read.val_main_v12, Cert.AdamDownRefIdeal.Read.val_main_cst_2, Cert.AdamDownRefIdeal.Read.val_main_v13, Cert.AdamDownRefIdeal.Read.val_main_v14, Cert.AdamDownRefIdeal.Read.val_main_v15, Cert.AdamDownRefIdeal.Read.val_main_cst_3, Cert.AdamDownRefIdeal.Read.val_main_cst_4, Cert.AdamDownRefIdeal.Read.val_main_cst_5, Cert.AdamDownRefIdeal.Read.val_main_cst_6, Cert.AdamDownRefIdeal.Read.val_main_cst_7]

/-- The reference's change of the weight. -/
theorem refD (x0 : FVec Ideal Cert.AdamDownRefIdeal.S2x2752x2048 .f32) (x1 x2 x3 : FVec Ideal Cert.AdamDownRefIdeal.S2752x4096 .f32) : Cert.AdamDownRefIdeal.Read.val_main_v28 (F := Ideal) x0 x1 x2 x3 = delta x0 x1 x2 x3 := by
  funext i
  unfold delta
  rw [← refM x0 x2, ← refV x0 x3]
  pointwise [Adam.change, Cert.AdamDownRefIdeal.Read.val_main_cst, Cert.AdamDownRefIdeal.Read.val_main_cst_0, Cert.AdamDownRefIdeal.Read.val_main_cst_1, Cert.AdamDownRefIdeal.Read.val_main_cst_2, Cert.AdamDownRefIdeal.Read.val_main_cst_3, Cert.AdamDownRefIdeal.Read.val_main_v16, Cert.AdamDownRefIdeal.Read.val_main_v17, Cert.AdamDownRefIdeal.Read.val_main_cst_4, Cert.AdamDownRefIdeal.Read.val_main_v18, Cert.AdamDownRefIdeal.Read.val_main_v19, Cert.AdamDownRefIdeal.Read.val_main_v20, Cert.AdamDownRefIdeal.Read.val_main_cst_5, Cert.AdamDownRefIdeal.Read.val_main_v21, Cert.AdamDownRefIdeal.Read.val_main_v22, Cert.AdamDownRefIdeal.Read.val_main_v23, Cert.AdamDownRefIdeal.Read.val_main_cst_6, Cert.AdamDownRefIdeal.Read.val_main_v24, Cert.AdamDownRefIdeal.Read.val_main_v25, Cert.AdamDownRefIdeal.Read.val_main_v26, Cert.AdamDownRefIdeal.Read.val_main_cst_7, Cert.AdamDownRefIdeal.Read.val_main_v27, Cert.AdamDownRefIdeal.Read.val_main_v28]

end Cert.AdamDownIdeal.Adam

end
-- ==== Proof.Adam.AdamSmall.lean ====
module

public import proofs.«01_k».proof.Proof.Gen.AdamSmallIdeal.Value
public import proofs.«01_k».proof.Proof.Gen.AdamSmallRefIdeal.Read
public import proofs.«01_k».proof.Proof.Adam.Spec
public import Idealize.ShloMosaic.Lib.Pipeline.ValueKit
public import Idealize.ShloMosaic.Lib.Pointwise

/-! AdamW for the small weights, laid out in one array. -/

@[expose] public section

set_option maxRecDepth 16384

noncomputable section

namespace Cert.AdamSmallIdeal.Adam

open Cert.AdamSmallIdeal Cert.AdamSmallIdeal.Gen Idealize.ShloMosaic Idealize.ShloMosaic.TcCoe Idealize.SL.Sem
open Idealize.ShloMosaic.Pointwise

/-- The new mean of the gradient. -/
def newM (g v : S552x128.Idx → EReal) : S552x128.Idx → EReal := fun i => Adam.mean (v i) (g i)

/-- The new square mean of the gradient. -/
def newV (g v : S552x128.Idx → EReal) : S552x128.Idx → EReal := fun i => Adam.square (v i) (g i)

/-- The weight's change. -/
def delta (g w m v : S552x128.Idx → EReal) : S552x128.Idx → EReal := fun i =>
  Adam.change (w i) (newM g m i) (newV g v i)

/-- A block of the new mean. -/
theorem pay1 (g x : Vec Ideal S184x128 .f32) (j : S184x128.Idx) : k0_pay1 (F := Ideal) g x j = Adam.mean (x j) (g j) := by
  pointwise [k0_pay1, Adam.mean]

/-- A block of the new square mean. -/
theorem pay2 (g x : Vec Ideal S184x128 .f32) (j : S184x128.Idx) : k0_pay2 (F := Ideal) g x j = Adam.square (x j) (g j) := by
  pointwise [k0_pay2, Adam.square]

/-- A block of the weight's change. -/
theorem pay3 (x g y z : Vec Ideal S184x128 .f32) (j : S184x128.Idx) :
    k0_pay3 (F := Ideal) x g y z j = Adam.change (x j) (Adam.mean (y j) (g j)) (Adam.square (z j) (g j)) := by
  rw [← pay1, ← pay2]
  pointwise [k0_pay3, Adam.change]

/-- Where each block lies, beside the first result's. -/
theorem idx : ∀ t : Fin cfg0.N, (win0_0.index t 0 = win0_4.index t 0 ∧ win0_0.index t 1 = win0_4.index t 1) ∧ (win0_1.index t 0 = win0_4.index t 0 ∧ win0_1.index t 1 = win0_4.index t 1) ∧ (win0_2.index t 0 = win0_4.index t 0 ∧ win0_2.index t 1 = win0_4.index t 1) ∧ (win0_3.index t 0 = win0_4.index t 0 ∧ win0_3.index t 1 = win0_4.index t 1) ∧ (win0_5.index t 0 = win0_4.index t 0 ∧ win0_5.index t 1 = win0_4.index t 1) ∧ (win0_6.index t 0 = win0_4.index t 0 ∧ win0_6.index t 1 = win0_4.index t 1) :=
  (by decide +kernel : ∀ t : Fin grid0.N, (win0_0.index t 0 = win0_4.index t 0 ∧ win0_0.index t 1 = win0_4.index t 1) ∧ (win0_1.index t 0 = win0_4.index t 0 ∧ win0_1.index t 1 = win0_4.index t 1) ∧ (win0_2.index t 0 = win0_4.index t 0 ∧ win0_2.index t 1 = win0_4.index t 1) ∧ (win0_3.index t 0 = win0_4.index t 0 ∧ win0_3.index t 1 = win0_4.index t 1) ∧ (win0_5.index t 0 = win0_4.index t 0 ∧ win0_5.index t 1 = win0_4.index t 1) ∧ (win0_6.index t 0 = win0_4.index t 0 ∧ win0_6.index t 1 = win0_4.index t 1))

/-- The blocks of argument 0. -/
theorem blk0 (m : (ℓ : Loc nD τ sig) → Buf (Elt Ideal) ℓ) (c : Dev nD) (t : Fin cfg0.N) (y : S184x128.Idx) (e : S552x128.Idx)
    (k0 : (e 0).val = win0_4.index t 0 * 184 + (y 0).val) (k1 : (e 1).val = win0_4.index t 1 * 128 + (y 1).val) :
    iblk m c 0 t y = (m ((c : Thread nD τ).loc main_arg0)) e := by
  have h := idx t
  obtain ⟨e0, e1⟩ := h.1
  blk_ext [iblk, V, e0, e1, k0, k1]

/-- The blocks of argument 1. -/
theorem blk1 (m : (ℓ : Loc nD τ sig) → Buf (Elt Ideal) ℓ) (c : Dev nD) (t : Fin cfg0.N) (y : S184x128.Idx) (e : S552x128.Idx)
    (k0 : (e 0).val = win0_4.index t 0 * 184 + (y 0).val) (k1 : (e 1).val = win0_4.index t 1 * 128 + (y 1).val) :
    iblk m c 1 t y = (m ((c : Thread nD τ).loc main_arg1)) e := by
  have h := idx t
  obtain ⟨e0, e1⟩ := h.2.1
  blk_ext [iblk, V, e0, e1, k0, k1]

/-- The blocks of argument 2. -/
theorem blk2 (m : (ℓ : Loc nD τ sig) → Buf (Elt Ideal) ℓ) (c : Dev nD) (t : Fin cfg0.N) (y : S184x128.Idx) (e : S552x128.Idx)
    (k0 : (e 0).val = win0_4.index t 0 * 184 + (y 0).val) (k1 : (e 1).val = win0_4.index t 1 * 128 + (y 1).val) :
    iblk m c 2 t y = (m ((c : Thread nD τ).loc main_arg2)) e := by
  have h := idx t
  obtain ⟨e0, e1⟩ := h.2.2.1
  blk_ext [iblk, V, e0, e1, k0, k1]

/-- The blocks of argument 3. -/
theorem blk3 (m : (ℓ : Loc nD τ sig) → Buf (Elt Ideal) ℓ) (c : Dev nD) (t : Fin cfg0.N) (y : S184x128.Idx) (e : S552x128.Idx)
    (k0 : (e 0).val = win0_4.index t 0 * 184 + (y 0).val) (k1 : (e 1).val = win0_4.index t 1 * 128 + (y 1).val) :
    iblk m c 3 t y = (m ((c : Thread nD τ).loc main_arg3)) e := by
  have h := idx t
  obtain ⟨e0, e1⟩ := h.2.2.2.1
  blk_ext [iblk, V, e0, e1, k0, k1]

/-- A grid point's block of the weight's change. -/
theorem tile4 (m : (ℓ : Loc nD τ sig) → Buf (Elt Ideal) ℓ) (c : Dev nD) (t : Fin cfg0.N) (y : S184x128.Idx) (e : S552x128.Idx)
    (k0 : (e 0).val = win0_4.index t 0 * 184 + (y 0).val) (k1 : (e 1).val = win0_4.index t 1 * 128 + (y 1).val) :
    (dats m 0 c).after 4 t y = delta (m ((c : Thread nD τ).loc main_arg0)) (m ((c : Thread nD τ).loc main_arg1)) (m ((c : Thread nD τ).loc main_arg2)) (m ((c : Thread nD τ).loc main_arg3)) e := by
  rw [after0_4]
  frame_out
  refine (pay3 _ _ _ _ y).trans ?_
  rw [blk1 m c t y e k0 k1, blk0 m c t y e k0 k1, blk2 m c t y e k0 k1, blk3 m c t y e k0 k1]
  rfl

/-- The whole array of the weight's change. -/
theorem final4 (m : (ℓ : Loc nD τ sig) → Buf (Elt Ideal) ℓ) (c : Dev nD) : (dats m 0 c).arrAt 4 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  refine tile4 m c t y _ ?_ ?_
  · blk_simp
  · blk_simp

/-- A grid point's block of the new mean. -/
theorem tile5 (m : (ℓ : Loc nD τ sig) → Buf (Elt Ideal) ℓ) (c : Dev nD) (t : Fin cfg0.N) (y : S184x128.Idx) (e : S552x128.Idx)
    (k0 : (e 0).val = win0_4.index t 0 * 184 + (y 0).val) (k1 : (e 1).val = win0_4.index t 1 * 128 + (y 1).val) :
    (dats m 0 c).after 5 t y = newM (m ((c : Thread nD τ).loc main_arg0)) (m ((c : Thread nD τ).loc main_arg2)) e := by
  rw [after0_5]
  frame_out
  refine (pay1 _ _ y).trans ?_
  rw [blk0 m c t y e k0 k1, blk2 m c t y e k0 k1]
  rfl

/-- The whole array of the new mean. -/
theorem final5 (m : (ℓ : Loc nD τ sig) → Buf (Elt Ideal) ℓ) (c : Dev nD) : (dats m 0 c).arrAt 5 cfg0.N = newM (m ((c : Thread nD τ).loc main_arg0)) (m ((c : Thread nD τ).loc main_arg2)) := by
  refine (dats m 0 c).arrAt_eq_of_covers 5 _ (by decide +kernel) fun t hf y => ?_
  have h := idx t
  obtain ⟨g0, g1⟩ := h.2.2.2.2.1
  blk_simp
  refine tile5 m c t y _ ?_ ?_
  · blk_simp [g0]
  · blk_simp [g1]

/-- A grid point's block of the new square mean. -/
theorem tile6 (m : (ℓ : Loc nD τ sig) → Buf (Elt Ideal) ℓ) (c : Dev nD) (t : Fin cfg0.N) (y : S184x128.Idx) (e : S552x128.Idx)
    (k0 : (e 0).val = win0_4.index t 0 * 184 + (y 0).val) (k1 : (e 1).val = win0_4.index t 1 * 128 + (y 1).val) :
    (dats m 0 c).after 6 t y = newV (m ((c : Thread nD τ).loc main_arg0)) (m ((c : Thread nD τ).loc main_arg3)) e := by
  rw [after0_6]
  frame_out
  refine (pay2 _ _ y).trans ?_
  rw [blk0 m c t y e k0 k1, blk3 m c t y e k0 k1]
  rfl

/-- The whole array of the new square mean. -/
theorem final6 (m : (ℓ : Loc nD τ sig) → Buf (Elt Ideal) ℓ) (c : Dev nD) : (dats m 0 c).arrAt 6 cfg0.N = newV (m ((c : Thread nD τ).loc main_arg0)) (m ((c : Thread nD τ).loc main_arg3)) := by
  refine (dats m 0 c).arrAt_eq_of_covers 6 _ (by decide +kernel) fun t hf y => ?_
  have h := idx t
  obtain ⟨g0, g1⟩ := h.2.2.2.2.2
  blk_simp
  refine tile6 m c t y _ ?_ ?_
  · blk_simp [g0]
  · blk_simp [g1]

/-- The reference's new mean. -/
theorem refM (x0 x2 : FVec Ideal Cert.AdamSmallRefIdeal.S552x128 .f32) : Cert.AdamSmallRefIdeal.Read.val_main_v4 (F := Ideal) x0 x2 = newM x0 x2 := by
  funext i
  unfold newM
  pointwise [Adam.mean, Cert.AdamSmallRefIdeal.Read.val_main_cst, Cert.AdamSmallRefIdeal.Read.val_main_v0, Cert.AdamSmallRefIdeal.Read.val_main_v1, Cert.AdamSmallRefIdeal.Read.val_main_cst_0, Cert.AdamSmallRefIdeal.Read.val_main_v2, Cert.AdamSmallRefIdeal.Read.val_main_v3, Cert.AdamSmallRefIdeal.Read.val_main_v4, Cert.AdamSmallRefIdeal.Read.val_main_cst_1, Cert.AdamSmallRefIdeal.Read.val_main_cst_2, Cert.AdamSmallRefIdeal.Read.val_main_cst_3, Cert.AdamSmallRefIdeal.Read.val_main_cst_4, Cert.AdamSmallRefIdeal.Read.val_main_cst_5, Cert.AdamSmallRefIdeal.Read.val_main_cst_6, Cert.AdamSmallRefIdeal.Read.val_main_cst_7]

/-- The reference's new square mean. -/
theorem refV (x0 x3 : FVec Ideal Cert.AdamSmallRefIdeal.S552x128 .f32) : Cert.AdamSmallRefIdeal.Read.val_main_v10 (F := Ideal) x0 x3 = newV x0 x3 := by
  funext i
  unfold newV
  pointwise [Adam.square, Cert.AdamSmallRefIdeal.Read.val_main_cst, Cert.AdamSmallRefIdeal.Read.val_main_v0, Cert.AdamSmallRefIdeal.Read.val_main_v1, Cert.AdamSmallRefIdeal.Read.val_main_cst_0, Cert.AdamSmallRefIdeal.Read.val_main_v2, Cert.AdamSmallRefIdeal.Read.val_main_v3, Cert.AdamSmallRefIdeal.Read.val_main_v4, Cert.AdamSmallRefIdeal.Read.val_main_cst_1, Cert.AdamSmallRefIdeal.Read.val_main_v5, Cert.AdamSmallRefIdeal.Read.val_main_v6, Cert.AdamSmallRefIdeal.Read.val_main_v7, Cert.AdamSmallRefIdeal.Read.val_main_cst_2, Cert.AdamSmallRefIdeal.Read.val_main_v8, Cert.AdamSmallRefIdeal.Read.val_main_v9, Cert.AdamSmallRefIdeal.Read.val_main_v10, Cert.AdamSmallRefIdeal.Read.val_main_cst_3, Cert.AdamSmallRefIdeal.Read.val_main_cst_4, Cert.AdamSmallRefIdeal.Read.val_main_cst_5, Cert.AdamSmallRefIdeal.Read.val_main_cst_6, Cert.AdamSmallRefIdeal.Read.val_main_cst_7]

/-- The reference's change of the weight. -/
theorem refD (x0 x1 x2 x3 : FVec Ideal Cert.AdamSmallRefIdeal.S552x128 .f32) : Cert.AdamSmallRefIdeal.Read.val_main_v23 (F := Ideal) x0 x1 x2 x3 = delta x0 x1 x2 x3 := by
  funext i
  unfold delta
  rw [← refM x0 x2, ← refV x0 x3]
  pointwise [Adam.change, Cert.AdamSmallRefIdeal.Read.val_main_cst, Cert.AdamSmallRefIdeal.Read.val_main_cst_0, Cert.AdamSmallRefIdeal.Read.val_main_cst_1, Cert.AdamSmallRefIdeal.Read.val_main_cst_2, Cert.AdamSmallRefIdeal.Read.val_main_cst_3, Cert.AdamSmallRefIdeal.Read.val_main_v11, Cert.AdamSmallRefIdeal.Read.val_main_v12, Cert.AdamSmallRefIdeal.Read.val_main_cst_4, Cert.AdamSmallRefIdeal.Read.val_main_v13, Cert.AdamSmallRefIdeal.Read.val_main_v14, Cert.AdamSmallRefIdeal.Read.val_main_v15, Cert.AdamSmallRefIdeal.Read.val_main_cst_5, Cert.AdamSmallRefIdeal.Read.val_main_v16, Cert.AdamSmallRefIdeal.Read.val_main_v17, Cert.AdamSmallRefIdeal.Read.val_main_v18, Cert.AdamSmallRefIdeal.Read.val_main_cst_6, Cert.AdamSmallRefIdeal.Read.val_main_v19, Cert.AdamSmallRefIdeal.Read.val_main_v20, Cert.AdamSmallRefIdeal.Read.val_main_v21, Cert.AdamSmallRefIdeal.Read.val_main_cst_7, Cert.AdamSmallRefIdeal.Read.val_main_v22, Cert.AdamSmallRefIdeal.Read.val_main_v23]

end Cert.AdamSmallIdeal.Adam

end
-- ==== Proof.Adam.Claims.lean ====
module

public import proofs.«01_k».proof.Defs
public import proofs.«01_k».proof.Proof.Adam.AdamIn
public import proofs.«01_k».proof.Proof.Adam.AdamO
public import proofs.«01_k».proof.Proof.Adam.AdamOut
public import proofs.«01_k».proof.Proof.Adam.AdamGU
public import proofs.«01_k».proof.Proof.Adam.AdamDown
public import proofs.«01_k».proof.Proof.Adam.AdamSmall

@[expose] public section

set_option maxRecDepth 16384

noncomputable section

namespace Cert.Adam.Claims

open Idealize.ShloMosaic Idealize.ShloMosaic.TcCoe Idealize.SL.Sem

/-- AdamW for the inner weights. -/
theorem eqAdamIn : Cert.algebraic_AdamInIdeal_AdamInRefIdeal := fun m g m' g' _ h =>
  ⟨fun c => Cert.AdamInIdeal.Adam.grad (m ((c.tc : Thread Cert.AdamInIdeal.nD Cert.AdamInIdeal.τ).loc Cert.AdamInIdeal.main_arg0)),
    fun c => Cert.AdamInIdeal.Adam.delta (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)),
    fun c => Cert.AdamInIdeal.Adam.newM (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg2)),
    fun c => Cert.AdamInIdeal.Adam.newV (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg3)),
    (θ_run Cert.AdamInIdeal.defs _ _).mono (fun _ hr c => ⟨(hr c).1.trans (Cert.AdamInIdeal.Adam.final4 m c),
        (hr c).2.1.trans (Cert.AdamInIdeal.Adam.final5 m c),
        (hr c).2.2.1.trans (Cert.AdamInIdeal.Adam.final6 m c),
        (hr c).2.2.2.1.trans (Cert.AdamInIdeal.Adam.final7 m c), (hr c).2.2.2.2⟩)
      (Cert.AdamInIdeal.Value.run_blocks m g),
    (θ_run Cert.AdamInRefIdeal.defs _ _).mono (fun _ hr c => ⟨(hr c).1.trans ((Cert.AdamInIdeal.Adam.refG _).trans (by rw [(h c).1])),
        (hr c).2.1.trans ((Cert.AdamInIdeal.Adam.refD _ _ _ _).trans (by rw [(h c).1, (h c).2.1, (h c).2.2.1, (h c).2.2.2])),
        (hr c).2.2.1.trans ((Cert.AdamInIdeal.Adam.refM _ _).trans (by rw [(h c).1, (h c).2.2.1])),
        (hr c).2.2.2.1.trans ((Cert.AdamInIdeal.Adam.refV _ _).trans (by rw [(h c).1, (h c).2.2.2])), (hr c).2.2.2.2⟩)
      (Cert.AdamInRefIdeal.Value.run m' g')⟩

/-- AdamW for a branch's output weights. -/
theorem eqAdamO : Cert.algebraic_AdamOIdeal_AdamORefIdeal := fun m g m' g' _ h =>
  ⟨fun c => Cert.AdamOIdeal.Adam.grad (m ((c.tc : Thread Cert.AdamOIdeal.nD Cert.AdamOIdeal.τ).loc Cert.AdamOIdeal.main_arg0)),
    fun c => Cert.AdamOIdeal.Adam.delta (m ((c.tc : Thread Cert.AdamOIdeal.nD Cert.AdamOIdeal.τ).loc Cert.AdamOIdeal.main_arg0)) (m ((c.tc : Thread Cert.AdamOIdeal.nD Cert.AdamOIdeal.τ).loc Cert.AdamOIdeal.main_arg1)) (m ((c.tc : Thread Cert.AdamOIdeal.nD Cert.AdamOIdeal.τ).loc Cert.AdamOIdeal.main_arg2)) (m ((c.tc : Thread Cert.AdamOIdeal.nD Cert.AdamOIdeal.τ).loc Cert.AdamOIdeal.main_arg3)),
    fun c => Cert.AdamOIdeal.Adam.newM (m ((c.tc : Thread Cert.AdamOIdeal.nD Cert.AdamOIdeal.τ).loc Cert.AdamOIdeal.main_arg0)) (m ((c.tc : Thread Cert.AdamOIdeal.nD Cert.AdamOIdeal.τ).loc Cert.AdamOIdeal.main_arg2)),
    fun c => Cert.AdamOIdeal.Adam.newV (m ((c.tc : Thread Cert.AdamOIdeal.nD Cert.AdamOIdeal.τ).loc Cert.AdamOIdeal.main_arg0)) (m ((c.tc : Thread Cert.AdamOIdeal.nD Cert.AdamOIdeal.τ).loc Cert.AdamOIdeal.main_arg3)),
    (θ_run Cert.AdamOIdeal.defs _ _).mono (fun _ hr c => ⟨(hr c).1.trans (Cert.AdamOIdeal.Adam.final4 m c),
        (hr c).2.1.trans (Cert.AdamOIdeal.Adam.final5 m c),
        (hr c).2.2.1.trans (Cert.AdamOIdeal.Adam.final6 m c),
        (hr c).2.2.2.1.trans (Cert.AdamOIdeal.Adam.final7 m c), (hr c).2.2.2.2⟩)
      (Cert.AdamOIdeal.Value.run_blocks m g),
    (θ_run Cert.AdamORefIdeal.defs _ _).mono (fun _ hr c => ⟨(hr c).1.trans ((Cert.AdamOIdeal.Adam.refG _).trans (by rw [(h c).1])),
        (hr c).2.1.trans ((Cert.AdamOIdeal.Adam.refD _ _ _ _).trans (by rw [(h c).1, (h c).2.1, (h c).2.2.1, (h c).2.2.2])),
        (hr c).2.2.1.trans ((Cert.AdamOIdeal.Adam.refM _ _).trans (by rw [(h c).1, (h c).2.2.1])),
        (hr c).2.2.2.1.trans ((Cert.AdamOIdeal.Adam.refV _ _).trans (by rw [(h c).1, (h c).2.2.2])), (hr c).2.2.2.2⟩)
      (Cert.AdamORefIdeal.Value.run m' g')⟩

/-- AdamW for the output weights. -/
theorem eqAdamOut : Cert.algebraic_AdamOutIdeal_AdamOutRefIdeal := fun m g m' g' _ h =>
  ⟨fun c => Cert.AdamOutIdeal.Adam.grad (m ((c.tc : Thread Cert.AdamOutIdeal.nD Cert.AdamOutIdeal.τ).loc Cert.AdamOutIdeal.main_arg0)),
    fun c => Cert.AdamOutIdeal.Adam.delta (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)),
    fun c => Cert.AdamOutIdeal.Adam.newM (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg2)),
    fun c => Cert.AdamOutIdeal.Adam.newV (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg3)),
    (θ_run Cert.AdamOutIdeal.defs _ _).mono (fun _ hr c => ⟨(hr c).1.trans (Cert.AdamOutIdeal.Adam.final4 m c),
        (hr c).2.1.trans (Cert.AdamOutIdeal.Adam.final5 m c),
        (hr c).2.2.1.trans (Cert.AdamOutIdeal.Adam.final6 m c),
        (hr c).2.2.2.1.trans (Cert.AdamOutIdeal.Adam.final7 m c), (hr c).2.2.2.2⟩)
      (Cert.AdamOutIdeal.Value.run_blocks m g),
    (θ_run Cert.AdamOutRefIdeal.defs _ _).mono (fun _ hr c => ⟨(hr c).1.trans ((Cert.AdamOutIdeal.Adam.refG _).trans (by rw [(h c).1])),
        (hr c).2.1.trans ((Cert.AdamOutIdeal.Adam.refD _ _ _ _).trans (by rw [(h c).1, (h c).2.1, (h c).2.2.1, (h c).2.2.2])),
        (hr c).2.2.1.trans ((Cert.AdamOutIdeal.Adam.refM _ _).trans (by rw [(h c).1, (h c).2.2.1])),
        (hr c).2.2.2.1.trans ((Cert.AdamOutIdeal.Adam.refV _ _).trans (by rw [(h c).1, (h c).2.2.2])), (hr c).2.2.2.2⟩)
      (Cert.AdamOutRefIdeal.Value.run m' g')⟩

/-- AdamW for the gate and up weights. -/
theorem eqAdamGU : Cert.algebraic_AdamGUIdeal_AdamGURefIdeal := fun m g m' g' _ h =>
  ⟨fun c => Cert.AdamGUIdeal.Adam.grad (m ((c.tc : Thread Cert.AdamGUIdeal.nD Cert.AdamGUIdeal.τ).loc Cert.AdamGUIdeal.main_arg0)),
    fun c => Cert.AdamGUIdeal.Adam.delta (m ((c.tc : Thread Cert.AdamGUIdeal.nD Cert.AdamGUIdeal.τ).loc Cert.AdamGUIdeal.main_arg0)) (m ((c.tc : Thread Cert.AdamGUIdeal.nD Cert.AdamGUIdeal.τ).loc Cert.AdamGUIdeal.main_arg1)) (m ((c.tc : Thread Cert.AdamGUIdeal.nD Cert.AdamGUIdeal.τ).loc Cert.AdamGUIdeal.main_arg2)) (m ((c.tc : Thread Cert.AdamGUIdeal.nD Cert.AdamGUIdeal.τ).loc Cert.AdamGUIdeal.main_arg3)),
    fun c => Cert.AdamGUIdeal.Adam.newM (m ((c.tc : Thread Cert.AdamGUIdeal.nD Cert.AdamGUIdeal.τ).loc Cert.AdamGUIdeal.main_arg0)) (m ((c.tc : Thread Cert.AdamGUIdeal.nD Cert.AdamGUIdeal.τ).loc Cert.AdamGUIdeal.main_arg2)),
    fun c => Cert.AdamGUIdeal.Adam.newV (m ((c.tc : Thread Cert.AdamGUIdeal.nD Cert.AdamGUIdeal.τ).loc Cert.AdamGUIdeal.main_arg0)) (m ((c.tc : Thread Cert.AdamGUIdeal.nD Cert.AdamGUIdeal.τ).loc Cert.AdamGUIdeal.main_arg3)),
    (θ_run Cert.AdamGUIdeal.defs _ _).mono (fun _ hr c => ⟨(hr c).1.trans (Cert.AdamGUIdeal.Adam.final4 m c),
        (hr c).2.1.trans (Cert.AdamGUIdeal.Adam.final5 m c),
        (hr c).2.2.1.trans (Cert.AdamGUIdeal.Adam.final6 m c),
        (hr c).2.2.2.1.trans (Cert.AdamGUIdeal.Adam.final7 m c), (hr c).2.2.2.2⟩)
      (Cert.AdamGUIdeal.Value.run_blocks m g),
    (θ_run Cert.AdamGURefIdeal.defs _ _).mono (fun _ hr c => ⟨(hr c).1.trans ((Cert.AdamGUIdeal.Adam.refG _).trans (by rw [(h c).1])),
        (hr c).2.1.trans ((Cert.AdamGUIdeal.Adam.refD _ _ _ _).trans (by rw [(h c).1, (h c).2.1, (h c).2.2.1, (h c).2.2.2])),
        (hr c).2.2.1.trans ((Cert.AdamGUIdeal.Adam.refM _ _).trans (by rw [(h c).1, (h c).2.2.1])),
        (hr c).2.2.2.1.trans ((Cert.AdamGUIdeal.Adam.refV _ _).trans (by rw [(h c).1, (h c).2.2.2])), (hr c).2.2.2.2⟩)
      (Cert.AdamGURefIdeal.Value.run m' g')⟩

/-- AdamW for the down weights. -/
theorem eqAdamDown : Cert.algebraic_AdamDownIdeal_AdamDownRefIdeal := fun m g m' g' _ h =>
  ⟨fun c => Cert.AdamDownIdeal.Adam.grad (m ((c.tc : Thread Cert.AdamDownIdeal.nD Cert.AdamDownIdeal.τ).loc Cert.AdamDownIdeal.main_arg0)),
    fun c => Cert.AdamDownIdeal.Adam.delta (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg1)) (m ((c.tc : Thread Cert.AdamDownIdeal.nD Cert.AdamDownIdeal.τ).loc Cert.AdamDownIdeal.main_arg2)) (m ((c.tc : Thread Cert.AdamDownIdeal.nD Cert.AdamDownIdeal.τ).loc Cert.AdamDownIdeal.main_arg3)),
    fun c => Cert.AdamDownIdeal.Adam.newM (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg2)),
    fun c => Cert.AdamDownIdeal.Adam.newV (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg3)),
    (θ_run Cert.AdamDownIdeal.defs _ _).mono (fun _ hr c => ⟨(hr c).1.trans (Cert.AdamDownIdeal.Adam.final4 m c),
        (hr c).2.1.trans (Cert.AdamDownIdeal.Adam.final5 m c),
        (hr c).2.2.1.trans (Cert.AdamDownIdeal.Adam.final6 m c),
        (hr c).2.2.2.1.trans (Cert.AdamDownIdeal.Adam.final7 m c), (hr c).2.2.2.2⟩)
      (Cert.AdamDownIdeal.Value.run_blocks m g),
    (θ_run Cert.AdamDownRefIdeal.defs _ _).mono (fun _ hr c => ⟨(hr c).1.trans ((Cert.AdamDownIdeal.Adam.refG _).trans (by rw [(h c).1])),
        (hr c).2.1.trans ((Cert.AdamDownIdeal.Adam.refD _ _ _ _).trans (by rw [(h c).1, (h c).2.1, (h c).2.2.1, (h c).2.2.2])),
        (hr c).2.2.1.trans ((Cert.AdamDownIdeal.Adam.refM _ _).trans (by rw [(h c).1, (h c).2.2.1])),
        (hr c).2.2.2.1.trans ((Cert.AdamDownIdeal.Adam.refV _ _).trans (by rw [(h c).1, (h c).2.2.2])), (hr c).2.2.2.2⟩)
      (Cert.AdamDownRefIdeal.Value.run m' g')⟩

/-- AdamW for the small weights. -/
theorem eqAdamSmall : Cert.algebraic_AdamSmallIdeal_AdamSmallRefIdeal := fun m g m' g' _ h =>
  ⟨fun c => Cert.AdamSmallIdeal.Adam.delta (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)),
    fun c => Cert.AdamSmallIdeal.Adam.newM (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg2)),
    fun c => Cert.AdamSmallIdeal.Adam.newV (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg3)),
    (θ_run Cert.AdamSmallIdeal.defs _ _).mono (fun _ hr c => ⟨(hr c).1.trans (Cert.AdamSmallIdeal.Adam.final4 m c),
        (hr c).2.1.trans (Cert.AdamSmallIdeal.Adam.final5 m c),
        (hr c).2.2.1.trans (Cert.AdamSmallIdeal.Adam.final6 m c), (hr c).2.2.2⟩)
      (Cert.AdamSmallIdeal.Value.run_blocks m g),
    (θ_run Cert.AdamSmallRefIdeal.defs _ _).mono (fun _ hr c => ⟨(hr c).1.trans ((Cert.AdamSmallIdeal.Adam.refD _ _ _ _).trans (by rw [(h c).1, (h c).2.1, (h c).2.2.1, (h c).2.2.2])),
        (hr c).2.1.trans ((Cert.AdamSmallIdeal.Adam.refM _ _).trans (by rw [(h c).1, (h c).2.2.1])),
        (hr c).2.2.1.trans ((Cert.AdamSmallIdeal.Adam.refV _ _).trans (by rw [(h c).1, (h c).2.2.2])), (hr c).2.2.2⟩)
      (Cert.AdamSmallRefIdeal.Value.run m' g')⟩

end Cert.Adam.Claims

end
-- ==== Proof.AttnF.Kernel.lean ====
module

public import proofs.«01_k».proof.Proof.Gen.AttnFIdeal.Frame
public import proofs.«01_k».proof.Proof.Attention.Spec

/-! What a block of the attention's forward pass stores, head by head, and that the run's pieces are these. -/

@[expose] public section

set_option maxRecDepth 16384

noncomputable section

namespace Cert.AttnFIdeal.Fwd

open Cert.AttnFIdeal Cert.AttnFIdeal.Gen
open Idealize.ShloMosaic Idealize.ShloMosaic.TcCoe Idealize.SL.Sem
open Cert.AttnIdeal.Bwd (Head rows3 sinkAt grp colQ colK)

variable {F : FTy → Type} [FloatOps F] [Named F]

/-- A head's output: the values, weighted by the softmax. -/
def result (x : Head F) : FVec F S128x64 .bf16 :=
  truncf .bf16 (matmul dot_S128x384_S384x64_S128x64_1_0_0_1_n_n none (truncf .bf16 x.weight bitsLt_bf16_f32) x.v (constant S128x64 .f32 0x00000000#32)) bitsLt_bf16_f32

/-- Which keys the queries of the block at a point see. -/
def sees (i : grid0.Coords) : IVec S128x384 1 := k0_pay5 (k0_pay2 i) (k0_pay3 i) (k0_pay4 i)

/-- The operands of query head `n` at a point, from the point's blocks. The forward pass has no gradient of its output; the
place of one is taken by the queries, which no result of it reads. -/
def heads (i : grid0.Coords) (x0 : Vec F S128x2048 .bf16) (x1 x2 x3 x4 x5 x6 : Vec F S128x256 .bf16) (x7 : Vec F S1x32 .f32) (n : Fin 32) : Head F where
  see := sees i
  k := rows3 (View.ld (Val := Elt F) (e' := .bf16) x1 (colK (grp n))) (View.ld (Val := Elt F) (e' := .bf16) x2 (colK (grp n))) (View.ld (Val := Elt F) (e' := .bf16) x3 (colK (grp n)))
  v := rows3 (View.ld (Val := Elt F) (e' := .bf16) x4 (colK (grp n))) (View.ld (Val := Elt F) (e' := .bf16) x5 (colK (grp n))) (View.ld (Val := Elt F) (e' := .bf16) x6 (colK (grp n)))
  q := View.ld (Val := Elt F) (e' := .bf16) x0 (colQ n)
  g := View.ld (Val := Elt F) (e' := .bf16) x0 (colQ n)
  s := sinkAt x7 n

/-- The pieces that fill a block of 32 heads, the last stored first. -/
def pieces (f : Fin 32 → Vec F S128x64 .bf16) : List (View.Piece (Elt F) S128x2048 .bf16) :=
  (List.finRange 32).reverse.map fun n => ⟨colQ n, f n⟩

variable (c : Dev nD) (i : grid0.Coords)
  (arg1 : Memref sig .tc .vmem S128x2048 .bf16) (harg1 : arg1.IsWhole)
  (arg2 : Memref sig .tc .vmem S128x256 .bf16) (harg2 : arg2.IsWhole)
  (arg3 : Memref sig .tc .vmem S128x256 .bf16) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x256 .bf16) (harg6 : arg6.IsWhole)
  (arg7 : Memref sig .tc .vmem S128x256 .bf16) (harg7 : arg7.IsWhole)
  (arg8 : Memref sig .tc .smem S1x32 .f32) (harg8 : arg8.IsWhole)
  (arg9 : Memref sig .tc .vmem S128x2048 .bf16) (harg9 : arg9.IsWhole)

/-- The run's pieces are the heads' outputs. -/
theorem run_pieces (x0 : Vec F S128x2048 .bf16) (x1 x2 x3 x4 x5 x6 : Vec F S128x256 .bf16) (x7 : Vec F S1x32 .f32) :
    (kernelRun0_A c i arg1 harg1 arg2 harg2 arg3 harg3 arg4 harg4 arg5 harg5 arg6 harg6 arg7 harg7 arg8 harg8 arg9 harg9 x0 x1 x2 x3 x4 x5 x6 x7).1
      = pieces fun n => result (heads i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) n) := by
  sl_kernel_rfl

/-- What a point leaves in the output's block. -/
theorem outs (m : (ℓ : Loc nD τ sig) → Buf (Elt F) ℓ) (t : Fin cfg0.N) :
    outsAt0 m c t = View.canon (pieces fun n => result (heads (grid0.coords t) (X0_0 m c t) (iblk m c 1 t) (iblk m c 2 t) (iblk m c 3 t) (iblk m c 4 t) (iblk m c 5 t) (iblk m c 6 t) (iblk m c 7 t) n)) := by
  unfold outsAt0 out0_A_8
  rw [View.read_writes_junk_eq_canon, run_pieces]
  simp only [Memref.IsWhole.read_unread]

end Cert.AttnFIdeal.Fwd

end
-- ==== Proof.AttnF.Value.lean ====
module

public import proofs.«01_k».proof.Proof.Gen.AttnFIdeal.Value
public import proofs.«01_k».proof.Proof.AttnF.Kernel
public import proofs.«01_k».proof.Proof.Attention.Mask
public import proofs.«01_k».proof.Proof.Attention.Arrays
public import Idealize.ShloMosaic.Lib.Pipeline.ValueKit
public import Idealize.ShloMosaic.Lib.Pointwise

/-! The array that the attention's forward pass leaves, when its arguments are numbers: the values, weighted by the softmax. -/

@[expose] public section

set_option maxRecDepth 16384

noncomputable section

namespace Cert.Attention

/-- The attention's output: the values, weighted by the softmax. -/
def Data.o (D : Data) (n : Fin 32) (r : Fin 4224) (d : Fin 64) : ℝ := ∑ c, D.p n r c * D.v (kv n) c d

end Cert.Attention

namespace Cert.AttnFIdeal.Fwd

open Idealize.ShloMosaic Idealize.ShloMosaic.Pointwise Idealize.ShloMosaic.TcCoe Idealize.SL.Sem
open Cert.AttnFIdeal Cert.AttnFIdeal.Gen Cert.Attention
open Cert.AttnIdeal.Bwd (Head Holds rows3 sinkAt grp colQ colK cQ hQ laneQ coe_sum rows3_apply ld_colQ ld_colK sinkAt_eq not_mem_colQ at_cQ)

/-- The output as a whole array. -/
def arrO (D : Data) : S4224x2048.Idx → EReal := fun i => (D.o (hQ (i 1)) (i 0) (laneQ (i 1)) : EReal)

/-- The mask is the one of the backward pass. -/
theorem sees_apply (t : Fin cfg0.N) (a : Fin 128) (j : Fin 384) (b : Fin 33) (hb : (grid0.coords t 0).val = b.val) :
    sees (grid0.coords t) (ix2 a j) = BitVec.ofBool (decide (Seen b a j)) := by
  have hN : b.val < Cert.AttnIdeal.cfg0.N := lt_of_lt_of_eq (show b.val < 34 by omega) Cert.AttnIdeal.Gen.N_0.symm
  have hc := Cert.AttnIdeal.Bwd.coord ⟨b.val, hN⟩
  refine Eq.trans ?_ (Cert.AttnIdeal.Bwd.sees_apply (Cert.AttnIdeal.grid0.coords ⟨b.val, hN⟩) a j b hc)
  have e : ∀ (i : grid0.Coords) (i' : Cert.AttnIdeal.grid0.Coords), (i 0).val = (i' 0).val → sees i = Cert.AttnIdeal.Bwd.sees i' := fun i i' h => by
    unfold Cert.AttnIdeal.Bwd.sees
    rw [← h]
    rfl
  exact congrFun (e _ _ (hb.trans hc.symm)) (ix2 a j)

/-- Where a point's blocks lie. -/
theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 0 ∧ win0_1.index t 1 = 8 :=
  (by decide +kernel : ∀ t : Fin grid0.N, win0_1.index t 0 = 0 ∧ win0_1.index t 1 = 8)
theorem at2 : ∀ t : Fin cfg0.N, win0_2.index t 0 = t.val - 1 ∧ win0_2.index t 1 = 8 :=
  (by decide +kernel : ∀ t : Fin grid0.N, win0_2.index t 0 = t.val - 1 ∧ win0_2.index t 1 = 8)
theorem at3 : ∀ t : Fin cfg0.N, win0_3.index t 0 = t.val ∧ win0_3.index t 1 = 8 :=
  (by decide +kernel : ∀ t : Fin grid0.N, win0_3.index t 0 = t.val ∧ win0_3.index t 1 = 8)
theorem at4 : ∀ t : Fin cfg0.N, win0_4.index t 0 = 0 ∧ win0_4.index t 1 = 9 :=
  (by decide +kernel : ∀ t : Fin grid0.N, win0_4.index t 0 = 0 ∧ win0_4.index t 1 = 9)
theorem at5 : ∀ t : Fin cfg0.N, win0_5.index t 0 = t.val - 1 ∧ win0_5.index t 1 = 9 :=
  (by decide +kernel : ∀ t : Fin grid0.N, win0_5.index t 0 = t.val - 1 ∧ win0_5.index t 1 = 9)
theorem at6 : ∀ t : Fin cfg0.N, win0_6.index t 0 = t.val ∧ win0_6.index t 1 = 9 :=
  (by decide +kernel : ∀ t : Fin grid0.N, win0_6.index t 0 = t.val ∧ win0_6.index t 1 = 9)
theorem at7 : ∀ t : Fin cfg0.N, win0_7.index t 0 = 0 ∧ win0_7.index t 1 = 0 :=
  (by decide +kernel : ∀ t : Fin grid0.N, win0_7.index t 0 = 0 ∧ win0_7.index t 1 = 0)
theorem at8 : ∀ t : Fin cfg0.N, win0_8.index t 0 = t.val ∧ win0_8.index t 1 = 0 :=
  (by decide +kernel : ∀ t : Fin grid0.N, win0_8.index t 0 = t.val ∧ win0_8.index t 1 = 0)
/-- The grid's coordinate is the point's number. -/
theorem coord : ∀ t : Fin cfg0.N, (grid0.coords t 0).val = t.val :=
  (by decide +kernel : ∀ t : Fin grid0.N, (grid0.coords t 0).val = t.val)

variable (m : (ℓ : Loc nD τ sig) → Buf (Elt Ideal) ℓ) (c : Dev nD)

/-! What a point's blocks hold, read off the arguments. -/

theorem read0 (t : Fin cfg0.N) (r : Fin 4224) (a : Fin 128) (b : Fin 2048) (hr : r.val = 128 * t.val + a.val) :
    X0_0 m c t (ix2 a b) = m ((c.tc : Thread nD τ).loc main_arg0) (ix2 r (⟨b.val, by omega⟩ : Fin 2304)) := by
  obtain ⟨e0, e1⟩ := at0 t
  unfold X0_0 Pipeline.Window.fill
  rw [dif_pos (moved0_0 t _)]
  blk_ext [iblk, V, e0, e1]
theorem read1 (t : Fin cfg0.N) (r : Fin 4224) (a : Fin 128) (b : Fin 256) (hr : r.val = a.val) :
    iblk m c 1 t (ix2 a b) = m ((c.tc : Thread nD τ).loc main_arg0) (ix2 r (⟨2048 + b.val, by omega⟩ : Fin 2304)) := by
  obtain ⟨e0, e1⟩ := at1 t
  blk_ext [iblk, V, e0, e1]
theorem read2 (t : Fin cfg0.N) (r : Fin 4224) (a : Fin 128) (b : Fin 256) (hr : r.val = 128 * (t.val - 1) + a.val) :
    iblk m c 2 t (ix2 a b) = m ((c.tc : Thread nD τ).loc main_arg0) (ix2 r (⟨2048 + b.val, by omega⟩ : Fin 2304)) := by
  obtain ⟨e0, e1⟩ := at2 t
  blk_ext [iblk, V, e0, e1]
theorem read3 (t : Fin cfg0.N) (r : Fin 4224) (a : Fin 128) (b : Fin 256) (hr : r.val = 128 * t.val + a.val) :
    iblk m c 3 t (ix2 a b) = m ((c.tc : Thread nD τ).loc main_arg0) (ix2 r (⟨2048 + b.val, by omega⟩ : Fin 2304)) := by
  obtain ⟨e0, e1⟩ := at3 t
  blk_ext [iblk, V, e0, e1]
theorem read4 (t : Fin cfg0.N) (r : Fin 4224) (a : Fin 128) (b : Fin 256) (hr : r.val = a.val) :
    iblk m c 4 t (ix2 a b) = m ((c.tc : Thread nD τ).loc main_arg1) (ix2 r (⟨2304 + b.val, by omega⟩ : Fin 14848)) := by
  obtain ⟨e0, e1⟩ := at4 t
  blk_ext [iblk, V, e0, e1]
theorem read5 (t : Fin cfg0.N) (r : Fin 4224) (a : Fin 128) (b : Fin 256) (hr : r.val = 128 * (t.val - 1) + a.val) :
    iblk m c 5 t (ix2 a b) = m ((c.tc : Thread nD τ).loc main_arg1) (ix2 r (⟨2304 + b.val, by omega⟩ : Fin 14848)) := by
  obtain ⟨e0, e1⟩ := at5 t
  blk_ext [iblk, V, e0, e1]
theorem read6 (t : Fin cfg0.N) (r : Fin 4224) (a : Fin 128) (b : Fin 256) (hr : r.val = 128 * t.val + a.val) :
    iblk m c 6 t (ix2 a b) = m ((c.tc : Thread nD τ).loc main_arg1) (ix2 r (⟨2304 + b.val, by omega⟩ : Fin 14848)) := by
  obtain ⟨e0, e1⟩ := at6 t
  blk_ext [iblk, V, e0, e1]
theorem read7 (t : Fin cfg0.N) (n : Fin 32) :
    iblk m c 7 t (ix2 0 n) = m ((c.tc : Thread nD τ).loc main_arg2) (ix2 0 n) := by
  obtain ⟨e0, e1⟩ := at7 t
  blk_ext [iblk, V, e0, e1]

/-- The queries, in the place of the gradient that the forward pass does not have. -/
def asGrad (x0 : S4224x2304.Idx → EReal) : S4224x2048.Idx → EReal := fun i => x0 (ix2 (i 0) (⟨(i 1).val, by have := (i 1).isLt; simp only [S4224x2048] at this; change (i 1).val < 2048 at this; omega⟩ : Fin 2304))

/-- The arguments hold the numbers `D`. -/
abbrev Numbers3 (x0 : S4224x2304.Idx → EReal) (x1 : S4224x14848.Idx → EReal) (x2 : S1x32.Idx → EReal) (D : Data) : Prop :=
  Numbers x0 x1 x2 (asGrad x0) D

/-- The heads at a point, over the point's blocks. -/
def headsAt (t : Fin cfg0.N) : Fin 32 → Head Ideal :=
  heads (grid0.coords t) (X0_0 m c t) (iblk m c 1 t) (iblk m c 2 t) (iblk m c 3 t) (iblk m c 4 t) (iblk m c 5 t) (iblk m c 6 t) (iblk m c 7 t)

variable {m c} {D : Data}

/-- The heads at point `t` hold the rows of block `t`. -/
theorem holds (hD : Numbers3 (m ((c.tc : Thread nD τ).loc main_arg0)) (m ((c.tc : Thread nD τ).loc main_arg1)) (m ((c.tc : Thread nD τ).loc main_arg2)) D)
    (t : Fin cfg0.N) (b : Fin 33) (hb : t.val = b.val) : Holds (headsAt m c t) D b := by
  have hb' := b.isLt
  intro n
  refine ⟨fun a j => ?_, fun a d => ?_, fun a d => ?_, fun j d => ?_, fun j d => ?_, ?_⟩
  · exact sees_apply t a j b ((coord t).trans hb)
  · exact ((ld_colQ _ n a d).trans (read0 m c t (row b a) a _ (by simp only [row]; omega))).trans (hD.q n (row b a) d)
  · exact ((ld_colQ _ n a d).trans (read0 m c t (row b a) a _ (by simp only [row]; omega))).trans (hD.g n (row b a) d)
  · refine (rows3_apply _ _ _ j d).trans ?_
    split
    · rename_i h
      exact ((ld_colK _ (grp n) _ d).trans (read1 m c t (pos b j) _ _ (pos_low b j h))).trans (hD.k (kv n) (pos b j) d)
    · split
      · rename_i h h'
        exact ((ld_colK _ (grp n) _ d).trans (read2 m c t (pos b j) _ _ (by rw [pos_mid b j (by omega) h']; simp only [hb]))).trans (hD.k (kv n) (pos b j) d)
      · rename_i h h'
        exact ((ld_colK _ (grp n) _ d).trans (read3 m c t (pos b j) _ _ (by rw [pos_high b j (by omega)]; simp only [hb]))).trans (hD.k (kv n) (pos b j) d)
  · refine (rows3_apply _ _ _ j d).trans ?_
    split
    · rename_i h
      exact ((ld_colK _ (grp n) _ d).trans (read4 m c t (pos b j) _ _ (pos_low b j h))).trans (hD.v (kv n) (pos b j) d)
    · split
      · rename_i h h'
        exact ((ld_colK _ (grp n) _ d).trans (read5 m c t (pos b j) _ _ (by rw [pos_mid b j (by omega) h']; simp only [hb]))).trans (hD.v (kv n) (pos b j) d)
      · rename_i h h'
        exact ((ld_colK _ (grp n) _ d).trans (read6 m c t (pos b j) _ _ (by rw [pos_high b j (by omega)]; simp only [hb]))).trans (hD.v (kv n) (pos b j) d)
  · exact ((sinkAt_eq _ n).trans (read7 m c t n)).trans (hD.s n)

/-- One head's output in one block. -/
theorem result_apply {x : Fin 32 → Head Ideal} {b : Fin 33} (h : Holds x D b) (n : Fin 32) (a : Fin 128) (d : Fin 64) :
    result (x n) (ix2 a d) = (D.o n (row b a) d : EReal) := by
  have e : result (x n) (ix2 a d) = ∑ j : Fin 384, ((x n).weight (ix2 a j) : EReal) * (x n).v (ix2 j d) := by
    pointwise [result]
  rw [e, Data.o, ← sum_slots' b a (fun c => D.p n (row b a) c * D.v (kv n) c d) fun c hc => by rw [D.p_of_not hc, zero_mul]]
  refine Eq.trans (Finset.sum_congr rfl fun j _ => ?_) (coe_sum Finset.univ _).symm
  rw [h.weight n a j, (h n).v j d, ← EReal.coe_mul]
  congr 1
  by_cases hs : Seen b a j
  · rw [if_pos hs, if_pos hs]
  · rw [if_neg hs, if_neg hs, zero_mul]

/-- A block of pieces, read at a head's column. -/
theorem canon_list (f : Fin 32 → Vec Ideal S128x64 .bf16) (n : Fin 32) (j : S128x64.Idx) (l : List (Fin 32)) (hn : n ∈ l) :
    View.canon (l.map fun n => (⟨colQ n, f n⟩ : View.Piece (Elt Ideal) S128x2048 .bf16)) ((colQ n).emb j) = f n j := by
  induction l with
  | nil => cases hn
  | cons k l ih =>
    by_cases e : k = n
    · subst e; exact View.canon_cons_emb (colQ k) (f k) (l.map fun n => (⟨colQ n, f n⟩ : View.Piece (Elt Ideal) S128x2048 .bf16)) j
    · have h1 := View.canon_cons_of_not_mem (⟨colQ k, f k⟩ : View.Piece (Elt Ideal) S128x2048 .bf16)
        (l.map fun n => (⟨colQ n, f n⟩ : View.Piece (Elt Ideal) S128x2048 .bf16)) (not_mem_colQ k n e j)
      rw [List.map_cons, h1, ih ((List.mem_cons.1 hn).resolve_left fun h => e h.symm)]

theorem canon_apply (f : Fin 32 → Vec Ideal S128x64 .bf16) (n : Fin 32) (a : Fin 128) (d : Fin 64) :
    View.canon (pieces f) (ix2 a (cQ n d)) = f n (ix2 a d) := by
  have e : (colQ n).emb (ix2 a d) = ix2 a (cQ n d) := by
    funext b; apply Fin.ext
    fin_cases b
    · show 0 + 1 * a.val = a.val; omega
    · show 64 * n.val + 1 * d.val = 64 * n.val + d.val; omega
  have := canon_list f n (ix2 a d) (List.finRange 32).reverse (List.mem_reverse.2 (List.mem_finRange n))
  rw [e] at this
  exact this

/-- The array after the last point is the attention's output. -/
theorem final8 (hD : Numbers3 (m ((c.tc : Thread nD τ).loc main_arg0)) (m ((c.tc : Thread nD τ).loc main_arg1)) (m ((c.tc : Thread nD τ).loc main_arg2)) D) :
    (dats m 0 c).arrAt 8 cfg0.N = arrO D := by
  refine (dats m 0 c).arrAt_eq_of_covers 8 _ (by decide +kernel) fun t hf y => ?_
  have ht : t.val < 33 := lt_of_lt_of_eq t.isLt N_0
  have a0 : ((cfg0.win 8).blk t).view.emb y 0 = row ⟨t.val, ht⟩ (y 0) := Fin.ext (by
    have := (at8 t).1
    show (((cfg0.win 8).blk t).view.emb y 0).val = 128 * t.val + (y 0).val
    blk_simp [this]; omega)
  have a1 : ((cfg0.win 8).blk t).view.emb y 1 = y 1 := Fin.ext (by
    have := (at8 t).2
    blk_simp [this])
  have e : arrO D (((cfg0.win 8).blk t).view.emb y) = (D.o (hQ (y 1)) (row ⟨t.val, ht⟩ (y 0)) (laneQ (y 1)) : EReal) := by
    show ((D.o (hQ (((cfg0.win 8).blk t).view.emb y 1)) (((cfg0.win 8).blk t).view.emb y 0) (laneQ (((cfg0.win 8).blk t).view.emb y 1)) : ℝ) : EReal) = _
    rw [a0, a1]
  refine (congrFun ((after0_8 m c t).trans (outs c m t)) y).trans (Eq.trans ?_ e.symm)
  exact at_cQ _ (fun n a d => D.o n (row ⟨t.val, ht⟩ a) d) (fun n a d => (canon_apply _ n a d).trans (result_apply (holds hD t ⟨t.val, ht⟩ rfl) n a d)) y

end Cert.AttnFIdeal.Fwd

end
-- ==== Proof.AttnF.Ref.lean ====
module

public import proofs.«01_k».proof.Proof.Gen.AttnFRefIdeal.Read
public import proofs.«01_k».proof.Proof.AttnF.Value
public import proofs.«01_k».proof.Proof.Attention.RefReal

/-! The reference's result is the attention's output, when the arguments are numbers. -/

@[expose] public section

set_option maxRecDepth 16384

noncomputable section

namespace Cert.AttnFRefIdeal.Fwd

open Idealize.ShloMosaic Idealize.ShloMosaic.Pointwise Idealize.ShloMosaic.TcCoe Idealize.SL.Sem
open Cert.AttnFRefIdeal Cert.AttnFRefIdeal.Gen Cert.AttnFRefIdeal.Read Cert.Attention
open Cert.AttnIdeal.Bwd (coe_sum hQ laneQ)
open Cert.RefIdeal.Bwd (hq eq' qh_hq rows v_at)

variable {x0 : (⟨S4224x2304, .bf16⟩ : BufTy).Contents (Elt Ideal)} {x1 : (⟨S4224x14848, .bf16⟩ : BufTy).Contents (Elt Ideal)}
  {x2 : (⟨S1x32, .f32⟩ : BufTy).Contents (Elt Ideal)} {D : Data}

/-- The softmax is the one that the gradient's reference differentiates. -/
theorem softmax_eq (x0 : (⟨S4224x2304, .bf16⟩ : BufTy).Contents (Elt Ideal)) (x2 : (⟨S1x32, .f32⟩ : BufTy).Contents (Elt Ideal)) :
    val_main_v45 (F := Ideal) x0 x2 = Cert.RefIdeal.Read.val_main_v62 (F := Ideal) x0 x2 := rfl

theorem out_at (hD : Cert.AttnFIdeal.Fwd.Numbers3 x0 x1 x2 D) (r : Fin 4224) (y : Fin 2048) :
    (val_main_v49 (F := Ideal) x0 x1 x2 (ix2 r y) : EReal) = (D.o (hQ y) r (laneQ y) : EReal) := by
  have e : (val_main_v49 (F := Ideal) x0 x1 x2 (ix2 r y) : EReal) = ∑ c : Fin 4224,
      (x1 (ix2 c (⟨2304 + ((hq y).val * 64 + (laneQ y).val), by have := (hq y).isLt; have := (laneQ y).isLt; omega⟩ : Fin 14848)) : EReal)
        * val_main_v45 (F := Ideal) x0 x2 (ix4 (hq y) (eq' y) r c) := by
    pointwise [val_main_v49, val_main_v48, val_main_v47, val_main_v46, val_main_v8, val_main_v5, val_main_v4]
    rfl
  rw [e, softmax_eq]
  refine (Fin.sum_fin_congr fun c => ?_).trans (coe_sum Finset.univ _).symm
  rw [v_at hD, (rows hD (hq y) (eq' y) r).1 c, ← EReal.coe_mul, ← qh_hq, kv_qh, mul_comm]

end Cert.AttnFRefIdeal.Fwd

end
-- ==== Proof.AttnF.Claims.lean ====
module

public import proofs.«01_k».proof.Defs
public import proofs.«01_k».proof.Proof.Attention.Pre
public import proofs.«01_k».proof.Proof.AttnF.Ref
public import proofs.«01_k».proof.Proof.Gen.AttnFRefIdeal.Run
public import proofs.«01_k».proof.Pre_finite_attn

/-! Where the arguments are numbers, the attention's kernel and its reference compute the same array. -/

@[expose] public section

set_option maxRecDepth 16384

noncomputable section

namespace Cert.Pre_finite_attn

open Idealize.ShloMosaic Idealize.ShloMosaic.Pointwise Idealize.ShloMosaic.TcCoe Idealize.SL.Sem
open Cert.Attention Cert.AttnFIdeal.Fwd

instance holdsFacts : Cert.Pre_finite_attn.Facts where
  bitsLt_bf16_f32 := by decide
  bcast_S_S4224x2304 := by decide
  slices_S4224x14848_S4224x256_0_2304 := by decide
  bcast_S_S4224x256 := by decide
  bcast_S_S1x32 := by decide

variable (x0 : FVec Ideal S4224x2304 .bf16) (x1 : FVec Ideal S4224x14848 .bf16) (x2 : FVec Ideal S1x32 .f32)

/-- Where the precondition holds, the queries and keys are numbers; -/
theorem fn0 (h : (fn (F := Ideal) x0 x1 x2).1 = fun _ => 1#1) (r : Fin 4224) (y : Fin 2304) : (x0 (ix2 r y) : EReal) = ((x0 (ix2 r y) : EReal).toReal : EReal) := by
  refine Cert.Pre_finite.number _ (Eq.trans (Eq.symm ?_) (congrFun h (ix2 r y)))
  pointwise [fn]
  rfl
/-- so are the values, -/
theorem fn1 (h : (fn (F := Ideal) x0 x1 x2).2.1 = fun _ => 1#1) (r : Fin 4224) (y : Fin 256) :
    (x1 (ix2 r (⟨2304 + y.val, by omega⟩ : Fin 14848)) : EReal) = ((x1 (ix2 r (⟨2304 + y.val, by omega⟩ : Fin 14848)) : EReal).toReal : EReal) := by
  refine Cert.Pre_finite.number _ (Eq.trans (Eq.symm ?_) (congrFun h (ix2 r y)))
  pointwise [fn]
  rfl
/-- and the sinks. -/
theorem fn2 (h : (fn (F := Ideal) x0 x1 x2).2.2 = fun _ => 1#1) (n : Fin 32) : (x2 (ix2 0 n) : EReal) = ((x2 (ix2 0 n) : EReal).toReal : EReal) := by
  refine Cert.Pre_finite.number _ (Eq.trans (Eq.symm ?_) (congrFun h (ix2 0 n)))
  pointwise [fn]
  rfl

/-- The numbers that the arguments hold. -/
theorem numbers (h0 : (fn (F := Ideal) x0 x1 x2).1 = fun _ => 1#1) (h1 : (fn (F := Ideal) x0 x1 x2).2.1 = fun _ => 1#1)
    (h2 : (fn (F := Ideal) x0 x1 x2).2.2 = fun _ => 1#1) : Numbers3 x0 x1 x2 (Cert.Pre_finite.data x0 x1 x2 (asGrad x0)) where
  q n r d := fn0 x0 x1 x2 h0 r _
  k h r d := fn0 x0 x1 x2 h0 r _
  v h r d := fn1 x0 x1 x2 h1 r (⟨64 * h.val + d.val, by omega⟩ : Fin 256)
  g n r d := fn0 x0 x1 x2 h0 r _
  s n := fn2 x0 x1 x2 h2 n

end Cert.Pre_finite_attn

namespace Cert.AttnF.Claims

open Idealize.ShloMosaic Idealize.ShloMosaic.TcCoe Idealize.ShloMosaic.Pointwise Idealize.SL.Sem
open Cert.Attention Cert.AttnFIdeal.Fwd

/-- The attention: the kernel and the reference compute the same array. -/
theorem eqAttnF : Cert.algebraic_AttnFIdeal_AttnFRefIdeal_pre_finite_attn := fun m g m' g' hp h => by
  obtain ⟨D, hD⟩ : ∃ D : Dev Cert.AttnFIdeal.nD → Data, ∀ c : Dev Cert.AttnFIdeal.nD, Numbers3 (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2)) (D c) :=
    ⟨fun c => _, fun c => Cert.Pre_finite_attn.numbers _ _ _ (hp c).1 (hp c).2.1 (hp c).2.2⟩
  refine ⟨fun c => arrO (D c), ?_, ?_⟩
  · exact (θ_run Cert.AttnFIdeal.defs _ _).mono (fun r hr c => ⟨(hr c).1.trans (final8 (hD c)), (hr c).2⟩)
      (Cert.AttnFIdeal.Value.run_blocks m g)
  · refine (θ_run Cert.AttnFRefIdeal.defs _ _).mono (fun r hr c => ⟨(hr c).1.trans ((Cert.AttnFRefIdeal.Read.val_main_v49_eq m' c).trans ?_), (hr c).2⟩)
      (Cert.AttnFRefIdeal.Value.run m' g')
    rw [(h c).1, (h c).2.1, (h c).2.2]
    funext i
    exact (congrArg _ (Cert.AttnIdeal.Bwd.ix2_eta i).symm).trans (Cert.AttnFRefIdeal.Fwd.out_at (hD c) (i 0) (i 1))

end Cert.AttnF.Claims

end
-- ==== Proof.Conv.Rows.lean ====
module

public import Idealize.ShloMosaic.Lib.Pipeline.ValueKit
public import Idealize.ShloMosaic.Lib.Pipeline.FrameBody
public import Idealize.ShloMosaic.Lib.Pipeline.RowLoads
public import Idealize.ShloMosaic.Lib.Pointwise

/-! Rows of a buffer that two stores fill, one below the other. -/

@[expose] public section

noncomputable section

namespace Cert.Conv

open Idealize.ShloMosaic Idealize.ShloMosaic.TcCoe Idealize.SL.Sem

variable {sig : RefSig} {κ : Kind} {sp : Space} {e : EltTy} {Val : EltTy → Type} [∀ e, Nonempty (Val e)]

/-- A load of `k` rows from row `o` on, from a buffer whose first `a` rows and last `b` rows were stored as the rows
`0 …` and `a …` of one function `G`, reads the rows `o …` of `G`. -/
theorem load_rows {a b k m n : ℕ} (v : View sig κ sp (⟨2, ![m, n]⟩ : Shape) e) (o : ℕ) (hm : a + b = m)
    (P : (⟨2, ![b, n]⟩ : Shape).Idx → Val e) (Q : (⟨2, ![a, n]⟩ : Shape).Idx → Val e) (G : ℕ → Fin n → Val e)
    (hP : ∀ y, P y = G (a + (y 0).val) (y 1)) (hQ : ∀ y, Q y = G (y 0).val (y 1))
    (inbP : ∀ x, (![a, 0] : Fin 2 → ℕ) x + (⟨2, ![b, n]⟩ : Shape).size x ≤ (⟨2, ![m, n]⟩ : Shape).size x)
    (inbQ : ∀ x, (![0, 0] : Fin 2 → ℕ) x + (⟨2, ![a, n]⟩ : Shape).size x ≤ (⟨2, ![m, n]⟩ : Shape).size x)
    (inb : ∀ x, (![o, 0] : Fin 2 → ℕ) x + (⟨2, ![k, n]⟩ : Shape).size x ≤ (⟨2, ![m, n]⟩ : Shape).size x)
    (y : (⟨2, ![k, n]⟩ : Shape).Idx) :
    v.readCov [(⟨Rect.unit (s := (⟨2, ![m, n]⟩ : Shape)) ![a, 0] (⟨2, ![b, n]⟩ : Shape).size inbP, P⟩ : View.Piece Val (⟨2, ![m, n]⟩ : Shape) e),
        (⟨Rect.unit (s := (⟨2, ![m, n]⟩ : Shape)) ![0, 0] (⟨2, ![a, n]⟩ : Shape).size inbQ, Q⟩ : View.Piece Val (⟨2, ![m, n]⟩ : Shape) e)]
        (Rect.unit (s := (⟨2, ![m, n]⟩ : Shape)) ![o, 0] (⟨2, ![k, n]⟩ : Shape).size inb).toLoadRect y
      = G (o + (y 0).val) (y 1) := by
  have hk : (y 0).val < k := (y 0).isLt
  have hn : (y 1).val < n := (y 1).isLt
  have ho : o + k ≤ m := inb 0
  have hidx : ∀ x, ((Rect.unit (s := (⟨2, ![m, n]⟩ : Shape)) ![o, 0] (⟨2, ![k, n]⟩ : Shape).size inb).toLoadRect.idx y x).val
      = (![o, 0] : Fin 2 → ℕ) x + (y x).val := by
    intro x
    rw [LoadRect.idx_apply]
    simp
  rw [View.readCov_eq_canon']
  show View.canon _ _ = _
  generalize (Rect.unit (s := (⟨2, ![m, n]⟩ : Shape)) ![o, 0] (⟨2, ![k, n]⟩ : Shape).size inb).toLoadRect.idx y = w at hidx
  have w0 : (w 0).val = o + (y 0).val := hidx 0
  have w1 : (w 1).val = (y 1).val := (hidx 1).trans (Nat.zero_add _)
  by_cases h : a ≤ o + (y 0).val
  · have he : w = (Rect.unit (s := (⟨2, ![m, n]⟩ : Shape)) ![a, 0] (⟨2, ![b, n]⟩ : Shape).size inbP).emb
        (ix2 (⟨o + (y 0).val - a, by omega⟩ : Fin b) (y 1)) := by
      funext x
      refine Fin.ext ?_
      rw [Rect.emb_apply]
      fin_cases x
      · show (w 0).val = a + 1 * (o + (y 0).val - a)
        omega
      · show (w 1).val = 0 + 1 * (y 1).val
        omega
    rw [he, View.canon_cons_emb, hP]
    show G (a + (o + (y 0).val - a)) (y 1) = _
    rw [Nat.add_sub_cancel' h]
  · rw [View.canon_cons_of_not_mem]
    · have he : w = (Rect.unit (s := (⟨2, ![m, n]⟩ : Shape)) ![0, 0] (⟨2, ![a, n]⟩ : Shape).size inbQ).emb
          (ix2 (⟨o + (y 0).val, by omega⟩ : Fin a) (y 1)) := by
        funext x
        refine Fin.ext ?_
        rw [Rect.emb_apply]
        fin_cases x
        · show (w 0).val = 0 + 1 * (o + (y 0).val)
          omega
        · show (w 1).val = 0 + 1 * (y 1).val
          omega
      rw [he, View.canon_cons_emb, hQ]
      rfl
    · intro hmem
      have := ((Rect.mem_set_unit (inb := inbP)).mp hmem 0).1
      have : a ≤ (w 0).val := this
      omega

/-- An index of row `k` is one of the rectangle that is that row. -/
theorem row_emb {m n k : ℕ} (inb : ∀ a, (![k, 0] : Fin 2 → ℕ) a + (⟨2, ![1, n]⟩ : Shape).size a ≤ (⟨2, ![m, n]⟩ : Shape).size a)
    (y : (⟨2, ![m, n]⟩ : Shape).Idx) (h : (y 0).val = k) :
    y = (Rect.unit (s := (⟨2, ![m, n]⟩ : Shape)) ![k, 0] (⟨2, ![1, n]⟩ : Shape).size inb).emb (ix2 (0 : Fin 1) (y 1)) := by
  funext a
  refine Fin.ext ?_
  rw [Rect.emb_apply]
  fin_cases a
  · show (y 0).val = k + 1 * 0
    omega
  · show (y 1).val = 0 + 1 * (y 1).val
    omega

/-- An index of another row is not. -/
theorem row_not_mem {m n k : ℕ} (inb : ∀ a, (![k, 0] : Fin 2 → ℕ) a + (⟨2, ![1, n]⟩ : Shape).size a ≤ (⟨2, ![m, n]⟩ : Shape).size a)
    (y : (⟨2, ![m, n]⟩ : Shape).Idx) (h : ¬ (y 0).val = k) :
    y ∉ (Rect.unit (s := (⟨2, ![m, n]⟩ : Shape)) ![k, 0] (⟨2, ![1, n]⟩ : Shape).size inb).set := by
  intro hm
  have h1 : k ≤ (y 0).val ∧ (y 0).val < k + 1 := (Rect.mem_set_unit (inb := inb)).mp hm 0
  omega

/-- What a list of stores left, the newest of them a row. -/
theorem row_canon {m n k : ℕ} (inb : ∀ a, (![k, 0] : Fin 2 → ℕ) a + (⟨2, ![1, n]⟩ : Shape).size a ≤ (⟨2, ![m, n]⟩ : Shape).size a)
    (x : (⟨2, ![1, n]⟩ : Shape).Idx → Val e) (L : List (View.Piece Val (⟨2, ![m, n]⟩ : Shape) e)) (y : (⟨2, ![m, n]⟩ : Shape).Idx) :
    View.canon ((⟨(Rect.unit (s := (⟨2, ![m, n]⟩ : Shape)) ![k, 0] (⟨2, ![1, n]⟩ : Shape).size inb), x⟩ : View.Piece Val (⟨2, ![m, n]⟩ : Shape) e) :: L) y
      = if (y 0).val = k then x (ix2 (0 : Fin 1) (y 1)) else View.canon L y := by
  by_cases h : (y 0).val = k
  · rw [if_pos h]
    exact (congrArg _ (row_emb inb y h)).trans (View.canon_cons_emb
      (Rect.unit (s := (⟨2, ![m, n]⟩ : Shape)) ![k, 0] (⟨2, ![1, n]⟩ : Shape).size inb) x L (ix2 (0 : Fin 1) (y 1)))
  · rw [if_neg h]
    exact View.canon_cons_of_not_mem _ L (row_not_mem inb y h)

/-- The same over contents from before. -/
theorem row_read {m n k : ℕ} (v : View sig κ sp (⟨2, ![m, n]⟩ : Shape) e) (f : v.ty.Contents Val)
    (inb : ∀ a, (![k, 0] : Fin 2 → ℕ) a + (⟨2, ![1, n]⟩ : Shape).size a ≤ (⟨2, ![m, n]⟩ : Shape).size a)
    (x : (⟨2, ![1, n]⟩ : Shape).Idx → Val e) (L : List (View.Piece Val (⟨2, ![m, n]⟩ : Shape) e)) (y : (⟨2, ![m, n]⟩ : Shape).Idx) :
    v.read Val (v.writes Val f ((⟨(Rect.unit (s := (⟨2, ![m, n]⟩ : Shape)) ![k, 0] (⟨2, ![1, n]⟩ : Shape).size inb), x⟩ : View.Piece Val (⟨2, ![m, n]⟩ : Shape) e) :: L)) y
      = if (y 0).val = k then x (ix2 (0 : Fin 1) (y 1)) else v.read Val (v.writes Val f L) y := by
  by_cases h : (y 0).val = k
  · rw [if_pos h]
    exact (congrArg _ (row_emb inb y h)).trans (View.read_writes_cons_emb v f
      (Rect.unit (s := (⟨2, ![m, n]⟩ : Shape)) ![k, 0] (⟨2, ![1, n]⟩ : Shape).size inb) x L (ix2 (0 : Fin 1) (y 1)))
  · rw [if_neg h, View.writes_cons, View.read_slice_write_of_not_mem _ _ _ _
      (by rw [Rect.map_emb_univ]; exact row_not_mem inb y h)]

/-- A row's load does not see the store of another row. -/
theorem row_load {m n k j : ℕ} (v : View sig κ sp (⟨2, ![m, n]⟩ : Shape) e) (hk : k ≠ j)
    (inb : ∀ a, (![k, 0] : Fin 2 → ℕ) a + (⟨2, ![1, n]⟩ : Shape).size a ≤ (⟨2, ![m, n]⟩ : Shape).size a)
    (inb' : ∀ a, (![j, 0] : Fin 2 → ℕ) a + (⟨2, ![1, n]⟩ : Shape).size a ≤ (⟨2, ![m, n]⟩ : Shape).size a)
    (x : (⟨2, ![1, n]⟩ : Shape).Idx → Val e) (L : List (View.Piece Val (⟨2, ![m, n]⟩ : Shape) e)) :
    v.readCov ((⟨(Rect.unit (s := (⟨2, ![m, n]⟩ : Shape)) ![k, 0] (⟨2, ![1, n]⟩ : Shape).size inb), x⟩ : View.Piece Val (⟨2, ![m, n]⟩ : Shape) e) :: L) (Rect.unit (s := (⟨2, ![m, n]⟩ : Shape)) ![j, 0] (⟨2, ![1, n]⟩ : Shape).size inb').toLoadRect
      = v.readCov L (Rect.unit (s := (⟨2, ![m, n]⟩ : Shape)) ![j, 0] (⟨2, ![1, n]⟩ : Shape).size inb').toLoadRect :=
  View.readCov_cons_of_rows_disjoint v k j (by omega) x L inb inb'

/-- A load after the store of a whole array of one value. -/
theorem const_load {m n k j : ℕ} (v : View sig κ sp (⟨2, ![m, n]⟩ : Shape) e) (z : Val e)
    (inb : ∀ a, (![0, 0] : Fin 2 → ℕ) a + (⟨2, ![m, n]⟩ : Shape).size a ≤ (⟨2, ![m, n]⟩ : Shape).size a)
    (inb' : ∀ a, (![j, 0] : Fin 2 → ℕ) a + (⟨2, ![k, n]⟩ : Shape).size a ≤ (⟨2, ![m, n]⟩ : Shape).size a)
    (x : (⟨2, ![m, n]⟩ : Shape).Idx → Val e) (hx : ∀ y, x y = z) (y : (⟨2, ![k, n]⟩ : Shape).Idx) :
    v.readCov [(⟨(Rect.unit (s := (⟨2, ![m, n]⟩ : Shape)) ![0, 0] (⟨2, ![m, n]⟩ : Shape).size inb), x⟩ : View.Piece Val (⟨2, ![m, n]⟩ : Shape) e)]
        (Rect.unit (s := (⟨2, ![m, n]⟩ : Shape)) ![j, 0] (⟨2, ![k, n]⟩ : Shape).size inb').toLoadRect y = z := by
  rw [View.readCov_eq_canon', View.canon_cons_unit_zero (by funext a; fin_cases a <;> rfl) inb]
  exact hx _

end Cert.Conv
end
-- ==== Proof.Conv.Spec.lean ====
module

public import Idealize.ShloMosaic.Lib.Pipeline.ValueKit
public import Idealize.ShloMosaic.Lib.Pointwise

/-! The causal convolution of each channel with its 31 taps, and its derivative, as sums. -/

@[expose] public section

noncomputable section

namespace Cert.Conv

open Idealize.ShloMosaic Idealize.ShloMosaic.TcCoe Idealize.SL.Sem

/-- The gated linear unit: the row `r` of channel `q`. -/
def glu (z : (⟨2, ![4224, 14848]⟩ : Shape).Idx → EReal) (r : Fin 4224) (q : Fin 2048) : EReal :=
  z (ix2 r ⟨2560 + q.val, by omega⟩) * Ideal.logistic (z (ix2 r ⟨4608 + q.val, by omega⟩))

/-- The same rows `32` later, after 32 rows of zeros. -/
def late (z : (⟨2, ![4224, 14848]⟩ : Shape).Idx → EReal) (p : ℕ) (q : Fin 2048) : EReal :=
  if h : 32 ≤ p ∧ p < 4256 then glu z ⟨p - 32, by omega⟩ q else 0

theorem late_of_lt (z : (⟨2, ![4224, 14848]⟩ : Shape).Idx → EReal) (p : ℕ) (q : Fin 2048) (h : p < 32) : late z p q = 0 :=
  dif_neg (by omega)

theorem late_eq (z : (⟨2, ![4224, 14848]⟩ : Shape).Idx → EReal) (p : ℕ) (q : Fin 2048) (r : Fin 4224) (h : p = r.val + 32) :
    late z p q = glu z r q := by
  subst h
  unfold late
  rw [dif_pos ⟨by omega, by omega⟩]
  congr 1

/-- The rows of an array, and zeros below them. -/
def below (d : (⟨2, ![4224, 2048]⟩ : Shape).Idx → EReal) (p : ℕ) (q : Fin 2048) : EReal :=
  if h : p < 4224 then d (ix2 ⟨p, h⟩ q) else 0

theorem below_of_le (d : (⟨2, ![4224, 2048]⟩ : Shape).Idx → EReal) (p : ℕ) (q : Fin 2048) (h : 4224 ≤ p) : below d p q = 0 :=
  dif_neg (by omega)

theorem below_eq (d : (⟨2, ![4224, 2048]⟩ : Shape).Idx → EReal) (p : ℕ) (q : Fin 2048) (r : Fin 4224) (h : p = r.val) :
    below d p q = d (ix2 r q) := by
  subst h
  unfold below
  rw [dif_pos r.isLt]

/-- Tap `j` of channel `q`. -/
def tap (w : (⟨2, ![31, 2048]⟩ : Shape).Idx → EReal) (j : ℕ) (q : Fin 2048) : EReal :=
  if h : j < 31 then w (ix2 ⟨j, h⟩ q) else 0

theorem tap_eq (w : (⟨2, ![31, 2048]⟩ : Shape).Idx → EReal) (j : ℕ) (q : Fin 2048) (r : Fin 31) (h : j = r.val) :
    tap w j q = w (ix2 r q) := by
  subst h
  unfold tap
  rw [dif_pos r.isLt]

/-- The convolution: row `r` of the output is the bias and the 31 rows that end at `r`, each under its tap. -/
def forward (z : (⟨2, ![4224, 14848]⟩ : Shape).Idx → EReal) (w : (⟨2, ![31, 2048]⟩ : Shape).Idx → EReal)
    (b : (⟨2, ![1, 2048]⟩ : Shape).Idx → EReal) : (⟨2, ![4224, 2048]⟩ : Shape).Idx → EReal := fun i =>
  b (ix2 (0 : Fin 1) (i 1)) + ∑ j ∈ Finset.range 31, tap w j (i 1) * late z ((i 0).val + 2 + j) (i 1)

/-- The gradient of the convolution's input: row `r` goes into the 31 rows from `r` on. -/
def dinput (d : (⟨2, ![4224, 2048]⟩ : Shape).Idx → EReal) (w : (⟨2, ![31, 2048]⟩ : Shape).Idx → EReal) :
    (⟨2, ![4224, 2048]⟩ : Shape).Idx → EReal := fun i =>
  ∑ j ∈ Finset.range 31, tap w j (i 1) * below d ((i 0).val + (30 - j)) (i 1)

/-- The gradient of tap `j`: over all rows, the gradient of the row times the row that the tap met there. -/
def dtap (d : (⟨2, ![4224, 2048]⟩ : Shape).Idx → EReal) (z : (⟨2, ![4224, 14848]⟩ : Shape).Idx → EReal) (j : ℕ)
    (q : Fin 2048) : EReal :=
  ∑ r : Fin 4224, d (ix2 r q) * late z (r.val + 2 + j) q

/-- The gradient of the bias. -/
def dbias (d : (⟨2, ![4224, 2048]⟩ : Shape).Idx → EReal) (q : Fin 2048) : EReal := ∑ r : Fin 4224, d (ix2 r q)

end Cert.Conv
end
-- ==== Proof.Conv.Forward.lean ====
module

public import proofs.«01_k».proof.Proof.Gen.ConvFIdeal.Value
public import proofs.«01_k».proof.Proof.Conv.Rows
public import proofs.«01_k».proof.Proof.Conv.Spec

/-! The convolution's forward kernel: each grid point gates its rows and the 32 rows before them into one buffer, and
adds the 31 windows of that buffer under their taps. -/

@[expose] public section

set_option maxRecDepth 16384

noncomputable section

namespace Cert.ConvFIdeal.Conv

open Cert.ConvFIdeal Cert.ConvFIdeal.Gen Idealize.ShloMosaic Idealize.ShloMosaic.TcCoe Idealize.SL.Sem
open Idealize.ShloMosaic.Pointwise Cert.Conv

/-- What the point puts into the buffer's own rows. -/
theorem pay2 (a g : Vec Ideal S384x512 .bf16) (j : S384x512.Idx) :
    k0_pay2 (F := Ideal) a g j = a j * Ideal.logistic (g j) := by
  pointwise [k0_pay2]

/-- What the point puts into the rows before them: the first point, which has none, puts zeros. -/
theorem pay1 (i : grid0.Coords) (a g : Vec Ideal S32x512 .bf16) (j : S32x512.Idx) :
    k0_pay1 (F := Ideal) i a g j = a j * Ideal.logistic (g j) * (if (i 0).val = 0 then 0 else 1) := by
  have h : ∀ n : Fin 11, (Scalar.extui (Scalar.cmpi .sgt (BitVec.ofNat 32 n.val) 0#32) : BitVec 32).toInt
      = if n.val = 0 then 0 else 1 := by decide
  pointwise [k0_pay1]
  refine congrArg₂ (· * ·) rfl ?_
  rw [h (i 0)]
  by_cases h0 : (i 0).val = 0
  · rw [if_pos h0, if_pos h0]
    norm_num
  · rw [if_neg h0, if_neg h0]
    norm_num

/-- Where each block lies. -/
theorem idx : ∀ t : Fin cfg0.N, (win0_0.index t 0 = t.val / 4 ∧ win0_0.index t 1 = 5 + t.val % 4)
    ∧ (win0_1.index t 0 = t.val / 4 ∧ win0_1.index t 1 = 9 + t.val % 4)
    ∧ (win0_2.index t 0 = t.val / 4 * 12 - 1 ∧ win0_2.index t 1 = 5 + t.val % 4)
    ∧ (win0_3.index t 0 = t.val / 4 * 12 - 1 ∧ win0_3.index t 1 = 9 + t.val % 4)
    ∧ (win0_4.index t 0 = 0 ∧ win0_4.index t 1 = t.val % 4) ∧ (win0_5.index t 0 = 0 ∧ win0_5.index t 1 = t.val % 4)
    ∧ (win0_6.index t 0 = t.val / 4 ∧ win0_6.index t 1 = t.val % 4) ∧ (grid0.coords t 0).val = t.val / 4 :=
  (by decide +kernel : ∀ t : Fin grid0.N, (win0_0.index t 0 = t.val / 4 ∧ win0_0.index t 1 = 5 + t.val % 4)
    ∧ (win0_1.index t 0 = t.val / 4 ∧ win0_1.index t 1 = 9 + t.val % 4)
    ∧ (win0_2.index t 0 = t.val / 4 * 12 - 1 ∧ win0_2.index t 1 = 5 + t.val % 4)
    ∧ (win0_3.index t 0 = t.val / 4 * 12 - 1 ∧ win0_3.index t 1 = 9 + t.val % 4)
    ∧ (win0_4.index t 0 = 0 ∧ win0_4.index t 1 = t.val % 4) ∧ (win0_5.index t 0 = 0 ∧ win0_5.index t 1 = t.val % 4)
    ∧ (win0_6.index t 0 = t.val / 4 ∧ win0_6.index t 1 = t.val % 4) ∧ (grid0.coords t 0).val = t.val / 4)

variable (m : (ℓ : Loc nD τ sig) → Buf (Elt Ideal) ℓ)

/-- The taps as the kernel gets them: a row of zeros below. -/
theorem taps (c : Dev nD) (j : S32x2048.Idx) :
    V m c main_v1 j = tap (m ((c : Thread nD τ).loc main_arg1)) (j 0).val (j 1) := by
  have h : V m c main_v1 = concatenate S32x2048 0 [⟨S31x2048, m ((c : Thread nD τ).loc main_arg1)⟩,
      ⟨S1x2048, broadcastInDim S1x2048 ![] bcast_S_S1x2048 (constant (F := Ideal) S_ .f32 0x00000000#32)⟩] concatenates_S31x2048_S1x2048_S32x2048_d0 := by
    after_results
    rfl
  rw [h]
  unfold tap
  pointwise

theorem blk0 (c : Dev nD) (t : Fin cfg0.N) (y : S384x512.Idx) (j : S4224x14848.Idx)
    (j0 : (j 0).val = t.val / 4 * 384 + (y 0).val) (j1 : (j 1).val = (5 + t.val % 4) * 512 + (y 1).val) :
    iblk m c 0 t y = m ((c : Thread nD τ).loc main_arg0) j := by
  obtain ⟨⟨a0, a1⟩, -⟩ := idx t
  rw [← V_main_arg0 m c]
  blk_ext [iblk, V, a0, a1, j0, j1]
theorem blk1 (c : Dev nD) (t : Fin cfg0.N) (y : S384x512.Idx) (j : S4224x14848.Idx)
    (j0 : (j 0).val = t.val / 4 * 384 + (y 0).val) (j1 : (j 1).val = (9 + t.val % 4) * 512 + (y 1).val) :
    iblk m c 1 t y = m ((c : Thread nD τ).loc main_arg0) j := by
  obtain ⟨-, ⟨a0, a1⟩, -⟩ := idx t
  rw [← V_main_arg0 m c]
  blk_ext [iblk, V, a0, a1, j0, j1]
theorem blk2 (c : Dev nD) (t : Fin cfg0.N) (y : S32x512.Idx) (j : S4224x14848.Idx)
    (j0 : (j 0).val = (t.val / 4 * 12 - 1) * 32 + (y 0).val) (j1 : (j 1).val = (5 + t.val % 4) * 512 + (y 1).val) :
    iblk m c 2 t y = m ((c : Thread nD τ).loc main_arg0) j := by
  obtain ⟨-, -, ⟨a0, a1⟩, -⟩ := idx t
  rw [← V_main_arg0 m c]
  blk_ext [iblk, V, a0, a1, j0, j1]
theorem blk3 (c : Dev nD) (t : Fin cfg0.N) (y : S32x512.Idx) (j : S4224x14848.Idx)
    (j0 : (j 0).val = (t.val / 4 * 12 - 1) * 32 + (y 0).val) (j1 : (j 1).val = (9 + t.val % 4) * 512 + (y 1).val) :
    iblk m c 3 t y = m ((c : Thread nD τ).loc main_arg0) j := by
  obtain ⟨-, -, -, ⟨a0, a1⟩, -⟩ := idx t
  rw [← V_main_arg0 m c]
  blk_ext [iblk, V, a0, a1, j0, j1]
theorem blk4 (c : Dev nD) (t : Fin cfg0.N) (y : S32x512.Idx) (j : S32x2048.Idx)
    (j0 : (j 0).val = (y 0).val) (j1 : (j 1).val = t.val % 4 * 512 + (y 1).val) :
    iblk m c 4 t y = V m c main_v1 j := by
  obtain ⟨-, -, -, -, ⟨a0, a1⟩, -⟩ := idx t
  blk_ext [iblk, a0, a1, j0, j1]
theorem blk5 (c : Dev nD) (t : Fin cfg0.N) (y : S1x512.Idx) (j : S1x2048.Idx)
    (j1 : (j 1).val = t.val % 4 * 512 + (y 1).val) :
    iblk m c 5 t y = m ((c : Thread nD τ).loc main_arg2) j := by
  obtain ⟨-, -, -, -, -, ⟨a0, a1⟩, -⟩ := idx t
  rw [← V_main_arg2 m c]
  have j0 : (j 0).val = (y 0).val := by
    have h : (j 0).val < 1 := (j 0).isLt
    have h' : (y 0).val < 1 := (y 0).isLt
    omega
  blk_ext [iblk, a0, a1, j0, j1]

/-- The buffer's own rows. -/
theorem own (c : Dev nD) (t : Fin cfg0.N) (y : S384x512.Idx) (q : Fin 2048) (hq : q.val = t.val % 4 * 512 + (y 1).val) :
    k0_pay2 (F := Ideal) (iblk m c 0 t) (iblk m c 1 t) y
      = late (m ((c : Thread nD τ).loc main_arg0)) (t.val / 4 * 384 + (32 + (y 0).val)) q := by
  have hy : (y 0).val < 384 := (y 0).isLt
  have ht : t.val < 44 := t.isLt
  rw [pay2, late_eq _ _ q ⟨t.val / 4 * 384 + (y 0).val, by omega⟩ (by show _ = t.val / 4 * 384 + (y 0).val + 32; omega)]
  unfold glu
  refine congrArg₂ (· * ·) (blk0 m c t y _ rfl ?_) (congrArg Ideal.logistic (blk1 m c t y _ rfl ?_))
  · show 2560 + q.val = _
    omega
  · show 4608 + q.val = _
    omega

/-- The rows before them. -/
theorem halo (c : Dev nD) (t : Fin cfg0.N) (y : S32x512.Idx) (q : Fin 2048) (hq : q.val = t.val % 4 * 512 + (y 1).val) :
    k0_pay1 (F := Ideal) (grid0.coords t) (iblk m c 2 t) (iblk m c 3 t) y
      = late (m ((c : Thread nD τ).loc main_arg0)) (t.val / 4 * 384 + (y 0).val) q := by
  have hy : (y 0).val < 32 := (y 0).isLt
  have ht : t.val < 44 := t.isLt
  obtain ⟨-, -, -, -, -, -, -, hc⟩ := idx t
  rw [pay1, hc]
  by_cases h : t.val / 4 = 0
  · rw [if_pos h, mul_zero, late_of_lt _ _ _ (by omega)]
  · rw [if_neg h, mul_one, late_eq _ _ q ⟨t.val / 4 * 384 + (y 0).val - 32, by omega⟩
      (by show _ = t.val / 4 * 384 + (y 0).val - 32 + 32; omega)]
    unfold glu
    refine congrArg₂ (· * ·) (blk2 m c t y _ ?_ ?_) (congrArg Ideal.logistic (blk3 m c t y _ ?_ ?_))
    · show t.val / 4 * 384 + (y 0).val - 32 = _
      omega
    · show 2560 + q.val = _
      omega
    · show t.val / 4 * 384 + (y 0).val - 32 = _
      omega
    · show 4608 + q.val = _
      omega

/-- The taps' block. -/
theorem tapBlk (c : Dev nD) (t : Fin cfg0.N) (y : S32x512.Idx) (q : Fin 2048) (hq : q.val = t.val % 4 * 512 + (y 1).val) :
    iblk m c 4 t y = tap (m ((c : Thread nD τ).loc main_arg1)) (y 0).val q := by
  rw [blk4 m c t y (ix2 ⟨(y 0).val, (y 0).isLt⟩ q) rfl hq, taps]
  rfl

/-- What a grid point writes. -/
theorem point (c : Dev nD) (t : Fin cfg0.N) (y : S384x512.Idx) (e : S4224x2048.Idx)
    (k0 : (e 0).val = t.val / 4 * 384 + (y 0).val) (k1 : (e 1).val = t.val % 4 * 512 + (y 1).val) :
    outsAt0 m c t y = forward (m ((c : Thread nD τ).loc main_arg0)) (m ((c : Thread nD τ).loc main_arg1))
      (m ((c : Thread nD τ).loc main_arg2)) e := by
  have hm : t.val % 4 < 4 := Nat.mod_lt _ (by omega)
  let G : ℕ → Fin 512 → EReal := fun r q =>
    late (m ((c : Thread nD τ).loc main_arg0)) (t.val / 4 * 384 + r) ⟨t.val % 4 * 512 + q.val, by omega⟩
  have hP : ∀ y : S384x512.Idx, k0_pay2 (F := Ideal) (iblk m c 0 t) (iblk m c 1 t) y = G (32 + (y 0).val) (y 1) :=
    fun y => own m c t y _ rfl
  have hQ : ∀ y : S32x512.Idx, k0_pay1 (F := Ideal) (grid0.coords t) (iblk m c 2 t) (iblk m c 3 t) y = G (y 0).val (y 1) :=
    fun y => halo m c t y _ rfl
  unfold outsAt0
  frame_out
  pointwise [k0_pay3, k0_pay4, k0_pay5, k0_pay6, k0_pay7, k0_pay8, k0_pay9, k0_pay10, k0_pay11, k0_pay12, k0_pay13]
  generalize hp2 : k0_pay2 (F := Ideal) (iblk m c 0 t) (iblk m c 1 t) = P at hP
  generalize hp1 : k0_pay1 (F := Ideal) (grid0.coords t) (iblk m c 2 t) (iblk m c 3 t) = Q at hQ
  have L := fun o inb => load_rows (Val := Elt Ideal) (k := 384) (View.whole cc0_scratch0) o (by rfl : 32 + 384 = 416) P Q G hP hQ
    inb_S416x512_S384x512_32_0 inb_S416x512_S32x512_0_0 inb y
  have hG : ∀ o : ℕ, G (o + (y 0).val) (y 1)
      = late (m ((c : Thread nD τ).loc main_arg0)) ((e 0).val + o) (e 1) := by
    intro o
    have h0 : t.val / 4 * 384 + (o + (y 0).val) = (e 0).val + o := by omega
    have h1 : (⟨t.val % 4 * 512 + (y 1).val, by have : (y 1).val < 512 := (y 1).isLt; omega⟩ : Fin 2048) = e 1 :=
      Fin.ext k1.symm
    show late _ (t.val / 4 * 384 + (o + (y 0).val)) ⟨t.val % 4 * 512 + (y 1).val, _⟩ = _
    rw [h0, h1]
  have hT : ∀ k : Fin 32, iblk m c 4 t (ix2 k (y 1)) = tap (m ((c : Thread nD τ).loc main_arg1)) k.val (e 1) :=
    fun k => tapBlk m c t (ix2 k (y 1)) (e 1) k1
  have hB : iblk m c 5 t (ix2 (0 : Fin 1) (y 1)) = m ((c : Thread nD τ).loc main_arg2) (ix2 (0 : Fin 1) (e 1)) :=
    blk5 m c t _ (ix2 (0 : Fin 1) (e 1)) k1
  unfold forward
  simp only [add_assoc (e 0).val]
  obtain ⟨X, hX⟩ : ∃ X : ℕ → EReal, ∀ o, late (m ((c : Thread nD τ).loc main_arg0)) ((e 0).val + o) (e 1) = X o :=
    ⟨_, fun _ => rfl⟩
  obtain ⟨W, hW⟩ : ∃ W : ℕ → EReal, ∀ k, tap (m ((c : Thread nD τ).loc main_arg1)) k (e 1) = W k := ⟨_, fun _ => rfl⟩
  simp only [L, hG, hX, hB, hT, hW]
  simp only [Finset.sum_range_succ, Finset.sum_range_zero, zero_add, ← add_assoc]
  rfl

/-- The kernel's array after the run. -/
theorem final (c : Dev nD) :
    (dats m 0 c).arrAt 6 cfg0.N
      = forward (m ((c : Thread nD τ).loc main_arg0)) (m ((c : Thread nD τ).loc main_arg1))
          (m ((c : Thread nD τ).loc main_arg2)) := by
  refine (dats m 0 c).arrAt_eq_of_covers 6 _ (by decide +kernel) fun t hf y => ?_
  obtain ⟨-, -, -, -, -, -, ⟨g0, g1⟩, -⟩ := idx t
  blk_simp
  rw [after0_6]
  refine point m c t y _ ?_ ?_
  · blk_simp [g0]
  · blk_simp [g1]

end Cert.ConvFIdeal.Conv
end
-- ==== Proof.Conv.ForwardRef.lean ====
module

public import proofs.«01_k».proof.Proof.Gen.ConvFRefIdeal.Read
public import proofs.«01_k».proof.Proof.Conv.Spec

/-! What the reference of the causal convolution computes: the sum of 31 shifted products. -/

@[expose] public section

set_option maxRecDepth 16384

noncomputable section

namespace Cert.ConvFRefIdeal.Conv

open Cert.ConvFRefIdeal Cert.ConvFRefIdeal.Gen Idealize.ShloMosaic Idealize.ShloMosaic.TcCoe Idealize.SL.Sem
open Idealize.ShloMosaic.Pointwise Cert.Conv Cert.ConvFRefIdeal.Read

/-- The gated rows below 30 rows of zeros. -/
theorem padded (z : FVec Ideal S4224x14848 .bf16) (i : S4254x2048.Idx) :
    val_main_v12 (F := Ideal) z i = late z ((i 0).val + 2) (i 1) := by
  pointwise [val_main_v12, val_main_cst_1, val_main_v11, val_main_v10, val_main_v9, val_main_v8, val_main_v7, val_main_v6,
    val_main_v5, val_main_v4, val_main_v3, val_main_v2, val_main_v1, val_main_v0, val_main_cst, val_main_cst_0]
  have hi : (i 0).val < 4254 := (i 0).isLt
  by_cases h : (i 0).val < 30
  · rw [dif_pos h]
    have h' : (i 0).val + 2 < 32 := by omega
    exact (late_of_lt z _ _ h').symm
  · rw [dif_neg h, late_eq _ _ (i 1) ⟨(i 0).val - 30, by omega⟩ (by show _ = (i 0).val - 30 + 32; omega)]
    unfold glu Ideal.logistic
    have h2 : ∀ h, (⟨2560 + (2048 + (i 1).val), h⟩ : Fin 14848) = ⟨4608 + (i 1).val, by omega⟩ := fun _ => Fin.ext (by
      show 2560 + (2048 + (i 1).val) = 4608 + (i 1).val
      omega)
    rw [h2]

/-- The convolution. -/
theorem forward_ref (z : FVec Ideal S4224x14848 .bf16) (w : FVec Ideal S31x2048 .f32) (b : FVec Ideal S1x2048 .f32) :
    val_main_v232 (F := Ideal) z w b = forward z w b := by
  funext i
  pointwise [val_main_v13, val_main_v14, val_main_v15, val_main_v16, val_main_v17, val_main_v18, val_main_v19, val_main_v20,
    val_main_v21, val_main_v22, val_main_v23, val_main_v24, val_main_v25, val_main_v26, val_main_v27, val_main_v28,
    val_main_v29, val_main_v30, val_main_v31, val_main_v32, val_main_v33, val_main_v34, val_main_v35, val_main_v36,
    val_main_v37, val_main_v38, val_main_v39, val_main_v40, val_main_v41, val_main_v42, val_main_v43, val_main_v44,
    val_main_v45, val_main_v46, val_main_v47, val_main_v48, val_main_v49, val_main_v50, val_main_v51, val_main_v52,
    val_main_v53, val_main_v54, val_main_v55, val_main_v56, val_main_v57, val_main_v58, val_main_v59, val_main_v60,
    val_main_v61, val_main_v62, val_main_v63, val_main_v64, val_main_v65, val_main_v66, val_main_v67, val_main_v68,
    val_main_v69, val_main_v70, val_main_v71, val_main_v72, val_main_v73, val_main_v74, val_main_v75, val_main_v76,
    val_main_v77, val_main_v78, val_main_v79, val_main_v80, val_main_v81, val_main_v82, val_main_v83, val_main_v84,
    val_main_v85, val_main_v86, val_main_v87, val_main_v88, val_main_v89, val_main_v90, val_main_v91, val_main_v92,
    val_main_v93, val_main_v94, val_main_v95, val_main_v96, val_main_v97, val_main_v98, val_main_v99,
    val_main_v100, val_main_v101, val_main_v102, val_main_v103, val_main_v104, val_main_v105, val_main_v106,
    val_main_v107, val_main_v108, val_main_v109, val_main_v110, val_main_v111, val_main_v112, val_main_v113,
    val_main_v114, val_main_v115, val_main_v116, val_main_v117, val_main_v118, val_main_v119, val_main_v120,
    val_main_v121, val_main_v122, val_main_v123, val_main_v124, val_main_v125, val_main_v126, val_main_v127,
    val_main_v128, val_main_v129, val_main_v130, val_main_v131, val_main_v132, val_main_v133, val_main_v134,
    val_main_v135, val_main_v136, val_main_v137, val_main_v138, val_main_v139, val_main_v140, val_main_v141,
    val_main_v142, val_main_v143, val_main_v144, val_main_v145, val_main_v146, val_main_v147, val_main_v148,
    val_main_v149, val_main_v150, val_main_v151, val_main_v152, val_main_v153, val_main_v154, val_main_v155,
    val_main_v156, val_main_v157, val_main_v158, val_main_v159, val_main_v160, val_main_v161, val_main_v162,
    val_main_v163, val_main_v164, val_main_v165, val_main_v166, val_main_v167, val_main_v168, val_main_v169,
    val_main_v170, val_main_v171, val_main_v172, val_main_v173, val_main_v174, val_main_v175, val_main_v176,
    val_main_v177, val_main_v178, val_main_v179, val_main_v180, val_main_v181, val_main_v182, val_main_v183,
    val_main_v184, val_main_v185, val_main_v186, val_main_v187, val_main_v188, val_main_v189, val_main_v190,
    val_main_v191, val_main_v192, val_main_v193, val_main_v194, val_main_v195, val_main_v196, val_main_v197,
    val_main_v198, val_main_v199, val_main_v200, val_main_v201, val_main_v202, val_main_v203, val_main_v204,
    val_main_v205, val_main_v206, val_main_v207, val_main_v208, val_main_v209, val_main_v210, val_main_v211,
    val_main_v212, val_main_v213, val_main_v214, val_main_v215, val_main_v216, val_main_v217, val_main_v218,
    val_main_v219, val_main_v220, val_main_v221, val_main_v222, val_main_v223, val_main_v224, val_main_v225,
    val_main_v226, val_main_v227, val_main_v228, val_main_v229, val_main_v230, val_main_v231, val_main_v232,
    val_main_cst_2]
  obtain ⟨X, hX⟩ : ∃ X : ℕ → EReal, ∀ o, late z ((i 0).val + 2 + o) (i 1) = X o := ⟨_, fun _ => rfl⟩
  obtain ⟨W, hW⟩ : ∃ W : ℕ → EReal, ∀ k, tap w k (i 1) = W k := ⟨_, fun _ => rfl⟩
  have hw : ∀ k : Fin 31, w (ix2 k (i 1)) = W k.val := fun k => ((tap_eq w _ _ k rfl).symm).trans (hW k.val)
  have hp : ∀ (k : ℕ) (h : k + (i 0).val < 4254), val_main_v12 (F := Ideal) z (ix2 ⟨k + (i 0).val, h⟩ (i 1)) = X k :=
    fun k h => ((padded z _).trans (congrArg (late z · (i 1)) (by
      show k + (i 0).val + 2 = (i 0).val + 2 + k
      omega))).trans (hX k)
  have hp0 : ∀ h : (i 0).val < 4254, val_main_v12 (F := Ideal) z (ix2 ⟨(i 0).val, h⟩ (i 1)) = X 0 :=
    fun h => (padded z _).trans (hX 0)
  simp only [hw, hp, hp0]
  unfold forward
  simp only [hW, hX, mul_comm (W _)]
  rw [add_comm]
  simp only [Finset.sum_range_succ, Finset.sum_range_zero, zero_add]
  rfl

end Cert.ConvFRefIdeal.Conv
end
-- ==== Proof.Conv.Backward.lean ====
module

public import proofs.«01_k».proof.Proof.Gen.ConvBIdeal.Value
public import proofs.«01_k».proof.Proof.Conv.Rows
public import proofs.«01_k».proof.Proof.Conv.Spec

/-! The kernel of the convolution's gradient, one grid point: it gates its rows and the 32 rows before them into one
buffer, puts the output's gradient of its rows and of the 32 rows after them into another, adds the 31 windows of the second
under their taps, and adds to each tap's gradient the products of its rows with one window of the first. -/

@[expose] public section

set_option maxRecDepth 16384

noncomputable section

namespace Cert.ConvBIdeal.Conv

open Cert.ConvBIdeal Cert.ConvBIdeal.Gen Idealize.ShloMosaic Idealize.ShloMosaic.TcCoe Idealize.SL.Sem
open Idealize.ShloMosaic.Pointwise Cert.Conv

/-- What the point puts into the first buffer's own rows. -/
theorem pay3 (a g : Vec Ideal S384x512 .bf16) (j : S384x512.Idx) :
    k0_pay3 (F := Ideal) a g j = a j * Ideal.logistic (g j) := by
  pointwise [k0_pay3]

/-- What the point puts into the rows before them: the first point, which has none, puts zeros. -/
theorem pay2 (i : grid0.Coords) (a g : Vec Ideal S32x512 .bf16) (j : S32x512.Idx) :
    k0_pay2 (F := Ideal) i a g j = a j * Ideal.logistic (g j) * (if (i 1).val = 0 then 0 else 1) := by
  have h : ∀ n : Fin 11, (Scalar.extui (Scalar.cmpi .sgt (BitVec.ofNat 32 n.val) 0#32) : BitVec 32).toInt
      = if n.val = 0 then 0 else 1 := by decide
  pointwise [k0_pay2]
  refine congrArg₂ (· * ·) rfl ?_
  rw [h (i 1)]
  by_cases h0 : (i 1).val = 0
  · rw [if_pos h0, if_pos h0]
    norm_num
  · rw [if_neg h0, if_neg h0]
    norm_num

/-- What the point puts into the second buffer's own rows. -/
theorem pay4 (d : Vec Ideal S384x512 .f32) (j : S384x512.Idx) : k0_pay4 (F := Ideal) d j = d j := by
  pointwise [k0_pay4]

/-- What the point puts into the rows after them: the last point, which has none, puts zeros. -/
theorem pay6 (i : grid0.Coords) (d : Vec Ideal S32x512 .f32) (j : S32x512.Idx) :
    k0_pay6 (F := Ideal) (k0_pay5 (F := Ideal) i d) j = d j * (if (i 1).val < 10 then 1 else 0) := by
  have h : ∀ n : Fin 11, (Scalar.extui (Scalar.cmpi .slt (BitVec.ofNat 32 n.val) 10#32) : BitVec 32).toInt
      = if n.val < 10 then 1 else 0 := by decide
  pointwise [k0_pay6, k0_pay5]
  refine congrArg₂ (· * ·) rfl ?_
  rw [h (i 1)]
  by_cases h0 : (i 1).val < 10
  · rw [if_pos h0, if_pos h0]
    norm_num
  · rw [if_neg h0, if_neg h0]
    norm_num

/-- Where each block lies. -/
theorem idx : ∀ t : Fin cfg0.N, (win0_0.index t 0 = t.val % 11 ∧ win0_0.index t 1 = t.val / 11)
    ∧ (win0_1.index t 0 = min ((t.val % 11 + 1) * 12) 131 ∧ win0_1.index t 1 = t.val / 11)
    ∧ (win0_2.index t 0 = t.val % 11 ∧ win0_2.index t 1 = 5 + t.val / 11)
    ∧ (win0_3.index t 0 = t.val % 11 ∧ win0_3.index t 1 = 9 + t.val / 11)
    ∧ (win0_4.index t 0 = t.val % 11 * 12 - 1 ∧ win0_4.index t 1 = 5 + t.val / 11)
    ∧ (win0_5.index t 0 = t.val % 11 * 12 - 1 ∧ win0_5.index t 1 = 9 + t.val / 11)
    ∧ (win0_6.index t 0 = 0 ∧ win0_6.index t 1 = t.val / 11) ∧ (win0_7.index t 0 = t.val % 11 ∧ win0_7.index t 1 = t.val / 11)
    ∧ (win0_8.index t 0 = 0 ∧ win0_8.index t 1 = t.val / 11) ∧ (win0_9.index t 0 = 0 ∧ win0_9.index t 1 = t.val / 11)
    ∧ (grid0.coords t 1).val = t.val % 11 :=
  (by decide +kernel : ∀ t : Fin grid0.N, (win0_0.index t 0 = t.val % 11 ∧ win0_0.index t 1 = t.val / 11)
    ∧ (win0_1.index t 0 = min ((t.val % 11 + 1) * 12) 131 ∧ win0_1.index t 1 = t.val / 11)
    ∧ (win0_2.index t 0 = t.val % 11 ∧ win0_2.index t 1 = 5 + t.val / 11)
    ∧ (win0_3.index t 0 = t.val % 11 ∧ win0_3.index t 1 = 9 + t.val / 11)
    ∧ (win0_4.index t 0 = t.val % 11 * 12 - 1 ∧ win0_4.index t 1 = 5 + t.val / 11)
    ∧ (win0_5.index t 0 = t.val % 11 * 12 - 1 ∧ win0_5.index t 1 = 9 + t.val / 11)
    ∧ (win0_6.index t 0 = 0 ∧ win0_6.index t 1 = t.val / 11) ∧ (win0_7.index t 0 = t.val % 11 ∧ win0_7.index t 1 = t.val / 11)
    ∧ (win0_8.index t 0 = 0 ∧ win0_8.index t 1 = t.val / 11) ∧ (win0_9.index t 0 = 0 ∧ win0_9.index t 1 = t.val / 11)
    ∧ (grid0.coords t 1).val = t.val % 11)

variable (m : (ℓ : Loc nD τ sig) → Buf (Elt Ideal) ℓ)

/-- The taps as the kernel gets them: a row of zeros below. -/
theorem taps (c : Dev nD) (j : S32x2048.Idx) :
    V m c main_v1 j = tap (m ((c : Thread nD τ).loc main_arg2)) (j 0).val (j 1) := by
  have h : V m c main_v1 = concatenate S32x2048 0 [⟨S31x2048, m ((c : Thread nD τ).loc main_arg2)⟩,
      ⟨S1x2048, broadcastInDim S1x2048 ![] bcast_S_S1x2048 (constant (F := Ideal) S_ .f32 0x00000000#32)⟩] concatenates_S31x2048_S1x2048_S32x2048_d0 := by
    after_results
    rfl
  rw [h]
  unfold tap
  pointwise

theorem blk0 (c : Dev nD) (t : Fin cfg0.N) (y : S384x512.Idx) (j : S4224x2048.Idx)
    (j0 : (j 0).val = t.val % 11 * 384 + (y 0).val) (j1 : (j 1).val = t.val / 11 * 512 + (y 1).val) :
    iblk m c 0 t y = m ((c : Thread nD τ).loc main_arg0) j := by
  obtain ⟨⟨a0, a1⟩, -⟩ := idx t
  rw [← V_main_arg0 m c]
  blk_ext [iblk, a0, a1, j0, j1]
theorem blk1 (c : Dev nD) (t : Fin cfg0.N) (y : S32x512.Idx) (j : S4224x2048.Idx)
    (j0 : (j 0).val = min ((t.val % 11 + 1) * 12) 131 * 32 + (y 0).val) (j1 : (j 1).val = t.val / 11 * 512 + (y 1).val) :
    iblk m c 1 t y = m ((c : Thread nD τ).loc main_arg0) j := by
  obtain ⟨-, ⟨a0, a1⟩, -⟩ := idx t
  rw [← V_main_arg0 m c]
  blk_ext [iblk, a0, a1, j0, j1]
theorem blk2 (c : Dev nD) (t : Fin cfg0.N) (y : S384x512.Idx) (j : S4224x14848.Idx)
    (j0 : (j 0).val = t.val % 11 * 384 + (y 0).val) (j1 : (j 1).val = (5 + t.val / 11) * 512 + (y 1).val) :
    iblk m c 2 t y = m ((c : Thread nD τ).loc main_arg1) j := by
  obtain ⟨-, -, ⟨a0, a1⟩, -⟩ := idx t
  rw [← V_main_arg1 m c]
  blk_ext [iblk, a0, a1, j0, j1]
theorem blk3 (c : Dev nD) (t : Fin cfg0.N) (y : S384x512.Idx) (j : S4224x14848.Idx)
    (j0 : (j 0).val = t.val % 11 * 384 + (y 0).val) (j1 : (j 1).val = (9 + t.val / 11) * 512 + (y 1).val) :
    iblk m c 3 t y = m ((c : Thread nD τ).loc main_arg1) j := by
  obtain ⟨-, -, -, ⟨a0, a1⟩, -⟩ := idx t
  rw [← V_main_arg1 m c]
  blk_ext [iblk, a0, a1, j0, j1]
theorem blk4 (c : Dev nD) (t : Fin cfg0.N) (y : S32x512.Idx) (j : S4224x14848.Idx)
    (j0 : (j 0).val = (t.val % 11 * 12 - 1) * 32 + (y 0).val) (j1 : (j 1).val = (5 + t.val / 11) * 512 + (y 1).val) :
    iblk m c 4 t y = m ((c : Thread nD τ).loc main_arg1) j := by
  obtain ⟨-, -, -, -, ⟨a0, a1⟩, -⟩ := idx t
  rw [← V_main_arg1 m c]
  blk_ext [iblk, a0, a1, j0, j1]
theorem blk5 (c : Dev nD) (t : Fin cfg0.N) (y : S32x512.Idx) (j : S4224x14848.Idx)
    (j0 : (j 0).val = (t.val % 11 * 12 - 1) * 32 + (y 0).val) (j1 : (j 1).val = (9 + t.val / 11) * 512 + (y 1).val) :
    iblk m c 5 t y = m ((c : Thread nD τ).loc main_arg1) j := by
  obtain ⟨-, -, -, -, -, ⟨a0, a1⟩, -⟩ := idx t
  rw [← V_main_arg1 m c]
  blk_ext [iblk, a0, a1, j0, j1]
theorem blk6 (c : Dev nD) (t : Fin cfg0.N) (y : S32x512.Idx) (j : S32x2048.Idx)
    (j0 : (j 0).val = (y 0).val) (j1 : (j 1).val = t.val / 11 * 512 + (y 1).val) :
    iblk m c 6 t y = V m c main_v1 j := by
  obtain ⟨-, -, -, -, -, -, ⟨a0, a1⟩, -⟩ := idx t
  blk_ext [iblk, a0, a1, j0, j1]

/-- The first buffer's own rows. -/
theorem own (c : Dev nD) (t : Fin cfg0.N) (y : S384x512.Idx) (q : Fin 2048) (hq : q.val = t.val / 11 * 512 + (y 1).val) :
    k0_pay3 (F := Ideal) (iblk m c 2 t) (iblk m c 3 t) y
      = late (m ((c : Thread nD τ).loc main_arg1)) (t.val % 11 * 384 + (32 + (y 0).val)) q := by
  have hy : (y 0).val < 384 := (y 0).isLt
  have ht : t.val < 44 := t.isLt
  rw [pay3, late_eq _ _ q ⟨t.val % 11 * 384 + (y 0).val, by omega⟩ (by show _ = t.val % 11 * 384 + (y 0).val + 32; omega)]
  unfold glu
  refine congrArg₂ (· * ·) (blk2 m c t y _ rfl ?_) (congrArg Ideal.logistic (blk3 m c t y _ rfl ?_))
  · show 2560 + q.val = _
    omega
  · show 4608 + q.val = _
    omega

/-- The rows before them. -/
theorem halo (c : Dev nD) (t : Fin cfg0.N) (y : S32x512.Idx) (q : Fin 2048) (hq : q.val = t.val / 11 * 512 + (y 1).val) :
    k0_pay2 (F := Ideal) (grid0.coords t) (iblk m c 4 t) (iblk m c 5 t) y
      = late (m ((c : Thread nD τ).loc main_arg1)) (t.val % 11 * 384 + (y 0).val) q := by
  have hy : (y 0).val < 32 := (y 0).isLt
  have ht : t.val < 44 := t.isLt
  obtain ⟨-, -, -, -, -, -, -, -, -, -, hc⟩ := idx t
  rw [pay2, hc]
  by_cases h : t.val % 11 = 0
  · rw [if_pos h, mul_zero, late_of_lt _ _ _ (by omega)]
  · rw [if_neg h, mul_one, late_eq _ _ q ⟨t.val % 11 * 384 + (y 0).val - 32, by omega⟩
      (by show _ = t.val % 11 * 384 + (y 0).val - 32 + 32; omega)]
    unfold glu
    refine congrArg₂ (· * ·) (blk4 m c t y _ ?_ ?_) (congrArg Ideal.logistic (blk5 m c t y _ ?_ ?_))
    · show t.val % 11 * 384 + (y 0).val - 32 = _
      omega
    · show 2560 + q.val = _
      omega
    · show t.val % 11 * 384 + (y 0).val - 32 = _
      omega
    · show 4608 + q.val = _
      omega

/-- The taps' block. -/
theorem tapBlk (c : Dev nD) (t : Fin cfg0.N) (y : S32x512.Idx) (q : Fin 2048) (hq : q.val = t.val / 11 * 512 + (y 1).val) :
    iblk m c 6 t y = tap (m ((c : Thread nD τ).loc main_arg2)) (y 0).val q := by
  rw [blk6 m c t y (ix2 ⟨(y 0).val, (y 0).isLt⟩ q) rfl hq, taps]
  rfl

/-- The second buffer's own rows. -/
theorem ownD (c : Dev nD) (t : Fin cfg0.N) (y : S384x512.Idx) (q : Fin 2048) (hq : q.val = t.val / 11 * 512 + (y 1).val) :
    iblk m c 0 t y = below (m ((c : Thread nD τ).loc main_arg0)) (t.val % 11 * 384 + (y 0).val) q := by
  have hy : (y 0).val < 384 := (y 0).isLt
  have ht : t.val < 44 := t.isLt
  rw [below_eq _ _ q ⟨t.val % 11 * 384 + (y 0).val, by omega⟩ rfl]
  exact blk0 m c t y _ rfl hq

/-- The rows after them. -/
theorem haloD (c : Dev nD) (t : Fin cfg0.N) (y : S32x512.Idx) (q : Fin 2048) (hq : q.val = t.val / 11 * 512 + (y 1).val) :
    k0_pay6 (F := Ideal) (k0_pay5 (F := Ideal) (grid0.coords t) (iblk m c 1 t)) y
      = below (m ((c : Thread nD τ).loc main_arg0)) (t.val % 11 * 384 + (384 + (y 0).val)) q := by
  have hy : (y 0).val < 32 := (y 0).isLt
  have ht : t.val < 44 := t.isLt
  obtain ⟨-, -, -, -, -, -, -, -, -, -, hc⟩ := idx t
  rw [pay6, hc]
  by_cases h : t.val % 11 < 10
  · rw [if_pos h, mul_one, below_eq _ _ q ⟨t.val % 11 * 384 + (384 + (y 0).val), by omega⟩ rfl]
    refine blk1 m c t y _ ?_ hq
    show t.val % 11 * 384 + (384 + (y 0).val) = _
    omega
  · rw [if_neg h, mul_zero, below_of_le _ _ _ (by omega)]

/-- What a grid point writes of the input's gradient. -/
theorem point7 (c : Dev nD) (t : Fin cfg0.N) (y : S384x512.Idx) (e : S4224x2048.Idx)
    (k0 : (e 0).val = t.val % 11 * 384 + (y 0).val) (k1 : (e 1).val = t.val / 11 * 512 + (y 1).val) :
    (outsAt0 m c t.val t.isLt).1 y
      = dinput (m ((c : Thread nD τ).loc main_arg0)) (m ((c : Thread nD τ).loc main_arg2)) e := by
  have hm : t.val / 11 < 4 := by have : t.val < 44 := t.isLt; omega
  let G : ℕ → Fin 512 → EReal := fun r q =>
    below (m ((c : Thread nD τ).loc main_arg0)) (t.val % 11 * 384 + r) ⟨t.val / 11 * 512 + q.val, by omega⟩
  have hP : ∀ y : S32x512.Idx, k0_pay6 (F := Ideal) (k0_pay5 (F := Ideal) (grid0.coords t) (iblk m c 1 t)) y
      = G (384 + (y 0).val) (y 1) := fun y => haloD m c t y _ rfl
  have hQ : ∀ y : S384x512.Idx, k0_pay4 (F := Ideal) (iblk m c 0 t) y = G (y 0).val (y 1) :=
    fun y => (pay4 _ y).trans (ownD m c t y _ rfl)
  have hG : ∀ o : ℕ, G (o + (y 0).val) (y 1)
      = below (m ((c : Thread nD τ).loc main_arg0)) ((e 0).val + o) (e 1) := by
    intro o
    have h0 : t.val % 11 * 384 + (o + (y 0).val) = (e 0).val + o := by omega
    have h1 : (⟨t.val / 11 * 512 + (y 1).val, by have : (y 1).val < 512 := (y 1).isLt; omega⟩ : Fin 2048) = e 1 :=
      Fin.ext k1.symm
    show below _ (t.val % 11 * 384 + (o + (y 0).val)) ⟨t.val / 11 * 512 + (y 1).val, _⟩ = _
    rw [h0, h1]
  have hT : ∀ k : Fin 32, iblk m c 6 t (ix2 k (y 1)) = tap (m ((c : Thread nD τ).loc main_arg2)) k.val (e 1) :=
    fun k => tapBlk m c t (ix2 k (y 1)) (e 1) k1
  by_cases h : t.val % 11 = 0
  all_goals
    first
      | rw [outsAt0_A m c t h]
      | rw [outsAt0_B m c t h]
    frame_out
    generalize hp : k0_pay6 (F := Ideal) (k0_pay5 (F := Ideal) (grid0.coords t) (iblk m c 1 t)) = P at hP
    generalize hq : k0_pay4 (F := Ideal) (iblk m c 0 t) = Q at hQ
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
    have L := fun o inb => load_rows (Val := Elt Ideal) (k := 384) (View.whole cc0_scratch1) o (by rfl : 384 + 32 = 416) P Q G hP hQ
      inb_S416x512_S32x512_384_0 inb_S416x512_S384x512_0_0 inb y
    unfold dinput
    obtain ⟨X, hX⟩ : ∃ X : ℕ → EReal, ∀ o, below (m ((c : Thread nD τ).loc main_arg0)) ((e 0).val + o) (e 1) = X o :=
      ⟨_, fun _ => rfl⟩
    obtain ⟨W, hW⟩ : ∃ W : ℕ → EReal, ∀ k, tap (m ((c : Thread nD τ).loc main_arg2)) k (e 1) = W k := ⟨_, fun _ => rfl⟩
    simp only [L, hG, hX, hT, hW]
    simp only [Finset.sum_range_succ, Finset.sum_range_zero, zero_add, ← add_assoc, Nat.reduceSub]
    rfl

/-- A choice among 31 rows. -/
theorem pick (n : ℕ) (T : ℕ → EReal) (z : EReal) :
    (if n = 30 then T 30 else
      if n = 29 then T 29 else
      if n = 28 then T 28 else
      if n = 27 then T 27 else
      if n = 26 then T 26 else
      if n = 25 then T 25 else
      if n = 24 then T 24 else
      if n = 23 then T 23 else
      if n = 22 then T 22 else
      if n = 21 then T 21 else
      if n = 20 then T 20 else
      if n = 19 then T 19 else
      if n = 18 then T 18 else
      if n = 17 then T 17 else
      if n = 16 then T 16 else
      if n = 15 then T 15 else
      if n = 14 then T 14 else
      if n = 13 then T 13 else
      if n = 12 then T 12 else
      if n = 11 then T 11 else
      if n = 10 then T 10 else
      if n = 9 then T 9 else
      if n = 8 then T 8 else
      if n = 7 then T 7 else
      if n = 6 then T 6 else
      if n = 5 then T 5 else
      if n = 4 then T 4 else
      if n = 3 then T 3 else
      if n = 2 then T 2 else
      if n = 1 then T 1 else
      if n = 0 then T 0 else z)
      = if n < 31 then T n else z := by
  by_cases h : n < 31
  · rw [if_pos h]
    interval_cases n <;> rfl
  · rw [if_neg h]
    repeat rw [if_neg (by omega)]

end Cert.ConvBIdeal.Conv
end
-- ==== Proof.Conv.BackwardTaps.lean ====
module

public import proofs.«01_k».proof.Proof.Conv.Backward

/-! What one grid point of the convolution's gradient adds to the gradient of each tap and of the bias. -/

@[expose] public section

set_option maxRecDepth 16384

noncomputable section

namespace Cert.ConvBIdeal.Conv

open Cert.ConvBIdeal Cert.ConvBIdeal.Gen Idealize.ShloMosaic Idealize.ShloMosaic.TcCoe Idealize.SL.Sem
open Idealize.ShloMosaic.Pointwise Cert.Conv

variable (m : (ℓ : Loc nD τ sig) → Buf (Elt Ideal) ℓ)

/-- The channel of a point's column. -/
def col (t : Fin cfg0.N) (q : Fin 512) : Fin 2048 :=
  ⟨t.val / 11 * 512 + q.val, by have : t.val < 44 := t.isLt; omega⟩

/-- What the rows of a grid point add to the gradient of tap `y 0`. -/
def part (m : (ℓ : Loc nD τ sig) → Buf (Elt Ideal) ℓ) (c : Dev nD) (t : Fin cfg0.N) (y : S32x512.Idx) : EReal :=
  if (y 0).val < 31 then
    ∑ r : Fin 384, below (m ((c : Thread nD τ).loc main_arg0)) (t.val % 11 * 384 + r.val) (col t (y 1))
      * late (m ((c : Thread nD τ).loc main_arg1)) (t.val % 11 * 384 + (2 + (y 0).val + r.val)) (col t (y 1))
  else 0

/-- An array that one constant store fills. -/
theorem const_canon {n k : ℕ} (z : EReal)
    (inb : ∀ a, (![0, 0] : Fin 2 → ℕ) a + (⟨2, ![n, k]⟩ : Shape).size a ≤ (⟨2, ![n, k]⟩ : Shape).size a)
    (x : (⟨2, ![n, k]⟩ : Shape).Idx → Elt Ideal .f32) (hx : ∀ y, x y = z) (y : (⟨2, ![n, k]⟩ : Shape).Idx) :
    View.canon [(⟨Rect.unit (s := (⟨2, ![n, k]⟩ : Shape)) ![0, 0] (⟨2, ![n, k]⟩ : Shape).size inb, x⟩
      : View.Piece (Elt Ideal) (⟨2, ![n, k]⟩ : Shape) .f32)] y = z := by
  rw [View.canon_cons_unit_zero (by funext a; fin_cases a <;> rfl)]
  exact hx y

/-- The first row tile starts each tap's gradient from zero. -/
theorem first8 (c : Dev nD) (t : Fin cfg0.N) (h : t.val % 11 = 0) (y : S32x512.Idx) :
    (outsAt0 m c t.val t.isLt).2.1 y = 0 + part m c t y := by
  let G : ℕ → Fin 512 → EReal := fun r q =>
    late (m ((c : Thread nD τ).loc main_arg1)) (t.val % 11 * 384 + r) (col t q)
  have hP : ∀ y : S384x512.Idx, k0_pay3 (F := Ideal) (iblk m c 2 t) (iblk m c 3 t) y = G (32 + (y 0).val) (y 1) :=
    fun y => own m c t y _ rfl
  have hQ : ∀ y : S32x512.Idx, k0_pay2 (F := Ideal) (grid0.coords t) (iblk m c 4 t) (iblk m c 5 t) y = G (y 0).val (y 1) :=
    fun y => halo m c t y _ rfl
  rw [outsAt0_A m c t h]
  frame_out
  simp (config := { maxSteps := 1000000 }) only [↓row_load (Val := Elt Ideal) (m := 32) (n := 512) (e := .f32), ne_eq,
    Nat.reduceEqDiff, not_false_eq_true, OfNat.ofNat_ne_zero, OfNat.ofNat_ne_one]
  simp only [row_canon (Val := Elt Ideal) (m := 32) (n := 512) (e := .f32)]
  have hz : ∀ y, k0_pay7 (F := Ideal) y = 0 := fun y => by
    pointwise [k0_pay7]
  generalize k0_pay7 (F := Ideal) = Z at hz
  generalize k0_pay3 (F := Ideal) (iblk m c 2 t) (iblk m c 3 t) = P at hP
  generalize k0_pay2 (F := Ideal) (grid0.coords t) (iblk m c 4 t) (iblk m c 5 t) = Q at hQ
  have L := fun o inb y => load_rows (Val := Elt Ideal) (k := 384) (View.whole cc0_scratch0) o (by rfl : 32 + 384 = 416) P Q G hP hQ
    inb_S416x512_S384x512_32_0 inb_S416x512_S32x512_0_0 inb y
  refine Eq.trans ?_ (zero_add _).symm
  pointwise [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
  have C := fun o inb y => const_load (Val := Elt Ideal) (m := 32) (n := 512) (e := .f32) (k := 1) (j := o) (ms0_8 t).view 0
    inb_S32x512_S32x512_0_0 inb Z hz y
  have N := const_canon 0 inb_S32x512_S32x512_0_0 Z hz y
  have hD : ∀ y : S384x512.Idx, iblk m c 0 t y
      = below (m ((c : Thread nD τ).loc main_arg0)) (t.val % 11 * 384 + (y 0).val) (col t (y 1)) :=
    fun y => ownD m c t y _ rfl

  simp only [L, C, N, hD]
  refine (pick (y 0).val (fun k => 0 + ∑ r : Fin 384, below (m ((c : Thread nD τ).loc main_arg0)) (t.val % 11 * 384 + r.val) (col t (y 1))
    * G (2 + k + r.val) (y 1)) 0).trans ?_
  unfold part

  simp only [zero_add]
  rfl

/-- A later row tile adds to each tap's gradient. -/
theorem step8 (c : Dev nD) (t : Fin cfg0.N) (h : ¬t.val % 11 = 0) (y : S32x512.Idx) :
    (outsAt0 m c t.val t.isLt).2.1 y = (outsAt0 m c (t.val - 1) (by omega)).2.1 y + part m c t y := by
  let G : ℕ → Fin 512 → EReal := fun r q =>
    late (m ((c : Thread nD τ).loc main_arg1)) (t.val % 11 * 384 + r) (col t q)
  have hP : ∀ y : S384x512.Idx, k0_pay3 (F := Ideal) (iblk m c 2 t) (iblk m c 3 t) y = G (32 + (y 0).val) (y 1) :=
    fun y => own m c t y _ rfl
  have hQ : ∀ y : S32x512.Idx, k0_pay2 (F := Ideal) (grid0.coords t) (iblk m c 4 t) (iblk m c 5 t) y = G (y 0).val (y 1) :=
    fun y => halo m c t y _ rfl
  rw [outsAt0_B m c t h]
  frame_out
  generalize (outsAt0 m c (t.val - 1) _).2.1 = V
  simp only [row_read (Val := Elt Ideal) (m := 32) (n := 512) (e := .f32)]
  generalize k0_pay3 (F := Ideal) (iblk m c 2 t) (iblk m c 3 t) = P at hP
  generalize k0_pay2 (F := Ideal) (grid0.coords t) (iblk m c 4 t) (iblk m c 5 t) = Q at hQ
  have L := fun o inb y => load_rows (Val := Elt Ideal) (k := 384) (View.whole cc0_scratch0) o (by rfl : 32 + 384 = 416) P Q G hP hQ
    inb_S416x512_S384x512_32_0 inb_S416x512_S32x512_0_0 inb y
  pointwise [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
  have hD : ∀ y : S384x512.Idx, iblk m c 0 t y
      = below (m ((c : Thread nD τ).loc main_arg0)) (t.val % 11 * 384 + (y 0).val) (col t (y 1)) :=
    fun y => ownD m c t y _ rfl

  simp only [L, hD]
  refine (pick (y 0).val (fun k => V (ix2 (Fin.ofNat 32 k) (y 1)) + ∑ r : Fin 384,
    below (m ((c : Thread nD τ).loc main_arg0)) (t.val % 11 * 384 + r.val) (col t (y 1)) * G (2 + k + r.val) (y 1)) _).trans ?_
  unfold part
  have hy : (y 0).val < 32 := (y 0).isLt
  have hf : V (ix2 (Fin.ofNat 32 (y 0).val) (y 1)) = V y := congrArg V (by
    funext a
    fin_cases a
    · exact Fin.ext (Nat.mod_eq_of_lt hy)
    · rfl)
  by_cases h : (y 0).val < 31
  · rw [if_pos h, if_pos h]
    exact congrArg₂ (· + ·) hf rfl
  · rw [if_neg h, if_neg h]
    exact (congrFun (Memref.IsWhole.read_unread _ _) y).trans (add_zero _).symm

/-- What the rows of a grid point add to the gradient of the bias. -/
def partB (m : (ℓ : Loc nD τ sig) → Buf (Elt Ideal) ℓ) (c : Dev nD) (t : Fin cfg0.N) (y : S1x512.Idx) : EReal :=
  ∑ r : Fin 384, below (m ((c : Thread nD τ).loc main_arg0)) (t.val % 11 * 384 + r.val) (col t (y 1))

/-- The first row tile starts the bias's gradient from zero. -/
theorem first9 (c : Dev nD) (t : Fin cfg0.N) (h : t.val % 11 = 0) (y : S1x512.Idx) :
    (outsAt0 m c t.val t.isLt).2.2 y = 0 + partB m c t y := by
  rw [outsAt0_A m c t h]
  frame_out
  have hD : ∀ y : S384x512.Idx, iblk m c 0 t y
      = below (m ((c : Thread nD τ).loc main_arg0)) (t.val % 11 * 384 + (y 0).val) (col t (y 1)) :=
    fun y => ownD m c t y _ rfl
  refine Eq.trans ?_ (zero_add _).symm
  pointwise [k0_pay1, k0_pay63, k0_pay8]
  simp only [hD]
  rfl

/-- A later row tile adds to the bias's gradient. -/
theorem step9 (c : Dev nD) (t : Fin cfg0.N) (h : ¬t.val % 11 = 0) (y : S1x512.Idx) :
    (outsAt0 m c t.val t.isLt).2.2 y = (outsAt0 m c (t.val - 1) (by omega)).2.2 y + partB m c t y := by
  rw [outsAt0_B m c t h]
  frame_out
  have hD : ∀ y : S384x512.Idx, iblk m c 0 t y
      = below (m ((c : Thread nD τ).loc main_arg0)) (t.val % 11 * 384 + (y 0).val) (col t (y 1)) :=
    fun y => ownD m c t y _ rfl
  pointwise [k0_pay1, k0_pay63, k0_pay8]
  simp only [hD]
  rfl

end Cert.ConvBIdeal.Conv
end
-- ==== Proof.Conv.BackwardWhole.lean ====
module

public import proofs.«01_k».proof.Proof.Conv.BackwardTaps

/-! What the kernel of the convolution's gradient leaves in its three results. The sums over the rows run over 11 tiles. -/

@[expose] public section

set_option maxRecDepth 16384

noncomputable section

namespace Cert.ConvBIdeal.Conv

open Cert.ConvBIdeal Cert.ConvBIdeal.Gen Idealize.ShloMosaic Idealize.ShloMosaic.TcCoe Idealize.SL.Sem
open Idealize.ShloMosaic.Pointwise Cert.Conv

variable (m : (ℓ : Loc nD τ sig) → Buf (Elt Ideal) ℓ)

/-- The gradient of the taps, of which the kernel has 32: the last row is zero. -/
def taps32 (d : S4224x2048.Idx → EReal) (z : S4224x14848.Idx → EReal) : S32x2048.Idx → EReal := fun i =>
  if (i 0).val < 31 then dtap d z (i 0).val (i 1) else 0

/-- The gradient of the bias, as one row. -/
def bias1 (d : S4224x2048.Idx → EReal) : S1x2048.Idx → EReal := fun i => dbias d (i 1)

/-- The gradient of the input. -/
theorem final7 (c : Dev nD) : (dats m 0 c).arrAt 7 cfg0.N
    = dinput (m ((c : Thread nD τ).loc main_arg0)) (m ((c : Thread nD τ).loc main_arg2)) := by
  refine (dats m 0 c).arrAt_eq_of_covers 7 _ (by decide +kernel) fun t hf y => ?_
  obtain ⟨-, -, -, -, -, -, -, ⟨g0, g1⟩, -⟩ := idx t
  blk_simp
  rw [after0_7]
  refine point7 m c t y _ ?_ ?_
  · blk_simp [g0]
  · blk_simp [g1]

/-- Step `s` of the run that ends at `t` works on row tile `s` of the same channels. -/
theorem run_point (t : Fin cfg0.N) (s : Fin 11) (h : 11 * (t.val / 11) + s.val < cfg0.N) :
    (⟨11 * (t.val / 11) + s.val, h⟩ : Fin cfg0.N).val % 11 = s.val
      ∧ ∀ q : Fin 512, col (⟨11 * (t.val / 11) + s.val, h⟩ : Fin cfg0.N) q = col t q := by
  have hs : s.val < 11 := s.isLt
  refine ⟨by show (11 * (t.val / 11) + s.val) % 11 = s.val; omega, fun q => Fin.ext ?_⟩
  show (11 * (t.val / 11) + s.val) / 11 * 512 + q.val = t.val / 11 * 512 + q.val
  omega

/-- What a run leaves of the taps' gradient. -/
theorem run8 (c : Dev nD) (t : Fin cfg0.N) (ht : t.val % 11 = 10) (j : S32x512.Idx) :
    (outsAt0 m c t.val t.isLt).2.1 j
      = ∑ s : Fin 11, part m c ⟨11 * (t.val / 11) + s.val, Pipeline.run_point_lt_of_flush t ht s⟩ j := by
  rw [Pipeline.eq_sum_fin_of_reset_step_apply_of_flush (M := EReal) (fun n h => (outsAt0 m c n h).2.1) 11 (fun _ => 0)
    (fun t => part m c t) ?_ ?_ t ht j]
  · exact zero_add _
  · exact fun t h i => first8 m c t h i
  · exact fun t h i => step8 m c t h i

/-- What a run leaves of the bias's gradient. -/
theorem run9 (c : Dev nD) (t : Fin cfg0.N) (ht : t.val % 11 = 10) (j : S1x512.Idx) :
    (outsAt0 m c t.val t.isLt).2.2 j
      = ∑ s : Fin 11, partB m c ⟨11 * (t.val / 11) + s.val, Pipeline.run_point_lt_of_flush t ht s⟩ j := by
  rw [Pipeline.eq_sum_fin_of_reset_step_apply_of_flush (M := EReal) (fun n h => (outsAt0 m c n h).2.2) 11 (fun _ => 0)
    (fun t => partB m c t) ?_ ?_ t ht j]
  · exact zero_add _
  · exact fun t h i => first9 m c t h i
  · exact fun t h i => step9 m c t h i

/-- The sums of a run are the sums over all rows. -/
theorem sum8 (c : Dev nD) (t : Fin cfg0.N) (ht : t.val % 11 = 10) (y : S32x512.Idx) (e : S32x2048.Idx)
    (h0 : (e 0).val = (y 0).val) (h1 : e 1 = col t (y 1)) : (outsAt0 m c t.val t.isLt).2.1 y
      = taps32 (m ((c : Thread nD τ).loc main_arg0)) (m ((c : Thread nD τ).loc main_arg1)) e := by
  rw [run8 m c t ht y]
  unfold part taps32 dtap
  rw [h0, h1]
  by_cases h : (y 0).val < 31
  · simp only [if_pos h]
    refine Fin.sum_mul_add_congr (fun s k hl => ?_) rfl
    obtain ⟨e0, e1⟩ := run_point t s (Pipeline.run_point_lt_of_flush t ht s)
    rw [e0]
    refine (congrArg₂ (· * ·) (congrArg (below _ _) (e1 (y 1))) (congrArg (late _ _) (e1 (y 1)))).trans ?_
    rw [below_eq _ _ _ ⟨s.val * 384 + k.val, hl⟩ rfl]
    exact congrArg₂ (· * ·) rfl (congrArg (late _ · _) (by dsimp only; omega))
  · simp only [if_neg h]
    exact Finset.sum_const_zero

/-- The gradient of the taps. -/
theorem final8 (c : Dev nD) : (dats m 0 c).arrAt 8 cfg0.N
    = taps32 (m ((c : Thread nD τ).loc main_arg0)) (m ((c : Thread nD τ).loc main_arg1)) := by
  refine (dats m 0 c).arrAt_eq_of_covers 8 _ (by decide +kernel) fun t hf y => ?_
  have ht := (flush0_8 t).mp hf
  obtain ⟨-, -, -, -, -, -, -, -, ⟨g0, g1⟩, -⟩ := idx t
  blk_simp
  rw [after0_8]
  refine sum8 m c t ht y _ ?_ (Fin.ext ?_)
  · blk_simp [g0]
  · blk_simp [g1, col]

/-- The sums of a run are the sums over all rows. -/
theorem sum9 (c : Dev nD) (t : Fin cfg0.N) (ht : t.val % 11 = 10) (y : S1x512.Idx) (e : S1x2048.Idx)
    (h1 : e 1 = col t (y 1)) :
    (outsAt0 m c t.val t.isLt).2.2 y = bias1 (m ((c : Thread nD τ).loc main_arg0)) e := by
  rw [run9 m c t ht y]
  unfold partB bias1 dbias
  rw [h1]
  refine Fin.sum_mul_add_congr (fun s k hl => ?_) rfl
  obtain ⟨e0, e1⟩ := run_point t s (Pipeline.run_point_lt_of_flush t ht s)
  rw [e0]
  exact (congrArg (below _ _) (e1 (y 1))).trans (below_eq _ _ _ ⟨s.val * 384 + k.val, hl⟩ rfl)

/-- The gradient of the bias. -/
theorem final9 (c : Dev nD) : (dats m 0 c).arrAt 9 cfg0.N = bias1 (m ((c : Thread nD τ).loc main_arg0)) := by
  refine (dats m 0 c).arrAt_eq_of_covers 9 _ (by decide +kernel) fun t hf y => ?_
  have ht := (flush0_9 t).mp hf
  obtain ⟨-, -, -, -, -, -, -, -, -, ⟨g0, g1⟩, -⟩ := idx t
  blk_simp
  rw [after0_9]
  refine sum9 m c t ht y _ (Fin.ext ?_)
  blk_simp [g1, col]

end Cert.ConvBIdeal.Conv
end
-- ==== Proof.Conv.BackwardRef.lean ====
module

public import proofs.«01_k».proof.Proof.Gen.ConvBRefIdeal.Read
public import proofs.«01_k».proof.Proof.Conv.Spec

/-! What the reference of the convolution's gradient computes: the derivative pads each tap's part into a larger array of
zeros and adds the 31 of them. -/

@[expose] public section

set_option maxRecDepth 16384

noncomputable section

namespace Cert.ConvBRefIdeal.Conv

open Cert.ConvBRefIdeal Cert.ConvBRefIdeal.Gen Idealize.ShloMosaic Idealize.ShloMosaic.TcCoe Idealize.SL.Sem
open Idealize.ShloMosaic.Pointwise Cert.Conv Cert.ConvBRefIdeal.Read

/-- One tap's part of the input's gradient: the rows moved down by `k`, read from row 30 on. -/
theorem shifted (d : S4224x2048.Idx → EReal) (n : ℕ) (q : Fin 2048) (k : ℕ) (x : EReal) (hk : k ≤ 30) :
    (if h : k ≤ 30 + n ∧ 30 + n - k < 4224 then d (ix2 ⟨30 + n - k, h.2⟩ q) * x else 0) = x * below d (n + (30 - k)) q := by
  have he : 30 + n - k = n + (30 - k) := by omega
  by_cases h : n + (30 - k) < 4224
  · rw [dif_pos ⟨by omega, by omega⟩, below_eq d _ q ⟨30 + n - k, by omega⟩ he.symm, mul_comm]
  · rw [dif_neg (by omega), below_of_le _ _ _ (by omega), mul_zero]

/-- The tap that is not moved. -/
theorem unshifted (d : S4224x2048.Idx → EReal) (n : ℕ) (q : Fin 2048) (x : EReal) :
    (if h : 30 + n < 4224 then d (ix2 ⟨30 + n, h⟩ q) * x else 0) = x * below d (n + 30) q := by
  have he : 30 + n = n + 30 := by omega
  by_cases h : n + 30 < 4224
  · rw [dif_pos (by omega), below_eq d _ q ⟨30 + n, by omega⟩ he.symm, mul_comm]
  · rw [dif_neg (by omega), below_of_le _ _ _ (by omega), mul_zero]

/-- The gradient of the input. -/
theorem dinput_ref (d : FVec Ideal S4224x2048 .f32) (w : FVec Ideal S31x2048 .f32) :
    val_main_v577 (F := Ideal) d w = dinput d w := by
  funext i
  pointwise [val_main_v15, val_main_v16, val_main_v17, val_main_v23, val_main_v24, val_main_v25, val_main_v30,
    val_main_v31, val_main_v32, val_main_v37, val_main_v38, val_main_v39, val_main_v44, val_main_v45,
    val_main_v46, val_main_v51, val_main_v52, val_main_v53, val_main_v58, val_main_v59, val_main_v60,
    val_main_v65, val_main_v66, val_main_v67, val_main_v72, val_main_v73, val_main_v74, val_main_v79,
    val_main_v80, val_main_v81, val_main_v86, val_main_v87, val_main_v88, val_main_v93, val_main_v94,
    val_main_v95, val_main_v100, val_main_v101, val_main_v102, val_main_v107, val_main_v108, val_main_v109,
    val_main_v114, val_main_v115, val_main_v116, val_main_v121, val_main_v122, val_main_v123, val_main_v128,
    val_main_v129, val_main_v130, val_main_v135, val_main_v136, val_main_v137, val_main_v142, val_main_v143,
    val_main_v144, val_main_v149, val_main_v150, val_main_v151, val_main_v156, val_main_v157, val_main_v158,
    val_main_v163, val_main_v164, val_main_v165, val_main_v170, val_main_v171, val_main_v172, val_main_v177,
    val_main_v178, val_main_v179, val_main_v184, val_main_v185, val_main_v186, val_main_v191, val_main_v192,
    val_main_v193, val_main_v198, val_main_v199, val_main_v200, val_main_v205, val_main_v206, val_main_v207,
    val_main_v212, val_main_v213, val_main_v214, val_main_v219, val_main_v220, val_main_v221, val_main_v226,
    val_main_v227, val_main_v228, val_main_v234, val_main_v240, val_main_v241, val_main_v245, val_main_v249,
    val_main_v250, val_main_v255, val_main_v256, val_main_v260, val_main_v261, val_main_v266, val_main_v267,
    val_main_v271, val_main_v272, val_main_v277, val_main_v278, val_main_v282, val_main_v283, val_main_v288,
    val_main_v289, val_main_v293, val_main_v294, val_main_v299, val_main_v300, val_main_v304, val_main_v305,
    val_main_v310, val_main_v311, val_main_v315, val_main_v316, val_main_v321, val_main_v322, val_main_v326,
    val_main_v327, val_main_v332, val_main_v333, val_main_v337, val_main_v338, val_main_v343, val_main_v344,
    val_main_v348, val_main_v349, val_main_v354, val_main_v355, val_main_v359, val_main_v360, val_main_v365,
    val_main_v366, val_main_v370, val_main_v371, val_main_v376, val_main_v377, val_main_v381, val_main_v382,
    val_main_v387, val_main_v388, val_main_v392, val_main_v393, val_main_v398, val_main_v399, val_main_v403,
    val_main_v404, val_main_v409, val_main_v410, val_main_v414, val_main_v415, val_main_v420, val_main_v421,
    val_main_v425, val_main_v426, val_main_v431, val_main_v432, val_main_v436, val_main_v437, val_main_v442,
    val_main_v443, val_main_v447, val_main_v448, val_main_v453, val_main_v454, val_main_v458, val_main_v459,
    val_main_v464, val_main_v465, val_main_v469, val_main_v470, val_main_v475, val_main_v476, val_main_v480,
    val_main_v481, val_main_v486, val_main_v487, val_main_v491, val_main_v492, val_main_v497, val_main_v498,
    val_main_v502, val_main_v503, val_main_v508, val_main_v509, val_main_v513, val_main_v514, val_main_v519,
    val_main_v520, val_main_v524, val_main_v525, val_main_v530, val_main_v531, val_main_v535, val_main_v536,
    val_main_v541, val_main_v542, val_main_v546, val_main_v547, val_main_v552, val_main_v553, val_main_v557,
    val_main_v558, val_main_v563, val_main_v564, val_main_v568, val_main_v569, val_main_v574, val_main_v575,
    val_main_v577, val_main_cst_8, val_main_cst_12, val_main_cst_16, val_main_cst_20, val_main_cst_24,
    val_main_cst_28, val_main_cst_32, val_main_cst_36, val_main_cst_40, val_main_cst_44, val_main_cst_48,
    val_main_cst_52, val_main_cst_56, val_main_cst_60, val_main_cst_64, val_main_cst_68, val_main_cst_72,
    val_main_cst_76, val_main_cst_80, val_main_cst_84, val_main_cst_88, val_main_cst_92, val_main_cst_96,
    val_main_cst_100, val_main_cst_104, val_main_cst_108, val_main_cst_112, val_main_cst_116, val_main_cst_120,
    val_main_cst_124, val_main_cst_128]
  have hW : ∀ k : Fin 31, w (ix2 k (i 1)) = tap w k.val (i 1) := fun k => (tap_eq w _ _ k rfl).symm
  simp only [hW]
  unfold dinput
  simp only [Finset.sum_range_succ', Finset.sum_range_zero, zero_add, Nat.reduceAdd]
  refine congrArg₂ (· + ·) ?_ (unshifted d _ (i 1) _)
  iterate 29 refine congrArg₂ (· + ·) ?_ (shifted d _ (i 1) _ _ (by omega))
  rw [mul_comm]
  refine congrArg₂ (· * ·) rfl (((below_eq d _ (i 1) (i 0) rfl).trans ?_).symm)
  rw [eq_ix2 i]
  rfl

/-- A row of zeros but for one. -/
theorem only (n k : ℕ) (x : EReal) : (if _h : k ≤ n ∧ n - k < 1 then x else 0) = if n = k then x else 0 := by
  by_cases h : n = k
  · rw [dif_pos (by omega), if_pos h]
  · rw [dif_neg (by omega), if_neg h]

theorem only0 (n : ℕ) (x : EReal) : (if _h : n < 1 then x else 0) = if n = 0 then x else 0 := by
  by_cases h : n = 0
  · rw [dif_pos (by omega), if_pos h]
  · rw [dif_neg (by omega), if_neg h]

/-- The gated rows under 30 rows of zeros. -/
theorem padded (z : FVec Ideal S4224x14848 .bf16) (i : S4254x2048.Idx) :
    val_main_v12 (F := Ideal) z i = late z ((i 0).val + 2) (i 1) := by
  pointwise [val_main_v12, val_main_cst_1, val_main_v11, val_main_v10, val_main_v9, val_main_v8, val_main_v7, val_main_v6,
    val_main_v5, val_main_v4, val_main_v3, val_main_v2, val_main_v1, val_main_v0, val_main_cst, val_main_cst_0]
  have hi : (i 0).val < 4254 := (i 0).isLt
  by_cases h : (i 0).val < 30
  · rw [dif_pos h]
    have h' : (i 0).val + 2 < 32 := by omega
    exact (late_of_lt z _ _ h').symm
  · rw [dif_neg h, late_eq _ _ (i 1) ⟨(i 0).val - 30, by omega⟩ (by show _ = (i 0).val - 30 + 32; omega)]
    unfold glu Ideal.logistic
    have h2 : ∀ h, (⟨2560 + (2048 + (i 1).val), h⟩ : Fin 14848) = ⟨4608 + (i 1).val, by omega⟩ := fun _ => Fin.ext (by
      show 2560 + (2048 + (i 1).val) = 4608 + (i 1).val
      omega)
    rw [h2]

/-- The gradient of the taps. -/
theorem dtap_ref (d : FVec Ideal S4224x2048 .f32) (z : FVec Ideal S4224x14848 .bf16) (i : S31x2048.Idx) :
    val_main_v573 (F := Ideal) d z i = dtap d z (i 0).val (i 1) := by
  have hi : (i 0).val < 31 := (i 0).isLt
  have hF : ∀ k : ℕ, dtap d z k (i 1) = ∑ r : Fin 4224, late z (k + r.val + 2) (i 1) * d (ix2 r (i 1)) := by
    intro k
    unfold dtap
    refine Finset.sum_congr rfl fun r _ => ?_
    rw [mul_comm, show r.val + 2 + k = k + r.val + 2 by omega]
  have hS : dtap d z (i 0).val (i 1) = ∑ k ∈ Finset.range 31, if (i 0).val = k then dtap d z k (i 1) else 0 := by
    rw [Finset.sum_ite_eq, if_pos (Finset.mem_range.mpr hi)]
  rw [hS]
  simp only [hF]
  pointwise [val_main_v14, val_main_v22, val_main_v29, val_main_v36, val_main_v43, val_main_v50, val_main_v57,
    val_main_v64, val_main_v71, val_main_v78, val_main_v85, val_main_v92, val_main_v99, val_main_v106,
    val_main_v113, val_main_v120, val_main_v127, val_main_v134, val_main_v141, val_main_v148, val_main_v155,
    val_main_v162, val_main_v169, val_main_v176, val_main_v183, val_main_v190, val_main_v197, val_main_v204,
    val_main_v211, val_main_v218, val_main_v225, val_main_v234, val_main_v237, val_main_v238, val_main_v239,
    val_main_v242, val_main_v243, val_main_v244, val_main_v246, val_main_v247, val_main_v248, val_main_v251,
    val_main_v252, val_main_v253, val_main_v254, val_main_v257, val_main_v258, val_main_v259, val_main_v262,
    val_main_v263, val_main_v264, val_main_v265, val_main_v268, val_main_v269, val_main_v270, val_main_v273,
    val_main_v274, val_main_v275, val_main_v276, val_main_v279, val_main_v280, val_main_v281, val_main_v284,
    val_main_v285, val_main_v286, val_main_v287, val_main_v290, val_main_v291, val_main_v292, val_main_v295,
    val_main_v296, val_main_v297, val_main_v298, val_main_v301, val_main_v302, val_main_v303, val_main_v306,
    val_main_v307, val_main_v308, val_main_v309, val_main_v312, val_main_v313, val_main_v314, val_main_v317,
    val_main_v318, val_main_v319, val_main_v320, val_main_v323, val_main_v324, val_main_v325, val_main_v328,
    val_main_v329, val_main_v330, val_main_v331, val_main_v334, val_main_v335, val_main_v336, val_main_v339,
    val_main_v340, val_main_v341, val_main_v342, val_main_v345, val_main_v346, val_main_v347, val_main_v350,
    val_main_v351, val_main_v352, val_main_v353, val_main_v356, val_main_v357, val_main_v358, val_main_v361,
    val_main_v362, val_main_v363, val_main_v364, val_main_v367, val_main_v368, val_main_v369, val_main_v372,
    val_main_v373, val_main_v374, val_main_v375, val_main_v378, val_main_v379, val_main_v380, val_main_v383,
    val_main_v384, val_main_v385, val_main_v386, val_main_v389, val_main_v390, val_main_v391, val_main_v394,
    val_main_v395, val_main_v396, val_main_v397, val_main_v400, val_main_v401, val_main_v402, val_main_v405,
    val_main_v406, val_main_v407, val_main_v408, val_main_v411, val_main_v412, val_main_v413, val_main_v416,
    val_main_v417, val_main_v418, val_main_v419, val_main_v422, val_main_v423, val_main_v424, val_main_v427,
    val_main_v428, val_main_v429, val_main_v430, val_main_v433, val_main_v434, val_main_v435, val_main_v438,
    val_main_v439, val_main_v440, val_main_v441, val_main_v444, val_main_v445, val_main_v446, val_main_v449,
    val_main_v450, val_main_v451, val_main_v452, val_main_v455, val_main_v456, val_main_v457, val_main_v460,
    val_main_v461, val_main_v462, val_main_v463, val_main_v466, val_main_v467, val_main_v468, val_main_v471,
    val_main_v472, val_main_v473, val_main_v474, val_main_v477, val_main_v478, val_main_v479, val_main_v482,
    val_main_v483, val_main_v484, val_main_v485, val_main_v488, val_main_v489, val_main_v490, val_main_v493,
    val_main_v494, val_main_v495, val_main_v496, val_main_v499, val_main_v500, val_main_v501, val_main_v504,
    val_main_v505, val_main_v506, val_main_v507, val_main_v510, val_main_v511, val_main_v512, val_main_v515,
    val_main_v516, val_main_v517, val_main_v518, val_main_v521, val_main_v522, val_main_v523, val_main_v526,
    val_main_v527, val_main_v528, val_main_v529, val_main_v532, val_main_v533, val_main_v534, val_main_v537,
    val_main_v538, val_main_v539, val_main_v540, val_main_v543, val_main_v544, val_main_v545, val_main_v548,
    val_main_v549, val_main_v550, val_main_v551, val_main_v554, val_main_v555, val_main_v556, val_main_v559,
    val_main_v560, val_main_v561, val_main_v562, val_main_v565, val_main_v566, val_main_v567, val_main_v570,
    val_main_v571, val_main_v572, val_main_v573, val_main_cst_5, val_main_cst_6, val_main_cst_7, val_main_cst_9,
    val_main_cst_10, val_main_cst_11, val_main_cst_13, val_main_cst_14, val_main_cst_15, val_main_cst_17,
    val_main_cst_18, val_main_cst_19, val_main_cst_21, val_main_cst_22, val_main_cst_23, val_main_cst_25,
    val_main_cst_26, val_main_cst_27, val_main_cst_29, val_main_cst_30, val_main_cst_31, val_main_cst_33,
    val_main_cst_34, val_main_cst_35, val_main_cst_37, val_main_cst_38, val_main_cst_39, val_main_cst_41,
    val_main_cst_42, val_main_cst_43, val_main_cst_45, val_main_cst_46, val_main_cst_47, val_main_cst_49,
    val_main_cst_50, val_main_cst_51, val_main_cst_53, val_main_cst_54, val_main_cst_55, val_main_cst_57,
    val_main_cst_58, val_main_cst_59, val_main_cst_61, val_main_cst_62, val_main_cst_63, val_main_cst_65,
    val_main_cst_66, val_main_cst_67, val_main_cst_69, val_main_cst_70, val_main_cst_71, val_main_cst_73,
    val_main_cst_74, val_main_cst_75, val_main_cst_77, val_main_cst_78, val_main_cst_79, val_main_cst_81,
    val_main_cst_82, val_main_cst_83, val_main_cst_85, val_main_cst_86, val_main_cst_87, val_main_cst_89,
    val_main_cst_90, val_main_cst_91, val_main_cst_93, val_main_cst_94, val_main_cst_95, val_main_cst_97,
    val_main_cst_98, val_main_cst_99, val_main_cst_101, val_main_cst_102, val_main_cst_103, val_main_cst_105,
    val_main_cst_106, val_main_cst_107, val_main_cst_109, val_main_cst_110, val_main_cst_111, val_main_cst_113,
    val_main_cst_114, val_main_cst_115, val_main_cst_117, val_main_cst_118, val_main_cst_119, val_main_cst_121,
    val_main_cst_122, val_main_cst_123, val_main_cst_125, val_main_cst_126, val_main_cst_127]
  simp only [padded, only, only0, Finset.univ_unique, Finset.sum_singleton]
  simp only [Finset.sum_range_succ', Finset.sum_range_zero, zero_add, Nat.reduceAdd]
  rfl

/-- The gradient of the bias. -/
theorem dbias_ref (d : FVec Ideal S4224x2048 .f32) (i : S1x2048.Idx) :
    val_main_v236 (F := Ideal) d i = dbias d (i 1) := by
  pointwise [val_main_v236, val_main_v235, val_main_cst_4]
  rfl

end Cert.ConvBRefIdeal.Conv
end
-- ==== Proof.Conv.Claims.lean ====
module

public import proofs.«01_k».proof.Defs
public import proofs.«01_k».proof.Proof.Conv.Forward
public import proofs.«01_k».proof.Proof.Conv.ForwardRef
public import proofs.«01_k».proof.Proof.Conv.BackwardWhole
public import proofs.«01_k».proof.Proof.Conv.BackwardRef

/-! The convolution and its gradient: kernel and reference are the same functions. -/

@[expose] public section

set_option maxRecDepth 16384

noncomputable section

namespace Cert.ConvBRefIdeal.Conv

open Cert.ConvBRefIdeal Cert.ConvBRefIdeal.Gen Idealize.ShloMosaic Idealize.ShloMosaic.TcCoe Idealize.SL.Sem
open Idealize.ShloMosaic.Pointwise Cert.Conv Cert.ConvBRefIdeal.Read

/-- The gradient of the taps above one row of zeros. -/
theorem taps_ref (d : FVec Ideal S4224x2048 .f32) (z : FVec Ideal S4224x14848 .bf16) :
    val_main_v579 (F := Ideal) d z = Cert.ConvBIdeal.Conv.taps32 d z := by
  funext i
  pointwise [val_main_v579, val_main_v578, val_main_cst_129]
  unfold Cert.ConvBIdeal.Conv.taps32
  by_cases h : (i 0).val < 31
  · rw [dif_pos h, if_pos h, dtap_ref]
    rfl
  · rw [dif_neg h, if_neg h]

/-- The gradient of the bias. -/
theorem bias_ref (d : FVec Ideal S4224x2048 .f32) : val_main_v236 (F := Ideal) d = Cert.ConvBIdeal.Conv.bias1 d :=
  funext fun i => dbias_ref d i

end Cert.ConvBRefIdeal.Conv

namespace Cert.Conv.Claims

open Idealize.ShloMosaic Idealize.ShloMosaic.TcCoe Idealize.SL.Sem Cert.Conv

/-- The causal convolution of the gated linear unit. -/
theorem eqConvF : Cert.algebraic_ConvFIdeal_ConvFRefIdeal := fun m g m' g' _ h =>
  ⟨fun c => forward (m ((c.tc : Thread Cert.ConvFIdeal.nD Cert.ConvFIdeal.τ).loc Cert.ConvFIdeal.main_arg0))
      (m ((c.tc : Thread Cert.ConvFIdeal.nD Cert.ConvFIdeal.τ).loc Cert.ConvFIdeal.main_arg1))
      (m ((c.tc : Thread Cert.ConvFIdeal.nD Cert.ConvFIdeal.τ).loc Cert.ConvFIdeal.main_arg2)),
    (θ_run Cert.ConvFIdeal.defs _ _).mono (fun _ hr c => ⟨(hr c).1.trans (Cert.ConvFIdeal.Conv.final m c), (hr c).2⟩)
      (Cert.ConvFIdeal.Value.run_blocks m g),
    (θ_run Cert.ConvFRefIdeal.defs _ _).mono (fun _ hr c =>
      ⟨(hr c).1.trans ((Cert.ConvFRefIdeal.Read.val_main_v232_eq _).trans ((Cert.ConvFRefIdeal.Conv.forward_ref
        (m' ((c.tc : Thread Cert.ConvFRefIdeal.nD Cert.ConvFRefIdeal.τ).loc Cert.ConvFRefIdeal.main_arg0))
        (m' ((c.tc : Thread Cert.ConvFRefIdeal.nD Cert.ConvFRefIdeal.τ).loc Cert.ConvFRefIdeal.main_arg1))
        (m' ((c.tc : Thread Cert.ConvFRefIdeal.nD Cert.ConvFRefIdeal.τ).loc Cert.ConvFRefIdeal.main_arg2))).trans
        (by rw [(h c).1, (h c).2.1, (h c).2.2]))), (hr c).2⟩)
      (Cert.ConvFRefIdeal.Value.run m' g')⟩

/-- The gradients of the convolution's input, taps and bias. -/
theorem eqConvB : Cert.algebraic_ConvBIdeal_ConvBRefIdeal := fun m g m' g' _ h =>
  ⟨fun c => dinput (m ((c.tc : Thread Cert.ConvBIdeal.nD Cert.ConvBIdeal.τ).loc Cert.ConvBIdeal.main_arg0))
      (m ((c.tc : Thread Cert.ConvBIdeal.nD Cert.ConvBIdeal.τ).loc Cert.ConvBIdeal.main_arg2)),
    fun c => Cert.ConvBIdeal.Conv.taps32 (m ((c.tc : Thread Cert.ConvBIdeal.nD Cert.ConvBIdeal.τ).loc Cert.ConvBIdeal.main_arg0))
      (m ((c.tc : Thread Cert.ConvBIdeal.nD Cert.ConvBIdeal.τ).loc Cert.ConvBIdeal.main_arg1)),
    fun c => Cert.ConvBIdeal.Conv.bias1 (m ((c.tc : Thread Cert.ConvBIdeal.nD Cert.ConvBIdeal.τ).loc Cert.ConvBIdeal.main_arg0)),
    (θ_run Cert.ConvBIdeal.defs _ _).mono (fun _ hr c => ⟨(hr c).1.trans (Cert.ConvBIdeal.Conv.final7 m c),
        (hr c).2.1.trans (Cert.ConvBIdeal.Conv.final8 m c), (hr c).2.2.1.trans (Cert.ConvBIdeal.Conv.final9 m c), (hr c).2.2.2⟩)
      (Cert.ConvBIdeal.Value.run_blocks m g),
    (θ_run Cert.ConvBRefIdeal.defs _ _).mono (fun _ hr c =>
      ⟨(hr c).1.trans ((Cert.ConvBRefIdeal.Read.val_main_v577_eq _).trans ((Cert.ConvBRefIdeal.Conv.dinput_ref
        (m' ((c.tc : Thread Cert.ConvBRefIdeal.nD Cert.ConvBRefIdeal.τ).loc Cert.ConvBRefIdeal.main_arg0))
        (m' ((c.tc : Thread Cert.ConvBRefIdeal.nD Cert.ConvBRefIdeal.τ).loc Cert.ConvBRefIdeal.main_arg2))).trans
        (by rw [(h c).1, (h c).2.2.1]))),
      (hr c).2.1.trans ((Cert.ConvBRefIdeal.Read.val_main_v579_eq _).trans ((Cert.ConvBRefIdeal.Conv.taps_ref
        (m' ((c.tc : Thread Cert.ConvBRefIdeal.nD Cert.ConvBRefIdeal.τ).loc Cert.ConvBRefIdeal.main_arg0))
        (m' ((c.tc : Thread Cert.ConvBRefIdeal.nD Cert.ConvBRefIdeal.τ).loc Cert.ConvBRefIdeal.main_arg1))).trans
        (by rw [(h c).1, (h c).2.1]))),
      (hr c).2.2.1.trans ((Cert.ConvBRefIdeal.Read.val_main_v236_eq _).trans ((Cert.ConvBRefIdeal.Conv.bias_ref
        (m' ((c.tc : Thread Cert.ConvBRefIdeal.nD Cert.ConvBRefIdeal.τ).loc Cert.ConvBRefIdeal.main_arg0))).trans
        (by rw [(h c).1]))), (hr c).2.2.2⟩)
      (Cert.ConvBRefIdeal.Value.run m' g')⟩

end Cert.Conv.Claims

end
-- ==== Proof.Gate.GateB.lean ====
module

public import proofs.«01_k».proof.Proof.Gen.GateBIdeal.Value
public import proofs.«01_k».proof.Proof.Gen.GateBRefIdeal.Read
public import Idealize.ShloMosaic.Lib.Pipeline.ValueKit
public import Idealize.ShloMosaic.Lib.Pointwise

@[expose] public section

set_option maxRecDepth 16384

noncomputable section

namespace Cert.GateBIdeal.Gate

open Cert.GateBIdeal Cert.GateBIdeal.Gen Idealize.ShloMosaic Idealize.ShloMosaic.TcCoe Idealize.SL.Sem
open Idealize.ShloMosaic.Pointwise

/-- The gradient of the two branches: the merged gradient times the sigmoid of the branch's gate. -/
def dab (dm : S4224x4096.Idx → EReal) (z : S4224x14848.Idx → EReal) : S4224x8192.Idx → EReal := fun i =>
  dm (ix2 (i 0) ⟨(i 1).val % 4096, by omega⟩)
    * Ideal.logistic (z (ix2 (i 0) ⟨6656 + (i 1).val, by have h : (i 1).val < 8192 := (i 1).isLt; omega⟩))

/-- The column of the merged gradient that belongs to the column `n` of the projection. -/
def wrap (n : ℕ) : ℕ := (n - 6656) % 4096

theorem wrap_lt (n : ℕ) : wrap n < 4096 := Nat.mod_lt _ (by omega)

/-- The gradient of the two gates, for the column `i 1` of the projection. -/
def dgate (dm : S4224x4096.Idx → EReal) (z : S4224x14848.Idx → EReal) (ab : S4224x8192.Idx → EReal) :
    S4224x14848.Idx → EReal := fun i =>
  dm (ix2 (i 0) ⟨wrap (i 1).val, wrap_lt _⟩)
    * ab (ix2 (i 0) ⟨(i 1).val - 6656, by have h : (i 1).val < 14848 := (i 1).isLt; omega⟩)
    * Ideal.logistic (z i) * (1 - Ideal.logistic (z i))

/-- The projection's gradient: the gates' columns are written, the others stay. -/
def dz (d : S4224x14848.Idx → EReal) (dm : S4224x4096.Idx → EReal) (z : S4224x14848.Idx → EReal)
    (ab : S4224x8192.Idx → EReal) : S4224x14848.Idx → EReal := fun i =>
  if 13 ≤ (i 1).val / 512 then dgate dm z ab i else d i

/-- What one grid point computes of the branches' gradient. -/
theorem pay3 (dm g : Vec Ideal S384x512 .bf16) (j : S384x512.Idx) :
    k0_pay3 (F := Ideal) dm g j = dm j * Ideal.logistic (g j) := by
  pointwise [k0_pay3, k0_pay1, k0_pay2]

/-- What one grid point computes of the gates' gradient. -/
theorem pay4 (dm g ab : Vec Ideal S384x512 .bf16) (j : S384x512.Idx) :
    k0_pay4 (F := Ideal) dm g ab j = dm j * ab j * Ideal.logistic (g j) * (1 - Ideal.logistic (g j)) := by
  pointwise [k0_pay4, k0_pay1, k0_pay2]

/-- Where each block lies: `win0_4` is the branches' gradient, `win0_3` the projection's. -/
theorem idx : ∀ t : Fin cfg0.N, (win0_0.index t 0 = win0_4.index t 0 ∧ win0_0.index t 1 = win0_4.index t 1 % 8)
    ∧ (win0_1.index t 0 = win0_4.index t 0 ∧ win0_1.index t 1 = 13 + win0_4.index t 1)
    ∧ (win0_2.index t 0 = win0_4.index t 0 ∧ win0_2.index t 1 = win0_4.index t 1)
    ∧ (win0_3.index t 0 = win0_4.index t 0 ∧ win0_3.index t 1 = 13 + win0_4.index t 1) :=
  (by decide +kernel : ∀ t : Fin grid0.N, (win0_0.index t 0 = win0_4.index t 0 ∧ win0_0.index t 1 = win0_4.index t 1 % 8)
    ∧ (win0_1.index t 0 = win0_4.index t 0 ∧ win0_1.index t 1 = 13 + win0_4.index t 1)
    ∧ (win0_2.index t 0 = win0_4.index t 0 ∧ win0_2.index t 1 = win0_4.index t 1)
    ∧ (win0_3.index t 0 = win0_4.index t 0 ∧ win0_3.index t 1 = 13 + win0_4.index t 1))

/-- The same, counted from the block of the projection's gradient. -/
theorem idx3 : ∀ t : Fin cfg0.N, (win0_0.index t 0 = win0_3.index t 0 ∧ win0_0.index t 1 = (win0_3.index t 1 - 13) % 8)
    ∧ (win0_1.index t 0 = win0_3.index t 0 ∧ win0_1.index t 1 = win0_3.index t 1)
    ∧ (win0_2.index t 0 = win0_3.index t 0 ∧ win0_2.index t 1 = win0_3.index t 1 - 13) ∧ 13 ≤ win0_3.index t 1 :=
  (by decide +kernel : ∀ t : Fin grid0.N, (win0_0.index t 0 = win0_3.index t 0 ∧ win0_0.index t 1 = (win0_3.index t 1 - 13) % 8)
    ∧ (win0_1.index t 0 = win0_3.index t 0 ∧ win0_1.index t 1 = win0_3.index t 1)
    ∧ (win0_2.index t 0 = win0_3.index t 0 ∧ win0_2.index t 1 = win0_3.index t 1 - 13) ∧ 13 ≤ win0_3.index t 1)

variable (m : (ℓ : Loc nD τ sig) → Buf (Elt Ideal) ℓ)

/-- The kernel's array of the branches' gradient after the run. -/
theorem final4 (c : Dev nD) :
    (dats m 0 c).arrAt 4 cfg0.N
      = dab (m ((c : Thread nD τ).loc main_arg1)) (m ((c : Thread nD τ).loc main_arg2)) := by
  refine (dats m 0 c).arrAt_eq_of_covers 4 _ (by decide +kernel) fun t hf y => ?_
  blk_simp
  rw [after0_4]
  unfold outsAt0
  frame_out
  rw [pay3]
  obtain ⟨⟨e0, e1⟩, ⟨e2, e3⟩, ⟨e4, e5⟩, e6, e7⟩ := idx t
  unfold dab
  refine congrArg₂ (· * ·) ?_ (congrArg Ideal.logistic ?_)
  · blk_ext [iblk, V, e0, e1]
  · blk_ext [iblk, V, e2, e3]

/-- The kernel's array of the projection's gradient after the run. -/
theorem final3 (c : Dev nD) :
    (dats m 0 c).arrAt 3 cfg0.N
      = dz (m ((c : Thread nD τ).loc main_arg0)) (m ((c : Thread nD τ).loc main_arg1))
          (m ((c : Thread nD τ).loc main_arg2)) (m ((c : Thread nD τ).loc main_arg3)) := by
  refine ((dats m 0 c).arrAt_eq_of_coversWhere 3 (dgate (m ((c : Thread nD τ).loc main_arg1))
      (m ((c : Thread nD τ).loc main_arg2)) (m ((c : Thread nD τ).loc main_arg3))) (P := fun i => 13 ≤ (i 1).val / 512)
      (fun β => 13 ≤ β (1 : Fin _)) (by decide +kernel) (fun t hf y => ?_) (fun j => Iff.rfl)).trans ?_
  · blk_simp
    rw [after0_3]
    unfold outsAt0
    frame_out
    rw [pay4]
    obtain ⟨⟨e0, e1⟩, ⟨e2, e3⟩, ⟨e4, e5⟩, e6⟩ := idx3 t
    unfold dgate
    refine congrArg₂ (· * ·) (congrArg₂ (· * ·) (congrArg₂ (· * ·) ?_ ?_) (congrArg Ideal.logistic ?_))
      (congrArg (fun v => 1 - Ideal.logistic v) ?_)
    · have k0 : (((View.whole main_v0_0).slice (win0_3.rect t)).emb y 0).val = win0_3.index t 0 * 384 + (y 0).val := by
        blk_simp
      have k1 : (((View.whole main_v0_0).slice (win0_3.rect t)).emb y 1).val = win0_3.index t 1 * 512 + (y 1).val := by
        blk_simp
      have h1 : (y 1).val < 512 := (y 1).isLt
      generalize hj : (ix2 (((View.whole main_v0_0).slice (win0_3.rect t)).emb y 0)
        ⟨wrap (((View.whole main_v0_0).slice (win0_3.rect t)).emb y 1).val, wrap_lt _⟩ : S4224x4096.Idx) = j
      have j0 : (j 0).val = win0_3.index t 0 * 384 + (y 0).val := by rw [← hj]; exact k0
      have j1 : (j 1).val = (win0_3.index t 1 - 13) % 8 * 512 + (y 1).val := by
        rw [← hj]
        show wrap _ = _
        rw [k1]
        unfold wrap
        omega
      clear hj
      blk_ext [iblk, V, e0, e1, j0, j1]
    · blk_ext [iblk, V, e4, e5]
    · blk_ext [iblk, V, e2, e3]
    · blk_ext [iblk, V, e2, e3]
  · funext i
    unfold dz
    rw [A_eq]
    congr 1

/-- The reference's gradient of the branches is the same function. -/
theorem ref_dab (x1 : FVec Ideal Cert.GateBRefIdeal.S4224x4096 .bf16) (x2 : FVec Ideal Cert.GateBRefIdeal.S4224x14848 .bf16) :
    Cert.GateBRefIdeal.Read.val_main_v44 (F := Ideal) x1 x2 = dab x1 x2 := by
  funext i
  have hi : (i 1).val < 8192 := (i 1).isLt
  pointwise [dab, Ideal.logistic, Cert.GateBRefIdeal.Read.val_main_v0, Cert.GateBRefIdeal.Read.val_main_v1, Cert.GateBRefIdeal.Read.val_main_v2, Cert.GateBRefIdeal.Read.val_main_v3, Cert.GateBRefIdeal.Read.val_main_v4, Cert.GateBRefIdeal.Read.val_main_v5, Cert.GateBRefIdeal.Read.val_main_cst, Cert.GateBRefIdeal.Read.val_main_v6, Cert.GateBRefIdeal.Read.val_main_v7, Cert.GateBRefIdeal.Read.val_main_cst_0, Cert.GateBRefIdeal.Read.val_main_v8, Cert.GateBRefIdeal.Read.val_main_v9, Cert.GateBRefIdeal.Read.val_main_cst_1, Cert.GateBRefIdeal.Read.val_main_v10, Cert.GateBRefIdeal.Read.val_main_v11, Cert.GateBRefIdeal.Read.val_main_v12, Cert.GateBRefIdeal.Read.val_main_v13, Cert.GateBRefIdeal.Read.val_main_v14, Cert.GateBRefIdeal.Read.val_main_v15, Cert.GateBRefIdeal.Read.val_main_v16, Cert.GateBRefIdeal.Read.val_main_v17, Cert.GateBRefIdeal.Read.val_main_cst_2, Cert.GateBRefIdeal.Read.val_main_v18, Cert.GateBRefIdeal.Read.val_main_v19, Cert.GateBRefIdeal.Read.val_main_cst_3, Cert.GateBRefIdeal.Read.val_main_v20, Cert.GateBRefIdeal.Read.val_main_v21, Cert.GateBRefIdeal.Read.val_main_cst_4, Cert.GateBRefIdeal.Read.val_main_v22, Cert.GateBRefIdeal.Read.val_main_v23, Cert.GateBRefIdeal.Read.val_main_v24, Cert.GateBRefIdeal.Read.val_main_v25, Cert.GateBRefIdeal.Read.val_main_v26, Cert.GateBRefIdeal.Read.val_main_v27, Cert.GateBRefIdeal.Read.val_main_v28, Cert.GateBRefIdeal.Read.val_main_v29, Cert.GateBRefIdeal.Read.val_main_v30, Cert.GateBRefIdeal.Read.val_main_cst_5, Cert.GateBRefIdeal.Read.val_main_v31, Cert.GateBRefIdeal.Read.val_main_v32, Cert.GateBRefIdeal.Read.val_main_cst_6, Cert.GateBRefIdeal.Read.val_main_v33, Cert.GateBRefIdeal.Read.val_main_v34, Cert.GateBRefIdeal.Read.val_main_v35, Cert.GateBRefIdeal.Read.val_main_cst_7, Cert.GateBRefIdeal.Read.val_main_v36, Cert.GateBRefIdeal.Read.val_main_v37, Cert.GateBRefIdeal.Read.val_main_v38, Cert.GateBRefIdeal.Read.val_main_cst_8, Cert.GateBRefIdeal.Read.val_main_v39, Cert.GateBRefIdeal.Read.val_main_v40, Cert.GateBRefIdeal.Read.val_main_v41, Cert.GateBRefIdeal.Read.val_main_v42, Cert.GateBRefIdeal.Read.val_main_v43, Cert.GateBRefIdeal.Read.val_main_v44]
  by_cases h : (i 1).val < 4096
  · rw [dif_neg (by omega), dif_pos h, zero_add, mul_comm]
    simp only [Nat.mod_eq_of_lt h]
  · have e : (i 1).val % 4096 = (i 1).val - 4096 := by omega
    have e' : 6656 + (4096 + ((i 1).val - 4096)) = 6656 + (i 1).val := by omega
    rw [dif_pos ⟨by omega, by omega⟩, dif_neg h, add_zero, mul_comm]
    simp only [e, e']

/-- The reference's gradient of the gates. -/
theorem ref_gates (x1 : FVec Ideal Cert.GateBRefIdeal.S4224x4096 .bf16) (x2 : FVec Ideal Cert.GateBRefIdeal.S4224x14848 .bf16)
    (x3 : FVec Ideal Cert.GateBRefIdeal.S4224x8192 .bf16) (i : Cert.GateBRefIdeal.S4224x8192.Idx) :
    Cert.GateBRefIdeal.Read.val_main_v42 (F := Ideal) x1 x2 x3 i
      = x1 (ix2 (i 0) ⟨(i 1).val % 4096, by omega⟩) * x3 i
        * (Ideal.logistic (x2 (ix2 (i 0) ⟨6656 + (i 1).val, by have h : (i 1).val < 8192 := (i 1).isLt; omega⟩))
          * (1 - Ideal.logistic (x2 (ix2 (i 0) ⟨6656 + (i 1).val, by have h : (i 1).val < 8192 := (i 1).isLt; omega⟩)))) := by
  have hi : (i 1).val < 8192 := (i 1).isLt
  have hx : ∀ h, x3 (ix2 (i 0) ⟨(i 1).val, h⟩) = x3 i := fun _ => congrArg x3 (eq_ix2 i).symm
  pointwise [Ideal.logistic, Cert.GateBRefIdeal.Read.val_main_v0, Cert.GateBRefIdeal.Read.val_main_v1, Cert.GateBRefIdeal.Read.val_main_v2, Cert.GateBRefIdeal.Read.val_main_v3, Cert.GateBRefIdeal.Read.val_main_v4, Cert.GateBRefIdeal.Read.val_main_v5, Cert.GateBRefIdeal.Read.val_main_cst, Cert.GateBRefIdeal.Read.val_main_v6, Cert.GateBRefIdeal.Read.val_main_v7, Cert.GateBRefIdeal.Read.val_main_cst_0, Cert.GateBRefIdeal.Read.val_main_v8, Cert.GateBRefIdeal.Read.val_main_v9, Cert.GateBRefIdeal.Read.val_main_cst_1, Cert.GateBRefIdeal.Read.val_main_v10, Cert.GateBRefIdeal.Read.val_main_v11, Cert.GateBRefIdeal.Read.val_main_v12, Cert.GateBRefIdeal.Read.val_main_v13, Cert.GateBRefIdeal.Read.val_main_v14, Cert.GateBRefIdeal.Read.val_main_v15, Cert.GateBRefIdeal.Read.val_main_v16, Cert.GateBRefIdeal.Read.val_main_v17, Cert.GateBRefIdeal.Read.val_main_cst_2, Cert.GateBRefIdeal.Read.val_main_v18, Cert.GateBRefIdeal.Read.val_main_v19, Cert.GateBRefIdeal.Read.val_main_cst_3, Cert.GateBRefIdeal.Read.val_main_v20, Cert.GateBRefIdeal.Read.val_main_v21, Cert.GateBRefIdeal.Read.val_main_cst_4, Cert.GateBRefIdeal.Read.val_main_v22, Cert.GateBRefIdeal.Read.val_main_v23, Cert.GateBRefIdeal.Read.val_main_v24, Cert.GateBRefIdeal.Read.val_main_v25, Cert.GateBRefIdeal.Read.val_main_v26, Cert.GateBRefIdeal.Read.val_main_v27, Cert.GateBRefIdeal.Read.val_main_v28, Cert.GateBRefIdeal.Read.val_main_v29, Cert.GateBRefIdeal.Read.val_main_v30, Cert.GateBRefIdeal.Read.val_main_cst_5, Cert.GateBRefIdeal.Read.val_main_v31, Cert.GateBRefIdeal.Read.val_main_v32, Cert.GateBRefIdeal.Read.val_main_cst_6, Cert.GateBRefIdeal.Read.val_main_v33, Cert.GateBRefIdeal.Read.val_main_v34, Cert.GateBRefIdeal.Read.val_main_v35, Cert.GateBRefIdeal.Read.val_main_cst_7, Cert.GateBRefIdeal.Read.val_main_v36, Cert.GateBRefIdeal.Read.val_main_v37, Cert.GateBRefIdeal.Read.val_main_v38, Cert.GateBRefIdeal.Read.val_main_cst_8, Cert.GateBRefIdeal.Read.val_main_v39, Cert.GateBRefIdeal.Read.val_main_v40, Cert.GateBRefIdeal.Read.val_main_v41, Cert.GateBRefIdeal.Read.val_main_v42, Cert.GateBRefIdeal.Read.val_main_v43, Cert.GateBRefIdeal.Read.val_main_v44]
  by_cases h : (i 1).val < 4096
  · rw [dif_neg (by omega), dif_pos h, zero_add]
    simp only [Nat.mod_eq_of_lt h, hx]
  · have e : (i 1).val % 4096 = (i 1).val - 4096 := by omega
    have e' : 4096 + ((i 1).val - 4096) = (i 1).val := by omega
    rw [dif_pos ⟨by omega, by omega⟩, dif_neg h, add_zero]
    simp only [e, e', hx]

/-- The same at a row and a column. -/
theorem ref_gates' (x1 : FVec Ideal Cert.GateBRefIdeal.S4224x4096 .bf16) (x2 : FVec Ideal Cert.GateBRefIdeal.S4224x14848 .bf16)
    (x3 : FVec Ideal Cert.GateBRefIdeal.S4224x8192 .bf16) (r : Fin 4224) (n : ℕ) (hn : n < 8192) :
    Cert.GateBRefIdeal.Read.val_main_v42 (F := Ideal) x1 x2 x3 (ix2 r ⟨n, hn⟩)
      = x1 (ix2 r ⟨n % 4096, by omega⟩) * x3 (ix2 r ⟨n, hn⟩)
        * (Ideal.logistic (x2 (ix2 r ⟨6656 + n, by omega⟩)) * (1 - Ideal.logistic (x2 (ix2 r ⟨6656 + n, by omega⟩)))) :=
  ref_gates x1 x2 x3 (ix2 r ⟨n, hn⟩)

/-- The reference's gradient of the projection is the same function. -/
theorem ref_dz (x0 : FVec Ideal Cert.GateBRefIdeal.S4224x14848 .bf16) (x1 : FVec Ideal Cert.GateBRefIdeal.S4224x4096 .bf16)
    (x2 : FVec Ideal Cert.GateBRefIdeal.S4224x14848 .bf16) (x3 : FVec Ideal Cert.GateBRefIdeal.S4224x8192 .bf16) :
    Cert.GateBRefIdeal.Read.val_main_v43 (F := Ideal) x0 x1 x2 x3 = dz x0 x1 x2 x3 := by
  funext i
  pointwise [dz, Cert.GateBRefIdeal.Read.val_main_v43, Cert.GateBRefIdeal.Read.val_main_v41]
  have hi : (i 1).val < 14848 := (i 1).isLt
  rcases Nat.lt_or_ge (i 1).val 6656 with h | h
  · have h2 : ¬ 13 ≤ (i 1).val / 512 := by omega
    rw [dif_pos h, if_neg h2]
  · have h2 : 13 ≤ (i 1).val / 512 := by omega
    obtain ⟨n, hn⟩ : ∃ n, (i 1).val - 6656 = n := ⟨_, rfl⟩
    have hm : n < 8192 := by omega
    have ei : i = ix2 (i 0) ⟨6656 + n, by omega⟩ :=
      (eq_ix2 i).trans (congrArg (ix2 (i 0)) (Fin.ext (by show (i 1).val = 6656 + n; omega)))
    have hz : x2 i = x2 (ix2 (i 0) ⟨6656 + n, by omega⟩) := congrArg x2 ei
    rw [dif_neg (Nat.not_lt.mpr h), if_pos h2]
    unfold dgate wrap
    rw [hz]
    simp only [hn]
    refine (ref_gates' x1 x2 x3 (i 0) n hm).trans ?_
    rw [mul_assoc _ (Ideal.logistic _)]

end Cert.GateBIdeal.Gate

end
-- ==== Proof.Gate.GluB.lean ====
module

public import proofs.«01_k».proof.Proof.Gen.GluBIdeal.Value
public import proofs.«01_k».proof.Proof.Gen.GluBRefIdeal.Read
public import Idealize.ShloMosaic.Lib.Pipeline.ValueKit
public import Idealize.ShloMosaic.Lib.Pointwise

@[expose] public section

set_option maxRecDepth 16384

noncomputable section

namespace Cert.GluBIdeal.Gate

open Cert.GluBIdeal Cert.GluBIdeal.Gen Idealize.ShloMosaic Idealize.ShloMosaic.TcCoe Idealize.SL.Sem
open Idealize.ShloMosaic.Pointwise

/-- The column of one half of the unit that belongs to the column `n` of the projection. -/
def col (n : ℕ) : ℕ := (n - 2560) % 2048

theorem col_lt (n : ℕ) : col n < 2048 := Nat.mod_lt _ (by omega)

/-- The gradient of the unit's first half: the output's gradient times the gate's sigmoid. -/
def dvalue (dc : S4224x2048.Idx → EReal) (z : S4224x14848.Idx → EReal) (r : Fin 4224) (k : ℕ) (hk : k < 2048) : EReal :=
  dc (ix2 r ⟨k, hk⟩) * Ideal.logistic (z (ix2 r ⟨4608 + k, by omega⟩))

/-- The gradient of the unit's gate. -/
def dgate (dc : S4224x2048.Idx → EReal) (z : S4224x14848.Idx → EReal) (r : Fin 4224) (k : ℕ) (hk : k < 2048) : EReal :=
  dc (ix2 r ⟨k, hk⟩) * z (ix2 r ⟨2560 + k, by omega⟩) * Ideal.logistic (z (ix2 r ⟨4608 + k, by omega⟩))
    * (1 - Ideal.logistic (z (ix2 r ⟨4608 + k, by omega⟩)))

/-- What is written of the projection's gradient, for the column `i 1`. -/
def written (dc : S4224x2048.Idx → EReal) (z : S4224x14848.Idx → EReal) : S4224x14848.Idx → EReal := fun i =>
  if (i 1).val / 512 < 9 then dvalue dc z (i 0) (col (i 1).val) (col_lt _)
  else dgate dc z (i 0) (col (i 1).val) (col_lt _)

/-- The projection's gradient: the unit's columns are written, the others stay. -/
def dz (d : S4224x14848.Idx → EReal) (dc : S4224x2048.Idx → EReal) (z : S4224x14848.Idx → EReal) :
    S4224x14848.Idx → EReal := fun i =>
  if 5 ≤ (i 1).val / 512 ∧ (i 1).val / 512 < 13 then written dc z i else d i

/-- What one grid point computes of the first half. -/
theorem pay2 (d : Vec Ideal S384x512 .f32) (g : Vec Ideal S384x512 .bf16) (j : S384x512.Idx) :
    k0_pay2 (F := Ideal) d g j = d j * Ideal.logistic (g j) := by
  pointwise [k0_pay2, k0_pay1]

/-- What one grid point computes of the gate. -/
theorem pay3 (d : Vec Ideal S384x512 .f32) (g a : Vec Ideal S384x512 .bf16) (j : S384x512.Idx) :
    k0_pay3 (F := Ideal) d g a j = d j * a j * Ideal.logistic (g j) * (1 - Ideal.logistic (g j)) := by
  pointwise [k0_pay3, k0_pay1]

/-- Where each block lies. -/
theorem idx : ∀ t : Fin cfg0.N, (win0_0.index t 0 = win0_3.index t 0 ∧ win0_0.index t 1 = t.val % 4)
    ∧ (win0_1.index t 0 = win0_3.index t 0 ∧ win0_1.index t 1 = 5 + t.val % 4)
    ∧ (win0_2.index t 0 = win0_3.index t 0 ∧ win0_2.index t 1 = 9 + t.val % 4) ∧ win0_3.index t 1 = 5 + t.val % 8 :=
  (by decide +kernel : ∀ t : Fin grid0.N, (win0_0.index t 0 = win0_3.index t 0 ∧ win0_0.index t 1 = t.val % 4)
    ∧ (win0_1.index t 0 = win0_3.index t 0 ∧ win0_1.index t 1 = 5 + t.val % 4)
    ∧ (win0_2.index t 0 = win0_3.index t 0 ∧ win0_2.index t 1 = 9 + t.val % 4) ∧ win0_3.index t 1 = 5 + t.val % 8)

variable (m : (ℓ : Loc nD τ sig) → Buf (Elt Ideal) ℓ)

/-- What the block of input 0 holds, read off the array. -/
theorem blk0 (c : Dev nD) (t : Fin cfg0.N) (y : ((cfg0.win 3).xblock (cfg0.grid.coords t)).Idx) (j : S4224x2048.Idx)
    (j0 : (j 0).val = win0_3.index t 0 * 384 + (y 0).val) (j1 : (j 1).val = (t.val % 4) * 512 + (y 1).val) :
    iblk m c 0 t y = m ((c : Thread nD τ).loc main_arg1) j := by
  obtain ⟨⟨a0, a1⟩, ⟨b0, b1⟩, ⟨c0, c1⟩, d1⟩ := idx t
  blk_ext [iblk, V, a0, a1, j0, j1]

/-- What the block of input 1 holds, read off the array. -/
theorem blk1 (c : Dev nD) (t : Fin cfg0.N) (y : ((cfg0.win 3).xblock (cfg0.grid.coords t)).Idx) (j : S4224x14848.Idx)
    (j0 : (j 0).val = win0_3.index t 0 * 384 + (y 0).val) (j1 : (j 1).val = (5 + t.val % 4) * 512 + (y 1).val) :
    iblk m c 1 t y = m ((c : Thread nD τ).loc main_arg2) j := by
  obtain ⟨⟨a0, a1⟩, ⟨b0, b1⟩, ⟨c0, c1⟩, d1⟩ := idx t
  blk_ext [iblk, V, b0, b1, j0, j1]

/-- What the block of input 2 holds, read off the array. -/
theorem blk2 (c : Dev nD) (t : Fin cfg0.N) (y : ((cfg0.win 3).xblock (cfg0.grid.coords t)).Idx) (j : S4224x14848.Idx)
    (j0 : (j 0).val = win0_3.index t 0 * 384 + (y 0).val) (j1 : (j 1).val = (9 + t.val % 4) * 512 + (y 1).val) :
    iblk m c 2 t y = m ((c : Thread nD τ).loc main_arg2) j := by
  obtain ⟨⟨a0, a1⟩, ⟨b0, b1⟩, ⟨c0, c1⟩, d1⟩ := idx t
  blk_ext [iblk, V, c0, c1, j0, j1]

/-- What a grid point writes. -/
theorem point (c : Dev nD) (t : Fin cfg0.N) (y : ((cfg0.win 3).xblock (cfg0.grid.coords t)).Idx) (e : S4224x14848.Idx)
    (k0 : (e 0).val = win0_3.index t 0 * 384 + (y 0).val) (k1 : (e 1).val = win0_3.index t 1 * 512 + (y 1).val) :
    (dats m 0 c).after 3 t y
      = written (m ((c : Thread nD τ).loc main_arg1)) (m ((c : Thread nD τ).loc main_arg2)) e := by
  have hy : (y 1).val < 512 := (y 1).isLt
  obtain ⟨_, _, _, d1⟩ := idx t
  have hk : col (e 1).val = t.val % 4 * 512 + (y 1).val := by
    rw [k1, d1]
    unfold col
    omega
  have hl := col_lt (e 1).val
  rw [after0_3]
  unfold written
  by_cases h : t.val % 8 ≤ 3
  · have h' : (e 1).val / 512 < 9 := by omega
    rw [if_pos h', outsAt0_A m c t h (by omega)]
    frame_out
    rw [pay2]
    unfold dvalue
    refine congrArg₂ (· * ·) (blk0 m c t y _ k0 hk) (congrArg Ideal.logistic (blk2 m c t y _ k0 ?_))
    show 4608 + col (e 1).val = _
    omega
  · have h' : ¬ (e 1).val / 512 < 9 := by omega
    rw [if_neg h', outsAt0_B m c t h (by omega)]
    frame_out
    rw [pay3]
    unfold dgate
    refine congrArg₂ (· * ·) (congrArg₂ (· * ·) (congrArg₂ (· * ·) (blk0 m c t y _ k0 hk) (blk1 m c t y _ k0 ?_))
      (congrArg Ideal.logistic (blk2 m c t y _ k0 ?_))) (congrArg (fun v => 1 - Ideal.logistic v) (blk2 m c t y _ k0 ?_))
    · show 2560 + col (e 1).val = _
      omega
    · show 4608 + col (e 1).val = _
      omega
    · show 4608 + col (e 1).val = _
      omega

/-- The kernel's array after the run. -/
theorem final (c : Dev nD) :
    (dats m 0 c).arrAt 3 cfg0.N
      = dz (m ((c : Thread nD τ).loc main_arg0)) (m ((c : Thread nD τ).loc main_arg1))
          (m ((c : Thread nD τ).loc main_arg2)) := by
  refine ((dats m 0 c).arrAt_eq_of_coversWhere 3 (written (m ((c : Thread nD τ).loc main_arg1))
      (m ((c : Thread nD τ).loc main_arg2))) (P := fun i => 5 ≤ (i 1).val / 512 ∧ (i 1).val / 512 < 13)
      (fun β => 5 ≤ β (1 : Fin _) ∧ β (1 : Fin _) < 13) (by decide +kernel) (fun t hf y => ?_) (fun j => Iff.rfl)).trans ?_
  · blk_simp
    refine point m c t y _ ?_ ?_
    · blk_simp
    · blk_simp
  · funext i
    unfold dz
    rw [A_eq]
    congr 1

/-- The reference's gradient of the unit's two halves. -/
theorem ref_halves (x1 : FVec Ideal Cert.GluBRefIdeal.S4224x2048 .f32) (x2 : FVec Ideal Cert.GluBRefIdeal.S4224x14848 .bf16)
    (i : Cert.GluBRefIdeal.S4224x4096.Idx) :
    Cert.GluBRefIdeal.Read.val_main_v21 (F := Ideal) x1 x2 i
      = if (i 1).val < 2048 then dvalue x1 x2 (i 0) ((i 1).val % 2048) (Nat.mod_lt _ (by omega))
        else dgate x1 x2 (i 0) ((i 1).val % 2048) (Nat.mod_lt _ (by omega)) := by
  have hi : (i 1).val < 4096 := (i 1).isLt
  pointwise [dvalue, dgate, Ideal.logistic, Cert.GluBRefIdeal.Read.val_main_v0, Cert.GluBRefIdeal.Read.val_main_v1, Cert.GluBRefIdeal.Read.val_main_v2, Cert.GluBRefIdeal.Read.val_main_v3, Cert.GluBRefIdeal.Read.val_main_v4, Cert.GluBRefIdeal.Read.val_main_v5, Cert.GluBRefIdeal.Read.val_main_cst, Cert.GluBRefIdeal.Read.val_main_v6, Cert.GluBRefIdeal.Read.val_main_v7, Cert.GluBRefIdeal.Read.val_main_cst_0, Cert.GluBRefIdeal.Read.val_main_v8, Cert.GluBRefIdeal.Read.val_main_v9, Cert.GluBRefIdeal.Read.val_main_cst_1, Cert.GluBRefIdeal.Read.val_main_v10, Cert.GluBRefIdeal.Read.val_main_v11, Cert.GluBRefIdeal.Read.val_main_v12, Cert.GluBRefIdeal.Read.val_main_v13, Cert.GluBRefIdeal.Read.val_main_v14, Cert.GluBRefIdeal.Read.val_main_v15, Cert.GluBRefIdeal.Read.val_main_v16, Cert.GluBRefIdeal.Read.val_main_cst_2, Cert.GluBRefIdeal.Read.val_main_v17, Cert.GluBRefIdeal.Read.val_main_cst_3, Cert.GluBRefIdeal.Read.val_main_v18, Cert.GluBRefIdeal.Read.val_main_v19, Cert.GluBRefIdeal.Read.val_main_v20, Cert.GluBRefIdeal.Read.val_main_v21, Cert.GluBRefIdeal.Read.val_main_v22, Cert.GluBRefIdeal.Read.val_main_v23]
  by_cases h : (i 1).val < 2048
  · have e : ¬ (2048 ≤ (i 1).val ∧ (i 1).val - 2048 < 2048) := by omega
    have e' : 2560 + (2048 + (i 1).val) = 4608 + (i 1).val := by omega
    rw [dif_neg e, dif_pos h, if_pos h, zero_add]
    simp only [Nat.mod_eq_of_lt h, e']
  · have e : (i 1).val % 2048 = (i 1).val - 2048 := by omega
    have e' : 2560 + (2048 + ((i 1).val - 2048)) = 4608 + ((i 1).val - 2048) := by omega
    have e2 : 2048 ≤ (i 1).val ∧ (i 1).val - 2048 < 2048 := by omega
    rw [dif_pos e2, dif_neg h, if_neg h, add_zero]
    simp only [e, e', mul_assoc]
    rw [mul_left_comm]

/-- The same at a row and a column. -/
theorem ref_halves' (x1 : FVec Ideal Cert.GluBRefIdeal.S4224x2048 .f32) (x2 : FVec Ideal Cert.GluBRefIdeal.S4224x14848 .bf16)
    (r : Fin 4224) (n : ℕ) (hn : n < 4096) :
    Cert.GluBRefIdeal.Read.val_main_v21 (F := Ideal) x1 x2 (ix2 r ⟨n, hn⟩)
      = if n < 2048 then dvalue x1 x2 r (n % 2048) (Nat.mod_lt _ (by omega))
        else dgate x1 x2 r (n % 2048) (Nat.mod_lt _ (by omega)) :=
  ref_halves x1 x2 (ix2 r ⟨n, hn⟩)

/-- The reference's result is the same function. -/
theorem ref (x0 : FVec Ideal Cert.GluBRefIdeal.S4224x14848 .bf16) (x1 : FVec Ideal Cert.GluBRefIdeal.S4224x2048 .f32)
    (x2 : FVec Ideal Cert.GluBRefIdeal.S4224x14848 .bf16) :
    Cert.GluBRefIdeal.Read.val_main_v23 (F := Ideal) x0 x1 x2 = dz x0 x1 x2 := by
  funext i
  pointwise [dz, Cert.GluBRefIdeal.Read.val_main_v23, Cert.GluBRefIdeal.Read.val_main_v20, Cert.GluBRefIdeal.Read.val_main_v22]
  have hi : (i 1).val < 14848 := (i 1).isLt
  rcases Nat.lt_or_ge (i 1).val 2560 with h | h
  · have h2 : ¬ (5 ≤ (i 1).val / 512 ∧ (i 1).val / 512 < 13) := by omega
    rw [dif_pos h, if_neg h2]
  rw [dif_neg (Nat.not_lt.mpr h)]
  obtain ⟨n, hn⟩ : ∃ n, (i 1).val - 2560 = n := ⟨_, rfl⟩
  simp only [hn]
  rcases Nat.lt_or_ge n 4096 with h1 | h1
  · have h2 : 5 ≤ (i 1).val / 512 ∧ (i 1).val / 512 < 13 := by omega
    rw [dif_pos h1, if_pos h2]
    refine (ref_halves' x1 x2 (i 0) n h1).trans ?_
    unfold written col
    simp only [hn]
    by_cases h3 : n < 2048
    · have h4 : (i 1).val / 512 < 9 := by omega
      rw [if_pos h3, if_pos h4]
    · have h4 : ¬ (i 1).val / 512 < 9 := by omega
      rw [if_neg h3, if_neg h4]
  · have h2 : ¬ (5 ≤ (i 1).val / 512 ∧ (i 1).val / 512 < 13) := by omega
    have e : 6656 + (n - 4096) = (i 1).val := by omega
    have hx : ∀ h, x0 (ix2 (i 0) ⟨(i 1).val, h⟩) = x0 i := fun _ => congrArg x0 (eq_ix2 i).symm
    rw [dif_neg (Nat.not_lt.mpr h1), if_neg h2]
    simp only [e, hx]

end Cert.GluBIdeal.Gate

end
-- ==== Proof.Gate.SwigluB.lean ====
module

public import proofs.«01_k».proof.Proof.Gen.SwigluBIdeal.Value
public import proofs.«01_k».proof.Proof.Gen.SwigluBRefIdeal.Read
public import Idealize.ShloMosaic.Lib.Pipeline.ValueKit
public import Idealize.ShloMosaic.Lib.Pointwise

@[expose] public section

set_option maxRecDepth 16384

noncomputable section

namespace Cert.SwigluBIdeal.Gate

open Cert.SwigluBIdeal Cert.SwigluBIdeal.Gen Idealize.ShloMosaic Idealize.ShloMosaic.TcCoe Idealize.SL.Sem
open Idealize.ShloMosaic.Pointwise

/-- The column of one half that belongs to the column `n` of the two halves. -/
def col (n : ℕ) : ℕ := n % 11008

theorem col_lt (n : ℕ) : col n < 11008 := Nat.mod_lt _ (by omega)

/-- The gradient of the gate: its sigmoid times one and the gate times the sigmoid's complement. -/
def dgate (d : S4224x11008.Idx → EReal) (gu : S4224x22016.Idx → EReal) (r : Fin 4224) (k : ℕ) (hk : k < 11008) : EReal :=
  d (ix2 r ⟨k, hk⟩) * gu (ix2 r ⟨11008 + k, by omega⟩) * Ideal.logistic (gu (ix2 r ⟨k, by omega⟩))
    * (1 + gu (ix2 r ⟨k, by omega⟩) * (1 - Ideal.logistic (gu (ix2 r ⟨k, by omega⟩))))

/-- The gradient of the up half. -/
def dup (d : S4224x11008.Idx → EReal) (gu : S4224x22016.Idx → EReal) (r : Fin 4224) (k : ℕ) (hk : k < 11008) : EReal :=
  d (ix2 r ⟨k, hk⟩) * gu (ix2 r ⟨k, by omega⟩) * Ideal.logistic (gu (ix2 r ⟨k, by omega⟩))

/-- The gradient of both halves, for the column `i 1`. -/
def grad (d : S4224x11008.Idx → EReal) (gu : S4224x22016.Idx → EReal) : S4224x22016.Idx → EReal := fun i =>
  if (i 1).val < 11008 then dgate d gu (i 0) (col (i 1).val) (col_lt _) else dup d gu (i 0) (col (i 1).val) (col_lt _)

/-- What one grid point computes of the gate's gradient. -/
theorem pay4 (d g u : Vec Ideal S64x5504 .bf16) (j : S64x5504.Idx) :
    k0_pay4 (F := Ideal) d g u j = d j * u j * Ideal.logistic (g j) * (1 + g j * (1 - Ideal.logistic (g j))) := by
  pointwise [k0_pay4, k0_pay1, k0_pay2, k0_pay3]

/-- What one grid point computes of the up half's gradient. -/
theorem pay5 (d g : Vec Ideal S64x5504 .bf16) (j : S64x5504.Idx) :
    k0_pay5 (F := Ideal) d g j = d j * g j * Ideal.logistic (g j) := by
  pointwise [k0_pay5, k0_pay1, k0_pay2, k0_pay3]

/-- Where each block lies. -/
theorem idx : ∀ t : Fin cfg0.N, (win0_0.index t 0 = win0_3.index t 0 ∧ win0_0.index t 1 = t.val % 2)
    ∧ (win0_1.index t 0 = win0_3.index t 0 ∧ win0_1.index t 1 = t.val % 2)
    ∧ (win0_2.index t 0 = win0_3.index t 0 ∧ win0_2.index t 1 = 2 + t.val % 2) ∧ win0_3.index t 1 = t.val % 4 :=
  (by decide +kernel : ∀ t : Fin grid0.N, (win0_0.index t 0 = win0_3.index t 0 ∧ win0_0.index t 1 = t.val % 2)
    ∧ (win0_1.index t 0 = win0_3.index t 0 ∧ win0_1.index t 1 = t.val % 2)
    ∧ (win0_2.index t 0 = win0_3.index t 0 ∧ win0_2.index t 1 = 2 + t.val % 2) ∧ win0_3.index t 1 = t.val % 4)

variable (m : (ℓ : Loc nD τ sig) → Buf (Elt Ideal) ℓ)

/-- What the block of input 0 holds, read off the array. -/
theorem blk0 (c : Dev nD) (t : Fin cfg0.N) (y : ((cfg0.win 3).xblock (cfg0.grid.coords t)).Idx) (j : S4224x11008.Idx)
    (j0 : (j 0).val = win0_3.index t 0 * 64 + (y 0).val) (j1 : (j 1).val = (t.val % 2) * 5504 + (y 1).val) :
    iblk m c 0 t y = m ((c : Thread nD τ).loc main_arg0) j := by
  obtain ⟨⟨a0, a1⟩, ⟨b0, b1⟩, ⟨c0, c1⟩, d1⟩ := idx t
  blk_ext [iblk, V, a0, a1, j0, j1]

/-- What the block of input 1 holds, read off the array. -/
theorem blk1 (c : Dev nD) (t : Fin cfg0.N) (y : ((cfg0.win 3).xblock (cfg0.grid.coords t)).Idx) (j : S4224x22016.Idx)
    (j0 : (j 0).val = win0_3.index t 0 * 64 + (y 0).val) (j1 : (j 1).val = (t.val % 2) * 5504 + (y 1).val) :
    iblk m c 1 t y = m ((c : Thread nD τ).loc main_arg1) j := by
  obtain ⟨⟨a0, a1⟩, ⟨b0, b1⟩, ⟨c0, c1⟩, d1⟩ := idx t
  blk_ext [iblk, V, b0, b1, j0, j1]

/-- What the block of input 2 holds, read off the array. -/
theorem blk2 (c : Dev nD) (t : Fin cfg0.N) (y : ((cfg0.win 3).xblock (cfg0.grid.coords t)).Idx) (j : S4224x22016.Idx)
    (j0 : (j 0).val = win0_3.index t 0 * 64 + (y 0).val) (j1 : (j 1).val = (2 + t.val % 2) * 5504 + (y 1).val) :
    iblk m c 2 t y = m ((c : Thread nD τ).loc main_arg1) j := by
  obtain ⟨⟨a0, a1⟩, ⟨b0, b1⟩, ⟨c0, c1⟩, d1⟩ := idx t
  blk_ext [iblk, V, c0, c1, j0, j1]

/-- What a grid point writes. -/
theorem point (c : Dev nD) (t : Fin cfg0.N) (y : ((cfg0.win 3).xblock (cfg0.grid.coords t)).Idx) (e : S4224x22016.Idx)
    (k0 : (e 0).val = win0_3.index t 0 * 64 + (y 0).val) (k1 : (e 1).val = win0_3.index t 1 * 5504 + (y 1).val) :
    (dats m 0 c).after 3 t y
      = grad (m ((c : Thread nD τ).loc main_arg0)) (m ((c : Thread nD τ).loc main_arg1)) e := by
  have hy : (y 1).val < 5504 := (y 1).isLt
  obtain ⟨_, _, _, d1⟩ := idx t
  have hk : col (e 1).val = t.val % 2 * 5504 + (y 1).val := by
    rw [k1, d1]
    unfold col
    omega
  have hl := col_lt (e 1).val
  rw [after0_3]
  unfold grad
  by_cases h : t.val % 4 ≤ 1
  · have h' : (e 1).val < 11008 := by omega
    rw [if_pos h', outsAt0_A m c t h (by omega)]
    frame_out
    rw [pay4]
    unfold dgate
    refine congrArg₂ (· * ·) (congrArg₂ (· * ·) (congrArg₂ (· * ·) (blk0 m c t y _ k0 hk) (blk2 m c t y _ k0 ?_))
      (congrArg Ideal.logistic (blk1 m c t y _ k0 hk)))
      (congrArg (fun v => 1 + v * (1 - Ideal.logistic v)) (blk1 m c t y _ k0 hk))
    show 11008 + col (e 1).val = _
    omega
  · have h' : ¬ (e 1).val < 11008 := by omega
    rw [if_neg h', outsAt0_B m c t h (by omega)]
    frame_out
    rw [pay5]
    unfold dup
    exact congrArg₂ (· * ·) (congrArg₂ (· * ·) (blk0 m c t y _ k0 hk) (blk1 m c t y _ k0 hk))
      (congrArg Ideal.logistic (blk1 m c t y _ k0 hk))

/-- The kernel's array after the run. -/
theorem final (c : Dev nD) :
    (dats m 0 c).arrAt 3 cfg0.N
      = grad (m ((c : Thread nD τ).loc main_arg0)) (m ((c : Thread nD τ).loc main_arg1)) := by
  refine (dats m 0 c).arrAt_eq_of_covers 3 _ (by decide +kernel) fun t hf y => ?_
  blk_simp
  refine point m c t y _ ?_ ?_
  · blk_simp
  · blk_simp

/-- For numbers, the derivative's two terms are the kernel's product. -/
theorem two_terms (d u g : ℝ) :
    ((d : EReal) * u) * Ideal.logistic (g : EReal) + g * ((d : EReal) * u) * (Ideal.logistic (g : EReal) * (1 - Ideal.logistic (g : EReal)))
      = (d : EReal) * u * Ideal.logistic (g : EReal) * (1 + g * (1 - Ideal.logistic (g : EReal))) := by
  rw [Ideal.logistic_coe]
  norm_cast
  ring

/-- The reference's result is the same function, of numbers. -/
theorem ref (x0 : FVec Ideal Cert.SwigluBRefIdeal.S4224x11008 .bf16) (x1 : FVec Ideal Cert.SwigluBRefIdeal.S4224x22016 .bf16)
    (h0 : ∀ i, x0 i = ((x0 i : EReal).toReal : EReal)) (h1 : ∀ i, x1 i = ((x1 i : EReal).toReal : EReal)) :
    Cert.SwigluBRefIdeal.Read.val_main_v12 (F := Ideal) x0 x1 = grad x0 x1 := by
  funext i
  have hi : (i 1).val < 22016 := (i 1).isLt
  pointwise [grad, col, dgate, dup, Ideal.logistic, Cert.SwigluBRefIdeal.Read.val_main_v0, Cert.SwigluBRefIdeal.Read.val_main_v1, Cert.SwigluBRefIdeal.Read.val_main_call0_v0, Cert.SwigluBRefIdeal.Read.val_main_call0_v1, Cert.SwigluBRefIdeal.Read.val_main_call0_cst, Cert.SwigluBRefIdeal.Read.val_main_call0_v2, Cert.SwigluBRefIdeal.Read.val_main_call0_v3, Cert.SwigluBRefIdeal.Read.val_main_call0_cst_0, Cert.SwigluBRefIdeal.Read.val_main_call0_v4, Cert.SwigluBRefIdeal.Read.val_main_v2_2, Cert.SwigluBRefIdeal.Read.val_main_call0_cst_1, Cert.SwigluBRefIdeal.Read.val_main_call0_v6, Cert.SwigluBRefIdeal.Read.val_main_call0_v7, Cert.SwigluBRefIdeal.Read.val_main_v2_1, Cert.SwigluBRefIdeal.Read.val_main_v2_0, Cert.SwigluBRefIdeal.Read.val_main_v3, Cert.SwigluBRefIdeal.Read.val_main_v4, Cert.SwigluBRefIdeal.Read.val_main_v5, Cert.SwigluBRefIdeal.Read.val_main_v6, Cert.SwigluBRefIdeal.Read.val_main_v7, Cert.SwigluBRefIdeal.Read.val_main_cst, Cert.SwigluBRefIdeal.Read.val_main_v8, Cert.SwigluBRefIdeal.Read.val_main_call1_v0, Cert.SwigluBRefIdeal.Read.val_main_call1_v1, Cert.SwigluBRefIdeal.Read.val_main_call1_v2, Cert.SwigluBRefIdeal.Read.val_main_v9, Cert.SwigluBRefIdeal.Read.val_main_cst_0, Cert.SwigluBRefIdeal.Read.val_main_v10, Cert.SwigluBRefIdeal.Read.val_main_v11, Cert.SwigluBRefIdeal.Read.val_main_v12]
  have hx : ∀ h, x1 (ix2 (i 0) ⟨(i 1).val, h⟩) = x1 i := fun _ => congrArg x1 (eq_ix2 i).symm
  rcases Nat.lt_or_ge (i 1).val 11008 with h | h
  · have e : ¬ (11008 ≤ (i 1).val ∧ (i 1).val - 11008 < 11008) := by omega
    rw [dif_neg e, dif_pos h, if_pos h, zero_add]
    simp only [Nat.mod_eq_of_lt h, hx]
    obtain ⟨a, ha⟩ : ∃ a : ℝ, x0 (ix2 (i 0) ⟨(i 1).val, h⟩) = a := ⟨_, h0 _⟩
    obtain ⟨b, hb⟩ : ∃ b : ℝ, x1 (ix2 (i 0) ⟨11008 + (i 1).val, by omega⟩) = b := ⟨_, h1 _⟩
    obtain ⟨g, hg⟩ : ∃ g : ℝ, x1 i = g := ⟨_, h1 _⟩
    rw [ha, hb, hg]
    exact two_terms a b g
  · have e : (i 1).val % 11008 = (i 1).val - 11008 := by omega
    have e2 : 11008 ≤ (i 1).val ∧ (i 1).val - 11008 < 11008 := by omega
    rw [dif_pos e2, dif_neg (Nat.not_lt.mpr h), if_neg (Nat.not_lt.mpr h), add_zero]
    simp only [e]
    rw [mul_comm, mul_assoc]

end Cert.SwigluBIdeal.Gate

end
-- ==== Proof.Gate.SwigluF.lean ====
module

public import proofs.«01_k».proof.Proof.Gen.SwigluFIdeal.Value
public import proofs.«01_k».proof.Proof.Gen.SwigluFRefIdeal.Read
public import Idealize.ShloMosaic.Lib.Pipeline.ValueKit
public import Idealize.ShloMosaic.Lib.Pointwise

@[expose] public section

set_option maxRecDepth 16384

noncomputable section

namespace Cert.SwigluFIdeal.Gate

open Cert.SwigluFIdeal Cert.SwigluFIdeal.Gen Idealize.ShloMosaic Idealize.ShloMosaic.TcCoe Idealize.SL.Sem
open Idealize.ShloMosaic.Pointwise

/-- The activation: the gate times its sigmoid times the up half. -/
def out (gu : S4224x22016.Idx → EReal) : S4224x11008.Idx → EReal := fun i =>
  gu (ix2 (i 0) ⟨(i 1).val, by have h : (i 1).val < 11008 := (i 1).isLt; omega⟩)
    * Ideal.logistic (gu (ix2 (i 0) ⟨(i 1).val, by have h : (i 1).val < 11008 := (i 1).isLt; omega⟩))
    * gu (ix2 (i 0) ⟨11008 + (i 1).val, by have h : (i 1).val < 11008 := (i 1).isLt; omega⟩)

/-- What one grid point computes from its blocks. -/
theorem pay (g u : Vec Ideal S64x5504 .bf16) (j : S64x5504.Idx) :
    k0_pay1 (F := Ideal) g u j = g j * Ideal.logistic (g j) * u j := by
  pointwise [k0_pay1]

/-- Where each input block lies, beside the output's. -/
theorem idx : ∀ t : Fin cfg0.N, win0_0.index t 0 = win0_2.index t 0 ∧ win0_0.index t 1 = win0_2.index t 1
    ∧ win0_1.index t 0 = win0_2.index t 0 ∧ win0_1.index t 1 = 2 + win0_2.index t 1 :=
  (by decide +kernel : ∀ t : Fin grid0.N, win0_0.index t 0 = win0_2.index t 0 ∧ win0_0.index t 1 = win0_2.index t 1
    ∧ win0_1.index t 0 = win0_2.index t 0 ∧ win0_1.index t 1 = 2 + win0_2.index t 1)

/-- The kernel's array after the run is that function of the argument. -/
theorem final (m : (ℓ : Loc nD τ sig) → Buf (Elt Ideal) ℓ) (c : Dev nD) :
    (dats m 0 c).arrAt 2 cfg0.N = out (m ((c : Thread nD τ).loc main_arg0)) := by
  refine (dats m 0 c).arrAt_eq_of_covers 2 _ (by decide +kernel) fun t hf y => ?_
  blk_simp
  rw [after0_2]
  frame_out
  rw [pay]
  obtain ⟨e0, e1, e2, e3⟩ := idx t
  unfold out
  congr 1
  · congr 1
    · blk_ext [iblk, V, e0, e1, e2, e3]
    · congr 1
      blk_ext [iblk, V, e0, e1, e2, e3]
  · blk_ext [iblk, V, e0, e1, e2, e3]

/-- The reference's result is the same function. -/
theorem ref (x0 : FVec Ideal Cert.SwigluFRefIdeal.S4224x22016 .bf16) :
    Cert.SwigluFRefIdeal.Read.val_main_v6 (F := Ideal) x0 = out x0 := by
  funext i
  pointwise [out, Ideal.logistic, Cert.SwigluFRefIdeal.Read.val_main_v0, Cert.SwigluFRefIdeal.Read.val_main_v1, Cert.SwigluFRefIdeal.Read.val_main_v2, Cert.SwigluFRefIdeal.Read.val_main_v3, Cert.SwigluFRefIdeal.Read.val_main_call0_v0, Cert.SwigluFRefIdeal.Read.val_main_call0_v1, Cert.SwigluFRefIdeal.Read.val_main_call0_cst, Cert.SwigluFRefIdeal.Read.val_main_call0_v2, Cert.SwigluFRefIdeal.Read.val_main_call0_v3, Cert.SwigluFRefIdeal.Read.val_main_call0_cst_0, Cert.SwigluFRefIdeal.Read.val_main_call0_v4, Cert.SwigluFRefIdeal.Read.val_main_call0_v5, Cert.SwigluFRefIdeal.Read.val_main_v4, Cert.SwigluFRefIdeal.Read.val_main_v5, Cert.SwigluFRefIdeal.Read.val_main_v6]

end Cert.SwigluFIdeal.Gate

end
-- ==== Proof.Gate.GateF.lean ====
module

public import proofs.«01_k».proof.Proof.Gen.GateFIdeal.Value
public import proofs.«01_k».proof.Proof.Gen.GateFRefIdeal.Read
public import Idealize.ShloMosaic.Lib.Pipeline.ValueKit
public import Idealize.ShloMosaic.Lib.Pointwise

@[expose] public section

set_option maxRecDepth 16384

noncomputable section

namespace Cert.GateFIdeal.Gate

open Cert.GateFIdeal Cert.GateFIdeal.Gen Idealize.ShloMosaic Idealize.ShloMosaic.TcCoe Idealize.SL.Sem
open Idealize.ShloMosaic.Pointwise

/-- The merged branches: each branch times the sigmoid of its gate, added. -/
def out (z : S4224x14848.Idx → EReal) (ab : S4224x8192.Idx → EReal) : S4224x4096.Idx → EReal := fun i =>
  Ideal.logistic (z (ix2 (i 0) ⟨6656 + (i 1).val, by have h : (i 1).val < 4096 := (i 1).isLt; omega⟩))
      * ab (ix2 (i 0) ⟨(i 1).val, by have h : (i 1).val < 4096 := (i 1).isLt; omega⟩)
    + Ideal.logistic (z (ix2 (i 0) ⟨10752 + (i 1).val, by have h : (i 1).val < 4096 := (i 1).isLt; omega⟩))
      * ab (ix2 (i 0) ⟨4096 + (i 1).val, by have h : (i 1).val < 4096 := (i 1).isLt; omega⟩)

/-- What one grid point computes from its blocks. -/
theorem pay (ga a gb b : Vec Ideal S384x512 .bf16) (j : S384x512.Idx) :
    k0_pay1 (F := Ideal) ga a gb b j = Ideal.logistic (ga j) * a j + Ideal.logistic (gb j) * b j := by
  pointwise [k0_pay1]

/-- Where each input block lies, beside the output's. -/
theorem idx : ∀ t : Fin cfg0.N, (win0_0.index t 0 = win0_4.index t 0 ∧ win0_0.index t 1 = 13 + win0_4.index t 1)
    ∧ (win0_1.index t 0 = win0_4.index t 0 ∧ win0_1.index t 1 = 21 + win0_4.index t 1)
    ∧ (win0_2.index t 0 = win0_4.index t 0 ∧ win0_2.index t 1 = win0_4.index t 1)
    ∧ (win0_3.index t 0 = win0_4.index t 0 ∧ win0_3.index t 1 = 8 + win0_4.index t 1) :=
  (by decide +kernel : ∀ t : Fin grid0.N, (win0_0.index t 0 = win0_4.index t 0 ∧ win0_0.index t 1 = 13 + win0_4.index t 1)
    ∧ (win0_1.index t 0 = win0_4.index t 0 ∧ win0_1.index t 1 = 21 + win0_4.index t 1)
    ∧ (win0_2.index t 0 = win0_4.index t 0 ∧ win0_2.index t 1 = win0_4.index t 1)
    ∧ (win0_3.index t 0 = win0_4.index t 0 ∧ win0_3.index t 1 = 8 + win0_4.index t 1))

/-- The kernel's array after the run is that function of the arguments. -/
theorem final (m : (ℓ : Loc nD τ sig) → Buf (Elt Ideal) ℓ) (c : Dev nD) :
    (dats m 0 c).arrAt 4 cfg0.N
      = out (m ((c : Thread nD τ).loc main_arg0)) (m ((c : Thread nD τ).loc main_arg1)) := by
  refine (dats m 0 c).arrAt_eq_of_covers 4 _ (by decide +kernel) fun t hf y => ?_
  blk_simp
  rw [after0_4]
  frame_out
  rw [pay]
  obtain ⟨⟨e0, e1⟩, ⟨e2, e3⟩, ⟨e4, e5⟩, e6, e7⟩ := idx t
  unfold out
  refine congrArg₂ (· + ·) (congrArg₂ (· * ·) (congrArg Ideal.logistic ?_) ?_)
    (congrArg₂ (· * ·) (congrArg Ideal.logistic ?_) ?_)
  · blk_ext [iblk, V, e0, e1]
  · blk_ext [iblk, V, e4, e5]
  · blk_ext [iblk, V, e2, e3]
  · blk_ext [iblk, V, e6, e7]

/-- The reference's result is the same function. -/
theorem ref (x0 : FVec Ideal Cert.GateFRefIdeal.S4224x14848 .bf16) (x1 : FVec Ideal Cert.GateFRefIdeal.S4224x8192 .bf16) :
    Cert.GateFRefIdeal.Read.val_main_v22 (F := Ideal) x0 x1 = out x0 x1 := by
  funext i
  have e : 6656 + (4096 + (i 1).val) = 10752 + (i 1).val := by omega
  pointwise [out, Ideal.logistic, Cert.GateFRefIdeal.Read.val_main_v0, Cert.GateFRefIdeal.Read.val_main_v1, Cert.GateFRefIdeal.Read.val_main_v2, Cert.GateFRefIdeal.Read.val_main_v3, Cert.GateFRefIdeal.Read.val_main_v4, Cert.GateFRefIdeal.Read.val_main_v5, Cert.GateFRefIdeal.Read.val_main_cst, Cert.GateFRefIdeal.Read.val_main_v6, Cert.GateFRefIdeal.Read.val_main_v7, Cert.GateFRefIdeal.Read.val_main_cst_0, Cert.GateFRefIdeal.Read.val_main_v8, Cert.GateFRefIdeal.Read.val_main_v9, Cert.GateFRefIdeal.Read.val_main_v10, Cert.GateFRefIdeal.Read.val_main_v11, Cert.GateFRefIdeal.Read.val_main_v12, Cert.GateFRefIdeal.Read.val_main_v13, Cert.GateFRefIdeal.Read.val_main_v14, Cert.GateFRefIdeal.Read.val_main_cst_1, Cert.GateFRefIdeal.Read.val_main_v15, Cert.GateFRefIdeal.Read.val_main_v16, Cert.GateFRefIdeal.Read.val_main_cst_2, Cert.GateFRefIdeal.Read.val_main_v17, Cert.GateFRefIdeal.Read.val_main_v18, Cert.GateFRefIdeal.Read.val_main_v19, Cert.GateFRefIdeal.Read.val_main_v20, Cert.GateFRefIdeal.Read.val_main_v21, Cert.GateFRefIdeal.Read.val_main_v22]
  simp only [e]

end Cert.GateFIdeal.Gate

end
-- ==== Proof.Gate.Pre.lean ====
module

public import proofs.«01_k».proof.Pre_finite_swiglu
public import proofs.«01_k».proof.Proof.Attention.Pre
public import Idealize.ShloMosaic.Lib.Pointwise

@[expose] public section

set_option maxRecDepth 16384

noncomputable section

namespace Cert.Pre_finite_swiglu

instance holdsFacts : Cert.Pre_finite_swiglu.Facts where
  bitsLt_bf16_f32 := by decide
  bcast_S_S4224x11008 := by decide
  bcast_S_S4224x22016 := by decide

open Idealize.ShloMosaic Idealize.ShloMosaic.Pointwise Idealize.ShloMosaic.TcCoe Idealize.SL.Sem

variable (x0 : FVec Ideal S4224x11008 .bf16) (x1 : FVec Ideal S4224x22016 .bf16)

/-- Where the precondition holds, the entries of `x0` are numbers. -/
theorem numbers0 (h : (fn (F := Ideal) x0 x1).1 = fun _ => 1#1) (i : S4224x11008.Idx) : x0 i = ((x0 i : EReal).toReal : EReal) := by
  refine Cert.Pre_finite.number _ (Eq.trans (Eq.symm ?_) (congrFun h i))
  pointwise [fn]
  rfl

/-- Where the precondition holds, the entries of `x1` are numbers. -/
theorem numbers1 (h : (fn (F := Ideal) x0 x1).2 = fun _ => 1#1) (i : S4224x22016.Idx) : x1 i = ((x1 i : EReal).toReal : EReal) := by
  refine Cert.Pre_finite.number _ (Eq.trans (Eq.symm ?_) (congrFun h i))
  pointwise [fn]
  rfl

end Cert.Pre_finite_swiglu

end
-- ==== Proof.Gate.Claims.lean ====
module

public import proofs.«01_k».proof.Defs
public import proofs.«01_k».proof.Proof.Gate.GateB
public import proofs.«01_k».proof.Proof.Gate.GluB
public import proofs.«01_k».proof.Proof.Gate.SwigluB
public import proofs.«01_k».proof.Proof.Gate.SwigluF
public import proofs.«01_k».proof.Proof.Gate.GateF
public import proofs.«01_k».proof.Proof.Gate.Pre

@[expose] public section

set_option maxRecDepth 16384

noncomputable section

namespace Cert.Gate.Claims

open Idealize.ShloMosaic Idealize.ShloMosaic.TcCoe Idealize.SL.Sem

/-- The gradient of the two gates, and of the branches. -/
theorem eqGateB : Cert.algebraic_GateBIdeal_GateBRefIdeal := fun m g m' g' _ h =>
  ⟨fun c => Cert.GateBIdeal.Gate.dz (m ((c.tc : Thread Cert.GateBIdeal.nD Cert.GateBIdeal.τ).loc Cert.GateBIdeal.main_arg0)) (m ((c.tc : Thread Cert.GateBIdeal.nD Cert.GateBIdeal.τ).loc Cert.GateBIdeal.main_arg1)) (m ((c.tc : Thread Cert.GateBIdeal.nD Cert.GateBIdeal.τ).loc Cert.GateBIdeal.main_arg2)) (m ((c.tc : Thread Cert.GateBIdeal.nD Cert.GateBIdeal.τ).loc Cert.GateBIdeal.main_arg3)),
    fun c => Cert.GateBIdeal.Gate.dab (m ((c.tc : Thread Cert.GateBIdeal.nD Cert.GateBIdeal.τ).loc Cert.GateBIdeal.main_arg1)) (m ((c.tc : Thread Cert.GateBIdeal.nD Cert.GateBIdeal.τ).loc Cert.GateBIdeal.main_arg2)),
    (θ_run Cert.GateBIdeal.defs _ _).mono (fun _ hr c => ⟨(hr c).1.trans (Cert.GateBIdeal.Gate.final3 m c),
        (hr c).2.1.trans (Cert.GateBIdeal.Gate.final4 m c), (hr c).2.2⟩)
      (Cert.GateBIdeal.Value.run_blocks m g),
    (θ_run Cert.GateBRefIdeal.defs _ _).mono (fun _ hr c => ⟨(hr c).1.trans ((Cert.GateBIdeal.Gate.ref_dz _ _ _ _).trans (by rw [(h c).1, (h c).2.1, (h c).2.2.1, (h c).2.2.2])),
        (hr c).2.1.trans ((Cert.GateBIdeal.Gate.ref_dab _ _).trans (by rw [(h c).2.1, (h c).2.2.1])), (hr c).2.2⟩)
      (Cert.GateBRefIdeal.Value.run m' g')⟩

/-- The gradient of the gated linear unit before the convolution. -/
theorem eqGluB : Cert.algebraic_GluBIdeal_GluBRefIdeal := fun m g m' g' _ h =>
  ⟨fun c => Cert.GluBIdeal.Gate.dz (m ((c.tc : Thread Cert.GluBIdeal.nD Cert.GluBIdeal.τ).loc Cert.GluBIdeal.main_arg0)) (m ((c.tc : Thread Cert.GluBIdeal.nD Cert.GluBIdeal.τ).loc Cert.GluBIdeal.main_arg1)) (m ((c.tc : Thread Cert.GluBIdeal.nD Cert.GluBIdeal.τ).loc Cert.GluBIdeal.main_arg2)),
    (θ_run Cert.GluBIdeal.defs _ _).mono (fun _ hr c => ⟨(hr c).1.trans (Cert.GluBIdeal.Gate.final m c), (hr c).2⟩)
      (Cert.GluBIdeal.Value.run_blocks m g),
    (θ_run Cert.GluBRefIdeal.defs _ _).mono (fun _ hr c => ⟨(hr c).1.trans ((Cert.GluBIdeal.Gate.ref _ _ _).trans (by rw [(h c).1, (h c).2.1, (h c).2.2])), (hr c).2⟩)
      (Cert.GluBRefIdeal.Value.run m' g')⟩

/-- The FFN's activation. -/
theorem eqSwigluF : Cert.algebraic_SwigluFIdeal_SwigluFRefIdeal := fun m g m' g' _ h =>
  ⟨fun c => Cert.SwigluFIdeal.Gate.out (m ((c.tc : Thread Cert.SwigluFIdeal.nD Cert.SwigluFIdeal.τ).loc Cert.SwigluFIdeal.main_arg0)),
    (θ_run Cert.SwigluFIdeal.defs _ _).mono (fun _ hr c => ⟨(hr c).1.trans (Cert.SwigluFIdeal.Gate.final m c), (hr c).2⟩)
      (Cert.SwigluFIdeal.Value.run_blocks m g),
    (θ_run Cert.SwigluFRefIdeal.defs _ _).mono (fun _ hr c => ⟨(hr c).1.trans ((Cert.SwigluFIdeal.Gate.ref _).trans (by rw [(h c)])), (hr c).2⟩)
      (Cert.SwigluFRefIdeal.Value.run m' g')⟩

/-- The merge of the two branches. -/
theorem eqGateF : Cert.algebraic_GateFIdeal_GateFRefIdeal := fun m g m' g' _ h =>
  ⟨fun c => Cert.GateFIdeal.Gate.out (m ((c.tc : Thread Cert.GateFIdeal.nD Cert.GateFIdeal.τ).loc Cert.GateFIdeal.main_arg0)) (m ((c.tc : Thread Cert.GateFIdeal.nD Cert.GateFIdeal.τ).loc Cert.GateFIdeal.main_arg1)),
    (θ_run Cert.GateFIdeal.defs _ _).mono (fun _ hr c => ⟨(hr c).1.trans (Cert.GateFIdeal.Gate.final m c), (hr c).2⟩)
      (Cert.GateFIdeal.Value.run_blocks m g),
    (θ_run Cert.GateFRefIdeal.defs _ _).mono (fun _ hr c => ⟨(hr c).1.trans ((Cert.GateFIdeal.Gate.ref _ _).trans (by rw [(h c).1, (h c).2])), (hr c).2⟩)
      (Cert.GateFRefIdeal.Value.run m' g')⟩

/-- The gradient of the FFN's activation. -/
theorem eqSwigluB : Cert.algebraic_SwigluBIdeal_SwigluBRefIdeal_pre_finite_swiglu := fun m g m' g' hp h =>
  ⟨fun c => Cert.SwigluBIdeal.Gate.grad (m ((c.tc : Thread Cert.SwigluBIdeal.nD Cert.SwigluBIdeal.τ).loc Cert.SwigluBIdeal.main_arg0)) (m ((c.tc : Thread Cert.SwigluBIdeal.nD Cert.SwigluBIdeal.τ).loc Cert.SwigluBIdeal.main_arg1)),
    (θ_run Cert.SwigluBIdeal.defs _ _).mono (fun _ hr c => ⟨(hr c).1.trans (Cert.SwigluBIdeal.Gate.final m c), (hr c).2⟩)
      (Cert.SwigluBIdeal.Value.run_blocks m g),
    (θ_run Cert.SwigluBRefIdeal.defs _ _).mono (fun _ hr c => ⟨(hr c).1.trans ((Cert.SwigluBIdeal.Gate.ref _ _ (fun i => by rw [(h c).1]; exact Cert.Pre_finite_swiglu.numbers0 _ _ (hp c).1 i) (fun i => by rw [(h c).2]; exact Cert.Pre_finite_swiglu.numbers1 _ _ (hp c).2 i)).trans (by rw [(h c).1, (h c).2])), (hr c).2⟩)
      (Cert.SwigluBRefIdeal.Value.run m' g')⟩

end Cert.Gate.Claims

end
-- ==== Proof.Norm.Spec.lean ====
module

public import Idealize.ShloMosaic.Lib.Pipeline.ValueKit
public import Idealize.ShloMosaic.Lib.Pointwise

/-! The two norms and their gradients, row by row, as the kernels compute them. -/

@[expose] public section

noncomputable section

namespace Cert.Norm

open Idealize.ShloMosaic Idealize.ShloMosaic.Pointwise

/-- The constant added to a mean of squares. -/
def eps : EReal := Ideal.ofBits .f32 897988541#32

/-- The length of a row of the hidden states. -/
def len4 : EReal := Ideal.ofBits .f32 1166016512#32

/-- The length of a row of the convolution's channels. -/
def len2 : EReal := Ideal.ofBits .f32 1157627904#32

/-- Row `r` of an array. -/
def row {m n : ℕ} (x : (⟨2, ![m, n]⟩ : Shape).Idx → EReal) (r : Fin m) : Fin n → EReal := fun k => x (ix2 r k)

/-- The mean square of a row, and the small constant. -/
def ms (x : Fin 4096 → EReal) : EReal := Ideal.div (∑ k, x k * x k) len4 + eps

/-- The reciprocal root mean square of a row. -/
def rinv (x : Fin 4096 → EReal) : EReal := Ideal.rsqrt (ms x)

/-- The root-mean-square norm. -/
def rms (x : (⟨2, ![4224, 4096]⟩ : Shape).Idx → EReal) (g : (⟨2, ![1, 4096]⟩ : Shape).Idx → EReal) :
    (⟨2, ![4224, 4096]⟩ : Shape).Idx → EReal := fun i =>
  x i * rinv (row x (i 0)) * row g 0 (i 1)

/-- The gradient of a row under the root-mean-square norm. -/
def rmsRow (d x g : Fin 4096 → EReal) (j : Fin 4096) : EReal :=
  rinv x * (d j * g j - x j * rinv x * Ideal.div (∑ k, d k * g k * (x k * rinv x)) len4)

/-- The gradient of the hidden states: what comes past the norm, and the norm's own. -/
def rmsGrad (d x : (⟨2, ![4224, 4096]⟩ : Shape).Idx → EReal) (g : (⟨2, ![1, 4096]⟩ : Shape).Idx → EReal)
    (p : (⟨2, ![4224, 4096]⟩ : Shape).Idx → EReal) : (⟨2, ![4224, 4096]⟩ : Shape).Idx → EReal := fun i =>
  p i + rmsRow (row d (i 0)) (row x (i 0)) (row g 0) (i 1)

/-- The gradient of the norm's weight. -/
def rmsGain (d x : (⟨2, ![4224, 4096]⟩ : Shape).Idx → EReal) : (⟨2, ![1, 4096]⟩ : Shape).Idx → EReal := fun i =>
  ∑ r : Fin 4224, row d r (i 1) * (row x r (i 1) * rinv (row x r))

/-- A row less its mean. -/
def cen (x : Fin 2048 → EReal) (j : Fin 2048) : EReal := x j - Ideal.div (∑ k, x k) len2

/-- The variance of a row, and the small constant. -/
def var (x : Fin 2048 → EReal) : EReal := Ideal.div (∑ k, cen x k * cen x k) len2 + eps

/-- The reciprocal standard deviation of a row. -/
def linv (x : Fin 2048 → EReal) : EReal := Ideal.rsqrt (var x)

/-- The normed row. -/
def hat (x : Fin 2048 → EReal) (j : Fin 2048) : EReal := cen x j * linv x

/-- The normed row under its weight and bias. -/
def aff (x g b : Fin 2048 → EReal) (j : Fin 2048) : EReal := hat x j * g j + b j

/-- The layer norm with its swish. -/
def lnRow (x g b : Fin 2048 → EReal) (j : Fin 2048) : EReal := aff x g b j * Ideal.logistic (aff x g b j)

/-- The swish's gradient. -/
def dyRow (d x g b : Fin 2048 → EReal) (j : Fin 2048) : EReal :=
  d j * (Ideal.logistic (aff x g b j) * (1 + aff x g b j * (1 - Ideal.logistic (aff x g b j))))

/-- The gradient of a row. -/
def dxRow (d x g b : Fin 2048 → EReal) (j : Fin 2048) : EReal :=
  linv x * (dyRow d x g b j * g j - Ideal.div (∑ k, dyRow d x g b k * g k) len2
    - hat x j * Ideal.div (∑ k, dyRow d x g b k * g k * hat x k) len2)

/-- The layer norm with its swish, of the array. -/
def ln (x : (⟨2, ![4224, 2048]⟩ : Shape).Idx → EReal) (g b : (⟨2, ![1, 2048]⟩ : Shape).Idx → EReal) :
    (⟨2, ![4224, 2048]⟩ : Shape).Idx → EReal := fun i => lnRow (row x (i 0)) (row g 0) (row b 0) (i 1)

/-- The gradient of the layer norm's input. -/
def lnGrad (d x : (⟨2, ![4224, 2048]⟩ : Shape).Idx → EReal) (g b : (⟨2, ![1, 2048]⟩ : Shape).Idx → EReal) :
    (⟨2, ![4224, 2048]⟩ : Shape).Idx → EReal := fun i =>
  dxRow (row d (i 0)) (row x (i 0)) (row g 0) (row b 0) (i 1)

/-- The gradient of the layer norm's weight. -/
def lnGain (d x : (⟨2, ![4224, 2048]⟩ : Shape).Idx → EReal) (g b : (⟨2, ![1, 2048]⟩ : Shape).Idx → EReal) :
    (⟨2, ![1, 2048]⟩ : Shape).Idx → EReal := fun i =>
  ∑ r : Fin 4224, dyRow (row d r) (row x r) (row g 0) (row b 0) (i 1) * hat (row x r) (i 1)

/-- The gradient of the layer norm's bias. -/
def lnBias (d x : (⟨2, ![4224, 2048]⟩ : Shape).Idx → EReal) (g b : (⟨2, ![1, 2048]⟩ : Shape).Idx → EReal) :
    (⟨2, ![1, 2048]⟩ : Shape).Idx → EReal := fun i =>
  ∑ r : Fin 4224, dyRow (row d r) (row x r) (row g 0) (row b 0) (i 1)

/-- A finite sum of reals, read among the extended reals. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

/-- A quotient of reals. -/
theorem coe_div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem len4_eq : len4 = ((4096 : ℝ) : EReal) := by
  have h : BitVec.extractLsb' 31 1 1166016512#32 = 0#1 := by decide
  unfold len4
  norm_num [Ideal.ofBits, Ideal.ieee, Nat.shiftRight_eq_div_pow, h]

theorem len2_eq : len2 = ((2048 : ℝ) : EReal) := by
  have h : BitVec.extractLsb' 31 1 1157627904#32 = 0#1 := by decide
  unfold len2
  norm_num [Ideal.ofBits, Ideal.ieee, Nat.shiftRight_eq_div_pow, h]

/-- The word of minus one half. -/
theorem neg_half : Ideal.ofBits .f32 3204448256#32 = ((-1 / 2 : ℝ) : EReal) := by
  have h : BitVec.extractLsb' 31 1 3204448256#32 = 1#1 := by decide
  norm_num [Ideal.ofBits, Ideal.ieee, Nat.shiftRight_eq_div_pow, h]

theorem eps_eq : ∃ e : ℝ, 0 < e ∧ eps = (e : EReal) := by
  have h : BitVec.extractLsb' 31 1 897988541#32 = 0#1 := by decide
  refine ⟨8796093 * 2 ^ (-43 : ℤ), by positivity, ?_⟩
  unfold eps
  norm_num [Ideal.ofBits, Ideal.ieee, Nat.shiftRight_eq_div_pow, h]

end Cert.Norm
end
-- ==== Proof.Norm.RmsF.lean ====
module

public import proofs.«01_k».proof.Proof.Gen.RmsFIdeal.Value
public import proofs.«01_k».proof.Proof.Gen.RmsFRefIdeal.Read
public import proofs.«01_k».proof.Proof.Norm.Spec

@[expose] public section

set_option maxRecDepth 16384

noncomputable section

namespace Cert.RmsFIdeal.Norm

open Cert.RmsFIdeal Cert.RmsFIdeal.Gen Idealize.ShloMosaic Idealize.ShloMosaic.TcCoe Idealize.SL.Sem
open Idealize.ShloMosaic.Pointwise Cert.Norm

/-- What one grid point computes from its blocks. -/
theorem pay (x : Vec Ideal S384x4096 .f32) (g : Vec Ideal S1x4096 .f32) (j : S384x4096.Idx) :
    k0_pay1 (F := Ideal) x g j = x j * rinv (row x (j 0)) * row g 0 (j 1) := by
  pointwise [k0_pay1, rinv, ms, row, len4, eps]

/-- Each block holds whole rows; the rows are the output block's, and the weight is one row. -/
theorem idx : ∀ t : Fin cfg0.N, (win0_0.index t 0 = win0_2.index t 0 ∧ win0_0.index t 1 = 0)
    ∧ (win0_1.index t 0 = 0 ∧ win0_1.index t 1 = 0) ∧ win0_2.index t 1 = 0 :=
  (by decide +kernel : ∀ t : Fin grid0.N, (win0_0.index t 0 = win0_2.index t 0 ∧ win0_0.index t 1 = 0)
    ∧ (win0_1.index t 0 = 0 ∧ win0_1.index t 1 = 0) ∧ win0_2.index t 1 = 0)

/-- The kernel's array after the run is the norm of its arguments. -/
theorem final (m : (ℓ : Loc nD τ sig) → Buf (Elt Ideal) ℓ) (c : Dev nD) :
    (dats m 0 c).arrAt 2 cfg0.N
      = rms (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  obtain ⟨⟨e0, e1⟩, ⟨e2, e3⟩, e4⟩ := idx t
  unfold rms
  refine congrArg₂ (· * ·) (congrArg₂ (· * ·) ?_ (congrArg rinv (funext fun k => ?_))) ?_
  · blk_ext [iblk, V, e0, e1, e4]
  · unfold row
    blk_ext [iblk, V, e0, e1, e4]
  · unfold row
    blk_ext [iblk, V, e2, e3, e4]

/-- The reference's result is the same function. -/
theorem ref (x0 : FVec Ideal Cert.RmsFRefIdeal.S4224x4096 .f32) (x1 : FVec Ideal Cert.RmsFRefIdeal.S1x4096 .f32) :
    Cert.RmsFRefIdeal.Read.val_main_v12 (F := Ideal) x0 x1 = rms x0 x1 := by
  funext i
  pointwise [rms, rinv, ms, row, len4, eps, Cert.RmsFRefIdeal.Read.val_main_v0, Cert.RmsFRefIdeal.Read.val_main_v1, Cert.RmsFRefIdeal.Read.val_main_v2, Cert.RmsFRefIdeal.Read.val_main_v3, Cert.RmsFRefIdeal.Read.val_main_v4, Cert.RmsFRefIdeal.Read.val_main_v5, Cert.RmsFRefIdeal.Read.val_main_v6, Cert.RmsFRefIdeal.Read.val_main_v7, Cert.RmsFRefIdeal.Read.val_main_v8, Cert.RmsFRefIdeal.Read.val_main_v9, Cert.RmsFRefIdeal.Read.val_main_v10, Cert.RmsFRefIdeal.Read.val_main_v11, Cert.RmsFRefIdeal.Read.val_main_v12, Cert.RmsFRefIdeal.Read.val_main_cst, Cert.RmsFRefIdeal.Read.val_main_cst_0, Cert.RmsFRefIdeal.Read.val_main_cst_1]

end Cert.RmsFIdeal.Norm
end
-- ==== Proof.Norm.LnF.lean ====
module

public import proofs.«01_k».proof.Proof.Gen.LnFIdeal.Value
public import proofs.«01_k».proof.Proof.Gen.LnFRefIdeal.Read
public import proofs.«01_k».proof.Proof.Norm.Spec

@[expose] public section

set_option maxRecDepth 16384

noncomputable section

namespace Cert.LnFIdeal.Norm

open Cert.LnFIdeal Cert.LnFIdeal.Gen Idealize.ShloMosaic Idealize.ShloMosaic.TcCoe Idealize.SL.Sem
open Idealize.ShloMosaic.Pointwise Cert.Norm

/-- What one grid point computes from its blocks. -/
theorem pay (x : Vec Ideal S128x2048 .f32) (g b : Vec Ideal S1x2048 .f32) (j : S128x2048.Idx) :
    k0_pay1 (F := Ideal) x g b j = lnRow (row x (j 0)) (row g 0) (row b 0) (j 1) := by
  pointwise [k0_pay1, lnRow, aff, hat, linv, var, cen, row, len2, eps]

/-- Each block holds whole rows; the rows are the output block's, and the weight and bias are one row each. -/
theorem idx : ∀ t : Fin cfg0.N, (win0_0.index t 0 = win0_3.index t 0 ∧ win0_0.index t 1 = 0)
    ∧ (win0_1.index t 0 = 0 ∧ win0_1.index t 1 = 0) ∧ (win0_2.index t 0 = 0 ∧ win0_2.index t 1 = 0)
    ∧ win0_3.index t 1 = 0 :=
  (by decide +kernel : ∀ t : Fin grid0.N, (win0_0.index t 0 = win0_3.index t 0 ∧ win0_0.index t 1 = 0)
    ∧ (win0_1.index t 0 = 0 ∧ win0_1.index t 1 = 0) ∧ (win0_2.index t 0 = 0 ∧ win0_2.index t 1 = 0)
    ∧ win0_3.index t 1 = 0)

/-- A normed row's entries are the same when the rows, and the places, are. -/
theorem row_congr {x x' g g' b b' : Fin 2048 → EReal} {j j' : Fin 2048} (hx : x = x') (hg : g = g') (hb : b = b')
    (hj : j = j') : lnRow x g b j = lnRow x' g' b' j' := by subst hx hg hb hj; rfl

/-- The kernel's array after the run is the norm, with its swish, of its arguments. -/
theorem final (m : (ℓ : Loc nD τ sig) → Buf (Elt Ideal) ℓ) (c : Dev nD) :
    (dats m 0 c).arrAt 3 cfg0.N
      = ln (m ((c : Thread nD τ).loc main_arg0)) (m ((c : Thread nD τ).loc main_arg1))
          (m ((c : Thread nD τ).loc main_arg2)) := by
  refine (dats m 0 c).arrAt_eq_of_covers 3 _ (by decide +kernel) fun t hf y => ?_
  blk_simp
  rw [after0_3]
  frame_out
  rw [pay]
  obtain ⟨⟨e0, e1⟩, ⟨e2, e3⟩, ⟨e4, e5⟩, e6⟩ := idx t
  unfold ln
  refine row_congr (funext fun k => ?_) (funext fun k => ?_) (funext fun k => ?_) (Fin.ext ?_)
  · unfold row
    blk_ext [iblk, V, e0, e1, e6]
  · unfold row
    blk_ext [iblk, V, e2, e3, e6]
  · unfold row
    blk_ext [iblk, V, e4, e5, e6]
  · blk_simp [e6]

/-- The reference's result is the same function. -/
theorem ref (x0 : FVec Ideal Cert.LnFRefIdeal.S4224x2048 .f32) (x1 x2 : FVec Ideal Cert.LnFRefIdeal.S1x2048 .f32) :
    Cert.LnFRefIdeal.Read.val_main_v27 (F := Ideal) x0 x1 x2 = ln x0 x1 x2 := by
  funext i
  pointwise [ln, lnRow, aff, hat, linv, var, cen, Ideal.logistic, row, len2, eps, Cert.LnFRefIdeal.Read.val_main_v0, Cert.LnFRefIdeal.Read.val_main_v1, Cert.LnFRefIdeal.Read.val_main_v2, Cert.LnFRefIdeal.Read.val_main_v3, Cert.LnFRefIdeal.Read.val_main_v4, Cert.LnFRefIdeal.Read.val_main_v5, Cert.LnFRefIdeal.Read.val_main_v6, Cert.LnFRefIdeal.Read.val_main_v7, Cert.LnFRefIdeal.Read.val_main_v8, Cert.LnFRefIdeal.Read.val_main_v9, Cert.LnFRefIdeal.Read.val_main_v10, Cert.LnFRefIdeal.Read.val_main_v11, Cert.LnFRefIdeal.Read.val_main_v12, Cert.LnFRefIdeal.Read.val_main_v13, Cert.LnFRefIdeal.Read.val_main_v14, Cert.LnFRefIdeal.Read.val_main_v15, Cert.LnFRefIdeal.Read.val_main_v16, Cert.LnFRefIdeal.Read.val_main_v17, Cert.LnFRefIdeal.Read.val_main_v18, Cert.LnFRefIdeal.Read.val_main_v19, Cert.LnFRefIdeal.Read.val_main_v20, Cert.LnFRefIdeal.Read.val_main_v21, Cert.LnFRefIdeal.Read.val_main_v22, Cert.LnFRefIdeal.Read.val_main_v23, Cert.LnFRefIdeal.Read.val_main_v24, Cert.LnFRefIdeal.Read.val_main_v25, Cert.LnFRefIdeal.Read.val_main_v26, Cert.LnFRefIdeal.Read.val_main_v27, Cert.LnFRefIdeal.Read.val_main_cst, Cert.LnFRefIdeal.Read.val_main_cst_0, Cert.LnFRefIdeal.Read.val_main_cst_1, Cert.LnFRefIdeal.Read.val_main_cst_2, Cert.LnFRefIdeal.Read.val_main_cst_3, Cert.LnFRefIdeal.Read.val_main_cst_4, Cert.LnFRefIdeal.Read.val_main_cst_5]

end Cert.LnFIdeal.Norm
end
-- ==== Proof.Norm.RmsB.lean ====
module

public import proofs.«01_k».proof.Proof.Gen.RmsBIdeal.Value
public import proofs.«01_k».proof.Proof.Norm.Spec

/-! What the kernel of the root-mean-square norm's gradient leaves in its three results. -/

@[expose] public section

set_option maxRecDepth 16384

noncomputable section

namespace Cert.RmsBIdeal.Norm

open Cert.RmsBIdeal Cert.RmsBIdeal.Gen Idealize.ShloMosaic Idealize.ShloMosaic.TcCoe Idealize.SL.Sem
open Idealize.ShloMosaic.Pointwise Cert.Norm

/-- The gradient of the hidden states that one grid point computes from its blocks. -/
theorem pay4 (x d : Vec Ideal S128x4096 .f32) (g : Vec Ideal S1x4096 .f32) (p : Vec Ideal S128x4096 .f32) (j : S128x4096.Idx) :
    k0_pay4 (F := Ideal) x d g p j = p j + rmsRow (row d (j 0)) (row x (j 0)) (row g 0) (j 1) := by
  pointwise [k0_pay4, k0_pay3, k0_pay2, rmsRow, rinv, ms, row, len4, eps]

/-- The same, as the second result holds it. -/
theorem pay5 (x d : Vec Ideal S128x4096 .f32) (g : Vec Ideal S1x4096 .f32) (p : Vec Ideal S128x4096 .f32) (j : S128x4096.Idx) :
    k0_pay5 (F := Ideal) x d g p j = p j + rmsRow (row d (j 0)) (row x (j 0)) (row g 0) (j 1) := by
  pointwise [k0_pay5, k0_pay4, k0_pay3, k0_pay2, rmsRow, rinv, ms, row, len4, eps]

/-- A tile's part of the weight's gradient. -/
theorem pay6 (x d : Vec Ideal S128x4096 .f32) (j : S1x4096.Idx) :
    k0_pay6 (F := Ideal) x d j = ∑ r : Fin 128, row d r (j 1) * (row x r (j 1) * rinv (row x r)) := by
  pointwise [k0_pay6, k0_pay3, k0_pay2, rinv, ms, row, len4, eps]

/-- What a later tile leaves of the weight's gradient. -/
theorem pay1 (a b : Vec Ideal S1x4096 .f32) (j : S1x4096.Idx) : k0_pay1 (F := Ideal) a b j = b j + a j := by
  pointwise [k0_pay1]

/-- Each block holds whole rows: of the arrays those of the tile, and the weight's one row. -/
theorem idx : ∀ t : Fin cfg0.N, (win0_0.index t 0 = t.val ∧ win0_0.index t 1 = 0)
    ∧ (win0_1.index t 0 = t.val ∧ win0_1.index t 1 = 0) ∧ (win0_2.index t 0 = 0 ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = 0 ∧ win0_6.index t 1 = 0) :=
  (by decide +kernel : ∀ t : Fin grid0.N, (win0_0.index t 0 = t.val ∧ win0_0.index t 1 = 0)
    ∧ (win0_1.index t 0 = t.val ∧ win0_1.index t 1 = 0) ∧ (win0_2.index t 0 = 0 ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = 0 ∧ win0_6.index t 1 = 0))

variable (m : (ℓ : Loc nD τ sig) → Buf (Elt Ideal) ℓ)

theorem blk0 (c : Dev nD) (t : Fin cfg0.N) (r : Fin 128) (e : Fin 4224) (h : e.val = t.val * 128 + r.val) :
    row (iblk m c 0 t) r = row (m ((c : Thread nD τ).loc main_arg0)) e := by
  obtain ⟨⟨a0, a1⟩, -⟩ := idx t
  refine funext fun k => ?_
  unfold row
  blk_ext [iblk, V, a0, a1, h]

theorem blk1 (c : Dev nD) (t : Fin cfg0.N) (r : Fin 128) (e : Fin 4224) (h : e.val = t.val * 128 + r.val) :
    row (iblk m c 1 t) r = row (m ((c : Thread nD τ).loc main_arg1)) e := by
  obtain ⟨-, ⟨a0, a1⟩, -⟩ := idx t
  refine funext fun k => ?_
  unfold row
  blk_ext [iblk, V, a0, a1, h]

theorem blk2 (c : Dev nD) (t : Fin cfg0.N) :
    row (iblk m c 2 t) 0 = row (m ((c : Thread nD τ).loc main_arg2)) 0 := by
  obtain ⟨-, -, ⟨a0, a1⟩, -⟩ := idx t
  refine funext fun k => ?_
  unfold row
  blk_ext [iblk, V, a0, a1]

theorem blk3 (c : Dev nD) (t : Fin cfg0.N) (y : S128x4096.Idx) (e : S4224x4096.Idx)
    (h0 : (e 0).val = t.val * 128 + (y 0).val) (h1 : (e 1).val = (y 1).val) :
    iblk m c 3 t y = m ((c : Thread nD τ).loc main_arg3) e := by
  obtain ⟨-, -, -, ⟨a0, a1⟩, -⟩ := idx t
  blk_ext [iblk, V, a0, a1, h0, h1]

/-- A row's gradients are the same when the rows, and the places, are. -/
theorem row_congr {p p' : EReal} {d d' x x' g g' : Fin 4096 → EReal} {j j' : Fin 4096} (hp : p = p') (hd : d = d')
    (hx : x = x') (hg : g = g') (hj : j = j') : p + rmsRow d x g j = p' + rmsRow d' x' g' j' := by
  subst hp hd hx hg hj; rfl

/-- The gradient of the hidden states at an entry of a tile. -/
theorem grad_at (c : Dev nD) (t : Fin cfg0.N) (y : S128x4096.Idx) (e : S4224x4096.Idx)
    (h0 : (e 0).val = t.val * 128 + (y 0).val) (h1 : (e 1).val = (y 1).val) :
    (show EReal from iblk m c 3 t y) + rmsRow (row (iblk m c 0 t) (y 0)) (row (iblk m c 1 t) (y 0)) (row (iblk m c 2 t) 0) (y 1)
      = rmsGrad (m ((c : Thread nD τ).loc main_arg0)) (m ((c : Thread nD τ).loc main_arg1))
          (m ((c : Thread nD τ).loc main_arg2)) (m ((c : Thread nD τ).loc main_arg3)) e :=
  row_congr (blk3 m c t y e h0 h1) (blk0 m c t (y 0) (e 0) h0) (blk1 m c t (y 0) (e 0) h0) (blk2 m c t) (Fin.ext h1.symm)

/-- What a tile leaves in the first result's buffer. -/
theorem tile4 (c : Dev nD) (t : Fin cfg0.N) (y : S128x4096.Idx) (e : S4224x4096.Idx)
    (h0 : (e 0).val = t.val * 128 + (y 0).val) (h1 : (e 1).val = (y 1).val) :
    (outsAt0 m c t.val t.isLt).1 y
      = rmsGrad (m ((c : Thread nD τ).loc main_arg0)) (m ((c : Thread nD τ).loc main_arg1))
          (m ((c : Thread nD τ).loc main_arg2)) (m ((c : Thread nD τ).loc main_arg3)) e := by
  have hN : t.val < 33 := lt_of_lt_of_eq t.isLt N_0
  by_cases h : t.val % 33 = 0
  · rw [outsAt0_A m c t h (by omega)]
    frame_out
    exact (pay4 _ _ _ _ y).trans (grad_at m c t y e h0 h1)
  · rw [outsAt0_B m c t h (by omega)]
    frame_out
    exact (pay4 _ _ _ _ y).trans (grad_at m c t y e h0 h1)

/-- What a tile leaves in the second result's buffer. -/
theorem tile5 (c : Dev nD) (t : Fin cfg0.N) (y : S128x4096.Idx) (e : S4224x4096.Idx)
    (h0 : (e 0).val = t.val * 128 + (y 0).val) (h1 : (e 1).val = (y 1).val) :
    (outsAt0 m c t.val t.isLt).2.1 y
      = rmsGrad (m ((c : Thread nD τ).loc main_arg0)) (m ((c : Thread nD τ).loc main_arg1))
          (m ((c : Thread nD τ).loc main_arg2)) (m ((c : Thread nD τ).loc main_arg3)) e := by
  have hN : t.val < 33 := lt_of_lt_of_eq t.isLt N_0
  by_cases h : t.val % 33 = 0
  · rw [outsAt0_A m c t h (by omega)]
    frame_out
    exact (pay5 _ _ _ _ y).trans (grad_at m c t y e h0 h1)
  · rw [outsAt0_B m c t h (by omega)]
    frame_out
    exact (pay5 _ _ _ _ y).trans (grad_at m c t y e h0 h1)

/-- A tile's part of the weight's gradient, from its blocks. -/
def part (c : Dev nD) (t : Fin cfg0.N) : Vec Ideal S1x4096 .f32 := k0_pay6 (F := Ideal) (iblk m c 1 t) (iblk m c 0 t)

/-- The first tile starts the weight's gradient. -/
theorem first6 (c : Dev nD) (t : Fin cfg0.N) (h : t.val % 33 = 0) (y : S1x4096.Idx) :
    (outsAt0 m c t.val t.isLt).2.2 y = 0 + part m c t y := by
  have hN : t.val < 33 := lt_of_lt_of_eq t.isLt N_0
  rw [outsAt0_A m c t h (by omega)]
  frame_out
  exact (zero_add _).symm

/-- A later tile adds to it. -/
theorem step6 (c : Dev nD) (t : Fin cfg0.N) (h : ¬t.val % 33 = 0) (y : S1x4096.Idx) :
    (outsAt0 m c t.val t.isLt).2.2 y = (outsAt0 m c (t.val - 1) (by omega)).2.2 y + part m c t y := by
  rw [outsAt0_B m c t h (by omega)]
  frame_out
  exact pay1 _ _ y

/-- What the whole run leaves of the weight's gradient. -/
theorem run6 (c : Dev nD) (t : Fin cfg0.N) (ht : t.val % 33 = 32) (j : S1x4096.Idx) :
    (outsAt0 m c t.val t.isLt).2.2 j
      = ∑ s : Fin 33, part m c ⟨33 * (t.val / 33) + s.val, Pipeline.run_point_lt_of_flush t ht s⟩ j := by
  rw [Pipeline.eq_sum_fin_of_reset_step_apply_of_flush (M := EReal) (fun n h => (outsAt0 m c n h).2.2) 33 (fun _ => 0)
    (fun t => part m c t) ?_ ?_ t ht j]
  · exact zero_add _
  · exact fun t h i => first6 m c t h i
  · exact fun t h i => step6 m c t h i

/-- The sums of a run are the sums over all rows. -/
theorem sum6 (c : Dev nD) (t : Fin cfg0.N) (ht : t.val % 33 = 32) (y e : S1x4096.Idx) (h1 : (e 1).val = (y 1).val) :
    (outsAt0 m c t.val t.isLt).2.2 y
      = rmsGain (m ((c : Thread nD τ).loc main_arg0)) (m ((c : Thread nD τ).loc main_arg1)) e := by
  have hN : t.val < 33 := lt_of_lt_of_eq t.isLt N_0
  have h0 : t.val / 33 = 0 := by omega
  have hy : e 1 = y 1 := Fin.ext h1
  rw [run6 m c t ht y]
  unfold part rmsGain
  simp only [pay6]
  rw [hy]
  refine Fin.sum_mul_add_congr (fun s k hl => ?_) rfl
  have hr : (⟨s.val * 128 + k.val, hl⟩ : Fin 4224).val
      = (⟨33 * (t.val / 33) + s.val, Pipeline.run_point_lt_of_flush t ht s⟩ : Fin cfg0.N).val * 128 + k.val := by
    simp only [h0, Nat.mul_zero, Nat.zero_add]
  rw [blk0 m c _ k _ hr, blk1 m c _ k _ hr]

/-- The gradient of the hidden states. -/
theorem final4 (c : Dev nD) : (dats m 0 c).arrAt 4 cfg0.N
    = rmsGrad (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  obtain ⟨-, -, -, -, ⟨g0, g1⟩, -⟩ := idx t
  blk_simp
  rw [after0_4]
  refine tile4 m c t y _ ?_ ?_
  · blk_simp [g0]
  · blk_simp [g1]

/-- The same, as the second result holds it. -/
theorem final5 (c : Dev nD) : (dats m 0 c).arrAt 5 cfg0.N
    = rmsGrad (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  obtain ⟨-, -, -, -, -, ⟨g0, g1⟩, -⟩ := idx t
  blk_simp
  rw [after0_5]
  refine tile5 m c t y _ ?_ ?_
  · blk_simp [g0]
  · blk_simp [g1]

/-- The gradient of the weight. -/
theorem final6 (c : Dev nD) : (dats m 0 c).arrAt 6 cfg0.N
    = rmsGain (m ((c : Thread nD τ).loc main_arg0)) (m ((c : Thread nD τ).loc main_arg1)) := by
  refine (dats m 0 c).arrAt_eq_of_covers 6 _ (by decide +kernel) fun t hf y => ?_
  have ht := (flush0_6 t).mp hf
  obtain ⟨-, -, -, -, -, -, ⟨g0, g1⟩⟩ := idx t
  blk_simp
  rw [after0_6]
  refine sum6 m c t ht y _ ?_
  blk_simp [g1]

end Cert.RmsBIdeal.Norm
end
-- ==== Proof.Norm.RmsBRef.lean ====
module

public import proofs.«01_k».proof.Proof.Gen.RmsBRefIdeal.Read
public import proofs.«01_k».proof.Proof.Norm.Spec

/-! The reference of the root-mean-square norm's gradient. For numbers, the derivative of the reciprocal root of the
mean square is the kernel's correction along the normed row. -/

@[expose] public section

set_option maxRecDepth 16384

noncomputable section

namespace Cert.RmsBIdeal.Norm

open Idealize.ShloMosaic Idealize.ShloMosaic.TcCoe Idealize.SL.Sem
open Idealize.ShloMosaic.Pointwise Cert.Norm

/-- A row's gradient as the chain rule gives it: through the weight, and twice through the square's factors. -/
def refRow (d x g : Fin 4096 → EReal) (j : Fin 4096) : EReal :=
  let c : EReal := ∑ _ : Fin 1, Ideal.div ((∑ k, x k * (d k * g k)) * (Ideal.ofBits .f32 3204448256#32 * Ideal.div (rinv x) (ms x))) len4
  d j * g j * rinv x + x j * c + c * x j

/-- The mean square of a row of numbers, and its reciprocal root. -/
theorem numbers_ms (X : Fin 4096 → ℝ) : ∃ s r : ℝ, 0 < s ∧ r * r * s = 1 ∧ ms (fun k => (X k : EReal)) = s
    ∧ rinv (fun k => (X k : EReal)) = r := by
  obtain ⟨e, he, h⟩ := eps_eq
  have hs : (0 : ℝ) < (∑ k, X k * X k) / 4096 + e :=
    add_pos_of_nonneg_of_pos (div_nonneg (Finset.sum_nonneg fun k _ => mul_self_nonneg _) (by norm_num)) he
  have hm : ms (fun k => (X k : EReal)) = (((∑ k, X k * X k) / 4096 + e : ℝ) : EReal) := by
    unfold ms
    simp only [← EReal.coe_mul, sum_coe]
    rw [len4_eq, h, coe_div_coe _ _ (by norm_num), ← EReal.coe_add]
  refine ⟨_, (√((∑ k, X k * X k) / 4096 + e))⁻¹, hs, ?_, hm, ?_⟩
  · rw [← mul_inv, Real.mul_self_sqrt hs.le, inv_mul_cancel₀ hs.ne']
  · unfold rinv
    rw [hm, Ideal.rsqrt_coe, if_neg (not_lt.mpr hs.le), if_neg hs.ne']

/-- The two rows are one, of numbers. -/
theorem refRow_eq (d x g : Fin 4096 → EReal) (hd : ∀ k, d k = ((d k).toReal : EReal)) (hx : ∀ k, x k = ((x k).toReal : EReal))
    (hg : ∀ k, g k = ((g k).toReal : EReal)) (j : Fin 4096) : refRow d x g j = rmsRow d x g j := by
  obtain ⟨D, rfl⟩ : ∃ D : Fin 4096 → ℝ, d = fun k => (D k : EReal) := ⟨_, funext hd⟩
  obtain ⟨X, rfl⟩ : ∃ X : Fin 4096 → ℝ, x = fun k => (X k : EReal) := ⟨_, funext hx⟩
  obtain ⟨G, rfl⟩ : ∃ G : Fin 4096 → ℝ, g = fun k => (G k : EReal) := ⟨_, funext hg⟩
  obtain ⟨s, r, hs, hr, h1, h2⟩ := numbers_ms X
  unfold refRow rmsRow
  rw [h1, h2, neg_half, len4_eq]
  simp only [Finset.univ_unique, Finset.sum_singleton, ← EReal.coe_mul, sum_coe, coe_div_coe _ _ hs.ne',
    coe_div_coe _ _ (show (4096 : ℝ) ≠ 0 by norm_num), ← EReal.coe_add, ← EReal.coe_sub]
  refine congrArg _ ?_
  have h3 : r / s = r * r * r := by
    rw [div_eq_iff hs.ne']
    linear_combination -r * hr
  have h4 : ∑ k, D k * G k * (X k * r) = (∑ k, X k * (D k * G k)) * r := by
    rw [Finset.sum_mul]
    exact Finset.sum_congr rfl fun k _ => by ring
  rw [h3, h4]
  ring

/-- The reference's gradient of the hidden states. -/
theorem ref_grad (x0 x1 : FVec Ideal Cert.RmsBRefIdeal.S4224x4096 .f32) (x2 : FVec Ideal Cert.RmsBRefIdeal.S1x4096 .f32)
    (x3 : FVec Ideal Cert.RmsBRefIdeal.S4224x4096 .f32) (h0 : ∀ i, x0 i = ((x0 i : EReal).toReal : EReal))
    (h1 : ∀ i, x1 i = ((x1 i : EReal).toReal : EReal)) (h2 : ∀ i, x2 i = ((x2 i : EReal).toReal : EReal)) :
    Cert.RmsBRefIdeal.Read.val_main_v34 (F := Ideal) x0 x1 x2 x3 = rmsGrad x0 x1 x2 x3 := by
  funext i
  refine Eq.trans ?_ (congrArg (x3 i + ·) (refRow_eq (row x0 (i 0)) (row x1 (i 0)) (row x2 0) (fun k => h0 _) (fun k => h1 _)
    (fun k => h2 _) (i 1)))
  pointwise [refRow, rinv, ms, row, len4, eps, Cert.RmsBRefIdeal.Read.val_main_v0, Cert.RmsBRefIdeal.Read.val_main_v1, Cert.RmsBRefIdeal.Read.val_main_v2, Cert.RmsBRefIdeal.Read.val_main_v3, Cert.RmsBRefIdeal.Read.val_main_v4, Cert.RmsBRefIdeal.Read.val_main_v5, Cert.RmsBRefIdeal.Read.val_main_v6, Cert.RmsBRefIdeal.Read.val_main_v7, Cert.RmsBRefIdeal.Read.val_main_v8, Cert.RmsBRefIdeal.Read.val_main_v9, Cert.RmsBRefIdeal.Read.val_main_v10, Cert.RmsBRefIdeal.Read.val_main_v11, Cert.RmsBRefIdeal.Read.val_main_v12, Cert.RmsBRefIdeal.Read.val_main_v13, Cert.RmsBRefIdeal.Read.val_main_v14, Cert.RmsBRefIdeal.Read.val_main_v15, Cert.RmsBRefIdeal.Read.val_main_v16, Cert.RmsBRefIdeal.Read.val_main_v17, Cert.RmsBRefIdeal.Read.val_main_v18, Cert.RmsBRefIdeal.Read.val_main_v19, Cert.RmsBRefIdeal.Read.val_main_v20, Cert.RmsBRefIdeal.Read.val_main_v21, Cert.RmsBRefIdeal.Read.val_main_v22, Cert.RmsBRefIdeal.Read.val_main_v23, Cert.RmsBRefIdeal.Read.val_main_v24, Cert.RmsBRefIdeal.Read.val_main_v25, Cert.RmsBRefIdeal.Read.val_main_v26, Cert.RmsBRefIdeal.Read.val_main_v27, Cert.RmsBRefIdeal.Read.val_main_v28, Cert.RmsBRefIdeal.Read.val_main_v29, Cert.RmsBRefIdeal.Read.val_main_v30, Cert.RmsBRefIdeal.Read.val_main_v31, Cert.RmsBRefIdeal.Read.val_main_v32, Cert.RmsBRefIdeal.Read.val_main_v33, Cert.RmsBRefIdeal.Read.val_main_v34, Cert.RmsBRefIdeal.Read.val_main_v35, Cert.RmsBRefIdeal.Read.val_main_v36, Cert.RmsBRefIdeal.Read.val_main_cst, Cert.RmsBRefIdeal.Read.val_main_cst_0, Cert.RmsBRefIdeal.Read.val_main_cst_1, Cert.RmsBRefIdeal.Read.val_main_cst_2, Cert.RmsBRefIdeal.Read.val_main_cst_3, Cert.RmsBRefIdeal.Read.val_main_cst_4, Cert.RmsBRefIdeal.Read.val_main_cst_5, Cert.RmsBRefIdeal.Read.val_main_cst_6]

/-- The same, as the second result holds it. -/
theorem ref_gradb (x0 x1 : FVec Ideal Cert.RmsBRefIdeal.S4224x4096 .f32) (x2 : FVec Ideal Cert.RmsBRefIdeal.S1x4096 .f32)
    (x3 : FVec Ideal Cert.RmsBRefIdeal.S4224x4096 .f32) (h0 : ∀ i, x0 i = ((x0 i : EReal).toReal : EReal))
    (h1 : ∀ i, x1 i = ((x1 i : EReal).toReal : EReal)) (h2 : ∀ i, x2 i = ((x2 i : EReal).toReal : EReal)) :
    Cert.RmsBRefIdeal.Read.val_main_v36 (F := Ideal) x0 x1 x2 x3 = rmsGrad x0 x1 x2 x3 := by
  funext i
  refine Eq.trans ?_ (congrArg (x3 i + ·) (refRow_eq (row x0 (i 0)) (row x1 (i 0)) (row x2 0) (fun k => h0 _) (fun k => h1 _)
    (fun k => h2 _) (i 1)))
  pointwise [refRow, rinv, ms, row, len4, eps, Cert.RmsBRefIdeal.Read.val_main_v0, Cert.RmsBRefIdeal.Read.val_main_v1, Cert.RmsBRefIdeal.Read.val_main_v2, Cert.RmsBRefIdeal.Read.val_main_v3, Cert.RmsBRefIdeal.Read.val_main_v4, Cert.RmsBRefIdeal.Read.val_main_v5, Cert.RmsBRefIdeal.Read.val_main_v6, Cert.RmsBRefIdeal.Read.val_main_v7, Cert.RmsBRefIdeal.Read.val_main_v8, Cert.RmsBRefIdeal.Read.val_main_v9, Cert.RmsBRefIdeal.Read.val_main_v10, Cert.RmsBRefIdeal.Read.val_main_v11, Cert.RmsBRefIdeal.Read.val_main_v12, Cert.RmsBRefIdeal.Read.val_main_v13, Cert.RmsBRefIdeal.Read.val_main_v14, Cert.RmsBRefIdeal.Read.val_main_v15, Cert.RmsBRefIdeal.Read.val_main_v16, Cert.RmsBRefIdeal.Read.val_main_v17, Cert.RmsBRefIdeal.Read.val_main_v18, Cert.RmsBRefIdeal.Read.val_main_v19, Cert.RmsBRefIdeal.Read.val_main_v20, Cert.RmsBRefIdeal.Read.val_main_v21, Cert.RmsBRefIdeal.Read.val_main_v22, Cert.RmsBRefIdeal.Read.val_main_v23, Cert.RmsBRefIdeal.Read.val_main_v24, Cert.RmsBRefIdeal.Read.val_main_v25, Cert.RmsBRefIdeal.Read.val_main_v26, Cert.RmsBRefIdeal.Read.val_main_v27, Cert.RmsBRefIdeal.Read.val_main_v28, Cert.RmsBRefIdeal.Read.val_main_v29, Cert.RmsBRefIdeal.Read.val_main_v30, Cert.RmsBRefIdeal.Read.val_main_v31, Cert.RmsBRefIdeal.Read.val_main_v32, Cert.RmsBRefIdeal.Read.val_main_v33, Cert.RmsBRefIdeal.Read.val_main_v34, Cert.RmsBRefIdeal.Read.val_main_v35, Cert.RmsBRefIdeal.Read.val_main_v36, Cert.RmsBRefIdeal.Read.val_main_cst, Cert.RmsBRefIdeal.Read.val_main_cst_0, Cert.RmsBRefIdeal.Read.val_main_cst_1, Cert.RmsBRefIdeal.Read.val_main_cst_2, Cert.RmsBRefIdeal.Read.val_main_cst_3, Cert.RmsBRefIdeal.Read.val_main_cst_4, Cert.RmsBRefIdeal.Read.val_main_cst_5, Cert.RmsBRefIdeal.Read.val_main_cst_6]

/-- The reference's gradient of the weight. -/
theorem ref_gain (x0 x1 : FVec Ideal Cert.RmsBRefIdeal.S4224x4096 .f32) :
    Cert.RmsBRefIdeal.Read.val_main_v17 (F := Ideal) x0 x1 = rmsGain x0 x1 := by
  funext i
  unfold rmsGain
  pointwise [rinv, ms, row, len4, eps, Cert.RmsBRefIdeal.Read.val_main_v0, Cert.RmsBRefIdeal.Read.val_main_v1, Cert.RmsBRefIdeal.Read.val_main_v2, Cert.RmsBRefIdeal.Read.val_main_v3, Cert.RmsBRefIdeal.Read.val_main_v4, Cert.RmsBRefIdeal.Read.val_main_v5, Cert.RmsBRefIdeal.Read.val_main_v6, Cert.RmsBRefIdeal.Read.val_main_v7, Cert.RmsBRefIdeal.Read.val_main_v8, Cert.RmsBRefIdeal.Read.val_main_v9, Cert.RmsBRefIdeal.Read.val_main_v10, Cert.RmsBRefIdeal.Read.val_main_v11, Cert.RmsBRefIdeal.Read.val_main_v12, Cert.RmsBRefIdeal.Read.val_main_v13, Cert.RmsBRefIdeal.Read.val_main_v14, Cert.RmsBRefIdeal.Read.val_main_v15, Cert.RmsBRefIdeal.Read.val_main_v16, Cert.RmsBRefIdeal.Read.val_main_v17, Cert.RmsBRefIdeal.Read.val_main_v18, Cert.RmsBRefIdeal.Read.val_main_v19, Cert.RmsBRefIdeal.Read.val_main_v20, Cert.RmsBRefIdeal.Read.val_main_v21, Cert.RmsBRefIdeal.Read.val_main_v22, Cert.RmsBRefIdeal.Read.val_main_v23, Cert.RmsBRefIdeal.Read.val_main_v24, Cert.RmsBRefIdeal.Read.val_main_v25, Cert.RmsBRefIdeal.Read.val_main_v26, Cert.RmsBRefIdeal.Read.val_main_v27, Cert.RmsBRefIdeal.Read.val_main_v28, Cert.RmsBRefIdeal.Read.val_main_v29, Cert.RmsBRefIdeal.Read.val_main_v30, Cert.RmsBRefIdeal.Read.val_main_v31, Cert.RmsBRefIdeal.Read.val_main_v32, Cert.RmsBRefIdeal.Read.val_main_v33, Cert.RmsBRefIdeal.Read.val_main_v34, Cert.RmsBRefIdeal.Read.val_main_v35, Cert.RmsBRefIdeal.Read.val_main_v36, Cert.RmsBRefIdeal.Read.val_main_cst, Cert.RmsBRefIdeal.Read.val_main_cst_0, Cert.RmsBRefIdeal.Read.val_main_cst_1, Cert.RmsBRefIdeal.Read.val_main_cst_2, Cert.RmsBRefIdeal.Read.val_main_cst_3, Cert.RmsBRefIdeal.Read.val_main_cst_4, Cert.RmsBRefIdeal.Read.val_main_cst_5, Cert.RmsBRefIdeal.Read.val_main_cst_6]
  exact Finset.sum_congr rfl fun r _ => mul_comm _ _

end Cert.RmsBIdeal.Norm
end
-- ==== Proof.Norm.LnB.lean ====
module

public import proofs.«01_k».proof.Proof.Gen.LnBIdeal.Value
public import proofs.«01_k».proof.Proof.Norm.Spec

/-! What the kernel of the layer norm's gradient leaves in its three results. -/

@[expose] public section

set_option maxRecDepth 16384

noncomputable section

namespace Cert.LnBIdeal.Norm

open Cert.LnBIdeal Cert.LnBIdeal.Gen Idealize.ShloMosaic Idealize.ShloMosaic.TcCoe Idealize.SL.Sem
open Idealize.ShloMosaic.Pointwise Cert.Norm

/-- A tile's gradient of the normed rows. -/
theorem pay9 (g : Vec Ideal S1x2048 .f32) (x : Vec Ideal S128x2048 .f32) (b : Vec Ideal S1x2048 .f32)
    (d : Vec Ideal S128x2048 .bf16) (j : S128x2048.Idx) :
    k0_pay9 (F := Ideal) g x b d j = dyRow (row d (j 0)) (row x (j 0)) (row g 0) (row b 0) (j 1) := by
  pointwise [k0_pay9, k0_pay8, k0_pay7, k0_pay6, dyRow, aff, hat, linv, var, cen, row, len2, eps]

/-- A tile's normed rows. -/
theorem pay8 (x : Vec Ideal S128x2048 .f32) (j : S128x2048.Idx) :
    k0_pay8 (F := Ideal) x j = hat (row x (j 0)) (j 1) := by
  pointwise [k0_pay8, k0_pay7, k0_pay6, hat, linv, var, cen, row, len2, eps]

/-- The reciprocal standard deviations of a tile's rows. -/
theorem pay7 (x : Vec Ideal S128x2048 .f32) (j : S128x1.Idx) :
    k0_pay7 (F := Ideal) x j = linv (row x (j 0)) := by
  pointwise [k0_pay7, k0_pay6, linv, var, cen, row, len2, eps]

/-- The gradient before the norm's correction, less its mean. -/
theorem pay11 (g : Vec Ideal S1x2048 .f32) (x : Vec Ideal S128x2048 .f32) (b : Vec Ideal S1x2048 .f32)
    (d : Vec Ideal S128x2048 .bf16) (j : S128x2048.Idx) :
    k0_pay11 (F := Ideal) g x b d j = dyRow (row d (j 0)) (row x (j 0)) (row g 0) (row b 0) (j 1) * row g 0 (j 1)
      - Ideal.div (∑ k, dyRow (row d (j 0)) (row x (j 0)) (row g 0) (row b 0) k * row g 0 k) len2 := by
  pointwise [k0_pay11, k0_pay10, pay9, row, len2]

/-- The gradient's products with the normed rows. -/
theorem pay12 (g : Vec Ideal S1x2048 .f32) (x : Vec Ideal S128x2048 .f32) (b : Vec Ideal S1x2048 .f32)
    (d : Vec Ideal S128x2048 .bf16) (j : S128x2048.Idx) :
    k0_pay12 (F := Ideal) g x b d j = dyRow (row d (j 0)) (row x (j 0)) (row g 0) (row b 0) (j 1) * row g 0 (j 1)
      * hat (row x (j 0)) (j 1) := by
  pointwise [k0_pay12, k0_pay10, pay9, pay8, row]

/-- The gradient of the input that one grid point computes from its blocks. -/
theorem pay1 (g : Vec Ideal S1x2048 .f32) (x : Vec Ideal S128x2048 .f32) (b : Vec Ideal S1x2048 .f32)
    (d : Vec Ideal S128x2048 .bf16) (j : S128x2048.Idx) :
    k0_pay1 (F := Ideal) (k0_pay7 x) (k0_pay8 x) (k0_pay11 g x b d) (k0_pay12 g x b d) j
      = dxRow (row d (j 0)) (row x (j 0)) (row g 0) (row b 0) (j 1) := by
  pointwise [k0_pay1, pay7, pay8, pay11, pay12, dxRow, len2]

/-- A tile's part of the weight's gradient. -/
theorem pay2 (g : Vec Ideal S1x2048 .f32) (x : Vec Ideal S128x2048 .f32) (b : Vec Ideal S1x2048 .f32)
    (d : Vec Ideal S128x2048 .bf16) (j : S1x2048.Idx) :
    k0_pay2 (F := Ideal) (k0_pay8 x) (k0_pay9 g x b d) j
      = ∑ r : Fin 128, dyRow (row d r) (row x r) (row g 0) (row b 0) (j 1) * hat (row x r) (j 1) := by
  pointwise [k0_pay2, pay8, pay9]

/-- A tile's part of the bias's gradient. -/
theorem pay3 (g : Vec Ideal S1x2048 .f32) (x : Vec Ideal S128x2048 .f32) (b : Vec Ideal S1x2048 .f32)
    (d : Vec Ideal S128x2048 .bf16) (j : S1x2048.Idx) :
    k0_pay3 (F := Ideal) (k0_pay9 g x b d) j
      = ∑ r : Fin 128, dyRow (row d r) (row x r) (row g 0) (row b 0) (j 1) := by
  pointwise [k0_pay3, pay9]

/-- What a later tile leaves of the weight's gradient. -/
theorem pay4 (a v : Vec Ideal S128x2048 .f32) (b : Vec Ideal S1x2048 .f32) (j : S1x2048.Idx) :
    k0_pay4 (F := Ideal) a v b j = b j + k0_pay2 (F := Ideal) a v j := by
  pointwise [k0_pay4]

/-- What a later tile leaves of the bias's gradient. -/
theorem pay5 (v : Vec Ideal S128x2048 .f32) (b : Vec Ideal S1x2048 .f32) (j : S1x2048.Idx) :
    k0_pay5 (F := Ideal) v b j = b j + k0_pay3 (F := Ideal) v j := by
  pointwise [k0_pay5]

/-- Each block holds whole rows: of the arrays those of the tile, and the weight's and the bias's one row. -/
theorem idx : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = 0 ∧ win0_5.index t 1 = 0)
    ∧ (win0_6.index t 0 = 0 ∧ win0_6.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = 0 ∧ win0_5.index t 1 = 0)
    ∧ (win0_6.index t 0 = 0 ∧ win0_6.index t 1 = 0))

variable (m : (ℓ : Loc nD τ sig) → Buf (Elt Ideal) ℓ)

theorem blk0 (c : Dev nD) (t : Fin cfg0.N) (r : Fin 128) (e : Fin 4224) (h : e.val = t.val * 128 + r.val) :
    row (iblk m c 0 t) r = row (m ((c : Thread nD τ).loc main_arg0)) e := by
  obtain ⟨⟨a0, a1⟩, -⟩ := idx t
  refine funext fun k => ?_
  unfold row
  blk_ext [iblk, V, a0, a1, h]

theorem blk1 (c : Dev nD) (t : Fin cfg0.N) (r : Fin 128) (e : Fin 4224) (h : e.val = t.val * 128 + r.val) :
    row (iblk m c 1 t) r = row (m ((c : Thread nD τ).loc main_arg1)) e := by
  obtain ⟨-, ⟨a0, a1⟩, -⟩ := idx t
  refine funext fun k => ?_
  unfold row
  blk_ext [iblk, V, a0, a1, h]

theorem blk2 (c : Dev nD) (t : Fin cfg0.N) :
    row (iblk m c 2 t) 0 = row (m ((c : Thread nD τ).loc main_arg2)) 0 := by
  obtain ⟨-, -, ⟨a0, a1⟩, -⟩ := idx t
  refine funext fun k => ?_
  unfold row
  blk_ext [iblk, V, a0, a1]

theorem blk3 (c : Dev nD) (t : Fin cfg0.N) :
    row (iblk m c 3 t) 0 = row (m ((c : Thread nD τ).loc main_arg3)) 0 := by
  obtain ⟨-, -, -, ⟨a0, a1⟩, -⟩ := idx t
  refine funext fun k => ?_
  unfold row
  blk_ext [iblk, V, a0, a1]

/-- A row's gradients are the same when the rows, and the places, are. -/
theorem row_congr {d d' x x' g g' b b' : Fin 2048 → EReal} {j j' : Fin 2048} (hd : d = d') (hx : x = x') (hg : g = g')
    (hb : b = b') (hj : j = j') : dxRow d x g b j = dxRow d' x' g' b' j' := by
  subst hd hx hg hb hj; rfl

/-- The gradient of the input at an entry of a tile. -/
theorem grad_at (c : Dev nD) (t : Fin cfg0.N) (y : S128x2048.Idx) (e : S4224x2048.Idx)
    (h0 : (e 0).val = t.val * 128 + (y 0).val) (h1 : (e 1).val = (y 1).val) :
    dxRow (row (iblk m c 0 t) (y 0)) (row (iblk m c 1 t) (y 0)) (row (iblk m c 2 t) 0) (row (iblk m c 3 t) 0) (y 1)
      = lnGrad (m ((c : Thread nD τ).loc main_arg0)) (m ((c : Thread nD τ).loc main_arg1))
          (m ((c : Thread nD τ).loc main_arg2)) (m ((c : Thread nD τ).loc main_arg3)) e :=
  row_congr (blk0 m c t (y 0) (e 0) h0) (blk1 m c t (y 0) (e 0) h0) (blk2 m c t) (blk3 m c t) (Fin.ext h1.symm)

/-- What a tile leaves in the first result's buffer. -/
theorem tile4 (c : Dev nD) (t : Fin cfg0.N) (y : S128x2048.Idx) (e : S4224x2048.Idx)
    (h0 : (e 0).val = t.val * 128 + (y 0).val) (h1 : (e 1).val = (y 1).val) :
    (outsAt0 m c t.val t.isLt).1 y = lnGrad (m ((c : Thread nD τ).loc main_arg0)) (m ((c : Thread nD τ).loc main_arg1))
          (m ((c : Thread nD τ).loc main_arg2)) (m ((c : Thread nD τ).loc main_arg3)) e := by
  have hN : t.val < 33 := lt_of_lt_of_eq t.isLt N_0
  by_cases h : t.val % 33 = 0
  · rw [outsAt0_A m c t h (by omega)]
    frame_out
    exact (pay1 _ _ _ _ y).trans (grad_at m c t y e h0 h1)
  · rw [outsAt0_B m c t h (by omega)]
    frame_out
    exact (pay1 _ _ _ _ y).trans (grad_at m c t y e h0 h1)

/-- A tile's part of the weight's gradient, from its blocks. -/
def part5 (c : Dev nD) (t : Fin cfg0.N) : Vec Ideal S1x2048 .f32 :=
  k0_pay2 (F := Ideal) (k0_pay8 (iblk m c 1 t)) (k0_pay9 (iblk m c 2 t) (iblk m c 1 t) (iblk m c 3 t) (iblk m c 0 t))

/-- A tile's part of the bias's gradient, from its blocks. -/
def part6 (c : Dev nD) (t : Fin cfg0.N) : Vec Ideal S1x2048 .f32 :=
  k0_pay3 (F := Ideal) (k0_pay9 (iblk m c 2 t) (iblk m c 1 t) (iblk m c 3 t) (iblk m c 0 t))

/-- The first tile starts the weight's gradient. -/
theorem first5 (c : Dev nD) (t : Fin cfg0.N) (h : t.val % 33 = 0) (y : S1x2048.Idx) :
    (outsAt0 m c t.val t.isLt).2.1 y = 0 + part5 m c t y := by
  have hN : t.val < 33 := lt_of_lt_of_eq t.isLt N_0
  rw [outsAt0_A m c t h (by omega)]
  frame_out
  exact (zero_add _).symm

/-- A later tile adds to it. -/
theorem step5 (c : Dev nD) (t : Fin cfg0.N) (h : ¬t.val % 33 = 0) (y : S1x2048.Idx) :
    (outsAt0 m c t.val t.isLt).2.1 y = (outsAt0 m c (t.val - 1) (by omega)).2.1 y + part5 m c t y := by
  rw [outsAt0_B m c t h (by omega)]
  frame_out
  exact pay4 _ _ _ y

/-- What the whole run leaves of the weight's gradient. -/
theorem run5 (c : Dev nD) (t : Fin cfg0.N) (ht : t.val % 33 = 32) (j : S1x2048.Idx) :
    (outsAt0 m c t.val t.isLt).2.1 j
      = ∑ s : Fin 33, part5 m c ⟨33 * (t.val / 33) + s.val, Pipeline.run_point_lt_of_flush t ht s⟩ j := by
  rw [Pipeline.eq_sum_fin_of_reset_step_apply_of_flush (M := EReal) (fun n h => (outsAt0 m c n h).2.1) 33 (fun _ => 0)
    (fun t => part5 m c t) ?_ ?_ t ht j]
  · exact zero_add _
  · exact fun t h i => first5 m c t h i
  · exact fun t h i => step5 m c t h i

/-- The sums of a run are the sums over all rows. -/
theorem sum5 (c : Dev nD) (t : Fin cfg0.N) (ht : t.val % 33 = 32) (y e : S1x2048.Idx) (h1 : (e 1).val = (y 1).val) :
    (outsAt0 m c t.val t.isLt).2.1 y = lnGain (m ((c : Thread nD τ).loc main_arg0)) (m ((c : Thread nD τ).loc main_arg1))
          (m ((c : Thread nD τ).loc main_arg2)) (m ((c : Thread nD τ).loc main_arg3)) e := by
  have hN : t.val < 33 := lt_of_lt_of_eq t.isLt N_0
  have h0 : t.val / 33 = 0 := by omega
  have hy : e 1 = y 1 := Fin.ext h1
  rw [run5 m c t ht y]
  unfold part5 lnGain
  simp only [pay2]
  rw [hy]
  refine Fin.sum_mul_add_congr (fun s k hl => ?_) rfl
  have hr : (⟨s.val * 128 + k.val, hl⟩ : Fin 4224).val
      = (⟨33 * (t.val / 33) + s.val, Pipeline.run_point_lt_of_flush t ht s⟩ : Fin cfg0.N).val * 128 + k.val := by
    simp only [h0, Nat.mul_zero, Nat.zero_add]
  rw [blk0 m c _ k _ hr, blk1 m c _ k _ hr, blk2, blk3]

/-- The first tile starts the bias's gradient. -/
theorem first6 (c : Dev nD) (t : Fin cfg0.N) (h : t.val % 33 = 0) (y : S1x2048.Idx) :
    (outsAt0 m c t.val t.isLt).2.2 y = 0 + part6 m c t y := by
  have hN : t.val < 33 := lt_of_lt_of_eq t.isLt N_0
  rw [outsAt0_A m c t h (by omega)]
  frame_out
  exact (zero_add _).symm

/-- A later tile adds to it. -/
theorem step6 (c : Dev nD) (t : Fin cfg0.N) (h : ¬t.val % 33 = 0) (y : S1x2048.Idx) :
    (outsAt0 m c t.val t.isLt).2.2 y = (outsAt0 m c (t.val - 1) (by omega)).2.2 y + part6 m c t y := by
  rw [outsAt0_B m c t h (by omega)]
  frame_out
  exact pay5 _ _ y

/-- What the whole run leaves of the bias's gradient. -/
theorem run6 (c : Dev nD) (t : Fin cfg0.N) (ht : t.val % 33 = 32) (j : S1x2048.Idx) :
    (outsAt0 m c t.val t.isLt).2.2 j
      = ∑ s : Fin 33, part6 m c ⟨33 * (t.val / 33) + s.val, Pipeline.run_point_lt_of_flush t ht s⟩ j := by
  rw [Pipeline.eq_sum_fin_of_reset_step_apply_of_flush (M := EReal) (fun n h => (outsAt0 m c n h).2.2) 33 (fun _ => 0)
    (fun t => part6 m c t) ?_ ?_ t ht j]
  · exact zero_add _
  · exact fun t h i => first6 m c t h i
  · exact fun t h i => step6 m c t h i

/-- The sums of a run are the sums over all rows. -/
theorem sum6 (c : Dev nD) (t : Fin cfg0.N) (ht : t.val % 33 = 32) (y e : S1x2048.Idx) (h1 : (e 1).val = (y 1).val) :
    (outsAt0 m c t.val t.isLt).2.2 y = lnBias (m ((c : Thread nD τ).loc main_arg0)) (m ((c : Thread nD τ).loc main_arg1))
          (m ((c : Thread nD τ).loc main_arg2)) (m ((c : Thread nD τ).loc main_arg3)) e := by
  have hN : t.val < 33 := lt_of_lt_of_eq t.isLt N_0
  have h0 : t.val / 33 = 0 := by omega
  have hy : e 1 = y 1 := Fin.ext h1
  rw [run6 m c t ht y]
  unfold part6 lnBias
  simp only [pay3]
  rw [hy]
  refine Fin.sum_mul_add_congr (fun s k hl => ?_) rfl
  have hr : (⟨s.val * 128 + k.val, hl⟩ : Fin 4224).val
      = (⟨33 * (t.val / 33) + s.val, Pipeline.run_point_lt_of_flush t ht s⟩ : Fin cfg0.N).val * 128 + k.val := by
    simp only [h0, Nat.mul_zero, Nat.zero_add]
  rw [blk0 m c _ k _ hr, blk1 m c _ k _ hr, blk2, blk3]

/-- The gradient of the input. -/
theorem final4 (c : Dev nD) : (dats m 0 c).arrAt 4 cfg0.N
    = lnGrad (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  obtain ⟨-, -, -, -, ⟨g0, g1⟩, -⟩ := idx t
  blk_simp
  rw [after0_4]
  refine tile4 m c t y _ ?_ ?_
  · blk_simp [g0]
  · blk_simp [g1]

/-- The gradient of the weight. -/
theorem final5 (c : Dev nD) : (dats m 0 c).arrAt 5 cfg0.N
    = lnGain (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t hf y => ?_
  have ht := (flush0_5 t).mp hf
  obtain ⟨-, -, -, -, -, ⟨g0, g1⟩, -⟩ := idx t
  blk_simp
  rw [after0_5]
  refine sum5 m c t ht y _ ?_
  blk_simp [g1]

/-- The gradient of the bias. -/
theorem final6 (c : Dev nD) : (dats m 0 c).arrAt 6 cfg0.N
    = lnBias (m ((c : Thread nD τ).loc main_arg0)) (m ((c : Thread nD τ).loc main_arg1))
          (m ((c : Thread nD τ).loc main_arg2)) (m ((c : Thread nD τ).loc main_arg3)) := by
  refine (dats m 0 c).arrAt_eq_of_covers 6 _ (by decide +kernel) fun t hf y => ?_
  have ht := (flush0_6 t).mp hf
  obtain ⟨-, -, -, -, -, -, ⟨g0, g1⟩⟩ := idx t
  blk_simp
  rw [after0_6]
  refine sum6 m c t ht y _ ?_
  blk_simp [g1]

end Cert.LnBIdeal.Norm
end
-- ==== Proof.Norm.LnBRef.lean ====
module

public import proofs.«01_k».proof.Proof.Gen.LnBRefIdeal.Read
public import proofs.«01_k».proof.Proof.Norm.Spec

/-! The reference of the layer norm's gradient. For numbers, the derivative of the reciprocal root of the variance is the
kernel's correction along the normed row, and the derivative of the mean is its correction along the constant row. -/

@[expose] public section

set_option maxRecDepth 16384

noncomputable section

namespace Cert.LnBIdeal.Norm

open Idealize.ShloMosaic Idealize.ShloMosaic.TcCoe Idealize.SL.Sem
open Idealize.ShloMosaic.Pointwise Cert.Norm

/-- The swish's gradient as the product rule gives it. -/
def dyRef (d x g b : Fin 2048 → EReal) (j : Fin 2048) : EReal :=
  d j * Ideal.logistic (aff x g b j)
    + aff x g b j * d j * (Ideal.logistic (aff x g b j) * (1 - Ideal.logistic (aff x g b j)))

/-- The gradient of a centred row: through the weight, and twice through the square's factors. -/
def cenRef (t x : Fin 2048 → EReal) (j : Fin 2048) : EReal :=
  let c : EReal := ∑ _ : Fin 1, Ideal.div ((∑ k, cen x k * t k) * (Ideal.ofBits .f32 3204448256#32 * Ideal.div (linv x) (var x))) len2
  t j * linv x + cen x j * c + c * cen x j

/-- The gradient of a row: that of the centred row, and what comes through the mean. -/
def dxRef (t x : Fin 2048 → EReal) (j : Fin 2048) : EReal :=
  cenRef t x j + ∑ _ : Fin 1, Ideal.div (∑ k, -cenRef t x k) len2

/-- A centred row of numbers, its variance and the reciprocal root of it. -/
theorem numbers_var (X : Fin 2048 → ℝ) : ∃ (C : Fin 2048 → ℝ) (s r : ℝ), 0 < s ∧ r * r * s = 1 ∧ ∑ k, C k = 0
    ∧ cen (fun k => (X k : EReal)) = (fun k => (C k : EReal)) ∧ var (fun k => (X k : EReal)) = s
    ∧ linv (fun k => (X k : EReal)) = r := by
  obtain ⟨e, he, h⟩ := eps_eq
  have hc : cen (fun k => (X k : EReal)) = fun k => ((X k - (∑ k, X k) / 2048 : ℝ) : EReal) := by
    funext j
    unfold cen
    rw [sum_coe, len2_eq, coe_div_coe _ _ (by norm_num), ← EReal.coe_sub]
  generalize hC : (fun k => X k - (∑ k, X k) / 2048) = C
  have hc' : cen (fun k => (X k : EReal)) = fun k => (C k : EReal) := by rw [hc, ← hC]
  have hs : (0 : ℝ) < (∑ k, C k * C k) / 2048 + e :=
    add_pos_of_nonneg_of_pos (div_nonneg (Finset.sum_nonneg fun k _ => mul_self_nonneg _) (by norm_num)) he
  have hm : var (fun k => (X k : EReal)) = (((∑ k, C k * C k) / 2048 + e : ℝ) : EReal) := by
    unfold var
    rw [hc']
    simp only [← EReal.coe_mul, sum_coe]
    rw [len2_eq, h, coe_div_coe _ _ (by norm_num), ← EReal.coe_add]
  refine ⟨C, _, (√((∑ k, C k * C k) / 2048 + e))⁻¹, hs, ?_, ?_, hc', hm, ?_⟩
  · rw [← mul_inv, Real.mul_self_sqrt hs.le, inv_mul_cancel₀ hs.ne']
  · rw [← hC, Finset.sum_sub_distrib, Finset.sum_const, Finset.card_univ, Fintype.card_fin, nsmul_eq_mul]
    push_cast
    ring
  · unfold linv
    rw [hm, Ideal.rsqrt_coe, if_neg (not_lt.mpr hs.le), if_neg hs.ne']

/-- The two forms of the swish's gradient are one number, of numbers. -/
theorem dyRef_eq (D X G B : Fin 2048 → ℝ) : ∃ Y : Fin 2048 → ℝ,
    dyRow (fun k => (D k : EReal)) (fun k => (X k : EReal)) (fun k => (G k : EReal)) (fun k => (B k : EReal))
      = (fun k => (Y k : EReal))
    ∧ dyRef (fun k => (D k : EReal)) (fun k => (X k : EReal)) (fun k => (G k : EReal)) (fun k => (B k : EReal))
      = (fun k => (Y k : EReal)) := by
  obtain ⟨C, s, r, -, -, -, h0, -, h2⟩ := numbers_var X
  have ha : ∀ k, aff (fun k => (X k : EReal)) (fun k => (G k : EReal)) (fun k => (B k : EReal)) k
      = ((C k * r * G k + B k : ℝ) : EReal) := fun k => by
    unfold aff hat
    rw [h0, h2]
    norm_cast
  refine ⟨fun k => D k * ((1 + Real.exp (-(C k * r * G k + B k)))⁻¹ * (1 + (C k * r * G k + B k)
    * (1 - (1 + Real.exp (-(C k * r * G k + B k)))⁻¹))), funext fun k => ?_, funext fun k => ?_⟩
  · unfold dyRow
    rw [ha, Ideal.logistic_coe]
    norm_cast
  · unfold dyRef
    rw [ha, Ideal.logistic_coe]
    beta_reduce
    generalize (1 + Real.exp (-(C k * r * G k + B k)))⁻¹ = u
    generalize C k * r * G k + B k = a
    norm_cast
    ring

/-- The two forms of a row's gradient are one, of numbers. -/
theorem dxRef_eq (d x g b : Fin 2048 → EReal) (hd : ∀ k, d k = ((d k).toReal : EReal))
    (hx : ∀ k, x k = ((x k).toReal : EReal)) (hg : ∀ k, g k = ((g k).toReal : EReal))
    (hb : ∀ k, b k = ((b k).toReal : EReal)) (j : Fin 2048) :
    dxRef (fun k => dyRef d x g b k * g k) x j = dxRow d x g b j := by
  obtain ⟨D, rfl⟩ : ∃ D : Fin 2048 → ℝ, d = fun k => (D k : EReal) := ⟨_, funext hd⟩
  obtain ⟨X, rfl⟩ : ∃ X : Fin 2048 → ℝ, x = fun k => (X k : EReal) := ⟨_, funext hx⟩
  obtain ⟨G, rfl⟩ : ∃ G : Fin 2048 → ℝ, g = fun k => (G k : EReal) := ⟨_, funext hg⟩
  obtain ⟨B, rfl⟩ : ∃ B : Fin 2048 → ℝ, b = fun k => (B k : EReal) := ⟨_, funext hb⟩
  obtain ⟨C, s, r, hs, hr, hC, h0, h1, h2⟩ := numbers_var X
  obtain ⟨Y, hY, hY'⟩ := dyRef_eq D X G B
  unfold dxRow hat
  rw [hY, hY']
  unfold dxRef cenRef
  rw [h0, h1, h2, neg_half, len2_eq]
  simp only [Finset.univ_unique, Finset.sum_singleton, ← EReal.coe_mul, sum_coe, coe_div_coe _ _ hs.ne',
    coe_div_coe _ _ (show (2048 : ℝ) ≠ 0 by norm_num), ← EReal.coe_add, ← EReal.coe_sub, ← EReal.coe_neg]
  refine congrArg _ ?_
  have h3 : r / s = r * r * r := by
    rw [div_eq_iff hs.ne']
    linear_combination -r * hr
  have h4 : ∑ k, Y k * G k * (C k * r) = (∑ k, C k * (Y k * G k)) * r := by
    rw [Finset.sum_mul]
    exact Finset.sum_congr rfl fun k _ => by ring
  generalize hc : (∑ k, C k * (Y k * G k)) * (-1 / 2 * (r / s)) / 2048 = c
  have h5 : ∑ k, -(Y k * G k * r + C k * c + c * C k) = -(r * ∑ k, Y k * G k) := by
    rw [Finset.sum_neg_distrib, Finset.sum_add_distrib, Finset.sum_add_distrib, ← Finset.sum_mul, ← Finset.sum_mul,
      ← Finset.mul_sum, hC]
    ring
  rw [h5, h4, ← hc, h3]
  ring

/-- The reference's gradient of the normed rows. -/
theorem ref_dy (x0 : FVec Ideal Cert.LnBRefIdeal.S4224x2048 .bf16) (x1 : FVec Ideal Cert.LnBRefIdeal.S4224x2048 .f32)
    (x2 x3 : FVec Ideal Cert.LnBRefIdeal.S1x2048 .f32) (i : Cert.LnBRefIdeal.S4224x2048.Idx) :
    Cert.LnBRefIdeal.Read.val_main_v37 (F := Ideal) x0 x1 x2 x3 i = dyRef (row x0 (i 0)) (row x1 (i 0)) (row x2 0) (row x3 0) (i 1) := by
  pointwise [dyRef, aff, hat, linv, var, cen, Ideal.logistic, row, len2, eps, Cert.LnBRefIdeal.Read.val_main_cst, Cert.LnBRefIdeal.Read.val_main_v0, Cert.LnBRefIdeal.Read.val_main_v1, Cert.LnBRefIdeal.Read.val_main_cst_0, Cert.LnBRefIdeal.Read.val_main_v2, Cert.LnBRefIdeal.Read.val_main_v3, Cert.LnBRefIdeal.Read.val_main_v4, Cert.LnBRefIdeal.Read.val_main_v5, Cert.LnBRefIdeal.Read.val_main_v6, Cert.LnBRefIdeal.Read.val_main_cst_1, Cert.LnBRefIdeal.Read.val_main_v7, Cert.LnBRefIdeal.Read.val_main_v8, Cert.LnBRefIdeal.Read.val_main_cst_2, Cert.LnBRefIdeal.Read.val_main_v9, Cert.LnBRefIdeal.Read.val_main_v10, Cert.LnBRefIdeal.Read.val_main_cst_3, Cert.LnBRefIdeal.Read.val_main_v11, Cert.LnBRefIdeal.Read.val_main_v12, Cert.LnBRefIdeal.Read.val_main_v13, Cert.LnBRefIdeal.Read.val_main_v14, Cert.LnBRefIdeal.Read.val_main_cst_4, Cert.LnBRefIdeal.Read.val_main_v15, Cert.LnBRefIdeal.Read.val_main_v16, Cert.LnBRefIdeal.Read.val_main_v17, Cert.LnBRefIdeal.Read.val_main_v18, Cert.LnBRefIdeal.Read.val_main_v19, Cert.LnBRefIdeal.Read.val_main_v20, Cert.LnBRefIdeal.Read.val_main_v21, Cert.LnBRefIdeal.Read.val_main_v22, Cert.LnBRefIdeal.Read.val_main_v23, Cert.LnBRefIdeal.Read.val_main_v24, Cert.LnBRefIdeal.Read.val_main_cst_5, Cert.LnBRefIdeal.Read.val_main_v25, Cert.LnBRefIdeal.Read.val_main_v26, Cert.LnBRefIdeal.Read.val_main_cst_6, Cert.LnBRefIdeal.Read.val_main_v27, Cert.LnBRefIdeal.Read.val_main_v28, Cert.LnBRefIdeal.Read.val_main_cst_7, Cert.LnBRefIdeal.Read.val_main_v29, Cert.LnBRefIdeal.Read.val_main_v30, Cert.LnBRefIdeal.Read.val_main_v31, Cert.LnBRefIdeal.Read.val_main_v32, Cert.LnBRefIdeal.Read.val_main_v33, Cert.LnBRefIdeal.Read.val_main_v34, Cert.LnBRefIdeal.Read.val_main_v35, Cert.LnBRefIdeal.Read.val_main_v36, Cert.LnBRefIdeal.Read.val_main_v37]

/-- The reference's gradient of the centred rows. -/
theorem ref_cen (x0 : FVec Ideal Cert.LnBRefIdeal.S4224x2048 .bf16) (x1 : FVec Ideal Cert.LnBRefIdeal.S4224x2048 .f32)
    (x2 x3 : FVec Ideal Cert.LnBRefIdeal.S1x2048 .f32) (i : Cert.LnBRefIdeal.S4224x2048.Idx) :
    Cert.LnBRefIdeal.Read.val_main_v58 (F := Ideal) x0 x1 x2 x3 i
      = cenRef (fun k => dyRef (row x0 (i 0)) (row x1 (i 0)) (row x2 0) (row x3 0) k * row x2 0 k) (row x1 (i 0)) (i 1) := by
  pointwise [ref_dy, cenRef, linv, var, cen, row, len2, eps, Cert.LnBRefIdeal.Read.val_main_cst, Cert.LnBRefIdeal.Read.val_main_v0, Cert.LnBRefIdeal.Read.val_main_v1, Cert.LnBRefIdeal.Read.val_main_cst_0, Cert.LnBRefIdeal.Read.val_main_v2, Cert.LnBRefIdeal.Read.val_main_v3, Cert.LnBRefIdeal.Read.val_main_v4, Cert.LnBRefIdeal.Read.val_main_v5, Cert.LnBRefIdeal.Read.val_main_v6, Cert.LnBRefIdeal.Read.val_main_cst_1, Cert.LnBRefIdeal.Read.val_main_v7, Cert.LnBRefIdeal.Read.val_main_v8, Cert.LnBRefIdeal.Read.val_main_cst_2, Cert.LnBRefIdeal.Read.val_main_v9, Cert.LnBRefIdeal.Read.val_main_v10, Cert.LnBRefIdeal.Read.val_main_cst_3, Cert.LnBRefIdeal.Read.val_main_v11, Cert.LnBRefIdeal.Read.val_main_v12, Cert.LnBRefIdeal.Read.val_main_v13, Cert.LnBRefIdeal.Read.val_main_v14, Cert.LnBRefIdeal.Read.val_main_cst_4, Cert.LnBRefIdeal.Read.val_main_v15, Cert.LnBRefIdeal.Read.val_main_v16, Cert.LnBRefIdeal.Read.val_main_v17, Cert.LnBRefIdeal.Read.val_main_v18, Cert.LnBRefIdeal.Read.val_main_v43, Cert.LnBRefIdeal.Read.val_main_v44, Cert.LnBRefIdeal.Read.val_main_v45, Cert.LnBRefIdeal.Read.val_main_cst_10, Cert.LnBRefIdeal.Read.val_main_v46, Cert.LnBRefIdeal.Read.val_main_v47, Cert.LnBRefIdeal.Read.val_main_v48, Cert.LnBRefIdeal.Read.val_main_v49, Cert.LnBRefIdeal.Read.val_main_v50, Cert.LnBRefIdeal.Read.val_main_cst_11, Cert.LnBRefIdeal.Read.val_main_v51, Cert.LnBRefIdeal.Read.val_main_v52, Cert.LnBRefIdeal.Read.val_main_cst_12, Cert.LnBRefIdeal.Read.val_main_v53, Cert.LnBRefIdeal.Read.val_main_v54, Cert.LnBRefIdeal.Read.val_main_v55, Cert.LnBRefIdeal.Read.val_main_v56, Cert.LnBRefIdeal.Read.val_main_v57, Cert.LnBRefIdeal.Read.val_main_v58]

/-- The reference's gradient of the input. -/
theorem ref_grad (x0 : FVec Ideal Cert.LnBRefIdeal.S4224x2048 .bf16) (x1 : FVec Ideal Cert.LnBRefIdeal.S4224x2048 .f32)
    (x2 x3 : FVec Ideal Cert.LnBRefIdeal.S1x2048 .f32)
    (h0 : ∀ i, x0 i = ((x0 i : EReal).toReal : EReal))
    (h1 : ∀ i, x1 i = ((x1 i : EReal).toReal : EReal)) (h2 : ∀ i, x2 i = ((x2 i : EReal).toReal : EReal))
    (h3 : ∀ i, x3 i = ((x3 i : EReal).toReal : EReal)) :
    Cert.LnBRefIdeal.Read.val_main_v66 (F := Ideal) x0 x1 x2 x3 = lnGrad x0 x1 x2 x3 := by
  funext i
  refine Eq.trans ?_ (dxRef_eq (row x0 (i 0)) (row x1 (i 0)) (row x2 0) (row x3 0) (fun k => h0 _) (fun k => h1 _) (fun k => h2 _)
    (fun k => h3 _) (i 1))
  pointwise [ref_cen, dxRef, len2, Cert.LnBRefIdeal.Read.val_main_v59, Cert.LnBRefIdeal.Read.val_main_cst_13, Cert.LnBRefIdeal.Read.val_main_v60, Cert.LnBRefIdeal.Read.val_main_v61, Cert.LnBRefIdeal.Read.val_main_cst_14, Cert.LnBRefIdeal.Read.val_main_v62, Cert.LnBRefIdeal.Read.val_main_v63, Cert.LnBRefIdeal.Read.val_main_cst_15, Cert.LnBRefIdeal.Read.val_main_v64, Cert.LnBRefIdeal.Read.val_main_v65, Cert.LnBRefIdeal.Read.val_main_v66]

/-- The swish's gradient at an entry, of numbers. -/
theorem ref_row (x0 : FVec Ideal Cert.LnBRefIdeal.S4224x2048 .bf16) (x1 : FVec Ideal Cert.LnBRefIdeal.S4224x2048 .f32)
    (x2 x3 : FVec Ideal Cert.LnBRefIdeal.S1x2048 .f32)
    (h0 : ∀ i, x0 i = ((x0 i : EReal).toReal : EReal))
    (h1 : ∀ i, x1 i = ((x1 i : EReal).toReal : EReal)) (h2 : ∀ i, x2 i = ((x2 i : EReal).toReal : EReal))
    (h3 : ∀ i, x3 i = ((x3 i : EReal).toReal : EReal)) (r : Fin 4224) (j : Fin 2048) :
    dyRef (row x0 r) (row x1 r) (row x2 0) (row x3 0) j = dyRow (row x0 r) (row x1 r) (row x2 0) (row x3 0) j := by
  obtain ⟨D, hD⟩ : ∃ D : Fin 2048 → ℝ, row x0 r = fun k => (D k : EReal) := ⟨_, funext fun k => h0 _⟩
  obtain ⟨X, hX⟩ : ∃ X : Fin 2048 → ℝ, row x1 r = fun k => (X k : EReal) := ⟨_, funext fun k => h1 _⟩
  obtain ⟨G, hG⟩ : ∃ G : Fin 2048 → ℝ, row x2 0 = fun k => (G k : EReal) := ⟨_, funext fun k => h2 _⟩
  obtain ⟨B, hB⟩ : ∃ B : Fin 2048 → ℝ, row x3 0 = fun k => (B k : EReal) := ⟨_, funext fun k => h3 _⟩
  obtain ⟨Y, hY, hY'⟩ := dyRef_eq D X G B
  rw [hD, hX, hG, hB, hY, hY']

/-- The reference's gradient of the weight. -/
theorem ref_gain (x0 : FVec Ideal Cert.LnBRefIdeal.S4224x2048 .bf16) (x1 : FVec Ideal Cert.LnBRefIdeal.S4224x2048 .f32)
    (x2 x3 : FVec Ideal Cert.LnBRefIdeal.S1x2048 .f32)
    (h0 : ∀ i, x0 i = ((x0 i : EReal).toReal : EReal))
    (h1 : ∀ i, x1 i = ((x1 i : EReal).toReal : EReal)) (h2 : ∀ i, x2 i = ((x2 i : EReal).toReal : EReal))
    (h3 : ∀ i, x3 i = ((x3 i : EReal).toReal : EReal)) :
    Cert.LnBRefIdeal.Read.val_main_v42 (F := Ideal) x0 x1 x2 x3 = lnGain x0 x1 x2 x3 := by
  funext i
  refine Eq.trans ?_ (Finset.sum_congr rfl fun r _ => (mul_comm _ _).trans (congrArg (· * hat (row x1 r) (i 1))
    (ref_row x0 x1 x2 x3 h0 h1 h2 h3 r (i 1))))
  pointwise [ref_dy, hat, linv, var, cen, row, len2, eps, Cert.LnBRefIdeal.Read.val_main_cst, Cert.LnBRefIdeal.Read.val_main_v0, Cert.LnBRefIdeal.Read.val_main_v1, Cert.LnBRefIdeal.Read.val_main_cst_0, Cert.LnBRefIdeal.Read.val_main_v2, Cert.LnBRefIdeal.Read.val_main_v3, Cert.LnBRefIdeal.Read.val_main_v4, Cert.LnBRefIdeal.Read.val_main_v5, Cert.LnBRefIdeal.Read.val_main_v6, Cert.LnBRefIdeal.Read.val_main_cst_1, Cert.LnBRefIdeal.Read.val_main_v7, Cert.LnBRefIdeal.Read.val_main_v8, Cert.LnBRefIdeal.Read.val_main_cst_2, Cert.LnBRefIdeal.Read.val_main_v9, Cert.LnBRefIdeal.Read.val_main_v10, Cert.LnBRefIdeal.Read.val_main_cst_3, Cert.LnBRefIdeal.Read.val_main_v11, Cert.LnBRefIdeal.Read.val_main_v12, Cert.LnBRefIdeal.Read.val_main_v13, Cert.LnBRefIdeal.Read.val_main_v14, Cert.LnBRefIdeal.Read.val_main_cst_4, Cert.LnBRefIdeal.Read.val_main_v15, Cert.LnBRefIdeal.Read.val_main_v16, Cert.LnBRefIdeal.Read.val_main_v17, Cert.LnBRefIdeal.Read.val_main_v18, Cert.LnBRefIdeal.Read.val_main_v40, Cert.LnBRefIdeal.Read.val_main_cst_9, Cert.LnBRefIdeal.Read.val_main_v41, Cert.LnBRefIdeal.Read.val_main_v42]

/-- The reference's gradient of the bias. -/
theorem ref_bias (x0 : FVec Ideal Cert.LnBRefIdeal.S4224x2048 .bf16) (x1 : FVec Ideal Cert.LnBRefIdeal.S4224x2048 .f32)
    (x2 x3 : FVec Ideal Cert.LnBRefIdeal.S1x2048 .f32)
    (h0 : ∀ i, x0 i = ((x0 i : EReal).toReal : EReal))
    (h1 : ∀ i, x1 i = ((x1 i : EReal).toReal : EReal)) (h2 : ∀ i, x2 i = ((x2 i : EReal).toReal : EReal))
    (h3 : ∀ i, x3 i = ((x3 i : EReal).toReal : EReal)) :
    Cert.LnBRefIdeal.Read.val_main_v39 (F := Ideal) x0 x1 x2 x3 = lnBias x0 x1 x2 x3 := by
  funext i
  refine Eq.trans ?_ (Finset.sum_congr rfl fun r _ => ref_row x0 x1 x2 x3 h0 h1 h2 h3 r (i 1))
  pointwise [ref_dy, Cert.LnBRefIdeal.Read.val_main_cst_8, Cert.LnBRefIdeal.Read.val_main_v38, Cert.LnBRefIdeal.Read.val_main_v39]

end Cert.LnBIdeal.Norm
end
-- ==== Proof.Norm.PreRms.lean ====
module

public import proofs.«01_k».proof.Pre_finite_rms
public import proofs.«01_k».proof.Proof.Attention.Pre
public import Idealize.ShloMosaic.Lib.Pointwise

@[expose] public section

set_option maxRecDepth 16384

noncomputable section

namespace Cert.Pre_finite_rms

instance holdsFacts : Cert.Pre_finite_rms.Facts where
  bcast_S_S4224x4096 := by decide
  bcast_S_S1x4096 := by decide

open Idealize.ShloMosaic Idealize.ShloMosaic.Pointwise Idealize.ShloMosaic.TcCoe Idealize.SL.Sem

variable (x0 : FVec Ideal S4224x4096 .f32) (x1 : FVec Ideal S4224x4096 .f32) (x2 : FVec Ideal S1x4096 .f32) (x3 : FVec Ideal S4224x4096 .f32)

/-- Where the precondition holds, the entries of `x0` are numbers. -/
theorem numbers0 (h : (fn (F := Ideal) x0 x1 x2 x3).1 = fun _ => 1#1) (i : S4224x4096.Idx) : x0 i = ((x0 i : EReal).toReal : EReal) := by
  refine Cert.Pre_finite.number _ (Eq.trans (Eq.symm ?_) (congrFun h i))
  pointwise [fn]
  rfl

/-- Where the precondition holds, the entries of `x1` are numbers. -/
theorem numbers1 (h : (fn (F := Ideal) x0 x1 x2 x3).2.1 = fun _ => 1#1) (i : S4224x4096.Idx) : x1 i = ((x1 i : EReal).toReal : EReal) := by
  refine Cert.Pre_finite.number _ (Eq.trans (Eq.symm ?_) (congrFun h i))
  pointwise [fn]
  rfl

/-- Where the precondition holds, the entries of `x2` are numbers. -/
theorem numbers2 (h : (fn (F := Ideal) x0 x1 x2 x3).2.2 = fun _ => 1#1) (i : S1x4096.Idx) : x2 i = ((x2 i : EReal).toReal : EReal) := by
  refine Cert.Pre_finite.number _ (Eq.trans (Eq.symm ?_) (congrFun h i))
  pointwise [fn]
  rfl

end Cert.Pre_finite_rms

end
-- ==== Proof.Norm.PreLn.lean ====
module

public import proofs.«01_k».proof.Pre_finite_ln
public import proofs.«01_k».proof.Proof.Attention.Pre
public import Idealize.ShloMosaic.Lib.Pointwise

@[expose] public section

set_option maxRecDepth 16384

noncomputable section

namespace Cert.Pre_finite_ln

instance holdsFacts : Cert.Pre_finite_ln.Facts where
  bitsLt_bf16_f32 := by decide
  bcast_S_S4224x2048 := by decide
  bcast_S_S1x2048 := by decide

open Idealize.ShloMosaic Idealize.ShloMosaic.Pointwise Idealize.ShloMosaic.TcCoe Idealize.SL.Sem

variable (x0 : FVec Ideal S4224x2048 .bf16) (x1 : FVec Ideal S4224x2048 .f32) (x2 : FVec Ideal S1x2048 .f32) (x3 : FVec Ideal S1x2048 .f32)

/-- Where the precondition holds, the entries of `x0` are numbers. -/
theorem numbers0 (h : (fn (F := Ideal) x0 x1 x2 x3).1 = fun _ => 1#1) (i : S4224x2048.Idx) : x0 i = ((x0 i : EReal).toReal : EReal) := by
  refine Cert.Pre_finite.number _ (Eq.trans (Eq.symm ?_) (congrFun h i))
  pointwise [fn]
  rfl

/-- Where the precondition holds, the entries of `x1` are numbers. -/
theorem numbers1 (h : (fn (F := Ideal) x0 x1 x2 x3).2.1 = fun _ => 1#1) (i : S4224x2048.Idx) : x1 i = ((x1 i : EReal).toReal : EReal) := by
  refine Cert.Pre_finite.number _ (Eq.trans (Eq.symm ?_) (congrFun h i))
  pointwise [fn]
  rfl

/-- Where the precondition holds, the entries of `x2` are numbers. -/
theorem numbers2 (h : (fn (F := Ideal) x0 x1 x2 x3).2.2.1 = fun _ => 1#1) (i : S1x2048.Idx) : x2 i = ((x2 i : EReal).toReal : EReal) := by
  refine Cert.Pre_finite.number _ (Eq.trans (Eq.symm ?_) (congrFun h i))
  pointwise [fn]
  rfl

/-- Where the precondition holds, the entries of `x3` are numbers. -/
theorem numbers3 (h : (fn (F := Ideal) x0 x1 x2 x3).2.2.2 = fun _ => 1#1) (i : S1x2048.Idx) : x3 i = ((x3 i : EReal).toReal : EReal) := by
  refine Cert.Pre_finite.number _ (Eq.trans (Eq.symm ?_) (congrFun h i))
  pointwise [fn]
  rfl

end Cert.Pre_finite_ln

end
-- ==== Proof.Norm.Claims.lean ====
module

public import proofs.«01_k».proof.Defs
public import proofs.«01_k».proof.Proof.Norm.RmsF
public import proofs.«01_k».proof.Proof.Norm.LnF
public import proofs.«01_k».proof.Proof.Norm.RmsB
public import proofs.«01_k».proof.Proof.Norm.RmsBRef
public import proofs.«01_k».proof.Proof.Norm.LnB
public import proofs.«01_k».proof.Proof.Norm.LnBRef
public import proofs.«01_k».proof.Proof.Norm.PreRms
public import proofs.«01_k».proof.Proof.Norm.PreLn

@[expose] public section

set_option maxRecDepth 16384

noncomputable section

namespace Cert.Norm.Claims

open Idealize.ShloMosaic Idealize.ShloMosaic.TcCoe Idealize.SL.Sem

/-- The root-mean-square norm. -/
theorem eqRmsF : Cert.algebraic_RmsFIdeal_RmsFRefIdeal := fun m g m' g' _ h =>
  ⟨fun c => Cert.Norm.rms (m ((c.tc : Thread Cert.RmsFIdeal.nD Cert.RmsFIdeal.τ).loc Cert.RmsFIdeal.main_arg0)) (m ((c.tc : Thread Cert.RmsFIdeal.nD Cert.RmsFIdeal.τ).loc Cert.RmsFIdeal.main_arg1)),
    (θ_run Cert.RmsFIdeal.defs _ _).mono (fun _ hr c => ⟨(hr c).1.trans (Cert.RmsFIdeal.Norm.final m c), (hr c).2⟩)
      (Cert.RmsFIdeal.Value.run_blocks m g),
    (θ_run Cert.RmsFRefIdeal.defs _ _).mono (fun _ hr c => ⟨(hr c).1.trans ((Cert.RmsFIdeal.Norm.ref _ _).trans (by rw [(h c).1, (h c).2])), (hr c).2⟩)
      (Cert.RmsFRefIdeal.Value.run m' g')⟩

/-- The layer norm with its swish. -/
theorem eqLnF : Cert.algebraic_LnFIdeal_LnFRefIdeal := fun m g m' g' _ h =>
  ⟨fun c => Cert.Norm.ln (m ((c.tc : Thread Cert.LnFIdeal.nD Cert.LnFIdeal.τ).loc Cert.LnFIdeal.main_arg0)) (m ((c.tc : Thread Cert.LnFIdeal.nD Cert.LnFIdeal.τ).loc Cert.LnFIdeal.main_arg1)) (m ((c.tc : Thread Cert.LnFIdeal.nD Cert.LnFIdeal.τ).loc Cert.LnFIdeal.main_arg2)),
    (θ_run Cert.LnFIdeal.defs _ _).mono (fun _ hr c => ⟨(hr c).1.trans (Cert.LnFIdeal.Norm.final m c), (hr c).2⟩)
      (Cert.LnFIdeal.Value.run_blocks m g),
    (θ_run Cert.LnFRefIdeal.defs _ _).mono (fun _ hr c => ⟨(hr c).1.trans ((Cert.LnFIdeal.Norm.ref _ _ _).trans (by rw [(h c).1, (h c).2.1, (h c).2.2])), (hr c).2⟩)
      (Cert.LnFRefIdeal.Value.run m' g')⟩

/-- The gradients of the hidden states and of the root-mean-square norm's weight. -/
theorem eqRmsB : Cert.algebraic_RmsBIdeal_RmsBRefIdeal_pre_finite_rms := fun m g m' g' hp h =>
  ⟨fun c => Cert.Norm.rmsGrad (m ((c.tc : Thread Cert.RmsBIdeal.nD Cert.RmsBIdeal.τ).loc Cert.RmsBIdeal.main_arg0)) (m ((c.tc : Thread Cert.RmsBIdeal.nD Cert.RmsBIdeal.τ).loc Cert.RmsBIdeal.main_arg1)) (m ((c.tc : Thread Cert.RmsBIdeal.nD Cert.RmsBIdeal.τ).loc Cert.RmsBIdeal.main_arg2)) (m ((c.tc : Thread Cert.RmsBIdeal.nD Cert.RmsBIdeal.τ).loc Cert.RmsBIdeal.main_arg3)),
    fun c => Cert.Norm.rmsGrad (m ((c.tc : Thread Cert.RmsBIdeal.nD Cert.RmsBIdeal.τ).loc Cert.RmsBIdeal.main_arg0)) (m ((c.tc : Thread Cert.RmsBIdeal.nD Cert.RmsBIdeal.τ).loc Cert.RmsBIdeal.main_arg1)) (m ((c.tc : Thread Cert.RmsBIdeal.nD Cert.RmsBIdeal.τ).loc Cert.RmsBIdeal.main_arg2)) (m ((c.tc : Thread Cert.RmsBIdeal.nD Cert.RmsBIdeal.τ).loc Cert.RmsBIdeal.main_arg3)),
    fun c => Cert.Norm.rmsGain (m ((c.tc : Thread Cert.RmsBIdeal.nD Cert.RmsBIdeal.τ).loc Cert.RmsBIdeal.main_arg0)) (m ((c.tc : Thread Cert.RmsBIdeal.nD Cert.RmsBIdeal.τ).loc Cert.RmsBIdeal.main_arg1)),
    (θ_run Cert.RmsBIdeal.defs _ _).mono (fun _ hr c => ⟨(hr c).1.trans (Cert.RmsBIdeal.Norm.final4 m c),
        (hr c).2.1.trans (Cert.RmsBIdeal.Norm.final5 m c),
        (hr c).2.2.1.trans (Cert.RmsBIdeal.Norm.final6 m c), (hr c).2.2.2⟩)
      (Cert.RmsBIdeal.Value.run_blocks m g),
    (θ_run Cert.RmsBRefIdeal.defs _ _).mono (fun _ hr c => ⟨(hr c).1.trans ((Cert.RmsBIdeal.Norm.ref_grad _ _ _ _ (fun i => by rw [(h c).1]; exact Cert.Pre_finite_rms.numbers0 _ _ _ _ (hp c).1 i) (fun i => by rw [(h c).2.1]; exact Cert.Pre_finite_rms.numbers1 _ _ _ _ (hp c).2.1 i) (fun i => by rw [(h c).2.2.1]; exact Cert.Pre_finite_rms.numbers2 _ _ _ _ (hp c).2.2 i)).trans (by rw [(h c).1, (h c).2.1, (h c).2.2.1, (h c).2.2.2])),
        (hr c).2.1.trans ((Cert.RmsBIdeal.Norm.ref_gradb _ _ _ _ (fun i => by rw [(h c).1]; exact Cert.Pre_finite_rms.numbers0 _ _ _ _ (hp c).1 i) (fun i => by rw [(h c).2.1]; exact Cert.Pre_finite_rms.numbers1 _ _ _ _ (hp c).2.1 i) (fun i => by rw [(h c).2.2.1]; exact Cert.Pre_finite_rms.numbers2 _ _ _ _ (hp c).2.2 i)).trans (by rw [(h c).1, (h c).2.1, (h c).2.2.1, (h c).2.2.2])),
        (hr c).2.2.1.trans ((Cert.RmsBIdeal.Norm.ref_gain _ _).trans (by rw [(h c).1, (h c).2.1])), (hr c).2.2.2⟩)
      (Cert.RmsBRefIdeal.Value.run m' g')⟩

/-- The gradients of the layer norm's input, weight and bias. -/
theorem eqLnB : Cert.algebraic_LnBIdeal_LnBRefIdeal_pre_finite_ln := fun m g m' g' hp h =>
  ⟨fun c => Cert.Norm.lnGrad (m ((c.tc : Thread Cert.LnBIdeal.nD Cert.LnBIdeal.τ).loc Cert.LnBIdeal.main_arg0)) (m ((c.tc : Thread Cert.LnBIdeal.nD Cert.LnBIdeal.τ).loc Cert.LnBIdeal.main_arg1)) (m ((c.tc : Thread Cert.LnBIdeal.nD Cert.LnBIdeal.τ).loc Cert.LnBIdeal.main_arg2)) (m ((c.tc : Thread Cert.LnBIdeal.nD Cert.LnBIdeal.τ).loc Cert.LnBIdeal.main_arg3)),
    fun c => Cert.Norm.lnGain (m ((c.tc : Thread Cert.LnBIdeal.nD Cert.LnBIdeal.τ).loc Cert.LnBIdeal.main_arg0)) (m ((c.tc : Thread Cert.LnBIdeal.nD Cert.LnBIdeal.τ).loc Cert.LnBIdeal.main_arg1)) (m ((c.tc : Thread Cert.LnBIdeal.nD Cert.LnBIdeal.τ).loc Cert.LnBIdeal.main_arg2)) (m ((c.tc : Thread Cert.LnBIdeal.nD Cert.LnBIdeal.τ).loc Cert.LnBIdeal.main_arg3)),
    fun c => Cert.Norm.lnBias (m ((c.tc : Thread Cert.LnBIdeal.nD Cert.LnBIdeal.τ).loc Cert.LnBIdeal.main_arg0)) (m ((c.tc : Thread Cert.LnBIdeal.nD Cert.LnBIdeal.τ).loc Cert.LnBIdeal.main_arg1)) (m ((c.tc : Thread Cert.LnBIdeal.nD Cert.LnBIdeal.τ).loc Cert.LnBIdeal.main_arg2)) (m ((c.tc : Thread Cert.LnBIdeal.nD Cert.LnBIdeal.τ).loc Cert.LnBIdeal.main_arg3)),
    (θ_run Cert.LnBIdeal.defs _ _).mono (fun _ hr c => ⟨(hr c).1.trans (Cert.LnBIdeal.Norm.final4 m c),
        (hr c).2.1.trans (Cert.LnBIdeal.Norm.final5 m c),
        (hr c).2.2.1.trans (Cert.LnBIdeal.Norm.final6 m c), (hr c).2.2.2⟩)
      (Cert.LnBIdeal.Value.run_blocks m g),
    (θ_run Cert.LnBRefIdeal.defs _ _).mono (fun _ hr c => ⟨(hr c).1.trans ((Cert.LnBIdeal.Norm.ref_grad _ _ _ _ (fun i => by rw [(h c).1]; exact Cert.Pre_finite_ln.numbers0 _ _ _ _ (hp c).1 i) (fun i => by rw [(h c).2.1]; exact Cert.Pre_finite_ln.numbers1 _ _ _ _ (hp c).2.1 i) (fun i => by rw [(h c).2.2.1]; exact Cert.Pre_finite_ln.numbers2 _ _ _ _ (hp c).2.2.1 i) (fun i => by rw [(h c).2.2.2]; exact Cert.Pre_finite_ln.numbers3 _ _ _ _ (hp c).2.2.2 i)).trans (by rw [(h c).1, (h c).2.1, (h c).2.2.1, (h c).2.2.2])),
        (hr c).2.1.trans ((Cert.LnBIdeal.Norm.ref_gain _ _ _ _ (fun i => by rw [(h c).1]; exact Cert.Pre_finite_ln.numbers0 _ _ _ _ (hp c).1 i) (fun i => by rw [(h c).2.1]; exact Cert.Pre_finite_ln.numbers1 _ _ _ _ (hp c).2.1 i) (fun i => by rw [(h c).2.2.1]; exact Cert.Pre_finite_ln.numbers2 _ _ _ _ (hp c).2.2.1 i) (fun i => by rw [(h c).2.2.2]; exact Cert.Pre_finite_ln.numbers3 _ _ _ _ (hp c).2.2.2 i)).trans (by rw [(h c).1, (h c).2.1, (h c).2.2.1, (h c).2.2.2])),
        (hr c).2.2.1.trans ((Cert.LnBIdeal.Norm.ref_bias _ _ _ _ (fun i => by rw [(h c).1]; exact Cert.Pre_finite_ln.numbers0 _ _ _ _ (hp c).1 i) (fun i => by rw [(h c).2.1]; exact Cert.Pre_finite_ln.numbers1 _ _ _ _ (hp c).2.1 i) (fun i => by rw [(h c).2.2.1]; exact Cert.Pre_finite_ln.numbers2 _ _ _ _ (hp c).2.2.1 i) (fun i => by rw [(h c).2.2.2]; exact Cert.Pre_finite_ln.numbers3 _ _ _ _ (hp c).2.2.2 i)).trans (by rw [(h c).1, (h c).2.1, (h c).2.2.1, (h c).2.2.2])), (hr c).2.2.2⟩)
      (Cert.LnBRefIdeal.Value.run m' g')⟩

end Cert.Norm.Claims

end
-- ==== Proof.Prod.DAct.lean ====
module

public import proofs.«01_k».proof.Proof.Gen.DActIdeal.Value
public import proofs.«01_k».proof.Proof.Gen.DActRefIdeal.Run
public import Idealize.ShloMosaic.Lib.Pipeline.ValueKit
public import Idealize.ShloMosaic.Lib.Pointwise

@[expose] public section

set_option maxRecDepth 16384

noncomputable section

namespace Cert.DActIdeal.Prod

open Cert.DActIdeal Cert.DActIdeal.Gen Idealize.ShloMosaic Idealize.ShloMosaic.TcCoe Idealize.SL.Sem

/-- The gradient of the product's input: row `i 0` of the cotangent against row `i 1` of the weight. -/
def grad (w : S11008x4096.Idx → EReal) (ct : S4224x4096.Idx → EReal) : S4224x11008.Idx → EReal :=
  fun i => ∑ k : Fin 4096, ct (ix2 (i 0) k) * w (ix2 (i 1) k)

/-- What one grid point computes from its two blocks. -/
theorem pay (x : Vec Ideal S2112x4096 .bf16) (y : Vec Ideal S256x4096 .bf16) (j : S2112x256.Idx) :
    k0_pay1 (F := Ideal) x y j = ∑ k : Fin 4096, x (ix2 (j 0) k) * y (ix2 (j 1) k) := by
  pointwise [k0_pay1]

/-- Where each input block lies, beside the output's. -/
theorem idx : ∀ t : Fin cfg0.N, win0_0.index t 0 = win0_2.index t 0 ∧ win0_0.index t 1 = 0
    ∧ win0_1.index t 0 = win0_2.index t 1 ∧ win0_1.index t 1 = 0 :=
  (by decide +kernel : ∀ t : Fin grid0.N, win0_0.index t 0 = win0_2.index t 0 ∧ win0_0.index t 1 = 0
    ∧ win0_1.index t 0 = win0_2.index t 1 ∧ win0_1.index t 1 = 0)

/-- The kernel's array after the run is the gradient of the arguments. -/
theorem final (m : (ℓ : Loc nD τ sig) → Buf (Elt Ideal) ℓ) (c : Dev nD) :
    (dats m 0 c).arrAt 2 cfg0.N
      = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  obtain ⟨e0, e1, e2, e3⟩ := idx t
  refine Fin.sum_fin_congr fun k => ?_
  congr 1 <;> blk_ext [iblk, V, e0, e1, e2, e3]

/-- The reference's result is the same function. -/
theorem ref (a0 : FVec Ideal S11008x4096 .bf16) (a1 : FVec Ideal S4224x4096 .bf16) :
    truncf .bf16 (Host.dotGeneral Cert.DActRefIdeal.dot_S4224x4096_S11008x4096_S4224x11008_1_1_0_0_n_n none
      (extf .f32 a1 bitsLt_bf16_f32) (extf .f32 a0 bitsLt_bf16_f32)) bitsLt_bf16_f32
      = grad a0 a1 := by
  funext i
  pointwise [grad]

end Cert.DActIdeal.Prod

end
-- ==== Proof.Prod.DwDown.lean ====
module

public import proofs.«01_k».proof.Proof.Gen.DwDownIdeal.Value
public import proofs.«01_k».proof.Proof.Gen.DwDownRefIdeal.Run
public import Idealize.ShloMosaic.Lib.Pipeline.ValueKit
public import Idealize.ShloMosaic.Lib.Pointwise

@[expose] public section

set_option maxRecDepth 16384

noncomputable section

namespace Cert.DwDownIdeal.Prod

open Cert.DwDownIdeal Cert.DwDownIdeal.Gen Idealize.ShloMosaic Idealize.ShloMosaic.TcCoe Idealize.SL.Sem

/-- The gradient of the product's weight: column `i 0` of the input against column `i 1` of the cotangent. -/
def grad (x : S4224x11008.Idx → EReal) (ct : S4224x4096.Idx → EReal) : S11008x4096.Idx → EReal :=
  fun i => ∑ k : Fin 4224, x (ix2 k (i 0)) * ct (ix2 k (i 1))

/-- What one grid point computes from its two blocks. -/
theorem pay (x : Vec Ideal S4224x256 .bf16) (y : Vec Ideal S4224x1024 .bf16) (j : S256x1024.Idx) :
    k0_pay1 (F := Ideal) x y j = ∑ k : Fin 4224, x (ix2 k (j 0)) * y (ix2 k (j 1)) := by
  pointwise [k0_pay1]

/-- Where each input block lies, beside the output's. -/
theorem idx : ∀ t : Fin cfg0.N, win0_0.index t 1 = win0_2.index t 0 ∧ win0_0.index t 0 = 0
    ∧ win0_1.index t 1 = win0_2.index t 1 ∧ win0_1.index t 0 = 0 :=
  (by decide +kernel : ∀ t : Fin grid0.N, win0_0.index t 1 = win0_2.index t 0 ∧ win0_0.index t 0 = 0
    ∧ win0_1.index t 1 = win0_2.index t 1 ∧ win0_1.index t 0 = 0)

/-- The kernel's array after the run is the gradient of the arguments. -/
theorem final (m : (ℓ : Loc nD τ sig) → Buf (Elt Ideal) ℓ) (c : Dev nD) :
    (dats m 0 c).arrAt 2 cfg0.N
      = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  obtain ⟨e0, e1, e2, e3⟩ := idx t
  refine Fin.sum_fin_congr fun k => ?_
  congr 1 <;> blk_ext [iblk, V, e0, e1, e2, e3]

/-- The reference's result is the same function. -/
theorem ref (a0 : FVec Ideal S4224x11008 .bf16) (a1 : FVec Ideal S4224x4096 .bf16) :
    truncf .bf16 (transpose S11008x4096 [1, 0] (Host.dotGeneral Cert.DwDownRefIdeal.dot_S4224x4096_S4224x11008_S4096x11008_0_0_1_1_n_n none
      (extf .f32 a1 bitsLt_bf16_f32) (extf .f32 a0 bitsLt_bf16_f32)) Cert.DwDownRefIdeal.Gen.transposes_S4096x11008_S11008x4096_1_0) bitsLt_bf16_f32
      = grad a0 a1 := by
  funext i
  pointwise [grad]
  exact Fin.sum_fin_congr fun k => mul_comm _ _

end Cert.DwDownIdeal.Prod

end
-- ==== Proof.Prod.DU2.lean ====
module

public import proofs.«01_k».proof.Proof.Gen.DU2Ideal.Value
public import proofs.«01_k».proof.Proof.Gen.DU2RefIdeal.Run
public import Idealize.ShloMosaic.Lib.Pipeline.ValueKit
public import Idealize.ShloMosaic.Lib.Pointwise

@[expose] public section

set_option maxRecDepth 16384

noncomputable section

namespace Cert.DU2Ideal.Prod

open Cert.DU2Ideal Cert.DU2Ideal.Gen Idealize.ShloMosaic Idealize.ShloMosaic.TcCoe Idealize.SL.Sem

/-- The gradient of the product's input: row `i 0` of the cotangent against row `i 1` of the weight. -/
def grad (w : S4096x22016.Idx → EReal) (ct : S4224x22016.Idx → EReal) : S4224x4096.Idx → EReal :=
  fun i => ∑ k : Fin 22016, ct (ix2 (i 0) k) * w (ix2 (i 1) k)

/-- The product of one point's two blocks. -/
def part (x : Vec Ideal S528x5504 .bf16) (y : Vec Ideal S1024x5504 .bf16) : S528x1024.Idx → EReal :=
  fun j => ∑ k : Fin 5504, x (ix2 (j 0) k) * y (ix2 (j 1) k)

/-- The first point of a run stores the product of its blocks. -/
theorem pay2 (x : Vec Ideal S528x5504 .bf16) (y : Vec Ideal S1024x5504 .bf16) (j : S528x1024.Idx) :
    k0_pay2 (F := Ideal) x y j = part x y j := by
  pointwise [k0_pay2, k0_pay1, part]

/-- A later point adds the product of its blocks to what the accumulator holds. -/
theorem pay3 (x : Vec Ideal S528x5504 .bf16) (y : Vec Ideal S1024x5504 .bf16) (a : Vec Ideal S528x1024 .f32) (j : S528x1024.Idx) :
    k0_pay3 (F := Ideal) x y a j = a j + part x y j := by
  pointwise [k0_pay3, k0_pay1, part]

variable (m : (ℓ : Loc nD τ sig) → Buf (Elt Ideal) ℓ)

/-- At the last point of a run the accumulator holds the sum of the run's four products. -/
theorem scr (c : Dev nD) (t : Fin cfg0.N) (ht : t.val % 4 = 3) (j : S528x1024.Idx) :
    (outsAt0 m c t.val t.isLt).2 j
      = ∑ s : Fin 4, part (iblk m c 0 ⟨4 * (t.val / 4) + s.val, Pipeline.run_point_lt_of_flush t ht s⟩)
          (iblk m c 1 ⟨4 * (t.val / 4) + s.val, Pipeline.run_point_lt_of_flush t ht s⟩) j := by
  rw [Pipeline.eq_sum_fin_of_reset_step_apply_of_flush (M := EReal) (fun n h => (outsAt0 m c n h).2) 4 (fun _ => 0)
    (fun t => part (iblk m c 0 t) (iblk m c 1 t)) ?_ ?_ t ht j]
  · exact zero_add _
  · intro t h i
    rw [outsAt0_A m c t h (by omega) (by omega)]
    frame_out
    rw [pay2]
    exact (zero_add _).symm
  · intro t h i
    by_cases h3 : t.val % 4 = 3
    · rw [outsAt0_C m c t h (by omega) h3]
      frame_out
      rw [pay3]
      exact congrArg (· + _) (congrFun (Memref.IsWhole.read_unread _ _) i)
    · rw [outsAt0_B m c t h (by omega) h3]
      frame_out
      rw [pay3]
      exact congrArg (· + _) (congrFun (Memref.IsWhole.read_unread _ _) i)

/-- At the last point of a run the output block is the accumulator. -/
theorem out_eq (c : Dev nD) (t : Fin cfg0.N) (ht : t.val % 4 = 3) :
    (outsAt0 m c t.val t.isLt).1 = (outsAt0 m c t.val t.isLt).2 := by
  rw [outsAt0_C m c t (by omega) (by omega) ht]
  frame_out

/-- Where each input block lies, beside the output's: the contraction's block is the point's place in its run. -/
theorem idx : ∀ t : Fin cfg0.N, win0_0.index t 0 = win0_2.index t 0 ∧ win0_0.index t 1 = t.val % 4
    ∧ win0_1.index t 0 = win0_2.index t 1 ∧ win0_1.index t 1 = t.val % 4 :=
  (by decide +kernel : ∀ t : Fin grid0.N, win0_0.index t 0 = win0_2.index t 0 ∧ win0_0.index t 1 = t.val % 4
    ∧ win0_1.index t 0 = win0_2.index t 1 ∧ win0_1.index t 1 = t.val % 4)

/-- The output's block stays over a run. -/
theorem idx_run : ∀ t s : Fin cfg0.N, t.val / 4 = s.val / 4 → win0_2.index t = win0_2.index s :=
  (by decide +kernel : ∀ t s : Fin grid0.N, t.val / 4 = s.val / 4 → win0_2.index t = win0_2.index s)

/-- The kernel's array after the run is the gradient of the arguments. -/
theorem final (c : Dev nD) :
    (dats m 0 c).arrAt 2 cfg0.N
      = grad (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, out_eq m c t ht, scr m c t ht y]
  unfold grad part
  refine Fin.sum_mul_add_congr (fun s k hl => ?_) rfl
  obtain ⟨e0, e1, e2, e3⟩ := idx ⟨4 * (t.val / 4) + s.val, Pipeline.run_point_lt_of_flush t ht s⟩
  have er := idx_run ⟨4 * (t.val / 4) + s.val, Pipeline.run_point_lt_of_flush t ht s⟩ t (by dsimp only; omega)
  rw [er] at e0 e2
  dsimp only at e1 e3
  have e1' : (4 * (t.val / 4) + s.val) % 4 = s.val := by omega
  rw [e1'] at e1 e3
  congr 1 <;> blk_ext [iblk, V, e0, e1, e2, e3]

/-- The reference's result is the same function. -/
theorem ref (a0 : FVec Ideal S4096x22016 .bf16) (a1 : FVec Ideal S4224x22016 .bf16) :
    Host.dotGeneral Cert.DU2RefIdeal.dot_S4224x22016_S4096x22016_S4224x4096_1_1_0_0_n_n none
      (extf .f32 a1 Cert.DU2RefIdeal.Gen.bitsLt_bf16_f32) (extf .f32 a0 Cert.DU2RefIdeal.Gen.bitsLt_bf16_f32)
      = grad a0 a1 := by
  funext i
  pointwise [grad]

end Cert.DU2Ideal.Prod

end
-- ==== Proof.Prod.DwGateUp.lean ====
module

public import proofs.«01_k».proof.Proof.Gen.DwGateUpIdeal.Value
public import proofs.«01_k».proof.Proof.Gen.DwGateUpRefIdeal.Run
public import Idealize.ShloMosaic.Lib.Pipeline.ValueKit
public import Idealize.ShloMosaic.Lib.Pointwise

@[expose] public section

set_option maxRecDepth 16384

noncomputable section

namespace Cert.DwGateUpIdeal.Prod

open Cert.DwGateUpIdeal Cert.DwGateUpIdeal.Gen Idealize.ShloMosaic Idealize.ShloMosaic.TcCoe Idealize.SL.Sem

/-- The gradient of the product's weight: column `i 0` of the input against column `i 1` of the cotangent. -/
def grad (x : S4224x4096.Idx → EReal) (ct : S4224x22016.Idx → EReal) : S4096x22016.Idx → EReal :=
  fun i => ∑ k : Fin 4224, x (ix2 k (i 0)) * ct (ix2 k (i 1))

/-- What one grid point computes from its two blocks. -/
theorem pay (x : Vec Ideal S4224x1024 .bf16) (y : Vec Ideal S4224x512 .bf16) (j : S1024x512.Idx) :
    k0_pay1 (F := Ideal) x y j = ∑ k : Fin 4224, x (ix2 k (j 0)) * y (ix2 k (j 1)) := by
  pointwise [k0_pay1]

/-- Where each input block lies, beside the output's. -/
theorem idx : ∀ t : Fin cfg0.N, win0_0.index t 1 = win0_2.index t 0 ∧ win0_0.index t 0 = 0
    ∧ win0_1.index t 1 = win0_2.index t 1 ∧ win0_1.index t 0 = 0 :=
  (by decide +kernel : ∀ t : Fin grid0.N, win0_0.index t 1 = win0_2.index t 0 ∧ win0_0.index t 0 = 0
    ∧ win0_1.index t 1 = win0_2.index t 1 ∧ win0_1.index t 0 = 0)

/-- The kernel's array after the run is the gradient of the arguments. -/
theorem final (m : (ℓ : Loc nD τ sig) → Buf (Elt Ideal) ℓ) (c : Dev nD) :
    (dats m 0 c).arrAt 2 cfg0.N
      = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  obtain ⟨e0, e1, e2, e3⟩ := idx t
  refine Fin.sum_fin_congr fun k => ?_
  congr 1 <;> blk_ext [iblk, V, e0, e1, e2, e3]

/-- The reference's result is the same function. -/
theorem ref (a0 : FVec Ideal S4224x4096 .bf16) (a1 : FVec Ideal S4224x22016 .bf16) :
    truncf .bf16 (transpose S4096x22016 [1, 0] (Host.dotGeneral Cert.DwGateUpRefIdeal.dot_S4224x22016_S4224x4096_S22016x4096_0_0_1_1_n_n none
      (extf .f32 a1 bitsLt_bf16_f32) (extf .f32 a0 bitsLt_bf16_f32)) Cert.DwGateUpRefIdeal.Gen.transposes_S22016x4096_S4096x22016_1_0) bitsLt_bf16_f32
      = grad a0 a1 := by
  funext i
  pointwise [grad]
  exact Fin.sum_fin_congr fun k => mul_comm _ _

end Cert.DwGateUpIdeal.Prod

end
-- ==== Proof.Prod.DU1.lean ====
module

public import proofs.«01_k».proof.Proof.Gen.DU1Ideal.Value
public import proofs.«01_k».proof.Proof.Gen.DU1RefIdeal.Run
public import Idealize.ShloMosaic.Lib.Pipeline.ValueKit
public import Idealize.ShloMosaic.Lib.Pointwise

@[expose] public section

set_option maxRecDepth 16384

noncomputable section

namespace Cert.DU1Ideal.Prod

open Cert.DU1Ideal Cert.DU1Ideal.Gen Idealize.ShloMosaic Idealize.ShloMosaic.TcCoe Idealize.SL.Sem

/-- The gradient of the product's input: row `i 0` of the cotangent against row `i 1` of the weight. -/
def grad (w : S4096x14848.Idx → EReal) (ct : S4224x14848.Idx → EReal) : S4224x4096.Idx → EReal :=
  fun i => ∑ k : Fin 14848, ct (ix2 (i 0) k) * w (ix2 (i 1) k)

/-- What one grid point computes from its two blocks. -/
theorem pay (x : Vec Ideal S528x14848 .bf16) (y : Vec Ideal S256x14848 .bf16) (j : S528x256.Idx) :
    k0_pay1 (F := Ideal) x y j = ∑ k : Fin 14848, x (ix2 (j 0) k) * y (ix2 (j 1) k) := by
  pointwise [k0_pay1]

/-- Where each input block lies, beside the output's. -/
theorem idx : ∀ t : Fin cfg0.N, win0_0.index t 0 = win0_2.index t 0 ∧ win0_0.index t 1 = 0
    ∧ win0_1.index t 0 = win0_2.index t 1 ∧ win0_1.index t 1 = 0 :=
  (by decide +kernel : ∀ t : Fin grid0.N, win0_0.index t 0 = win0_2.index t 0 ∧ win0_0.index t 1 = 0
    ∧ win0_1.index t 0 = win0_2.index t 1 ∧ win0_1.index t 1 = 0)

/-- The kernel's array after the run is the gradient of the arguments. -/
theorem final (m : (ℓ : Loc nD τ sig) → Buf (Elt Ideal) ℓ) (c : Dev nD) :
    (dats m 0 c).arrAt 2 cfg0.N
      = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  obtain ⟨e0, e1, e2, e3⟩ := idx t
  refine Fin.sum_fin_congr fun k => ?_
  congr 1 <;> blk_ext [iblk, V, e0, e1, e2, e3]

/-- The reference's result is the same function. -/
theorem ref (a0 : FVec Ideal S4096x14848 .bf16) (a1 : FVec Ideal S4224x14848 .bf16) :
    Host.dotGeneral Cert.DU1RefIdeal.dot_S4224x14848_S4096x14848_S4224x4096_1_1_0_0_n_n none
      (extf .f32 a1 Cert.DU1RefIdeal.Gen.bitsLt_bf16_f32) (extf .f32 a0 Cert.DU1RefIdeal.Gen.bitsLt_bf16_f32)
      = grad a0 a1 := by
  funext i
  pointwise [grad]

end Cert.DU1Ideal.Prod

end
-- ==== Proof.Prod.DwIn.lean ====
module

public import proofs.«01_k».proof.Proof.Gen.DwInIdeal.Value
public import proofs.«01_k».proof.Proof.Gen.DwInRefIdeal.Run
public import Idealize.ShloMosaic.Lib.Pipeline.ValueKit
public import Idealize.ShloMosaic.Lib.Pointwise

@[expose] public section

set_option maxRecDepth 16384

noncomputable section

namespace Cert.DwInIdeal.Prod

open Cert.DwInIdeal Cert.DwInIdeal.Gen Idealize.ShloMosaic Idealize.ShloMosaic.TcCoe Idealize.SL.Sem

/-- The gradient of the product's weight: column `i 0` of the input against column `i 1` of the cotangent. -/
def grad (x : S4224x4096.Idx → EReal) (ct : S4224x14848.Idx → EReal) : S4096x14848.Idx → EReal :=
  fun i => ∑ k : Fin 4224, x (ix2 k (i 0)) * ct (ix2 k (i 1))

/-- What one grid point computes from its two blocks. -/
theorem pay (x : Vec Ideal S4224x1024 .bf16) (y : Vec Ideal S4224x512 .bf16) (j : S1024x512.Idx) :
    k0_pay1 (F := Ideal) x y j = ∑ k : Fin 4224, x (ix2 k (j 0)) * y (ix2 k (j 1)) := by
  pointwise [k0_pay1]

/-- Where each input block lies, beside the output's. -/
theorem idx : ∀ t : Fin cfg0.N, win0_0.index t 1 = win0_2.index t 0 ∧ win0_0.index t 0 = 0
    ∧ win0_1.index t 1 = win0_2.index t 1 ∧ win0_1.index t 0 = 0 :=
  (by decide +kernel : ∀ t : Fin grid0.N, win0_0.index t 1 = win0_2.index t 0 ∧ win0_0.index t 0 = 0
    ∧ win0_1.index t 1 = win0_2.index t 1 ∧ win0_1.index t 0 = 0)

/-- The kernel's array after the run is the gradient of the arguments. -/
theorem final (m : (ℓ : Loc nD τ sig) → Buf (Elt Ideal) ℓ) (c : Dev nD) :
    (dats m 0 c).arrAt 2 cfg0.N
      = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  obtain ⟨e0, e1, e2, e3⟩ := idx t
  refine Fin.sum_fin_congr fun k => ?_
  congr 1 <;> blk_ext [iblk, V, e0, e1, e2, e3]

/-- The reference's result is the same function. -/
theorem ref (a0 : FVec Ideal S4224x4096 .bf16) (a1 : FVec Ideal S4224x14848 .bf16) :
    truncf .bf16 (transpose S4096x14848 [1, 0] (Host.dotGeneral Cert.DwInRefIdeal.dot_S4224x14848_S4224x4096_S14848x4096_0_0_1_1_n_n none
      (extf .f32 a1 bitsLt_bf16_f32) (extf .f32 a0 bitsLt_bf16_f32)) Cert.DwInRefIdeal.Gen.transposes_S14848x4096_S4096x14848_1_0) bitsLt_bf16_f32
      = grad a0 a1 := by
  funext i
  pointwise [grad]
  exact Fin.sum_fin_congr fun k => mul_comm _ _

end Cert.DwInIdeal.Prod

end
-- ==== Proof.Prod.Claims.lean ====
module

public import proofs.«01_k».proof.Defs
public import proofs.«01_k».proof.Proof.Prod.DAct
public import proofs.«01_k».proof.Proof.Prod.DwDown
public import proofs.«01_k».proof.Proof.Prod.DU2
public import proofs.«01_k».proof.Proof.Prod.DwGateUp
public import proofs.«01_k».proof.Proof.Prod.DU1
public import proofs.«01_k».proof.Proof.Prod.DwIn
public import Idealize.ShloMosaic.Lib.Quiescent

@[expose] public section

set_option maxRecDepth 16384

noncomputable section

namespace Cert.Prod

open Idealize.ShloMosaic Idealize.ShloMosaic.TcCoe Idealize.SL.Sem

/-- DAct: the kernel and the reference compute the same array. -/
theorem dAct : Cert.algebraic_DActIdeal_DActRefIdeal := fun m g m' g' _ h =>
  ⟨fun c => Cert.DActIdeal.Prod.grad (m ((c.tc : Thread Cert.DActIdeal.nD Cert.DActIdeal.τ).loc Cert.DActIdeal.main_arg0))
      (m ((c.tc : Thread Cert.DActIdeal.nD Cert.DActIdeal.τ).loc Cert.DActIdeal.main_arg1)),
    (θ_run Cert.DActIdeal.defs _ _).mono
      (fun _ hr c => ⟨(hr c).1.trans (Cert.DActIdeal.Prod.final m c), (hr c).2⟩) (Cert.DActIdeal.Value.run_blocks m g),
    (θ_run Cert.DActRefIdeal.defs _ _).mono
      (fun _ hr c => ⟨(hr c).1.trans ((Cert.DActIdeal.Prod.ref _ _).trans (by rw [(h c).1, (h c).2])), (hr c).2⟩)
      (Cert.DActRefIdeal.Value.run m' g')⟩

/-- DwDown: the kernel and the reference compute the same array. -/
theorem dwDown : Cert.algebraic_DwDownIdeal_DwDownRefIdeal := fun m g m' g' _ h =>
  ⟨fun c => Cert.DwDownIdeal.Prod.grad (m ((c.tc : Thread Cert.DwDownIdeal.nD Cert.DwDownIdeal.τ).loc Cert.DwDownIdeal.main_arg0))
      (m ((c.tc : Thread Cert.DwDownIdeal.nD Cert.DwDownIdeal.τ).loc Cert.DwDownIdeal.main_arg1)),
    (θ_run Cert.DwDownIdeal.defs _ _).mono
      (fun _ hr c => ⟨(hr c).1.trans (Cert.DwDownIdeal.Prod.final m c), (hr c).2⟩) (Cert.DwDownIdeal.Value.run_blocks m g),
    (θ_run Cert.DwDownRefIdeal.defs _ _).mono
      (fun _ hr c => ⟨(hr c).1.trans ((Cert.DwDownIdeal.Prod.ref _ _).trans (by rw [(h c).1, (h c).2])), (hr c).2⟩)
      (Cert.DwDownRefIdeal.Value.run m' g')⟩

/-- DU2: the kernel and the reference compute the same array. -/
theorem du2 : Cert.algebraic_DU2Ideal_DU2RefIdeal := fun m g m' g' _ h =>
  ⟨fun c => Cert.DU2Ideal.Prod.grad (m ((c.tc : Thread Cert.DU2Ideal.nD Cert.DU2Ideal.τ).loc Cert.DU2Ideal.main_arg0))
      (m ((c.tc : Thread Cert.DU2Ideal.nD Cert.DU2Ideal.τ).loc Cert.DU2Ideal.main_arg1)),
    (θ_run Cert.DU2Ideal.defs _ _).mono
      (fun _ hr c => ⟨(hr c).1.trans (Cert.DU2Ideal.Prod.final m c), (hr c).2⟩) (Cert.DU2Ideal.Value.run_blocks m g),
    (θ_run Cert.DU2RefIdeal.defs _ _).mono
      (fun _ hr c => ⟨(hr c).1.trans ((Cert.DU2Ideal.Prod.ref _ _).trans (by rw [(h c).1, (h c).2])), (hr c).2⟩)
      (Cert.DU2RefIdeal.Value.run m' g')⟩

/-- DwGateUp: the kernel and the reference compute the same array. -/
theorem dwGateUp : Cert.algebraic_DwGateUpIdeal_DwGateUpRefIdeal := fun m g m' g' _ h =>
  ⟨fun c => Cert.DwGateUpIdeal.Prod.grad (m ((c.tc : Thread Cert.DwGateUpIdeal.nD Cert.DwGateUpIdeal.τ).loc Cert.DwGateUpIdeal.main_arg0))
      (m ((c.tc : Thread Cert.DwGateUpIdeal.nD Cert.DwGateUpIdeal.τ).loc Cert.DwGateUpIdeal.main_arg1)),
    (θ_run Cert.DwGateUpIdeal.defs _ _).mono
      (fun _ hr c => ⟨(hr c).1.trans (Cert.DwGateUpIdeal.Prod.final m c), (hr c).2⟩) (Cert.DwGateUpIdeal.Value.run_blocks m g),
    (θ_run Cert.DwGateUpRefIdeal.defs _ _).mono
      (fun _ hr c => ⟨(hr c).1.trans ((Cert.DwGateUpIdeal.Prod.ref _ _).trans (by rw [(h c).1, (h c).2])), (hr c).2⟩)
      (Cert.DwGateUpRefIdeal.Value.run m' g')⟩

/-- DU1: the kernel and the reference compute the same array. -/
theorem du1 : Cert.algebraic_DU1Ideal_DU1RefIdeal := fun m g m' g' _ h =>
  ⟨fun c => Cert.DU1Ideal.Prod.grad (m ((c.tc : Thread Cert.DU1Ideal.nD Cert.DU1Ideal.τ).loc Cert.DU1Ideal.main_arg0))
      (m ((c.tc : Thread Cert.DU1Ideal.nD Cert.DU1Ideal.τ).loc Cert.DU1Ideal.main_arg1)),
    (θ_run Cert.DU1Ideal.defs _ _).mono
      (fun _ hr c => ⟨(hr c).1.trans (Cert.DU1Ideal.Prod.final m c), (hr c).2⟩) (Cert.DU1Ideal.Value.run_blocks m g),
    (θ_run Cert.DU1RefIdeal.defs _ _).mono
      (fun _ hr c => ⟨(hr c).1.trans ((Cert.DU1Ideal.Prod.ref _ _).trans (by rw [(h c).1, (h c).2])), (hr c).2⟩)
      (Cert.DU1RefIdeal.Value.run m' g')⟩

/-- DwIn: the kernel and the reference compute the same array. -/
theorem dwIn : Cert.algebraic_DwInIdeal_DwInRefIdeal := fun m g m' g' _ h =>
  ⟨fun c => Cert.DwInIdeal.Prod.grad (m ((c.tc : Thread Cert.DwInIdeal.nD Cert.DwInIdeal.τ).loc Cert.DwInIdeal.main_arg0))
      (m ((c.tc : Thread Cert.DwInIdeal.nD Cert.DwInIdeal.τ).loc Cert.DwInIdeal.main_arg1)),
    (θ_run Cert.DwInIdeal.defs _ _).mono
      (fun _ hr c => ⟨(hr c).1.trans (Cert.DwInIdeal.Prod.final m c), (hr c).2⟩) (Cert.DwInIdeal.Value.run_blocks m g),
    (θ_run Cert.DwInRefIdeal.defs _ _).mono
      (fun _ hr c => ⟨(hr c).1.trans ((Cert.DwInIdeal.Prod.ref _ _).trans (by rw [(h c).1, (h c).2])), (hr c).2⟩)
      (Cert.DwInRefIdeal.Value.run m' g')⟩

end Cert.Prod

end
-- ==== Proof.Prod.In.lean ====
module

public import proofs.«01_k».proof.Proof.Gen.InIdeal.Value
public import proofs.«01_k».proof.Proof.Gen.InRefIdeal.Read
public import Idealize.ShloMosaic.Lib.Pipeline.ValueKit
public import Idealize.ShloMosaic.Lib.Pointwise

@[expose] public section

set_option maxRecDepth 16384

noncomputable section

namespace Cert.InIdeal.Prod

open Cert.InIdeal Cert.InIdeal.Gen Idealize.ShloMosaic Idealize.ShloMosaic.TcCoe Idealize.SL.Sem

/-- The product of row `i 0` of the input and column `i 1` of the weight, with the bias. -/
def out (x : S4224x4096.Idx → EReal) (w : S4096x14848.Idx → EReal) (b : S1x14848.Idx → EReal) : S4224x14848.Idx → EReal :=
  fun i => (∑ k : Fin 4096, x (ix2 (i 0) k) * w (ix2 k (i 1))) + b (ix2 0 (i 1))

/-- What one grid point computes from its blocks. -/
theorem pay (x : Vec Ideal S1408x4096 .bf16) (y : Vec Ideal S4096x512 .bf16) (z : Vec Ideal S1x512 .f32) (j : S1408x512.Idx) :
    k0_pay1 (F := Ideal) x y z j = (∑ k : Fin 4096, x (ix2 (j 0) k) * y (ix2 k (j 1))) + z (ix2 0 (j 1)) := by
  pointwise [k0_pay1]

/-- Where each input block lies, beside the output's. -/
theorem idx : ∀ t : Fin cfg0.N, win0_0.index t 0 = win0_3.index t 0 ∧ win0_0.index t 1 = 0
    ∧ win0_1.index t 0 = 0 ∧ win0_1.index t 1 = win0_3.index t 1
    ∧ win0_2.index t 0 = 0 ∧ win0_2.index t 1 = win0_3.index t 1 :=
  (by decide +kernel : ∀ t : Fin grid0.N, win0_0.index t 0 = win0_3.index t 0 ∧ win0_0.index t 1 = 0
    ∧ win0_1.index t 0 = 0 ∧ win0_1.index t 1 = win0_3.index t 1
    ∧ win0_2.index t 0 = 0 ∧ win0_2.index t 1 = win0_3.index t 1)

/-- The kernel's array after the run is that function of the arguments. -/
theorem final (m : (ℓ : Loc nD τ sig) → Buf (Elt Ideal) ℓ) (c : Dev nD) :
    (dats m 0 c).arrAt 3 cfg0.N
      = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [pay]
  obtain ⟨e0, e1, e2, e3, e4, e5⟩ := idx t
  congr 1
  · refine Fin.sum_fin_congr fun k => ?_
    congr 1 <;> blk_ext [iblk, V, e0, e1, e2, e3, e4, e5]
  · blk_ext [iblk, V, e0, e1, e2, e3, e4, e5]

/-- The reference's result is the same function. -/
theorem ref (x0 : FVec Ideal Cert.InRefIdeal.S4224x4096 .bf16) (x1 : FVec Ideal Cert.InRefIdeal.S4096x14848 .bf16) (x2 : FVec Ideal Cert.InRefIdeal.S1x14848 .f32) :
    Cert.InRefIdeal.Read.val_main_v5 (F := Ideal) x0 x1 x2 = out x0 x1 x2 := by
  funext i
  pointwise [out, Cert.InRefIdeal.Read.val_main_v0, Cert.InRefIdeal.Read.val_main_v1, Cert.InRefIdeal.Read.val_main_v2, Cert.InRefIdeal.Read.val_main_v3, Cert.InRefIdeal.Read.val_main_v4, Cert.InRefIdeal.Read.val_main_v5]

end Cert.InIdeal.Prod

end
-- ==== Proof.Prod.GateUp.lean ====
module

public import proofs.«01_k».proof.Proof.Gen.GateUpIdeal.Value
public import proofs.«01_k».proof.Proof.Gen.GateUpRefIdeal.Read
public import Idealize.ShloMosaic.Lib.Pipeline.ValueKit
public import Idealize.ShloMosaic.Lib.Pointwise

@[expose] public section

set_option maxRecDepth 16384

noncomputable section

namespace Cert.GateUpIdeal.Prod

open Cert.GateUpIdeal Cert.GateUpIdeal.Gen Idealize.ShloMosaic Idealize.ShloMosaic.TcCoe Idealize.SL.Sem

/-- The product of row `i 0` of the input and column `i 1` of the weight. -/
def out (x : S4224x4096.Idx → EReal) (w : S4096x22016.Idx → EReal) : S4224x22016.Idx → EReal :=
  fun i => ∑ k : Fin 4096, x (ix2 (i 0) k) * w (ix2 k (i 1))

/-- What one grid point computes from its blocks. -/
theorem pay (x : Vec Ideal S1408x4096 .bf16) (y : Vec Ideal S4096x512 .bf16) (j : S1408x512.Idx) :
    k0_pay1 (F := Ideal) x y j = ∑ k : Fin 4096, x (ix2 (j 0) k) * y (ix2 k (j 1)) := by
  pointwise [k0_pay1]

/-- Where each input block lies, beside the output's. -/
theorem idx : ∀ t : Fin cfg0.N, win0_0.index t 0 = win0_2.index t 0 ∧ win0_0.index t 1 = 0
    ∧ win0_1.index t 0 = 0 ∧ win0_1.index t 1 = win0_2.index t 1 :=
  (by decide +kernel : ∀ t : Fin grid0.N, win0_0.index t 0 = win0_2.index t 0 ∧ win0_0.index t 1 = 0
    ∧ win0_1.index t 0 = 0 ∧ win0_1.index t 1 = win0_2.index t 1)

/-- The kernel's array after the run is that function of the arguments. -/
theorem final (m : (ℓ : Loc nD τ sig) → Buf (Elt Ideal) ℓ) (c : Dev nD) :
    (dats m 0 c).arrAt 2 cfg0.N
      = out (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  obtain ⟨e0, e1, e2, e3⟩ := idx t
  refine Fin.sum_fin_congr fun k => ?_
  congr 1 <;> blk_ext [iblk, V, e0, e1, e2, e3]

/-- The reference's result is the same function. -/
theorem ref (x0 : FVec Ideal Cert.GateUpRefIdeal.S4224x4096 .bf16) (x1 : FVec Ideal Cert.GateUpRefIdeal.S4096x22016 .bf16) :
    Cert.GateUpRefIdeal.Read.val_main_v3 (F := Ideal) x0 x1 = out x0 x1 := by
  funext i
  pointwise [out, Cert.GateUpRefIdeal.Read.val_main_v0, Cert.GateUpRefIdeal.Read.val_main_v1, Cert.GateUpRefIdeal.Read.val_main_v2, Cert.GateUpRefIdeal.Read.val_main_v3]

end Cert.GateUpIdeal.Prod

end
-- ==== Proof.Prod.Down.lean ====
module

public import proofs.«01_k».proof.Proof.Gen.DownIdeal.Value
public import proofs.«01_k».proof.Proof.Gen.DownRefIdeal.Read
public import Idealize.ShloMosaic.Lib.Pipeline.ValueKit
public import Idealize.ShloMosaic.Lib.Pointwise

@[expose] public section

set_option maxRecDepth 16384

noncomputable section

namespace Cert.DownIdeal.Prod

open Cert.DownIdeal Cert.DownIdeal.Gen Idealize.ShloMosaic Idealize.ShloMosaic.TcCoe Idealize.SL.Sem

/-- The product of row `i 0` of the input and column `i 1` of the weight, added to the residual. -/
def out (x : S4224x11008.Idx → EReal) (w : S11008x4096.Idx → EReal) (h : S4224x4096.Idx → EReal) : S4224x4096.Idx → EReal :=
  fun i => (∑ k : Fin 11008, x (ix2 (i 0) k) * w (ix2 k (i 1))) + h i

/-- What one grid point computes from its blocks. -/
theorem pay (x : Vec Ideal S384x11008 .bf16) (y : Vec Ideal S11008x512 .bf16) (z : Vec Ideal S384x512 .f32) (j : S384x512.Idx) :
    k0_pay1 (F := Ideal) x y z j = (∑ k : Fin 11008, x (ix2 (j 0) k) * y (ix2 k (j 1))) + z j := by
  pointwise [k0_pay1]

/-- Where each input block lies, beside the output's. -/
theorem idx : ∀ t : Fin cfg0.N, win0_0.index t 0 = win0_3.index t 0 ∧ win0_0.index t 1 = 0
    ∧ win0_1.index t 0 = 0 ∧ win0_1.index t 1 = win0_3.index t 1
    ∧ win0_2.index t 0 = win0_3.index t 0 ∧ win0_2.index t 1 = win0_3.index t 1 :=
  (by decide +kernel : ∀ t : Fin grid0.N, win0_0.index t 0 = win0_3.index t 0 ∧ win0_0.index t 1 = 0
    ∧ win0_1.index t 0 = 0 ∧ win0_1.index t 1 = win0_3.index t 1
    ∧ win0_2.index t 0 = win0_3.index t 0 ∧ win0_2.index t 1 = win0_3.index t 1)

/-- The kernel's array after the run is that function of the arguments. -/
theorem final (m : (ℓ : Loc nD τ sig) → Buf (Elt Ideal) ℓ) (c : Dev nD) :
    (dats m 0 c).arrAt 3 cfg0.N
      = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [pay]
  obtain ⟨e0, e1, e2, e3, e4, e5⟩ := idx t
  congr 1
  · refine Fin.sum_fin_congr fun k => ?_
    congr 1 <;> blk_ext [iblk, V, e0, e1, e2, e3, e4, e5]
  · blk_ext [iblk, V, e0, e1, e2, e3, e4, e5]

/-- The reference's result is the same function. -/
theorem ref (x0 : FVec Ideal Cert.DownRefIdeal.S4224x11008 .bf16) (x1 : FVec Ideal Cert.DownRefIdeal.S11008x4096 .bf16) (x2 : FVec Ideal Cert.DownRefIdeal.S4224x4096 .f32) :
    Cert.DownRefIdeal.Read.val_main_v3 (F := Ideal) x0 x1 x2 = out x0 x1 x2 := by
  funext i
  pointwise [out, Cert.DownRefIdeal.Read.val_main_v0, Cert.DownRefIdeal.Read.val_main_v1, Cert.DownRefIdeal.Read.val_main_v2, Cert.DownRefIdeal.Read.val_main_v3]
  exact add_comm _ _

end Cert.DownIdeal.Prod

end
-- ==== Proof.Prod.Out.lean ====
module

public import proofs.«01_k».proof.Proof.Gen.OutIdeal.Value
public import proofs.«01_k».proof.Proof.Gen.OutRefIdeal.Read
public import Idealize.ShloMosaic.Lib.Pipeline.ValueKit
public import Idealize.ShloMosaic.Lib.Pointwise

@[expose] public section

set_option maxRecDepth 16384

noncomputable section

namespace Cert.OutIdeal.Prod

open Cert.OutIdeal Cert.OutIdeal.Gen Idealize.ShloMosaic Idealize.ShloMosaic.TcCoe Idealize.SL.Sem

/-- The product of row `i 0` of the input and column `i 1` of the weight, added to the residual. -/
def out (x : S4224x4096.Idx → EReal) (w : S4096x4096.Idx → EReal) (h : S4224x4096.Idx → EReal) : S4224x4096.Idx → EReal :=
  fun i => (∑ k : Fin 4096, x (ix2 (i 0) k) * w (ix2 k (i 1))) + h i

/-- What one grid point computes from its blocks. -/
theorem pay (x : Vec Ideal S704x4096 .bf16) (y : Vec Ideal S4096x1024 .bf16) (z : Vec Ideal S704x1024 .f32) (j : S704x1024.Idx) :
    k0_pay1 (F := Ideal) x y z j = (∑ k : Fin 4096, x (ix2 (j 0) k) * y (ix2 k (j 1))) + z j := by
  pointwise [k0_pay1]

/-- Where each input block lies, beside the output's. -/
theorem idx : ∀ t : Fin cfg0.N, win0_0.index t 0 = win0_3.index t 0 ∧ win0_0.index t 1 = 0
    ∧ win0_1.index t 0 = 0 ∧ win0_1.index t 1 = win0_3.index t 1
    ∧ win0_2.index t 0 = win0_3.index t 0 ∧ win0_2.index t 1 = win0_3.index t 1 :=
  (by decide +kernel : ∀ t : Fin grid0.N, win0_0.index t 0 = win0_3.index t 0 ∧ win0_0.index t 1 = 0
    ∧ win0_1.index t 0 = 0 ∧ win0_1.index t 1 = win0_3.index t 1
    ∧ win0_2.index t 0 = win0_3.index t 0 ∧ win0_2.index t 1 = win0_3.index t 1)

/-- The kernel's array after the run is that function of the arguments. -/
theorem final (m : (ℓ : Loc nD τ sig) → Buf (Elt Ideal) ℓ) (c : Dev nD) :
    (dats m 0 c).arrAt 3 cfg0.N
      = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [pay]
  obtain ⟨e0, e1, e2, e3, e4, e5⟩ := idx t
  congr 1
  · refine Fin.sum_fin_congr fun k => ?_
    congr 1 <;> blk_ext [iblk, V, e0, e1, e2, e3, e4, e5]
  · blk_ext [iblk, V, e0, e1, e2, e3, e4, e5]

/-- The reference's result is the same function. -/
theorem ref (x0 : FVec Ideal Cert.OutRefIdeal.S4224x4096 .bf16) (x1 : FVec Ideal Cert.OutRefIdeal.S4096x4096 .bf16) (x2 : FVec Ideal Cert.OutRefIdeal.S4224x4096 .f32) :
    Cert.OutRefIdeal.Read.val_main_v3 (F := Ideal) x0 x1 x2 = out x0 x1 x2 := by
  funext i
  pointwise [out, Cert.OutRefIdeal.Read.val_main_v0, Cert.OutRefIdeal.Read.val_main_v1, Cert.OutRefIdeal.Read.val_main_v2, Cert.OutRefIdeal.Read.val_main_v3]
  exact add_comm _ _

end Cert.OutIdeal.Prod

end
-- ==== Proof.Prod.DMerged.lean ====
module

public import proofs.«01_k».proof.Proof.Gen.DMergedIdeal.Value
public import proofs.«01_k».proof.Proof.Gen.DMergedRefIdeal.Read
public import Idealize.ShloMosaic.Lib.Pipeline.ValueKit
public import Idealize.ShloMosaic.Lib.Pointwise

@[expose] public section

set_option maxRecDepth 16384

noncomputable section

namespace Cert.DMergedIdeal.Prod

open Cert.DMergedIdeal Cert.DMergedIdeal.Gen Idealize.ShloMosaic Idealize.ShloMosaic.TcCoe Idealize.SL.Sem

/-- The gradient of the product's input: row `i 0` of the cotangent against row `i 1` of the weight. -/
def grad (w : S4096x4096.Idx → EReal) (ct : S4224x4096.Idx → EReal) : S4224x4096.Idx → EReal :=
  fun i => ∑ k : Fin 4096, ct (ix2 (i 0) k) * w (ix2 (i 1) k)

/-- What one grid point computes from its blocks. -/
theorem pay (x : Vec Ideal S1056x4096 .bf16) (y : Vec Ideal S1024x4096 .bf16) (j : S1056x1024.Idx) :
    k0_pay1 (F := Ideal) x y j = ∑ k : Fin 4096, x (ix2 (j 0) k) * y (ix2 (j 1) k) := by
  pointwise [k0_pay1]

/-- Where each input block lies, beside the output's. -/
theorem idx : ∀ t : Fin cfg0.N, win0_0.index t 0 = win0_2.index t 0 ∧ win0_0.index t 1 = 0
    ∧ win0_1.index t 0 = win0_2.index t 1 ∧ win0_1.index t 1 = 0 :=
  (by decide +kernel : ∀ t : Fin grid0.N, win0_0.index t 0 = win0_2.index t 0 ∧ win0_0.index t 1 = 0
    ∧ win0_1.index t 0 = win0_2.index t 1 ∧ win0_1.index t 1 = 0)

/-- The kernel's array after the run is that function of the arguments. -/
theorem final (m : (ℓ : Loc nD τ sig) → Buf (Elt Ideal) ℓ) (c : Dev nD) :
    (dats m 0 c).arrAt 2 cfg0.N
      = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  obtain ⟨e0, e1, e2, e3⟩ := idx t
  refine Fin.sum_fin_congr fun k => ?_
  congr 1 <;> blk_ext [iblk, V, e0, e1, e2, e3]

/-- The reference's result is the same function. -/
theorem ref (x0 : FVec Ideal Cert.DMergedRefIdeal.S4096x4096 .bf16) (x1 : FVec Ideal Cert.DMergedRefIdeal.S4224x4096 .bf16) :
    Cert.DMergedRefIdeal.Read.val_main_v5 (F := Ideal) x0 x1 = grad x0 x1 := by
  funext i
  pointwise [grad, Cert.DMergedRefIdeal.Read.val_main_cst, Cert.DMergedRefIdeal.Read.val_main_v0, Cert.DMergedRefIdeal.Read.val_main_v1, Cert.DMergedRefIdeal.Read.val_main_v2, Cert.DMergedRefIdeal.Read.val_main_v3, Cert.DMergedRefIdeal.Read.val_main_v4, Cert.DMergedRefIdeal.Read.val_main_v5]

end Cert.DMergedIdeal.Prod

end
-- ==== Proof.Prod.DwOut.lean ====
module

public import proofs.«01_k».proof.Proof.Gen.DwOutIdeal.Value
public import proofs.«01_k».proof.Proof.Gen.DwOutRefIdeal.Read
public import Idealize.ShloMosaic.Lib.Pipeline.ValueKit
public import Idealize.ShloMosaic.Lib.Pointwise

@[expose] public section

set_option maxRecDepth 16384

noncomputable section

namespace Cert.DwOutIdeal.Prod

open Cert.DwOutIdeal Cert.DwOutIdeal.Gen Idealize.ShloMosaic Idealize.ShloMosaic.TcCoe Idealize.SL.Sem

/-- The gradient of the product's weight: column `i 0` of the input against column `i 1` of the cotangent. -/
def grad (x : S4224x4096.Idx → EReal) (ct : S4224x4096.Idx → EReal) : S4096x4096.Idx → EReal :=
  fun i => ∑ k : Fin 4224, x (ix2 k (i 0)) * ct (ix2 k (i 1))

/-- What one grid point computes from its blocks. -/
theorem pay (x : Vec Ideal S4224x1024 .bf16) (y : Vec Ideal S4224x1024 .bf16) (j : S1024x1024.Idx) :
    k0_pay1 (F := Ideal) x y j = ∑ k : Fin 4224, x (ix2 k (j 0)) * y (ix2 k (j 1)) := by
  pointwise [k0_pay1]

/-- Where each input block lies, beside the output's. -/
theorem idx : ∀ t : Fin cfg0.N, win0_0.index t 1 = win0_2.index t 0 ∧ win0_0.index t 0 = 0
    ∧ win0_1.index t 1 = win0_2.index t 1 ∧ win0_1.index t 0 = 0 :=
  (by decide +kernel : ∀ t : Fin grid0.N, win0_0.index t 1 = win0_2.index t 0 ∧ win0_0.index t 0 = 0
    ∧ win0_1.index t 1 = win0_2.index t 1 ∧ win0_1.index t 0 = 0)

/-- The kernel's array after the run is that function of the arguments. -/
theorem final (m : (ℓ : Loc nD τ sig) → Buf (Elt Ideal) ℓ) (c : Dev nD) :
    (dats m 0 c).arrAt 2 cfg0.N
      = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  obtain ⟨e0, e1, e2, e3⟩ := idx t
  refine Fin.sum_fin_congr fun k => ?_
  congr 1 <;> blk_ext [iblk, V, e0, e1, e2, e3]

/-- The reference's result is the same function. -/
theorem ref (x0 : FVec Ideal Cert.DwOutRefIdeal.S4224x4096 .bf16) (x1 : FVec Ideal Cert.DwOutRefIdeal.S4224x4096 .bf16) :
    Cert.DwOutRefIdeal.Read.val_main_v6 (F := Ideal) x0 x1 = grad x0 x1 := by
  funext i
  pointwise [grad, Cert.DwOutRefIdeal.Read.val_main_cst, Cert.DwOutRefIdeal.Read.val_main_v0, Cert.DwOutRefIdeal.Read.val_main_v1, Cert.DwOutRefIdeal.Read.val_main_v2, Cert.DwOutRefIdeal.Read.val_main_v3, Cert.DwOutRefIdeal.Read.val_main_v4, Cert.DwOutRefIdeal.Read.val_main_v5, Cert.DwOutRefIdeal.Read.val_main_v6]
  exact Fin.sum_fin_congr fun k => mul_comm (_ : EReal) _

end Cert.DwOutIdeal.Prod

end
-- ==== Proof.Prod.DAttn.lean ====
module

public import proofs.«01_k».proof.Proof.Gen.DAttnIdeal.Value
public import proofs.«01_k».proof.Proof.Gen.DAttnRefIdeal.Read
public import Idealize.ShloMosaic.Lib.Pipeline.ValueKit
public import Idealize.ShloMosaic.Lib.Pointwise

@[expose] public section

set_option maxRecDepth 16384

noncomputable section

namespace Cert.DAttnIdeal.Prod

open Cert.DAttnIdeal Cert.DAttnIdeal.Gen Idealize.ShloMosaic Idealize.ShloMosaic.TcCoe Idealize.SL.Sem

/-- The gradient of the product's input: row `i 0` of the cotangent (its columns of this branch) against row `i 1` of the weight. -/
def grad (w : S2048x4096.Idx → EReal) (ct : S4224x8192.Idx → EReal) : S4224x2048.Idx → EReal :=
  fun i => ∑ k : Fin 4096, ct (ix2 (i 0) ⟨0 + k.val, by omega⟩) * w (ix2 (i 1) k)

/-- What one grid point computes from its blocks. -/
theorem pay (x : Vec Ideal S1056x4096 .bf16) (y : Vec Ideal S1024x4096 .bf16) (j : S1056x1024.Idx) :
    k0_pay1 (F := Ideal) x y j = ∑ k : Fin 4096, x (ix2 (j 0) k) * y (ix2 (j 1) k) := by
  pointwise [k0_pay1]

/-- Where each input block lies, beside the output's. -/
theorem idx : ∀ t : Fin cfg0.N, win0_0.index t 0 = win0_2.index t 0 ∧ win0_0.index t 1 = 0
    ∧ win0_1.index t 0 = win0_2.index t 1 ∧ win0_1.index t 1 = 0 :=
  (by decide +kernel : ∀ t : Fin grid0.N, win0_0.index t 0 = win0_2.index t 0 ∧ win0_0.index t 1 = 0
    ∧ win0_1.index t 0 = win0_2.index t 1 ∧ win0_1.index t 1 = 0)

/-- The kernel's array after the run is that function of the arguments. -/
theorem final (m : (ℓ : Loc nD τ sig) → Buf (Elt Ideal) ℓ) (c : Dev nD) :
    (dats m 0 c).arrAt 2 cfg0.N
      = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  obtain ⟨e0, e1, e2, e3⟩ := idx t
  refine Fin.sum_fin_congr fun k => ?_
  congr 1 <;> blk_ext [iblk, V, e0, e1, e2, e3]

/-- The reference's result is the same function. -/
theorem ref (x0 : FVec Ideal Cert.DAttnRefIdeal.S2048x4096 .bf16) (x1 : FVec Ideal Cert.DAttnRefIdeal.S4224x8192 .bf16) :
    Cert.DAttnRefIdeal.Read.val_main_v6 (F := Ideal) x0 x1 = grad x0 x1 := by
  funext i
  pointwise [grad, Cert.DAttnRefIdeal.Read.val_main_v0, Cert.DAttnRefIdeal.Read.val_main_cst, Cert.DAttnRefIdeal.Read.val_main_v1, Cert.DAttnRefIdeal.Read.val_main_v2, Cert.DAttnRefIdeal.Read.val_main_v3, Cert.DAttnRefIdeal.Read.val_main_v4, Cert.DAttnRefIdeal.Read.val_main_v5, Cert.DAttnRefIdeal.Read.val_main_v6]

end Cert.DAttnIdeal.Prod

end
-- ==== Proof.Prod.DwAttnO.lean ====
module

public import proofs.«01_k».proof.Proof.Gen.DwAttnOIdeal.Value
public import proofs.«01_k».proof.Proof.Gen.DwAttnORefIdeal.Read
public import Idealize.ShloMosaic.Lib.Pipeline.ValueKit
public import Idealize.ShloMosaic.Lib.Pointwise

@[expose] public section

set_option maxRecDepth 16384

noncomputable section

namespace Cert.DwAttnOIdeal.Prod

open Cert.DwAttnOIdeal Cert.DwAttnOIdeal.Gen Idealize.ShloMosaic Idealize.ShloMosaic.TcCoe Idealize.SL.Sem

/-- The gradient of the product's weight: column `i 0` of the input against column `i 1` of the cotangent (of this branch). -/
def grad (x : S4224x2048.Idx → EReal) (ct : S4224x8192.Idx → EReal) : S2048x4096.Idx → EReal :=
  fun i => ∑ k : Fin 4224, x (ix2 k (i 0)) * ct (ix2 k ⟨0 + (i 1).val, by have h : (i 1).val < 4096 := (i 1).isLt; omega⟩)

/-- What one grid point computes from its blocks. -/
theorem pay (x : Vec Ideal S4224x1024 .bf16) (y : Vec Ideal S4224x1024 .bf16) (j : S1024x1024.Idx) :
    k0_pay1 (F := Ideal) x y j = ∑ k : Fin 4224, x (ix2 k (j 0)) * y (ix2 k (j 1)) := by
  pointwise [k0_pay1]

/-- Where each input block lies, beside the output's. -/
theorem idx : ∀ t : Fin cfg0.N, win0_0.index t 1 = win0_2.index t 0 ∧ win0_0.index t 0 = 0
    ∧ win0_1.index t 1 = win0_2.index t 1 ∧ win0_1.index t 0 = 0 :=
  (by decide +kernel : ∀ t : Fin grid0.N, win0_0.index t 1 = win0_2.index t 0 ∧ win0_0.index t 0 = 0
    ∧ win0_1.index t 1 = win0_2.index t 1 ∧ win0_1.index t 0 = 0)

/-- The kernel's array after the run is that function of the arguments. -/
theorem final (m : (ℓ : Loc nD τ sig) → Buf (Elt Ideal) ℓ) (c : Dev nD) :
    (dats m 0 c).arrAt 2 cfg0.N
      = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  obtain ⟨e0, e1, e2, e3⟩ := idx t
  refine Fin.sum_fin_congr fun k => ?_
  congr 1 <;> blk_ext [iblk, V, e0, e1, e2, e3]

/-- The reference's result is the same function. -/
theorem ref (x0 : FVec Ideal Cert.DwAttnORefIdeal.S4224x2048 .bf16) (x1 : FVec Ideal Cert.DwAttnORefIdeal.S4224x8192 .bf16) :
    Cert.DwAttnORefIdeal.Read.val_main_v7 (F := Ideal) x0 x1 = grad x0 x1 := by
  funext i
  pointwise [grad, Cert.DwAttnORefIdeal.Read.val_main_v0, Cert.DwAttnORefIdeal.Read.val_main_cst, Cert.DwAttnORefIdeal.Read.val_main_v1, Cert.DwAttnORefIdeal.Read.val_main_v2, Cert.DwAttnORefIdeal.Read.val_main_v3, Cert.DwAttnORefIdeal.Read.val_main_v4, Cert.DwAttnORefIdeal.Read.val_main_v5, Cert.DwAttnORefIdeal.Read.val_main_v6, Cert.DwAttnORefIdeal.Read.val_main_v7]
  exact Fin.sum_fin_congr fun k => mul_comm _ _

end Cert.DwAttnOIdeal.Prod

end
-- ==== Proof.Prod.DConv.lean ====
module

public import proofs.«01_k».proof.Proof.Gen.DConvIdeal.Value
public import proofs.«01_k».proof.Proof.Gen.DConvRefIdeal.Read
public import Idealize.ShloMosaic.Lib.Pipeline.ValueKit
public import Idealize.ShloMosaic.Lib.Pointwise

@[expose] public section

set_option maxRecDepth 16384

noncomputable section

namespace Cert.DConvIdeal.Prod

open Cert.DConvIdeal Cert.DConvIdeal.Gen Idealize.ShloMosaic Idealize.ShloMosaic.TcCoe Idealize.SL.Sem

/-- The gradient of the product's input: row `i 0` of the cotangent (its columns of this branch) against row `i 1` of the weight. -/
def grad (w : S2048x4096.Idx → EReal) (ct : S4224x8192.Idx → EReal) : S4224x2048.Idx → EReal :=
  fun i => ∑ k : Fin 4096, ct (ix2 (i 0) ⟨4096 + k.val, by omega⟩) * w (ix2 (i 1) k)

/-- What one grid point computes from its blocks. -/
theorem pay (x : Vec Ideal S1056x4096 .bf16) (y : Vec Ideal S1024x4096 .bf16) (j : S1056x1024.Idx) :
    k0_pay1 (F := Ideal) x y j = ∑ k : Fin 4096, x (ix2 (j 0) k) * y (ix2 (j 1) k) := by
  pointwise [k0_pay1]

/-- Where each input block lies, beside the output's. -/
theorem idx : ∀ t : Fin cfg0.N, win0_0.index t 0 = win0_2.index t 0 ∧ win0_0.index t 1 = 1
    ∧ win0_1.index t 0 = win0_2.index t 1 ∧ win0_1.index t 1 = 0 :=
  (by decide +kernel : ∀ t : Fin grid0.N, win0_0.index t 0 = win0_2.index t 0 ∧ win0_0.index t 1 = 1
    ∧ win0_1.index t 0 = win0_2.index t 1 ∧ win0_1.index t 1 = 0)

/-- The kernel's array after the run is that function of the arguments. -/
theorem final (m : (ℓ : Loc nD τ sig) → Buf (Elt Ideal) ℓ) (c : Dev nD) :
    (dats m 0 c).arrAt 2 cfg0.N
      = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  obtain ⟨e0, e1, e2, e3⟩ := idx t
  refine Fin.sum_fin_congr fun k => ?_
  congr 1 <;> blk_ext [iblk, V, e0, e1, e2, e3]

/-- The reference's result is the same function. -/
theorem ref (x0 : FVec Ideal Cert.DConvRefIdeal.S2048x4096 .bf16) (x1 : FVec Ideal Cert.DConvRefIdeal.S4224x8192 .bf16) :
    Cert.DConvRefIdeal.Read.val_main_v6 (F := Ideal) x0 x1 = grad x0 x1 := by
  funext i
  pointwise [grad, Cert.DConvRefIdeal.Read.val_main_v0, Cert.DConvRefIdeal.Read.val_main_cst, Cert.DConvRefIdeal.Read.val_main_v1, Cert.DConvRefIdeal.Read.val_main_v2, Cert.DConvRefIdeal.Read.val_main_v3, Cert.DConvRefIdeal.Read.val_main_v4, Cert.DConvRefIdeal.Read.val_main_v5, Cert.DConvRefIdeal.Read.val_main_v6]

end Cert.DConvIdeal.Prod

end
-- ==== Proof.Prod.DwConvO.lean ====
module

public import proofs.«01_k».proof.Proof.Gen.DwConvOIdeal.Value
public import proofs.«01_k».proof.Proof.Gen.DwConvORefIdeal.Read
public import Idealize.ShloMosaic.Lib.Pipeline.ValueKit
public import Idealize.ShloMosaic.Lib.Pointwise

@[expose] public section

set_option maxRecDepth 16384

noncomputable section

namespace Cert.DwConvOIdeal.Prod

open Cert.DwConvOIdeal Cert.DwConvOIdeal.Gen Idealize.ShloMosaic Idealize.ShloMosaic.TcCoe Idealize.SL.Sem

/-- The gradient of the product's weight: column `i 0` of the input against column `i 1` of the cotangent (of this branch). -/
def grad (x : S4224x2048.Idx → EReal) (ct : S4224x8192.Idx → EReal) : S2048x4096.Idx → EReal :=
  fun i => ∑ k : Fin 4224, x (ix2 k (i 0)) * ct (ix2 k ⟨4096 + (i 1).val, by have h : (i 1).val < 4096 := (i 1).isLt; omega⟩)

/-- What one grid point computes from its blocks. -/
theorem pay (x : Vec Ideal S4224x1024 .bf16) (y : Vec Ideal S4224x1024 .bf16) (j : S1024x1024.Idx) :
    k0_pay1 (F := Ideal) x y j = ∑ k : Fin 4224, x (ix2 k (j 0)) * y (ix2 k (j 1)) := by
  pointwise [k0_pay1]

/-- Where each input block lies, beside the output's. -/
theorem idx : ∀ t : Fin cfg0.N, win0_0.index t 1 = win0_2.index t 0 ∧ win0_0.index t 0 = 0
    ∧ win0_1.index t 1 = 4 + win0_2.index t 1 ∧ win0_1.index t 0 = 0 :=
  (by decide +kernel : ∀ t : Fin grid0.N, win0_0.index t 1 = win0_2.index t 0 ∧ win0_0.index t 0 = 0
    ∧ win0_1.index t 1 = 4 + win0_2.index t 1 ∧ win0_1.index t 0 = 0)

/-- The kernel's array after the run is that function of the arguments. -/
theorem final (m : (ℓ : Loc nD τ sig) → Buf (Elt Ideal) ℓ) (c : Dev nD) :
    (dats m 0 c).arrAt 2 cfg0.N
      = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay]
  obtain ⟨e0, e1, e2, e3⟩ := idx t
  refine Fin.sum_fin_congr fun k => ?_
  congr 1 <;> blk_ext [iblk, V, e0, e1, e2, e3]

/-- The reference's result is the same function. -/
theorem ref (x0 : FVec Ideal Cert.DwConvORefIdeal.S4224x2048 .bf16) (x1 : FVec Ideal Cert.DwConvORefIdeal.S4224x8192 .bf16) :
    Cert.DwConvORefIdeal.Read.val_main_v7 (F := Ideal) x0 x1 = grad x0 x1 := by
  funext i
  pointwise [grad, Cert.DwConvORefIdeal.Read.val_main_v0, Cert.DwConvORefIdeal.Read.val_main_cst, Cert.DwConvORefIdeal.Read.val_main_v1, Cert.DwConvORefIdeal.Read.val_main_v2, Cert.DwConvORefIdeal.Read.val_main_v3, Cert.DwConvORefIdeal.Read.val_main_v4, Cert.DwConvORefIdeal.Read.val_main_v5, Cert.DwConvORefIdeal.Read.val_main_v6, Cert.DwConvORefIdeal.Read.val_main_v7]
  exact Fin.sum_fin_congr fun k => mul_comm _ _

end Cert.DwConvOIdeal.Prod

end
-- ==== Proof.Prod.Claims2.lean ====
module

public import proofs.«01_k».proof.Defs
public import proofs.«01_k».proof.Proof.Prod.In
public import proofs.«01_k».proof.Proof.Prod.GateUp
public import proofs.«01_k».proof.Proof.Prod.Down
public import proofs.«01_k».proof.Proof.Prod.Out
public import proofs.«01_k».proof.Proof.Prod.DMerged
public import proofs.«01_k».proof.Proof.Prod.DwOut
public import proofs.«01_k».proof.Proof.Prod.DAttn
public import proofs.«01_k».proof.Proof.Prod.DwAttnO
public import proofs.«01_k».proof.Proof.Prod.DConv
public import proofs.«01_k».proof.Proof.Prod.DwConvO

@[expose] public section

set_option maxRecDepth 16384

noncomputable section

namespace Cert.Prod.Claims2

open Idealize.ShloMosaic Idealize.ShloMosaic.TcCoe Idealize.SL.Sem

/-- The input projection. -/
theorem eqIn : Cert.algebraic_InIdeal_InRefIdeal := fun m g m' g' _ h =>
  ⟨fun c => Cert.InIdeal.Prod.out (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)),
    (θ_run Cert.InIdeal.defs _ _).mono (fun _ hr c => ⟨(hr c).1.trans (Cert.InIdeal.Prod.final m c), (hr c).2⟩)
      (Cert.InIdeal.Value.run_blocks m g),
    (θ_run Cert.InRefIdeal.defs _ _).mono (fun _ hr c => ⟨(hr c).1.trans ((Cert.InIdeal.Prod.ref _ _ _).trans (by rw [(h c).1, (h c).2.1, (h c).2.2])), (hr c).2⟩)
      (Cert.InRefIdeal.Value.run m' g')⟩

/-- The projection to the gate and up halves. -/
theorem eqGateUp : Cert.algebraic_GateUpIdeal_GateUpRefIdeal := fun m g m' g' _ h =>
  ⟨fun c => Cert.GateUpIdeal.Prod.out (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)),
    (θ_run Cert.GateUpIdeal.defs _ _).mono (fun _ hr c => ⟨(hr c).1.trans (Cert.GateUpIdeal.Prod.final m c), (hr c).2⟩)
      (Cert.GateUpIdeal.Value.run_blocks m g),
    (θ_run Cert.GateUpRefIdeal.defs _ _).mono (fun _ hr c => ⟨(hr c).1.trans ((Cert.GateUpIdeal.Prod.ref _ _).trans (by rw [(h c).1, (h c).2])), (hr c).2⟩)
      (Cert.GateUpRefIdeal.Value.run m' g')⟩

/-- The down projection, added to the hidden states. -/
theorem eqDown : Cert.algebraic_DownIdeal_DownRefIdeal := fun m g m' g' _ h =>
  ⟨fun c => Cert.DownIdeal.Prod.out (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)),
    (θ_run Cert.DownIdeal.defs _ _).mono (fun _ hr c => ⟨(hr c).1.trans (Cert.DownIdeal.Prod.final m c), (hr c).2⟩)
      (Cert.DownIdeal.Value.run_blocks m g),
    (θ_run Cert.DownRefIdeal.defs _ _).mono (fun _ hr c => ⟨(hr c).1.trans ((Cert.DownIdeal.Prod.ref _ _ _).trans (by rw [(h c).1, (h c).2.1, (h c).2.2])), (hr c).2⟩)
      (Cert.DownRefIdeal.Value.run m' g')⟩

/-- The output projection, added to the hidden states. -/
theorem eqOut : Cert.algebraic_OutIdeal_OutRefIdeal := fun m g m' g' _ h =>
  ⟨fun c => Cert.OutIdeal.Prod.out (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)),
    (θ_run Cert.OutIdeal.defs _ _).mono (fun _ hr c => ⟨(hr c).1.trans (Cert.OutIdeal.Prod.final m c), (hr c).2⟩)
      (Cert.OutIdeal.Value.run_blocks m g),
    (θ_run Cert.OutRefIdeal.defs _ _).mono (fun _ hr c => ⟨(hr c).1.trans ((Cert.OutIdeal.Prod.ref _ _ _).trans (by rw [(h c).1, (h c).2.1, (h c).2.2])), (hr c).2⟩)
      (Cert.OutRefIdeal.Value.run m' g')⟩

/-- The gradient of the output projection's input. -/
theorem eqDMerged : Cert.algebraic_DMergedIdeal_DMergedRefIdeal := fun m g m' g' _ h =>
  ⟨fun c => Cert.DMergedIdeal.Prod.grad (m ((c.tc : Thread Cert.DMergedIdeal.nD Cert.DMergedIdeal.τ).loc Cert.DMergedIdeal.main_arg0)) (m ((c.tc : Thread Cert.DMergedIdeal.nD Cert.DMergedIdeal.τ).loc Cert.DMergedIdeal.main_arg1)),
    (θ_run Cert.DMergedIdeal.defs _ _).mono (fun _ hr c => ⟨(hr c).1.trans (Cert.DMergedIdeal.Prod.final m c), (hr c).2⟩)
      (Cert.DMergedIdeal.Value.run_blocks m g),
    (θ_run Cert.DMergedRefIdeal.defs _ _).mono (fun _ hr c => ⟨(hr c).1.trans ((Cert.DMergedIdeal.Prod.ref _ _).trans (by rw [(h c).1, (h c).2])), (hr c).2⟩)
      (Cert.DMergedRefIdeal.Value.run m' g')⟩

/-- The gradient of the output projection's weight. -/
theorem eqDwOut : Cert.algebraic_DwOutIdeal_DwOutRefIdeal := fun m g m' g' _ h =>
  ⟨fun c => Cert.DwOutIdeal.Prod.grad (m ((c.tc : Thread Cert.DwOutIdeal.nD Cert.DwOutIdeal.τ).loc Cert.DwOutIdeal.main_arg0)) (m ((c.tc : Thread Cert.DwOutIdeal.nD Cert.DwOutIdeal.τ).loc Cert.DwOutIdeal.main_arg1)),
    (θ_run Cert.DwOutIdeal.defs _ _).mono (fun _ hr c => ⟨(hr c).1.trans (Cert.DwOutIdeal.Prod.final m c), (hr c).2⟩)
      (Cert.DwOutIdeal.Value.run_blocks m g),
    (θ_run Cert.DwOutRefIdeal.defs _ _).mono (fun _ hr c => ⟨(hr c).1.trans ((Cert.DwOutIdeal.Prod.ref _ _).trans (by rw [(h c).1, (h c).2])), (hr c).2⟩)
      (Cert.DwOutRefIdeal.Value.run m' g')⟩

/-- The gradient of the attention's output. -/
theorem eqDAttn : Cert.algebraic_DAttnIdeal_DAttnRefIdeal := fun m g m' g' _ h =>
  ⟨fun c => Cert.DAttnIdeal.Prod.grad (m ((c.tc : Thread Cert.DAttnIdeal.nD Cert.DAttnIdeal.τ).loc Cert.DAttnIdeal.main_arg0)) (m ((c.tc : Thread Cert.DAttnIdeal.nD Cert.DAttnIdeal.τ).loc Cert.DAttnIdeal.main_arg1)),
    (θ_run Cert.DAttnIdeal.defs _ _).mono (fun _ hr c => ⟨(hr c).1.trans (Cert.DAttnIdeal.Prod.final m c), (hr c).2⟩)
      (Cert.DAttnIdeal.Value.run_blocks m g),
    (θ_run Cert.DAttnRefIdeal.defs _ _).mono (fun _ hr c => ⟨(hr c).1.trans ((Cert.DAttnIdeal.Prod.ref _ _).trans (by rw [(h c).1, (h c).2])), (hr c).2⟩)
      (Cert.DAttnRefIdeal.Value.run m' g')⟩

/-- The gradient of the attention projection's weight. -/
theorem eqDwAttnO : Cert.algebraic_DwAttnOIdeal_DwAttnORefIdeal := fun m g m' g' _ h =>
  ⟨fun c => Cert.DwAttnOIdeal.Prod.grad (m ((c.tc : Thread Cert.DwAttnOIdeal.nD Cert.DwAttnOIdeal.τ).loc Cert.DwAttnOIdeal.main_arg0)) (m ((c.tc : Thread Cert.DwAttnOIdeal.nD Cert.DwAttnOIdeal.τ).loc Cert.DwAttnOIdeal.main_arg1)),
    (θ_run Cert.DwAttnOIdeal.defs _ _).mono (fun _ hr c => ⟨(hr c).1.trans (Cert.DwAttnOIdeal.Prod.final m c), (hr c).2⟩)
      (Cert.DwAttnOIdeal.Value.run_blocks m g),
    (θ_run Cert.DwAttnORefIdeal.defs _ _).mono (fun _ hr c => ⟨(hr c).1.trans ((Cert.DwAttnOIdeal.Prod.ref _ _).trans (by rw [(h c).1, (h c).2])), (hr c).2⟩)
      (Cert.DwAttnORefIdeal.Value.run m' g')⟩

/-- The gradient of the convolution branch's output. -/
theorem eqDConv : Cert.algebraic_DConvIdeal_DConvRefIdeal := fun m g m' g' _ h =>
  ⟨fun c => Cert.DConvIdeal.Prod.grad (m ((c.tc : Thread Cert.DConvIdeal.nD Cert.DConvIdeal.τ).loc Cert.DConvIdeal.main_arg0)) (m ((c.tc : Thread Cert.DConvIdeal.nD Cert.DConvIdeal.τ).loc Cert.DConvIdeal.main_arg1)),
    (θ_run Cert.DConvIdeal.defs _ _).mono (fun _ hr c => ⟨(hr c).1.trans (Cert.DConvIdeal.Prod.final m c), (hr c).2⟩)
      (Cert.DConvIdeal.Value.run_blocks m g),
    (θ_run Cert.DConvRefIdeal.defs _ _).mono (fun _ hr c => ⟨(hr c).1.trans ((Cert.DConvIdeal.Prod.ref _ _).trans (by rw [(h c).1, (h c).2])), (hr c).2⟩)
      (Cert.DConvRefIdeal.Value.run m' g')⟩

/-- The gradient of the convolution projection's weight. -/
theorem eqDwConvO : Cert.algebraic_DwConvOIdeal_DwConvORefIdeal := fun m g m' g' _ h =>
  ⟨fun c => Cert.DwConvOIdeal.Prod.grad (m ((c.tc : Thread Cert.DwConvOIdeal.nD Cert.DwConvOIdeal.τ).loc Cert.DwConvOIdeal.main_arg0)) (m ((c.tc : Thread Cert.DwConvOIdeal.nD Cert.DwConvOIdeal.τ).loc Cert.DwConvOIdeal.main_arg1)),
    (θ_run Cert.DwConvOIdeal.defs _ _).mono (fun _ hr c => ⟨(hr c).1.trans (Cert.DwConvOIdeal.Prod.final m c), (hr c).2⟩)
      (Cert.DwConvOIdeal.Value.run_blocks m g),
    (θ_run Cert.DwConvORefIdeal.defs _ _).mono (fun _ hr c => ⟨(hr c).1.trans ((Cert.DwConvOIdeal.Prod.ref _ _).trans (by rw [(h c).1, (h c).2])), (hr c).2⟩)
      (Cert.DwConvORefIdeal.Value.run m' g')⟩

end Cert.Prod.Claims2

end
-- ==== Proof.Prod.AttnO.lean ====
module

public import proofs.«01_k».proof.Proof.Gen.AttnOIdeal.Value
public import proofs.«01_k».proof.Proof.Gen.AttnORefIdeal.Read
public import Idealize.ShloMosaic.Lib.Pipeline.ValueKit
public import Idealize.ShloMosaic.Lib.Pointwise

/-! The product that fills one half of the branches' array. -/

@[expose] public section

set_option maxRecDepth 16384

noncomputable section

namespace Cert.AttnOIdeal.Prod

open Cert.AttnOIdeal Cert.AttnOIdeal.Gen Idealize.ShloMosaic Idealize.ShloMosaic.TcCoe Idealize.SL.Sem
open Idealize.ShloMosaic.Pointwise

/-- The product, with the column counted in its own half. -/
def written (x : S4224x2048.Idx → EReal) (w : S2048x4096.Idx → EReal) : S4224x8192.Idx → EReal := fun i =>
  (∑ k : Fin 2048, x (ix2 (i 0) k) * w (ix2 k ⟨(i 1).val % 4096, Nat.mod_lt _ (by omega)⟩))

/-- The first half of the branches is written, the other stays. -/
def out (x : S4224x2048.Idx → EReal) (w : S2048x4096.Idx → EReal) (ab : S4224x8192.Idx → EReal) : S4224x8192.Idx → EReal := fun i =>
  if (i 1).val / 1024 < 4 then written x w i else ab i

/-- What one grid point computes from its blocks. -/
theorem pay (x : Vec Ideal S2112x2048 .bf16) (y : Vec Ideal S2048x1024 .bf16) (j : S2112x1024.Idx) :
    k0_pay1 (F := Ideal) x y j = (∑ k : Fin 2048, x (ix2 (j 0) k) * y (ix2 k (j 1))) := by
  pointwise [k0_pay1]

/-- Where each input block lies, beside the output's. -/
theorem idx : ∀ t : Fin cfg0.N, win0_0.index t 0 = win0_2.index t 0 ∧ win0_0.index t 1 = 0
    ∧ win0_1.index t 0 = 0 ∧ win0_1.index t 1 = win0_2.index t 1 % 4 :=
  (by decide +kernel : ∀ t : Fin grid0.N, win0_0.index t 0 = win0_2.index t 0 ∧ win0_0.index t 1 = 0
    ∧ win0_1.index t 0 = 0 ∧ win0_1.index t 1 = win0_2.index t 1 % 4)

/-- What a grid point writes. -/
theorem point (m : (ℓ : Loc nD τ sig) → Buf (Elt Ideal) ℓ) (c : Dev nD) (t : Fin cfg0.N) (y : ((cfg0.win 2).xblock (cfg0.grid.coords t)).Idx) (e : S4224x8192.Idx)
    (k0 : (e 0).val = win0_2.index t 0 * 2112 + (y 0).val) (k1 : (e 1).val = win0_2.index t 1 * 1024 + (y 1).val) :
    (dats m 0 c).after 2 t y = written (m ((c : Thread nD τ).loc main_arg0)) (m ((c : Thread nD τ).loc main_arg1)) e := by
  have hy : (y 1).val < 1024 := (y 1).isLt
  obtain ⟨e0, e1, e2, e3⟩ := idx t
  have hk : (e 1).val % 4096 = win0_2.index t 1 % 4 * 1024 + (y 1).val := by omega
  rw [after0_2]
  unfold outsAt0
  frame_out
  rw [pay]
  unfold written
  skip
  refine Fin.sum_fin_congr fun k => ?_
  congr 1
  · blk_ext [iblk, V, e0, e1, e2, e3, k0]
  · blk_ext [iblk, V, e0, e1, e2, e3, hk]

/-- The kernel's array after the run. -/
theorem final (m : (ℓ : Loc nD τ sig) → Buf (Elt Ideal) ℓ) (c : Dev nD) :
    (dats m 0 c).arrAt 2 cfg0.N = out (m ((c : Thread nD τ).loc main_arg0)) (m ((c : Thread nD τ).loc main_arg1)) (m ((c : Thread nD τ).loc main_arg2)) := by
  refine ((dats m 0 c).arrAt_eq_of_coversWhere 2 (written (m ((c : Thread nD τ).loc main_arg0)) (m ((c : Thread nD τ).loc main_arg1))) (P := fun i => (i 1).val / 1024 < 4)
      (fun β => β (1 : Fin _) < 4) (by decide +kernel) (fun t hf y => ?_) (fun j => Iff.rfl)).trans ?_
  · blk_simp
    refine point m c t y _ ?_ ?_
    · blk_simp
    · blk_simp
  · funext i
    unfold out
    rw [A_eq]
    congr 1

/-- The reference's result is the same function. -/
theorem ref (x0 : FVec Ideal Cert.AttnORefIdeal.S4224x2048 .bf16) (x1 : FVec Ideal Cert.AttnORefIdeal.S2048x4096 .bf16) (x2 : FVec Ideal Cert.AttnORefIdeal.S4224x8192 .bf16) :
    Cert.AttnORefIdeal.Read.val_main_v5 (F := Ideal) x0 x1 x2 = out x0 x1 x2 := by
  funext i
  have hi : (i 1).val < 8192 := (i 1).isLt
  pointwise [out, written, Cert.AttnORefIdeal.Read.val_main_v0, Cert.AttnORefIdeal.Read.val_main_v1, Cert.AttnORefIdeal.Read.val_main_v2, Cert.AttnORefIdeal.Read.val_main_v3, Cert.AttnORefIdeal.Read.val_main_v4, Cert.AttnORefIdeal.Read.val_main_v5]
  by_cases h : (i 1).val < 4096
  · have h2 : (i 1).val / 1024 < 4 := by omega
    have e : (i 1).val % 4096 = (i 1).val := Nat.mod_eq_of_lt h
    rw [dif_pos h, if_pos h2]
    simp only [e]
  · have h2 : ¬ (i 1).val / 1024 < 4 := by omega
    rw [dif_neg h, if_neg h2]
    have e : 4096 + ((i 1).val - 4096) = (i 1).val := by omega
    have hx : ∀ h, x2 (ix2 (i 0) ⟨(i 1).val, h⟩) = x2 i := fun _ => congrArg x2 (eq_ix2 i).symm
    simp only [e, hx]

end Cert.AttnOIdeal.Prod

end
-- ==== Proof.Prod.ConvO.lean ====
module

public import proofs.«01_k».proof.Proof.Gen.ConvOIdeal.Value
public import proofs.«01_k».proof.Proof.Gen.ConvORefIdeal.Read
public import Idealize.ShloMosaic.Lib.Pipeline.ValueKit
public import Idealize.ShloMosaic.Lib.Pointwise

/-! The product that fills one half of the branches' array. -/

@[expose] public section

set_option maxRecDepth 16384

noncomputable section

namespace Cert.ConvOIdeal.Prod

open Cert.ConvOIdeal Cert.ConvOIdeal.Gen Idealize.ShloMosaic Idealize.ShloMosaic.TcCoe Idealize.SL.Sem
open Idealize.ShloMosaic.Pointwise

/-- The product, with the column counted in its own half and with the bias. -/
def written (x : S4224x2048.Idx → EReal) (w : S2048x4096.Idx → EReal) (b : S1x4096.Idx → EReal) : S4224x8192.Idx → EReal := fun i =>
  (∑ k : Fin 2048, x (ix2 (i 0) k) * w (ix2 k ⟨(i 1).val % 4096, Nat.mod_lt _ (by omega)⟩)) + b (ix2 0 ⟨(i 1).val % 4096, Nat.mod_lt _ (by omega)⟩)

/-- The second half of the branches is written, the other stays. -/
def out (x : S4224x2048.Idx → EReal) (w : S2048x4096.Idx → EReal) (b : S1x4096.Idx → EReal) (ab : S4224x8192.Idx → EReal) : S4224x8192.Idx → EReal := fun i =>
  if 4 ≤ (i 1).val / 1024 then written x w b i else ab i

/-- What one grid point computes from its blocks. -/
theorem pay (x : Vec Ideal S2112x2048 .bf16) (y : Vec Ideal S2048x1024 .bf16) (z : Vec Ideal S1x1024 .f32) (j : S2112x1024.Idx) :
    k0_pay1 (F := Ideal) x y z j = (∑ k : Fin 2048, x (ix2 (j 0) k) * y (ix2 k (j 1))) + z (ix2 0 (j 1)) := by
  pointwise [k0_pay1]

/-- Where each input block lies, beside the output's. -/
theorem idx : ∀ t : Fin cfg0.N, win0_0.index t 0 = win0_3.index t 0 ∧ win0_0.index t 1 = 0
    ∧ win0_1.index t 0 = 0 ∧ win0_1.index t 1 = win0_3.index t 1 % 4
    ∧ win0_2.index t 0 = 0 ∧ win0_2.index t 1 = win0_3.index t 1 % 4 :=
  (by decide +kernel : ∀ t : Fin grid0.N, win0_0.index t 0 = win0_3.index t 0 ∧ win0_0.index t 1 = 0
    ∧ win0_1.index t 0 = 0 ∧ win0_1.index t 1 = win0_3.index t 1 % 4
    ∧ win0_2.index t 0 = 0 ∧ win0_2.index t 1 = win0_3.index t 1 % 4)

/-- What a grid point writes. -/
theorem point (m : (ℓ : Loc nD τ sig) → Buf (Elt Ideal) ℓ) (c : Dev nD) (t : Fin cfg0.N) (y : ((cfg0.win 3).xblock (cfg0.grid.coords t)).Idx) (e : S4224x8192.Idx)
    (k0 : (e 0).val = win0_3.index t 0 * 2112 + (y 0).val) (k1 : (e 1).val = win0_3.index t 1 * 1024 + (y 1).val) :
    (dats m 0 c).after 3 t y = written (m ((c : Thread nD τ).loc main_arg0)) (m ((c : Thread nD τ).loc main_arg1)) (m ((c : Thread nD τ).loc main_arg2)) e := by
  have hy : (y 1).val < 1024 := (y 1).isLt
  obtain ⟨e0, e1, e2, e3, e4, e5⟩ := idx t
  have hk : (e 1).val % 4096 = win0_3.index t 1 % 4 * 1024 + (y 1).val := by omega
  rw [after0_3]
  unfold outsAt0
  frame_out
  rw [pay]
  unfold written
  congr 1
  · refine Fin.sum_fin_congr fun k => ?_
    congr 1
    · blk_ext [iblk, V, e0, e1, e2, e3, e4, e5, k0]
    · blk_ext [iblk, V, e0, e1, e2, e3, e4, e5, hk]
  · blk_ext [iblk, V, e0, e1, e2, e3, e4, e5, hk]

/-- The kernel's array after the run. -/
theorem final (m : (ℓ : Loc nD τ sig) → Buf (Elt Ideal) ℓ) (c : Dev nD) :
    (dats m 0 c).arrAt 3 cfg0.N = out (m ((c : Thread nD τ).loc main_arg0)) (m ((c : Thread nD τ).loc main_arg1)) (m ((c : Thread nD τ).loc main_arg2)) (m ((c : Thread nD τ).loc main_arg3)) := by
  refine ((dats m 0 c).arrAt_eq_of_coversWhere 3 (written (m ((c : Thread nD τ).loc main_arg0)) (m ((c : Thread nD τ).loc main_arg1)) (m ((c : Thread nD τ).loc main_arg2))) (P := fun i => 4 ≤ (i 1).val / 1024)
      (fun β => 4 ≤ β (1 : Fin _)) (by decide +kernel) (fun t hf y => ?_) (fun j => Iff.rfl)).trans ?_
  · blk_simp
    refine point m c t y _ ?_ ?_
    · blk_simp
    · blk_simp
  · funext i
    unfold out
    rw [A_eq]
    congr 1

/-- The reference's result is the same function. -/
theorem ref (x0 : FVec Ideal Cert.ConvORefIdeal.S4224x2048 .bf16) (x1 : FVec Ideal Cert.ConvORefIdeal.S2048x4096 .bf16) (x2 : FVec Ideal Cert.ConvORefIdeal.S1x4096 .f32) (x3 : FVec Ideal Cert.ConvORefIdeal.S4224x8192 .bf16) :
    Cert.ConvORefIdeal.Read.val_main_v7 (F := Ideal) x0 x1 x2 x3 = out x0 x1 x2 x3 := by
  funext i
  have hi : (i 1).val < 8192 := (i 1).isLt
  pointwise [out, written, Cert.ConvORefIdeal.Read.val_main_v0, Cert.ConvORefIdeal.Read.val_main_v1, Cert.ConvORefIdeal.Read.val_main_v2, Cert.ConvORefIdeal.Read.val_main_v3, Cert.ConvORefIdeal.Read.val_main_v4, Cert.ConvORefIdeal.Read.val_main_v5, Cert.ConvORefIdeal.Read.val_main_v6, Cert.ConvORefIdeal.Read.val_main_v7]
  by_cases h : (i 1).val < 4096
  · have h2 : ¬ 4 ≤ (i 1).val / 1024 := by omega
    rw [dif_pos h, if_neg h2]
  · have h2 : 4 ≤ (i 1).val / 1024 := by omega
    have e : (i 1).val % 4096 = (i 1).val - 4096 := by omega
    rw [dif_neg h, if_pos h2]
    simp only [e]

end Cert.ConvOIdeal.Prod

end
-- ==== Proof.Prod.ColIn.lean ====
module

public import proofs.«01_k».proof.Proof.Gen.ColInIdeal.Value
public import proofs.«01_k».proof.Proof.Gen.ColInRefIdeal.Read
public import Idealize.ShloMosaic.Lib.Pipeline.ValueKit
public import Idealize.ShloMosaic.Lib.Pointwise

/-! The gradient of the inner product's bias. -/

@[expose] public section

set_option maxRecDepth 16384

noncomputable section

namespace Cert.ColInIdeal.Prod

open Cert.ColInIdeal Cert.ColInIdeal.Gen Idealize.ShloMosaic Idealize.ShloMosaic.TcCoe Idealize.SL.Sem
open Idealize.ShloMosaic.Pointwise

/-- The sum over all rows. -/
def out (x : S4224x14848.Idx → EReal) : S1x14848.Idx → EReal := fun i => ∑ k : Fin 4224, x (ix2 k (i 1))

/-- A block's sum over its rows. -/
theorem pay1 (x : Vec Ideal S384x512 .bf16) (j : S1x512.Idx) :
    k0_pay1 (F := Ideal) x j = ∑ k : Fin 384, x (ix2 k (j 1)) := by
  pointwise [k0_pay1]

/-- The running sum. -/
theorem pay2 (x : Vec Ideal S384x512 .bf16) (s : Vec Ideal S1x512 .f32) (j : S1x512.Idx) :
    k0_pay2 (F := Ideal) x s j = s j + k0_pay1 x j := by
  pointwise [k0_pay2]

/-- Where the blocks lie. -/
theorem idx : ∀ t : Fin cfg0.N, win0_0.index t 0 = t.val % 11 ∧ win0_0.index t 1 = win0_1.index t 1 ∧ win0_1.index t 0 = 0 ∧ win0_1.index t 1 = t.val / 11 :=
  (by decide +kernel : ∀ t : Fin grid0.N, win0_0.index t 0 = t.val % 11 ∧ win0_0.index t 1 = win0_1.index t 1 ∧ win0_1.index t 0 = 0 ∧ win0_1.index t 1 = t.val / 11)

variable (m : (ℓ : Loc nD τ sig) → Buf (Elt Ideal) ℓ)

/-- A block's part of the sum. -/
def part (c : Dev nD) (t : Fin cfg0.N) : Vec Ideal S1x512 .f32 := k0_pay1 (F := Ideal) (iblk m c 0 t)

/-- The first row block starts the sum. -/
theorem first (c : Dev nD) (t : Fin cfg0.N) (h : t.val % 11 = 0) (y : S1x512.Idx) :
    outsAt0 m c t.val t.isLt y = 0 + part m c t y := by
  rw [outsAt0_A m c t h (by omega)]
  frame_out
  exact (zero_add _).symm

/-- A later row block adds to it. -/
theorem step (c : Dev nD) (t : Fin cfg0.N) (h : ¬t.val % 11 = 0) (y : S1x512.Idx) :
    outsAt0 m c t.val t.isLt y = outsAt0 m c (t.val - 1) (by omega) y + part m c t y := by
  rw [outsAt0_B m c t h (by omega)]
  frame_out
  exact pay2 _ _ y

/-- What a run of row blocks leaves. -/
theorem run (c : Dev nD) (t : Fin cfg0.N) (ht : t.val % 11 = 10) (j : S1x512.Idx) :
    outsAt0 m c t.val t.isLt j
      = ∑ s : Fin 11, part m c ⟨11 * (t.val / 11) + s.val, Pipeline.run_point_lt_of_flush t ht s⟩ j := by
  rw [Pipeline.eq_sum_fin_of_reset_step_apply_of_flush (M := EReal) (fun n h => outsAt0 m c n h) 11 (fun _ => 0)
    (fun t => part m c t) ?_ ?_ t ht j]
  · exact zero_add _
  · exact fun t h i => first m c t h i
  · exact fun t h i => step m c t h i

/-- The sums of a run are the sum over all rows. -/
theorem sum (c : Dev nD) (t : Fin cfg0.N) (ht : t.val % 11 = 10) (y : S1x512.Idx) (e : S1x14848.Idx)
    (h1 : (e 1).val = t.val / 11 * 512 + (y 1).val) :
    outsAt0 m c t.val t.isLt y = out (m ((c : Thread nD τ).loc main_arg0)) e := by
  rw [run m c t ht y]
  unfold part out
  simp only [pay1]
  refine Fin.sum_mul_add_congr (fun s k hl => ?_) rfl
  obtain ⟨i0, i1, -, i3⟩ := idx ⟨11 * (t.val / 11) + s.val, Pipeline.run_point_lt_of_flush t ht s⟩
  have j0 : (11 * (t.val / 11) + s.val) % 11 = s.val := by omega
  have j1 : (11 * (t.val / 11) + s.val) / 11 = t.val / 11 := by omega
  rw [i3] at i1
  simp only [j0, j1] at i0 i1
  blk_ext [iblk, V, i0, i1, h1]

/-- The kernel's array after the run. -/
theorem final (m : (ℓ : Loc nD τ sig) → Buf (Elt Ideal) ℓ) (c : Dev nD) : (dats m 0 c).arrAt 1 cfg0.N = out (m ((c : Thread nD τ).loc main_arg0)) := by
  refine (dats m 0 c).arrAt_eq_of_covers 1 _ (by decide +kernel) fun t hf y => ?_
  have ht := (flush0_1 t).mp hf
  obtain ⟨-, -, -, g1⟩ := idx t
  blk_simp
  rw [after0_1]
  refine sum m c t ht y _ ?_
  blk_simp [g1]

/-- The reference's result is the same function. -/
theorem ref (x : FVec Ideal Cert.ColInRefIdeal.S4224x14848 .bf16) :
    Cert.ColInRefIdeal.Read.val_main_v6 (F := Ideal) x = out x := by
  funext i
  pointwise [out, Cert.ColInRefIdeal.Read.val_main_cst, Cert.ColInRefIdeal.Read.val_main_v0, Cert.ColInRefIdeal.Read.val_main_cst_0, Cert.ColInRefIdeal.Read.val_main_v1, Cert.ColInRefIdeal.Read.val_main_v2, Cert.ColInRefIdeal.Read.val_main_v3, Cert.ColInRefIdeal.Read.val_main_v4, Cert.ColInRefIdeal.Read.val_main_cst_1, Cert.ColInRefIdeal.Read.val_main_v5, Cert.ColInRefIdeal.Read.val_main_v6]

end Cert.ColInIdeal.Prod

end
-- ==== Proof.Prod.ColO.lean ====
module

public import proofs.«01_k».proof.Proof.Gen.ColOIdeal.Value
public import proofs.«01_k».proof.Proof.Gen.ColORefIdeal.Read
public import Idealize.ShloMosaic.Lib.Pipeline.ValueKit
public import Idealize.ShloMosaic.Lib.Pointwise

/-! The gradient of the convolution branch's bias. -/

@[expose] public section

set_option maxRecDepth 16384

noncomputable section

namespace Cert.ColOIdeal.Prod

open Cert.ColOIdeal Cert.ColOIdeal.Gen Idealize.ShloMosaic Idealize.ShloMosaic.TcCoe Idealize.SL.Sem
open Idealize.ShloMosaic.Pointwise

/-- The sum over all rows. -/
def out (x : S4224x8192.Idx → EReal) : S1x4096.Idx → EReal := fun i => ∑ k : Fin 4224, x (ix2 k (⟨4096 + (i 1).val, by have := (i 1).isLt; change _ < 4096 at this; omega⟩))

/-- A block's sum over its rows. -/
theorem pay1 (x : Vec Ideal S384x512 .bf16) (j : S1x512.Idx) :
    k0_pay1 (F := Ideal) x j = ∑ k : Fin 384, x (ix2 k (j 1)) := by
  pointwise [k0_pay1]

/-- The running sum. -/
theorem pay2 (x : Vec Ideal S384x512 .bf16) (s : Vec Ideal S1x512 .f32) (j : S1x512.Idx) :
    k0_pay2 (F := Ideal) x s j = s j + k0_pay1 x j := by
  pointwise [k0_pay2]

/-- Where the blocks lie. -/
theorem idx : ∀ t : Fin cfg0.N, win0_0.index t 0 = t.val % 11 ∧ win0_0.index t 1 = 8 + win0_1.index t 1 ∧ win0_1.index t 0 = 0 ∧ win0_1.index t 1 = t.val / 11 :=
  (by decide +kernel : ∀ t : Fin grid0.N, win0_0.index t 0 = t.val % 11 ∧ win0_0.index t 1 = 8 + win0_1.index t 1 ∧ win0_1.index t 0 = 0 ∧ win0_1.index t 1 = t.val / 11)

variable (m : (ℓ : Loc nD τ sig) → Buf (Elt Ideal) ℓ)

/-- A block's part of the sum. -/
def part (c : Dev nD) (t : Fin cfg0.N) : Vec Ideal S1x512 .f32 := k0_pay1 (F := Ideal) (iblk m c 0 t)

/-- The first row block starts the sum. -/
theorem first (c : Dev nD) (t : Fin cfg0.N) (h : t.val % 11 = 0) (y : S1x512.Idx) :
    outsAt0 m c t.val t.isLt y = 0 + part m c t y := by
  rw [outsAt0_A m c t h (by omega)]
  frame_out
  exact (zero_add _).symm

/-- A later row block adds to it. -/
theorem step (c : Dev nD) (t : Fin cfg0.N) (h : ¬t.val % 11 = 0) (y : S1x512.Idx) :
    outsAt0 m c t.val t.isLt y = outsAt0 m c (t.val - 1) (by omega) y + part m c t y := by
  rw [outsAt0_B m c t h (by omega)]
  frame_out
  exact pay2 _ _ y

/-- What a run of row blocks leaves. -/
theorem run (c : Dev nD) (t : Fin cfg0.N) (ht : t.val % 11 = 10) (j : S1x512.Idx) :
    outsAt0 m c t.val t.isLt j
      = ∑ s : Fin 11, part m c ⟨11 * (t.val / 11) + s.val, Pipeline.run_point_lt_of_flush t ht s⟩ j := by
  rw [Pipeline.eq_sum_fin_of_reset_step_apply_of_flush (M := EReal) (fun n h => outsAt0 m c n h) 11 (fun _ => 0)
    (fun t => part m c t) ?_ ?_ t ht j]
  · exact zero_add _
  · exact fun t h i => first m c t h i
  · exact fun t h i => step m c t h i

/-- The sums of a run are the sum over all rows. -/
theorem sum (c : Dev nD) (t : Fin cfg0.N) (ht : t.val % 11 = 10) (y : S1x512.Idx) (e : S1x4096.Idx)
    (h1 : (e 1).val = t.val / 11 * 512 + (y 1).val) :
    outsAt0 m c t.val t.isLt y = out (m ((c : Thread nD τ).loc main_arg0)) e := by
  rw [run m c t ht y]
  unfold part out
  simp only [pay1]
  refine Fin.sum_mul_add_congr (fun s k hl => ?_) rfl
  obtain ⟨i0, i1, -, i3⟩ := idx ⟨11 * (t.val / 11) + s.val, Pipeline.run_point_lt_of_flush t ht s⟩
  have j0 : (11 * (t.val / 11) + s.val) % 11 = s.val := by omega
  have j1 : (11 * (t.val / 11) + s.val) / 11 = t.val / 11 := by omega
  rw [i3] at i1
  simp only [j0, j1] at i0 i1
  blk_ext [iblk, V, i0, i1, h1]

/-- The kernel's array after the run. -/
theorem final (m : (ℓ : Loc nD τ sig) → Buf (Elt Ideal) ℓ) (c : Dev nD) : (dats m 0 c).arrAt 1 cfg0.N = out (m ((c : Thread nD τ).loc main_arg0)) := by
  refine (dats m 0 c).arrAt_eq_of_covers 1 _ (by decide +kernel) fun t hf y => ?_
  have ht := (flush0_1 t).mp hf
  obtain ⟨-, -, -, g1⟩ := idx t
  blk_simp
  rw [after0_1]
  refine sum m c t ht y _ ?_
  blk_simp [g1]

/-- The reference's result is the same function. -/
theorem ref (x : FVec Ideal Cert.ColORefIdeal.S4224x8192 .bf16) :
    Cert.ColORefIdeal.Read.val_main_v7 (F := Ideal) x = out x := by
  funext i
  pointwise [out, Cert.ColORefIdeal.Read.val_main_cst, Cert.ColORefIdeal.Read.val_main_v0, Cert.ColORefIdeal.Read.val_main_cst_0, Cert.ColORefIdeal.Read.val_main_v1, Cert.ColORefIdeal.Read.val_main_v2, Cert.ColORefIdeal.Read.val_main_v3, Cert.ColORefIdeal.Read.val_main_v4, Cert.ColORefIdeal.Read.val_main_v5, Cert.ColORefIdeal.Read.val_main_cst_1, Cert.ColORefIdeal.Read.val_main_v6, Cert.ColORefIdeal.Read.val_main_v7]

end Cert.ColOIdeal.Prod

end
-- ==== Proof.Prod.Claims3.lean ====
module

public import proofs.«01_k».proof.Defs
public import proofs.«01_k».proof.Proof.Prod.AttnO
public import proofs.«01_k».proof.Proof.Prod.ConvO
public import proofs.«01_k».proof.Proof.Prod.ColIn
public import proofs.«01_k».proof.Proof.Prod.ColO

@[expose] public section

set_option maxRecDepth 16384

noncomputable section

namespace Cert.Prod.Claims3

open Idealize.ShloMosaic Idealize.ShloMosaic.TcCoe Idealize.SL.Sem

/-- The product with the attention's output weights. -/
theorem eqAttnO : Cert.algebraic_AttnOIdeal_AttnORefIdeal := fun m g m' g' _ h =>
  ⟨fun c => Cert.AttnOIdeal.Prod.out (m ((c.tc : Thread Cert.AttnOIdeal.nD Cert.AttnOIdeal.τ).loc Cert.AttnOIdeal.main_arg0)) (m ((c.tc : Thread Cert.AttnOIdeal.nD Cert.AttnOIdeal.τ).loc Cert.AttnOIdeal.main_arg1)) (m ((c.tc : Thread Cert.AttnOIdeal.nD Cert.AttnOIdeal.τ).loc Cert.AttnOIdeal.main_arg2)),
    (θ_run Cert.AttnOIdeal.defs _ _).mono (fun _ hr c => ⟨(hr c).1.trans (Cert.AttnOIdeal.Prod.final m c), (hr c).2⟩)
      (Cert.AttnOIdeal.Value.run_blocks m g),
    (θ_run Cert.AttnORefIdeal.defs _ _).mono (fun _ hr c => ⟨(hr c).1.trans ((Cert.AttnOIdeal.Prod.ref _ _ _).trans (by rw [(h c).1, (h c).2.1, (h c).2.2])), (hr c).2⟩)
      (Cert.AttnORefIdeal.Value.run m' g')⟩

/-- The product with the convolution's output weights. -/
theorem eqConvO : Cert.algebraic_ConvOIdeal_ConvORefIdeal := fun m g m' g' _ h =>
  ⟨fun c => Cert.ConvOIdeal.Prod.out (m ((c.tc : Thread Cert.ConvOIdeal.nD Cert.ConvOIdeal.τ).loc Cert.ConvOIdeal.main_arg0)) (m ((c.tc : Thread Cert.ConvOIdeal.nD Cert.ConvOIdeal.τ).loc Cert.ConvOIdeal.main_arg1)) (m ((c.tc : Thread Cert.ConvOIdeal.nD Cert.ConvOIdeal.τ).loc Cert.ConvOIdeal.main_arg2)) (m ((c.tc : Thread Cert.ConvOIdeal.nD Cert.ConvOIdeal.τ).loc Cert.ConvOIdeal.main_arg3)),
    (θ_run Cert.ConvOIdeal.defs _ _).mono (fun _ hr c => ⟨(hr c).1.trans (Cert.ConvOIdeal.Prod.final m c), (hr c).2⟩)
      (Cert.ConvOIdeal.Value.run_blocks m g),
    (θ_run Cert.ConvORefIdeal.defs _ _).mono (fun _ hr c => ⟨(hr c).1.trans ((Cert.ConvOIdeal.Prod.ref _ _ _ _).trans (by rw [(h c).1, (h c).2.1, (h c).2.2.1, (h c).2.2.2])), (hr c).2⟩)
      (Cert.ConvORefIdeal.Value.run m' g')⟩

/-- The gradient of the inner product's bias. -/
theorem eqColIn : Cert.algebraic_ColInIdeal_ColInRefIdeal := fun m g m' g' _ h =>
  ⟨fun c => Cert.ColInIdeal.Prod.out (m ((c.tc : Thread Cert.ColInIdeal.nD Cert.ColInIdeal.τ).loc Cert.ColInIdeal.main_arg0)),
    (θ_run Cert.ColInIdeal.defs _ _).mono (fun _ hr c => ⟨(hr c).1.trans (Cert.ColInIdeal.Prod.final m c), (hr c).2⟩)
      (Cert.ColInIdeal.Value.run_blocks m g),
    (θ_run Cert.ColInRefIdeal.defs _ _).mono (fun _ hr c => ⟨(hr c).1.trans ((Cert.ColInIdeal.Prod.ref _).trans (by rw [(h c)])), (hr c).2⟩)
      (Cert.ColInRefIdeal.Value.run m' g')⟩

/-- The gradient of the convolution branch's bias. -/
theorem eqColO : Cert.algebraic_ColOIdeal_ColORefIdeal := fun m g m' g' _ h =>
  ⟨fun c => Cert.ColOIdeal.Prod.out (m ((c.tc : Thread Cert.ColOIdeal.nD Cert.ColOIdeal.τ).loc Cert.ColOIdeal.main_arg0)),
    (θ_run Cert.ColOIdeal.defs _ _).mono (fun _ hr c => ⟨(hr c).1.trans (Cert.ColOIdeal.Prod.final m c), (hr c).2⟩)
      (Cert.ColOIdeal.Value.run_blocks m g),
    (θ_run Cert.ColORefIdeal.defs _ _).mono (fun _ hr c => ⟨(hr c).1.trans ((Cert.ColOIdeal.Prod.ref _).trans (by rw [(h c)])), (hr c).2⟩)
      (Cert.ColORefIdeal.Value.run m' g')⟩

end Cert.Prod.Claims3

end
-- ==== Proof.Rope.RopeF.lean ====
module

public import proofs.«01_k».proof.Proof.Gen.RopeFIdeal.Value
public import proofs.«01_k».proof.Proof.Gen.RopeFRefIdeal.Read
public import Idealize.ShloMosaic.Lib.Pipeline.Value
public import Idealize.ShloMosaic.Lib.Pipeline.ValueKit
public import Idealize.ShloMosaic.Lib.Pointwise

/-! The rotary embedding of queries and keys. -/

@[expose] public section

set_option maxRecDepth 16384

noncomputable section

namespace Cert.RopeFIdeal.Rope

open Cert.RopeFIdeal Cert.RopeFIdeal.Gen Idealize.ShloMosaic Idealize.ShloMosaic.TcCoe Idealize.SL.Sem
open Idealize.ShloMosaic.Pointwise

/-- The cosines, by row and frequency. -/
def cosT : S4224x32.Idx → EReal := Cert.RopeFRefIdeal.Read.val_main_v19 (F := Ideal)

/-- The sines, by row and frequency. -/
def sinT : S4224x32.Idx → EReal := Cert.RopeFRefIdeal.Read.val_main_v21 (F := Ideal)

/-- A row's lane, turned: the lanes of a head's first half with those of its second. -/
def turned (z : S4224x14848.Idx → EReal) (r : Fin 4224) (l : Nat) (hl : l < 2304) : EReal :=
  if h : l % 64 < 32 then
    z (ix2 r ⟨l, by omega⟩) * cosT (ix2 r ⟨l % 32, Nat.mod_lt _ (by omega)⟩)
      - z (ix2 r ⟨l + 32, by omega⟩) * sinT (ix2 r ⟨l % 32, Nat.mod_lt _ (by omega)⟩)
  else
    z (ix2 r ⟨l, by omega⟩) * cosT (ix2 r ⟨l % 32, Nat.mod_lt _ (by omega)⟩)
      + z (ix2 r ⟨l - 32, by omega⟩) * sinT (ix2 r ⟨l % 32, Nat.mod_lt _ (by omega)⟩)

/-- The queries, turned and scaled, and the keys, turned. -/
def out (z : S4224x14848.Idx → EReal) : S4224x2304.Idx → EReal := fun i =>
  if (i 1).val < 2048 then turned z (i 0) (i 1).val (i 1).isLt * Ideal.ofBits .f32 0x3E000000#32
  else turned z (i 0) (i 1).val (i 1).isLt

/-- Which lanes are in the first half of a head. -/
theorem mask : ∀ n : Fin 2304, IntOp.cmpi .slt (IntOp.andi (BitVec.ofNat 32 n.val) 63#32) 32#32
    = if n.val % 64 < 32 then 1#1 else 0#1 := by
  decide +kernel

/-- Which lanes are the queries'. -/
theorem query : ∀ n : Fin 2304, IntOp.cmpi .slt (BitVec.ofNat 32 n.val) 2048#32 = if n.val < 2048 then 1#1 else 0#1 := by
  decide +kernel

/-- A table laid 18 times side by side. -/
theorem cat (x : Vec Ideal S384x128 .f32) (j : S384x2304.Idx) :
    (concatenate S384x2304 1 [⟨S384x128, x⟩, ⟨S384x128, x⟩, ⟨S384x128, x⟩, ⟨S384x128, x⟩, ⟨S384x128, x⟩, ⟨S384x128, x⟩, ⟨S384x128, x⟩, ⟨S384x128, x⟩, ⟨S384x128, x⟩, ⟨S384x128, x⟩, ⟨S384x128, x⟩, ⟨S384x128, x⟩, ⟨S384x128, x⟩, ⟨S384x128, x⟩, ⟨S384x128, x⟩, ⟨S384x128, x⟩, ⟨S384x128, x⟩, ⟨S384x128, x⟩] concatenates_S384x128_S384x128_S384x128_S384x128_S384x128_S384x128_S384x128_S384x128_S384x128_S384x128_S384x128_S384x128_S384x128_S384x128_S384x128_S384x128_S384x128_S384x128_S384x2304_d1 : FVec Ideal S384x2304 .f32) j = x (ix2 (j 0) ⟨(j 1).val % 128, Nat.mod_lt _ (by omega)⟩) := by
  refine concatenate_replicate_apply (t := S384x2304) (s₁ := S384x128) 1 18 x _ rfl j _ rfl ?_
  intro b hb
  match b with
  | ⟨0, _⟩ => rfl
  | ⟨1, _⟩ => exact absurd rfl hb

/-- What one grid point computes from its blocks, before the scale. -/
def spin (x : S384x2304.Idx → EReal) (c s : S384x128.Idx → EReal) (j : S384x2304.Idx) : EReal :=
  x j * c (ix2 (j 0) ⟨(j 1).val % 128, Nat.mod_lt _ (by omega)⟩)
    + (if h : (j 1).val % 64 < 32 then x (ix2 (j 0) ⟨(j 1).val + 32, by have := (j 1).isLt; change _ < 2304 at this; omega⟩)
        else x (ix2 (j 0) ⟨(j 1).val - 32, by have := (j 1).isLt; change _ < 2304 at this; omega⟩))
      * s (ix2 (j 0) ⟨(j 1).val % 128, Nat.mod_lt _ (by omega)⟩)

/-- What one grid point computes from its blocks. -/
theorem pay (x : Vec Ideal S384x2304 .bf16) (c s : Vec Ideal S384x128 .f32) (j : S384x2304.Idx) :
    k0_pay1 (F := Ideal) x c s j
      = if (j 1).val < 2048 then spin x c s j * Ideal.ofBits .f32 0x3E000000#32 else spin x c s j := by
  have hj : (j 1).val < 2304 := (j 1).isLt
  unfold k0_pay1
  pointwise [cat]
  rw [mask (j 1), query (j 1)]
  have hs : ∀ (p : Prop) [Decidable p] (a b : EReal), Scalar.select (if p then 1#1 else 0#1) a b = if p then a else b := by
    intro p _ a b
    by_cases h : p <;> simp [Scalar.select, h]
  rw [hs, hs]
  have hx : (if (j 1).val % 64 < 32 then x (ix2 (j 0) ⟨((j 1).val + 2304 - 2272) % 2304, Nat.mod_lt _ (by omega)⟩)
        else x (ix2 (j 0) ⟨((j 1).val + 2304 - 32) % 2304, Nat.mod_lt _ (by omega)⟩))
      = if h : (j 1).val % 64 < 32 then x (ix2 (j 0) ⟨(j 1).val + 32, by omega⟩) else x (ix2 (j 0) ⟨(j 1).val - 32, by omega⟩) := by
    by_cases h : (j 1).val % 64 < 32
    · have e : ((j 1).val + 2304 - 2272) % 2304 = (j 1).val + 32 := by omega
      rw [if_pos h, dif_pos h]
      simp only [e]
    · have e : ((j 1).val + 2304 - 32) % 2304 = (j 1).val - 32 := by omega
      rw [if_neg h, dif_neg h]
      simp only [e]
  unfold spin
  exact hx ▸ rfl

/-- The kernel's table of cosines. -/
theorem cosines (m : (ℓ : Loc nD τ sig) → Buf (Elt Ideal) ℓ) (c : Dev nD) (j : S4224x128.Idx) :
    V m c main_v21 j = cosT (ix2 (j 0) ⟨(j 1).val % 32, Nat.mod_lt _ (by omega)⟩) := by
  have h : V m c main_v21 = shapeCast S4224x128 (broadcastInDim S1x4224x2x64 ![0, 1, 2, 3] bcast_S1x4224x1x64_S1x4224x2x64_0_1_2_3
     (shapeCast S1x4224x1x64 (concatenate S4224x64 1 [⟨S4224x32, cosT⟩, ⟨S4224x32, cosT⟩] concatenates_S4224x32_S4224x32_S4224x64_d1) shapeCasts_S4224x64_S1x4224x1x64)) shapeCasts_S1x4224x2x64_S4224x128 := by
    after_results
    rfl
  rw [h]
  generalize cosT = T
  pointwise
  by_cases h : (j 1).val % 64 < 32
  · have e : (j 1).val % 64 = (j 1).val % 32 := by omega
    rw [dif_pos h]
    simp only [e]
  · have e : (j 1).val % 64 - 32 = (j 1).val % 32 := by omega
    rw [dif_neg h]
    simp only [e]

/-- The kernel's table of sines, with the first half's sign turned. -/
theorem sines (m : (ℓ : Loc nD τ sig) → Buf (Elt Ideal) ℓ) (c : Dev nD) (j : S4224x128.Idx) :
    V m c main_v26 j = if (j 1).val % 64 < 32 then -sinT (ix2 (j 0) ⟨(j 1).val % 32, Nat.mod_lt _ (by omega)⟩)
      else sinT (ix2 (j 0) ⟨(j 1).val % 32, Nat.mod_lt _ (by omega)⟩) := by
  have h : V m c main_v26 = shapeCast S4224x128 (broadcastInDim S1x4224x2x64 ![0, 1, 2, 3] bcast_S1x4224x1x64_S1x4224x2x64_0_1_2_3
     (shapeCast S1x4224x1x64 (concatenate S4224x64 1 [⟨S4224x32, Host.negf (F := Ideal) (φ := .f32) sinT⟩, ⟨S4224x32, sinT⟩] concatenates_S4224x32_S4224x32_S4224x64_d1) shapeCasts_S4224x64_S1x4224x1x64)) shapeCasts_S1x4224x2x64_S4224x128 := by
    after_results
    rfl
  rw [h]
  generalize sinT = T
  pointwise
  by_cases h : (j 1).val % 64 < 32
  · have e : (j 1).val % 64 = (j 1).val % 32 := by omega
    rw [dif_pos h, if_pos h]
    simp only [e]
    try rfl
  · have e : (j 1).val % 64 - 32 = (j 1).val % 32 := by omega
    rw [dif_neg h, if_neg h]
    simp only [e]

/-- The table of cosines at a lane. -/
theorem cosine (m : (ℓ : Loc nD τ sig) → Buf (Elt Ideal) ℓ) (c : Dev nD) (r : Fin 4224) (l : Nat) :
    V m c main_v21 (ix2 r ⟨l % 128, Nat.mod_lt _ (by omega)⟩) = cosT (ix2 r ⟨l % 32, Nat.mod_lt _ (by omega)⟩) :=
  (cosines m c _).trans (congrArg (fun n => cosT (ix2 r n)) (Fin.ext (show l % 128 % 32 = l % 32 by omega)))

/-- The table of sines at a lane. -/
theorem sine (m : (ℓ : Loc nD τ sig) → Buf (Elt Ideal) ℓ) (c : Dev nD) (r : Fin 4224) (l : Nat) :
    V m c main_v26 (ix2 r ⟨l % 128, Nat.mod_lt _ (by omega)⟩)
      = if l % 64 < 32 then -sinT (ix2 r ⟨l % 32, Nat.mod_lt _ (by omega)⟩) else sinT (ix2 r ⟨l % 32, Nat.mod_lt _ (by omega)⟩) := by
  have e : (⟨l % 128 % 32, Nat.mod_lt _ (by omega)⟩ : Fin 32) = ⟨l % 32, Nat.mod_lt _ (by omega)⟩ :=
    Fin.ext (show l % 128 % 32 = l % 32 by omega)
  have h : (l % 128 % 64 < 32) = (l % 64 < 32) := by
    rw [show l % 128 % 64 = l % 64 by omega]
  refine (sines m c _).trans ?_
  show (if l % 128 % 64 < 32 then -sinT (ix2 r (⟨l % 128 % 32, Nat.mod_lt _ (by omega)⟩ : Fin 32))
    else sinT (ix2 r (⟨l % 128 % 32, Nat.mod_lt _ (by omega)⟩ : Fin 32))) = _
  rw [e]
  simp only [h]

/-- Where the blocks lie. -/
theorem idx : ∀ t : Fin cfg0.N, (win0_0.index t 0 = win0_3.index t 0 ∧ win0_0.index t 1 = 0)
    ∧ (win0_1.index t 0 = win0_3.index t 0 ∧ win0_1.index t 1 = 0)
    ∧ (win0_2.index t 0 = win0_3.index t 0 ∧ win0_2.index t 1 = 0) ∧ win0_3.index t 1 = 0 :=
  (by decide +kernel : ∀ t : Fin grid0.N, (win0_0.index t 0 = win0_3.index t 0 ∧ win0_0.index t 1 = 0)
    ∧ (win0_1.index t 0 = win0_3.index t 0 ∧ win0_1.index t 1 = 0)
    ∧ (win0_2.index t 0 = win0_3.index t 0 ∧ win0_2.index t 1 = 0) ∧ win0_3.index t 1 = 0)

variable (m : (ℓ : Loc nD τ sig) → Buf (Elt Ideal) ℓ)

/-- The blocks of `z`. -/
theorem blk0 (c : Dev nD) (t : Fin cfg0.N) (y : S384x2304.Idx) (e : S4224x14848.Idx)
    (k0 : (e 0).val = win0_3.index t 0 * 384 + (y 0).val) (k1 : (e 1).val = (y 1).val) :
    X0_0 m c t y = m ((c : Thread nD τ).loc main_arg0) e := by
  obtain ⟨⟨e0, e1⟩, -⟩ := idx t
  unfold X0_0 Pipeline.Window.fill
  rw [dif_pos (moved0_0 t y), ← V_main_arg0 m c]
  blk_ext [iblk, e0, e1, k0, k1]

/-- The blocks of the cosines. -/
theorem blk1 (c : Dev nD) (t : Fin cfg0.N) (y : S384x128.Idx) (e : S4224x128.Idx)
    (k0 : (e 0).val = win0_3.index t 0 * 384 + (y 0).val) (k1 : (e 1).val = (y 1).val) :
    iblk m c 1 t y = V m c main_v21 e := by
  obtain ⟨-, ⟨e0, e1⟩, -⟩ := idx t
  blk_ext [iblk, e0, e1, k0, k1]

/-- The blocks of the sines. -/
theorem blk2 (c : Dev nD) (t : Fin cfg0.N) (y : S384x128.Idx) (e : S4224x128.Idx)
    (k0 : (e 0).val = win0_3.index t 0 * 384 + (y 0).val) (k1 : (e 1).val = (y 1).val) :
    iblk m c 2 t y = V m c main_v26 e := by
  obtain ⟨-, -, ⟨e0, e1⟩, -⟩ := idx t
  blk_ext [iblk, e0, e1, k0, k1]

/-- A grid point turns its rows. -/
theorem spin_eq (c : Dev nD) (t : Fin cfg0.N) (y : S384x2304.Idx) (r : Fin 4224) (l : Nat) (hl : l < 2304)
    (k0 : r.val = win0_3.index t 0 * 384 + (y 0).val) (k1 : l = (y 1).val) :
    spin (X0_0 m c t) (iblk m c 1 t) (iblk m c 2 t) y = turned (m ((c : Thread nD τ).loc main_arg0)) r l hl := by
  have hc := (blk1 m c t (ix2 (y 0) ⟨(y 1).val % 128, Nat.mod_lt _ (by omega)⟩)
    (ix2 r ⟨l % 128, Nat.mod_lt _ (by omega)⟩) k0 (by show l % 128 = (y 1).val % 128; rw [k1])).trans (cosine m c r l)
  have hs := (blk2 m c t (ix2 (y 0) ⟨(y 1).val % 128, Nat.mod_lt _ (by omega)⟩)
    (ix2 r ⟨l % 128, Nat.mod_lt _ (by omega)⟩) k0 (by show l % 128 = (y 1).val % 128; rw [k1])).trans (sine m c r l)
  have hx := blk0 m c t y (ix2 r ⟨l, by omega⟩) k0 k1
  unfold spin turned
  rw [hc, hs, hx]
  by_cases h : l % 64 < 32
  · have h' : (y 1).val % 64 < 32 := by omega
    rw [if_pos h, dif_pos h', dif_pos h, blk0 m c t (ix2 (y 0) ⟨(y 1).val + 32, by omega⟩) (ix2 r ⟨l + 32, by omega⟩) k0 (by show l + 32 = (y 1).val + 32; omega), mul_neg, sub_eq_add_neg]
  · have h' : ¬(y 1).val % 64 < 32 := by omega
    rw [if_neg h, dif_neg h', dif_neg h, blk0 m c t (ix2 (y 0) ⟨(y 1).val - 32, by omega⟩) (ix2 r ⟨l - 32, by omega⟩) k0 (by show l - 32 = (y 1).val - 32; omega)]

/-- What a grid point writes. -/
theorem tile (c : Dev nD) (t : Fin cfg0.N) (y : S384x2304.Idx) (e : S4224x2304.Idx)
    (k0 : (e 0).val = win0_3.index t 0 * 384 + (y 0).val) (k1 : (e 1).val = (y 1).val) :
    (dats m 0 c).after 3 t y = out (m ((c : Thread nD τ).loc main_arg0)) e := by
  rw [after0_3]
  unfold outsAt0
  frame_out
  refine (pay _ _ _ y).trans ?_
  unfold out
  rw [spin_eq m c t y (e 0) (e 1).val (e 1).isLt k0 k1, ← k1]

/-- The kernel's array after the run. -/
theorem final (c : Dev nD) : (dats m 0 c).arrAt 3 cfg0.N = out (m ((c : Thread nD τ).loc main_arg0)) := by
  refine (dats m 0 c).arrAt_eq_of_covers 3 _ (by decide +kernel) fun t hf y => ?_
  obtain ⟨-, -, -, g1⟩ := idx t
  blk_simp
  refine tile m c t y _ ?_ ?_
  · blk_simp
  · blk_simp [g1]

set_option maxHeartbeats 2000000 in
/-- The reference's queries. -/
theorem refQ (z : FVec Ideal Cert.RopeFRefIdeal.S4224x14848 .bf16) (i : Cert.RopeFRefIdeal.S4224x2048.Idx) :
    Cert.RopeFRefIdeal.Read.val_main_v76 (F := Ideal) z i
      = turned z (i 0) (i 1).val (by have := (i 1).isLt; change _ < 2048 at this; omega) * Ideal.ofBits .f32 0x3E000000#32 := by
  have hi : (i 1).val < 2048 := (i 1).isLt
  unfold turned cosT sinT
  pointwise [Cert.RopeFRefIdeal.Read.val_main_v0, Cert.RopeFRefIdeal.Read.val_main_v1, Cert.RopeFRefIdeal.Read.val_main_v2, Cert.RopeFRefIdeal.Read.val_main_v20, Cert.RopeFRefIdeal.Read.val_main_v22, Cert.RopeFRefIdeal.Read.val_main_v23, Cert.RopeFRefIdeal.Read.val_main_v24, Cert.RopeFRefIdeal.Read.val_main_v25, Cert.RopeFRefIdeal.Read.val_main_v26, Cert.RopeFRefIdeal.Read.val_main_v27, Cert.RopeFRefIdeal.Read.val_main_v28, Cert.RopeFRefIdeal.Read.val_main_v29, Cert.RopeFRefIdeal.Read.val_main_v30, Cert.RopeFRefIdeal.Read.val_main_v31, Cert.RopeFRefIdeal.Read.val_main_v32, Cert.RopeFRefIdeal.Read.val_main_v33, Cert.RopeFRefIdeal.Read.val_main_v34, Cert.RopeFRefIdeal.Read.val_main_v35, Cert.RopeFRefIdeal.Read.val_main_v36, Cert.RopeFRefIdeal.Read.val_main_cst_3, Cert.RopeFRefIdeal.Read.val_main_v37, Cert.RopeFRefIdeal.Read.val_main_v38, Cert.RopeFRefIdeal.Read.val_main_v76]
  generalize Cert.RopeFRefIdeal.Read.val_main_v19 (F := Ideal) = C
  generalize Cert.RopeFRefIdeal.Read.val_main_v21 (F := Ideal) = S
  by_cases h : (i 1).val % 64 < 32
  · have e1 : (i 1).val % 64 = (i 1).val % 32 := by omega
    have e2 : (i 1).val / 64 * 64 + (32 + (i 1).val % 32) = (i 1).val + 32 := by omega
    rw [dif_pos h, dif_pos h]
    simp only [e1, e2]
  · have e1 : (i 1).val % 64 - 32 = (i 1).val % 32 := by omega
    have e2 : (i 1).val / 64 * 64 + (32 + (i 1).val % 32) = (i 1).val := by omega
    have e3 : (i 1).val / 64 * 64 + (i 1).val % 32 = (i 1).val - 32 := by omega
    rw [dif_neg h, dif_neg h]
    simp only [e1, e2, e3]

set_option maxHeartbeats 2000000 in
/-- The reference's keys. -/
theorem refK (z : FVec Ideal Cert.RopeFRefIdeal.S4224x14848 .bf16) (i : Cert.RopeFRefIdeal.S4224x256.Idx) :
    Cert.RopeFRefIdeal.Read.val_main_v77 (F := Ideal) z i
      = turned z (i 0) (2048 + (i 1).val) (by have := (i 1).isLt; change _ < 256 at this; omega) := by
  have hi : (i 1).val < 256 := (i 1).isLt
  have hc : Cert.RopeFRefIdeal.Read.val_main_v58 (F := Ideal) = cosT := by
    unfold cosT
    simp only [Cert.RopeFRefIdeal.Read.val_main_v3, Cert.RopeFRefIdeal.Read.val_main_v4, Cert.RopeFRefIdeal.Read.val_main_cst, Cert.RopeFRefIdeal.Read.val_main_v5, Cert.RopeFRefIdeal.Read.val_main_v6, Cert.RopeFRefIdeal.Read.val_main_cst_0, Cert.RopeFRefIdeal.Read.val_main_v7, Cert.RopeFRefIdeal.Read.val_main_v8, Cert.RopeFRefIdeal.Read.val_main_v9, Cert.RopeFRefIdeal.Read.val_main_cst_1, Cert.RopeFRefIdeal.Read.val_main_v10, Cert.RopeFRefIdeal.Read.val_main_v11, Cert.RopeFRefIdeal.Read.val_main_cst_2, Cert.RopeFRefIdeal.Read.val_main_v12, Cert.RopeFRefIdeal.Read.val_main_v13, Cert.RopeFRefIdeal.Read.val_main_v14, Cert.RopeFRefIdeal.Read.val_main_v15, Cert.RopeFRefIdeal.Read.val_main_v16, Cert.RopeFRefIdeal.Read.val_main_v17, Cert.RopeFRefIdeal.Read.val_main_v18, Cert.RopeFRefIdeal.Read.val_main_v19, Cert.RopeFRefIdeal.Read.val_main_v21, Cert.RopeFRefIdeal.Read.val_main_v42, Cert.RopeFRefIdeal.Read.val_main_v43, Cert.RopeFRefIdeal.Read.val_main_cst_4, Cert.RopeFRefIdeal.Read.val_main_v44, Cert.RopeFRefIdeal.Read.val_main_v45, Cert.RopeFRefIdeal.Read.val_main_cst_5, Cert.RopeFRefIdeal.Read.val_main_v46, Cert.RopeFRefIdeal.Read.val_main_v47, Cert.RopeFRefIdeal.Read.val_main_v48, Cert.RopeFRefIdeal.Read.val_main_cst_6, Cert.RopeFRefIdeal.Read.val_main_v49, Cert.RopeFRefIdeal.Read.val_main_v50, Cert.RopeFRefIdeal.Read.val_main_cst_7, Cert.RopeFRefIdeal.Read.val_main_v51, Cert.RopeFRefIdeal.Read.val_main_v52, Cert.RopeFRefIdeal.Read.val_main_v53, Cert.RopeFRefIdeal.Read.val_main_v54, Cert.RopeFRefIdeal.Read.val_main_v55, Cert.RopeFRefIdeal.Read.val_main_v56, Cert.RopeFRefIdeal.Read.val_main_v57, Cert.RopeFRefIdeal.Read.val_main_v58, Cert.RopeFRefIdeal.Read.val_main_v60]
  have hs : Cert.RopeFRefIdeal.Read.val_main_v60 (F := Ideal) = sinT := by
    unfold sinT
    simp only [Cert.RopeFRefIdeal.Read.val_main_v3, Cert.RopeFRefIdeal.Read.val_main_v4, Cert.RopeFRefIdeal.Read.val_main_cst, Cert.RopeFRefIdeal.Read.val_main_v5, Cert.RopeFRefIdeal.Read.val_main_v6, Cert.RopeFRefIdeal.Read.val_main_cst_0, Cert.RopeFRefIdeal.Read.val_main_v7, Cert.RopeFRefIdeal.Read.val_main_v8, Cert.RopeFRefIdeal.Read.val_main_v9, Cert.RopeFRefIdeal.Read.val_main_cst_1, Cert.RopeFRefIdeal.Read.val_main_v10, Cert.RopeFRefIdeal.Read.val_main_v11, Cert.RopeFRefIdeal.Read.val_main_cst_2, Cert.RopeFRefIdeal.Read.val_main_v12, Cert.RopeFRefIdeal.Read.val_main_v13, Cert.RopeFRefIdeal.Read.val_main_v14, Cert.RopeFRefIdeal.Read.val_main_v15, Cert.RopeFRefIdeal.Read.val_main_v16, Cert.RopeFRefIdeal.Read.val_main_v17, Cert.RopeFRefIdeal.Read.val_main_v18, Cert.RopeFRefIdeal.Read.val_main_v19, Cert.RopeFRefIdeal.Read.val_main_v21, Cert.RopeFRefIdeal.Read.val_main_v42, Cert.RopeFRefIdeal.Read.val_main_v43, Cert.RopeFRefIdeal.Read.val_main_cst_4, Cert.RopeFRefIdeal.Read.val_main_v44, Cert.RopeFRefIdeal.Read.val_main_v45, Cert.RopeFRefIdeal.Read.val_main_cst_5, Cert.RopeFRefIdeal.Read.val_main_v46, Cert.RopeFRefIdeal.Read.val_main_v47, Cert.RopeFRefIdeal.Read.val_main_v48, Cert.RopeFRefIdeal.Read.val_main_cst_6, Cert.RopeFRefIdeal.Read.val_main_v49, Cert.RopeFRefIdeal.Read.val_main_v50, Cert.RopeFRefIdeal.Read.val_main_cst_7, Cert.RopeFRefIdeal.Read.val_main_v51, Cert.RopeFRefIdeal.Read.val_main_v52, Cert.RopeFRefIdeal.Read.val_main_v53, Cert.RopeFRefIdeal.Read.val_main_v54, Cert.RopeFRefIdeal.Read.val_main_v55, Cert.RopeFRefIdeal.Read.val_main_v56, Cert.RopeFRefIdeal.Read.val_main_v57, Cert.RopeFRefIdeal.Read.val_main_v58, Cert.RopeFRefIdeal.Read.val_main_v60]
  unfold turned
  pointwise [Cert.RopeFRefIdeal.Read.val_main_v39, Cert.RopeFRefIdeal.Read.val_main_v40, Cert.RopeFRefIdeal.Read.val_main_v41, Cert.RopeFRefIdeal.Read.val_main_v59, Cert.RopeFRefIdeal.Read.val_main_v61, Cert.RopeFRefIdeal.Read.val_main_v62, Cert.RopeFRefIdeal.Read.val_main_v63, Cert.RopeFRefIdeal.Read.val_main_v64, Cert.RopeFRefIdeal.Read.val_main_v65, Cert.RopeFRefIdeal.Read.val_main_v66, Cert.RopeFRefIdeal.Read.val_main_v67, Cert.RopeFRefIdeal.Read.val_main_v68, Cert.RopeFRefIdeal.Read.val_main_v69, Cert.RopeFRefIdeal.Read.val_main_v70, Cert.RopeFRefIdeal.Read.val_main_v71, Cert.RopeFRefIdeal.Read.val_main_v72, Cert.RopeFRefIdeal.Read.val_main_v73, Cert.RopeFRefIdeal.Read.val_main_v74, Cert.RopeFRefIdeal.Read.val_main_v75, Cert.RopeFRefIdeal.Read.val_main_v77]
  rw [hc, hs]
  generalize cosT = C
  generalize sinT = S
  have e0 : (2048 + (i 1).val) % 32 = (i 1).val % 32 := by omega
  by_cases h : (i 1).val % 64 < 32
  · have h' : (2048 + (i 1).val) % 64 < 32 := by omega
    have e1 : (i 1).val % 64 = (i 1).val % 32 := by omega
    have e2 : 2048 + ((i 1).val / 64 * 64 + (32 + (i 1).val % 32)) = 2048 + (i 1).val + 32 := by omega
    rw [dif_pos h, dif_pos h']
    simp only [e0, e1, e2]
  · have h' : ¬(2048 + (i 1).val) % 64 < 32 := by omega
    have e1 : (i 1).val % 64 - 32 = (i 1).val % 32 := by omega
    have e2 : 2048 + ((i 1).val / 64 * 64 + (32 + (i 1).val % 32)) = 2048 + (i 1).val := by omega
    have e3 : 2048 + ((i 1).val / 64 * 64 + (i 1).val % 32) = 2048 + (i 1).val - 32 := by omega
    rw [dif_neg h, dif_neg h']
    simp only [e0, e1, e2, e3]

/-- The reference's result is the same function. -/
theorem ref (z : FVec Ideal Cert.RopeFRefIdeal.S4224x14848 .bf16) :
    Cert.RopeFRefIdeal.Read.val_main_v78 (F := Ideal) z = out z := by
  funext i
  have hi : (i 1).val < 2304 := (i 1).isLt
  unfold out
  pointwise [Cert.RopeFRefIdeal.Read.val_main_v78]
  by_cases h : (i 1).val < 2048
  · rw [dif_pos h, if_pos h]
    exact refQ z _
  · have e : 2048 + ((i 1).val - 2048) = (i 1).val := by omega
    rw [dif_neg h, if_neg h]
    refine (refK z _).trans ?_
    show turned z (i 0) (2048 + ((i 1).val - 2048)) _ = _
    simp only [e]

end Cert.RopeFIdeal.Rope

end
-- ==== Proof.Rope.RopeB.lean ====
module

public import proofs.«01_k».proof.Proof.Gen.RopeBIdeal.Value
public import proofs.«01_k».proof.Proof.Gen.RopeBRefIdeal.Read
public import Idealize.ShloMosaic.Lib.Pipeline.Value
public import Idealize.ShloMosaic.Lib.Pipeline.ValueKit
public import Idealize.ShloMosaic.Lib.Pointwise

/-! The gradient of the rotary embedding, in the columns of an array that are its own. -/

@[expose] public section

set_option maxRecDepth 16384

noncomputable section

namespace Cert.RopeBIdeal.Rope

open Cert.RopeBIdeal Cert.RopeBIdeal.Gen Idealize.ShloMosaic Idealize.ShloMosaic.TcCoe Idealize.SL.Sem
open Idealize.ShloMosaic.Pointwise

/-- The cosines, by row and frequency. -/
def cosT : S4224x32.Idx → EReal := Cert.RopeBRefIdeal.Read.val_main_v24 (F := Ideal)

/-- The sines, by row and frequency. -/
def sinT : S4224x32.Idx → EReal := Cert.RopeBRefIdeal.Read.val_main_v26 (F := Ideal)

/-- A row's lane, turned back: the lanes of a head's first half with those of its second. -/
def back {W : Nat} (d : Fin 4224 → Fin W → EReal) (r : Fin 4224) (l : Fin W) (hW : W % 64 = 0) : EReal :=
  if h : l.val % 64 < 32 then
    d r l * cosT (ix2 r ⟨l.val % 32, Nat.mod_lt _ (by omega)⟩)
      + d r ⟨l.val + 32, by have := l.isLt; omega⟩ * sinT (ix2 r ⟨l.val % 32, Nat.mod_lt _ (by omega)⟩)
  else
    d r l * cosT (ix2 r ⟨l.val % 32, Nat.mod_lt _ (by omega)⟩)
      - d r ⟨l.val - 32, by have := l.isLt; omega⟩ * sinT (ix2 r ⟨l.val % 32, Nat.mod_lt _ (by omega)⟩)

/-- An array with the meta block's part added to its first rows. -/
def withMeta (d : S4224x256.Idx → EReal) (p : S128x256.Idx → EReal) (r : Fin 4224) (l : Fin 256) : EReal :=
  if h : r.val < 128 then d (ix2 r l) + p (ix2 ⟨r.val, h⟩ l) else d (ix2 r l)

/-- The columns of the queries, the keys and the values. -/
def written (dq : S4224x2048.Idx → EReal) (dk dv : S4224x256.Idx → EReal) (pk pv : S128x256.Idx → EReal) : S4224x14848.Idx → EReal := fun i =>
  if h : (i 1).val < 2048 then
    back (fun r l => dq (ix2 r l)) (i 0) (⟨(i 1).val, h⟩ : Fin 2048) rfl * Ideal.ofBits .f32 0x3E000000#32
  else if h' : (i 1).val < 2304 then back (withMeta dk pk) (i 0) (⟨(i 1).val - 2048, by omega⟩ : Fin 256) rfl
  else withMeta dv pv (i 0) ⟨((i 1).val - 2304) % 256, Nat.mod_lt _ (by omega)⟩

/-- Those columns are written, the others stay. -/
def out (dz : S4224x14848.Idx → EReal) (dq : S4224x2048.Idx → EReal) (dk dv : S4224x256.Idx → EReal) (pk pv : S128x256.Idx → EReal) :
    S4224x14848.Idx → EReal := fun i =>
  if (i 1).val / 2560 < 1 then written dq dk dv pk pv i else dz i

/-- A table laid 16 times side by side. -/
theorem catQ (x : Vec Ideal S128x128 .f32) (j : S128x2048.Idx) :
    (concatenate S128x2048 1 [⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩, ⟨S128x128, x⟩] concatenates_S128x128_S128x128_S128x128_S128x128_S128x128_S128x128_S128x128_S128x128_S128x128_S128x128_S128x128_S128x128_S128x128_S128x128_S128x128_S128x128_S128x2048_d1 : FVec Ideal S128x2048 .f32) j
      = x (ix2 (j 0) ⟨(j 1).val % 128, Nat.mod_lt _ (by omega)⟩) := by
  refine concatenate_replicate_apply (t := S128x2048) (s₁ := S128x128) 1 16 x _ rfl j _ rfl ?_
  intro b hb
  match b with
  | ⟨0, _⟩ => rfl
  | ⟨1, _⟩ => exact absurd rfl hb

/-- Which lanes are in the first half of a head. -/
theorem mask2048 : ∀ n : Fin 2048, IntOp.cmpi .slt (IntOp.andi (BitVec.ofNat 32 n.val) 63#32) 32#32
    = if n.val % 64 < 32 then 1#1 else 0#1 := by
  decide +kernel

/-- A table laid 2 times side by side. -/
theorem catK (x : Vec Ideal S128x128 .f32) (j : S128x256.Idx) :
    (concatenate S128x256 1 [⟨S128x128, x⟩, ⟨S128x128, x⟩] concatenates_S128x128_S128x128_S128x256_d1 : FVec Ideal S128x256 .f32) j
      = x (ix2 (j 0) ⟨(j 1).val % 128, Nat.mod_lt _ (by omega)⟩) := by
  refine concatenate_replicate_apply (t := S128x256) (s₁ := S128x128) 1 2 x _ rfl j _ rfl ?_
  intro b hb
  match b with
  | ⟨0, _⟩ => rfl
  | ⟨1, _⟩ => exact absurd rfl hb

/-- Which lanes are in the first half of a head. -/
theorem mask256 : ∀ n : Fin 256, IntOp.cmpi .slt (IntOp.andi (BitVec.ofNat 32 n.val) 63#32) 32#32
    = if n.val % 64 < 32 then 1#1 else 0#1 := by
  decide +kernel

/-- What one grid point makes of a block of rows. -/
def spin {W : Nat} (x : Fin 128 → Fin W → EReal) (c s : S128x128.Idx → EReal) (r : Fin 128) (l : Fin W) (hW : W % 64 = 0) : EReal :=
  x r l * c (ix2 r ⟨l.val % 128, Nat.mod_lt _ (by omega)⟩)
    - (if h : l.val % 64 < 32 then x r ⟨l.val + 32, by have := l.isLt; omega⟩ else x r ⟨l.val - 32, by have := l.isLt; omega⟩)
      * s (ix2 r ⟨l.val % 128, Nat.mod_lt _ (by omega)⟩)

/-- A block of the queries' gradient. -/
theorem payQ (c s : Vec Ideal S128x128 .f32) (x : Vec Ideal S128x2048 .f32) (j : S128x2048.Idx) :
    k0_pay6 (F := Ideal) c s x j = spin (fun r l => x (ix2 r l)) c s (j 0) (j 1) rfl * Ideal.ofBits .f32 0x3E000000#32 := by
  have hj : (j 1).val < 2048 := (j 1).isLt
  unfold k0_pay6 k0_pay4 k0_pay5
  pointwise [catQ]
  rw [mask2048 (j 1)]
  have hs : ∀ (p : Prop) [Decidable p] (a b : EReal), Scalar.select (if p then 1#1 else 0#1) a b = if p then a else b := by
    intro p _ a b
    by_cases h : p <;> simp [Scalar.select, h]
  rw [hs]
  have hx : (if (j 1).val % 64 < 32 then x (ix2 (j 0) ⟨((j 1).val + 2048 - 2016) % 2048, Nat.mod_lt _ (by omega)⟩)
        else x (ix2 (j 0) ⟨((j 1).val + 2048 - 32) % 2048, Nat.mod_lt _ (by omega)⟩))
      = if h : (j 1).val % 64 < 32 then x (ix2 (j 0) ⟨(j 1).val + 32, by omega⟩) else x (ix2 (j 0) ⟨(j 1).val - 32, by omega⟩) := by
    by_cases h : (j 1).val % 64 < 32
    · have e : ((j 1).val + 2048 - 2016) % 2048 = (j 1).val + 32 := by omega
      rw [if_pos h, dif_pos h]
      simp only [e]
    · have e : ((j 1).val + 2048 - 32) % 2048 = (j 1).val - 32 := by omega
      rw [if_neg h, dif_neg h]
      simp only [e]
  have hj' : x (ix2 (j 0) (j 1)) = x j := congrArg x (eq_ix2 j).symm
  unfold spin
  simp only [hj']
  exact hx ▸ rfl

/-- A block of the keys' gradient, once the meta block's part is added. -/
theorem payK (c s : Vec Ideal S128x128 .f32) (i : grid0.Coords) (d p : Vec Ideal S128x256 .f32) (j : S128x256.Idx) :
    k0_pay1 (F := Ideal) (k0_pay5 s) (k0_pay7 i d p) (k0_pay8 i c d p) k0_pay9 224#32 j
      = spin (fun r l => k0_pay7 (F := Ideal) i d p (ix2 r l)) c s (j 0) (j 1) rfl := by
  have hj : (j 1).val < 256 := (j 1).isLt
  unfold k0_pay1 k0_pay8 k0_pay4 k0_pay5 k0_pay9
  generalize k0_pay7 (F := Ideal) i d p = x
  pointwise [catK]
  rw [mask256 (j 1)]
  have hs : ∀ (p : Prop) [Decidable p] (a b : EReal), Scalar.select (if p then 1#1 else 0#1) a b = if p then a else b := by
    intro p _ a b
    by_cases h : p <;> simp [Scalar.select, h]
  rw [hs]
  have hx : (if (j 1).val % 64 < 32 then x (ix2 (j 0) ⟨((j 1).val + 256 - 224) % 256, Nat.mod_lt _ (by omega)⟩)
        else x (ix2 (j 0) ⟨((j 1).val + 256 - 32) % 256, Nat.mod_lt _ (by omega)⟩))
      = if h : (j 1).val % 64 < 32 then x (ix2 (j 0) ⟨(j 1).val + 32, by omega⟩) else x (ix2 (j 0) ⟨(j 1).val - 32, by omega⟩) := by
    by_cases h : (j 1).val % 64 < 32
    · have e : ((j 1).val + 256 - 224) % 256 = (j 1).val + 32 := by omega
      rw [if_pos h, dif_pos h]
      simp only [e]
    · have e : ((j 1).val + 256 - 32) % 256 = (j 1).val - 32 := by omega
      rw [if_neg h, dif_neg h]
      simp only [e]
  have hj' : x (ix2 (j 0) (j 1)) = x j := congrArg x (eq_ix2 j).symm
  unfold spin
  simp only [hj']
  exact hx ▸ rfl

/-- A block with the meta block's part added. -/
theorem payM (i : grid0.Coords) (d p : Vec Ideal S128x256 .f32) (j : S128x256.Idx) :
    k0_pay7 (F := Ideal) i d p j = d j + k0_pay3 (F := Ideal) i * p j := by
  unfold k0_pay7
  pointwise

/-- A block of the values' gradient. -/
theorem payV (a : EReal) (d p : Vec Ideal S128x256 .f32) (j : S128x256.Idx) :
    k0_pay2 (F := Ideal) a d p j = d j + a * p j := by
  unfold k0_pay2
  pointwise

/-- The first point's flag, as a word. -/
theorem word : ∀ t : Fin cfg0.N, Scalar.extui (Scalar.cmpi .eq (BitVec.ofNat 32 (grid0.coords t 0).val) 0#32) = if t.val = 0 then 1#32 else 0#32 :=
  (by decide +kernel : ∀ t : Fin grid0.N, Scalar.extui (Scalar.cmpi .eq (BitVec.ofNat 32 (grid0.coords t 0).val) 0#32) = if t.val = 0 then 1#32 else 0#32)

/-- The first point's flag. -/
theorem flag (t : Fin cfg0.N) : k0_pay3 (F := Ideal) (grid0.coords t) = if t.val = 0 then (1 : EReal) else 0 := by
  unfold k0_pay3
  dsimp only
  rw [word t]
  by_cases h : t.val = 0
  · rw [if_pos h, if_pos h]
    rw [Ideal.scalar_sitofp_def]
    simp
  · rw [if_neg h, if_neg h]
    rw [Ideal.scalar_sitofp_def]
    simp

/-- The kernel's table of cosines. -/
theorem cosines (m : (ℓ : Loc nD τ sig) → Buf (Elt Ideal) ℓ) (c : Dev nD) (j : S4224x128.Idx) :
    V m c main_v21 j = cosT (ix2 (j 0) ⟨(j 1).val % 32, Nat.mod_lt _ (by omega)⟩) := by
  have h : V m c main_v21 = shapeCast S4224x128 (broadcastInDim S1x4224x2x64 ![0, 1, 2, 3] bcast_S1x4224x1x64_S1x4224x2x64_0_1_2_3
     (shapeCast S1x4224x1x64 (concatenate S4224x64 1 [⟨S4224x32, cosT⟩, ⟨S4224x32, cosT⟩] concatenates_S4224x32_S4224x32_S4224x64_d1) shapeCasts_S4224x64_S1x4224x1x64)) shapeCasts_S1x4224x2x64_S4224x128 := by
    after_results
    rfl
  rw [h]
  generalize cosT = T
  pointwise
  by_cases h : (j 1).val % 64 < 32
  · have e : (j 1).val % 64 = (j 1).val % 32 := by omega
    rw [dif_pos h]
    simp only [e]
  · have e : (j 1).val % 64 - 32 = (j 1).val % 32 := by omega
    rw [dif_neg h]
    simp only [e]

/-- The kernel's table of sines, with the first half's sign turned. -/
theorem sines (m : (ℓ : Loc nD τ sig) → Buf (Elt Ideal) ℓ) (c : Dev nD) (j : S4224x128.Idx) :
    V m c main_v26 j = if (j 1).val % 64 < 32 then -sinT (ix2 (j 0) ⟨(j 1).val % 32, Nat.mod_lt _ (by omega)⟩)
      else sinT (ix2 (j 0) ⟨(j 1).val % 32, Nat.mod_lt _ (by omega)⟩) := by
  have h : V m c main_v26 = shapeCast S4224x128 (broadcastInDim S1x4224x2x64 ![0, 1, 2, 3] bcast_S1x4224x1x64_S1x4224x2x64_0_1_2_3
     (shapeCast S1x4224x1x64 (concatenate S4224x64 1 [⟨S4224x32, Host.negf (F := Ideal) (φ := .f32) sinT⟩, ⟨S4224x32, sinT⟩] concatenates_S4224x32_S4224x32_S4224x64_d1) shapeCasts_S4224x64_S1x4224x1x64)) shapeCasts_S1x4224x2x64_S4224x128 := by
    after_results
    rfl
  rw [h]
  generalize sinT = T
  pointwise
  by_cases h : (j 1).val % 64 < 32
  · have e : (j 1).val % 64 = (j 1).val % 32 := by omega
    rw [dif_pos h, if_pos h]
    simp only [e]
    try rfl
  · have e : (j 1).val % 64 - 32 = (j 1).val % 32 := by omega
    rw [dif_neg h, if_neg h]
    simp only [e]

/-- The table of cosines at a lane. -/
theorem cosine (m : (ℓ : Loc nD τ sig) → Buf (Elt Ideal) ℓ) (c : Dev nD) (r : Fin 4224) (l : Nat) :
    V m c main_v21 (ix2 r ⟨l % 128, Nat.mod_lt _ (by omega)⟩) = cosT (ix2 r ⟨l % 32, Nat.mod_lt _ (by omega)⟩) :=
  (cosines m c _).trans (congrArg (fun n => cosT (ix2 r n)) (Fin.ext (show l % 128 % 32 = l % 32 by omega)))

/-- The table of sines at a lane. -/
theorem sine (m : (ℓ : Loc nD τ sig) → Buf (Elt Ideal) ℓ) (c : Dev nD) (r : Fin 4224) (l : Nat) :
    V m c main_v26 (ix2 r ⟨l % 128, Nat.mod_lt _ (by omega)⟩)
      = if l % 64 < 32 then -sinT (ix2 r ⟨l % 32, Nat.mod_lt _ (by omega)⟩) else sinT (ix2 r ⟨l % 32, Nat.mod_lt _ (by omega)⟩) := by
  have e : (⟨l % 128 % 32, Nat.mod_lt _ (by omega)⟩ : Fin 32) = ⟨l % 32, Nat.mod_lt _ (by omega)⟩ :=
    Fin.ext (show l % 128 % 32 = l % 32 by omega)
  have h : (l % 128 % 64 < 32) = (l % 64 < 32) := by
    rw [show l % 128 % 64 = l % 64 by omega]
  refine (sines m c _).trans ?_
  show (if l % 128 % 64 < 32 then -sinT (ix2 r (⟨l % 128 % 32, Nat.mod_lt _ (by omega)⟩ : Fin 32))
    else sinT (ix2 r (⟨l % 128 % 32, Nat.mod_lt _ (by omega)⟩ : Fin 32))) = _
  rw [e]
  simp only [h]

/-- Where the blocks lie. -/
theorem idx : ∀ t : Fin cfg0.N, (win0_7.index t 0 = t.val ∧ win0_7.index t 1 = 0) ∧ (win0_0.index t 0 = t.val ∧ win0_0.index t 1 = 0) ∧ (win0_1.index t 0 = t.val ∧ win0_1.index t 1 = 0) ∧ (win0_2.index t 0 = t.val ∧ win0_2.index t 1 = 0) ∧ (win0_3.index t 0 = 0 ∧ win0_3.index t 1 = 0) ∧ (win0_4.index t 0 = 0 ∧ win0_4.index t 1 = 0) ∧ (win0_5.index t 0 = t.val ∧ win0_5.index t 1 = 0) ∧ (win0_6.index t 0 = t.val ∧ win0_6.index t 1 = 0) :=
  (by decide +kernel : ∀ t : Fin grid0.N, (win0_7.index t 0 = t.val ∧ win0_7.index t 1 = 0) ∧ (win0_0.index t 0 = t.val ∧ win0_0.index t 1 = 0) ∧ (win0_1.index t 0 = t.val ∧ win0_1.index t 1 = 0) ∧ (win0_2.index t 0 = t.val ∧ win0_2.index t 1 = 0) ∧ (win0_3.index t 0 = 0 ∧ win0_3.index t 1 = 0) ∧ (win0_4.index t 0 = 0 ∧ win0_4.index t 1 = 0) ∧ (win0_5.index t 0 = t.val ∧ win0_5.index t 1 = 0) ∧ (win0_6.index t 0 = t.val ∧ win0_6.index t 1 = 0))

variable (m : (ℓ : Loc nD τ sig) → Buf (Elt Ideal) ℓ)

/-- The blocks of the queries' gradient. -/
theorem blk0 (c : Dev nD) (t : Fin cfg0.N) (y : S128x2048.Idx) (e : S4224x2048.Idx)
    (k0 : (e 0).val = t.val * 128 + (y 0).val) (k1 : (e 1).val = (y 1).val) :
    iblk m c 0 t y = m ((c : Thread nD τ).loc main_arg1) e := by
  have h := idx t
  obtain ⟨e0, e1⟩ := h.2.1
  rw [← V_main_arg1 m c]
  blk_ext [iblk, e0, e1, k0, k1]

/-- The blocks of the keys' gradient. -/
theorem blk1 (c : Dev nD) (t : Fin cfg0.N) (y : S128x256.Idx) (e : S4224x256.Idx)
    (k0 : (e 0).val = t.val * 128 + (y 0).val) (k1 : (e 1).val = (y 1).val) :
    iblk m c 1 t y = m ((c : Thread nD τ).loc main_arg2) e := by
  have h := idx t
  obtain ⟨e0, e1⟩ := h.2.2.1
  rw [← V_main_arg2 m c]
  blk_ext [iblk, e0, e1, k0, k1]

/-- The blocks of the values' gradient. -/
theorem blk2 (c : Dev nD) (t : Fin cfg0.N) (y : S128x256.Idx) (e : S4224x256.Idx)
    (k0 : (e 0).val = t.val * 128 + (y 0).val) (k1 : (e 1).val = (y 1).val) :
    iblk m c 2 t y = m ((c : Thread nD τ).loc main_arg3) e := by
  have h := idx t
  obtain ⟨e0, e1⟩ := h.2.2.2.1
  rw [← V_main_arg3 m c]
  blk_ext [iblk, e0, e1, k0, k1]

/-- The blocks of the meta block's part for the keys. -/
theorem blk3 (c : Dev nD) (t : Fin cfg0.N) (y : S128x256.Idx) (e : S128x256.Idx)
    (k0 : (e 0).val = (y 0).val) (k1 : (e 1).val = (y 1).val) :
    iblk m c 3 t y = m ((c : Thread nD τ).loc main_arg4) e := by
  have h := idx t
  obtain ⟨e0, e1⟩ := h.2.2.2.2.1
  rw [← V_main_arg4 m c]
  blk_ext [iblk, e0, e1, k0, k1]

/-- The blocks of the meta block's part for the values. -/
theorem blk4 (c : Dev nD) (t : Fin cfg0.N) (y : S128x256.Idx) (e : S128x256.Idx)
    (k0 : (e 0).val = (y 0).val) (k1 : (e 1).val = (y 1).val) :
    iblk m c 4 t y = m ((c : Thread nD τ).loc main_arg5) e := by
  have h := idx t
  obtain ⟨e0, e1⟩ := h.2.2.2.2.2.1
  rw [← V_main_arg5 m c]
  blk_ext [iblk, e0, e1, k0, k1]

/-- The blocks of the cosines. -/
theorem blk5 (c : Dev nD) (t : Fin cfg0.N) (y : S128x128.Idx) (e : S4224x128.Idx)
    (k0 : (e 0).val = t.val * 128 + (y 0).val) (k1 : (e 1).val = (y 1).val) :
    iblk m c 5 t y = V m c main_v21 e := by
  have h := idx t
  obtain ⟨e0, e1⟩ := h.2.2.2.2.2.2.1
  blk_ext [iblk, e0, e1, k0, k1]

/-- The blocks of the sines. -/
theorem blk6 (c : Dev nD) (t : Fin cfg0.N) (y : S128x128.Idx) (e : S4224x128.Idx)
    (k0 : (e 0).val = t.val * 128 + (y 0).val) (k1 : (e 1).val = (y 1).val) :
    iblk m c 6 t y = V m c main_v26 e := by
  have h := idx t
  obtain ⟨e0, e1⟩ := h.2.2.2.2.2.2.2
  blk_ext [iblk, e0, e1, k0, k1]

/-- What a list of stores left, the newest of them some columns. -/
theorem col_canon {Val : EltTy → Type} [∀ e, Nonempty (Val e)] {el : EltTy} {m n k o : ℕ}
    (inb : ∀ a, (![0, o] : Fin 2 → ℕ) a + (⟨2, ![m, k]⟩ : Shape).size a ≤ (⟨2, ![m, n]⟩ : Shape).size a)
    (x : (⟨2, ![m, k]⟩ : Shape).Idx → Val el) (L : List (View.Piece Val (⟨2, ![m, n]⟩ : Shape) el)) (y : (⟨2, ![m, n]⟩ : Shape).Idx) :
    View.canon ((⟨(Rect.unit (s := (⟨2, ![m, n]⟩ : Shape)) ![0, o] (⟨2, ![m, k]⟩ : Shape).size inb), x⟩ : View.Piece Val (⟨2, ![m, n]⟩ : Shape) el) :: L) y
      = if h : o ≤ (y 1).val ∧ (y 1).val < o + k then x (ix2 (y 0) ⟨(y 1).val - o, by omega⟩) else View.canon L y := by
  by_cases h : o ≤ (y 1).val ∧ (y 1).val < o + k
  · rw [dif_pos h]
    have e : y = (Rect.unit (s := (⟨2, ![m, n]⟩ : Shape)) ![0, o] (⟨2, ![m, k]⟩ : Shape).size inb).emb (ix2 (y 0) ⟨(y 1).val - o, by omega⟩) := by
      funext a
      refine Fin.ext ?_
      rw [Rect.emb_apply]
      fin_cases a
      · show (y 0).val = 0 + 1 * (y 0).val
        omega
      · show (y 1).val = o + 1 * ((y 1).val - o)
        omega
    exact (congrArg _ e).trans (View.canon_cons_emb
      (Rect.unit (s := (⟨2, ![m, n]⟩ : Shape)) ![0, o] (⟨2, ![m, k]⟩ : Shape).size inb) x L _)
  · rw [dif_neg h]
    refine View.canon_cons_of_not_mem _ L fun hm => h ?_
    have h1 : o ≤ (y 1).val ∧ (y 1).val < o + k := (Rect.mem_set_unit (inb := inb)).mp hm 1
    exact h1

/-- A grid point turns its rows back. -/
theorem spin_back {W : Nat} (x : Fin 128 → Fin W → EReal) (d : Fin 4224 → Fin W → EReal) (c : Dev nD) (t : Fin cfg0.N)
    (a : Fin 128) (r : Fin 4224) (l : Fin W) (hW : W % 64 = 0) (k0 : r.val = t.val * 128 + a.val) (hx : ∀ l, x a l = d r l) :
    spin x (iblk m c 5 t) (iblk m c 6 t) a l hW = back d r l hW := by
  have hc := (blk5 m c t (ix2 a ⟨l.val % 128, Nat.mod_lt _ (by omega)⟩)
    (ix2 r ⟨l.val % 128, Nat.mod_lt _ (by omega)⟩) k0 rfl).trans (cosine m c r l.val)
  have hs := (blk6 m c t (ix2 a ⟨l.val % 128, Nat.mod_lt _ (by omega)⟩)
    (ix2 r ⟨l.val % 128, Nat.mod_lt _ (by omega)⟩) k0 rfl).trans (sine m c r l.val)
  unfold spin back
  rw [hc, hs]
  by_cases h : l.val % 64 < 32
  · rw [if_pos h, dif_pos h, dif_pos h, hx, hx, mul_neg, sub_eq_add_neg, neg_neg]
  · rw [if_neg h, dif_neg h, dif_neg h, hx, hx]

/-- A grid point's block with the meta block's part. -/
theorem block_meta (dk : S4224x256.Idx → EReal) (pk : S128x256.Idx → EReal) (t : Fin cfg0.N) (d p : S128x256.Idx → EReal)
    (a : Fin 128) (r : Fin 4224) (k0 : r.val = t.val * 128 + a.val) (hd : ∀ l, d (ix2 a l) = dk (ix2 r l)) (hp : p = pk) (l : Fin 256) :
    d (ix2 a l) + k0_pay3 (F := Ideal) (grid0.coords t) * p (ix2 a l) = withMeta dk pk r l := by
  have ha := a.isLt
  unfold withMeta
  rw [flag t, hd, hp]
  by_cases h : t.val = 0
  · have h' : r.val < 128 := by omega
    have e : a = ⟨r.val, h'⟩ := Fin.ext (show a.val = r.val by omega)
    rw [if_pos h, dif_pos h', one_mul, ← e]
  · have h' : ¬r.val < 128 := by omega
    rw [if_neg h, dif_neg h', zero_mul, add_zero]

/-- What a grid point writes. -/
theorem tile (c : Dev nD) (t : Fin cfg0.N) (y : S128x2560.Idx) (e : S4224x14848.Idx)
    (k0 : (e 0).val = t.val * 128 + (y 0).val) (k1 : (e 1).val = (y 1).val) :
    outsAt0 m c t y = written (m ((c : Thread nD τ).loc main_arg1)) (m ((c : Thread nD τ).loc main_arg2)) (m ((c : Thread nD τ).loc main_arg3)) (m ((c : Thread nD τ).loc main_arg4)) (m ((c : Thread nD τ).loc main_arg5)) e := by
  have hy : (y 1).val < 2560 := (y 1).isLt
  have p3 : iblk m c 3 t = m ((c : Thread nD τ).loc main_arg4) := by
    funext j
    exact blk3 m c t j j (by omega) rfl
  have p4 : iblk m c 4 t = m ((c : Thread nD τ).loc main_arg5) := by
    funext j
    exact blk4 m c t j j (by omega) rfl
  unfold outsAt0
  frame_out
  refine (col_canon (m := 128) (n := 2560) (k := 256) (o := 2304) _ _ _ y).trans ?_
  unfold written
  by_cases h1 : 2304 ≤ (y 1).val
  · rw [dif_pos ⟨h1, by omega⟩, dif_neg (by omega : ¬(e 1).val < 2048), dif_neg (by omega : ¬(e 1).val < 2304)]
    refine (payV _ _ _ _).trans ((block_meta _ _ t _ _ (y 0) (e 0) k0 (fun l => blk2 m c t (ix2 (y 0) l) (ix2 (e 0) l) k0 rfl) p4 _).trans ?_)
    refine congrArg _ (Fin.ext ?_)
    show (y 1).val - 2304 = ((e 1).val - 2304) % 256
    omega
  · rw [dif_neg (by omega)]
    refine (col_canon (m := 128) (n := 2560) (k := 256) (o := 2048) _ _ _ y).trans ?_
    by_cases h2 : 2048 ≤ (y 1).val
    · rw [dif_pos ⟨h2, by omega⟩, dif_neg (by omega : ¬(e 1).val < 2048), dif_pos (by omega : (e 1).val < 2304)]
      refine (payK _ _ _ _ _ _).trans ?_
      refine (spin_back m _ (withMeta (m ((c : Thread nD τ).loc main_arg2)) (m ((c : Thread nD τ).loc main_arg4))) c t (y 0) (e 0) _ rfl k0 fun l => ?_).trans ?_
      · exact (payM _ _ _ _).trans (block_meta _ _ t _ _ (y 0) (e 0) k0 (fun l => blk1 m c t (ix2 (y 0) l) (ix2 (e 0) l) k0 rfl) p3 l)
      · refine congrArg (fun l => back _ _ l rfl) (Fin.ext ?_)
        show (y 1).val - 2048 = (e 1).val - 2048
        omega
    · rw [dif_neg (by omega)]
      refine (col_canon (m := 128) (n := 2560) (k := 2048) (o := 0) _ _ _ y).trans ?_
      rw [dif_pos ⟨by omega, by omega⟩, dif_pos (by omega : (e 1).val < 2048)]
      refine (payQ _ _ _ _).trans (congrArg (· * Ideal.ofBits .f32 0x3E000000#32) ?_)
      refine (spin_back m _ (fun r l => m ((c : Thread nD τ).loc main_arg1) (ix2 r l)) c t (y 0) (e 0) _ rfl k0
        fun l => blk0 m c t (ix2 (y 0) l) (ix2 (e 0) l) k0 rfl).trans ?_
      refine congrArg (fun l => back _ _ l rfl) (Fin.ext ?_)
      show (y 1).val - 0 = (e 1).val
      omega

/-- The kernel's array after the run. -/
theorem final (c : Dev nD) : (dats m 0 c).arrAt 7 cfg0.N = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((dats m 0 c).arrAt_eq_of_coversWhere 7 (written (m ((c : Thread nD τ).loc main_arg1)) (m ((c : Thread nD τ).loc main_arg2)) (m ((c : Thread nD τ).loc main_arg3)) (m ((c : Thread nD τ).loc main_arg4)) (m ((c : Thread nD τ).loc main_arg5))) (P := fun i => (i 1).val / 2560 < 1)
      (fun β => β (1 : Fin _) < 1) (by decide +kernel) (fun t hf y => ?_) (fun j => Iff.rfl)).trans ?_
  · obtain ⟨g0, g1⟩ := (idx t).1
    blk_simp
    rw [after0_7]
    refine tile m c t _ _ ?_ ?_
    · blk_simp [g0]
    · blk_simp [g1]
  · funext i
    unfold out
    rw [A_eq]
    congr 1

/-- The scale of the queries is a number. -/
theorem scale : ∃ r : ℝ, 0 ≤ r ∧ Ideal.ofBits .f32 0x3E000000#32 = (r : EReal) := by
  refine ⟨1 / 8, by norm_num, ?_⟩
  simp [Ideal.ofBits, Ideal.ieee]
  rw [← EReal.coe_mul]
  norm_num

/-- A number that is not negative goes into a sum. -/
theorem into_add (a b : EReal) : (a + b) * Ideal.ofBits .f32 0x3E000000#32
    = a * Ideal.ofBits .f32 0x3E000000#32 + b * Ideal.ofBits .f32 0x3E000000#32 := by
  obtain ⟨r, h, e⟩ := scale
  rw [e]
  exact EReal.right_distrib_of_nonneg_of_ne_top (by exact_mod_cast h) (EReal.coe_ne_top r) a b

/-- A difference of products. -/
theorem minus_form (a b s : EReal) : a + -b * s = a - b * s := by
  rw [sub_eq_add_neg, neg_mul]

/-- Scaled terms, turned back: the sum. -/
theorem scaled_plus (a b c s : EReal) : b * Ideal.ofBits .f32 0x3E000000#32 * s + a * Ideal.ofBits .f32 0x3E000000#32 * c
    = (a * c + b * s) * Ideal.ofBits .f32 0x3E000000#32 := by
  rw [into_add, mul_right_comm b, mul_right_comm a, add_comm]

/-- Scaled terms, turned back: the difference. -/
theorem scaled_minus (a b c s : EReal) : a * Ideal.ofBits .f32 0x3E000000#32 * c + -(b * Ideal.ofBits .f32 0x3E000000#32) * s
    = (a * c - b * s) * Ideal.ofBits .f32 0x3E000000#32 := by
  rw [sub_eq_add_neg, into_add, ← neg_mul b s, mul_right_comm a, ← neg_mul b (Ideal.ofBits .f32 0x3E000000#32), mul_right_comm (-b)]

open Cert.RopeBRefIdeal.Read

/-- Zeros before an array of halves of heads. -/
theorem padBefore32 (x : Cert.RopeBRefIdeal.S4224x32x32.Idx → EReal) (v : Cert.RopeBRefIdeal.S_.Idx → EReal) (h : _) (hu : _) (j : Cert.RopeBRefIdeal.S4224x32x64.Idx) :
    pad Cert.RopeBRefIdeal.S4224x32x64 ![0, 0, 32] ![0, 0, 0] ![0, 0, 0] x v h hu j
      = if hj : 32 ≤ (j 2).val then x (ix3 (j 0) (j 1) ⟨(j 2).val - 32, by have := (j 2).isLt; change _ < 64 at this; omega⟩) else v (Shape.Idx.first hu) := by
  have h2 : (j 2).val < 64 := (j 2).isLt
  have h0 : (j 0).val < 4224 := (j 0).isLt
  have h1 : (j 1).val < 32 := (j 1).isLt
  rw [pad_apply]
  by_cases hj : 32 ≤ (j 2).val
  · rw [dif_pos hj, dif_pos]
    · refine congrArg x (funext fun a => Fin.ext ?_)
      match a with
      | ⟨0, _⟩ => show ((j 0).val - 0) / 1 = (j 0).val; omega
      | ⟨1, _⟩ => show ((j 1).val - 0) / 1 = (j 1).val; omega
      | ⟨2, _⟩ => show ((j 2).val - 32) / 1 = (j 2).val - 32; omega
    · intro a
      match a with
      | ⟨0, _⟩ => show 0 ≤ (j 0).val ∧ ((j 0).val - 0) % 1 = 0 ∧ ((j 0).val - 0) / 1 < 4224; omega
      | ⟨1, _⟩ => show 0 ≤ (j 1).val ∧ ((j 1).val - 0) % 1 = 0 ∧ ((j 1).val - 0) / 1 < 32; omega
      | ⟨2, _⟩ => show 32 ≤ (j 2).val ∧ ((j 2).val - 32) % 1 = 0 ∧ ((j 2).val - 32) / 1 < 32; omega
  · rw [dif_neg hj, dif_neg]
    intro hin
    exact hj (hin (2 : Fin 3)).1

/-- Zeros after an array of halves of heads. -/
theorem padAfter32 (x : Cert.RopeBRefIdeal.S4224x32x32.Idx → EReal) (v : Cert.RopeBRefIdeal.S_.Idx → EReal) (h : _) (hu : _) (j : Cert.RopeBRefIdeal.S4224x32x64.Idx) :
    pad Cert.RopeBRefIdeal.S4224x32x64 ![0, 0, 0] ![0, 0, 32] ![0, 0, 0] x v h hu j
      = if hj : (j 2).val < 32 then x (ix3 (j 0) (j 1) ⟨(j 2).val, hj⟩) else v (Shape.Idx.first hu) := by
  have h0 : (j 0).val < 4224 := (j 0).isLt
  have h1 : (j 1).val < 32 := (j 1).isLt
  rw [pad_apply]
  by_cases hj : (j 2).val < 32
  · rw [dif_pos hj, dif_pos]
    · refine congrArg x (funext fun a => Fin.ext ?_)
      match a with
      | ⟨0, _⟩ => show ((j 0).val - 0) / 1 = (j 0).val; omega
      | ⟨1, _⟩ => show ((j 1).val - 0) / 1 = (j 1).val; omega
      | ⟨2, _⟩ => show ((j 2).val - 0) / 1 = (j 2).val; omega
    · intro a
      match a with
      | ⟨0, _⟩ => show 0 ≤ (j 0).val ∧ ((j 0).val - 0) % 1 = 0 ∧ ((j 0).val - 0) / 1 < 4224; omega
      | ⟨1, _⟩ => show 0 ≤ (j 1).val ∧ ((j 1).val - 0) % 1 = 0 ∧ ((j 1).val - 0) / 1 < 32; omega
      | ⟨2, _⟩ => show 0 ≤ (j 2).val ∧ ((j 2).val - 0) % 1 = 0 ∧ ((j 2).val - 0) / 1 < 32; omega
  · rw [dif_neg hj, dif_neg]
    intro hin
    have := (hin (2 : Fin 3)).2.2
    change ((j 2).val - 0) / 1 < 32 at this
    omega

/-- Zeros before an array of halves of heads. -/
theorem padBefore4 (x : Cert.RopeBRefIdeal.S4224x4x32.Idx → EReal) (v : Cert.RopeBRefIdeal.S_.Idx → EReal) (h : _) (hu : _) (j : Cert.RopeBRefIdeal.S4224x4x64.Idx) :
    pad Cert.RopeBRefIdeal.S4224x4x64 ![0, 0, 32] ![0, 0, 0] ![0, 0, 0] x v h hu j
      = if hj : 32 ≤ (j 2).val then x (ix3 (j 0) (j 1) ⟨(j 2).val - 32, by have := (j 2).isLt; change _ < 64 at this; omega⟩) else v (Shape.Idx.first hu) := by
  have h2 : (j 2).val < 64 := (j 2).isLt
  have h0 : (j 0).val < 4224 := (j 0).isLt
  have h1 : (j 1).val < 4 := (j 1).isLt
  rw [pad_apply]
  by_cases hj : 32 ≤ (j 2).val
  · rw [dif_pos hj, dif_pos]
    · refine congrArg x (funext fun a => Fin.ext ?_)
      match a with
      | ⟨0, _⟩ => show ((j 0).val - 0) / 1 = (j 0).val; omega
      | ⟨1, _⟩ => show ((j 1).val - 0) / 1 = (j 1).val; omega
      | ⟨2, _⟩ => show ((j 2).val - 32) / 1 = (j 2).val - 32; omega
    · intro a
      match a with
      | ⟨0, _⟩ => show 0 ≤ (j 0).val ∧ ((j 0).val - 0) % 1 = 0 ∧ ((j 0).val - 0) / 1 < 4224; omega
      | ⟨1, _⟩ => show 0 ≤ (j 1).val ∧ ((j 1).val - 0) % 1 = 0 ∧ ((j 1).val - 0) / 1 < 4; omega
      | ⟨2, _⟩ => show 32 ≤ (j 2).val ∧ ((j 2).val - 32) % 1 = 0 ∧ ((j 2).val - 32) / 1 < 32; omega
  · rw [dif_neg hj, dif_neg]
    intro hin
    exact hj (hin (2 : Fin 3)).1

/-- Zeros after an array of halves of heads. -/
theorem padAfter4 (x : Cert.RopeBRefIdeal.S4224x4x32.Idx → EReal) (v : Cert.RopeBRefIdeal.S_.Idx → EReal) (h : _) (hu : _) (j : Cert.RopeBRefIdeal.S4224x4x64.Idx) :
    pad Cert.RopeBRefIdeal.S4224x4x64 ![0, 0, 0] ![0, 0, 32] ![0, 0, 0] x v h hu j
      = if hj : (j 2).val < 32 then x (ix3 (j 0) (j 1) ⟨(j 2).val, hj⟩) else v (Shape.Idx.first hu) := by
  have h0 : (j 0).val < 4224 := (j 0).isLt
  have h1 : (j 1).val < 4 := (j 1).isLt
  rw [pad_apply]
  by_cases hj : (j 2).val < 32
  · rw [dif_pos hj, dif_pos]
    · refine congrArg x (funext fun a => Fin.ext ?_)
      match a with
      | ⟨0, _⟩ => show ((j 0).val - 0) / 1 = (j 0).val; omega
      | ⟨1, _⟩ => show ((j 1).val - 0) / 1 = (j 1).val; omega
      | ⟨2, _⟩ => show ((j 2).val - 0) / 1 = (j 2).val; omega
    · intro a
      match a with
      | ⟨0, _⟩ => show 0 ≤ (j 0).val ∧ ((j 0).val - 0) % 1 = 0 ∧ ((j 0).val - 0) / 1 < 4224; omega
      | ⟨1, _⟩ => show 0 ≤ (j 1).val ∧ ((j 1).val - 0) % 1 = 0 ∧ ((j 1).val - 0) / 1 < 4; omega
      | ⟨2, _⟩ => show 0 ≤ (j 2).val ∧ ((j 2).val - 0) % 1 = 0 ∧ ((j 2).val - 0) / 1 < 32; omega
  · rw [dif_neg hj, dif_neg]
    intro hin
    have := (hin (2 : Fin 3)).2.2
    change ((j 2).val - 0) / 1 < 32 at this
    omega

set_option maxHeartbeats 2000000 in
/-- The reference's gradient of the queries. -/
theorem refQ (x1 : FVec Ideal S4224x2048 .f32) (i : S4224x2048.Idx) :
    val_main_v117 (F := Ideal) x1 i = back (fun r l => x1 (ix2 r l)) (i 0) (i 1) rfl * Ideal.ofBits .f32 0x3E000000#32 := by
  have hi : (i 1).val < 2048 := (i 1).isLt
  unfold back cosT sinT
  pointwise [val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_cst_13, val_main_cst_14, val_main_cst_15, val_main_v25, val_main_v27, padBefore32, padAfter32]

  generalize val_main_v24 (F := Ideal) = C
  generalize val_main_v26 (F := Ideal) = S
  by_cases h : (i 1).val % 64 < 32
  · have e1 : (i 1).val % 64 = (i 1).val % 32 := by omega
    have e2 : (i 1).val / 64 * 64 + (32 + (i 1).val % 64) = (i 1).val + 32 := by omega
    rw [dif_neg (by omega : ¬32 ≤ (i 1).val % 64), dif_pos h, dif_pos h, zero_add]
    have e4 : (i 1).val / 64 * 64 + (32 + (i 1).val % 32) = (i 1).val + 32 := by omega
    simp only [e1, e4]
    exact scaled_plus _ _ _ _
  · have e1 : (i 1).val % 64 - 32 = (i 1).val % 32 := by omega
    have e2 : (i 1).val / 64 * 64 + (32 + ((i 1).val % 64 - 32)) = (i 1).val := by omega
    have e3 : (i 1).val / 64 * 64 + ((i 1).val % 64 - 32) = (i 1).val - 32 := by omega
    rw [dif_pos (by omega : 32 ≤ (i 1).val % 64), dif_neg h, dif_neg h, add_zero]
    have e5 : (i 1).val / 64 * 64 + (32 + (i 1).val % 32) = (i 1).val := by omega
    have e6 : (i 1).val / 64 * 64 + (i 1).val % 32 = (i 1).val - 32 := by omega
    simp only [e1, e5, e6]
    have e4 : x1 (ix2 (i 0) ⟨(i 1).val, hi⟩) = x1 i := congrArg x1 (eq_ix2 i).symm
    refine (scaled_minus _ _ _ _).trans ?_
    exact congrArg₂ (· * ·) (congrArg₂ (· - ·) (congrArg₂ (· * ·) e4 rfl) rfl) rfl

/-- The reference's sum with the meta block's part, of the keys. -/
theorem refP (x2 : FVec Ideal S4224x256 .f32) (x4 : FVec Ideal S128x256 .f32) (i : S4224x256.Idx) :
    val_main_v2 (F := Ideal) x2 x4 i = withMeta x2 x4 (i 0) (i 1) := by
  have hi : (i 0).val < 4224 := (i 0).isLt
  unfold withMeta
  pointwise [val_main_v2, val_main_v1, val_main_v0, val_main_cst]
  by_cases h : (i 0).val < 128
  · rw [dif_pos h, dif_pos h]
  · rw [dif_neg h, dif_neg h, add_zero]

/-- The same of the values. -/
theorem refV (x3 : FVec Ideal S4224x256 .f32) (x5 : FVec Ideal S128x256 .f32) (i : S4224x256.Idx) :
    val_main_v119 (F := Ideal) x3 x5 i = withMeta x3 x5 (i 0) (i 1) := by
  have hi : (i 0).val < 4224 := (i 0).isLt
  unfold withMeta
  pointwise [val_main_v119, val_main_v4, val_main_v3, val_main_v0, val_main_cst]
  by_cases h : (i 0).val < 128
  · rw [dif_pos h, dif_pos h]
  · rw [dif_neg h, dif_neg h, add_zero]

set_option maxHeartbeats 2000000 in
/-- The reference's gradient of the keys. -/
theorem refK (x2 : FVec Ideal S4224x256 .f32) (x4 : FVec Ideal S128x256 .f32) (i : S4224x256.Idx) :
    val_main_v118 (F := Ideal) x2 x4 i = back (withMeta x2 x4) (i 0) (i 1) rfl := by
  have hi : (i 1).val < 256 := (i 1).isLt
  have hc : val_main_v61 (F := Ideal) = cosT := by
    unfold cosT
    simp only [val_main_v8, val_main_v9, val_main_v10, val_main_v11, val_main_v12, val_main_v13, val_main_v14, val_main_v15, val_main_v16, val_main_v17, val_main_v18, val_main_v19, val_main_v20, val_main_v21, val_main_v22, val_main_v23, val_main_v24, val_main_v26, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v63, val_main_cst_2, val_main_cst_3, val_main_cst_4, val_main_cst_5, val_main_cst_6, val_main_cst_7, val_main_cst_8, val_main_cst_9, val_main_cst_10]
  have hs : val_main_v63 (F := Ideal) = sinT := by
    unfold sinT
    simp only [val_main_v8, val_main_v9, val_main_v10, val_main_v11, val_main_v12, val_main_v13, val_main_v14, val_main_v15, val_main_v16, val_main_v17, val_main_v18, val_main_v19, val_main_v20, val_main_v21, val_main_v22, val_main_v23, val_main_v24, val_main_v26, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v63, val_main_cst_2, val_main_cst_3, val_main_cst_4, val_main_cst_5, val_main_cst_6, val_main_cst_7, val_main_cst_8, val_main_cst_9, val_main_cst_10]
  unfold back
  pointwise [val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_cst_11, val_main_cst_12, val_main_v62, val_main_v64, val_main_v118, padBefore4, padAfter4]
  rw [hc, hs]
  generalize cosT = C
  generalize sinT = S
  simp only [refP]
  by_cases h : (i 1).val % 64 < 32
  · have e1 : (i 1).val % 64 = (i 1).val % 32 := by omega
    have e2 : (i 1).val / 64 * 64 + (32 + (i 1).val % 64) = (i 1).val + 32 := by omega
    rw [dif_neg (by omega : ¬32 ≤ (i 1).val % 64), dif_pos h, dif_pos h, zero_add]
    refine (congrArg₂ (· + ·) (congrArg₂ (· * ·) (congrArg (withMeta x2 x4 (i 0)) (Fin.ext e2)) (congrArg (fun n => S (ix2 (i 0) n)) (Fin.ext e1)))
      (congrArg (fun n => withMeta x2 x4 (i 0) (i 1) * C (ix2 (i 0) n)) (Fin.ext e1))).trans (add_comm _ _)
  · have e1 : (i 1).val % 64 - 32 = (i 1).val % 32 := by omega
    have e2 : (i 1).val / 64 * 64 + (32 + ((i 1).val % 64 - 32)) = (i 1).val := by omega
    have e3 : (i 1).val / 64 * 64 + ((i 1).val % 64 - 32) = (i 1).val - 32 := by omega
    rw [dif_pos (by omega : 32 ≤ (i 1).val % 64), dif_neg h, dif_neg h, add_zero]
    refine Eq.trans ?_ (minus_form _ _ _)
    exact congrArg₂ (· + ·) (congrArg₂ (· * ·) (congrArg (withMeta x2 x4 (i 0)) (Fin.ext e2)) (congrArg (fun n => C (ix2 (i 0) n)) (Fin.ext e1)))
      (congrArg₂ (· * ·) (congrArg (fun n => -withMeta x2 x4 (i 0) n) (Fin.ext e3)) (congrArg (fun n => S (ix2 (i 0) n)) (Fin.ext e1)))

set_option maxHeartbeats 2000000 in
/-- The reference's result is the same function. -/
theorem ref (x0 : FVec Ideal S4224x14848 .bf16) (x1 : FVec Ideal S4224x2048 .f32) (x2 x3 : FVec Ideal S4224x256 .f32) (x4 x5 : FVec Ideal S128x256 .f32) :
    val_main_v121 (F := Ideal) x0 x1 x2 x3 x4 x5 = out x0 x1 x2 x3 x4 x5 := by
  funext i
  have hi : (i 1).val < 14848 := (i 1).isLt
  unfold out written
  pointwise [val_main_v121, val_main_v120]
  by_cases h1 : (i 1).val < 2048
  · have hp : (i 1).val / 2560 < 1 := by omega
    refine (dif_pos h1).trans ((refQ x1 _).trans ?_)
    refine Eq.trans ?_ (if_pos hp).symm
    refine Eq.trans ?_ (dif_pos h1).symm
    rfl
  · by_cases h2 : (i 1).val < 2304
    · have hp : (i 1).val / 2560 < 1 := by omega
      have g2 : (i 1).val - 2048 < 256 := by omega
      refine (dif_neg h1).trans ((dif_pos g2).trans ((refK x2 x4 _).trans ?_))
      refine Eq.trans ?_ (if_pos hp).symm
      refine Eq.trans ?_ (dif_neg h1).symm
      refine Eq.trans ?_ (dif_pos h2).symm
      rfl
    · have g2 : ¬(i 1).val - 2048 < 256 := by omega
      by_cases h3 : (i 1).val < 2560
      · have hp : (i 1).val / 2560 < 1 := by omega
        have g3 : (i 1).val - 2048 - 256 < 256 := by omega
        refine (dif_neg h1).trans ((dif_neg g2).trans ((dif_pos g3).trans ((refV x3 x5 _).trans ?_)))
        refine Eq.trans ?_ (if_pos hp).symm
        refine Eq.trans ?_ (dif_neg h1).symm
        refine Eq.trans ?_ (dif_neg h2).symm
        refine congrArg (withMeta x3 x5 (i 0)) (Fin.ext ?_)
        show (i 1).val - 2048 - 256 = ((i 1).val - 2304) % 256
        omega
      · have hp : ¬(i 1).val / 2560 < 1 := by omega
        have g3 : ¬(i 1).val - 2048 - 256 < 256 := by omega
        refine (dif_neg h1).trans ((dif_neg g2).trans ((dif_neg g3).trans ?_))
        refine Eq.trans ?_ (if_neg hp).symm
        refine congrArg x0 (funext fun a => Fin.ext ?_)
        match a with
        | ⟨0, _⟩ => rfl
        | ⟨1, _⟩ => show 2560 + ((i 1).val - 2048 - 256 - 256) = (i 1).val; omega

end Cert.RopeBIdeal.Rope

end
-- ==== Proof.Rope.Claims.lean ====
module

public import proofs.«01_k».proof.Defs
public import proofs.«01_k».proof.Proof.Rope.RopeF
public import proofs.«01_k».proof.Proof.Rope.RopeB

@[expose] public section

set_option maxRecDepth 16384

noncomputable section

namespace Cert.Rope.Claims

open Idealize.ShloMosaic Idealize.ShloMosaic.TcCoe Idealize.SL.Sem

/-- The rotary embedding. -/
theorem eqRopeF : Cert.algebraic_RopeFIdeal_RopeFRefIdeal := fun m g m' g' _ h =>
  ⟨fun c => Cert.RopeFIdeal.Rope.out (m ((c.tc : Thread Cert.RopeFIdeal.nD Cert.RopeFIdeal.τ).loc Cert.RopeFIdeal.main_arg0)),
    (θ_run Cert.RopeFIdeal.defs _ _).mono (fun _ hr c => ⟨(hr c).1.trans (Cert.RopeFIdeal.Rope.final m c), (hr c).2⟩)
      (Cert.RopeFIdeal.Value.run_blocks m g),
    (θ_run Cert.RopeFRefIdeal.defs _ _).mono (fun _ hr c => ⟨(hr c).1.trans ((Cert.RopeFIdeal.Rope.ref _).trans (by rw [(h c)])), (hr c).2⟩)
      (Cert.RopeFRefIdeal.Value.run m' g')⟩

/-- The gradient of the rotary embedding. -/
theorem eqRopeB : Cert.algebraic_RopeBIdeal_RopeBRefIdeal := fun m g m' g' _ h =>
  ⟨fun c => Cert.RopeBIdeal.Rope.out (m ((c.tc : Thread Cert.RopeBIdeal.nD Cert.RopeBIdeal.τ).loc Cert.RopeBIdeal.main_arg0)) (m ((c.tc : Thread Cert.RopeBIdeal.nD Cert.RopeBIdeal.τ).loc Cert.RopeBIdeal.main_arg1)) (m ((c.tc : Thread Cert.RopeBIdeal.nD Cert.RopeBIdeal.τ).loc Cert.RopeBIdeal.main_arg2)) (m ((c.tc : Thread Cert.RopeBIdeal.nD Cert.RopeBIdeal.τ).loc Cert.RopeBIdeal.main_arg3)) (m ((c.tc : Thread Cert.RopeBIdeal.nD Cert.RopeBIdeal.τ).loc Cert.RopeBIdeal.main_arg4)) (m ((c.tc : Thread Cert.RopeBIdeal.nD Cert.RopeBIdeal.τ).loc Cert.RopeBIdeal.main_arg5)),
    (θ_run Cert.RopeBIdeal.defs _ _).mono (fun _ hr c => ⟨(hr c).1.trans (Cert.RopeBIdeal.Rope.final m c), (hr c).2⟩)
      (Cert.RopeBIdeal.Value.run_blocks m g),
    (θ_run Cert.RopeBRefIdeal.defs _ _).mono (fun _ hr c => ⟨(hr c).1.trans ((Cert.RopeBIdeal.Rope.ref _ _ _ _ _ _).trans (by rw [(h c).1, (h c).2.1, (h c).2.2.1, (h c).2.2.2.1, (h c).2.2.2.2.1, (h c).2.2.2.2.2])), (hr c).2⟩)
      (Cert.RopeBRefIdeal.Value.run m' g')⟩

end Cert.Rope.Claims

end
-- ==== Proof.lean ====
module

public import proofs.«01_k».proof.Defs
public import proofs.«01_k».proof.Proof.Attention.Claims
public import proofs.«01_k».proof.Proof.Gen.DAct.Frame
public import proofs.«01_k».proof.Proof.Gen.DActIdeal.Value
public import proofs.«01_k».proof.Proof.Gen.DActRefIdeal
public import proofs.«01_k».proof.Proof.Gen.DActRefIdeal.Read
public import proofs.«01_k».proof.Proof.Gen.DwDown.Frame
public import proofs.«01_k».proof.Proof.Gen.DwDownIdeal.Value
public import proofs.«01_k».proof.Proof.Gen.DwDownRefIdeal
public import proofs.«01_k».proof.Proof.Gen.DwDownRefIdeal.Read
public import proofs.«01_k».proof.Proof.Gen.DU2.Frame
public import proofs.«01_k».proof.Proof.Gen.DU2Ideal.Value
public import proofs.«01_k».proof.Proof.Gen.DU2RefIdeal
public import proofs.«01_k».proof.Proof.Gen.DU2RefIdeal.Read
public import proofs.«01_k».proof.Proof.Gen.DwGateUp.Frame
public import proofs.«01_k».proof.Proof.Gen.DwGateUpIdeal.Value
public import proofs.«01_k».proof.Proof.Gen.DwGateUpRefIdeal
public import proofs.«01_k».proof.Proof.Gen.DwGateUpRefIdeal.Read
public import proofs.«01_k».proof.Proof.Gen.DU1.Frame
public import proofs.«01_k».proof.Proof.Gen.DU1Ideal.Value
public import proofs.«01_k».proof.Proof.Gen.DU1RefIdeal
public import proofs.«01_k».proof.Proof.Gen.DU1RefIdeal.Read
public import proofs.«01_k».proof.Proof.Gen.DwIn.Frame
public import proofs.«01_k».proof.Proof.Gen.DwInIdeal.Value
public import proofs.«01_k».proof.Proof.Gen.DwInRefIdeal
public import proofs.«01_k».proof.Proof.Gen.DwInRefIdeal.Read
public import proofs.«01_k».proof.Proof.Gen.In.Frame
public import proofs.«01_k».proof.Proof.Gen.InIdeal.Value
public import proofs.«01_k».proof.Proof.Gen.InRefIdeal
public import proofs.«01_k».proof.Proof.Gen.InRefIdeal.Read
public import proofs.«01_k».proof.Proof.Gen.GateUp.Frame
public import proofs.«01_k».proof.Proof.Gen.GateUpIdeal.Value
public import proofs.«01_k».proof.Proof.Gen.GateUpRefIdeal
public import proofs.«01_k».proof.Proof.Gen.GateUpRefIdeal.Read
public import proofs.«01_k».proof.Proof.Gen.Down.Frame
public import proofs.«01_k».proof.Proof.Gen.DownIdeal.Value
public import proofs.«01_k».proof.Proof.Gen.DownRefIdeal
public import proofs.«01_k».proof.Proof.Gen.DownRefIdeal.Read
public import proofs.«01_k».proof.Proof.Gen.Out.Frame
public import proofs.«01_k».proof.Proof.Gen.OutIdeal.Value
public import proofs.«01_k».proof.Proof.Gen.OutRefIdeal
public import proofs.«01_k».proof.Proof.Gen.OutRefIdeal.Read
public import proofs.«01_k».proof.Proof.Gen.DMerged.Frame
public import proofs.«01_k».proof.Proof.Gen.DMergedIdeal.Value
public import proofs.«01_k».proof.Proof.Gen.DMergedRefIdeal
public import proofs.«01_k».proof.Proof.Gen.DMergedRefIdeal.Read
public import proofs.«01_k».proof.Proof.Gen.DwOut.Frame
public import proofs.«01_k».proof.Proof.Gen.DwOutIdeal.Value
public import proofs.«01_k».proof.Proof.Gen.DwOutRefIdeal
public import proofs.«01_k».proof.Proof.Gen.DwOutRefIdeal.Read
public import proofs.«01_k».proof.Proof.Gen.DAttn.Frame
public import proofs.«01_k».proof.Proof.Gen.DAttnIdeal.Value
public import proofs.«01_k».proof.Proof.Gen.DAttnRefIdeal
public import proofs.«01_k».proof.Proof.Gen.DAttnRefIdeal.Read
public import proofs.«01_k».proof.Proof.Gen.DwAttnO.Frame
public import proofs.«01_k».proof.Proof.Gen.DwAttnOIdeal.Value
public import proofs.«01_k».proof.Proof.Gen.DwAttnORefIdeal
public import proofs.«01_k».proof.Proof.Gen.DwAttnORefIdeal.Read
public import proofs.«01_k».proof.Proof.Gen.DConv.Frame
public import proofs.«01_k».proof.Proof.Gen.DConvIdeal.Value
public import proofs.«01_k».proof.Proof.Gen.DConvRefIdeal
public import proofs.«01_k».proof.Proof.Gen.DConvRefIdeal.Read
public import proofs.«01_k».proof.Proof.Gen.DwConvO.Frame
public import proofs.«01_k».proof.Proof.Gen.DwConvOIdeal.Value
public import proofs.«01_k».proof.Proof.Gen.DwConvORefIdeal
public import proofs.«01_k».proof.Proof.Gen.DwConvORefIdeal.Read
public import proofs.«01_k».proof.Proof.Gen.GateB.Frame
public import proofs.«01_k».proof.Proof.Gen.GateBIdeal.Value
public import proofs.«01_k».proof.Proof.Gen.GateBRefIdeal
public import proofs.«01_k».proof.Proof.Gen.GateBRefIdeal.Read
public import proofs.«01_k».proof.Proof.Gen.GluB.Frame
public import proofs.«01_k».proof.Proof.Gen.GluBIdeal.Value
public import proofs.«01_k».proof.Proof.Gen.GluBRefIdeal
public import proofs.«01_k».proof.Proof.Gen.GluBRefIdeal.Read
public import proofs.«01_k».proof.Proof.Gen.SwigluB.Frame
public import proofs.«01_k».proof.Proof.Gen.SwigluBIdeal.Value
public import proofs.«01_k».proof.Proof.Gen.SwigluBRefIdeal
public import proofs.«01_k».proof.Proof.Gen.SwigluBRefIdeal.Read
public import proofs.«01_k».proof.Proof.Gen.SwigluF.Frame
public import proofs.«01_k».proof.Proof.Gen.SwigluFIdeal.Value
public import proofs.«01_k».proof.Proof.Gen.SwigluFRefIdeal
public import proofs.«01_k».proof.Proof.Gen.SwigluFRefIdeal.Read
public import proofs.«01_k».proof.Proof.Gen.GateF.Frame
public import proofs.«01_k».proof.Proof.Gen.GateFIdeal.Value
public import proofs.«01_k».proof.Proof.Gen.GateFRefIdeal
public import proofs.«01_k».proof.Proof.Gen.GateFRefIdeal.Read
public import proofs.«01_k».proof.Proof.Gen.RmsB.Frame
public import proofs.«01_k».proof.Proof.Gen.RmsBIdeal.Value
public import proofs.«01_k».proof.Proof.Gen.RmsBRefIdeal
public import proofs.«01_k».proof.Proof.Gen.RmsBRefIdeal.Read
public import proofs.«01_k».proof.Proof.Gen.RmsF.Frame
public import proofs.«01_k».proof.Proof.Gen.RmsFIdeal.Value
public import proofs.«01_k».proof.Proof.Gen.RmsFRefIdeal
public import proofs.«01_k».proof.Proof.Gen.RmsFRefIdeal.Read
public import proofs.«01_k».proof.Proof.Gen.LnB.Frame
public import proofs.«01_k».proof.Proof.Gen.LnBIdeal.Value
public import proofs.«01_k».proof.Proof.Gen.LnBRefIdeal
public import proofs.«01_k».proof.Proof.Gen.LnBRefIdeal.Read
public import proofs.«01_k».proof.Proof.Gen.LnF.Frame
public import proofs.«01_k».proof.Proof.Gen.LnFIdeal.Value
public import proofs.«01_k».proof.Proof.Gen.LnFRefIdeal
public import proofs.«01_k».proof.Proof.Gen.LnFRefIdeal.Read
public import proofs.«01_k».proof.Proof.Gen.ConvB.Frame
public import proofs.«01_k».proof.Proof.Gen.ConvBIdeal.Value
public import proofs.«01_k».proof.Proof.Gen.ConvBRefIdeal
public import proofs.«01_k».proof.Proof.Gen.ConvBRefIdeal.Read
public import proofs.«01_k».proof.Proof.Gen.ConvF.Frame
public import proofs.«01_k».proof.Proof.Gen.ConvFIdeal.Value
public import proofs.«01_k».proof.Proof.Gen.ConvFRefIdeal
public import proofs.«01_k».proof.Proof.Gen.ConvFRefIdeal.Read
public import proofs.«01_k».proof.Proof.Gen.AttnF.Frame
public import proofs.«01_k».proof.Proof.Gen.AttnFIdeal.Value
public import proofs.«01_k».proof.Proof.Gen.AttnFRefIdeal
public import proofs.«01_k».proof.Proof.Gen.AttnFRefIdeal.Read
public import proofs.«01_k».proof.Proof.Gen.AttnO.Frame
public import proofs.«01_k».proof.Proof.Gen.AttnOIdeal.Value
public import proofs.«01_k».proof.Proof.Gen.AttnORefIdeal
public import proofs.«01_k».proof.Proof.Gen.AttnORefIdeal.Read
public import proofs.«01_k».proof.Proof.Gen.ConvO.Frame
public import proofs.«01_k».proof.Proof.Gen.ConvOIdeal.Value
public import proofs.«01_k».proof.Proof.Gen.ConvORefIdeal
public import proofs.«01_k».proof.Proof.Gen.ConvORefIdeal.Read
public import proofs.«01_k».proof.Proof.Gen.ColIn.Frame
public import proofs.«01_k».proof.Proof.Gen.ColInIdeal.Value
public import proofs.«01_k».proof.Proof.Gen.ColInRefIdeal
public import proofs.«01_k».proof.Proof.Gen.ColInRefIdeal.Read
public import proofs.«01_k».proof.Proof.Gen.ColO.Frame
public import proofs.«01_k».proof.Proof.Gen.ColOIdeal.Value
public import proofs.«01_k».proof.Proof.Gen.ColORefIdeal
public import proofs.«01_k».proof.Proof.Gen.ColORefIdeal.Read
public import proofs.«01_k».proof.Proof.Gen.RopeF.Frame
public import proofs.«01_k».proof.Proof.Gen.RopeFIdeal.Value
public import proofs.«01_k».proof.Proof.Gen.RopeFRefIdeal
public import proofs.«01_k».proof.Proof.Gen.RopeFRefIdeal.Read
public import proofs.«01_k».proof.Proof.Gen.RopeB.Frame
public import proofs.«01_k».proof.Proof.Gen.RopeBIdeal.Value
public import proofs.«01_k».proof.Proof.Gen.RopeBRefIdeal
public import proofs.«01_k».proof.Proof.Gen.RopeBRefIdeal.Read
public import proofs.«01_k».proof.Proof.Gen.AdamIn.Frame
public import proofs.«01_k».proof.Proof.Gen.AdamInIdeal.Value
public import proofs.«01_k».proof.Proof.Gen.AdamInRefIdeal
public import proofs.«01_k».proof.Proof.Gen.AdamInRefIdeal.Read
public import proofs.«01_k».proof.Proof.Gen.AdamO.Frame
public import proofs.«01_k».proof.Proof.Gen.AdamOIdeal.Value
public import proofs.«01_k».proof.Proof.Gen.AdamORefIdeal
public import proofs.«01_k».proof.Proof.Gen.AdamORefIdeal.Read
public import proofs.«01_k».proof.Proof.Gen.AdamOut.Frame
public import proofs.«01_k».proof.Proof.Gen.AdamOutIdeal.Value
public import proofs.«01_k».proof.Proof.Gen.AdamOutRefIdeal
public import proofs.«01_k».proof.Proof.Gen.AdamOutRefIdeal.Read
public import proofs.«01_k».proof.Proof.Gen.AdamGU.Frame
public import proofs.«01_k».proof.Proof.Gen.AdamGUIdeal.Value
public import proofs.«01_k».proof.Proof.Gen.AdamGURefIdeal
public import proofs.«01_k».proof.Proof.Gen.AdamGURefIdeal.Read
public import proofs.«01_k».proof.Proof.Gen.AdamDown.Frame
public import proofs.«01_k».proof.Proof.Gen.AdamDownIdeal.Value
public import proofs.«01_k».proof.Proof.Gen.AdamDownRefIdeal
public import proofs.«01_k».proof.Proof.Gen.AdamDownRefIdeal.Read
public import proofs.«01_k».proof.Proof.Gen.AdamSmall.Frame
public import proofs.«01_k».proof.Proof.Gen.AdamSmallIdeal.Value
public import proofs.«01_k».proof.Proof.Gen.AdamSmallRefIdeal
public import proofs.«01_k».proof.Proof.Gen.AdamSmallRefIdeal.Read
public import proofs.«01_k».proof.Proof.Adam.Claims
public import proofs.«01_k».proof.Proof.AttnF.Claims
public import proofs.«01_k».proof.Proof.Conv.Claims
public import proofs.«01_k».proof.Proof.Gate.Claims
public import proofs.«01_k».proof.Proof.Norm.Claims
public import proofs.«01_k».proof.Proof.Prod.Claims
public import proofs.«01_k».proof.Proof.Prod.Claims2
public import proofs.«01_k».proof.Proof.Prod.Claims3
public import proofs.«01_k».proof.Proof.Rope.Claims

@[expose] public section

set_option maxRecDepth 16384

namespace Cert.Proof

open Idealize.ShloMosaic Idealize.ShloMosaic.TcCoe Idealize.SL.Sem

theorem claim : Cert.Claim :=
  ⟨Cert.Attn.Gen.facts,
    Cert.AttnIdeal.Gen.facts,
    Cert.RefIdeal.Gen.facts,
    Cert.DAct.Gen.facts,
    Cert.DActIdeal.Gen.facts,
    Cert.DActRefIdeal.Gen.facts,
    Cert.DwDown.Gen.facts,
    Cert.DwDownIdeal.Gen.facts,
    Cert.DwDownRefIdeal.Gen.facts,
    Cert.DU2.Gen.facts,
    Cert.DU2Ideal.Gen.facts,
    Cert.DU2RefIdeal.Gen.facts,
    Cert.DwGateUp.Gen.facts,
    Cert.DwGateUpIdeal.Gen.facts,
    Cert.DwGateUpRefIdeal.Gen.facts,
    Cert.DU1.Gen.facts,
    Cert.DU1Ideal.Gen.facts,
    Cert.DU1RefIdeal.Gen.facts,
    Cert.DwIn.Gen.facts,
    Cert.DwInIdeal.Gen.facts,
    Cert.DwInRefIdeal.Gen.facts,
    Cert.In.Gen.facts,
    Cert.InIdeal.Gen.facts,
    Cert.InRefIdeal.Gen.facts,
    Cert.GateUp.Gen.facts,
    Cert.GateUpIdeal.Gen.facts,
    Cert.GateUpRefIdeal.Gen.facts,
    Cert.Down.Gen.facts,
    Cert.DownIdeal.Gen.facts,
    Cert.DownRefIdeal.Gen.facts,
    Cert.Out.Gen.facts,
    Cert.OutIdeal.Gen.facts,
    Cert.OutRefIdeal.Gen.facts,
    Cert.DMerged.Gen.facts,
    Cert.DMergedIdeal.Gen.facts,
    Cert.DMergedRefIdeal.Gen.facts,
    Cert.DwOut.Gen.facts,
    Cert.DwOutIdeal.Gen.facts,
    Cert.DwOutRefIdeal.Gen.facts,
    Cert.DAttn.Gen.facts,
    Cert.DAttnIdeal.Gen.facts,
    Cert.DAttnRefIdeal.Gen.facts,
    Cert.DwAttnO.Gen.facts,
    Cert.DwAttnOIdeal.Gen.facts,
    Cert.DwAttnORefIdeal.Gen.facts,
    Cert.DConv.Gen.facts,
    Cert.DConvIdeal.Gen.facts,
    Cert.DConvRefIdeal.Gen.facts,
    Cert.DwConvO.Gen.facts,
    Cert.DwConvOIdeal.Gen.facts,
    Cert.DwConvORefIdeal.Gen.facts,
    Cert.GateB.Gen.facts,
    Cert.GateBIdeal.Gen.facts,
    Cert.GateBRefIdeal.Gen.facts,
    Cert.GluB.Gen.facts,
    Cert.GluBIdeal.Gen.facts,
    Cert.GluBRefIdeal.Gen.facts,
    Cert.SwigluB.Gen.facts,
    Cert.SwigluBIdeal.Gen.facts,
    Cert.SwigluBRefIdeal.Gen.facts,
    Cert.SwigluF.Gen.facts,
    Cert.SwigluFIdeal.Gen.facts,
    Cert.SwigluFRefIdeal.Gen.facts,
    Cert.GateF.Gen.facts,
    Cert.GateFIdeal.Gen.facts,
    Cert.GateFRefIdeal.Gen.facts,
    Cert.RmsB.Gen.facts,
    Cert.RmsBIdeal.Gen.facts,
    Cert.RmsBRefIdeal.Gen.facts,
    Cert.RmsF.Gen.facts,
    Cert.RmsFIdeal.Gen.facts,
    Cert.RmsFRefIdeal.Gen.facts,
    Cert.LnB.Gen.facts,
    Cert.LnBIdeal.Gen.facts,
    Cert.LnBRefIdeal.Gen.facts,
    Cert.LnF.Gen.facts,
    Cert.LnFIdeal.Gen.facts,
    Cert.LnFRefIdeal.Gen.facts,
    Cert.ConvB.Gen.facts,
    Cert.ConvBIdeal.Gen.facts,
    Cert.ConvBRefIdeal.Gen.facts,
    Cert.ConvF.Gen.facts,
    Cert.ConvFIdeal.Gen.facts,
    Cert.ConvFRefIdeal.Gen.facts,
    Cert.AttnF.Gen.facts,
    Cert.AttnFIdeal.Gen.facts,
    Cert.AttnFRefIdeal.Gen.facts,
    Cert.AttnO.Gen.facts,
    Cert.AttnOIdeal.Gen.facts,
    Cert.AttnORefIdeal.Gen.facts,
    Cert.ConvO.Gen.facts,
    Cert.ConvOIdeal.Gen.facts,
    Cert.ConvORefIdeal.Gen.facts,
    Cert.ColIn.Gen.facts,
    Cert.ColInIdeal.Gen.facts,
    Cert.ColInRefIdeal.Gen.facts,
    Cert.ColO.Gen.facts,
    Cert.ColOIdeal.Gen.facts,
    Cert.ColORefIdeal.Gen.facts,
    Cert.RopeF.Gen.facts,
    Cert.RopeFIdeal.Gen.facts,
    Cert.RopeFRefIdeal.Gen.facts,
    Cert.RopeB.Gen.facts,
    Cert.RopeBIdeal.Gen.facts,
    Cert.RopeBRefIdeal.Gen.facts,
    Cert.AdamIn.Gen.facts,
    Cert.AdamInIdeal.Gen.facts,
    Cert.AdamInRefIdeal.Gen.facts,
    Cert.AdamO.Gen.facts,
    Cert.AdamOIdeal.Gen.facts,
    Cert.AdamORefIdeal.Gen.facts,
    Cert.AdamOut.Gen.facts,
    Cert.AdamOutIdeal.Gen.facts,
    Cert.AdamOutRefIdeal.Gen.facts,
    Cert.AdamGU.Gen.facts,
    Cert.AdamGUIdeal.Gen.facts,
    Cert.AdamGURefIdeal.Gen.facts,
    Cert.AdamDown.Gen.facts,
    Cert.AdamDownIdeal.Gen.facts,
    Cert.AdamDownRefIdeal.Gen.facts,
    Cert.AdamSmall.Gen.facts,
    Cert.AdamSmallIdeal.Gen.facts,
    Cert.AdamSmallRefIdeal.Gen.facts,
    Cert.Pre_finite.holdsFacts,
    Cert.Pre_finite_swiglu.holdsFacts,
    Cert.Pre_finite_rms.holdsFacts,
    Cert.Pre_finite_ln.holdsFacts,
    Cert.Pre_finite_attn.holdsFacts,
    Cert.AttnIdeal.Bwd.frame_bits,
    Cert.Attention.frame_ideal,
    Cert.Attention.frame_ideal_finite,
    Cert.Attention.frame_ref,
    Cert.Attention.frame_ref_finite,
    fun m ρ _ => Cert.DAct.Gen.frame m ρ,
    fun m ρ _ => Cert.DActIdeal.Gen.frame m ρ,
    fun m ρ _ => (θ_run Cert.DActRefIdeal.defs _ _).mono (fun r h => ⟨fun c => (h c).2, sem_eq_zero_of_no_sems rfl r.2⟩) (Cert.DActRefIdeal.Value.run m ρ),
    fun m ρ _ => Cert.DwDown.Gen.frame m ρ,
    fun m ρ _ => Cert.DwDownIdeal.Gen.frame m ρ,
    fun m ρ _ => (θ_run Cert.DwDownRefIdeal.defs _ _).mono (fun r h => ⟨fun c => (h c).2, sem_eq_zero_of_no_sems rfl r.2⟩) (Cert.DwDownRefIdeal.Value.run m ρ),
    fun m ρ _ => Cert.DU2.Gen.frame m ρ,
    fun m ρ _ => Cert.DU2Ideal.Gen.frame m ρ,
    fun m ρ _ => (θ_run Cert.DU2RefIdeal.defs _ _).mono (fun r h => ⟨fun c => (h c).2, sem_eq_zero_of_no_sems rfl r.2⟩) (Cert.DU2RefIdeal.Value.run m ρ),
    fun m ρ _ => Cert.DwGateUp.Gen.frame m ρ,
    fun m ρ _ => Cert.DwGateUpIdeal.Gen.frame m ρ,
    fun m ρ _ => (θ_run Cert.DwGateUpRefIdeal.defs _ _).mono (fun r h => ⟨fun c => (h c).2, sem_eq_zero_of_no_sems rfl r.2⟩) (Cert.DwGateUpRefIdeal.Value.run m ρ),
    fun m ρ _ => Cert.DU1.Gen.frame m ρ,
    fun m ρ _ => Cert.DU1Ideal.Gen.frame m ρ,
    fun m ρ _ => (θ_run Cert.DU1RefIdeal.defs _ _).mono (fun r h => ⟨fun c => (h c).2, sem_eq_zero_of_no_sems rfl r.2⟩) (Cert.DU1RefIdeal.Value.run m ρ),
    fun m ρ _ => Cert.DwIn.Gen.frame m ρ,
    fun m ρ _ => Cert.DwInIdeal.Gen.frame m ρ,
    fun m ρ _ => (θ_run Cert.DwInRefIdeal.defs _ _).mono (fun r h => ⟨fun c => (h c).2, sem_eq_zero_of_no_sems rfl r.2⟩) (Cert.DwInRefIdeal.Value.run m ρ),
    fun m ρ _ => Cert.In.Gen.frame m ρ,
    fun m ρ _ => Cert.InIdeal.Gen.frame m ρ,
    fun m ρ _ => (θ_run Cert.InRefIdeal.defs _ _).mono (fun r h => ⟨fun c => (h c).2, sem_eq_zero_of_no_sems rfl r.2⟩) (Cert.InRefIdeal.Value.run m ρ),
    fun m ρ _ => Cert.GateUp.Gen.frame m ρ,
    fun m ρ _ => Cert.GateUpIdeal.Gen.frame m ρ,
    fun m ρ _ => (θ_run Cert.GateUpRefIdeal.defs _ _).mono (fun r h => ⟨fun c => (h c).2, sem_eq_zero_of_no_sems rfl r.2⟩) (Cert.GateUpRefIdeal.Value.run m ρ),
    fun m ρ _ => Cert.Down.Gen.frame m ρ,
    fun m ρ _ => Cert.DownIdeal.Gen.frame m ρ,
    fun m ρ _ => (θ_run Cert.DownRefIdeal.defs _ _).mono (fun r h => ⟨fun c => (h c).2, sem_eq_zero_of_no_sems rfl r.2⟩) (Cert.DownRefIdeal.Value.run m ρ),
    fun m ρ _ => Cert.Out.Gen.frame m ρ,
    fun m ρ _ => Cert.OutIdeal.Gen.frame m ρ,
    fun m ρ _ => (θ_run Cert.OutRefIdeal.defs _ _).mono (fun r h => ⟨fun c => (h c).2, sem_eq_zero_of_no_sems rfl r.2⟩) (Cert.OutRefIdeal.Value.run m ρ),
    fun m ρ _ => Cert.DMerged.Gen.frame m ρ,
    fun m ρ _ => Cert.DMergedIdeal.Gen.frame m ρ,
    fun m ρ _ => (θ_run Cert.DMergedRefIdeal.defs _ _).mono (fun r h => ⟨fun c => (h c).2, sem_eq_zero_of_no_sems rfl r.2⟩) (Cert.DMergedRefIdeal.Value.run m ρ),
    fun m ρ _ => Cert.DwOut.Gen.frame m ρ,
    fun m ρ _ => Cert.DwOutIdeal.Gen.frame m ρ,
    fun m ρ _ => (θ_run Cert.DwOutRefIdeal.defs _ _).mono (fun r h => ⟨fun c => (h c).2, sem_eq_zero_of_no_sems rfl r.2⟩) (Cert.DwOutRefIdeal.Value.run m ρ),
    fun m ρ _ => Cert.DAttn.Gen.frame m ρ,
    fun m ρ _ => Cert.DAttnIdeal.Gen.frame m ρ,
    fun m ρ _ => (θ_run Cert.DAttnRefIdeal.defs _ _).mono (fun r h => ⟨fun c => (h c).2, sem_eq_zero_of_no_sems rfl r.2⟩) (Cert.DAttnRefIdeal.Value.run m ρ),
    fun m ρ _ => Cert.DwAttnO.Gen.frame m ρ,
    fun m ρ _ => Cert.DwAttnOIdeal.Gen.frame m ρ,
    fun m ρ _ => (θ_run Cert.DwAttnORefIdeal.defs _ _).mono (fun r h => ⟨fun c => (h c).2, sem_eq_zero_of_no_sems rfl r.2⟩) (Cert.DwAttnORefIdeal.Value.run m ρ),
    fun m ρ _ => Cert.DConv.Gen.frame m ρ,
    fun m ρ _ => Cert.DConvIdeal.Gen.frame m ρ,
    fun m ρ _ => (θ_run Cert.DConvRefIdeal.defs _ _).mono (fun r h => ⟨fun c => (h c).2, sem_eq_zero_of_no_sems rfl r.2⟩) (Cert.DConvRefIdeal.Value.run m ρ),
    fun m ρ _ => Cert.DwConvO.Gen.frame m ρ,
    fun m ρ _ => Cert.DwConvOIdeal.Gen.frame m ρ,
    fun m ρ _ => (θ_run Cert.DwConvORefIdeal.defs _ _).mono (fun r h => ⟨fun c => (h c).2, sem_eq_zero_of_no_sems rfl r.2⟩) (Cert.DwConvORefIdeal.Value.run m ρ),
    fun m ρ _ => Cert.GateB.Gen.frame m ρ,
    fun m ρ _ => Cert.GateBIdeal.Gen.frame m ρ,
    fun m ρ _ => (θ_run Cert.GateBRefIdeal.defs _ _).mono (fun r h => ⟨fun c => (h c).2.2, sem_eq_zero_of_no_sems rfl r.2⟩) (Cert.GateBRefIdeal.Value.run m ρ),
    fun m ρ _ => Cert.GluB.Gen.frame m ρ,
    fun m ρ _ => Cert.GluBIdeal.Gen.frame m ρ,
    fun m ρ _ => (θ_run Cert.GluBRefIdeal.defs _ _).mono (fun r h => ⟨fun c => (h c).2, sem_eq_zero_of_no_sems rfl r.2⟩) (Cert.GluBRefIdeal.Value.run m ρ),
    fun m ρ _ => Cert.SwigluB.Gen.frame m ρ,
    fun m ρ _ => Cert.SwigluBIdeal.Gen.frame m ρ,
    fun m ρ _ => Cert.SwigluBIdeal.Gen.frame m ρ,
    fun m ρ _ => (θ_run Cert.SwigluBRefIdeal.defs _ _).mono (fun r h => ⟨fun c => (h c).2, sem_eq_zero_of_no_sems rfl r.2⟩) (Cert.SwigluBRefIdeal.Value.run m ρ),
    fun m ρ _ => (θ_run Cert.SwigluBRefIdeal.defs _ _).mono (fun r h => ⟨fun c => (h c).2, sem_eq_zero_of_no_sems rfl r.2⟩) (Cert.SwigluBRefIdeal.Value.run m ρ),
    fun m ρ _ => Cert.SwigluF.Gen.frame m ρ,
    fun m ρ _ => Cert.SwigluFIdeal.Gen.frame m ρ,
    fun m ρ _ => (θ_run Cert.SwigluFRefIdeal.defs _ _).mono (fun r h => ⟨fun c => (h c).2, sem_eq_zero_of_no_sems rfl r.2⟩) (Cert.SwigluFRefIdeal.Value.run m ρ),
    fun m ρ _ => Cert.GateF.Gen.frame m ρ,
    fun m ρ _ => Cert.GateFIdeal.Gen.frame m ρ,
    fun m ρ _ => (θ_run Cert.GateFRefIdeal.defs _ _).mono (fun r h => ⟨fun c => (h c).2, sem_eq_zero_of_no_sems rfl r.2⟩) (Cert.GateFRefIdeal.Value.run m ρ),
    fun m ρ _ => Cert.RmsB.Gen.frame m ρ,
    fun m ρ _ => Cert.RmsBIdeal.Gen.frame m ρ,
    fun m ρ _ => Cert.RmsBIdeal.Gen.frame m ρ,
    fun m ρ _ => (θ_run Cert.RmsBRefIdeal.defs _ _).mono (fun r h => ⟨fun c => (h c).2.2.2, sem_eq_zero_of_no_sems rfl r.2⟩) (Cert.RmsBRefIdeal.Value.run m ρ),
    fun m ρ _ => (θ_run Cert.RmsBRefIdeal.defs _ _).mono (fun r h => ⟨fun c => (h c).2.2.2, sem_eq_zero_of_no_sems rfl r.2⟩) (Cert.RmsBRefIdeal.Value.run m ρ),
    fun m ρ _ => Cert.RmsF.Gen.frame m ρ,
    fun m ρ _ => Cert.RmsFIdeal.Gen.frame m ρ,
    fun m ρ _ => (θ_run Cert.RmsFRefIdeal.defs _ _).mono (fun r h => ⟨fun c => (h c).2, sem_eq_zero_of_no_sems rfl r.2⟩) (Cert.RmsFRefIdeal.Value.run m ρ),
    fun m ρ _ => Cert.LnB.Gen.frame m ρ,
    fun m ρ _ => Cert.LnBIdeal.Gen.frame m ρ,
    fun m ρ _ => Cert.LnBIdeal.Gen.frame m ρ,
    fun m ρ _ => (θ_run Cert.LnBRefIdeal.defs _ _).mono (fun r h => ⟨fun c => (h c).2.2.2, sem_eq_zero_of_no_sems rfl r.2⟩) (Cert.LnBRefIdeal.Value.run m ρ),
    fun m ρ _ => (θ_run Cert.LnBRefIdeal.defs _ _).mono (fun r h => ⟨fun c => (h c).2.2.2, sem_eq_zero_of_no_sems rfl r.2⟩) (Cert.LnBRefIdeal.Value.run m ρ),
    fun m ρ _ => Cert.LnF.Gen.frame m ρ,
    fun m ρ _ => Cert.LnFIdeal.Gen.frame m ρ,
    fun m ρ _ => (θ_run Cert.LnFRefIdeal.defs _ _).mono (fun r h => ⟨fun c => (h c).2, sem_eq_zero_of_no_sems rfl r.2⟩) (Cert.LnFRefIdeal.Value.run m ρ),
    fun m ρ _ => Cert.ConvB.Gen.frame m ρ,
    fun m ρ _ => Cert.ConvBIdeal.Gen.frame m ρ,
    fun m ρ _ => (θ_run Cert.ConvBRefIdeal.defs _ _).mono (fun r h => ⟨fun c => (h c).2.2.2, sem_eq_zero_of_no_sems rfl r.2⟩) (Cert.ConvBRefIdeal.Value.run m ρ),
    fun m ρ _ => Cert.ConvF.Gen.frame m ρ,
    fun m ρ _ => Cert.ConvFIdeal.Gen.frame m ρ,
    fun m ρ _ => (θ_run Cert.ConvFRefIdeal.defs _ _).mono (fun r h => ⟨fun c => (h c).2, sem_eq_zero_of_no_sems rfl r.2⟩) (Cert.ConvFRefIdeal.Value.run m ρ),
    fun m ρ _ => Cert.AttnF.Gen.frame m ρ,
    fun m ρ _ => Cert.AttnFIdeal.Gen.frame m ρ,
    fun m ρ _ => Cert.AttnFIdeal.Gen.frame m ρ,
    fun m ρ _ => (θ_run Cert.AttnFRefIdeal.defs _ _).mono (fun r h => ⟨fun c => (h c).2, sem_eq_zero_of_no_sems rfl r.2⟩) (Cert.AttnFRefIdeal.Value.run m ρ),
    fun m ρ _ => (θ_run Cert.AttnFRefIdeal.defs _ _).mono (fun r h => ⟨fun c => (h c).2, sem_eq_zero_of_no_sems rfl r.2⟩) (Cert.AttnFRefIdeal.Value.run m ρ),
    fun m ρ _ => Cert.AttnO.Gen.frame m ρ,
    fun m ρ _ => Cert.AttnOIdeal.Gen.frame m ρ,
    fun m ρ _ => (θ_run Cert.AttnORefIdeal.defs _ _).mono (fun r h => ⟨fun c => (h c).2, sem_eq_zero_of_no_sems rfl r.2⟩) (Cert.AttnORefIdeal.Value.run m ρ),
    fun m ρ _ => Cert.ConvO.Gen.frame m ρ,
    fun m ρ _ => Cert.ConvOIdeal.Gen.frame m ρ,
    fun m ρ _ => (θ_run Cert.ConvORefIdeal.defs _ _).mono (fun r h => ⟨fun c => (h c).2, sem_eq_zero_of_no_sems rfl r.2⟩) (Cert.ConvORefIdeal.Value.run m ρ),
    fun m ρ _ => Cert.ColIn.Gen.frame m ρ,
    fun m ρ _ => Cert.ColInIdeal.Gen.frame m ρ,
    fun m ρ _ => (θ_run Cert.ColInRefIdeal.defs _ _).mono (fun r h => ⟨fun c => (h c).2, sem_eq_zero_of_no_sems rfl r.2⟩) (Cert.ColInRefIdeal.Value.run m ρ),
    fun m ρ _ => Cert.ColO.Gen.frame m ρ,
    fun m ρ _ => Cert.ColOIdeal.Gen.frame m ρ,
    fun m ρ _ => (θ_run Cert.ColORefIdeal.defs _ _).mono (fun r h => ⟨fun c => (h c).2, sem_eq_zero_of_no_sems rfl r.2⟩) (Cert.ColORefIdeal.Value.run m ρ),
    fun m ρ _ => Cert.RopeF.Gen.frame m ρ,
    fun m ρ _ => Cert.RopeFIdeal.Gen.frame m ρ,
    fun m ρ _ => (θ_run Cert.RopeFRefIdeal.defs _ _).mono (fun r h => ⟨fun c => (h c).2, sem_eq_zero_of_no_sems rfl r.2⟩) (Cert.RopeFRefIdeal.Value.run m ρ),
    fun m ρ _ => Cert.RopeB.Gen.frame m ρ,
    fun m ρ _ => Cert.RopeBIdeal.Gen.frame m ρ,
    fun m ρ _ => (θ_run Cert.RopeBRefIdeal.defs _ _).mono (fun r h => ⟨fun c => (h c).2, sem_eq_zero_of_no_sems rfl r.2⟩) (Cert.RopeBRefIdeal.Value.run m ρ),
    fun m ρ _ => Cert.AdamIn.Gen.frame m ρ,
    fun m ρ _ => Cert.AdamInIdeal.Gen.frame m ρ,
    fun m ρ _ => (θ_run Cert.AdamInRefIdeal.defs _ _).mono (fun r h => ⟨fun c => (h c).2.2.2.2, sem_eq_zero_of_no_sems rfl r.2⟩) (Cert.AdamInRefIdeal.Value.run m ρ),
    fun m ρ _ => Cert.AdamO.Gen.frame m ρ,
    fun m ρ _ => Cert.AdamOIdeal.Gen.frame m ρ,
    fun m ρ _ => (θ_run Cert.AdamORefIdeal.defs _ _).mono (fun r h => ⟨fun c => (h c).2.2.2.2, sem_eq_zero_of_no_sems rfl r.2⟩) (Cert.AdamORefIdeal.Value.run m ρ),
    fun m ρ _ => Cert.AdamOut.Gen.frame m ρ,
    fun m ρ _ => Cert.AdamOutIdeal.Gen.frame m ρ,
    fun m ρ _ => (θ_run Cert.AdamOutRefIdeal.defs _ _).mono (fun r h => ⟨fun c => (h c).2.2.2.2, sem_eq_zero_of_no_sems rfl r.2⟩) (Cert.AdamOutRefIdeal.Value.run m ρ),
    fun m ρ _ => Cert.AdamGU.Gen.frame m ρ,
    fun m ρ _ => Cert.AdamGUIdeal.Gen.frame m ρ,
    fun m ρ _ => (θ_run Cert.AdamGURefIdeal.defs _ _).mono (fun r h => ⟨fun c => (h c).2.2.2.2, sem_eq_zero_of_no_sems rfl r.2⟩) (Cert.AdamGURefIdeal.Value.run m ρ),
    fun m ρ _ => Cert.AdamDown.Gen.frame m ρ,
    fun m ρ _ => Cert.AdamDownIdeal.Gen.frame m ρ,
    fun m ρ _ => (θ_run Cert.AdamDownRefIdeal.defs _ _).mono (fun r h => ⟨fun c => (h c).2.2.2.2, sem_eq_zero_of_no_sems rfl r.2⟩) (Cert.AdamDownRefIdeal.Value.run m ρ),
    fun m ρ _ => Cert.AdamSmall.Gen.frame m ρ,
    fun m ρ _ => Cert.AdamSmallIdeal.Gen.frame m ρ,
    fun m ρ _ => (θ_run Cert.AdamSmallRefIdeal.defs _ _).mono (fun r h => ⟨fun c => (h c).2.2.2, sem_eq_zero_of_no_sems rfl r.2⟩) (Cert.AdamSmallRefIdeal.Value.run m ρ),
    IdealRules.named_const.statement Cert.AttnIdeal.κ "mask" .f32 0xF149F2CA#32 ⊥ rfl,
    Cert.Attention.equal,
    trivial,
    Cert.Prod.dAct,
    trivial,
    Cert.Prod.dwDown,
    trivial,
    Cert.Prod.du2,
    trivial,
    Cert.Prod.dwGateUp,
    trivial,
    Cert.Prod.du1,
    trivial,
    Cert.Prod.dwIn,
    trivial,
    Cert.Prod.Claims2.eqIn,
    trivial,
    Cert.Prod.Claims2.eqGateUp,
    trivial,
    Cert.Prod.Claims2.eqDown,
    trivial,
    Cert.Prod.Claims2.eqOut,
    trivial,
    Cert.Prod.Claims2.eqDMerged,
    trivial,
    Cert.Prod.Claims2.eqDwOut,
    trivial,
    Cert.Prod.Claims2.eqDAttn,
    trivial,
    Cert.Prod.Claims2.eqDwAttnO,
    trivial,
    Cert.Prod.Claims2.eqDConv,
    trivial,
    Cert.Prod.Claims2.eqDwConvO,
    trivial,
    Cert.Gate.Claims.eqGateB,
    trivial,
    Cert.Gate.Claims.eqGluB,
    trivial,
    Cert.Gate.Claims.eqSwigluB,
    trivial,
    Cert.Gate.Claims.eqSwigluF,
    trivial,
    Cert.Gate.Claims.eqGateF,
    trivial,
    Cert.Norm.Claims.eqRmsB,
    trivial,
    Cert.Norm.Claims.eqRmsF,
    trivial,
    Cert.Norm.Claims.eqLnB,
    trivial,
    Cert.Norm.Claims.eqLnF,
    trivial,
    Cert.Conv.Claims.eqConvB,
    trivial,
    Cert.Conv.Claims.eqConvF,
    IdealRules.named_const.statement Cert.AttnFIdeal.κ "mask" .f32 0xF149F2CA#32 ⊥ rfl,
    Cert.AttnF.Claims.eqAttnF,
    trivial,
    Cert.Prod.Claims3.eqAttnO,
    trivial,
    Cert.Prod.Claims3.eqConvO,
    trivial,
    Cert.Prod.Claims3.eqColIn,
    trivial,
    Cert.Prod.Claims3.eqColO,
    trivial,
    Cert.Rope.Claims.eqRopeF,
    trivial,
    Cert.Rope.Claims.eqRopeB,
    trivial,
    Cert.Adam.Claims.eqAdamIn,
    trivial,
    Cert.Adam.Claims.eqAdamO,
    trivial,
    Cert.Adam.Claims.eqAdamOut,
    trivial,
    Cert.Adam.Claims.eqAdamGU,
    trivial,
    Cert.Adam.Claims.eqAdamDown,
    trivial,
    Cert.Adam.Claims.eqAdamSmall⟩

end Cert.Proof
